-- ==== Defs.lean ====
def Pre_Kernel [hPre_routed : Cert.Pre_routed.Facts] (m : (ℓ : Loc Cert.Kernel.nD Cert.Kernel.τ Cert.Kernel.sig) → Buf (Elt Bits) ℓ) : Prop :=
  ∀ c : Dev Cert.Kernel.nD,
    (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_routed : Cert.Pre_routed.Facts] (m : (ℓ : Loc Cert.KernelIdeal.nD Cert.KernelIdeal.τ Cert.KernelIdeal.sig) → Buf (Elt Ideal) ℓ) : Prop :=
  ∀ c : Dev Cert.KernelIdeal.nD,
    (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_routed : Cert.Pre_routed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Reference [hPre_routed : Cert.Pre_routed.Facts] (m : (ℓ : Loc Cert.Reference.nD Cert.Reference.τ Cert.Reference.sig) → Buf (Elt Bits) ℓ) : Prop :=
  ∀ c : Dev Cert.Reference.nD,
    (Cert.Pre_routed.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2))) = (fun _ => 1#1)

def Pre_Experts [hPre_tiled : Cert.Pre_tiled.Facts] (m : (ℓ : Loc Cert.Experts.nD Cert.Experts.τ Cert.Experts.sig) → Buf (Elt Bits) ℓ) : Prop :=
  ∀ c : Dev Cert.Experts.nD,
    (Cert.Pre_tiled.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6)) (m ((c.tc : Thread Cert.Experts.nD Cert.Experts.τ).loc Cert.Experts.main_arg7)) (m ((c.tc : Thread Cert.Experts.nD Cert.Experts.τ).loc Cert.Experts.main_arg8)) (m ((c.tc : Thread Cert.Experts.nD Cert.Experts.τ).loc Cert.Experts.main_arg9))) = (fun _ => 1#1)

def Pre_ExpertsIdeal [hPre_tiled : Cert.Pre_tiled.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_tiled.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8)) (m ((c.tc : Thread Cert.ExpertsIdeal.nD Cert.ExpertsIdeal.τ).loc Cert.ExpertsIdeal.main_arg9))) = (fun _ => 1#1)

def Pre_ExpertsIdeal_tiled_finite [hPre_tiled_finite : Cert.Pre_tiled_finite.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_tiled_finite.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8)) (m ((c.tc : Thread Cert.ExpertsIdeal.nD Cert.ExpertsIdeal.τ).loc Cert.ExpertsIdeal.main_arg9))) = (fun _ => 1#1)

def Pre_PlainIdeal [hPre_tiled : Cert.Pre_tiled.Facts] (m : (ℓ : Loc Cert.PlainIdeal.nD Cert.PlainIdeal.τ Cert.PlainIdeal.sig) → Buf (Elt Ideal) ℓ) : Prop :=
  ∀ c : Dev Cert.PlainIdeal.nD,
    (Cert.Pre_tiled.fn (F := Ideal) (m ((c.tc : Thread Cert.PlainIdeal.nD Cert.PlainIdeal.τ).loc Cert.PlainIdeal.main_arg0)) (m ((c.tc : Thread Cert.PlainIdeal.nD Cert.PlainIdeal.τ).loc Cert.PlainIdeal.main_arg1)) (m ((c.tc : Thread Cert.PlainIdeal.nD Cert.PlainIdeal.τ).loc Cert.PlainIdeal.main_arg2)) (m ((c.tc : Thread Cert.PlainIdeal.nD Cert.PlainIdeal.τ).loc Cert.PlainIdeal.main_arg3)) (m ((c.tc : Thread Cert.PlainIdeal.nD Cert.PlainIdeal.τ).loc Cert.PlainIdeal.main_arg4)) (m ((c.tc : Thread Cert.PlainIdeal.nD Cert.PlainIdeal.τ).loc Cert.PlainIdeal.main_arg5)) (m ((c.tc : Thread Cert.PlainIdeal.nD Cert.PlainIdeal.τ).loc Cert.PlainIdeal.main_arg6)) (m ((c.tc : Thread Cert.PlainIdeal.nD Cert.PlainIdeal.τ).loc Cert.PlainIdeal.main_arg7)) (m ((c.tc : Thread Cert.PlainIdeal.nD Cert.PlainIdeal.τ).loc Cert.PlainIdeal.main_arg8)) (m ((c.tc : Thread Cert.PlainIdeal.nD Cert.PlainIdeal.τ).loc Cert.PlainIdeal.main_arg9))) = (fun _ => 1#1)

def Pre_PlainIdeal_tiled_finite [hPre_tiled_finite : Cert.Pre_tiled_finite.Facts] (m : (ℓ : Loc Cert.PlainIdeal.nD Cert.PlainIdeal.τ Cert.PlainIdeal.sig) → Buf (Elt Ideal) ℓ) : Prop :=
  ∀ c : Dev Cert.PlainIdeal.nD,
    (Cert.Pre_tiled_finite.fn (F := Ideal) (m ((c.tc : Thread Cert.PlainIdeal.nD Cert.PlainIdeal.τ).loc Cert.PlainIdeal.main_arg0)) (m ((c.tc : Thread Cert.PlainIdeal.nD Cert.PlainIdeal.τ).loc Cert.PlainIdeal.main_arg1)) (m ((c.tc : Thread Cert.PlainIdeal.nD Cert.PlainIdeal.τ).loc Cert.PlainIdeal.main_arg2)) (m ((c.tc : Thread Cert.PlainIdeal.nD Cert.PlainIdeal.τ).loc Cert.PlainIdeal.main_arg3)) (m ((c.tc : Thread Cert.PlainIdeal.nD Cert.PlainIdeal.τ).loc Cert.PlainIdeal.main_arg4)) (m ((c.tc : Thread Cert.PlainIdeal.nD Cert.PlainIdeal.τ).loc Cert.PlainIdeal.main_arg5)) (m ((c.tc : Thread Cert.PlainIdeal.nD Cert.PlainIdeal.τ).loc Cert.PlainIdeal.main_arg6)) (m ((c.tc : Thread Cert.PlainIdeal.nD Cert.PlainIdeal.τ).loc Cert.PlainIdeal.main_arg7)) (m ((c.tc : Thread Cert.PlainIdeal.nD Cert.PlainIdeal.τ).loc Cert.PlainIdeal.main_arg8)) (m ((c.tc : Thread Cert.PlainIdeal.nD Cert.PlainIdeal.τ).loc Cert.PlainIdeal.main_arg9))) = (fun _ => 1#1)

def quiescent_Kernel [hKernel : Cert.Kernel.Facts] [hPre_routed : Cert.Pre_routed.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] [hPre_routed : Cert.Pre_routed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Reference [hReference : Cert.Reference.Facts] [hPre_routed : Cert.Pre_routed.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def quiescent_Experts [hExperts : Cert.Experts.Facts] [hPre_tiled : Cert.Pre_tiled.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6)
      ∧ r.2.mem ((c.tc : Thread Cert.Experts.nD Cert.Experts.τ).loc Cert.Experts.main_arg7) = m ((c.tc : Thread Cert.Experts.nD Cert.Experts.τ).loc Cert.Experts.main_arg7)
      ∧ r.2.mem ((c.tc : Thread Cert.Experts.nD Cert.Experts.τ).loc Cert.Experts.main_arg8) = m ((c.tc : Thread Cert.Experts.nD Cert.Experts.τ).loc Cert.Experts.main_arg8)
      ∧ r.2.mem ((c.tc : Thread Cert.Experts.nD Cert.Experts.τ).loc Cert.Experts.main_arg9) = m ((c.tc : Thread Cert.Experts.nD Cert.Experts.τ).loc Cert.Experts.main_arg9))
      ∧ r.2.sem = fun _ => 0)

def quiescent_ExpertsIdeal [hExpertsIdeal : Cert.ExpertsIdeal.Facts] [hPre_tiled : Cert.Pre_tiled.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
      ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
      ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8)
      ∧ r.2.mem ((c.tc : Thread Cert.ExpertsIdeal.nD Cert.ExpertsIdeal.τ).loc Cert.ExpertsIdeal.main_arg9) = m ((c.tc : Thread Cert.ExpertsIdeal.nD Cert.ExpertsIdeal.τ).loc Cert.ExpertsIdeal.main_arg9))
      ∧ r.2.sem = fun _ => 0)

def quiescent_ExpertsIdeal_pre_tiled_finite [hExpertsIdeal : Cert.ExpertsIdeal.Facts] [hPre_tiled_finite : Cert.Pre_tiled_finite.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal_tiled_finite m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
      ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
      ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8)
      ∧ r.2.mem ((c.tc : Thread Cert.ExpertsIdeal.nD Cert.ExpertsIdeal.τ).loc Cert.ExpertsIdeal.main_arg9) = m ((c.tc : Thread Cert.ExpertsIdeal.nD Cert.ExpertsIdeal.τ).loc Cert.ExpertsIdeal.main_arg9))
      ∧ r.2.sem = fun _ => 0)

def quiescent_PlainIdeal [hPlainIdeal : Cert.PlainIdeal.Facts] [hPre_tiled : Cert.Pre_tiled.Facts] : Prop :=
  ∀ (m : (ℓ : Loc Cert.PlainIdeal.nD Cert.PlainIdeal.τ Cert.PlainIdeal.sig) → Buf (Elt Ideal) ℓ) (g : Dev Cert.PlainIdeal.nD → PrngReg), Pre_PlainIdeal m →
    θ_run (Cert.PlainIdeal.defs (F := Ideal)) (onTc (τ := Cert.PlainIdeal.τ) (Cert.PlainIdeal.main (F := Ideal))) ⟨m, fun _ => 0, g⟩ (fun r => (∀ c : Dev Cert.PlainIdeal.nD,
      r.2.mem ((c.tc : Thread Cert.PlainIdeal.nD Cert.PlainIdeal.τ).loc Cert.PlainIdeal.main_arg0) = m ((c.tc : Thread Cert.PlainIdeal.nD Cert.PlainIdeal.τ).loc Cert.PlainIdeal.main_arg0)
      ∧ r.2.mem ((c.tc : Thread Cert.PlainIdeal.nD Cert.PlainIdeal.τ).loc Cert.PlainIdeal.main_arg1) = m ((c.tc : Thread Cert.PlainIdeal.nD Cert.PlainIdeal.τ).loc Cert.PlainIdeal.main_arg1)
      ∧ r.2.mem ((c.tc : Thread Cert.PlainIdeal.nD Cert.PlainIdeal.τ).loc Cert.PlainIdeal.main_arg2) = m ((c.tc : Thread Cert.PlainIdeal.nD Cert.PlainIdeal.τ).loc Cert.PlainIdeal.main_arg2)
      ∧ r.2.mem ((c.tc : Thread Cert.PlainIdeal.nD Cert.PlainIdeal.τ).loc Cert.PlainIdeal.main_arg3) = m ((c.tc : Thread Cert.PlainIdeal.nD Cert.PlainIdeal.τ).loc Cert.PlainIdeal.main_arg3)
      ∧ r.2.mem ((c.tc : Thread Cert.PlainIdeal.nD Cert.PlainIdeal.τ).loc Cert.PlainIdeal.main_arg4) = m ((c.tc : Thread Cert.PlainIdeal.nD Cert.PlainIdeal.τ).loc Cert.PlainIdeal.main_arg4)
      ∧ r.2.mem ((c.tc : Thread Cert.PlainIdeal.nD Cert.PlainIdeal.τ).loc Cert.PlainIdeal.main_arg5) = m ((c.tc : Thread Cert.PlainIdeal.nD Cert.PlainIdeal.τ).loc Cert.PlainIdeal.main_arg5)
      ∧ r.2.mem ((c.tc : Thread Cert.PlainIdeal.nD Cert.PlainIdeal.τ).loc Cert.PlainIdeal.main_arg6) = m ((c.tc : Thread Cert.PlainIdeal.nD Cert.PlainIdeal.τ).loc Cert.PlainIdeal.main_arg6)
      ∧ r.2.mem ((c.tc : Thread Cert.PlainIdeal.nD Cert.PlainIdeal.τ).loc Cert.PlainIdeal.main_arg7) = m ((c.tc : Thread Cert.PlainIdeal.nD Cert.PlainIdeal.τ).loc Cert.PlainIdeal.main_arg7)
      ∧ r.2.mem ((c.tc : Thread Cert.PlainIdeal.nD Cert.PlainIdeal.τ).loc Cert.PlainIdeal.main_arg8) = m ((c.tc : Thread Cert.PlainIdeal.nD Cert.PlainIdeal.τ).loc Cert.PlainIdeal.main_arg8)
      ∧ r.2.mem ((c.tc : Thread Cert.PlainIdeal.nD Cert.PlainIdeal.τ).loc Cert.PlainIdeal.main_arg9) = m ((c.tc : Thread Cert.PlainIdeal.nD Cert.PlainIdeal.τ).loc Cert.PlainIdeal.main_arg9))
      ∧ r.2.sem = fun _ => 0)

def quiescent_PlainIdeal_pre_tiled_finite [hPlainIdeal : Cert.PlainIdeal.Facts] [hPre_tiled_finite : Cert.Pre_tiled_finite.Facts] : Prop :=
  ∀ (m : (ℓ : Loc Cert.PlainIdeal.nD Cert.PlainIdeal.τ Cert.PlainIdeal.sig) → Buf (Elt Ideal) ℓ) (g : Dev Cert.PlainIdeal.nD → PrngReg), Pre_PlainIdeal_tiled_finite m →
    θ_run (Cert.PlainIdeal.defs (F := Ideal)) (onTc (τ := Cert.PlainIdeal.τ) (Cert.PlainIdeal.main (F := Ideal))) ⟨m, fun _ => 0, g⟩ (fun r => (∀ c : Dev Cert.PlainIdeal.nD,
      r.2.mem ((c.tc : Thread Cert.PlainIdeal.nD Cert.PlainIdeal.τ).loc Cert.PlainIdeal.main_arg0) = m ((c.tc : Thread Cert.PlainIdeal.nD Cert.PlainIdeal.τ).loc Cert.PlainIdeal.main_arg0)
      ∧ r.2.mem ((c.tc : Thread Cert.PlainIdeal.nD Cert.PlainIdeal.τ).loc Cert.PlainIdeal.main_arg1) = m ((c.tc : Thread Cert.PlainIdeal.nD Cert.PlainIdeal.τ).loc Cert.PlainIdeal.main_arg1)
      ∧ r.2.mem ((c.tc : Thread Cert.PlainIdeal.nD Cert.PlainIdeal.τ).loc Cert.PlainIdeal.main_arg2) = m ((c.tc : Thread Cert.PlainIdeal.nD Cert.PlainIdeal.τ).loc Cert.PlainIdeal.main_arg2)
      ∧ r.2.mem ((c.tc : Thread Cert.PlainIdeal.nD Cert.PlainIdeal.τ).loc Cert.PlainIdeal.main_arg3) = m ((c.tc : Thread Cert.PlainIdeal.nD Cert.PlainIdeal.τ).loc Cert.PlainIdeal.main_arg3)
      ∧ r.2.mem ((c.tc : Thread Cert.PlainIdeal.nD Cert.PlainIdeal.τ).loc Cert.PlainIdeal.main_arg4) = m ((c.tc : Thread Cert.PlainIdeal.nD Cert.PlainIdeal.τ).loc Cert.PlainIdeal.main_arg4)
      ∧ r.2.mem ((c.tc : Thread Cert.PlainIdeal.nD Cert.PlainIdeal.τ).loc Cert.PlainIdeal.main_arg5) = m ((c.tc : Thread Cert.PlainIdeal.nD Cert.PlainIdeal.τ).loc Cert.PlainIdeal.main_arg5)
      ∧ r.2.mem ((c.tc : Thread Cert.PlainIdeal.nD Cert.PlainIdeal.τ).loc Cert.PlainIdeal.main_arg6) = m ((c.tc : Thread Cert.PlainIdeal.nD Cert.PlainIdeal.τ).loc Cert.PlainIdeal.main_arg6)
      ∧ r.2.mem ((c.tc : Thread Cert.PlainIdeal.nD Cert.PlainIdeal.τ).loc Cert.PlainIdeal.main_arg7) = m ((c.tc : Thread Cert.PlainIdeal.nD Cert.PlainIdeal.τ).loc Cert.PlainIdeal.main_arg7)
      ∧ r.2.mem ((c.tc : Thread Cert.PlainIdeal.nD Cert.PlainIdeal.τ).loc Cert.PlainIdeal.main_arg8) = m ((c.tc : Thread Cert.PlainIdeal.nD Cert.PlainIdeal.τ).loc Cert.PlainIdeal.main_arg8)
      ∧ r.2.mem ((c.tc : Thread Cert.PlainIdeal.nD Cert.PlainIdeal.τ).loc Cert.PlainIdeal.main_arg9) = m ((c.tc : Thread Cert.PlainIdeal.nD Cert.PlainIdeal.τ).loc Cert.PlainIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def bitexact_Kernel_Reference [hKernel : Cert.Kernel.Facts] [hReference : Cert.Reference.Facts] [hPre_routed : Cert.Pre_routed.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)) →
    ∃ (v0 : (c : Dev Cert.Kernel.nD) → Buf (Elt Bits) ((c.tc : Thread Cert.Kernel.nD Cert.Kernel.τ).loc Cert.Kernel.main_v16)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v16) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v9) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2))

def preserves_Experts_ExpertsIdeal : Prop :=
  True

def algebraic_ExpertsIdeal_PlainIdeal_pre_tiled_finite [hExpertsIdeal : Cert.ExpertsIdeal.Facts] [hPlainIdeal : Cert.PlainIdeal.Facts] [hPre_tiled_finite : Cert.Pre_tiled_finite.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.PlainIdeal.nD Cert.PlainIdeal.τ Cert.PlainIdeal.sig) → Buf (Elt Ideal) ℓ) (g' : Dev Cert.PlainIdeal.nD → PrngReg), Pre_ExpertsIdeal_tiled_finite m →
    (∀ c : Dev Cert.ExpertsIdeal.nD,
      m' ((c.tc : Thread Cert.PlainIdeal.nD Cert.PlainIdeal.τ).loc Cert.PlainIdeal.main_arg0) = m ((c.tc : Thread Cert.ExpertsIdeal.nD Cert.ExpertsIdeal.τ).loc Cert.ExpertsIdeal.main_arg0)
      ∧ m' ((c.tc : Thread Cert.PlainIdeal.nD Cert.PlainIdeal.τ).loc Cert.PlainIdeal.main_arg1) = m ((c.tc : Thread Cert.ExpertsIdeal.nD Cert.ExpertsIdeal.τ).loc Cert.ExpertsIdeal.main_arg1)
      ∧ m' ((c.tc : Thread Cert.PlainIdeal.nD Cert.PlainIdeal.τ).loc Cert.PlainIdeal.main_arg2) = m ((c.tc : Thread Cert.ExpertsIdeal.nD Cert.ExpertsIdeal.τ).loc Cert.ExpertsIdeal.main_arg2)
      ∧ m' ((c.tc : Thread Cert.PlainIdeal.nD Cert.PlainIdeal.τ).loc Cert.PlainIdeal.main_arg3) = m ((c.tc : Thread Cert.ExpertsIdeal.nD Cert.ExpertsIdeal.τ).loc Cert.ExpertsIdeal.main_arg3)
      ∧ m' ((c.tc : Thread Cert.PlainIdeal.nD Cert.PlainIdeal.τ).loc Cert.PlainIdeal.main_arg4) = m ((c.tc : Thread Cert.ExpertsIdeal.nD Cert.ExpertsIdeal.τ).loc Cert.ExpertsIdeal.main_arg4)
      ∧ m' ((c.tc : Thread Cert.PlainIdeal.nD Cert.PlainIdeal.τ).loc Cert.PlainIdeal.main_arg5) = m ((c.tc : Thread Cert.ExpertsIdeal.nD Cert.ExpertsIdeal.τ).loc Cert.ExpertsIdeal.main_arg5)
      ∧ m' ((c.tc : Thread Cert.PlainIdeal.nD Cert.PlainIdeal.τ).loc Cert.PlainIdeal.main_arg6) = m ((c.tc : Thread Cert.ExpertsIdeal.nD Cert.ExpertsIdeal.τ).loc Cert.ExpertsIdeal.main_arg6)
      ∧ m' ((c.tc : Thread Cert.PlainIdeal.nD Cert.PlainIdeal.τ).loc Cert.PlainIdeal.main_arg7) = m ((c.tc : Thread Cert.ExpertsIdeal.nD Cert.ExpertsIdeal.τ).loc Cert.ExpertsIdeal.main_arg7)
      ∧ m' ((c.tc : Thread Cert.PlainIdeal.nD Cert.PlainIdeal.τ).loc Cert.PlainIdeal.main_arg8) = m ((c.tc : Thread Cert.ExpertsIdeal.nD Cert.ExpertsIdeal.τ).loc Cert.ExpertsIdeal.main_arg8)
      ∧ m' ((c.tc : Thread Cert.PlainIdeal.nD Cert.PlainIdeal.τ).loc Cert.PlainIdeal.main_arg9) = m ((c.tc : Thread Cert.ExpertsIdeal.nD Cert.ExpertsIdeal.τ).loc Cert.ExpertsIdeal.main_arg9)) →
    ∃ (v0 : (c : Dev Cert.ExpertsIdeal.nD) → Buf (Elt Ideal) ((c.tc : Thread Cert.ExpertsIdeal.nD Cert.ExpertsIdeal.τ).loc Cert.ExpertsIdeal.main_v71)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v71) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
          ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
          ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8)
          ∧ r.2.mem ((c.tc : Thread Cert.ExpertsIdeal.nD Cert.ExpertsIdeal.τ).loc Cert.ExpertsIdeal.main_arg9) = m ((c.tc : Thread Cert.ExpertsIdeal.nD Cert.ExpertsIdeal.τ).loc Cert.ExpertsIdeal.main_arg9))
      ∧ θ_run (Cert.PlainIdeal.defs (F := Ideal)) (onTc (τ := Cert.PlainIdeal.τ) (Cert.PlainIdeal.main (F := Ideal))) ⟨m', fun _ => 0, g'⟩ (fun r => ∀ c : Dev Cert.PlainIdeal.nD,
          r.2.mem ((c.tc : Thread Cert.PlainIdeal.nD Cert.PlainIdeal.τ).loc Cert.PlainIdeal.main_v134) = v0 c
          ∧ r.2.mem ((c.tc : Thread Cert.PlainIdeal.nD Cert.PlainIdeal.τ).loc Cert.PlainIdeal.main_arg0) = m' ((c.tc : Thread Cert.PlainIdeal.nD Cert.PlainIdeal.τ).loc Cert.PlainIdeal.main_arg0)
          ∧ r.2.mem ((c.tc : Thread Cert.PlainIdeal.nD Cert.PlainIdeal.τ).loc Cert.PlainIdeal.main_arg1) = m' ((c.tc : Thread Cert.PlainIdeal.nD Cert.PlainIdeal.τ).loc Cert.PlainIdeal.main_arg1)
          ∧ r.2.mem ((c.tc : Thread Cert.PlainIdeal.nD Cert.PlainIdeal.τ).loc Cert.PlainIdeal.main_arg2) = m' ((c.tc : Thread Cert.PlainIdeal.nD Cert.PlainIdeal.τ).loc Cert.PlainIdeal.main_arg2)
          ∧ r.2.mem ((c.tc : Thread Cert.PlainIdeal.nD Cert.PlainIdeal.τ).loc Cert.PlainIdeal.main_arg3) = m' ((c.tc : Thread Cert.PlainIdeal.nD Cert.PlainIdeal.τ).loc Cert.PlainIdeal.main_arg3)
          ∧ r.2.mem ((c.tc : Thread Cert.PlainIdeal.nD Cert.PlainIdeal.τ).loc Cert.PlainIdeal.main_arg4) = m' ((c.tc : Thread Cert.PlainIdeal.nD Cert.PlainIdeal.τ).loc Cert.PlainIdeal.main_arg4)
          ∧ r.2.mem ((c.tc : Thread Cert.PlainIdeal.nD Cert.PlainIdeal.τ).loc Cert.PlainIdeal.main_arg5) = m' ((c.tc : Thread Cert.PlainIdeal.nD Cert.PlainIdeal.τ).loc Cert.PlainIdeal.main_arg5)
          ∧ r.2.mem ((c.tc : Thread Cert.PlainIdeal.nD Cert.PlainIdeal.τ).loc Cert.PlainIdeal.main_arg6) = m' ((c.tc : Thread Cert.PlainIdeal.nD Cert.PlainIdeal.τ).loc Cert.PlainIdeal.main_arg6)
          ∧ r.2.mem ((c.tc : Thread Cert.PlainIdeal.nD Cert.PlainIdeal.τ).loc Cert.PlainIdeal.main_arg7) = m' ((c.tc : Thread Cert.PlainIdeal.nD Cert.PlainIdeal.τ).loc Cert.PlainIdeal.main_arg7)
          ∧ r.2.mem ((c.tc : Thread Cert.PlainIdeal.nD Cert.PlainIdeal.τ).loc Cert.PlainIdeal.main_arg8) = m' ((c.tc : Thread Cert.PlainIdeal.nD Cert.PlainIdeal.τ).loc Cert.PlainIdeal.main_arg8)
          ∧ r.2.mem ((c.tc : Thread Cert.PlainIdeal.nD Cert.PlainIdeal.τ).loc Cert.PlainIdeal.main_arg9) = m' ((c.tc : Thread Cert.PlainIdeal.nD Cert.PlainIdeal.τ).loc Cert.PlainIdeal.main_arg9))

def Claim : Prop :=
  ∃ (hKernel : Cert.Kernel.Facts) (hKernelIdeal : Cert.KernelIdeal.Facts) (hReferenceIdeal : Cert.ReferenceIdeal.Facts) (hReference : Cert.Reference.Facts) (hExperts : Cert.Experts.Facts) (hExpertsIdeal : Cert.ExpertsIdeal.Facts) (hPlainIdeal : Cert.PlainIdeal.Facts) (hPre_routed : Cert.Pre_routed.Facts) (hPre_tiled : Cert.Pre_tiled.Facts) (hPre_tiled_finite : Cert.Pre_tiled_finite.Facts),
    quiescent_Kernel (hKernel := hKernel) (hPre_routed := hPre_routed)
    ∧ quiescent_KernelIdeal (hKernelIdeal := hKernelIdeal) (hPre_routed := hPre_routed)
    ∧ quiescent_ReferenceIdeal (hReferenceIdeal := hReferenceIdeal) (hPre_routed := hPre_routed)
    ∧ quiescent_Reference (hReference := hReference) (hPre_routed := hPre_routed)
    ∧ quiescent_Experts (hExperts := hExperts) (hPre_tiled := hPre_tiled)
    ∧ quiescent_ExpertsIdeal (hExpertsIdeal := hExpertsIdeal) (hPre_tiled := hPre_tiled)
    ∧ quiescent_ExpertsIdeal_pre_tiled_finite (hExpertsIdeal := hExpertsIdeal) (hPre_tiled_finite := hPre_tiled_finite)
    ∧ quiescent_PlainIdeal (hPlainIdeal := hPlainIdeal) (hPre_tiled := hPre_tiled)
    ∧ quiescent_PlainIdeal_pre_tiled_finite (hPlainIdeal := hPlainIdeal) (hPre_tiled_finite := hPre_tiled_finite)
    ∧ preserves_Kernel_KernelIdeal
    ∧ algebraic_KernelIdeal_ReferenceIdeal (hKernelIdeal := hKernelIdeal) (hReferenceIdeal := hReferenceIdeal) (hPre_routed := hPre_routed)
    ∧ bitexact_Kernel_Reference (hKernel := hKernel) (hReference := hReference) (hPre_routed := hPre_routed)
    ∧ preserves_Experts_ExpertsIdeal
    ∧ algebraic_ExpertsIdeal_PlainIdeal_pre_tiled_finite (hExpertsIdeal := hExpertsIdeal) (hPlainIdeal := hPlainIdeal) (hPre_tiled_finite := hPre_tiled_finite)
-- ==== Pre_routed.lean ====
abbrev S32768 : Shape := ⟨1, ![32768]⟩
abbrev S256 : Shape := ⟨1, ![256]⟩
abbrev S262144x128 : Shape := ⟨2, ![262144, 128]⟩
abbrev S_ : Shape := ⟨0, ![]⟩
abbrev S1 : Shape := ⟨1, ![1]⟩
abbrev S32768x1 : Shape := ⟨2, ![32768, 1]⟩
abbrev S1x256 : Shape := ⟨2, ![1, 256]⟩
abbrev S32768x256 : Shape := ⟨2, ![32768, 256]⟩
abbrev S1x32768 : Shape := ⟨2, ![1, 32768]⟩
abbrev S32768x32768 : Shape := ⟨2, ![32768, 32768]⟩

class Facts : Prop where
  bcast_S_S256 : S_.BroadcastsInDim S256 (![] : Fin 0 → Fin S256.rank)
  bcast_S_S_ : S_.BroadcastsInDim S_ (![] : Fin 0 → Fin S_.rank)
  reduceWindows_S256_S256_w256s1p255_0 : S256.ReduceWindows (![256] : Fin 1 → Nat) ![1] ![255] ![0] S256
  h_S_ : 0 < S_.numel
  reducesTo_S256_S_d0 : S256.ReducesTo [0] S_
  slices_S256_S1_255 : S256.Slices ![255] S1
  shapeCasts_S1_S_ : S1.ShapeCasts S_
  bcast_S_S32768 : S_.BroadcastsInDim S32768 (![] : Fin 0 → Fin S32768.rank)
  reducesTo_S32768_S_d0 : S32768.ReducesTo [0] S_
  bcast_S32768_S32768x1_0 : S32768.BroadcastsInDim S32768x1 (![0] : Fin 1 → Fin S32768x1.rank)
  bcast_S256_S1x256_1 : S256.BroadcastsInDim S1x256 (![1] : Fin 1 → Fin S1x256.rank)
  bcast_S32768x1_S32768x256_0_1 : S32768x1.BroadcastsInDim S32768x256 (![0, 1] : Fin 2 → Fin S32768x256.rank)
  bcast_S1x256_S32768x256_0_1 : S1x256.BroadcastsInDim S32768x256 (![0, 1] : Fin 2 → Fin S32768x256.rank)
  reducesTo_S32768x256_S_d0_1 : S32768x256.ReducesTo [0, 1] S_
  bcast_S32768_S1x32768_1 : S32768.BroadcastsInDim S1x32768 (![1] : Fin 1 → Fin S1x32768.rank)
  bcast_S32768x1_S32768x32768_0_1 : S32768x1.BroadcastsInDim S32768x32768 (![0, 1] : Fin 2 → Fin S32768x32768.rank)
  bcast_S1x32768_S32768x32768_0_1 : S1x32768.BroadcastsInDim S32768x32768 (![0, 1] : Fin 2 → Fin S32768x32768.rank)
  reducesTo_S32768x32768_S_d0_1 : S32768x32768.ReducesTo [0, 1] S_

variable [Facts]

def fn_where {F : FTy → Type} [FloatOps F] (arg0 : IVec S256 1) (arg1 : IVec S256 32) (arg2 : IVec S256 32) : IVec S256 32 :=
  let v0 : IVec S256 32 := select arg0 arg1 arg2
  v0

def fn_floor_divide {F : FTy → Type} [FloatOps F] (arg0 : IVec S256 32) (arg1 : IVec S_ 32) : IVec S256 32 :=
  let v0 : IVec S_ 32 := id arg1
  let v1 : IVec S256 32 := broadcastInDim S256 ![] bcast_S_S256 v0
  let v2 : IVec S256 32 := Host.divsi arg0 v1
  let v3 : IVec S256 32 := signi arg0
  let v4 : IVec S_ 32 := signi v0
  let v5 : IVec S256 32 := broadcastInDim S256 ![] bcast_S_S256 v4
  let v6 : IVec S256 1 := cmpi .ne v3 v5
  let v7 : IVec S256 32 := broadcastInDim S256 ![] bcast_S_S256 v0
  let v8 : IVec S256 32 := Host.remsi arg0 v7
  let c : IVec S_ 32 := constantI S_ 32 0#32
  let v9 : IVec S256 32 := broadcastInDim S256 ![] bcast_S_S256 c
  let v10 : IVec S256 1 := cmpi .ne v8 v9
  let v11 : IVec S256 1 := andi v6 v10
  let c_0 : IVec S_ 32 := constantI S_ 32 1#32
  let v12 : IVec S256 32 := broadcastInDim S256 ![] bcast_S_S256 c_0
  let v13 : IVec S256 32 := subi v2 v12
  let v14 : IVec S256 32 := fn_where (F := F) v11 v13 v2
  v14

def fn_cumsum_0 {F : FTy → Type} [FloatOps F] (arg0 : IVec S256 32) : IVec S256 32 :=
  let c : IVec S_ 32 := constantI S_ 32 0#32
  let v0 : IVec S_ 32 := broadcastInDim S_ ![] bcast_S_S_ c
  let v1 : IVec S256 32 := (fun x v => Host.reduceWindow IntOp.addi ![256] ![1] ![255] ![0] x v reduceWindows_S256_S256_w256s1p255_0 h_S_) arg0 v0
  v1

def fn_cumsum {F : FTy → Type} [FloatOps F] (arg0 : IVec S256 32) : IVec S256 32 :=
  let v0 : IVec S256 32 := fn_cumsum_0 (F := F) arg0
  v0

def fn_part3 {F : FTy → Type} [FloatOps F] (main_v20 : IVec S_ 1) (main_v29 : IVec S_ 1) (main_v43 : IVec S_ 1) (main_v56 : IVec S_ 1) : IVec S_ 1 :=
  let main_v57 : IVec S_ 1 := andi main_v20 main_v29
  let main_v58 : IVec S_ 1 := andi main_v57 main_v43
  let main_v59 : IVec S_ 1 := andi main_v58 main_v56
  main_v59

def fn_part2 {F : FTy → Type} [FloatOps F] (main_arg0 : IVec S32768 32) (main_v3 : IVec S256 32) (main_v20 : IVec S_ 1) (main_v29 : IVec S_ 1) (main_v34 : IVec S32768x256 1) (main_v35 : IVec S32768x1 32) : IVec S_ 1 :=
  let main_c_11 : IVec S_ 32 := constantI S_ 32 256#32
  let main_v36 : IVec S256 32 := broadcastInDim S256 ![] bcast_S_S256 main_c_11
  let main_v37 : IVec S256 32 := muli main_v3 main_v36
  let main_v38 : IVec S1x256 32 := broadcastInDim S1x256 ![1] bcast_S256_S1x256_1 main_v37
  let main_v39 : IVec S32768x256 32 := broadcastInDim S32768x256 ![0, 1] bcast_S32768x1_S32768x256_0_1 main_v35
  let main_v40 : IVec S32768x256 32 := broadcastInDim S32768x256 ![0, 1] bcast_S1x256_S32768x256_0_1 main_v38
  let main_v41 : IVec S32768x256 1 := cmpi .sge main_v39 main_v40
  let main_v42 : IVec S32768x256 1 := ori main_v34 main_v41
  let main_c_12 : IVec S_ 1 := constantI S_ 1 1#1
  let main_v43 : IVec S_ 1 := (fun x v => Host.reduce IntOp.andi x v reducesTo_S32768x256_S_d0_1 h_S_) main_v42 main_c_12
  let main_v44 : IVec S32768 32 := iotaInDim S32768 32 0
  let main_v45 : IVec S32768x1 32 := broadcastInDim S32768x1 ![0] bcast_S32768_S32768x1_0 main_arg0
  let main_v46 : IVec S1x32768 32 := broadcastInDim S1x32768 ![1] bcast_S32768_S1x32768_1 main_arg0
  let main_v47 : IVec S32768x32768 32 := broadcastInDim S32768x32768 ![0, 1] bcast_S32768x1_S32768x32768_0_1 main_v45
  let main_v48 : IVec S32768x32768 32 := broadcastInDim S32768x32768 ![0, 1] bcast_S1x32768_S32768x32768_0_1 main_v46
  let main_v49 : IVec S32768x32768 1 := cmpi .ne main_v47 main_v48
  let main_v50 : IVec S32768x1 32 := broadcastInDim S32768x1 ![0] bcast_S32768_S32768x1_0 main_v44
  let main_v51 : IVec S1x32768 32 := broadcastInDim S1x32768 ![1] bcast_S32768_S1x32768_1 main_v44
  let main_v52 : IVec S32768x32768 32 := broadcastInDim S32768x32768 ![0, 1] bcast_S32768x1_S32768x32768_0_1 main_v50
  let main_v53 : IVec S32768x32768 32 := broadcastInDim S32768x32768 ![0, 1] bcast_S1x32768_S32768x32768_0_1 main_v51
  let main_v54 : IVec S32768x32768 1 := cmpi .eq main_v52 main_v53
  let main_v55 : IVec S32768x32768 1 := ori main_v49 main_v54
  let main_c_13 : IVec S_ 1 := constantI S_ 1 1#1
  let main_v56 : IVec S_ 1 := (fun x v => Host.reduce IntOp.andi x v reducesTo_S32768x32768_S_d0_1 h_S_) main_v55 main_c_13
  fn_part3 (F := F) main_v20 main_v29 main_v43 main_v56

def fn_part1 {F : FTy → Type} [FloatOps F] (main_arg0 : IVec S32768 32) (main_v3 : IVec S256 32) (main_v7 : IVec S256 32) (main_v13 : IVec S_ 1) (main_v15 : IVec S_ 1) : IVec S_ 1 :=
  let main_v16 : IVec S_ 1 := andi main_v13 main_v15
  let main_v17 : IVec S1 32 := (extractStridedSlice S1 ![255] · slices_S256_S1_255) main_v3
  let main_v18 : IVec S_ 32 := shapeCast S_ main_v17 shapeCasts_S1_S_
  let main_c_7 : IVec S_ 32 := constantI S_ 32 240#32
  let main_v19 : IVec S_ 1 := cmpi .sle main_v18 main_c_7
  let main_v20 : IVec S_ 1 := andi main_v16 main_v19
  let main_c_8 : IVec S_ 32 := constantI S_ 32 0#32
  let main_v21 : IVec S32768 32 := broadcastInDim S32768 ![] bcast_S_S32768 main_c_8
  let main_v22 : IVec S32768 1 := cmpi .sge main_arg0 main_v21
  let main_v23 : IVec S1 32 := (extractStridedSlice S1 ![255] · slices_S256_S1_255) main_v3
  let main_v24 : IVec S_ 32 := shapeCast S_ main_v23 shapeCasts_S1_S_
  let main_c_9 : IVec S_ 32 := constantI S_ 32 256#32
  let main_v25 : IVec S_ 32 := muli main_v24 main_c_9
  let main_v26 : IVec S32768 32 := broadcastInDim S32768 ![] bcast_S_S32768 main_v25
  let main_v27 : IVec S32768 1 := cmpi .slt main_arg0 main_v26
  let main_v28 : IVec S32768 1 := andi main_v22 main_v27
  let main_c_10 : IVec S_ 1 := constantI S_ 1 1#1
  let main_v29 : IVec S_ 1 := (fun x v => Host.reduce IntOp.andi x v reducesTo_S32768_S_d0 h_S_) main_v28 main_c_10
  let main_v30 : IVec S32768x1 32 := broadcastInDim S32768x1 ![0] bcast_S32768_S32768x1_0 main_arg0
  let main_v31 : IVec S1x256 32 := broadcastInDim S1x256 ![1] bcast_S256_S1x256_1 main_v7
  let main_v32 : IVec S32768x256 32 := broadcastInDim S32768x256 ![0, 1] bcast_S32768x1_S32768x256_0_1 main_v30
  let main_v33 : IVec S32768x256 32 := broadcastInDim S32768x256 ![0, 1] bcast_S1x256_S32768x256_0_1 main_v31
  let main_v34 : IVec S32768x256 1 := cmpi .slt main_v32 main_v33
  let main_v35 : IVec S32768x1 32 := broadcastInDim S32768x1 ![0] bcast_S32768_S32768x1_0 main_arg0
  fn_part2 (F := F) main_arg0 main_v3 main_v20 main_v29 main_v34 main_v35

def fn {F : FTy → Type} [FloatOps F] (main_arg0 : IVec S32768 32) (main_arg1 : IVec S256 32) (main_arg2 : FVec F S262144x128 .f32) : IVec S_ 1 :=
  let main_c : IVec S_ 32 := constantI S_ 32 255#32
  let main_v0 : IVec S256 32 := broadcastInDim S256 ![] bcast_S_S256 main_c
  let main_v1 : IVec S256 32 := addi main_arg1 main_v0
  let main_c_0 : IVec S_ 32 := constantI S_ 32 256#32
  let main_v2 : IVec S256 32 := fn_floor_divide (F := F) main_v1 main_c_0
  let main_v3 : IVec S256 32 := fn_cumsum (F := F) main_v2
  let main_v4 : IVec S256 32 := subi main_v3 main_v2
  let main_c_1 : IVec S_ 32 := constantI S_ 32 256#32
  let main_v5 : IVec S256 32 := broadcastInDim S256 ![] bcast_S_S256 main_c_1
  let main_v6 : IVec S256 32 := muli main_v4 main_v5
  let main_v7 : IVec S256 32 := addi main_v6 main_arg1
  let main_c_2 : IVec S_ 32 := constantI S_ 32 0#32
  let main_v8 : IVec S256 32 := broadcastInDim S256 ![] bcast_S_S256 main_c_2
  let main_v9 : IVec S256 1 := cmpi .sge main_arg1 main_v8
  let main_c_3 : IVec S_ 32 := constantI S_ 32 32768#32
  let main_v10 : IVec S256 32 := broadcastInDim S256 ![] bcast_S_S256 main_c_3
  let main_v11 : IVec S256 1 := cmpi .sle main_arg1 main_v10
  let main_v12 : IVec S256 1 := andi main_v9 main_v11
  let main_c_4 : IVec S_ 1 := constantI S_ 1 1#1
  let main_v13 : IVec S_ 1 := (fun x v => Host.reduce IntOp.andi x v reducesTo_S256_S_d0 h_S_) main_v12 main_c_4
  let main_c_5 : IVec S_ 32 := constantI S_ 32 0#32
  let main_v14 : IVec S_ 32 := (fun x v => Host.reduce IntOp.addi x v reducesTo_S256_S_d0 h_S_) main_arg1 main_c_5
  let main_c_6 : IVec S_ 32 := constantI S_ 32 32768#32
  let main_v15 : IVec S_ 1 := cmpi .eq main_v14 main_c_6
  fn_part1 (F := F) main_arg0 main_v3 main_v7 main_v13 main_v15
-- ==== Pre_tiled.lean ====
abbrev S256 : Shape := ⟨1, ![256]⟩
abbrev S491520x128 : Shape := ⟨2, ![491520, 128]⟩
abbrev S1024 : Shape := ⟨1, ![1024]⟩
abbrev S1024x4 : Shape := ⟨2, ![1024, 4]⟩
abbrev S4 : Shape := ⟨1, ![4]⟩
abbrev S4x1024x8 : Shape := ⟨3, ![4, 1024, 8]⟩
abbrev S4x8 : Shape := ⟨2, ![4, 8]⟩
abbrev S32x1024x256 : Shape := ⟨3, ![32, 1024, 256]⟩
abbrev S32x256x1024 : Shape := ⟨3, ![32, 256, 1024]⟩
abbrev S_ : Shape := ⟨0, ![]⟩

class Facts : Prop where
  bcast_S_S256 : S_.BroadcastsInDim S256 (![] : Fin 0 → Fin S256.rank)
  reducesTo_S256_S_d0 : S256.ReducesTo [0] S_
  h_S_ : 0 < S_.numel

variable [Facts]

def fn_where {F : FTy → Type} [FloatOps F] (arg0 : IVec S256 1) (arg1 : IVec S256 32) (arg2 : IVec S256 32) : IVec S256 32 :=
  let v0 : IVec S256 32 := select arg0 arg1 arg2
  v0

def fn_floor_divide {F : FTy → Type} [FloatOps F] (arg0 : IVec S256 32) (arg1 : IVec S_ 32) : IVec S256 32 :=
  let v0 : IVec S_ 32 := id arg1
  let v1 : IVec S256 32 := broadcastInDim S256 ![] bcast_S_S256 v0
  let v2 : IVec S256 32 := Host.divsi arg0 v1
  let v3 : IVec S256 32 := signi arg0
  let v4 : IVec S_ 32 := signi v0
  let v5 : IVec S256 32 := broadcastInDim S256 ![] bcast_S_S256 v4
  let v6 : IVec S256 1 := cmpi .ne v3 v5
  let v7 : IVec S256 32 := broadcastInDim S256 ![] bcast_S_S256 v0
  let v8 : IVec S256 32 := Host.remsi arg0 v7
  let c : IVec S_ 32 := constantI S_ 32 0#32
  let v9 : IVec S256 32 := broadcastInDim S256 ![] bcast_S_S256 c
  let v10 : IVec S256 1 := cmpi .ne v8 v9
  let v11 : IVec S256 1 := andi v6 v10
  let c_0 : IVec S_ 32 := constantI S_ 32 1#32
  let v12 : IVec S256 32 := broadcastInDim S256 ![] bcast_S_S256 c_0
  let v13 : IVec S256 32 := subi v2 v12
  let v14 : IVec S256 32 := fn_where (F := F) v11 v13 v2
  v14

def fn {F : FTy → Type} [FloatOps F] (main_arg0 : IVec S256 32) (main_arg1 : FVec F S491520x128 .f32) (main_arg2 : FVec F S1024 .f32) (main_arg3 : FVec F S1024x4 .f32) (main_arg4 : FVec F S4 .f32) (main_arg5 : FVec F S4x1024x8 .f32) (main_arg6 : FVec F S4x8 .f32) (main_arg7 : FVec F S32x1024x256 .f32) (main_arg8 : FVec F S32x1024x256 .f32) (main_arg9 : FVec F S32x256x1024 .f32) : IVec S_ 1 :=
  let main_c : IVec S_ 32 := constantI S_ 32 255#32
  let main_v0 : IVec S256 32 := broadcastInDim S256 ![] bcast_S_S256 main_c
  let main_v1 : IVec S256 32 := addi main_arg0 main_v0
  let main_c_0 : IVec S_ 32 := constantI S_ 32 256#32
  let main_v2 : IVec S256 32 := fn_floor_divide (F := F) main_v1 main_c_0
  let main_c_1 : IVec S_ 32 := constantI S_ 32 0#32
  let main_v3 : IVec S_ 32 := (fun x v => Host.reduce IntOp.addi x v reducesTo_S256_S_d0 h_S_) main_v2 main_c_1
  let main_c_2 : IVec S_ 32 := constantI S_ 32 0#32
  let main_v4 : IVec S256 32 := broadcastInDim S256 ![] bcast_S_S256 main_c_2
  let main_v5 : IVec S256 1 := cmpi .sge main_arg0 main_v4
  let main_c_3 : IVec S_ 32 := constantI S_ 32 32768#32
  let main_v6 : IVec S256 32 := broadcastInDim S256 ![] bcast_S_S256 main_c_3
  let main_v7 : IVec S256 1 := cmpi .sle main_arg0 main_v6
  let main_v8 : IVec S256 1 := andi main_v5 main_v7
  let main_c_4 : IVec S_ 1 := constantI S_ 1 1#1
  let main_v9 : IVec S_ 1 := (fun x v => Host.reduce IntOp.andi x v reducesTo_S256_S_d0 h_S_) main_v8 main_c_4
  let main_c_5 : IVec S_ 32 := constantI S_ 32 1#32
  let main_v10 : IVec S_ 1 := cmpi .sge main_v3 main_c_5
  let main_v11 : IVec S_ 1 := andi main_v9 main_v10
  let main_c_6 : IVec S_ 32 := constantI S_ 32 240#32
  let main_v12 : IVec S_ 1 := cmpi .sle main_v3 main_c_6
  let main_v13 : IVec S_ 1 := andi main_v11 main_v12
  main_v13
-- ==== Pre_tiled_finite.lean ====
abbrev S256 : Shape := ⟨1, ![256]⟩
abbrev S491520x128 : Shape := ⟨2, ![491520, 128]⟩
abbrev S1024 : Shape := ⟨1, ![1024]⟩
abbrev S1024x4 : Shape := ⟨2, ![1024, 4]⟩
abbrev S4 : Shape := ⟨1, ![4]⟩
abbrev S4x1024x8 : Shape := ⟨3, ![4, 1024, 8]⟩
abbrev S4x8 : Shape := ⟨2, ![4, 8]⟩
abbrev S32x1024x256 : Shape := ⟨3, ![32, 1024, 256]⟩
abbrev S32x256x1024 : Shape := ⟨3, ![32, 256, 1024]⟩
abbrev S_ : Shape := ⟨0, ![]⟩

class Facts : Prop where
  bcast_S_S256 : S_.BroadcastsInDim S256 (![] : Fin 0 → Fin S256.rank)
  reducesTo_S256_S_d0 : S256.ReducesTo [0] S_
  h_S_ : 0 < S_.numel
  bcast_S_S491520x128 : S_.BroadcastsInDim S491520x128 (![] : Fin 0 → Fin S491520x128.rank)
  reducesTo_S491520x128_S_d0_1 : S491520x128.ReducesTo [0, 1] S_
  bcast_S_S1024 : S_.BroadcastsInDim S1024 (![] : Fin 0 → Fin S1024.rank)
  reducesTo_S1024_S_d0 : S1024.ReducesTo [0] S_
  bcast_S_S1024x4 : S_.BroadcastsInDim S1024x4 (![] : Fin 0 → Fin S1024x4.rank)
  reducesTo_S1024x4_S_d0_1 : S1024x4.ReducesTo [0, 1] S_
  bcast_S_S4 : S_.BroadcastsInDim S4 (![] : Fin 0 → Fin S4.rank)
  reducesTo_S4_S_d0 : S4.ReducesTo [0] S_
  bcast_S_S4x1024x8 : S_.BroadcastsInDim S4x1024x8 (![] : Fin 0 → Fin S4x1024x8.rank)
  reducesTo_S4x1024x8_S_d0_1_2 : S4x1024x8.ReducesTo [0, 1, 2] S_
  bcast_S_S4x8 : S_.BroadcastsInDim S4x8 (![] : Fin 0 → Fin S4x8.rank)
  reducesTo_S4x8_S_d0_1 : S4x8.ReducesTo [0, 1] S_
  bcast_S_S32x1024x256 : S_.BroadcastsInDim S32x1024x256 (![] : Fin 0 → Fin S32x1024x256.rank)
  reducesTo_S32x1024x256_S_d0_1_2 : S32x1024x256.ReducesTo [0, 1, 2] S_
  bcast_S_S32x256x1024 : S_.BroadcastsInDim S32x256x1024 (![] : Fin 0 → Fin S32x256x1024.rank)
  reducesTo_S32x256x1024_S_d0_1_2 : S32x256x1024.ReducesTo [0, 1, 2] S_

variable [Facts]

def fn_where {F : FTy → Type} [FloatOps F] (arg0 : IVec S256 1) (arg1 : IVec S256 32) (arg2 : IVec S256 32) : IVec S256 32 :=
  let v0 : IVec S256 32 := select arg0 arg1 arg2
  v0

def fn_floor_divide {F : FTy → Type} [FloatOps F] (arg0 : IVec S256 32) (arg1 : IVec S_ 32) : IVec S256 32 :=
  let v0 : IVec S_ 32 := id arg1
  let v1 : IVec S256 32 := broadcastInDim S256 ![] bcast_S_S256 v0
  let v2 : IVec S256 32 := Host.divsi arg0 v1
  let v3 : IVec S256 32 := signi arg0
  let v4 : IVec S_ 32 := signi v0
  let v5 : IVec S256 32 := broadcastInDim S256 ![] bcast_S_S256 v4
  let v6 : IVec S256 1 := cmpi .ne v3 v5
  let v7 : IVec S256 32 := broadcastInDim S256 ![] bcast_S_S256 v0
  let v8 : IVec S256 32 := Host.remsi arg0 v7
  let c : IVec S_ 32 := constantI S_ 32 0#32
  let v9 : IVec S256 32 := broadcastInDim S256 ![] bcast_S_S256 c
  let v10 : IVec S256 1 := cmpi .ne v8 v9
  let v11 : IVec S256 1 := andi v6 v10
  let c_0 : IVec S_ 32 := constantI S_ 32 1#32
  let v12 : IVec S256 32 := broadcastInDim S256 ![] bcast_S_S256 c_0
  let v13 : IVec S256 32 := subi v2 v12
  let v14 : IVec S256 32 := fn_where (F := F) v11 v13 v2
  v14

def fn_part3 {F : FTy → Type} [FloatOps F] (main_arg9 : FVec F S32x256x1024 .f32) (main_v48 : IVec S_ 1) (main_v49 : FVec F S32x1024x256 .f32) : IVec S_ 1 :=
  let main_cst_20 : FVec F S_ .f32 := constant S_ .f32 0x7F800000#32
  let main_v50 : FVec F S32x1024x256 .f32 := broadcastInDim S32x1024x256 ![] bcast_S_S32x1024x256 main_cst_20
  let main_v51 : IVec S32x1024x256 1 := cmpf .olt main_v49 main_v50
  let main_c_21 : IVec S_ 1 := constantI S_ 1 1#1
  let main_v52 : IVec S_ 1 := (fun x v => Host.reduce IntOp.andi x v reducesTo_S32x1024x256_S_d0_1_2 h_S_) main_v51 main_c_21
  let main_v53 : IVec S_ 1 := andi main_v48 main_v52
  let main_v54 : FVec F S32x256x1024 .f32 := Host.absf main_arg9
  let main_cst_22 : FVec F S_ .f32 := constant S_ .f32 0x7F800000#32
  let main_v55 : FVec F S32x256x1024 .f32 := broadcastInDim S32x256x1024 ![] bcast_S_S32x256x1024 main_cst_22
  let main_v56 : IVec S32x256x1024 1 := cmpf .olt main_v54 main_v55
  let main_c_23 : IVec S_ 1 := constantI S_ 1 1#1
  let main_v57 : IVec S_ 1 := (fun x v => Host.reduce IntOp.andi x v reducesTo_S32x256x1024_S_d0_1_2 h_S_) main_v56 main_c_23
  let main_v58 : IVec S_ 1 := andi main_v53 main_v57
  main_v58

def fn_part2 {F : FTy → Type} [FloatOps F] (main_arg5 : FVec F S4x1024x8 .f32) (main_arg6 : FVec F S4x8 .f32) (main_arg7 : FVec F S32x1024x256 .f32) (main_arg8 : FVec F S32x1024x256 .f32) (main_arg9 : FVec F S32x256x1024 .f32) (main_v28 : IVec S_ 1) (main_v31 : IVec S4 1) (main_c_13 : IVec S_ 1) : IVec S_ 1 :=
  let main_v32 : IVec S_ 1 := (fun x v => Host.reduce IntOp.andi x v reducesTo_S4_S_d0 h_S_) main_v31 main_c_13
  let main_v33 : IVec S_ 1 := andi main_v28 main_v32
  let main_v34 : FVec F S4x1024x8 .f32 := Host.absf main_arg5
  let main_cst_14 : FVec F S_ .f32 := constant S_ .f32 0x7F800000#32
  let main_v35 : FVec F S4x1024x8 .f32 := broadcastInDim S4x1024x8 ![] bcast_S_S4x1024x8 main_cst_14
  let main_v36 : IVec S4x1024x8 1 := cmpf .olt main_v34 main_v35
  let main_c_15 : IVec S_ 1 := constantI S_ 1 1#1
  let main_v37 : IVec S_ 1 := (fun x v => Host.reduce IntOp.andi x v reducesTo_S4x1024x8_S_d0_1_2 h_S_) main_v36 main_c_15
  let main_v38 : IVec S_ 1 := andi main_v33 main_v37
  let main_v39 : FVec F S4x8 .f32 := Host.absf main_arg6
  let main_cst_16 : FVec F S_ .f32 := constant S_ .f32 0x7F800000#32
  let main_v40 : FVec F S4x8 .f32 := broadcastInDim S4x8 ![] bcast_S_S4x8 main_cst_16
  let main_v41 : IVec S4x8 1 := cmpf .olt main_v39 main_v40
  let main_c_17 : IVec S_ 1 := constantI S_ 1 1#1
  let main_v42 : IVec S_ 1 := (fun x v => Host.reduce IntOp.andi x v reducesTo_S4x8_S_d0_1 h_S_) main_v41 main_c_17
  let main_v43 : IVec S_ 1 := andi main_v38 main_v42
  let main_v44 : FVec F S32x1024x256 .f32 := Host.absf main_arg7
  let main_cst_18 : FVec F S_ .f32 := constant S_ .f32 0x7F800000#32
  let main_v45 : FVec F S32x1024x256 .f32 := broadcastInDim S32x1024x256 ![] bcast_S_S32x1024x256 main_cst_18
  let main_v46 : IVec S32x1024x256 1 := cmpf .olt main_v44 main_v45
  let main_c_19 : IVec S_ 1 := constantI S_ 1 1#1
  let main_v47 : IVec S_ 1 := (fun x v => Host.reduce IntOp.andi x v reducesTo_S32x1024x256_S_d0_1_2 h_S_) main_v46 main_c_19
  let main_v48 : IVec S_ 1 := andi main_v43 main_v47
  let main_v49 : FVec F S32x1024x256 .f32 := Host.absf main_arg8
  fn_part3 (F := F) main_arg9 main_v48 main_v49

def fn_part1 {F : FTy → Type} [FloatOps F] (main_arg2 : FVec F S1024 .f32) (main_arg3 : FVec F S1024x4 .f32) (main_arg4 : FVec F S4 .f32) (main_arg5 : FVec F S4x1024x8 .f32) (main_arg6 : FVec F S4x8 .f32) (main_arg7 : FVec F S32x1024x256 .f32) (main_arg8 : FVec F S32x1024x256 .f32) (main_arg9 : FVec F S32x256x1024 .f32) (main_v13 : IVec S_ 1) (main_v14 : FVec F S491520x128 .f32) (main_cst : FVec F S_ .f32) : IVec S_ 1 :=
  let main_v15 : FVec F S491520x128 .f32 := broadcastInDim S491520x128 ![] bcast_S_S491520x128 main_cst
  let main_v16 : IVec S491520x128 1 := cmpf .olt main_v14 main_v15
  let main_c_7 : IVec S_ 1 := constantI S_ 1 1#1
  let main_v17 : IVec S_ 1 := (fun x v => Host.reduce IntOp.andi x v reducesTo_S491520x128_S_d0_1 h_S_) main_v16 main_c_7
  let main_v18 : IVec S_ 1 := andi main_v13 main_v17
  let main_v19 : FVec F S1024 .f32 := Host.absf main_arg2
  let main_cst_8 : FVec F S_ .f32 := constant S_ .f32 0x7F800000#32
  let main_v20 : FVec F S1024 .f32 := broadcastInDim S1024 ![] bcast_S_S1024 main_cst_8
  let main_v21 : IVec S1024 1 := cmpf .olt main_v19 main_v20
  let main_c_9 : IVec S_ 1 := constantI S_ 1 1#1
  let main_v22 : IVec S_ 1 := (fun x v => Host.reduce IntOp.andi x v reducesTo_S1024_S_d0 h_S_) main_v21 main_c_9
  let main_v23 : IVec S_ 1 := andi main_v18 main_v22
  let main_v24 : FVec F S1024x4 .f32 := Host.absf main_arg3
  let main_cst_10 : FVec F S_ .f32 := constant S_ .f32 0x7F800000#32
  let main_v25 : FVec F S1024x4 .f32 := broadcastInDim S1024x4 ![] bcast_S_S1024x4 main_cst_10
  let main_v26 : IVec S1024x4 1 := cmpf .olt main_v24 main_v25
  let main_c_11 : IVec S_ 1 := constantI S_ 1 1#1
  let main_v27 : IVec S_ 1 := (fun x v => Host.reduce IntOp.andi x v reducesTo_S1024x4_S_d0_1 h_S_) main_v26 main_c_11
  let main_v28 : IVec S_ 1 := andi main_v23 main_v27
  let main_v29 : FVec F S4 .f32 := Host.absf main_arg4
  let main_cst_12 : FVec F S_ .f32 := constant S_ .f32 0x7F800000#32
  let main_v30 : FVec F S4 .f32 := broadcastInDim S4 ![] bcast_S_S4 main_cst_12
  let main_v31 : IVec S4 1 := cmpf .olt main_v29 main_v30
  let main_c_13 : IVec S_ 1 := constantI S_ 1 1#1
  fn_part2 (F := F) main_arg5 main_arg6 main_arg7 main_arg8 main_arg9 main_v28 main_v31 main_c_13

def fn {F : FTy → Type} [FloatOps F] (main_arg0 : IVec S256 32) (main_arg1 : FVec F S491520x128 .f32) (main_arg2 : FVec F S1024 .f32) (main_arg3 : FVec F S1024x4 .f32) (main_arg4 : FVec F S4 .f32) (main_arg5 : FVec F S4x1024x8 .f32) (main_arg6 : FVec F S4x8 .f32) (main_arg7 : FVec F S32x1024x256 .f32) (main_arg8 : FVec F S32x1024x256 .f32) (main_arg9 : FVec F S32x256x1024 .f32) : IVec S_ 1 :=
  let main_c : IVec S_ 32 := constantI S_ 32 255#32
  let main_v0 : IVec S256 32 := broadcastInDim S256 ![] bcast_S_S256 main_c
  let main_v1 : IVec S256 32 := addi main_arg0 main_v0
  let main_c_0 : IVec S_ 32 := constantI S_ 32 256#32
  let main_v2 : IVec S256 32 := fn_floor_divide (F := F) main_v1 main_c_0
  let main_c_1 : IVec S_ 32 := constantI S_ 32 0#32
  let main_v3 : IVec S_ 32 := (fun x v => Host.reduce IntOp.addi x v reducesTo_S256_S_d0 h_S_) main_v2 main_c_1
  let main_c_2 : IVec S_ 32 := constantI S_ 32 0#32
  let main_v4 : IVec S256 32 := broadcastInDim S256 ![] bcast_S_S256 main_c_2
  let main_v5 : IVec S256 1 := cmpi .sge main_arg0 main_v4
  let main_c_3 : IVec S_ 32 := constantI S_ 32 32768#32
  let main_v6 : IVec S256 32 := broadcastInDim S256 ![] bcast_S_S256 main_c_3
  let main_v7 : IVec S256 1 := cmpi .sle main_arg0 main_v6
  let main_v8 : IVec S256 1 := andi main_v5 main_v7
  let main_c_4 : IVec S_ 1 := constantI S_ 1 1#1
  let main_v9 : IVec S_ 1 := (fun x v => Host.reduce IntOp.andi x v reducesTo_S256_S_d0 h_S_) main_v8 main_c_4
  let main_c_5 : IVec S_ 32 := constantI S_ 32 1#32
  let main_v10 : IVec S_ 1 := cmpi .sge main_v3 main_c_5
  let main_v11 : IVec S_ 1 := andi main_v9 main_v10
  let main_c_6 : IVec S_ 32 := constantI S_ 32 240#32
  let main_v12 : IVec S_ 1 := cmpi .sle main_v3 main_c_6
  let main_v13 : IVec S_ 1 := andi main_v11 main_v12
  let main_v14 : FVec F S491520x128 .f32 := Host.absf main_arg1
  let main_cst : FVec F S_ .f32 := constant S_ .f32 0x7F800000#32
  fn_part1 (F := F) main_arg2 main_arg3 main_arg4 main_arg5 main_arg6 main_arg7 main_arg8 main_arg9 main_v13 main_v14 main_cst
-- ==== Kernel.lean ====
abbrev S32768 : Shape := ⟨1, ![32768]⟩
abbrev S256 : Shape := ⟨1, ![256]⟩
abbrev S262144x128 : Shape := ⟨2, ![262144, 128]⟩
abbrev S_ : Shape := ⟨0, ![]⟩
abbrev S1 : Shape := ⟨1, ![1]⟩
abbrev S491520x128 : Shape := ⟨2, ![491520, 128]⟩
abbrev S8192x128 : Shape := ⟨2, ![8192, 128]⟩
abbrev S1024x128 : Shape := ⟨2, ![1024, 128]⟩
abbrev S8x128 : Shape := ⟨2, ![8, 128]⟩
abbrev S16x128 : Shape := ⟨2, ![16, 128]⟩
abbrev S32x128 : Shape := ⟨2, ![32, 128]⟩
abbrev S64x128 : Shape := ⟨2, ![64, 128]⟩
abbrev S128x128 : Shape := ⟨2, ![128, 128]⟩
abbrev S256x128 : Shape := ⟨2, ![256, 128]⟩
abbrev S512x128 : Shape := ⟨2, ![512, 128]⟩

abbrev nBuf : Space → Nat
  | .hbm => 39
  | .vmem => 3
  | .smem => 4
  | _ => 0

abbrev bufTy : (tb : Table) → Fin (tcTables nBuf tb) → BufTy
  | .hbm, ⟨0, _⟩ => ⟨S256, .i32⟩
  | .hbm, ⟨1, _⟩ => ⟨S262144x128, .f32⟩
  | .hbm, ⟨2, _⟩ => ⟨S_, .i32⟩
  | .hbm, ⟨3, _⟩ => ⟨S256, .i32⟩
  | .hbm, ⟨4, _⟩ => ⟨S256, .i32⟩
  | .hbm, ⟨5, _⟩ => ⟨S_, .i32⟩
  | .hbm, ⟨6, _⟩ => ⟨S256, .i32⟩
  | .hbm, ⟨7, _⟩ => ⟨S256, .i32⟩
  | .hbm, ⟨8, _⟩ => ⟨S_, .i32⟩
  | .hbm, ⟨9, _⟩ => ⟨S_, .i32⟩
  | .hbm, ⟨10, _⟩ => ⟨S256, .i32⟩
  | .hbm, ⟨11, _⟩ => ⟨S256, .i32⟩
  | .hbm, ⟨12, _⟩ => ⟨S256, .i32⟩
  | .hbm, ⟨13, _⟩ => ⟨S_, .i32⟩
  | .hbm, ⟨14, _⟩ => ⟨S256, .i32⟩
  | .hbm, ⟨15, _⟩ => ⟨S256, .i1⟩
  | .hbm, ⟨16, _⟩ => ⟨S256, .i32⟩
  | .hbm, ⟨17, _⟩ => ⟨S256, .i32⟩
  | .hbm, ⟨18, _⟩ => ⟨S_, .i32⟩
  | .hbm, ⟨19, _⟩ => ⟨S256, .i32⟩
  | .hbm, ⟨20, _⟩ => ⟨S256, .i1⟩
  | .hbm, ⟨21, _⟩ => ⟨S256, .i1⟩
  | .hbm, ⟨22, _⟩ => ⟨S_, .i32⟩
  | .hbm, ⟨23, _⟩ => ⟨S256, .i32⟩
  | .hbm, ⟨24, _⟩ => ⟨S256, .i32⟩
  | .hbm, ⟨25, _⟩ => ⟨S256, .i32⟩
  | .hbm, ⟨26, _⟩ => ⟨S_, .i32⟩
  | .hbm, ⟨27, _⟩ => ⟨S_, .i32⟩
  | .hbm, ⟨28, _⟩ => ⟨S256, .i32⟩
  | .hbm, ⟨29, _⟩ => ⟨S256, .i32⟩
  | .hbm, ⟨30, _⟩ => ⟨S_, .i32⟩
  | .hbm, ⟨31, _⟩ => ⟨S256, .i32⟩
  | .hbm, ⟨32, _⟩ => ⟨S256, .i32⟩
  | .hbm, ⟨33, _⟩ => ⟨S1, .i32⟩
  | .hbm, ⟨34, _⟩ => ⟨S_, .i32⟩
  | .hbm, ⟨35, _⟩ => ⟨S_, .i32⟩
  | .hbm, ⟨36, _⟩ => ⟨S256, .i32⟩
  | .hbm, ⟨37, _⟩ => ⟨S256, .i32⟩
  | .hbm, ⟨38, _⟩ => ⟨S491520x128, .f32⟩
  | .local _ .vmem, ⟨0, _⟩ => ⟨S8192x128, .f32⟩
  | .local _ .vmem, ⟨1, _⟩ => ⟨S8192x128, .f32⟩
  | .local _ .vmem, ⟨2, _⟩ => ⟨S1024x128, .f32⟩
  | .local _ .smem, ⟨0, _⟩ => ⟨S32768, .i32⟩
  | .local _ .smem, ⟨1, _⟩ => ⟨S256, .i32⟩
  | .local _ .smem, ⟨2, _⟩ => ⟨S256, .i32⟩
  | .local _ .smem, ⟨3, _⟩ => ⟨S1, .i32⟩
  | _, _ => ⟨S256, .i32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_c_1 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v4 : Ref sig .tc := ⟨.hbm, 25, rfl⟩
abbrev main_call1_call0_c : Ref sig .tc := ⟨.hbm, 26, rfl⟩
abbrev main_call1_call0_v0 : Ref sig .tc := ⟨.hbm, 27, rfl⟩
abbrev main_v5 : Ref sig .tc := ⟨.hbm, 28, rfl⟩
abbrev main_v6 : Ref sig .tc := ⟨.hbm, 29, rfl⟩
abbrev main_c_2 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_c_3 : Ref sig .tc := ⟨.hbm, 35, rfl⟩
abbrev main_v12 : Ref sig .tc := ⟨.hbm, 36, rfl⟩
abbrev main_v13 : Ref sig .tc := ⟨.hbm, 37, rfl⟩
abbrev main_v16 : Ref sig .tc := ⟨.hbm, 38, rfl⟩
abbrev main_arg0 : Ref sig .tc := ⟨.smem, 0, rfl⟩
abbrev main_v11 : Ref sig .tc := ⟨.smem, 1, rfl⟩
abbrev main_v14 : Ref sig .tc := ⟨.smem, 2, rfl⟩
abbrev main_v15 : Ref sig .tc := ⟨.smem, 3, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![32], ![false]⟩

abbrev pre0 : Pipeline.Prefetch sig := ⟨4, ![main_arg0.idx, main_v11.idx, main_v14.idx, main_v15.idx], fun | 0 => main_arg0.names | 1 => main_v11.names | 2 => main_v14.names | 3 => main_v15.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

@[reducible] def k0_t1_loop : Scf.Loop 32 :=
  let c0_i32_1 : BitVec 32 := 0#32
  let c8_i32 : BitVec 32 := 8#32
  let v4 : BitVec 32 := Scalar.addi c0_i32_1 c8_i32
  let c1_i32 : BitVec 32 := 1#32
  ⟨c0_i32_1, v4, c1_i32⟩
def k0_off1 (i : grid0.Coords) (k0_t1 : Fin k0_t1_loop.trips) : Fin 1 → Nat :=
  let c0_i32_1 : BitVec 32 := 0#32
  let c1_i32 : BitVec 32 := 1#32
  let arg10 : BitVec 32 := Scf.iv c0_i32_1 c1_i32 k0_t1
  let c32_i32_44 : BitVec 32 := 32#32
  let v64 : BitVec 32 := Scalar.muli arg10 c32_i32_44
  let arg0 : BitVec 32 := BitVec.ofNat 32 (i 0).val
  let v65 : BitVec 32 := Scalar.addi v64 arg0
  let v66 : Index := Scalar.indexCast v65
  ![v66.toNat]
def k0_mult1 (v67 : BitVec 32) : BitVec 32 :=
  let c8_i32_83 : BitVec 32 := 8#32
  let v124 : BitVec 32 := Scalar.muli v67 c8_i32_83
  v124
def k0_cond2 (v69 : BitVec 32) : BitVec 1 :=
  let c0_i32_45 : BitVec 32 := 0#32
  let v70 : BitVec 32 := Scalar.shrsi v69 c0_i32_45
  let c1_i32_46 : BitVec 32 := 1#32
  let v71 : BitVec 32 := Scalar.andi v70 c1_i32_46
  let c1_i32_47 : BitVec 32 := 1#32
  let v72 : BitVec 1 := Scalar.cmpi .eq v71 c1_i32_47
  let v73 : BitVec 32 := Scalar.extui v72
  let c0_i32_48 : BitVec 32 := 0#32
  let v74 : BitVec 1 := Scalar.cmpi .ne v73 c0_i32_48
  v74

def k0_off2 (v67 : BitVec 32) : Fin 2 → Nat :=
  let c8_i32_83 : BitVec 32 := 8#32
  let v124 : BitVec 32 := Scalar.muli v67 c8_i32_83
  let v125 : BitVec 32 := v124
  let c0_i32_84 : BitVec 32 := 0#32
  ![v125.toNat, 0]
def k0_mult2 (v67 : BitVec 32) (v69 : BitVec 32) : BitVec 32 :=
  let c0_i32_45 : BitVec 32 := 0#32
  let v70 : BitVec 32 := Scalar.shrsi v69 c0_i32_45
  let c1_i32_46 : BitVec 32 := 1#32
  let v71 : BitVec 32 := Scalar.andi v70 c1_i32_46
  let c1_i32_47 : BitVec 32 := 1#32
  let v72 : BitVec 1 := Scalar.cmpi .eq v71 c1_i32_47
  let c1_i32_49 : BitVec 32 := 1#32
  let c0_i32_50 : BitVec 32 := 0#32
  let v75 : BitVec 32 := Scalar.select v72 c1_i32_49 c0_i32_50
  let v76 : BitVec 32 := Scalar.addi v67 v75
  let c8_i32_83 : BitVec 32 := 8#32
  let v124 : BitVec 32 := Scalar.muli v76 c8_i32_83
  v124
def k0_cond3 (v69 : BitVec 32) : BitVec 1 :=
  let c1_i32_51 : BitVec 32 := 1#32
  let v77 : BitVec 32 := Scalar.shrsi v69 c1_i32_51
  let c1_i32_52 : BitVec 32 := 1#32
  let v78 : BitVec 32 := Scalar.andi v77 c1_i32_52
  let c1_i32_53 : BitVec 32 := 1#32
  let v79 : BitVec 1 := Scalar.cmpi .eq v78 c1_i32_53
  let v80 : BitVec 32 := Scalar.extui v79
  let c0_i32_54 : BitVec 32 := 0#32
  let v81 : BitVec 1 := Scalar.cmpi .ne v80 c0_i32_54
  v81

def k0_off3 (v67 : BitVec 32) (v69 : BitVec 32) : Fin 2 → Nat :=
  let c0_i32_45 : BitVec 32 := 0#32
  let v70 : BitVec 32 := Scalar.shrsi v69 c0_i32_45
  let c1_i32_46 : BitVec 32 := 1#32
  let v71 : BitVec 32 := Scalar.andi v70 c1_i32_46
  let c1_i32_47 : BitVec 32 := 1#32
  let v72 : BitVec 1 := Scalar.cmpi .eq v71 c1_i32_47
  let c1_i32_49 : BitVec 32 := 1#32
  let c0_i32_50 : BitVec 32 := 0#32
  let v75 : BitVec 32 := Scalar.select v72 c1_i32_49 c0_i32_50
  let v76 : BitVec 32 := Scalar.addi v67 v75
  let c8_i32_83 : BitVec 32 := 8#32
  let v124 : BitVec 32 := Scalar.muli v76 c8_i32_83
  let v125 : BitVec 32 := v124
  let c0_i32_84 : BitVec 32 := 0#32
  ![v125.toNat, 0]
def k0_mult3 (v67 : BitVec 32) (v69 : BitVec 32) : BitVec 32 :=
  let c0_i32_45 : BitVec 32 := 0#32
  let v70 : BitVec 32 := Scalar.shrsi v69 c0_i32_45
  let c1_i32_46 : BitVec 32 := 1#32
  let v71 : BitVec 32 := Scalar.andi v70 c1_i32_46
  let c1_i32_47 : BitVec 32 := 1#32
  let v72 : BitVec 1 := Scalar.cmpi .eq v71 c1_i32_47
  let c1_i32_49 : BitVec 32 := 1#32
  let c0_i32_50 : BitVec 32 := 0#32
  let v75 : BitVec 32 := Scalar.select v72 c1_i32_49 c0_i32_50
  let v76 : BitVec 32 := Scalar.addi v67 v75
  let c1_i32_51 : BitVec 32 := 1#32
  let v77 : BitVec 32 := Scalar.shrsi v69 c1_i32_51
  let c1_i32_52 : BitVec 32 := 1#32
  let v78 : BitVec 32 := Scalar.andi v77 c1_i32_52
  let c1_i32_53 : BitVec 32 := 1#32
  let v79 : BitVec 1 := Scalar.cmpi .eq v78 c1_i32_53
  let c2_i32 : BitVec 32 := 2#32
  let c0_i32_55 : BitVec 32 := 0#32
  let v82 : BitVec 32 := Scalar.select v79 c2_i32 c0_i32_55
  let v83 : BitVec 32 := Scalar.addi v76 v82
  let c8_i32_83 : BitVec 32 := 8#32
  let v124 : BitVec 32 := Scalar.muli v83 c8_i32_83
  v124
def k0_cond4 (v69 : BitVec 32) : BitVec 1 :=
  let c2_i32_56 : BitVec 32 := 2#32
  let v84 : BitVec 32 := Scalar.shrsi v69 c2_i32_56
  let c1_i32_57 : BitVec 32 := 1#32
  let v85 : BitVec 32 := Scalar.andi v84 c1_i32_57
  let c1_i32_58 : BitVec 32 := 1#32
  let v86 : BitVec 1 := Scalar.cmpi .eq v85 c1_i32_58
  let v87 : BitVec 32 := Scalar.extui v86
  let c0_i32_59 : BitVec 32 := 0#32
  let v88 : BitVec 1 := Scalar.cmpi .ne v87 c0_i32_59
  v88

def k0_off4 (v67 : BitVec 32) (v69 : BitVec 32) : Fin 2 → Nat :=
  let c0_i32_45 : BitVec 32 := 0#32
  let v70 : BitVec 32 := Scalar.shrsi v69 c0_i32_45
  let c1_i32_46 : BitVec 32 := 1#32
  let v71 : BitVec 32 := Scalar.andi v70 c1_i32_46
  let c1_i32_47 : BitVec 32 := 1#32
  let v72 : BitVec 1 := Scalar.cmpi .eq v71 c1_i32_47
  let c1_i32_49 : BitVec 32 := 1#32
  let c0_i32_50 : BitVec 32 := 0#32
  let v75 : BitVec 32 := Scalar.select v72 c1_i32_49 c0_i32_50
  let v76 : BitVec 32 := Scalar.addi v67 v75
  let c1_i32_51 : BitVec 32 := 1#32
  let v77 : BitVec 32 := Scalar.shrsi v69 c1_i32_51
  let c1_i32_52 : BitVec 32 := 1#32
  let v78 : BitVec 32 := Scalar.andi v77 c1_i32_52
  let c1_i32_53 : BitVec 32 := 1#32
  let v79 : BitVec 1 := Scalar.cmpi .eq v78 c1_i32_53
  let c2_i32 : BitVec 32 := 2#32
  let c0_i32_55 : BitVec 32 := 0#32
  let v82 : BitVec 32 := Scalar.select v79 c2_i32 c0_i32_55
  let v83 : BitVec 32 := Scalar.addi v76 v82
  let c8_i32_83 : BitVec 32 := 8#32
  let v124 : BitVec 32 := Scalar.muli v83 c8_i32_83
  let v125 : BitVec 32 := v124
  let c0_i32_84 : BitVec 32 := 0#32
  ![v125.toNat, 0]
def k0_mult4 (v67 : BitVec 32) (v69 : BitVec 32) : BitVec 32 :=
  let c0_i32_45 : BitVec 32 := 0#32
  let v70 : BitVec 32 := Scalar.shrsi v69 c0_i32_45
  let c1_i32_46 : BitVec 32 := 1#32
  let v71 : BitVec 32 := Scalar.andi v70 c1_i32_46
  let c1_i32_47 : BitVec 32 := 1#32
  let v72 : BitVec 1 := Scalar.cmpi .eq v71 c1_i32_47
  let c1_i32_49 : BitVec 32 := 1#32
  let c0_i32_50 : BitVec 32 := 0#32
  let v75 : BitVec 32 := Scalar.select v72 c1_i32_49 c0_i32_50
  let v76 : BitVec 32 := Scalar.addi v67 v75
  let c1_i32_51 : BitVec 32 := 1#32
  let v77 : BitVec 32 := Scalar.shrsi v69 c1_i32_51
  let c1_i32_52 : BitVec 32 := 1#32
  let v78 : BitVec 32 := Scalar.andi v77 c1_i32_52
  let c1_i32_53 : BitVec 32 := 1#32
  let v79 : BitVec 1 := Scalar.cmpi .eq v78 c1_i32_53
  let c2_i32 : BitVec 32 := 2#32
  let c0_i32_55 : BitVec 32 := 0#32
  let v82 : BitVec 32 := Scalar.select v79 c2_i32 c0_i32_55
  let v83 : BitVec 32 := Scalar.addi v76 v82
  let c2_i32_56 : BitVec 32 := 2#32
  let v84 : BitVec 32 := Scalar.shrsi v69 c2_i32_56
  let c1_i32_57 : BitVec 32 := 1#32
  let v85 : BitVec 32 := Scalar.andi v84 c1_i32_57
  let c1_i32_58 : BitVec 32 := 1#32
  let v86 : BitVec 1 := Scalar.cmpi .eq v85 c1_i32_58
  let c4_i32 : BitVec 32 := 4#32
  let c0_i32_60 : BitVec 32 := 0#32
  let v89 : BitVec 32 := Scalar.select v86 c4_i32 c0_i32_60
  let v90 : BitVec 32 := Scalar.addi v83 v89
  let c8_i32_83 : BitVec 32 := 8#32
  let v124 : BitVec 32 := Scalar.muli v90 c8_i32_83
  v124
def k0_cond5 (v69 : BitVec 32) : BitVec 1 :=
  let c3_i32 : BitVec 32 := 3#32
  let v91 : BitVec 32 := Scalar.shrsi v69 c3_i32
  let c1_i32_61 : BitVec 32 := 1#32
  let v92 : BitVec 32 := Scalar.andi v91 c1_i32_61
  let c1_i32_62 : BitVec 32 := 1#32
  let v93 : BitVec 1 := Scalar.cmpi .eq v92 c1_i32_62
  let v94 : BitVec 32 := Scalar.extui v93
  let c0_i32_63 : BitVec 32 := 0#32
  let v95 : BitVec 1 := Scalar.cmpi .ne v94 c0_i32_63
  v95

def k0_off5 (v67 : BitVec 32) (v69 : BitVec 32) : Fin 2 → Nat :=
  let c0_i32_45 : BitVec 32 := 0#32
  let v70 : BitVec 32 := Scalar.shrsi v69 c0_i32_45
  let c1_i32_46 : BitVec 32 := 1#32
  let v71 : BitVec 32 := Scalar.andi v70 c1_i32_46
  let c1_i32_47 : BitVec 32 := 1#32
  let v72 : BitVec 1 := Scalar.cmpi .eq v71 c1_i32_47
  let c1_i32_49 : BitVec 32 := 1#32
  let c0_i32_50 : BitVec 32 := 0#32
  let v75 : BitVec 32 := Scalar.select v72 c1_i32_49 c0_i32_50
  let v76 : BitVec 32 := Scalar.addi v67 v75
  let c1_i32_51 : BitVec 32 := 1#32
  let v77 : BitVec 32 := Scalar.shrsi v69 c1_i32_51
  let c1_i32_52 : BitVec 32 := 1#32
  let v78 : BitVec 32 := Scalar.andi v77 c1_i32_52
  let c1_i32_53 : BitVec 32 := 1#32
  let v79 : BitVec 1 := Scalar.cmpi .eq v78 c1_i32_53
  let c2_i32 : BitVec 32 := 2#32
  let c0_i32_55 : BitVec 32 := 0#32
  let v82 : BitVec 32 := Scalar.select v79 c2_i32 c0_i32_55
  let v83 : BitVec 32 := Scalar.addi v76 v82
  let c2_i32_56 : BitVec 32 := 2#32
  let v84 : BitVec 32 := Scalar.shrsi v69 c2_i32_56
  let c1_i32_57 : BitVec 32 := 1#32
  let v85 : BitVec 32 := Scalar.andi v84 c1_i32_57
  let c1_i32_58 : BitVec 32 := 1#32
  let v86 : BitVec 1 := Scalar.cmpi .eq v85 c1_i32_58
  let c4_i32 : BitVec 32 := 4#32
  let c0_i32_60 : BitVec 32 := 0#32
  let v89 : BitVec 32 := Scalar.select v86 c4_i32 c0_i32_60
  let v90 : BitVec 32 := Scalar.addi v83 v89
  let c8_i32_83 : BitVec 32 := 8#32
  let v124 : BitVec 32 := Scalar.muli v90 c8_i32_83
  let v125 : BitVec 32 := v124
  let c0_i32_84 : BitVec 32 := 0#32
  ![v125.toNat, 0]
def k0_mult5 (v67 : BitVec 32) (v69 : BitVec 32) : BitVec 32 :=
  let c0_i32_45 : BitVec 32 := 0#32
  let v70 : BitVec 32 := Scalar.shrsi v69 c0_i32_45
  let c1_i32_46 : BitVec 32 := 1#32
  let v71 : BitVec 32 := Scalar.andi v70 c1_i32_46
  let c1_i32_47 : BitVec 32 := 1#32
  let v72 : BitVec 1 := Scalar.cmpi .eq v71 c1_i32_47
  let c1_i32_49 : BitVec 32 := 1#32
  let c0_i32_50 : BitVec 32 := 0#32
  let v75 : BitVec 32 := Scalar.select v72 c1_i32_49 c0_i32_50
  let v76 : BitVec 32 := Scalar.addi v67 v75
  let c1_i32_51 : BitVec 32 := 1#32
  let v77 : BitVec 32 := Scalar.shrsi v69 c1_i32_51
  let c1_i32_52 : BitVec 32 := 1#32
  let v78 : BitVec 32 := Scalar.andi v77 c1_i32_52
  let c1_i32_53 : BitVec 32 := 1#32
  let v79 : BitVec 1 := Scalar.cmpi .eq v78 c1_i32_53
  let c2_i32 : BitVec 32 := 2#32
  let c0_i32_55 : BitVec 32 := 0#32
  let v82 : BitVec 32 := Scalar.select v79 c2_i32 c0_i32_55
  let v83 : BitVec 32 := Scalar.addi v76 v82
  let c2_i32_56 : BitVec 32 := 2#32
  let v84 : BitVec 32 := Scalar.shrsi v69 c2_i32_56
  let c1_i32_57 : BitVec 32 := 1#32
  let v85 : BitVec 32 := Scalar.andi v84 c1_i32_57
  let c1_i32_58 : BitVec 32 := 1#32
  let v86 : BitVec 1 := Scalar.cmpi .eq v85 c1_i32_58
  let c4_i32 : BitVec 32 := 4#32
  let c0_i32_60 : BitVec 32 := 0#32
  let v89 : BitVec 32 := Scalar.select v86 c4_i32 c0_i32_60
  let v90 : BitVec 32 := Scalar.addi v83 v89
  let c3_i32 : BitVec 32 := 3#32
  let v91 : BitVec 32 := Scalar.shrsi v69 c3_i32
  let c1_i32_61 : BitVec 32 := 1#32
  let v92 : BitVec 32 := Scalar.andi v91 c1_i32_61
  let c1_i32_62 : BitVec 32 := 1#32
  let v93 : BitVec 1 := Scalar.cmpi .eq v92 c1_i32_62
  let c8_i32_64 : BitVec 32 := 8#32
  let c0_i32_65 : BitVec 32 := 0#32
  let v96 : BitVec 32 := Scalar.select v93 c8_i32_64 c0_i32_65
  let v97 : BitVec 32 := Scalar.addi v90 v96
  let c8_i32_83 : BitVec 32 := 8#32
  let v124 : BitVec 32 := Scalar.muli v97 c8_i32_83
  v124
def k0_cond6 (v69 : BitVec 32) : BitVec 1 :=
  let c4_i32_66 : BitVec 32 := 4#32
  let v98 : BitVec 32 := Scalar.shrsi v69 c4_i32_66
  let c1_i32_67 : BitVec 32 := 1#32
  let v99 : BitVec 32 := Scalar.andi v98 c1_i32_67
  let c1_i32_68 : BitVec 32 := 1#32
  let v100 : BitVec 1 := Scalar.cmpi .eq v99 c1_i32_68
  let v101 : BitVec 32 := Scalar.extui v100
  let c0_i32_69 : BitVec 32 := 0#32
  let v102 : BitVec 1 := Scalar.cmpi .ne v101 c0_i32_69
  v102

def k0_off6 (v67 : BitVec 32) (v69 : BitVec 32) : Fin 2 → Nat :=
  let c0_i32_45 : BitVec 32 := 0#32
  let v70 : BitVec 32 := Scalar.shrsi v69 c0_i32_45
  let c1_i32_46 : BitVec 32 := 1#32
  let v71 : BitVec 32 := Scalar.andi v70 c1_i32_46
  let c1_i32_47 : BitVec 32 := 1#32
  let v72 : BitVec 1 := Scalar.cmpi .eq v71 c1_i32_47
  let c1_i32_49 : BitVec 32 := 1#32
  let c0_i32_50 : BitVec 32 := 0#32
  let v75 : BitVec 32 := Scalar.select v72 c1_i32_49 c0_i32_50
  let v76 : BitVec 32 := Scalar.addi v67 v75
  let c1_i32_51 : BitVec 32 := 1#32
  let v77 : BitVec 32 := Scalar.shrsi v69 c1_i32_51
  let c1_i32_52 : BitVec 32 := 1#32
  let v78 : BitVec 32 := Scalar.andi v77 c1_i32_52
  let c1_i32_53 : BitVec 32 := 1#32
  let v79 : BitVec 1 := Scalar.cmpi .eq v78 c1_i32_53
  let c2_i32 : BitVec 32 := 2#32
  let c0_i32_55 : BitVec 32 := 0#32
  let v82 : BitVec 32 := Scalar.select v79 c2_i32 c0_i32_55
  let v83 : BitVec 32 := Scalar.addi v76 v82
  let c2_i32_56 : BitVec 32 := 2#32
  let v84 : BitVec 32 := Scalar.shrsi v69 c2_i32_56
  let c1_i32_57 : BitVec 32 := 1#32
  let v85 : BitVec 32 := Scalar.andi v84 c1_i32_57
  let c1_i32_58 : BitVec 32 := 1#32
  let v86 : BitVec 1 := Scalar.cmpi .eq v85 c1_i32_58
  let c4_i32 : BitVec 32 := 4#32
  let c0_i32_60 : BitVec 32 := 0#32
  let v89 : BitVec 32 := Scalar.select v86 c4_i32 c0_i32_60
  let v90 : BitVec 32 := Scalar.addi v83 v89
  let c3_i32 : BitVec 32 := 3#32
  let v91 : BitVec 32 := Scalar.shrsi v69 c3_i32
  let c1_i32_61 : BitVec 32 := 1#32
  let v92 : BitVec 32 := Scalar.andi v91 c1_i32_61
  let c1_i32_62 : BitVec 32 := 1#32
  let v93 : BitVec 1 := Scalar.cmpi .eq v92 c1_i32_62
  let c8_i32_64 : BitVec 32 := 8#32
  let c0_i32_65 : BitVec 32 := 0#32
  let v96 : BitVec 32 := Scalar.select v93 c8_i32_64 c0_i32_65
  let v97 : BitVec 32 := Scalar.addi v90 v96
  let c8_i32_83 : BitVec 32 := 8#32
  let v124 : BitVec 32 := Scalar.muli v97 c8_i32_83
  let v125 : BitVec 32 := v124
  let c0_i32_84 : BitVec 32 := 0#32
  ![v125.toNat, 0]
def k0_mult6 (v67 : BitVec 32) (v69 : BitVec 32) : BitVec 32 :=
  let c0_i32_45 : BitVec 32 := 0#32
  let v70 : BitVec 32 := Scalar.shrsi v69 c0_i32_45
  let c1_i32_46 : BitVec 32 := 1#32
  let v71 : BitVec 32 := Scalar.andi v70 c1_i32_46
  let c1_i32_47 : BitVec 32 := 1#32
  let v72 : BitVec 1 := Scalar.cmpi .eq v71 c1_i32_47
  let c1_i32_49 : BitVec 32 := 1#32
  let c0_i32_50 : BitVec 32 := 0#32
  let v75 : BitVec 32 := Scalar.select v72 c1_i32_49 c0_i32_50
  let v76 : BitVec 32 := Scalar.addi v67 v75
  let c1_i32_51 : BitVec 32 := 1#32
  let v77 : BitVec 32 := Scalar.shrsi v69 c1_i32_51
  let c1_i32_52 : BitVec 32 := 1#32
  let v78 : BitVec 32 := Scalar.andi v77 c1_i32_52
  let c1_i32_53 : BitVec 32 := 1#32
  let v79 : BitVec 1 := Scalar.cmpi .eq v78 c1_i32_53
  let c2_i32 : BitVec 32 := 2#32
  let c0_i32_55 : BitVec 32 := 0#32
  let v82 : BitVec 32 := Scalar.select v79 c2_i32 c0_i32_55
  let v83 : BitVec 32 := Scalar.addi v76 v82
  let c2_i32_56 : BitVec 32 := 2#32
  let v84 : BitVec 32 := Scalar.shrsi v69 c2_i32_56
  let c1_i32_57 : BitVec 32 := 1#32
  let v85 : BitVec 32 := Scalar.andi v84 c1_i32_57
  let c1_i32_58 : BitVec 32 := 1#32
  let v86 : BitVec 1 := Scalar.cmpi .eq v85 c1_i32_58
  let c4_i32 : BitVec 32 := 4#32
  let c0_i32_60 : BitVec 32 := 0#32
  let v89 : BitVec 32 := Scalar.select v86 c4_i32 c0_i32_60
  let v90 : BitVec 32 := Scalar.addi v83 v89
  let c3_i32 : BitVec 32 := 3#32
  let v91 : BitVec 32 := Scalar.shrsi v69 c3_i32
  let c1_i32_61 : BitVec 32 := 1#32
  let v92 : BitVec 32 := Scalar.andi v91 c1_i32_61
  let c1_i32_62 : BitVec 32 := 1#32
  let v93 : BitVec 1 := Scalar.cmpi .eq v92 c1_i32_62
  let c8_i32_64 : BitVec 32 := 8#32
  let c0_i32_65 : BitVec 32 := 0#32
  let v96 : BitVec 32 := Scalar.select v93 c8_i32_64 c0_i32_65
  let v97 : BitVec 32 := Scalar.addi v90 v96
  let c4_i32_66 : BitVec 32 := 4#32
  let v98 : BitVec 32 := Scalar.shrsi v69 c4_i32_66
  let c1_i32_67 : BitVec 32 := 1#32
  let v99 : BitVec 32 := Scalar.andi v98 c1_i32_67
  let c1_i32_68 : BitVec 32 := 1#32
  let v100 : BitVec 1 := Scalar.cmpi .eq v99 c1_i32_68
  let c16_i32 : BitVec 32 := 16#32
  let c0_i32_70 : BitVec 32 := 0#32
  let v103 : BitVec 32 := Scalar.select v100 c16_i32 c0_i32_70
  let v104 : BitVec 32 := Scalar.addi v97 v103
  let c8_i32_83 : BitVec 32 := 8#32
  let v124 : BitVec 32 := Scalar.muli v104 c8_i32_83
  v124
def k0_cond7 (v69 : BitVec 32) : BitVec 1 :=
  let c5_i32 : BitVec 32 := 5#32
  let v105 : BitVec 32 := Scalar.shrsi v69 c5_i32
  let c1_i32_71 : BitVec 32 := 1#32
  let v106 : BitVec 32 := Scalar.andi v105 c1_i32_71
  let c1_i32_72 : BitVec 32 := 1#32
  let v107 : BitVec 1 := Scalar.cmpi .eq v106 c1_i32_72
  let v108 : BitVec 32 := Scalar.extui v107
  let c0_i32_73 : BitVec 32 := 0#32
  let v109 : BitVec 1 := Scalar.cmpi .ne v108 c0_i32_73
  v109

def k0_off7 (v67 : BitVec 32) (v69 : BitVec 32) : Fin 2 → Nat :=
  let c0_i32_45 : BitVec 32 := 0#32
  let v70 : BitVec 32 := Scalar.shrsi v69 c0_i32_45
  let c1_i32_46 : BitVec 32 := 1#32
  let v71 : BitVec 32 := Scalar.andi v70 c1_i32_46
  let c1_i32_47 : BitVec 32 := 1#32
  let v72 : BitVec 1 := Scalar.cmpi .eq v71 c1_i32_47
  let c1_i32_49 : BitVec 32 := 1#32
  let c0_i32_50 : BitVec 32 := 0#32
  let v75 : BitVec 32 := Scalar.select v72 c1_i32_49 c0_i32_50
  let v76 : BitVec 32 := Scalar.addi v67 v75
  let c1_i32_51 : BitVec 32 := 1#32
  let v77 : BitVec 32 := Scalar.shrsi v69 c1_i32_51
  let c1_i32_52 : BitVec 32 := 1#32
  let v78 : BitVec 32 := Scalar.andi v77 c1_i32_52
  let c1_i32_53 : BitVec 32 := 1#32
  let v79 : BitVec 1 := Scalar.cmpi .eq v78 c1_i32_53
  let c2_i32 : BitVec 32 := 2#32
  let c0_i32_55 : BitVec 32 := 0#32
  let v82 : BitVec 32 := Scalar.select v79 c2_i32 c0_i32_55
  let v83 : BitVec 32 := Scalar.addi v76 v82
  let c2_i32_56 : BitVec 32 := 2#32
  let v84 : BitVec 32 := Scalar.shrsi v69 c2_i32_56
  let c1_i32_57 : BitVec 32 := 1#32
  let v85 : BitVec 32 := Scalar.andi v84 c1_i32_57
  let c1_i32_58 : BitVec 32 := 1#32
  let v86 : BitVec 1 := Scalar.cmpi .eq v85 c1_i32_58
  let c4_i32 : BitVec 32 := 4#32
  let c0_i32_60 : BitVec 32 := 0#32
  let v89 : BitVec 32 := Scalar.select v86 c4_i32 c0_i32_60
  let v90 : BitVec 32 := Scalar.addi v83 v89
  let c3_i32 : BitVec 32 := 3#32
  let v91 : BitVec 32 := Scalar.shrsi v69 c3_i32
  let c1_i32_61 : BitVec 32 := 1#32
  let v92 : BitVec 32 := Scalar.andi v91 c1_i32_61
  let c1_i32_62 : BitVec 32 := 1#32
  let v93 : BitVec 1 := Scalar.cmpi .eq v92 c1_i32_62
  let c8_i32_64 : BitVec 32 := 8#32
  let c0_i32_65 : BitVec 32 := 0#32
  let v96 : BitVec 32 := Scalar.select v93 c8_i32_64 c0_i32_65
  let v97 : BitVec 32 := Scalar.addi v90 v96
  let c4_i32_66 : BitVec 32 := 4#32
  let v98 : BitVec 32 := Scalar.shrsi v69 c4_i32_66
  let c1_i32_67 : BitVec 32 := 1#32
  let v99 : BitVec 32 := Scalar.andi v98 c1_i32_67
  let c1_i32_68 : BitVec 32 := 1#32
  let v100 : BitVec 1 := Scalar.cmpi .eq v99 c1_i32_68
  let c16_i32 : BitVec 32 := 16#32
  let c0_i32_70 : BitVec 32 := 0#32
  let v103 : BitVec 32 := Scalar.select v100 c16_i32 c0_i32_70
  let v104 : BitVec 32 := Scalar.addi v97 v103
  let c8_i32_83 : BitVec 32 := 8#32
  let v124 : BitVec 32 := Scalar.muli v104 c8_i32_83
  let v125 : BitVec 32 := v124
  let c0_i32_84 : BitVec 32 := 0#32
  ![v125.toNat, 0]
def k0_mult7 (v67 : BitVec 32) (v69 : BitVec 32) : BitVec 32 :=
  let c0_i32_45 : BitVec 32 := 0#32
  let v70 : BitVec 32 := Scalar.shrsi v69 c0_i32_45
  let c1_i32_46 : BitVec 32 := 1#32
  let v71 : BitVec 32 := Scalar.andi v70 c1_i32_46
  let c1_i32_47 : BitVec 32 := 1#32
  let v72 : BitVec 1 := Scalar.cmpi .eq v71 c1_i32_47
  let c1_i32_49 : BitVec 32 := 1#32
  let c0_i32_50 : BitVec 32 := 0#32
  let v75 : BitVec 32 := Scalar.select v72 c1_i32_49 c0_i32_50
  let v76 : BitVec 32 := Scalar.addi v67 v75
  let c1_i32_51 : BitVec 32 := 1#32
  let v77 : BitVec 32 := Scalar.shrsi v69 c1_i32_51
  let c1_i32_52 : BitVec 32 := 1#32
  let v78 : BitVec 32 := Scalar.andi v77 c1_i32_52
  let c1_i32_53 : BitVec 32 := 1#32
  let v79 : BitVec 1 := Scalar.cmpi .eq v78 c1_i32_53
  let c2_i32 : BitVec 32 := 2#32
  let c0_i32_55 : BitVec 32 := 0#32
  let v82 : BitVec 32 := Scalar.select v79 c2_i32 c0_i32_55
  let v83 : BitVec 32 := Scalar.addi v76 v82
  let c2_i32_56 : BitVec 32 := 2#32
  let v84 : BitVec 32 := Scalar.shrsi v69 c2_i32_56
  let c1_i32_57 : BitVec 32 := 1#32
  let v85 : BitVec 32 := Scalar.andi v84 c1_i32_57
  let c1_i32_58 : BitVec 32 := 1#32
  let v86 : BitVec 1 := Scalar.cmpi .eq v85 c1_i32_58
  let c4_i32 : BitVec 32 := 4#32
  let c0_i32_60 : BitVec 32 := 0#32
  let v89 : BitVec 32 := Scalar.select v86 c4_i32 c0_i32_60
  let v90 : BitVec 32 := Scalar.addi v83 v89
  let c3_i32 : BitVec 32 := 3#32
  let v91 : BitVec 32 := Scalar.shrsi v69 c3_i32
  let c1_i32_61 : BitVec 32 := 1#32
  let v92 : BitVec 32 := Scalar.andi v91 c1_i32_61
  let c1_i32_62 : BitVec 32 := 1#32
  let v93 : BitVec 1 := Scalar.cmpi .eq v92 c1_i32_62
  let c8_i32_64 : BitVec 32 := 8#32
  let c0_i32_65 : BitVec 32 := 0#32
  let v96 : BitVec 32 := Scalar.select v93 c8_i32_64 c0_i32_65
  let v97 : BitVec 32 := Scalar.addi v90 v96
  let c4_i32_66 : BitVec 32 := 4#32
  let v98 : BitVec 32 := Scalar.shrsi v69 c4_i32_66
  let c1_i32_67 : BitVec 32 := 1#32
  let v99 : BitVec 32 := Scalar.andi v98 c1_i32_67
  let c1_i32_68 : BitVec 32 := 1#32
  let v100 : BitVec 1 := Scalar.cmpi .eq v99 c1_i32_68
  let c16_i32 : BitVec 32 := 16#32
  let c0_i32_70 : BitVec 32 := 0#32
  let v103 : BitVec 32 := Scalar.select v100 c16_i32 c0_i32_70
  let v104 : BitVec 32 := Scalar.addi v97 v103
  let c5_i32 : BitVec 32 := 5#32
  let v105 : BitVec 32 := Scalar.shrsi v69 c5_i32
  let c1_i32_71 : BitVec 32 := 1#32
  let v106 : BitVec 32 := Scalar.andi v105 c1_i32_71
  let c1_i32_72 : BitVec 32 := 1#32
  let v107 : BitVec 1 := Scalar.cmpi .eq v106 c1_i32_72
  let c32_i32_74 : BitVec 32 := 32#32
  let c0_i32_75 : BitVec 32 := 0#32
  let v110 : BitVec 32 := Scalar.select v107 c32_i32_74 c0_i32_75
  let v111 : BitVec 32 := Scalar.addi v104 v110
  let c8_i32_83 : BitVec 32 := 8#32
  let v124 : BitVec 32 := Scalar.muli v111 c8_i32_83
  v124
def k0_cond8 (v69 : BitVec 32) : BitVec 1 :=
  let c6_i32 : BitVec 32 := 6#32
  let v112 : BitVec 32 := Scalar.shrsi v69 c6_i32
  let c1_i32_76 : BitVec 32 := 1#32
  let v113 : BitVec 32 := Scalar.andi v112 c1_i32_76
  let c1_i32_77 : BitVec 32 := 1#32
  let v114 : BitVec 1 := Scalar.cmpi .eq v113 c1_i32_77
  let v115 : BitVec 32 := Scalar.extui v114
  let c0_i32_78 : BitVec 32 := 0#32
  let v116 : BitVec 1 := Scalar.cmpi .ne v115 c0_i32_78
  v116

def k0_off8 (v67 : BitVec 32) (v69 : BitVec 32) : Fin 2 → Nat :=
  let c0_i32_45 : BitVec 32 := 0#32
  let v70 : BitVec 32 := Scalar.shrsi v69 c0_i32_45
  let c1_i32_46 : BitVec 32 := 1#32
  let v71 : BitVec 32 := Scalar.andi v70 c1_i32_46
  let c1_i32_47 : BitVec 32 := 1#32
  let v72 : BitVec 1 := Scalar.cmpi .eq v71 c1_i32_47
  let c1_i32_49 : BitVec 32 := 1#32
  let c0_i32_50 : BitVec 32 := 0#32
  let v75 : BitVec 32 := Scalar.select v72 c1_i32_49 c0_i32_50
  let v76 : BitVec 32 := Scalar.addi v67 v75
  let c1_i32_51 : BitVec 32 := 1#32
  let v77 : BitVec 32 := Scalar.shrsi v69 c1_i32_51
  let c1_i32_52 : BitVec 32 := 1#32
  let v78 : BitVec 32 := Scalar.andi v77 c1_i32_52
  let c1_i32_53 : BitVec 32 := 1#32
  let v79 : BitVec 1 := Scalar.cmpi .eq v78 c1_i32_53
  let c2_i32 : BitVec 32 := 2#32
  let c0_i32_55 : BitVec 32 := 0#32
  let v82 : BitVec 32 := Scalar.select v79 c2_i32 c0_i32_55
  let v83 : BitVec 32 := Scalar.addi v76 v82
  let c2_i32_56 : BitVec 32 := 2#32
  let v84 : BitVec 32 := Scalar.shrsi v69 c2_i32_56
  let c1_i32_57 : BitVec 32 := 1#32
  let v85 : BitVec 32 := Scalar.andi v84 c1_i32_57
  let c1_i32_58 : BitVec 32 := 1#32
  let v86 : BitVec 1 := Scalar.cmpi .eq v85 c1_i32_58
  let c4_i32 : BitVec 32 := 4#32
  let c0_i32_60 : BitVec 32 := 0#32
  let v89 : BitVec 32 := Scalar.select v86 c4_i32 c0_i32_60
  let v90 : BitVec 32 := Scalar.addi v83 v89
  let c3_i32 : BitVec 32 := 3#32
  let v91 : BitVec 32 := Scalar.shrsi v69 c3_i32
  let c1_i32_61 : BitVec 32 := 1#32
  let v92 : BitVec 32 := Scalar.andi v91 c1_i32_61
  let c1_i32_62 : BitVec 32 := 1#32
  let v93 : BitVec 1 := Scalar.cmpi .eq v92 c1_i32_62
  let c8_i32_64 : BitVec 32 := 8#32
  let c0_i32_65 : BitVec 32 := 0#32
  let v96 : BitVec 32 := Scalar.select v93 c8_i32_64 c0_i32_65
  let v97 : BitVec 32 := Scalar.addi v90 v96
  let c4_i32_66 : BitVec 32 := 4#32
  let v98 : BitVec 32 := Scalar.shrsi v69 c4_i32_66
  let c1_i32_67 : BitVec 32 := 1#32
  let v99 : BitVec 32 := Scalar.andi v98 c1_i32_67
  let c1_i32_68 : BitVec 32 := 1#32
  let v100 : BitVec 1 := Scalar.cmpi .eq v99 c1_i32_68
  let c16_i32 : BitVec 32 := 16#32
  let c0_i32_70 : BitVec 32 := 0#32
  let v103 : BitVec 32 := Scalar.select v100 c16_i32 c0_i32_70
  let v104 : BitVec 32 := Scalar.addi v97 v103
  let c5_i32 : BitVec 32 := 5#32
  let v105 : BitVec 32 := Scalar.shrsi v69 c5_i32
  let c1_i32_71 : BitVec 32 := 1#32
  let v106 : BitVec 32 := Scalar.andi v105 c1_i32_71
  let c1_i32_72 : BitVec 32 := 1#32
  let v107 : BitVec 1 := Scalar.cmpi .eq v106 c1_i32_72
  let c32_i32_74 : BitVec 32 := 32#32
  let c0_i32_75 : BitVec 32 := 0#32
  let v110 : BitVec 32 := Scalar.select v107 c32_i32_74 c0_i32_75
  let v111 : BitVec 32 := Scalar.addi v104 v110
  let c8_i32_83 : BitVec 32 := 8#32
  let v124 : BitVec 32 := Scalar.muli v111 c8_i32_83
  let v125 : BitVec 32 := v124
  let c0_i32_84 : BitVec 32 := 0#32
  ![v125.toNat, 0]
def k0_mult8 (v67 : BitVec 32) (v69 : BitVec 32) : BitVec 32 :=
  let c0_i32_45 : BitVec 32 := 0#32
  let v70 : BitVec 32 := Scalar.shrsi v69 c0_i32_45
  let c1_i32_46 : BitVec 32 := 1#32
  let v71 : BitVec 32 := Scalar.andi v70 c1_i32_46
  let c1_i32_47 : BitVec 32 := 1#32
  let v72 : BitVec 1 := Scalar.cmpi .eq v71 c1_i32_47
  let c1_i32_49 : BitVec 32 := 1#32
  let c0_i32_50 : BitVec 32 := 0#32
  let v75 : BitVec 32 := Scalar.select v72 c1_i32_49 c0_i32_50
  let v76 : BitVec 32 := Scalar.addi v67 v75
  let c1_i32_51 : BitVec 32 := 1#32
  let v77 : BitVec 32 := Scalar.shrsi v69 c1_i32_51
  let c1_i32_52 : BitVec 32 := 1#32
  let v78 : BitVec 32 := Scalar.andi v77 c1_i32_52
  let c1_i32_53 : BitVec 32 := 1#32
  let v79 : BitVec 1 := Scalar.cmpi .eq v78 c1_i32_53
  let c2_i32 : BitVec 32 := 2#32
  let c0_i32_55 : BitVec 32 := 0#32
  let v82 : BitVec 32 := Scalar.select v79 c2_i32 c0_i32_55
  let v83 : BitVec 32 := Scalar.addi v76 v82
  let c2_i32_56 : BitVec 32 := 2#32
  let v84 : BitVec 32 := Scalar.shrsi v69 c2_i32_56
  let c1_i32_57 : BitVec 32 := 1#32
  let v85 : BitVec 32 := Scalar.andi v84 c1_i32_57
  let c1_i32_58 : BitVec 32 := 1#32
  let v86 : BitVec 1 := Scalar.cmpi .eq v85 c1_i32_58
  let c4_i32 : BitVec 32 := 4#32
  let c0_i32_60 : BitVec 32 := 0#32
  let v89 : BitVec 32 := Scalar.select v86 c4_i32 c0_i32_60
  let v90 : BitVec 32 := Scalar.addi v83 v89
  let c3_i32 : BitVec 32 := 3#32
  let v91 : BitVec 32 := Scalar.shrsi v69 c3_i32
  let c1_i32_61 : BitVec 32 := 1#32
  let v92 : BitVec 32 := Scalar.andi v91 c1_i32_61
  let c1_i32_62 : BitVec 32 := 1#32
  let v93 : BitVec 1 := Scalar.cmpi .eq v92 c1_i32_62
  let c8_i32_64 : BitVec 32 := 8#32
  let c0_i32_65 : BitVec 32 := 0#32
  let v96 : BitVec 32 := Scalar.select v93 c8_i32_64 c0_i32_65
  let v97 : BitVec 32 := Scalar.addi v90 v96
  let c4_i32_66 : BitVec 32 := 4#32
  let v98 : BitVec 32 := Scalar.shrsi v69 c4_i32_66
  let c1_i32_67 : BitVec 32 := 1#32
  let v99 : BitVec 32 := Scalar.andi v98 c1_i32_67
  let c1_i32_68 : BitVec 32 := 1#32
  let v100 : BitVec 1 := Scalar.cmpi .eq v99 c1_i32_68
  let c16_i32 : BitVec 32 := 16#32
  let c0_i32_70 : BitVec 32 := 0#32
  let v103 : BitVec 32 := Scalar.select v100 c16_i32 c0_i32_70
  let v104 : BitVec 32 := Scalar.addi v97 v103
  let c5_i32 : BitVec 32 := 5#32
  let v105 : BitVec 32 := Scalar.shrsi v69 c5_i32
  let c1_i32_71 : BitVec 32 := 1#32
  let v106 : BitVec 32 := Scalar.andi v105 c1_i32_71
  let c1_i32_72 : BitVec 32 := 1#32
  let v107 : BitVec 1 := Scalar.cmpi .eq v106 c1_i32_72
  let c32_i32_74 : BitVec 32 := 32#32
  let c0_i32_75 : BitVec 32 := 0#32
  let v110 : BitVec 32 := Scalar.select v107 c32_i32_74 c0_i32_75
  let v111 : BitVec 32 := Scalar.addi v104 v110
  let c6_i32 : BitVec 32 := 6#32
  let v112 : BitVec 32 := Scalar.shrsi v69 c6_i32
  let c1_i32_76 : BitVec 32 := 1#32
  let v113 : BitVec 32 := Scalar.andi v112 c1_i32_76
  let c1_i32_77 : BitVec 32 := 1#32
  let v114 : BitVec 1 := Scalar.cmpi .eq v113 c1_i32_77
  let c64_i32 : BitVec 32 := 64#32
  let c0_i32_79 : BitVec 32 := 0#32
  let v117 : BitVec 32 := Scalar.select v114 c64_i32 c0_i32_79
  let v118 : BitVec 32 := Scalar.addi v111 v117
  let c8_i32_83 : BitVec 32 := 8#32
  let v124 : BitVec 32 := Scalar.muli v118 c8_i32_83
  v124
def k0_cond9 (v69 : BitVec 32) : BitVec 1 :=
  let c7_i32 : BitVec 32 := 7#32
  let v119 : BitVec 32 := Scalar.shrsi v69 c7_i32
  let c1_i32_80 : BitVec 32 := 1#32
  let v120 : BitVec 32 := Scalar.andi v119 c1_i32_80
  let c1_i32_81 : BitVec 32 := 1#32
  let v121 : BitVec 1 := Scalar.cmpi .eq v120 c1_i32_81
  let v122 : BitVec 32 := Scalar.extui v121
  let c0_i32_82 : BitVec 32 := 0#32
  let v123 : BitVec 1 := Scalar.cmpi .ne v122 c0_i32_82
  v123

def k0_off9 (v67 : BitVec 32) (v69 : BitVec 32) : Fin 2 → Nat :=
  let c0_i32_45 : BitVec 32 := 0#32
  let v70 : BitVec 32 := Scalar.shrsi v69 c0_i32_45
  let c1_i32_46 : BitVec 32 := 1#32
  let v71 : BitVec 32 := Scalar.andi v70 c1_i32_46
  let c1_i32_47 : BitVec 32 := 1#32
  let v72 : BitVec 1 := Scalar.cmpi .eq v71 c1_i32_47
  let c1_i32_49 : BitVec 32 := 1#32
  let c0_i32_50 : BitVec 32 := 0#32
  let v75 : BitVec 32 := Scalar.select v72 c1_i32_49 c0_i32_50
  let v76 : BitVec 32 := Scalar.addi v67 v75
  let c1_i32_51 : BitVec 32 := 1#32
  let v77 : BitVec 32 := Scalar.shrsi v69 c1_i32_51
  let c1_i32_52 : BitVec 32 := 1#32
  let v78 : BitVec 32 := Scalar.andi v77 c1_i32_52
  let c1_i32_53 : BitVec 32 := 1#32
  let v79 : BitVec 1 := Scalar.cmpi .eq v78 c1_i32_53
  let c2_i32 : BitVec 32 := 2#32
  let c0_i32_55 : BitVec 32 := 0#32
  let v82 : BitVec 32 := Scalar.select v79 c2_i32 c0_i32_55
  let v83 : BitVec 32 := Scalar.addi v76 v82
  let c2_i32_56 : BitVec 32 := 2#32
  let v84 : BitVec 32 := Scalar.shrsi v69 c2_i32_56
  let c1_i32_57 : BitVec 32 := 1#32
  let v85 : BitVec 32 := Scalar.andi v84 c1_i32_57
  let c1_i32_58 : BitVec 32 := 1#32
  let v86 : BitVec 1 := Scalar.cmpi .eq v85 c1_i32_58
  let c4_i32 : BitVec 32 := 4#32
  let c0_i32_60 : BitVec 32 := 0#32
  let v89 : BitVec 32 := Scalar.select v86 c4_i32 c0_i32_60
  let v90 : BitVec 32 := Scalar.addi v83 v89
  let c3_i32 : BitVec 32 := 3#32
  let v91 : BitVec 32 := Scalar.shrsi v69 c3_i32
  let c1_i32_61 : BitVec 32 := 1#32
  let v92 : BitVec 32 := Scalar.andi v91 c1_i32_61
  let c1_i32_62 : BitVec 32 := 1#32
  let v93 : BitVec 1 := Scalar.cmpi .eq v92 c1_i32_62
  let c8_i32_64 : BitVec 32 := 8#32
  let c0_i32_65 : BitVec 32 := 0#32
  let v96 : BitVec 32 := Scalar.select v93 c8_i32_64 c0_i32_65
  let v97 : BitVec 32 := Scalar.addi v90 v96
  let c4_i32_66 : BitVec 32 := 4#32
  let v98 : BitVec 32 := Scalar.shrsi v69 c4_i32_66
  let c1_i32_67 : BitVec 32 := 1#32
  let v99 : BitVec 32 := Scalar.andi v98 c1_i32_67
  let c1_i32_68 : BitVec 32 := 1#32
  let v100 : BitVec 1 := Scalar.cmpi .eq v99 c1_i32_68
  let c16_i32 : BitVec 32 := 16#32
  let c0_i32_70 : BitVec 32 := 0#32
  let v103 : BitVec 32 := Scalar.select v100 c16_i32 c0_i32_70
  let v104 : BitVec 32 := Scalar.addi v97 v103
  let c5_i32 : BitVec 32 := 5#32
  let v105 : BitVec 32 := Scalar.shrsi v69 c5_i32
  let c1_i32_71 : BitVec 32 := 1#32
  let v106 : BitVec 32 := Scalar.andi v105 c1_i32_71
  let c1_i32_72 : BitVec 32 := 1#32
  let v107 : BitVec 1 := Scalar.cmpi .eq v106 c1_i32_72
  let c32_i32_74 : BitVec 32 := 32#32
  let c0_i32_75 : BitVec 32 := 0#32
  let v110 : BitVec 32 := Scalar.select v107 c32_i32_74 c0_i32_75
  let v111 : BitVec 32 := Scalar.addi v104 v110
  let c6_i32 : BitVec 32 := 6#32
  let v112 : BitVec 32 := Scalar.shrsi v69 c6_i32
  let c1_i32_76 : BitVec 32 := 1#32
  let v113 : BitVec 32 := Scalar.andi v112 c1_i32_76
  let c1_i32_77 : BitVec 32 := 1#32
  let v114 : BitVec 1 := Scalar.cmpi .eq v113 c1_i32_77
  let c64_i32 : BitVec 32 := 64#32
  let c0_i32_79 : BitVec 32 := 0#32
  let v117 : BitVec 32 := Scalar.select v114 c64_i32 c0_i32_79
  let v118 : BitVec 32 := Scalar.addi v111 v117
  let c8_i32_83 : BitVec 32 := 8#32
  let v124 : BitVec 32 := Scalar.muli v118 c8_i32_83
  let v125 : BitVec 32 := v124
  let c0_i32_84 : BitVec 32 := 0#32
  ![v125.toNat, 0]

def k0_chk1 (v67 : BitVec 32) (v69 : BitVec 32) : Prop :=
  (∀ (k0_h2 : k0_cond2 v69 = 1#1), 8 ∣ (k0_mult1 v67).toNat) ∧
  (∀ (k0_h2 : k0_cond2 v69 = 1#1), ∀ a, (k0_off2 v67) a + S8x128.size a ≤ S491520x128.size a) ∧
  (∀ (k0_h3 : k0_cond3 v69 = 1#1), 8 ∣ (k0_mult2 v67 v69).toNat) ∧
  (∀ (k0_h3 : k0_cond3 v69 = 1#1), ∀ a, (k0_off3 v67 v69) a + S16x128.size a ≤ S491520x128.size a) ∧
  (∀ (k0_h4 : k0_cond4 v69 = 1#1), 8 ∣ (k0_mult3 v67 v69).toNat) ∧
  (∀ (k0_h4 : k0_cond4 v69 = 1#1), ∀ a, (k0_off4 v67 v69) a + S32x128.size a ≤ S491520x128.size a) ∧
  (∀ (k0_h5 : k0_cond5 v69 = 1#1), 8 ∣ (k0_mult4 v67 v69).toNat) ∧
  (∀ (k0_h5 : k0_cond5 v69 = 1#1), ∀ a, (k0_off5 v67 v69) a + S64x128.size a ≤ S491520x128.size a) ∧
  (∀ (k0_h6 : k0_cond6 v69 = 1#1), 8 ∣ (k0_mult5 v67 v69).toNat) ∧
  (∀ (k0_h6 : k0_cond6 v69 = 1#1), ∀ a, (k0_off6 v67 v69) a + S128x128.size a ≤ S491520x128.size a) ∧
  (∀ (k0_h7 : k0_cond7 v69 = 1#1), 8 ∣ (k0_mult6 v67 v69).toNat) ∧
  (∀ (k0_h7 : k0_cond7 v69 = 1#1), ∀ a, (k0_off7 v67 v69) a + S256x128.size a ≤ S491520x128.size a) ∧
  (∀ (k0_h8 : k0_cond8 v69 = 1#1), 8 ∣ (k0_mult7 v67 v69).toNat) ∧
  (∀ (k0_h8 : k0_cond8 v69 = 1#1), ∀ a, (k0_off8 v67 v69) a + S512x128.size a ≤ S491520x128.size a) ∧
  (∀ (k0_h9 : k0_cond9 v69 = 1#1), 8 ∣ (k0_mult8 v67 v69).toNat) ∧
  (∀ (k0_h9 : k0_cond9 v69 = 1#1), ∀ a, (k0_off9 v67 v69) a + S1024x128.size a ≤ S491520x128.size a)
theorem k0_mult1_dvd : ∀ (v67 : BitVec 32) (v69 : BitVec 32) (k0_hw1 : k0_chk1 v67 v69), ∀ (k0_h2 : k0_cond2 v69 = 1#1), 8 ∣ (k0_mult1 v67).toNat := fun v67 v69 k0_hw1 k0_h2 => k0_hw1.1 k0_h2
theorem k0_off2_inb : ∀ (v67 : BitVec 32) (v69 : BitVec 32) (k0_hw1 : k0_chk1 v67 v69), ∀ (k0_h2 : k0_cond2 v69 = 1#1), ∀ a, (k0_off2 v67) a + S8x128.size a ≤ S491520x128.size a := fun v67 v69 k0_hw1 k0_h2 => k0_hw1.2.1 k0_h2
theorem k0_mult2_dvd : ∀ (v67 : BitVec 32) (v69 : BitVec 32) (k0_hw1 : k0_chk1 v67 v69), ∀ (k0_h3 : k0_cond3 v69 = 1#1), 8 ∣ (k0_mult2 v67 v69).toNat := fun v67 v69 k0_hw1 k0_h3 => k0_hw1.2.2.1 k0_h3
theorem k0_off3_inb : ∀ (v67 : BitVec 32) (v69 : BitVec 32) (k0_hw1 : k0_chk1 v67 v69), ∀ (k0_h3 : k0_cond3 v69 = 1#1), ∀ a, (k0_off3 v67 v69) a + S16x128.size a ≤ S491520x128.size a := fun v67 v69 k0_hw1 k0_h3 => k0_hw1.2.2.2.1 k0_h3
theorem k0_mult3_dvd : ∀ (v67 : BitVec 32) (v69 : BitVec 32) (k0_hw1 : k0_chk1 v67 v69), ∀ (k0_h4 : k0_cond4 v69 = 1#1), 8 ∣ (k0_mult3 v67 v69).toNat := fun v67 v69 k0_hw1 k0_h4 => k0_hw1.2.2.2.2.1 k0_h4
theorem k0_off4_inb : ∀ (v67 : BitVec 32) (v69 : BitVec 32) (k0_hw1 : k0_chk1 v67 v69), ∀ (k0_h4 : k0_cond4 v69 = 1#1), ∀ a, (k0_off4 v67 v69) a + S32x128.size a ≤ S491520x128.size a := fun v67 v69 k0_hw1 k0_h4 => k0_hw1.2.2.2.2.2.1 k0_h4
theorem k0_mult4_dvd : ∀ (v67 : BitVec 32) (v69 : BitVec 32) (k0_hw1 : k0_chk1 v67 v69), ∀ (k0_h5 : k0_cond5 v69 = 1#1), 8 ∣ (k0_mult4 v67 v69).toNat := fun v67 v69 k0_hw1 k0_h5 => k0_hw1.2.2.2.2.2.2.1 k0_h5
theorem k0_off5_inb : ∀ (v67 : BitVec 32) (v69 : BitVec 32) (k0_hw1 : k0_chk1 v67 v69), ∀ (k0_h5 : k0_cond5 v69 = 1#1), ∀ a, (k0_off5 v67 v69) a + S64x128.size a ≤ S491520x128.size a := fun v67 v69 k0_hw1 k0_h5 => k0_hw1.2.2.2.2.2.2.2.1 k0_h5
theorem k0_mult5_dvd : ∀ (v67 : BitVec 32) (v69 : BitVec 32) (k0_hw1 : k0_chk1 v67 v69), ∀ (k0_h6 : k0_cond6 v69 = 1#1), 8 ∣ (k0_mult5 v67 v69).toNat := fun v67 v69 k0_hw1 k0_h6 => k0_hw1.2.2.2.2.2.2.2.2.1 k0_h6
theorem k0_off6_inb : ∀ (v67 : BitVec 32) (v69 : BitVec 32) (k0_hw1 : k0_chk1 v67 v69), ∀ (k0_h6 : k0_cond6 v69 = 1#1), ∀ a, (k0_off6 v67 v69) a + S128x128.size a ≤ S491520x128.size a := fun v67 v69 k0_hw1 k0_h6 => k0_hw1.2.2.2.2.2.2.2.2.2.1 k0_h6
theorem k0_mult6_dvd : ∀ (v67 : BitVec 32) (v69 : BitVec 32) (k0_hw1 : k0_chk1 v67 v69), ∀ (k0_h7 : k0_cond7 v69 = 1#1), 8 ∣ (k0_mult6 v67 v69).toNat := fun v67 v69 k0_hw1 k0_h7 => k0_hw1.2.2.2.2.2.2.2.2.2.2.1 k0_h7
theorem k0_off7_inb : ∀ (v67 : BitVec 32) (v69 : BitVec 32) (k0_hw1 : k0_chk1 v67 v69), ∀ (k0_h7 : k0_cond7 v69 = 1#1), ∀ a, (k0_off7 v67 v69) a + S256x128.size a ≤ S491520x128.size a := fun v67 v69 k0_hw1 k0_h7 => k0_hw1.2.2.2.2.2.2.2.2.2.2.2.1 k0_h7
theorem k0_mult7_dvd : ∀ (v67 : BitVec 32) (v69 : BitVec 32) (k0_hw1 : k0_chk1 v67 v69), ∀ (k0_h8 : k0_cond8 v69 = 1#1), 8 ∣ (k0_mult7 v67 v69).toNat := fun v67 v69 k0_hw1 k0_h8 => k0_hw1.2.2.2.2.2.2.2.2.2.2.2.2.1 k0_h8
theorem k0_off8_inb : ∀ (v67 : BitVec 32) (v69 : BitVec 32) (k0_hw1 : k0_chk1 v67 v69), ∀ (k0_h8 : k0_cond8 v69 = 1#1), ∀ a, (k0_off8 v67 v69) a + S512x128.size a ≤ S491520x128.size a := fun v67 v69 k0_hw1 k0_h8 => k0_hw1.2.2.2.2.2.2.2.2.2.2.2.2.2.1 k0_h8
theorem k0_mult8_dvd : ∀ (v67 : BitVec 32) (v69 : BitVec 32) (k0_hw1 : k0_chk1 v67 v69), ∀ (k0_h9 : k0_cond9 v69 = 1#1), 8 ∣ (k0_mult8 v67 v69).toNat := fun v67 v69 k0_hw1 k0_h9 => k0_hw1.2.2.2.2.2.2.2.2.2.2.2.2.2.2.1 k0_h9
theorem k0_off9_inb : ∀ (v67 : BitVec 32) (v69 : BitVec 32) (k0_hw1 : k0_chk1 v67 v69), ∀ (k0_h9 : k0_cond9 v69 = 1#1), ∀ a, (k0_off9 v67 v69) a + S1024x128.size a ≤ S491520x128.size a := fun v67 v69 k0_hw1 k0_h9 => k0_hw1.2.2.2.2.2.2.2.2.2.2.2.2.2.2.2 k0_h9

@[reducible] def k0_t2_loop (i : grid0.Coords) (v5 : BitVec 32) : Scf.Loop 32 :=
  let c0_i32_13 : BitVec 32 := 0#32
  let c240_i32 : BitVec 32 := 240#32
  let v6 : BitVec 32 := Scalar.subi c240_i32 v5
  let arg0 : BitVec 32 := BitVec.ofNat 32 (i 0).val
  let v7 : BitVec 32 := Scalar.subi v6 arg0
  let c0_i32_3 : BitVec 32 := 0#32
  let v8 : BitVec 32 := Scalar.maxsi v7 c0_i32_3
  let c32_i32 : BitVec 32 := 32#32
  let v9 : BitVec 32 := Scalar.addi v8 c32_i32
  let c1_i32_4 : BitVec 32 := 1#32
  let v10 : BitVec 32 := Scalar.subi v9 c1_i32_4
  let c0_i32_6 : BitVec 32 := 0#32
  let v12 : BitVec 1 := Scalar.cmpi .sgt v10 c0_i32_6
  let v13 : BitVec 32 := Scalar.extui v12
  let c0_i32_7 : BitVec 32 := 0#32
  let v14 : BitVec 1 := Scalar.cmpi .slt v10 c0_i32_7
  let v15 : BitVec 32 := Scalar.extui v14
  let v16 : BitVec 32 := Scalar.subi v13 v15
  let c32_i32_5 : BitVec 32 := 32#32
  let c0_i32_8 : BitVec 32 := 0#32
  let v17 : BitVec 1 := Scalar.cmpi .sgt c32_i32_5 c0_i32_8
  let v18 : BitVec 32 := Scalar.extui v17
  let c0_i32_9 : BitVec 32 := 0#32
  let v19 : BitVec 1 := Scalar.cmpi .slt c32_i32_5 c0_i32_9
  let v20 : BitVec 32 := Scalar.extui v19
  let v21 : BitVec 32 := Scalar.subi v18 v20
  let v22 : BitVec 1 := Scalar.cmpi .ne v16 v21
  let v23 : BitVec 32 := Scalar.remsi v10 c32_i32_5
  let c0_i32_10 : BitVec 32 := 0#32
  let v24 : BitVec 1 := Scalar.cmpi .ne v23 c0_i32_10
  let v25 : BitVec 1 := Scalar.andi v22 v24
  let v11 : BitVec 32 := Scalar.divsi v10 c32_i32_5
  let c1_i32_11 : BitVec 32 := 1#32
  let v26 : BitVec 32 := Scalar.subi v11 c1_i32_11
  let v27 : BitVec 32 := Scalar.select v25 v26 v11
  let v28 : BitVec 32 := Scalar.subi v27 c0_i32_13
  let c1_i32_14 : BitVec 32 := 1#32
  let v30 : BitVec 32 := Scalar.divsi v28 c1_i32_14
  let v31 : BitVec 32 := Scalar.muli v30 c1_i32_14
  let v32 : BitVec 32 := Scalar.addi c0_i32_13 v31
  let c1_i32_15 : BitVec 32 := 1#32
  ⟨c0_i32_13, v32, c1_i32_15⟩

def k0_mult9 (i : grid0.Coords) (v5 : BitVec 32) (k0_t2 : Fin (k0_t2_loop i v5).trips) (v64 : BitVec 32) : BitVec 32 :=
  let arg0 : BitVec 32 := BitVec.ofNat 32 (i 0).val
  let v65 : BitVec 32 := Scalar.addi v64 arg0
  let c0_i32_13 : BitVec 32 := 0#32
  let c1_i32_15 : BitVec 32 := 1#32
  let arg10 : BitVec 32 := Scf.iv c0_i32_13 c1_i32_15 k0_t2
  let c32_i32_45 : BitVec 32 := 32#32
  let v66 : BitVec 32 := Scalar.muli arg10 c32_i32_45
  let v67 : BitVec 32 := Scalar.addi v65 v66
  let c2_i32 : BitVec 32 := 2#32
  let v68 : BitVec 32 := Scalar.muli v67 c2_i32
  let c128_i32_46 : BitVec 32 := 128#32
  let v69 : BitVec 32 := Scalar.muli v68 c128_i32_46
  let c8_i32_47 : BitVec 32 := 8#32
  let v70 : BitVec 32 := Scalar.muli v69 c8_i32_47
  v70

def k0_off10 (i : grid0.Coords) (v5 : BitVec 32) (k0_t2 : Fin (k0_t2_loop i v5).trips) (v64 : BitVec 32) : Fin 2 → Nat :=
  let arg0 : BitVec 32 := BitVec.ofNat 32 (i 0).val
  let v65 : BitVec 32 := Scalar.addi v64 arg0
  let c0_i32_13 : BitVec 32 := 0#32
  let c1_i32_15 : BitVec 32 := 1#32
  let arg10 : BitVec 32 := Scf.iv c0_i32_13 c1_i32_15 k0_t2
  let c32_i32_45 : BitVec 32 := 32#32
  let v66 : BitVec 32 := Scalar.muli arg10 c32_i32_45
  let v67 : BitVec 32 := Scalar.addi v65 v66
  let c2_i32 : BitVec 32 := 2#32
  let v68 : BitVec 32 := Scalar.muli v67 c2_i32
  let c128_i32_46 : BitVec 32 := 128#32
  let v69 : BitVec 32 := Scalar.muli v68 c128_i32_46
  let c8_i32_47 : BitVec 32 := 8#32
  let v70 : BitVec 32 := Scalar.muli v69 c8_i32_47
  let v71 : BitVec 32 := v70
  let c0_i32_48 : BitVec 32 := 0#32
  ![v71.toNat, 0]
def k0_mult10 (i : grid0.Coords) (v5 : BitVec 32) (k0_t2 : Fin (k0_t2_loop i v5).trips) (v64 : BitVec 32) : BitVec 32 :=
  let arg0 : BitVec 32 := BitVec.ofNat 32 (i 0).val
  let v65 : BitVec 32 := Scalar.addi v64 arg0
  let c0_i32_13 : BitVec 32 := 0#32
  let c1_i32_15 : BitVec 32 := 1#32
  let arg10 : BitVec 32 := Scf.iv c0_i32_13 c1_i32_15 k0_t2
  let c32_i32_45 : BitVec 32 := 32#32
  let v66 : BitVec 32 := Scalar.muli arg10 c32_i32_45
  let v67 : BitVec 32 := Scalar.addi v65 v66
  let c2_i32 : BitVec 32 := 2#32
  let v68 : BitVec 32 := Scalar.muli v67 c2_i32
  let c128_i32_46 : BitVec 32 := 128#32
  let v69 : BitVec 32 := Scalar.muli v68 c128_i32_46
  let c128_i32_51 : BitVec 32 := 128#32
  let v74 : BitVec 32 := Scalar.addi v69 c128_i32_51
  let c8_i32_52 : BitVec 32 := 8#32
  let v75 : BitVec 32 := Scalar.muli v74 c8_i32_52
  v75
def k0_off11 (i : grid0.Coords) (v5 : BitVec 32) (k0_t2 : Fin (k0_t2_loop i v5).trips) (v64 : BitVec 32) : Fin 2 → Nat :=
  let arg0 : BitVec 32 := BitVec.ofNat 32 (i 0).val
  let v65 : BitVec 32 := Scalar.addi v64 arg0
  let c0_i32_13 : BitVec 32 := 0#32
  let c1_i32_15 : BitVec 32 := 1#32
  let arg10 : BitVec 32 := Scf.iv c0_i32_13 c1_i32_15 k0_t2
  let c32_i32_45 : BitVec 32 := 32#32
  let v66 : BitVec 32 := Scalar.muli arg10 c32_i32_45
  let v67 : BitVec 32 := Scalar.addi v65 v66
  let c2_i32 : BitVec 32 := 2#32
  let v68 : BitVec 32 := Scalar.muli v67 c2_i32
  let c128_i32_46 : BitVec 32 := 128#32
  let v69 : BitVec 32 := Scalar.muli v68 c128_i32_46
  let c128_i32_51 : BitVec 32 := 128#32
  let v74 : BitVec 32 := Scalar.addi v69 c128_i32_51
  let c8_i32_52 : BitVec 32 := 8#32
  let v75 : BitVec 32 := Scalar.muli v74 c8_i32_52
  let v76 : BitVec 32 := v75
  let c0_i32_53 : BitVec 32 := 0#32
  ![v76.toNat, 0]

def k0_chk3 (i : grid0.Coords) (v5 : BitVec 32) (k0_t2 : Fin (k0_t2_loop i v5).trips) (v64 : BitVec 32) : Prop :=
  (8 ∣ (k0_mult9 i v5 k0_t2 v64).toNat) ∧
  (∀ a, (k0_off10 i v5 k0_t2 v64) a + S1024x128.size a ≤ S491520x128.size a) ∧
  (8 ∣ (k0_mult10 i v5 k0_t2 v64).toNat) ∧
  (∀ a, (k0_off11 i v5 k0_t2 v64) a + S1024x128.size a ≤ S491520x128.size a)
theorem k0_mult9_dvd : ∀ (i : grid0.Coords) (v5 : BitVec 32) (k0_t2 : Fin (k0_t2_loop i v5).trips) (v64 : BitVec 32) (k0_hw3 : k0_chk3 i v5 k0_t2 v64), 8 ∣ (k0_mult9 i v5 k0_t2 v64).toNat := fun i v5 k0_t2 v64 k0_hw3 => k0_hw3.1
theorem k0_off10_inb : ∀ (i : grid0.Coords) (v5 : BitVec 32) (k0_t2 : Fin (k0_t2_loop i v5).trips) (v64 : BitVec 32) (k0_hw3 : k0_chk3 i v5 k0_t2 v64), ∀ a, (k0_off10 i v5 k0_t2 v64) a + S1024x128.size a ≤ S491520x128.size a := fun i v5 k0_t2 v64 k0_hw3 => k0_hw3.2.1
theorem k0_mult10_dvd : ∀ (i : grid0.Coords) (v5 : BitVec 32) (k0_t2 : Fin (k0_t2_loop i v5).trips) (v64 : BitVec 32) (k0_hw3 : k0_chk3 i v5 k0_t2 v64), 8 ∣ (k0_mult10 i v5 k0_t2 v64).toNat := fun i v5 k0_t2 v64 k0_hw3 => k0_hw3.2.2.1
theorem k0_off11_inb : ∀ (i : grid0.Coords) (v5 : BitVec 32) (k0_t2 : Fin (k0_t2_loop i v5).trips) (v64 : BitVec 32) (k0_hw3 : k0_chk3 i v5 k0_t2 v64), ∀ a, (k0_off11 i v5 k0_t2 v64) a + S1024x128.size a ≤ S491520x128.size a := fun i v5 k0_t2 v64 k0_hw3 => k0_hw3.2.2.2

@[reducible] def k0_t3_loop (i : grid0.Coords) (v5 : BitVec 32) : Scf.Loop 32 :=
  let c0_i32_13 : BitVec 32 := 0#32
  let c240_i32 : BitVec 32 := 240#32
  let v6 : BitVec 32 := Scalar.subi c240_i32 v5
  let arg0 : BitVec 32 := BitVec.ofNat 32 (i 0).val
  let v7 : BitVec 32 := Scalar.subi v6 arg0
  let c0_i32_3 : BitVec 32 := 0#32
  let v8 : BitVec 32 := Scalar.maxsi v7 c0_i32_3
  let c32_i32 : BitVec 32 := 32#32
  let v9 : BitVec 32 := Scalar.addi v8 c32_i32
  let c1_i32_4 : BitVec 32 := 1#32
  let v10 : BitVec 32 := Scalar.subi v9 c1_i32_4
  let c0_i32_6 : BitVec 32 := 0#32
  let v12 : BitVec 1 := Scalar.cmpi .sgt v10 c0_i32_6
  let v13 : BitVec 32 := Scalar.extui v12
  let c0_i32_7 : BitVec 32 := 0#32
  let v14 : BitVec 1 := Scalar.cmpi .slt v10 c0_i32_7
  let v15 : BitVec 32 := Scalar.extui v14
  let v16 : BitVec 32 := Scalar.subi v13 v15
  let c32_i32_5 : BitVec 32 := 32#32
  let c0_i32_8 : BitVec 32 := 0#32
  let v17 : BitVec 1 := Scalar.cmpi .sgt c32_i32_5 c0_i32_8
  let v18 : BitVec 32 := Scalar.extui v17
  let c0_i32_9 : BitVec 32 := 0#32
  let v19 : BitVec 1 := Scalar.cmpi .slt c32_i32_5 c0_i32_9
  let v20 : BitVec 32 := Scalar.extui v19
  let v21 : BitVec 32 := Scalar.subi v18 v20
  let v22 : BitVec 1 := Scalar.cmpi .ne v16 v21
  let v23 : BitVec 32 := Scalar.remsi v10 c32_i32_5
  let c0_i32_10 : BitVec 32 := 0#32
  let v24 : BitVec 1 := Scalar.cmpi .ne v23 c0_i32_10
  let v25 : BitVec 1 := Scalar.andi v22 v24
  let v11 : BitVec 32 := Scalar.divsi v10 c32_i32_5
  let c1_i32_11 : BitVec 32 := 1#32
  let v26 : BitVec 32 := Scalar.subi v11 c1_i32_11
  let v27 : BitVec 32 := Scalar.select v25 v26 v11
  let v28 : BitVec 32 := Scalar.subi v27 c0_i32_13
  let c1_i32_14 : BitVec 32 := 1#32
  let v30 : BitVec 32 := Scalar.divsi v28 c1_i32_14
  let v31 : BitVec 32 := Scalar.muli v30 c1_i32_14
  let v32 : BitVec 32 := Scalar.addi c0_i32_13 v31
  let v29 : BitVec 32 := Scalar.addi c0_i32_13 v28
  let c1_i32_16 : BitVec 32 := 1#32
  ⟨v32, v29, c1_i32_16⟩

def k0_chk2 (i : grid0.Coords) (v5 : BitVec 32) : Prop :=
  ((k0_t2_loop i v5).OK) ∧
  ((k0_t3_loop i v5).OK)
theorem k0_t2_ok : ∀ (i : grid0.Coords) (v5 : BitVec 32) (k0_hw2 : k0_chk2 i v5), (k0_t2_loop i v5).OK := fun i v5 k0_hw2 => k0_hw2.1
theorem k0_t3_ok : ∀ (i : grid0.Coords) (v5 : BitVec 32) (k0_hw2 : k0_chk2 i v5), (k0_t3_loop i v5).OK := fun i v5 k0_hw2 => k0_hw2.2

def k0_mult11 (i : grid0.Coords) (v5 : BitVec 32) (k0_t3 : Fin (k0_t3_loop i v5).trips) (v64 : BitVec 32) : BitVec 32 :=
  let arg0 : BitVec 32 := BitVec.ofNat 32 (i 0).val
  let v65 : BitVec 32 := Scalar.addi v64 arg0
  let c0_i32_13 : BitVec 32 := 0#32
  let c240_i32 : BitVec 32 := 240#32
  let v6 : BitVec 32 := Scalar.subi c240_i32 v5
  let v7 : BitVec 32 := Scalar.subi v6 arg0
  let c0_i32_3 : BitVec 32 := 0#32
  let v8 : BitVec 32 := Scalar.maxsi v7 c0_i32_3
  let c32_i32 : BitVec 32 := 32#32
  let v9 : BitVec 32 := Scalar.addi v8 c32_i32
  let c1_i32_4 : BitVec 32 := 1#32
  let v10 : BitVec 32 := Scalar.subi v9 c1_i32_4
  let c0_i32_6 : BitVec 32 := 0#32
  let v12 : BitVec 1 := Scalar.cmpi .sgt v10 c0_i32_6
  let v13 : BitVec 32 := Scalar.extui v12
  let c0_i32_7 : BitVec 32 := 0#32
  let v14 : BitVec 1 := Scalar.cmpi .slt v10 c0_i32_7
  let v15 : BitVec 32 := Scalar.extui v14
  let v16 : BitVec 32 := Scalar.subi v13 v15
  let c32_i32_5 : BitVec 32 := 32#32
  let c0_i32_8 : BitVec 32 := 0#32
  let v17 : BitVec 1 := Scalar.cmpi .sgt c32_i32_5 c0_i32_8
  let v18 : BitVec 32 := Scalar.extui v17
  let c0_i32_9 : BitVec 32 := 0#32
  let v19 : BitVec 1 := Scalar.cmpi .slt c32_i32_5 c0_i32_9
  let v20 : BitVec 32 := Scalar.extui v19
  let v21 : BitVec 32 := Scalar.subi v18 v20
  let v22 : BitVec 1 := Scalar.cmpi .ne v16 v21
  let v23 : BitVec 32 := Scalar.remsi v10 c32_i32_5
  let c0_i32_10 : BitVec 32 := 0#32
  let v24 : BitVec 1 := Scalar.cmpi .ne v23 c0_i32_10
  let v25 : BitVec 1 := Scalar.andi v22 v24
  let v11 : BitVec 32 := Scalar.divsi v10 c32_i32_5
  let c1_i32_11 : BitVec 32 := 1#32
  let v26 : BitVec 32 := Scalar.subi v11 c1_i32_11
  let v27 : BitVec 32 := Scalar.select v25 v26 v11
  let v28 : BitVec 32 := Scalar.subi v27 c0_i32_13
  let c1_i32_14 : BitVec 32 := 1#32
  let v30 : BitVec 32 := Scalar.divsi v28 c1_i32_14
  let v31 : BitVec 32 := Scalar.muli v30 c1_i32_14
  let v32 : BitVec 32 := Scalar.addi c0_i32_13 v31
  let c1_i32_16 : BitVec 32 := 1#32
  let arg10 : BitVec 32 := Scf.iv v32 c1_i32_16 k0_t3
  let c32_i32_45 : BitVec 32 := 32#32
  let v66 : BitVec 32 := Scalar.muli arg10 c32_i32_45
  let v67 : BitVec 32 := Scalar.addi v65 v66
  let c2_i32 : BitVec 32 := 2#32
  let v68 : BitVec 32 := Scalar.muli v67 c2_i32
  let c128_i32_46 : BitVec 32 := 128#32
  let v69 : BitVec 32 := Scalar.muli v68 c128_i32_46
  let c8_i32_47 : BitVec 32 := 8#32
  let v70 : BitVec 32 := Scalar.muli v69 c8_i32_47
  v70

def k0_off12 (i : grid0.Coords) (v5 : BitVec 32) (k0_t3 : Fin (k0_t3_loop i v5).trips) (v64 : BitVec 32) : Fin 2 → Nat :=
  let arg0 : BitVec 32 := BitVec.ofNat 32 (i 0).val
  let v65 : BitVec 32 := Scalar.addi v64 arg0
  let c0_i32_13 : BitVec 32 := 0#32
  let c240_i32 : BitVec 32 := 240#32
  let v6 : BitVec 32 := Scalar.subi c240_i32 v5
  let v7 : BitVec 32 := Scalar.subi v6 arg0
  let c0_i32_3 : BitVec 32 := 0#32
  let v8 : BitVec 32 := Scalar.maxsi v7 c0_i32_3
  let c32_i32 : BitVec 32 := 32#32
  let v9 : BitVec 32 := Scalar.addi v8 c32_i32
  let c1_i32_4 : BitVec 32 := 1#32
  let v10 : BitVec 32 := Scalar.subi v9 c1_i32_4
  let c0_i32_6 : BitVec 32 := 0#32
  let v12 : BitVec 1 := Scalar.cmpi .sgt v10 c0_i32_6
  let v13 : BitVec 32 := Scalar.extui v12
  let c0_i32_7 : BitVec 32 := 0#32
  let v14 : BitVec 1 := Scalar.cmpi .slt v10 c0_i32_7
  let v15 : BitVec 32 := Scalar.extui v14
  let v16 : BitVec 32 := Scalar.subi v13 v15
  let c32_i32_5 : BitVec 32 := 32#32
  let c0_i32_8 : BitVec 32 := 0#32
  let v17 : BitVec 1 := Scalar.cmpi .sgt c32_i32_5 c0_i32_8
  let v18 : BitVec 32 := Scalar.extui v17
  let c0_i32_9 : BitVec 32 := 0#32
  let v19 : BitVec 1 := Scalar.cmpi .slt c32_i32_5 c0_i32_9
  let v20 : BitVec 32 := Scalar.extui v19
  let v21 : BitVec 32 := Scalar.subi v18 v20
  let v22 : BitVec 1 := Scalar.cmpi .ne v16 v21
  let v23 : BitVec 32 := Scalar.remsi v10 c32_i32_5
  let c0_i32_10 : BitVec 32 := 0#32
  let v24 : BitVec 1 := Scalar.cmpi .ne v23 c0_i32_10
  let v25 : BitVec 1 := Scalar.andi v22 v24
  let v11 : BitVec 32 := Scalar.divsi v10 c32_i32_5
  let c1_i32_11 : BitVec 32 := 1#32
  let v26 : BitVec 32 := Scalar.subi v11 c1_i32_11
  let v27 : BitVec 32 := Scalar.select v25 v26 v11
  let v28 : BitVec 32 := Scalar.subi v27 c0_i32_13
  let c1_i32_14 : BitVec 32 := 1#32
  let v30 : BitVec 32 := Scalar.divsi v28 c1_i32_14
  let v31 : BitVec 32 := Scalar.muli v30 c1_i32_14
  let v32 : BitVec 32 := Scalar.addi c0_i32_13 v31
  let c1_i32_16 : BitVec 32 := 1#32
  let arg10 : BitVec 32 := Scf.iv v32 c1_i32_16 k0_t3
  let c32_i32_45 : BitVec 32 := 32#32
  let v66 : BitVec 32 := Scalar.muli arg10 c32_i32_45
  let v67 : BitVec 32 := Scalar.addi v65 v66
  let c2_i32 : BitVec 32 := 2#32
  let v68 : BitVec 32 := Scalar.muli v67 c2_i32
  let c128_i32_46 : BitVec 32 := 128#32
  let v69 : BitVec 32 := Scalar.muli v68 c128_i32_46
  let c8_i32_47 : BitVec 32 := 8#32
  let v70 : BitVec 32 := Scalar.muli v69 c8_i32_47
  let v71 : BitVec 32 := v70
  let c0_i32_48 : BitVec 32 := 0#32
  ![v71.toNat, 0]
def k0_mult12 (i : grid0.Coords) (v5 : BitVec 32) (k0_t3 : Fin (k0_t3_loop i v5).trips) (v64 : BitVec 32) : BitVec 32 :=
  let arg0 : BitVec 32 := BitVec.ofNat 32 (i 0).val
  let v65 : BitVec 32 := Scalar.addi v64 arg0
  let c0_i32_13 : BitVec 32 := 0#32
  let c240_i32 : BitVec 32 := 240#32
  let v6 : BitVec 32 := Scalar.subi c240_i32 v5
  let v7 : BitVec 32 := Scalar.subi v6 arg0
  let c0_i32_3 : BitVec 32 := 0#32
  let v8 : BitVec 32 := Scalar.maxsi v7 c0_i32_3
  let c32_i32 : BitVec 32 := 32#32
  let v9 : BitVec 32 := Scalar.addi v8 c32_i32
  let c1_i32_4 : BitVec 32 := 1#32
  let v10 : BitVec 32 := Scalar.subi v9 c1_i32_4
  let c0_i32_6 : BitVec 32 := 0#32
  let v12 : BitVec 1 := Scalar.cmpi .sgt v10 c0_i32_6
  let v13 : BitVec 32 := Scalar.extui v12
  let c0_i32_7 : BitVec 32 := 0#32
  let v14 : BitVec 1 := Scalar.cmpi .slt v10 c0_i32_7
  let v15 : BitVec 32 := Scalar.extui v14
  let v16 : BitVec 32 := Scalar.subi v13 v15
  let c32_i32_5 : BitVec 32 := 32#32
  let c0_i32_8 : BitVec 32 := 0#32
  let v17 : BitVec 1 := Scalar.cmpi .sgt c32_i32_5 c0_i32_8
  let v18 : BitVec 32 := Scalar.extui v17
  let c0_i32_9 : BitVec 32 := 0#32
  let v19 : BitVec 1 := Scalar.cmpi .slt c32_i32_5 c0_i32_9
  let v20 : BitVec 32 := Scalar.extui v19
  let v21 : BitVec 32 := Scalar.subi v18 v20
  let v22 : BitVec 1 := Scalar.cmpi .ne v16 v21
  let v23 : BitVec 32 := Scalar.remsi v10 c32_i32_5
  let c0_i32_10 : BitVec 32 := 0#32
  let v24 : BitVec 1 := Scalar.cmpi .ne v23 c0_i32_10
  let v25 : BitVec 1 := Scalar.andi v22 v24
  let v11 : BitVec 32 := Scalar.divsi v10 c32_i32_5
  let c1_i32_11 : BitVec 32 := 1#32
  let v26 : BitVec 32 := Scalar.subi v11 c1_i32_11
  let v27 : BitVec 32 := Scalar.select v25 v26 v11
  let v28 : BitVec 32 := Scalar.subi v27 c0_i32_13
  let c1_i32_14 : BitVec 32 := 1#32
  let v30 : BitVec 32 := Scalar.divsi v28 c1_i32_14
  let v31 : BitVec 32 := Scalar.muli v30 c1_i32_14
  let v32 : BitVec 32 := Scalar.addi c0_i32_13 v31
  let c1_i32_16 : BitVec 32 := 1#32
  let arg10 : BitVec 32 := Scf.iv v32 c1_i32_16 k0_t3
  let c32_i32_45 : BitVec 32 := 32#32
  let v66 : BitVec 32 := Scalar.muli arg10 c32_i32_45
  let v67 : BitVec 32 := Scalar.addi v65 v66
  let c2_i32 : BitVec 32 := 2#32
  let v68 : BitVec 32 := Scalar.muli v67 c2_i32
  let c128_i32_46 : BitVec 32 := 128#32
  let v69 : BitVec 32 := Scalar.muli v68 c128_i32_46
  let c128_i32_51 : BitVec 32 := 128#32
  let v74 : BitVec 32 := Scalar.addi v69 c128_i32_51
  let c8_i32_52 : BitVec 32 := 8#32
  let v75 : BitVec 32 := Scalar.muli v74 c8_i32_52
  v75
def k0_off13 (i : grid0.Coords) (v5 : BitVec 32) (k0_t3 : Fin (k0_t3_loop i v5).trips) (v64 : BitVec 32) : Fin 2 → Nat :=
  let arg0 : BitVec 32 := BitVec.ofNat 32 (i 0).val
  let v65 : BitVec 32 := Scalar.addi v64 arg0
  let c0_i32_13 : BitVec 32 := 0#32
  let c240_i32 : BitVec 32 := 240#32
  let v6 : BitVec 32 := Scalar.subi c240_i32 v5
  let v7 : BitVec 32 := Scalar.subi v6 arg0
  let c0_i32_3 : BitVec 32 := 0#32
  let v8 : BitVec 32 := Scalar.maxsi v7 c0_i32_3
  let c32_i32 : BitVec 32 := 32#32
  let v9 : BitVec 32 := Scalar.addi v8 c32_i32
  let c1_i32_4 : BitVec 32 := 1#32
  let v10 : BitVec 32 := Scalar.subi v9 c1_i32_4
  let c0_i32_6 : BitVec 32 := 0#32
  let v12 : BitVec 1 := Scalar.cmpi .sgt v10 c0_i32_6
  let v13 : BitVec 32 := Scalar.extui v12
  let c0_i32_7 : BitVec 32 := 0#32
  let v14 : BitVec 1 := Scalar.cmpi .slt v10 c0_i32_7
  let v15 : BitVec 32 := Scalar.extui v14
  let v16 : BitVec 32 := Scalar.subi v13 v15
  let c32_i32_5 : BitVec 32 := 32#32
  let c0_i32_8 : BitVec 32 := 0#32
  let v17 : BitVec 1 := Scalar.cmpi .sgt c32_i32_5 c0_i32_8
  let v18 : BitVec 32 := Scalar.extui v17
  let c0_i32_9 : BitVec 32 := 0#32
  let v19 : BitVec 1 := Scalar.cmpi .slt c32_i32_5 c0_i32_9
  let v20 : BitVec 32 := Scalar.extui v19
  let v21 : BitVec 32 := Scalar.subi v18 v20
  let v22 : BitVec 1 := Scalar.cmpi .ne v16 v21
  let v23 : BitVec 32 := Scalar.remsi v10 c32_i32_5
  let c0_i32_10 : BitVec 32 := 0#32
  let v24 : BitVec 1 := Scalar.cmpi .ne v23 c0_i32_10
  let v25 : BitVec 1 := Scalar.andi v22 v24
  let v11 : BitVec 32 := Scalar.divsi v10 c32_i32_5
  let c1_i32_11 : BitVec 32 := 1#32
  let v26 : BitVec 32 := Scalar.subi v11 c1_i32_11
  let v27 : BitVec 32 := Scalar.select v25 v26 v11
  let v28 : BitVec 32 := Scalar.subi v27 c0_i32_13
  let c1_i32_14 : BitVec 32 := 1#32
  let v30 : BitVec 32 := Scalar.divsi v28 c1_i32_14
  let v31 : BitVec 32 := Scalar.muli v30 c1_i32_14
  let v32 : BitVec 32 := Scalar.addi c0_i32_13 v31
  let c1_i32_16 : BitVec 32 := 1#32
  let arg10 : BitVec 32 := Scf.iv v32 c1_i32_16 k0_t3
  let c32_i32_45 : BitVec 32 := 32#32
  let v66 : BitVec 32 := Scalar.muli arg10 c32_i32_45
  let v67 : BitVec 32 := Scalar.addi v65 v66
  let c2_i32 : BitVec 32 := 2#32
  let v68 : BitVec 32 := Scalar.muli v67 c2_i32
  let c128_i32_46 : BitVec 32 := 128#32
  let v69 : BitVec 32 := Scalar.muli v68 c128_i32_46
  let c128_i32_51 : BitVec 32 := 128#32
  let v74 : BitVec 32 := Scalar.addi v69 c128_i32_51
  let c8_i32_52 : BitVec 32 := 8#32
  let v75 : BitVec 32 := Scalar.muli v74 c8_i32_52
  let v76 : BitVec 32 := v75
  let c0_i32_53 : BitVec 32 := 0#32
  ![v76.toNat, 0]

def k0_chk4 (i : grid0.Coords) (v5 : BitVec 32) (k0_t3 : Fin (k0_t3_loop i v5).trips) (v64 : BitVec 32) : Prop :=
  (8 ∣ (k0_mult11 i v5 k0_t3 v64).toNat) ∧
  (∀ a, (k0_off12 i v5 k0_t3 v64) a + S1024x128.size a ≤ S491520x128.size a) ∧
  (8 ∣ (k0_mult12 i v5 k0_t3 v64).toNat) ∧
  (∀ a, (k0_off13 i v5 k0_t3 v64) a + S1024x128.size a ≤ S491520x128.size a)
theorem k0_mult11_dvd : ∀ (i : grid0.Coords) (v5 : BitVec 32) (k0_t3 : Fin (k0_t3_loop i v5).trips) (v64 : BitVec 32) (k0_hw4 : k0_chk4 i v5 k0_t3 v64), 8 ∣ (k0_mult11 i v5 k0_t3 v64).toNat := fun i v5 k0_t3 v64 k0_hw4 => k0_hw4.1
theorem k0_off12_inb : ∀ (i : grid0.Coords) (v5 : BitVec 32) (k0_t3 : Fin (k0_t3_loop i v5).trips) (v64 : BitVec 32) (k0_hw4 : k0_chk4 i v5 k0_t3 v64), ∀ a, (k0_off12 i v5 k0_t3 v64) a + S1024x128.size a ≤ S491520x128.size a := fun i v5 k0_t3 v64 k0_hw4 => k0_hw4.2.1
theorem k0_mult12_dvd : ∀ (i : grid0.Coords) (v5 : BitVec 32) (k0_t3 : Fin (k0_t3_loop i v5).trips) (v64 : BitVec 32) (k0_hw4 : k0_chk4 i v5 k0_t3 v64), 8 ∣ (k0_mult12 i v5 k0_t3 v64).toNat := fun i v5 k0_t3 v64 k0_hw4 => k0_hw4.2.2.1
theorem k0_off13_inb : ∀ (i : grid0.Coords) (v5 : BitVec 32) (k0_t3 : Fin (k0_t3_loop i v5).trips) (v64 : BitVec 32) (k0_hw4 : k0_chk4 i v5 k0_t3 v64), ∀ a, (k0_off13 i v5 k0_t3 v64) a + S1024x128.size a ≤ S491520x128.size a := fun i v5 k0_t3 v64 k0_hw4 => k0_hw4.2.2.2

@[reducible] def k0_t4_loop : Scf.Loop 32 :=
  let c0_i32_17 : BitVec 32 := 0#32
  let c128_i32 : BitVec 32 := 128#32
  let v33 : BitVec 32 := Scalar.addi c0_i32_17 c128_i32
  let c1_i32_18 : BitVec 32 := 1#32
  ⟨c0_i32_17, v33, c1_i32_18⟩
def k0_off14 (i : grid0.Coords) (k0_t4 : Fin k0_t4_loop.trips) : Fin 1 → Nat :=
  let arg0 : BitVec 32 := BitVec.ofNat 32 (i 0).val
  let c1024_i32 : BitVec 32 := 1024#32
  let v0 : BitVec 32 := Scalar.muli arg0 c1024_i32
  let c0_i32_17 : BitVec 32 := 0#32
  let c1_i32_18 : BitVec 32 := 1#32
  let arg10 : BitVec 32 := Scf.iv c0_i32_17 c1_i32_18 k0_t4
  let c8_i32_44 : BitVec 32 := 8#32
  let v64 : BitVec 32 := Scalar.muli arg10 c8_i32_44
  let c0_i32_45 : BitVec 32 := 0#32
  let v65 : BitVec 32 := Scalar.addi v64 c0_i32_45
  let v66 : BitVec 32 := Scalar.addi v0 v65
  let v67 : Index := Scalar.indexCast v66
  ![v67.toNat]
def k0_mult13 (k0_t4 : Fin k0_t4_loop.trips) : BitVec 32 :=
  let c0_i32_17 : BitVec 32 := 0#32
  let c1_i32_18 : BitVec 32 := 1#32
  let arg10 : BitVec 32 := Scf.iv c0_i32_17 c1_i32_18 k0_t4
  let c8_i32_44 : BitVec 32 := 8#32
  let v64 : BitVec 32 := Scalar.muli arg10 c8_i32_44
  let c0_i32_45 : BitVec 32 := 0#32
  let v65 : BitVec 32 := Scalar.addi v64 c0_i32_45
  let c8_i32_46 : BitVec 32 := 8#32
  let v69 : BitVec 32 := Scalar.muli v65 c8_i32_46
  v69
def k0_mult14 (v68 : BitVec 32) : BitVec 32 :=
  let c8_i32_47 : BitVec 32 := 8#32
  let v71 : BitVec 32 := Scalar.muli v68 c8_i32_47
  v71

def k0_off15 (v68 : BitVec 32) : Fin 2 → Nat :=
  let c8_i32_47 : BitVec 32 := 8#32
  let v71 : BitVec 32 := Scalar.muli v68 c8_i32_47
  let v72 : BitVec 32 := v71
  let c0_i32_48 : BitVec 32 := 0#32
  ![v72.toNat, 0]

def k0_chk5 (v68 : BitVec 32) : Prop :=
  (8 ∣ (k0_mult14 v68).toNat) ∧
  (∀ a, (k0_off15 v68) a + S8x128.size a ≤ S491520x128.size a)
theorem k0_mult14_dvd : ∀ (v68 : BitVec 32) (k0_hw5 : k0_chk5 v68), 8 ∣ (k0_mult14 v68).toNat := fun v68 k0_hw5 => k0_hw5.1
theorem k0_off15_inb : ∀ (v68 : BitVec 32) (k0_hw5 : k0_chk5 v68), ∀ a, (k0_off15 v68) a + S8x128.size a ≤ S491520x128.size a := fun v68 k0_hw5 => k0_hw5.2

def k0_off16 (k0_t4 : Fin k0_t4_loop.trips) : Fin 2 → Nat :=
  let c0_i32_17 : BitVec 32 := 0#32
  let c1_i32_18 : BitVec 32 := 1#32
  let arg10 : BitVec 32 := Scf.iv c0_i32_17 c1_i32_18 k0_t4
  let c8_i32_44 : BitVec 32 := 8#32
  let v64 : BitVec 32 := Scalar.muli arg10 c8_i32_44
  let c0_i32_45 : BitVec 32 := 0#32
  let v65 : BitVec 32 := Scalar.addi v64 c0_i32_45
  let c8_i32_46 : BitVec 32 := 8#32
  let v69 : BitVec 32 := Scalar.muli v65 c8_i32_46
  let v70 : BitVec 32 := v69
  let c0_i32_49 : BitVec 32 := 0#32
  ![v70.toNat, 0]
def k0_off17 (i : grid0.Coords) (k0_t4 : Fin k0_t4_loop.trips) : Fin 1 → Nat :=
  let arg0 : BitVec 32 := BitVec.ofNat 32 (i 0).val
  let c1024_i32 : BitVec 32 := 1024#32
  let v0 : BitVec 32 := Scalar.muli arg0 c1024_i32
  let c0_i32_17 : BitVec 32 := 0#32
  let c1_i32_18 : BitVec 32 := 1#32
  let arg10 : BitVec 32 := Scf.iv c0_i32_17 c1_i32_18 k0_t4
  let c8_i32_50 : BitVec 32 := 8#32
  let v75 : BitVec 32 := Scalar.muli arg10 c8_i32_50
  let c1_i32_51 : BitVec 32 := 1#32
  let v76 : BitVec 32 := Scalar.addi v75 c1_i32_51
  let v77 : BitVec 32 := Scalar.addi v0 v76
  let v78 : Index := Scalar.indexCast v77
  ![v78.toNat]
def k0_mult15 (k0_t4 : Fin k0_t4_loop.trips) : BitVec 32 :=
  let c0_i32_17 : BitVec 32 := 0#32
  let c1_i32_18 : BitVec 32 := 1#32
  let arg10 : BitVec 32 := Scf.iv c0_i32_17 c1_i32_18 k0_t4
  let c8_i32_50 : BitVec 32 := 8#32
  let v75 : BitVec 32 := Scalar.muli arg10 c8_i32_50
  let c1_i32_51 : BitVec 32 := 1#32
  let v76 : BitVec 32 := Scalar.addi v75 c1_i32_51
  let c8_i32_52 : BitVec 32 := 8#32
  let v80 : BitVec 32 := Scalar.muli v76 c8_i32_52
  v80
def k0_mult16 (v79 : BitVec 32) : BitVec 32 :=
  let c8_i32_53 : BitVec 32 := 8#32
  let v82 : BitVec 32 := Scalar.muli v79 c8_i32_53
  v82

def k0_off18 (v79 : BitVec 32) : Fin 2 → Nat :=
  let c8_i32_53 : BitVec 32 := 8#32
  let v82 : BitVec 32 := Scalar.muli v79 c8_i32_53
  let v83 : BitVec 32 := v82
  let c0_i32_54 : BitVec 32 := 0#32
  ![v83.toNat, 0]

def k0_chk6 (v79 : BitVec 32) : Prop :=
  (8 ∣ (k0_mult16 v79).toNat) ∧
  (∀ a, (k0_off18 v79) a + S8x128.size a ≤ S491520x128.size a)
theorem k0_mult16_dvd : ∀ (v79 : BitVec 32) (k0_hw6 : k0_chk6 v79), 8 ∣ (k0_mult16 v79).toNat := fun v79 k0_hw6 => k0_hw6.1
theorem k0_off18_inb : ∀ (v79 : BitVec 32) (k0_hw6 : k0_chk6 v79), ∀ a, (k0_off18 v79) a + S8x128.size a ≤ S491520x128.size a := fun v79 k0_hw6 => k0_hw6.2

def k0_off19 (k0_t4 : Fin k0_t4_loop.trips) : Fin 2 → Nat :=
  let c0_i32_17 : BitVec 32 := 0#32
  let c1_i32_18 : BitVec 32 := 1#32
  let arg10 : BitVec 32 := Scf.iv c0_i32_17 c1_i32_18 k0_t4
  let c8_i32_50 : BitVec 32 := 8#32
  let v75 : BitVec 32 := Scalar.muli arg10 c8_i32_50
  let c1_i32_51 : BitVec 32 := 1#32
  let v76 : BitVec 32 := Scalar.addi v75 c1_i32_51
  let c8_i32_52 : BitVec 32 := 8#32
  let v80 : BitVec 32 := Scalar.muli v76 c8_i32_52
  let v81 : BitVec 32 := v80
  let c0_i32_55 : BitVec 32 := 0#32
  ![v81.toNat, 0]
def k0_off20 (i : grid0.Coords) (k0_t4 : Fin k0_t4_loop.trips) : Fin 1 → Nat :=
  let arg0 : BitVec 32 := BitVec.ofNat 32 (i 0).val
  let c1024_i32 : BitVec 32 := 1024#32
  let v0 : BitVec 32 := Scalar.muli arg0 c1024_i32
  let c0_i32_17 : BitVec 32 := 0#32
  let c1_i32_18 : BitVec 32 := 1#32
  let arg10 : BitVec 32 := Scf.iv c0_i32_17 c1_i32_18 k0_t4
  let c8_i32_56 : BitVec 32 := 8#32
  let v86 : BitVec 32 := Scalar.muli arg10 c8_i32_56
  let c2_i32 : BitVec 32 := 2#32
  let v87 : BitVec 32 := Scalar.addi v86 c2_i32
  let v88 : BitVec 32 := Scalar.addi v0 v87
  let v89 : Index := Scalar.indexCast v88
  ![v89.toNat]
def k0_mult17 (k0_t4 : Fin k0_t4_loop.trips) : BitVec 32 :=
  let c0_i32_17 : BitVec 32 := 0#32
  let c1_i32_18 : BitVec 32 := 1#32
  let arg10 : BitVec 32 := Scf.iv c0_i32_17 c1_i32_18 k0_t4
  let c8_i32_56 : BitVec 32 := 8#32
  let v86 : BitVec 32 := Scalar.muli arg10 c8_i32_56
  let c2_i32 : BitVec 32 := 2#32
  let v87 : BitVec 32 := Scalar.addi v86 c2_i32
  let c8_i32_57 : BitVec 32 := 8#32
  let v91 : BitVec 32 := Scalar.muli v87 c8_i32_57
  v91
def k0_mult18 (v90 : BitVec 32) : BitVec 32 :=
  let c8_i32_58 : BitVec 32 := 8#32
  let v93 : BitVec 32 := Scalar.muli v90 c8_i32_58
  v93

def k0_off21 (v90 : BitVec 32) : Fin 2 → Nat :=
  let c8_i32_58 : BitVec 32 := 8#32
  let v93 : BitVec 32 := Scalar.muli v90 c8_i32_58
  let v94 : BitVec 32 := v93
  let c0_i32_59 : BitVec 32 := 0#32
  ![v94.toNat, 0]

def k0_chk7 (v90 : BitVec 32) : Prop :=
  (8 ∣ (k0_mult18 v90).toNat) ∧
  (∀ a, (k0_off21 v90) a + S8x128.size a ≤ S491520x128.size a)
theorem k0_mult18_dvd : ∀ (v90 : BitVec 32) (k0_hw7 : k0_chk7 v90), 8 ∣ (k0_mult18 v90).toNat := fun v90 k0_hw7 => k0_hw7.1
theorem k0_off21_inb : ∀ (v90 : BitVec 32) (k0_hw7 : k0_chk7 v90), ∀ a, (k0_off21 v90) a + S8x128.size a ≤ S491520x128.size a := fun v90 k0_hw7 => k0_hw7.2

def k0_off22 (k0_t4 : Fin k0_t4_loop.trips) : Fin 2 → Nat :=
  let c0_i32_17 : BitVec 32 := 0#32
  let c1_i32_18 : BitVec 32 := 1#32
  let arg10 : BitVec 32 := Scf.iv c0_i32_17 c1_i32_18 k0_t4
  let c8_i32_56 : BitVec 32 := 8#32
  let v86 : BitVec 32 := Scalar.muli arg10 c8_i32_56
  let c2_i32 : BitVec 32 := 2#32
  let v87 : BitVec 32 := Scalar.addi v86 c2_i32
  let c8_i32_57 : BitVec 32 := 8#32
  let v91 : BitVec 32 := Scalar.muli v87 c8_i32_57
  let v92 : BitVec 32 := v91
  let c0_i32_60 : BitVec 32 := 0#32
  ![v92.toNat, 0]
def k0_off23 (i : grid0.Coords) (k0_t4 : Fin k0_t4_loop.trips) : Fin 1 → Nat :=
  let arg0 : BitVec 32 := BitVec.ofNat 32 (i 0).val
  let c1024_i32 : BitVec 32 := 1024#32
  let v0 : BitVec 32 := Scalar.muli arg0 c1024_i32
  let c0_i32_17 : BitVec 32 := 0#32
  let c1_i32_18 : BitVec 32 := 1#32
  let arg10 : BitVec 32 := Scf.iv c0_i32_17 c1_i32_18 k0_t4
  let c8_i32_61 : BitVec 32 := 8#32
  let v97 : BitVec 32 := Scalar.muli arg10 c8_i32_61
  let c3_i32 : BitVec 32 := 3#32
  let v98 : BitVec 32 := Scalar.addi v97 c3_i32
  let v99 : BitVec 32 := Scalar.addi v0 v98
  let v100 : Index := Scalar.indexCast v99
  ![v100.toNat]
def k0_mult19 (k0_t4 : Fin k0_t4_loop.trips) : BitVec 32 :=
  let c0_i32_17 : BitVec 32 := 0#32
  let c1_i32_18 : BitVec 32 := 1#32
  let arg10 : BitVec 32 := Scf.iv c0_i32_17 c1_i32_18 k0_t4
  let c8_i32_61 : BitVec 32 := 8#32
  let v97 : BitVec 32 := Scalar.muli arg10 c8_i32_61
  let c3_i32 : BitVec 32 := 3#32
  let v98 : BitVec 32 := Scalar.addi v97 c3_i32
  let c8_i32_62 : BitVec 32 := 8#32
  let v102 : BitVec 32 := Scalar.muli v98 c8_i32_62
  v102
def k0_mult20 (v101 : BitVec 32) : BitVec 32 :=
  let c8_i32_63 : BitVec 32 := 8#32
  let v104 : BitVec 32 := Scalar.muli v101 c8_i32_63
  v104

def k0_off24 (v101 : BitVec 32) : Fin 2 → Nat :=
  let c8_i32_63 : BitVec 32 := 8#32
  let v104 : BitVec 32 := Scalar.muli v101 c8_i32_63
  let v105 : BitVec 32 := v104
  let c0_i32_64 : BitVec 32 := 0#32
  ![v105.toNat, 0]

def k0_chk8 (v101 : BitVec 32) : Prop :=
  (8 ∣ (k0_mult20 v101).toNat) ∧
  (∀ a, (k0_off24 v101) a + S8x128.size a ≤ S491520x128.size a)
theorem k0_mult20_dvd : ∀ (v101 : BitVec 32) (k0_hw8 : k0_chk8 v101), 8 ∣ (k0_mult20 v101).toNat := fun v101 k0_hw8 => k0_hw8.1
theorem k0_off24_inb : ∀ (v101 : BitVec 32) (k0_hw8 : k0_chk8 v101), ∀ a, (k0_off24 v101) a + S8x128.size a ≤ S491520x128.size a := fun v101 k0_hw8 => k0_hw8.2

def k0_off25 (k0_t4 : Fin k0_t4_loop.trips) : Fin 2 → Nat :=
  let c0_i32_17 : BitVec 32 := 0#32
  let c1_i32_18 : BitVec 32 := 1#32
  let arg10 : BitVec 32 := Scf.iv c0_i32_17 c1_i32_18 k0_t4
  let c8_i32_61 : BitVec 32 := 8#32
  let v97 : BitVec 32 := Scalar.muli arg10 c8_i32_61
  let c3_i32 : BitVec 32 := 3#32
  let v98 : BitVec 32 := Scalar.addi v97 c3_i32
  let c8_i32_62 : BitVec 32 := 8#32
  let v102 : BitVec 32 := Scalar.muli v98 c8_i32_62
  let v103 : BitVec 32 := v102
  let c0_i32_65 : BitVec 32 := 0#32
  ![v103.toNat, 0]
def k0_off26 (i : grid0.Coords) (k0_t4 : Fin k0_t4_loop.trips) : Fin 1 → Nat :=
  let arg0 : BitVec 32 := BitVec.ofNat 32 (i 0).val
  let c1024_i32 : BitVec 32 := 1024#32
  let v0 : BitVec 32 := Scalar.muli arg0 c1024_i32
  let c0_i32_17 : BitVec 32 := 0#32
  let c1_i32_18 : BitVec 32 := 1#32
  let arg10 : BitVec 32 := Scf.iv c0_i32_17 c1_i32_18 k0_t4
  let c8_i32_66 : BitVec 32 := 8#32
  let v108 : BitVec 32 := Scalar.muli arg10 c8_i32_66
  let c4_i32 : BitVec 32 := 4#32
  let v109 : BitVec 32 := Scalar.addi v108 c4_i32
  let v110 : BitVec 32 := Scalar.addi v0 v109
  let v111 : Index := Scalar.indexCast v110
  ![v111.toNat]
def k0_mult21 (k0_t4 : Fin k0_t4_loop.trips) : BitVec 32 :=
  let c0_i32_17 : BitVec 32 := 0#32
  let c1_i32_18 : BitVec 32 := 1#32
  let arg10 : BitVec 32 := Scf.iv c0_i32_17 c1_i32_18 k0_t4
  let c8_i32_66 : BitVec 32 := 8#32
  let v108 : BitVec 32 := Scalar.muli arg10 c8_i32_66
  let c4_i32 : BitVec 32 := 4#32
  let v109 : BitVec 32 := Scalar.addi v108 c4_i32
  let c8_i32_67 : BitVec 32 := 8#32
  let v113 : BitVec 32 := Scalar.muli v109 c8_i32_67
  v113
def k0_mult22 (v112 : BitVec 32) : BitVec 32 :=
  let c8_i32_68 : BitVec 32 := 8#32
  let v115 : BitVec 32 := Scalar.muli v112 c8_i32_68
  v115

def k0_off27 (v112 : BitVec 32) : Fin 2 → Nat :=
  let c8_i32_68 : BitVec 32 := 8#32
  let v115 : BitVec 32 := Scalar.muli v112 c8_i32_68
  let v116 : BitVec 32 := v115
  let c0_i32_69 : BitVec 32 := 0#32
  ![v116.toNat, 0]

def k0_chk9 (v112 : BitVec 32) : Prop :=
  (8 ∣ (k0_mult22 v112).toNat) ∧
  (∀ a, (k0_off27 v112) a + S8x128.size a ≤ S491520x128.size a)
theorem k0_mult22_dvd : ∀ (v112 : BitVec 32) (k0_hw9 : k0_chk9 v112), 8 ∣ (k0_mult22 v112).toNat := fun v112 k0_hw9 => k0_hw9.1
theorem k0_off27_inb : ∀ (v112 : BitVec 32) (k0_hw9 : k0_chk9 v112), ∀ a, (k0_off27 v112) a + S8x128.size a ≤ S491520x128.size a := fun v112 k0_hw9 => k0_hw9.2

def k0_off28 (k0_t4 : Fin k0_t4_loop.trips) : Fin 2 → Nat :=
  let c0_i32_17 : BitVec 32 := 0#32
  let c1_i32_18 : BitVec 32 := 1#32
  let arg10 : BitVec 32 := Scf.iv c0_i32_17 c1_i32_18 k0_t4
  let c8_i32_66 : BitVec 32 := 8#32
  let v108 : BitVec 32 := Scalar.muli arg10 c8_i32_66
  let c4_i32 : BitVec 32 := 4#32
  let v109 : BitVec 32 := Scalar.addi v108 c4_i32
  let c8_i32_67 : BitVec 32 := 8#32
  let v113 : BitVec 32 := Scalar.muli v109 c8_i32_67
  let v114 : BitVec 32 := v113
  let c0_i32_70 : BitVec 32 := 0#32
  ![v114.toNat, 0]
def k0_off29 (i : grid0.Coords) (k0_t4 : Fin k0_t4_loop.trips) : Fin 1 → Nat :=
  let arg0 : BitVec 32 := BitVec.ofNat 32 (i 0).val
  let c1024_i32 : BitVec 32 := 1024#32
  let v0 : BitVec 32 := Scalar.muli arg0 c1024_i32
  let c0_i32_17 : BitVec 32 := 0#32
  let c1_i32_18 : BitVec 32 := 1#32
  let arg10 : BitVec 32 := Scf.iv c0_i32_17 c1_i32_18 k0_t4
  let c8_i32_71 : BitVec 32 := 8#32
  let v119 : BitVec 32 := Scalar.muli arg10 c8_i32_71
  let c5_i32 : BitVec 32 := 5#32
  let v120 : BitVec 32 := Scalar.addi v119 c5_i32
  let v121 : BitVec 32 := Scalar.addi v0 v120
  let v122 : Index := Scalar.indexCast v121
  ![v122.toNat]
def k0_mult23 (k0_t4 : Fin k0_t4_loop.trips) : BitVec 32 :=
  let c0_i32_17 : BitVec 32 := 0#32
  let c1_i32_18 : BitVec 32 := 1#32
  let arg10 : BitVec 32 := Scf.iv c0_i32_17 c1_i32_18 k0_t4
  let c8_i32_71 : BitVec 32 := 8#32
  let v119 : BitVec 32 := Scalar.muli arg10 c8_i32_71
  let c5_i32 : BitVec 32 := 5#32
  let v120 : BitVec 32 := Scalar.addi v119 c5_i32
  let c8_i32_72 : BitVec 32 := 8#32
  let v124 : BitVec 32 := Scalar.muli v120 c8_i32_72
  v124
def k0_mult24 (v123 : BitVec 32) : BitVec 32 :=
  let c8_i32_73 : BitVec 32 := 8#32
  let v126 : BitVec 32 := Scalar.muli v123 c8_i32_73
  v126

def k0_off30 (v123 : BitVec 32) : Fin 2 → Nat :=
  let c8_i32_73 : BitVec 32 := 8#32
  let v126 : BitVec 32 := Scalar.muli v123 c8_i32_73
  let v127 : BitVec 32 := v126
  let c0_i32_74 : BitVec 32 := 0#32
  ![v127.toNat, 0]

def k0_chk10 (v123 : BitVec 32) : Prop :=
  (8 ∣ (k0_mult24 v123).toNat) ∧
  (∀ a, (k0_off30 v123) a + S8x128.size a ≤ S491520x128.size a)
theorem k0_mult24_dvd : ∀ (v123 : BitVec 32) (k0_hw10 : k0_chk10 v123), 8 ∣ (k0_mult24 v123).toNat := fun v123 k0_hw10 => k0_hw10.1
theorem k0_off30_inb : ∀ (v123 : BitVec 32) (k0_hw10 : k0_chk10 v123), ∀ a, (k0_off30 v123) a + S8x128.size a ≤ S491520x128.size a := fun v123 k0_hw10 => k0_hw10.2

def k0_off31 (k0_t4 : Fin k0_t4_loop.trips) : Fin 2 → Nat :=
  let c0_i32_17 : BitVec 32 := 0#32
  let c1_i32_18 : BitVec 32 := 1#32
  let arg10 : BitVec 32 := Scf.iv c0_i32_17 c1_i32_18 k0_t4
  let c8_i32_71 : BitVec 32 := 8#32
  let v119 : BitVec 32 := Scalar.muli arg10 c8_i32_71
  let c5_i32 : BitVec 32 := 5#32
  let v120 : BitVec 32 := Scalar.addi v119 c5_i32
  let c8_i32_72 : BitVec 32 := 8#32
  let v124 : BitVec 32 := Scalar.muli v120 c8_i32_72
  let v125 : BitVec 32 := v124
  let c0_i32_75 : BitVec 32 := 0#32
  ![v125.toNat, 0]
def k0_off32 (i : grid0.Coords) (k0_t4 : Fin k0_t4_loop.trips) : Fin 1 → Nat :=
  let arg0 : BitVec 32 := BitVec.ofNat 32 (i 0).val
  let c1024_i32 : BitVec 32 := 1024#32
  let v0 : BitVec 32 := Scalar.muli arg0 c1024_i32
  let c0_i32_17 : BitVec 32 := 0#32
  let c1_i32_18 : BitVec 32 := 1#32
  let arg10 : BitVec 32 := Scf.iv c0_i32_17 c1_i32_18 k0_t4
  let c8_i32_76 : BitVec 32 := 8#32
  let v130 : BitVec 32 := Scalar.muli arg10 c8_i32_76
  let c6_i32 : BitVec 32 := 6#32
  let v131 : BitVec 32 := Scalar.addi v130 c6_i32
  let v132 : BitVec 32 := Scalar.addi v0 v131
  let v133 : Index := Scalar.indexCast v132
  ![v133.toNat]
def k0_mult25 (k0_t4 : Fin k0_t4_loop.trips) : BitVec 32 :=
  let c0_i32_17 : BitVec 32 := 0#32
  let c1_i32_18 : BitVec 32 := 1#32
  let arg10 : BitVec 32 := Scf.iv c0_i32_17 c1_i32_18 k0_t4
  let c8_i32_76 : BitVec 32 := 8#32
  let v130 : BitVec 32 := Scalar.muli arg10 c8_i32_76
  let c6_i32 : BitVec 32 := 6#32
  let v131 : BitVec 32 := Scalar.addi v130 c6_i32
  let c8_i32_77 : BitVec 32 := 8#32
  let v135 : BitVec 32 := Scalar.muli v131 c8_i32_77
  v135
def k0_mult26 (v134 : BitVec 32) : BitVec 32 :=
  let c8_i32_78 : BitVec 32 := 8#32
  let v137 : BitVec 32 := Scalar.muli v134 c8_i32_78
  v137

def k0_off33 (v134 : BitVec 32) : Fin 2 → Nat :=
  let c8_i32_78 : BitVec 32 := 8#32
  let v137 : BitVec 32 := Scalar.muli v134 c8_i32_78
  let v138 : BitVec 32 := v137
  let c0_i32_79 : BitVec 32 := 0#32
  ![v138.toNat, 0]

def k0_chk11 (v134 : BitVec 32) : Prop :=
  (8 ∣ (k0_mult26 v134).toNat) ∧
  (∀ a, (k0_off33 v134) a + S8x128.size a ≤ S491520x128.size a)
theorem k0_mult26_dvd : ∀ (v134 : BitVec 32) (k0_hw11 : k0_chk11 v134), 8 ∣ (k0_mult26 v134).toNat := fun v134 k0_hw11 => k0_hw11.1
theorem k0_off33_inb : ∀ (v134 : BitVec 32) (k0_hw11 : k0_chk11 v134), ∀ a, (k0_off33 v134) a + S8x128.size a ≤ S491520x128.size a := fun v134 k0_hw11 => k0_hw11.2

def k0_off34 (k0_t4 : Fin k0_t4_loop.trips) : Fin 2 → Nat :=
  let c0_i32_17 : BitVec 32 := 0#32
  let c1_i32_18 : BitVec 32 := 1#32
  let arg10 : BitVec 32 := Scf.iv c0_i32_17 c1_i32_18 k0_t4
  let c8_i32_76 : BitVec 32 := 8#32
  let v130 : BitVec 32 := Scalar.muli arg10 c8_i32_76
  let c6_i32 : BitVec 32 := 6#32
  let v131 : BitVec 32 := Scalar.addi v130 c6_i32
  let c8_i32_77 : BitVec 32 := 8#32
  let v135 : BitVec 32 := Scalar.muli v131 c8_i32_77
  let v136 : BitVec 32 := v135
  let c0_i32_80 : BitVec 32 := 0#32
  ![v136.toNat, 0]
def k0_off35 (i : grid0.Coords) (k0_t4 : Fin k0_t4_loop.trips) : Fin 1 → Nat :=
  let arg0 : BitVec 32 := BitVec.ofNat 32 (i 0).val
  let c1024_i32 : BitVec 32 := 1024#32
  let v0 : BitVec 32 := Scalar.muli arg0 c1024_i32
  let c0_i32_17 : BitVec 32 := 0#32
  let c1_i32_18 : BitVec 32 := 1#32
  let arg10 : BitVec 32 := Scf.iv c0_i32_17 c1_i32_18 k0_t4
  let c8_i32_81 : BitVec 32 := 8#32
  let v141 : BitVec 32 := Scalar.muli arg10 c8_i32_81
  let c7_i32 : BitVec 32 := 7#32
  let v142 : BitVec 32 := Scalar.addi v141 c7_i32
  let v143 : BitVec 32 := Scalar.addi v0 v142
  let v144 : Index := Scalar.indexCast v143
  ![v144.toNat]
def k0_mult27 (k0_t4 : Fin k0_t4_loop.trips) : BitVec 32 :=
  let c0_i32_17 : BitVec 32 := 0#32
  let c1_i32_18 : BitVec 32 := 1#32
  let arg10 : BitVec 32 := Scf.iv c0_i32_17 c1_i32_18 k0_t4
  let c8_i32_81 : BitVec 32 := 8#32
  let v141 : BitVec 32 := Scalar.muli arg10 c8_i32_81
  let c7_i32 : BitVec 32 := 7#32
  let v142 : BitVec 32 := Scalar.addi v141 c7_i32
  let c8_i32_82 : BitVec 32 := 8#32
  let v146 : BitVec 32 := Scalar.muli v142 c8_i32_82
  v146
def k0_mult28 (v145 : BitVec 32) : BitVec 32 :=
  let c8_i32_83 : BitVec 32 := 8#32
  let v148 : BitVec 32 := Scalar.muli v145 c8_i32_83
  v148

def k0_off36 (v145 : BitVec 32) : Fin 2 → Nat :=
  let c8_i32_83 : BitVec 32 := 8#32
  let v148 : BitVec 32 := Scalar.muli v145 c8_i32_83
  let v149 : BitVec 32 := v148
  let c0_i32_84 : BitVec 32 := 0#32
  ![v149.toNat, 0]

def k0_chk12 (v145 : BitVec 32) : Prop :=
  (8 ∣ (k0_mult28 v145).toNat) ∧
  (∀ a, (k0_off36 v145) a + S8x128.size a ≤ S491520x128.size a)
theorem k0_mult28_dvd : ∀ (v145 : BitVec 32) (k0_hw12 : k0_chk12 v145), 8 ∣ (k0_mult28 v145).toNat := fun v145 k0_hw12 => k0_hw12.1
theorem k0_off36_inb : ∀ (v145 : BitVec 32) (k0_hw12 : k0_chk12 v145), ∀ a, (k0_off36 v145) a + S8x128.size a ≤ S491520x128.size a := fun v145 k0_hw12 => k0_hw12.2

def k0_off37 (k0_t4 : Fin k0_t4_loop.trips) : Fin 2 → Nat :=
  let c0_i32_17 : BitVec 32 := 0#32
  let c1_i32_18 : BitVec 32 := 1#32
  let arg10 : BitVec 32 := Scf.iv c0_i32_17 c1_i32_18 k0_t4
  let c8_i32_81 : BitVec 32 := 8#32
  let v141 : BitVec 32 := Scalar.muli arg10 c8_i32_81
  let c7_i32 : BitVec 32 := 7#32
  let v142 : BitVec 32 := Scalar.addi v141 c7_i32
  let c8_i32_82 : BitVec 32 := 8#32
  let v146 : BitVec 32 := Scalar.muli v142 c8_i32_82
  let v147 : BitVec 32 := v146
  let c0_i32_85 : BitVec 32 := 0#32
  ![v147.toNat, 0]
@[reducible] def k0_t5_loop : Scf.Loop 32 :=
  let c0_i32_20 : BitVec 32 := 0#32
  let c1024_i32_21 : BitVec 32 := 1024#32
  let v34 : BitVec 32 := Scalar.addi c0_i32_20 c1024_i32_21
  let c1_i32_22 : BitVec 32 := 1#32
  ⟨c0_i32_20, v34, c1_i32_22⟩
def k0_mult29 : BitVec 32 :=
  let c0_i32_44 : BitVec 32 := 0#32
  c0_i32_44
def k0_mult30 : BitVec 32 :=
  let c0_i32_45 : BitVec 32 := 0#32
  c0_i32_45
@[reducible] def k0_t6_loop : Scf.Loop 32 :=
  let c0_i32_23 : BitVec 32 := 0#32
  let c8_i32_24 : BitVec 32 := 8#32
  let v35 : BitVec 32 := Scalar.addi c0_i32_23 c8_i32_24
  let c1_i32_25 : BitVec 32 := 1#32
  ⟨c0_i32_23, v35, c1_i32_25⟩
def k0_off38 (i : grid0.Coords) (k0_t6 : Fin k0_t6_loop.trips) : Fin 1 → Nat :=
  let c0_i32_23 : BitVec 32 := 0#32
  let c1_i32_25 : BitVec 32 := 1#32
  let arg10 : BitVec 32 := Scf.iv c0_i32_23 c1_i32_25 k0_t6
  let c32_i32_44 : BitVec 32 := 32#32
  let v64 : BitVec 32 := Scalar.muli arg10 c32_i32_44
  let arg0 : BitVec 32 := BitVec.ofNat 32 (i 0).val
  let v65 : BitVec 32 := Scalar.addi v64 arg0
  let v66 : Index := Scalar.indexCast v65
  ![v66.toNat]
def k0_mult31 (v67 : BitVec 32) : BitVec 32 :=
  let c8_i32_83 : BitVec 32 := 8#32
  let v124 : BitVec 32 := Scalar.muli v67 c8_i32_83
  v124
def k0_cond10 (v69 : BitVec 32) : BitVec 1 :=
  let c0_i32_45 : BitVec 32 := 0#32
  let v70 : BitVec 32 := Scalar.shrsi v69 c0_i32_45
  let c1_i32_46 : BitVec 32 := 1#32
  let v71 : BitVec 32 := Scalar.andi v70 c1_i32_46
  let c1_i32_47 : BitVec 32 := 1#32
  let v72 : BitVec 1 := Scalar.cmpi .eq v71 c1_i32_47
  let v73 : BitVec 32 := Scalar.extui v72
  let c0_i32_48 : BitVec 32 := 0#32
  let v74 : BitVec 1 := Scalar.cmpi .ne v73 c0_i32_48
  v74

def k0_off39 (v67 : BitVec 32) : Fin 2 → Nat :=
  let c8_i32_83 : BitVec 32 := 8#32
  let v124 : BitVec 32 := Scalar.muli v67 c8_i32_83
  let v125 : BitVec 32 := v124
  let c0_i32_84 : BitVec 32 := 0#32
  ![v125.toNat, 0]
def k0_mult32 (v67 : BitVec 32) (v69 : BitVec 32) : BitVec 32 :=
  let c0_i32_45 : BitVec 32 := 0#32
  let v70 : BitVec 32 := Scalar.shrsi v69 c0_i32_45
  let c1_i32_46 : BitVec 32 := 1#32
  let v71 : BitVec 32 := Scalar.andi v70 c1_i32_46
  let c1_i32_47 : BitVec 32 := 1#32
  let v72 : BitVec 1 := Scalar.cmpi .eq v71 c1_i32_47
  let c1_i32_49 : BitVec 32 := 1#32
  let c0_i32_50 : BitVec 32 := 0#32
  let v75 : BitVec 32 := Scalar.select v72 c1_i32_49 c0_i32_50
  let v76 : BitVec 32 := Scalar.addi v67 v75
  let c8_i32_83 : BitVec 32 := 8#32
  let v124 : BitVec 32 := Scalar.muli v76 c8_i32_83
  v124
def k0_cond11 (v69 : BitVec 32) : BitVec 1 :=
  let c1_i32_51 : BitVec 32 := 1#32
  let v77 : BitVec 32 := Scalar.shrsi v69 c1_i32_51
  let c1_i32_52 : BitVec 32 := 1#32
  let v78 : BitVec 32 := Scalar.andi v77 c1_i32_52
  let c1_i32_53 : BitVec 32 := 1#32
  let v79 : BitVec 1 := Scalar.cmpi .eq v78 c1_i32_53
  let v80 : BitVec 32 := Scalar.extui v79
  let c0_i32_54 : BitVec 32 := 0#32
  let v81 : BitVec 1 := Scalar.cmpi .ne v80 c0_i32_54
  v81

def k0_off40 (v67 : BitVec 32) (v69 : BitVec 32) : Fin 2 → Nat :=
  let c0_i32_45 : BitVec 32 := 0#32
  let v70 : BitVec 32 := Scalar.shrsi v69 c0_i32_45
  let c1_i32_46 : BitVec 32 := 1#32
  let v71 : BitVec 32 := Scalar.andi v70 c1_i32_46
  let c1_i32_47 : BitVec 32 := 1#32
  let v72 : BitVec 1 := Scalar.cmpi .eq v71 c1_i32_47
  let c1_i32_49 : BitVec 32 := 1#32
  let c0_i32_50 : BitVec 32 := 0#32
  let v75 : BitVec 32 := Scalar.select v72 c1_i32_49 c0_i32_50
  let v76 : BitVec 32 := Scalar.addi v67 v75
  let c8_i32_83 : BitVec 32 := 8#32
  let v124 : BitVec 32 := Scalar.muli v76 c8_i32_83
  let v125 : BitVec 32 := v124
  let c0_i32_84 : BitVec 32 := 0#32
  ![v125.toNat, 0]
def k0_mult33 (v67 : BitVec 32) (v69 : BitVec 32) : BitVec 32 :=
  let c0_i32_45 : BitVec 32 := 0#32
  let v70 : BitVec 32 := Scalar.shrsi v69 c0_i32_45
  let c1_i32_46 : BitVec 32 := 1#32
  let v71 : BitVec 32 := Scalar.andi v70 c1_i32_46
  let c1_i32_47 : BitVec 32 := 1#32
  let v72 : BitVec 1 := Scalar.cmpi .eq v71 c1_i32_47
  let c1_i32_49 : BitVec 32 := 1#32
  let c0_i32_50 : BitVec 32 := 0#32
  let v75 : BitVec 32 := Scalar.select v72 c1_i32_49 c0_i32_50
  let v76 : BitVec 32 := Scalar.addi v67 v75
  let c1_i32_51 : BitVec 32 := 1#32
  let v77 : BitVec 32 := Scalar.shrsi v69 c1_i32_51
  let c1_i32_52 : BitVec 32 := 1#32
  let v78 : BitVec 32 := Scalar.andi v77 c1_i32_52
  let c1_i32_53 : BitVec 32 := 1#32
  let v79 : BitVec 1 := Scalar.cmpi .eq v78 c1_i32_53
  let c2_i32 : BitVec 32 := 2#32
  let c0_i32_55 : BitVec 32 := 0#32
  let v82 : BitVec 32 := Scalar.select v79 c2_i32 c0_i32_55
  let v83 : BitVec 32 := Scalar.addi v76 v82
  let c8_i32_83 : BitVec 32 := 8#32
  let v124 : BitVec 32 := Scalar.muli v83 c8_i32_83
  v124
def k0_cond12 (v69 : BitVec 32) : BitVec 1 :=
  let c2_i32_56 : BitVec 32 := 2#32
  let v84 : BitVec 32 := Scalar.shrsi v69 c2_i32_56
  let c1_i32_57 : BitVec 32 := 1#32
  let v85 : BitVec 32 := Scalar.andi v84 c1_i32_57
  let c1_i32_58 : BitVec 32 := 1#32
  let v86 : BitVec 1 := Scalar.cmpi .eq v85 c1_i32_58
  let v87 : BitVec 32 := Scalar.extui v86
  let c0_i32_59 : BitVec 32 := 0#32
  let v88 : BitVec 1 := Scalar.cmpi .ne v87 c0_i32_59
  v88

def k0_off41 (v67 : BitVec 32) (v69 : BitVec 32) : Fin 2 → Nat :=
  let c0_i32_45 : BitVec 32 := 0#32
  let v70 : BitVec 32 := Scalar.shrsi v69 c0_i32_45
  let c1_i32_46 : BitVec 32 := 1#32
  let v71 : BitVec 32 := Scalar.andi v70 c1_i32_46
  let c1_i32_47 : BitVec 32 := 1#32
  let v72 : BitVec 1 := Scalar.cmpi .eq v71 c1_i32_47
  let c1_i32_49 : BitVec 32 := 1#32
  let c0_i32_50 : BitVec 32 := 0#32
  let v75 : BitVec 32 := Scalar.select v72 c1_i32_49 c0_i32_50
  let v76 : BitVec 32 := Scalar.addi v67 v75
  let c1_i32_51 : BitVec 32 := 1#32
  let v77 : BitVec 32 := Scalar.shrsi v69 c1_i32_51
  let c1_i32_52 : BitVec 32 := 1#32
  let v78 : BitVec 32 := Scalar.andi v77 c1_i32_52
  let c1_i32_53 : BitVec 32 := 1#32
  let v79 : BitVec 1 := Scalar.cmpi .eq v78 c1_i32_53
  let c2_i32 : BitVec 32 := 2#32
  let c0_i32_55 : BitVec 32 := 0#32
  let v82 : BitVec 32 := Scalar.select v79 c2_i32 c0_i32_55
  let v83 : BitVec 32 := Scalar.addi v76 v82
  let c8_i32_83 : BitVec 32 := 8#32
  let v124 : BitVec 32 := Scalar.muli v83 c8_i32_83
  let v125 : BitVec 32 := v124
  let c0_i32_84 : BitVec 32 := 0#32
  ![v125.toNat, 0]
def k0_mult34 (v67 : BitVec 32) (v69 : BitVec 32) : BitVec 32 :=
  let c0_i32_45 : BitVec 32 := 0#32
  let v70 : BitVec 32 := Scalar.shrsi v69 c0_i32_45
  let c1_i32_46 : BitVec 32 := 1#32
  let v71 : BitVec 32 := Scalar.andi v70 c1_i32_46
  let c1_i32_47 : BitVec 32 := 1#32
  let v72 : BitVec 1 := Scalar.cmpi .eq v71 c1_i32_47
  let c1_i32_49 : BitVec 32 := 1#32
  let c0_i32_50 : BitVec 32 := 0#32
  let v75 : BitVec 32 := Scalar.select v72 c1_i32_49 c0_i32_50
  let v76 : BitVec 32 := Scalar.addi v67 v75
  let c1_i32_51 : BitVec 32 := 1#32
  let v77 : BitVec 32 := Scalar.shrsi v69 c1_i32_51
  let c1_i32_52 : BitVec 32 := 1#32
  let v78 : BitVec 32 := Scalar.andi v77 c1_i32_52
  let c1_i32_53 : BitVec 32 := 1#32
  let v79 : BitVec 1 := Scalar.cmpi .eq v78 c1_i32_53
  let c2_i32 : BitVec 32 := 2#32
  let c0_i32_55 : BitVec 32 := 0#32
  let v82 : BitVec 32 := Scalar.select v79 c2_i32 c0_i32_55
  let v83 : BitVec 32 := Scalar.addi v76 v82
  let c2_i32_56 : BitVec 32 := 2#32
  let v84 : BitVec 32 := Scalar.shrsi v69 c2_i32_56
  let c1_i32_57 : BitVec 32 := 1#32
  let v85 : BitVec 32 := Scalar.andi v84 c1_i32_57
  let c1_i32_58 : BitVec 32 := 1#32
  let v86 : BitVec 1 := Scalar.cmpi .eq v85 c1_i32_58
  let c4_i32 : BitVec 32 := 4#32
  let c0_i32_60 : BitVec 32 := 0#32
  let v89 : BitVec 32 := Scalar.select v86 c4_i32 c0_i32_60
  let v90 : BitVec 32 := Scalar.addi v83 v89
  let c8_i32_83 : BitVec 32 := 8#32
  let v124 : BitVec 32 := Scalar.muli v90 c8_i32_83
  v124
def k0_cond13 (v69 : BitVec 32) : BitVec 1 :=
  let c3_i32 : BitVec 32 := 3#32
  let v91 : BitVec 32 := Scalar.shrsi v69 c3_i32
  let c1_i32_61 : BitVec 32 := 1#32
  let v92 : BitVec 32 := Scalar.andi v91 c1_i32_61
  let c1_i32_62 : BitVec 32 := 1#32
  let v93 : BitVec 1 := Scalar.cmpi .eq v92 c1_i32_62
  let v94 : BitVec 32 := Scalar.extui v93
  let c0_i32_63 : BitVec 32 := 0#32
  let v95 : BitVec 1 := Scalar.cmpi .ne v94 c0_i32_63
  v95

def k0_off42 (v67 : BitVec 32) (v69 : BitVec 32) : Fin 2 → Nat :=
  let c0_i32_45 : BitVec 32 := 0#32
  let v70 : BitVec 32 := Scalar.shrsi v69 c0_i32_45
  let c1_i32_46 : BitVec 32 := 1#32
  let v71 : BitVec 32 := Scalar.andi v70 c1_i32_46
  let c1_i32_47 : BitVec 32 := 1#32
  let v72 : BitVec 1 := Scalar.cmpi .eq v71 c1_i32_47
  let c1_i32_49 : BitVec 32 := 1#32
  let c0_i32_50 : BitVec 32 := 0#32
  let v75 : BitVec 32 := Scalar.select v72 c1_i32_49 c0_i32_50
  let v76 : BitVec 32 := Scalar.addi v67 v75
  let c1_i32_51 : BitVec 32 := 1#32
  let v77 : BitVec 32 := Scalar.shrsi v69 c1_i32_51
  let c1_i32_52 : BitVec 32 := 1#32
  let v78 : BitVec 32 := Scalar.andi v77 c1_i32_52
  let c1_i32_53 : BitVec 32 := 1#32
  let v79 : BitVec 1 := Scalar.cmpi .eq v78 c1_i32_53
  let c2_i32 : BitVec 32 := 2#32
  let c0_i32_55 : BitVec 32 := 0#32
  let v82 : BitVec 32 := Scalar.select v79 c2_i32 c0_i32_55
  let v83 : BitVec 32 := Scalar.addi v76 v82
  let c2_i32_56 : BitVec 32 := 2#32
  let v84 : BitVec 32 := Scalar.shrsi v69 c2_i32_56
  let c1_i32_57 : BitVec 32 := 1#32
  let v85 : BitVec 32 := Scalar.andi v84 c1_i32_57
  let c1_i32_58 : BitVec 32 := 1#32
  let v86 : BitVec 1 := Scalar.cmpi .eq v85 c1_i32_58
  let c4_i32 : BitVec 32 := 4#32
  let c0_i32_60 : BitVec 32 := 0#32
  let v89 : BitVec 32 := Scalar.select v86 c4_i32 c0_i32_60
  let v90 : BitVec 32 := Scalar.addi v83 v89
  let c8_i32_83 : BitVec 32 := 8#32
  let v124 : BitVec 32 := Scalar.muli v90 c8_i32_83
  let v125 : BitVec 32 := v124
  let c0_i32_84 : BitVec 32 := 0#32
  ![v125.toNat, 0]
def k0_mult35 (v67 : BitVec 32) (v69 : BitVec 32) : BitVec 32 :=
  let c0_i32_45 : BitVec 32 := 0#32
  let v70 : BitVec 32 := Scalar.shrsi v69 c0_i32_45
  let c1_i32_46 : BitVec 32 := 1#32
  let v71 : BitVec 32 := Scalar.andi v70 c1_i32_46
  let c1_i32_47 : BitVec 32 := 1#32
  let v72 : BitVec 1 := Scalar.cmpi .eq v71 c1_i32_47
  let c1_i32_49 : BitVec 32 := 1#32
  let c0_i32_50 : BitVec 32 := 0#32
  let v75 : BitVec 32 := Scalar.select v72 c1_i32_49 c0_i32_50
  let v76 : BitVec 32 := Scalar.addi v67 v75
  let c1_i32_51 : BitVec 32 := 1#32
  let v77 : BitVec 32 := Scalar.shrsi v69 c1_i32_51
  let c1_i32_52 : BitVec 32 := 1#32
  let v78 : BitVec 32 := Scalar.andi v77 c1_i32_52
  let c1_i32_53 : BitVec 32 := 1#32
  let v79 : BitVec 1 := Scalar.cmpi .eq v78 c1_i32_53
  let c2_i32 : BitVec 32 := 2#32
  let c0_i32_55 : BitVec 32 := 0#32
  let v82 : BitVec 32 := Scalar.select v79 c2_i32 c0_i32_55
  let v83 : BitVec 32 := Scalar.addi v76 v82
  let c2_i32_56 : BitVec 32 := 2#32
  let v84 : BitVec 32 := Scalar.shrsi v69 c2_i32_56
  let c1_i32_57 : BitVec 32 := 1#32
  let v85 : BitVec 32 := Scalar.andi v84 c1_i32_57
  let c1_i32_58 : BitVec 32 := 1#32
  let v86 : BitVec 1 := Scalar.cmpi .eq v85 c1_i32_58
  let c4_i32 : BitVec 32 := 4#32
  let c0_i32_60 : BitVec 32 := 0#32
  let v89 : BitVec 32 := Scalar.select v86 c4_i32 c0_i32_60
  let v90 : BitVec 32 := Scalar.addi v83 v89
  let c3_i32 : BitVec 32 := 3#32
  let v91 : BitVec 32 := Scalar.shrsi v69 c3_i32
  let c1_i32_61 : BitVec 32 := 1#32
  let v92 : BitVec 32 := Scalar.andi v91 c1_i32_61
  let c1_i32_62 : BitVec 32 := 1#32
  let v93 : BitVec 1 := Scalar.cmpi .eq v92 c1_i32_62
  let c8_i32_64 : BitVec 32 := 8#32
  let c0_i32_65 : BitVec 32 := 0#32
  let v96 : BitVec 32 := Scalar.select v93 c8_i32_64 c0_i32_65
  let v97 : BitVec 32 := Scalar.addi v90 v96
  let c8_i32_83 : BitVec 32 := 8#32
  let v124 : BitVec 32 := Scalar.muli v97 c8_i32_83
  v124
def k0_cond14 (v69 : BitVec 32) : BitVec 1 :=
  let c4_i32_66 : BitVec 32 := 4#32
  let v98 : BitVec 32 := Scalar.shrsi v69 c4_i32_66
  let c1_i32_67 : BitVec 32 := 1#32
  let v99 : BitVec 32 := Scalar.andi v98 c1_i32_67
  let c1_i32_68 : BitVec 32 := 1#32
  let v100 : BitVec 1 := Scalar.cmpi .eq v99 c1_i32_68
  let v101 : BitVec 32 := Scalar.extui v100
  let c0_i32_69 : BitVec 32 := 0#32
  let v102 : BitVec 1 := Scalar.cmpi .ne v101 c0_i32_69
  v102

def k0_off43 (v67 : BitVec 32) (v69 : BitVec 32) : Fin 2 → Nat :=
  let c0_i32_45 : BitVec 32 := 0#32
  let v70 : BitVec 32 := Scalar.shrsi v69 c0_i32_45
  let c1_i32_46 : BitVec 32 := 1#32
  let v71 : BitVec 32 := Scalar.andi v70 c1_i32_46
  let c1_i32_47 : BitVec 32 := 1#32
  let v72 : BitVec 1 := Scalar.cmpi .eq v71 c1_i32_47
  let c1_i32_49 : BitVec 32 := 1#32
  let c0_i32_50 : BitVec 32 := 0#32
  let v75 : BitVec 32 := Scalar.select v72 c1_i32_49 c0_i32_50
  let v76 : BitVec 32 := Scalar.addi v67 v75
  let c1_i32_51 : BitVec 32 := 1#32
  let v77 : BitVec 32 := Scalar.shrsi v69 c1_i32_51
  let c1_i32_52 : BitVec 32 := 1#32
  let v78 : BitVec 32 := Scalar.andi v77 c1_i32_52
  let c1_i32_53 : BitVec 32 := 1#32
  let v79 : BitVec 1 := Scalar.cmpi .eq v78 c1_i32_53
  let c2_i32 : BitVec 32 := 2#32
  let c0_i32_55 : BitVec 32 := 0#32
  let v82 : BitVec 32 := Scalar.select v79 c2_i32 c0_i32_55
  let v83 : BitVec 32 := Scalar.addi v76 v82
  let c2_i32_56 : BitVec 32 := 2#32
  let v84 : BitVec 32 := Scalar.shrsi v69 c2_i32_56
  let c1_i32_57 : BitVec 32 := 1#32
  let v85 : BitVec 32 := Scalar.andi v84 c1_i32_57
  let c1_i32_58 : BitVec 32 := 1#32
  let v86 : BitVec 1 := Scalar.cmpi .eq v85 c1_i32_58
  let c4_i32 : BitVec 32 := 4#32
  let c0_i32_60 : BitVec 32 := 0#32
  let v89 : BitVec 32 := Scalar.select v86 c4_i32 c0_i32_60
  let v90 : BitVec 32 := Scalar.addi v83 v89
  let c3_i32 : BitVec 32 := 3#32
  let v91 : BitVec 32 := Scalar.shrsi v69 c3_i32
  let c1_i32_61 : BitVec 32 := 1#32
  let v92 : BitVec 32 := Scalar.andi v91 c1_i32_61
  let c1_i32_62 : BitVec 32 := 1#32
  let v93 : BitVec 1 := Scalar.cmpi .eq v92 c1_i32_62
  let c8_i32_64 : BitVec 32 := 8#32
  let c0_i32_65 : BitVec 32 := 0#32
  let v96 : BitVec 32 := Scalar.select v93 c8_i32_64 c0_i32_65
  let v97 : BitVec 32 := Scalar.addi v90 v96
  let c8_i32_83 : BitVec 32 := 8#32
  let v124 : BitVec 32 := Scalar.muli v97 c8_i32_83
  let v125 : BitVec 32 := v124
  let c0_i32_84 : BitVec 32 := 0#32
  ![v125.toNat, 0]
def k0_mult36 (v67 : BitVec 32) (v69 : BitVec 32) : BitVec 32 :=
  let c0_i32_45 : BitVec 32 := 0#32
  let v70 : BitVec 32 := Scalar.shrsi v69 c0_i32_45
  let c1_i32_46 : BitVec 32 := 1#32
  let v71 : BitVec 32 := Scalar.andi v70 c1_i32_46
  let c1_i32_47 : BitVec 32 := 1#32
  let v72 : BitVec 1 := Scalar.cmpi .eq v71 c1_i32_47
  let c1_i32_49 : BitVec 32 := 1#32
  let c0_i32_50 : BitVec 32 := 0#32
  let v75 : BitVec 32 := Scalar.select v72 c1_i32_49 c0_i32_50
  let v76 : BitVec 32 := Scalar.addi v67 v75
  let c1_i32_51 : BitVec 32 := 1#32
  let v77 : BitVec 32 := Scalar.shrsi v69 c1_i32_51
  let c1_i32_52 : BitVec 32 := 1#32
  let v78 : BitVec 32 := Scalar.andi v77 c1_i32_52
  let c1_i32_53 : BitVec 32 := 1#32
  let v79 : BitVec 1 := Scalar.cmpi .eq v78 c1_i32_53
  let c2_i32 : BitVec 32 := 2#32
  let c0_i32_55 : BitVec 32 := 0#32
  let v82 : BitVec 32 := Scalar.select v79 c2_i32 c0_i32_55
  let v83 : BitVec 32 := Scalar.addi v76 v82
  let c2_i32_56 : BitVec 32 := 2#32
  let v84 : BitVec 32 := Scalar.shrsi v69 c2_i32_56
  let c1_i32_57 : BitVec 32 := 1#32
  let v85 : BitVec 32 := Scalar.andi v84 c1_i32_57
  let c1_i32_58 : BitVec 32 := 1#32
  let v86 : BitVec 1 := Scalar.cmpi .eq v85 c1_i32_58
  let c4_i32 : BitVec 32 := 4#32
  let c0_i32_60 : BitVec 32 := 0#32
  let v89 : BitVec 32 := Scalar.select v86 c4_i32 c0_i32_60
  let v90 : BitVec 32 := Scalar.addi v83 v89
  let c3_i32 : BitVec 32 := 3#32
  let v91 : BitVec 32 := Scalar.shrsi v69 c3_i32
  let c1_i32_61 : BitVec 32 := 1#32
  let v92 : BitVec 32 := Scalar.andi v91 c1_i32_61
  let c1_i32_62 : BitVec 32 := 1#32
  let v93 : BitVec 1 := Scalar.cmpi .eq v92 c1_i32_62
  let c8_i32_64 : BitVec 32 := 8#32
  let c0_i32_65 : BitVec 32 := 0#32
  let v96 : BitVec 32 := Scalar.select v93 c8_i32_64 c0_i32_65
  let v97 : BitVec 32 := Scalar.addi v90 v96
  let c4_i32_66 : BitVec 32 := 4#32
  let v98 : BitVec 32 := Scalar.shrsi v69 c4_i32_66
  let c1_i32_67 : BitVec 32 := 1#32
  let v99 : BitVec 32 := Scalar.andi v98 c1_i32_67
  let c1_i32_68 : BitVec 32 := 1#32
  let v100 : BitVec 1 := Scalar.cmpi .eq v99 c1_i32_68
  let c16_i32 : BitVec 32 := 16#32
  let c0_i32_70 : BitVec 32 := 0#32
  let v103 : BitVec 32 := Scalar.select v100 c16_i32 c0_i32_70
  let v104 : BitVec 32 := Scalar.addi v97 v103
  let c8_i32_83 : BitVec 32 := 8#32
  let v124 : BitVec 32 := Scalar.muli v104 c8_i32_83
  v124
def k0_cond15 (v69 : BitVec 32) : BitVec 1 :=
  let c5_i32 : BitVec 32 := 5#32
  let v105 : BitVec 32 := Scalar.shrsi v69 c5_i32
  let c1_i32_71 : BitVec 32 := 1#32
  let v106 : BitVec 32 := Scalar.andi v105 c1_i32_71
  let c1_i32_72 : BitVec 32 := 1#32
  let v107 : BitVec 1 := Scalar.cmpi .eq v106 c1_i32_72
  let v108 : BitVec 32 := Scalar.extui v107
  let c0_i32_73 : BitVec 32 := 0#32
  let v109 : BitVec 1 := Scalar.cmpi .ne v108 c0_i32_73
  v109

def k0_off44 (v67 : BitVec 32) (v69 : BitVec 32) : Fin 2 → Nat :=
  let c0_i32_45 : BitVec 32 := 0#32
  let v70 : BitVec 32 := Scalar.shrsi v69 c0_i32_45
  let c1_i32_46 : BitVec 32 := 1#32
  let v71 : BitVec 32 := Scalar.andi v70 c1_i32_46
  let c1_i32_47 : BitVec 32 := 1#32
  let v72 : BitVec 1 := Scalar.cmpi .eq v71 c1_i32_47
  let c1_i32_49 : BitVec 32 := 1#32
  let c0_i32_50 : BitVec 32 := 0#32
  let v75 : BitVec 32 := Scalar.select v72 c1_i32_49 c0_i32_50
  let v76 : BitVec 32 := Scalar.addi v67 v75
  let c1_i32_51 : BitVec 32 := 1#32
  let v77 : BitVec 32 := Scalar.shrsi v69 c1_i32_51
  let c1_i32_52 : BitVec 32 := 1#32
  let v78 : BitVec 32 := Scalar.andi v77 c1_i32_52
  let c1_i32_53 : BitVec 32 := 1#32
  let v79 : BitVec 1 := Scalar.cmpi .eq v78 c1_i32_53
  let c2_i32 : BitVec 32 := 2#32
  let c0_i32_55 : BitVec 32 := 0#32
  let v82 : BitVec 32 := Scalar.select v79 c2_i32 c0_i32_55
  let v83 : BitVec 32 := Scalar.addi v76 v82
  let c2_i32_56 : BitVec 32 := 2#32
  let v84 : BitVec 32 := Scalar.shrsi v69 c2_i32_56
  let c1_i32_57 : BitVec 32 := 1#32
  let v85 : BitVec 32 := Scalar.andi v84 c1_i32_57
  let c1_i32_58 : BitVec 32 := 1#32
  let v86 : BitVec 1 := Scalar.cmpi .eq v85 c1_i32_58
  let c4_i32 : BitVec 32 := 4#32
  let c0_i32_60 : BitVec 32 := 0#32
  let v89 : BitVec 32 := Scalar.select v86 c4_i32 c0_i32_60
  let v90 : BitVec 32 := Scalar.addi v83 v89
  let c3_i32 : BitVec 32 := 3#32
  let v91 : BitVec 32 := Scalar.shrsi v69 c3_i32
  let c1_i32_61 : BitVec 32 := 1#32
  let v92 : BitVec 32 := Scalar.andi v91 c1_i32_61
  let c1_i32_62 : BitVec 32 := 1#32
  let v93 : BitVec 1 := Scalar.cmpi .eq v92 c1_i32_62
  let c8_i32_64 : BitVec 32 := 8#32
  let c0_i32_65 : BitVec 32 := 0#32
  let v96 : BitVec 32 := Scalar.select v93 c8_i32_64 c0_i32_65
  let v97 : BitVec 32 := Scalar.addi v90 v96
  let c4_i32_66 : BitVec 32 := 4#32
  let v98 : BitVec 32 := Scalar.shrsi v69 c4_i32_66
  let c1_i32_67 : BitVec 32 := 1#32
  let v99 : BitVec 32 := Scalar.andi v98 c1_i32_67
  let c1_i32_68 : BitVec 32 := 1#32
  let v100 : BitVec 1 := Scalar.cmpi .eq v99 c1_i32_68
  let c16_i32 : BitVec 32 := 16#32
  let c0_i32_70 : BitVec 32 := 0#32
  let v103 : BitVec 32 := Scalar.select v100 c16_i32 c0_i32_70
  let v104 : BitVec 32 := Scalar.addi v97 v103
  let c8_i32_83 : BitVec 32 := 8#32
  let v124 : BitVec 32 := Scalar.muli v104 c8_i32_83
  let v125 : BitVec 32 := v124
  let c0_i32_84 : BitVec 32 := 0#32
  ![v125.toNat, 0]
def k0_mult37 (v67 : BitVec 32) (v69 : BitVec 32) : BitVec 32 :=
  let c0_i32_45 : BitVec 32 := 0#32
  let v70 : BitVec 32 := Scalar.shrsi v69 c0_i32_45
  let c1_i32_46 : BitVec 32 := 1#32
  let v71 : BitVec 32 := Scalar.andi v70 c1_i32_46
  let c1_i32_47 : BitVec 32 := 1#32
  let v72 : BitVec 1 := Scalar.cmpi .eq v71 c1_i32_47
  let c1_i32_49 : BitVec 32 := 1#32
  let c0_i32_50 : BitVec 32 := 0#32
  let v75 : BitVec 32 := Scalar.select v72 c1_i32_49 c0_i32_50
  let v76 : BitVec 32 := Scalar.addi v67 v75
  let c1_i32_51 : BitVec 32 := 1#32
  let v77 : BitVec 32 := Scalar.shrsi v69 c1_i32_51
  let c1_i32_52 : BitVec 32 := 1#32
  let v78 : BitVec 32 := Scalar.andi v77 c1_i32_52
  let c1_i32_53 : BitVec 32 := 1#32
  let v79 : BitVec 1 := Scalar.cmpi .eq v78 c1_i32_53
  let c2_i32 : BitVec 32 := 2#32
  let c0_i32_55 : BitVec 32 := 0#32
  let v82 : BitVec 32 := Scalar.select v79 c2_i32 c0_i32_55
  let v83 : BitVec 32 := Scalar.addi v76 v82
  let c2_i32_56 : BitVec 32 := 2#32
  let v84 : BitVec 32 := Scalar.shrsi v69 c2_i32_56
  let c1_i32_57 : BitVec 32 := 1#32
  let v85 : BitVec 32 := Scalar.andi v84 c1_i32_57
  let c1_i32_58 : BitVec 32 := 1#32
  let v86 : BitVec 1 := Scalar.cmpi .eq v85 c1_i32_58
  let c4_i32 : BitVec 32 := 4#32
  let c0_i32_60 : BitVec 32 := 0#32
  let v89 : BitVec 32 := Scalar.select v86 c4_i32 c0_i32_60
  let v90 : BitVec 32 := Scalar.addi v83 v89
  let c3_i32 : BitVec 32 := 3#32
  let v91 : BitVec 32 := Scalar.shrsi v69 c3_i32
  let c1_i32_61 : BitVec 32 := 1#32
  let v92 : BitVec 32 := Scalar.andi v91 c1_i32_61
  let c1_i32_62 : BitVec 32 := 1#32
  let v93 : BitVec 1 := Scalar.cmpi .eq v92 c1_i32_62
  let c8_i32_64 : BitVec 32 := 8#32
  let c0_i32_65 : BitVec 32 := 0#32
  let v96 : BitVec 32 := Scalar.select v93 c8_i32_64 c0_i32_65
  let v97 : BitVec 32 := Scalar.addi v90 v96
  let c4_i32_66 : BitVec 32 := 4#32
  let v98 : BitVec 32 := Scalar.shrsi v69 c4_i32_66
  let c1_i32_67 : BitVec 32 := 1#32
  let v99 : BitVec 32 := Scalar.andi v98 c1_i32_67
  let c1_i32_68 : BitVec 32 := 1#32
  let v100 : BitVec 1 := Scalar.cmpi .eq v99 c1_i32_68
  let c16_i32 : BitVec 32 := 16#32
  let c0_i32_70 : BitVec 32 := 0#32
  let v103 : BitVec 32 := Scalar.select v100 c16_i32 c0_i32_70
  let v104 : BitVec 32 := Scalar.addi v97 v103
  let c5_i32 : BitVec 32 := 5#32
  let v105 : BitVec 32 := Scalar.shrsi v69 c5_i32
  let c1_i32_71 : BitVec 32 := 1#32
  let v106 : BitVec 32 := Scalar.andi v105 c1_i32_71
  let c1_i32_72 : BitVec 32 := 1#32
  let v107 : BitVec 1 := Scalar.cmpi .eq v106 c1_i32_72
  let c32_i32_74 : BitVec 32 := 32#32
  let c0_i32_75 : BitVec 32 := 0#32
  let v110 : BitVec 32 := Scalar.select v107 c32_i32_74 c0_i32_75
  let v111 : BitVec 32 := Scalar.addi v104 v110
  let c8_i32_83 : BitVec 32 := 8#32
  let v124 : BitVec 32 := Scalar.muli v111 c8_i32_83
  v124
def k0_cond16 (v69 : BitVec 32) : BitVec 1 :=
  let c6_i32 : BitVec 32 := 6#32
  let v112 : BitVec 32 := Scalar.shrsi v69 c6_i32
  let c1_i32_76 : BitVec 32 := 1#32
  let v113 : BitVec 32 := Scalar.andi v112 c1_i32_76
  let c1_i32_77 : BitVec 32 := 1#32
  let v114 : BitVec 1 := Scalar.cmpi .eq v113 c1_i32_77
  let v115 : BitVec 32 := Scalar.extui v114
  let c0_i32_78 : BitVec 32 := 0#32
  let v116 : BitVec 1 := Scalar.cmpi .ne v115 c0_i32_78
  v116

def k0_off45 (v67 : BitVec 32) (v69 : BitVec 32) : Fin 2 → Nat :=
  let c0_i32_45 : BitVec 32 := 0#32
  let v70 : BitVec 32 := Scalar.shrsi v69 c0_i32_45
  let c1_i32_46 : BitVec 32 := 1#32
  let v71 : BitVec 32 := Scalar.andi v70 c1_i32_46
  let c1_i32_47 : BitVec 32 := 1#32
  let v72 : BitVec 1 := Scalar.cmpi .eq v71 c1_i32_47
  let c1_i32_49 : BitVec 32 := 1#32
  let c0_i32_50 : BitVec 32 := 0#32
  let v75 : BitVec 32 := Scalar.select v72 c1_i32_49 c0_i32_50
  let v76 : BitVec 32 := Scalar.addi v67 v75
  let c1_i32_51 : BitVec 32 := 1#32
  let v77 : BitVec 32 := Scalar.shrsi v69 c1_i32_51
  let c1_i32_52 : BitVec 32 := 1#32
  let v78 : BitVec 32 := Scalar.andi v77 c1_i32_52
  let c1_i32_53 : BitVec 32 := 1#32
  let v79 : BitVec 1 := Scalar.cmpi .eq v78 c1_i32_53
  let c2_i32 : BitVec 32 := 2#32
  let c0_i32_55 : BitVec 32 := 0#32
  let v82 : BitVec 32 := Scalar.select v79 c2_i32 c0_i32_55
  let v83 : BitVec 32 := Scalar.addi v76 v82
  let c2_i32_56 : BitVec 32 := 2#32
  let v84 : BitVec 32 := Scalar.shrsi v69 c2_i32_56
  let c1_i32_57 : BitVec 32 := 1#32
  let v85 : BitVec 32 := Scalar.andi v84 c1_i32_57
  let c1_i32_58 : BitVec 32 := 1#32
  let v86 : BitVec 1 := Scalar.cmpi .eq v85 c1_i32_58
  let c4_i32 : BitVec 32 := 4#32
  let c0_i32_60 : BitVec 32 := 0#32
  let v89 : BitVec 32 := Scalar.select v86 c4_i32 c0_i32_60
  let v90 : BitVec 32 := Scalar.addi v83 v89
  let c3_i32 : BitVec 32 := 3#32
  let v91 : BitVec 32 := Scalar.shrsi v69 c3_i32
  let c1_i32_61 : BitVec 32 := 1#32
  let v92 : BitVec 32 := Scalar.andi v91 c1_i32_61
  let c1_i32_62 : BitVec 32 := 1#32
  let v93 : BitVec 1 := Scalar.cmpi .eq v92 c1_i32_62
  let c8_i32_64 : BitVec 32 := 8#32
  let c0_i32_65 : BitVec 32 := 0#32
  let v96 : BitVec 32 := Scalar.select v93 c8_i32_64 c0_i32_65
  let v97 : BitVec 32 := Scalar.addi v90 v96
  let c4_i32_66 : BitVec 32 := 4#32
  let v98 : BitVec 32 := Scalar.shrsi v69 c4_i32_66
  let c1_i32_67 : BitVec 32 := 1#32
  let v99 : BitVec 32 := Scalar.andi v98 c1_i32_67
  let c1_i32_68 : BitVec 32 := 1#32
  let v100 : BitVec 1 := Scalar.cmpi .eq v99 c1_i32_68
  let c16_i32 : BitVec 32 := 16#32
  let c0_i32_70 : BitVec 32 := 0#32
  let v103 : BitVec 32 := Scalar.select v100 c16_i32 c0_i32_70
  let v104 : BitVec 32 := Scalar.addi v97 v103
  let c5_i32 : BitVec 32 := 5#32
  let v105 : BitVec 32 := Scalar.shrsi v69 c5_i32
  let c1_i32_71 : BitVec 32 := 1#32
  let v106 : BitVec 32 := Scalar.andi v105 c1_i32_71
  let c1_i32_72 : BitVec 32 := 1#32
  let v107 : BitVec 1 := Scalar.cmpi .eq v106 c1_i32_72
  let c32_i32_74 : BitVec 32 := 32#32
  let c0_i32_75 : BitVec 32 := 0#32
  let v110 : BitVec 32 := Scalar.select v107 c32_i32_74 c0_i32_75
  let v111 : BitVec 32 := Scalar.addi v104 v110
  let c8_i32_83 : BitVec 32 := 8#32
  let v124 : BitVec 32 := Scalar.muli v111 c8_i32_83
  let v125 : BitVec 32 := v124
  let c0_i32_84 : BitVec 32 := 0#32
  ![v125.toNat, 0]
def k0_mult38 (v67 : BitVec 32) (v69 : BitVec 32) : BitVec 32 :=
  let c0_i32_45 : BitVec 32 := 0#32
  let v70 : BitVec 32 := Scalar.shrsi v69 c0_i32_45
  let c1_i32_46 : BitVec 32 := 1#32
  let v71 : BitVec 32 := Scalar.andi v70 c1_i32_46
  let c1_i32_47 : BitVec 32 := 1#32
  let v72 : BitVec 1 := Scalar.cmpi .eq v71 c1_i32_47
  let c1_i32_49 : BitVec 32 := 1#32
  let c0_i32_50 : BitVec 32 := 0#32
  let v75 : BitVec 32 := Scalar.select v72 c1_i32_49 c0_i32_50
  let v76 : BitVec 32 := Scalar.addi v67 v75
  let c1_i32_51 : BitVec 32 := 1#32
  let v77 : BitVec 32 := Scalar.shrsi v69 c1_i32_51
  let c1_i32_52 : BitVec 32 := 1#32
  let v78 : BitVec 32 := Scalar.andi v77 c1_i32_52
  let c1_i32_53 : BitVec 32 := 1#32
  let v79 : BitVec 1 := Scalar.cmpi .eq v78 c1_i32_53
  let c2_i32 : BitVec 32 := 2#32
  let c0_i32_55 : BitVec 32 := 0#32
  let v82 : BitVec 32 := Scalar.select v79 c2_i32 c0_i32_55
  let v83 : BitVec 32 := Scalar.addi v76 v82
  let c2_i32_56 : BitVec 32 := 2#32
  let v84 : BitVec 32 := Scalar.shrsi v69 c2_i32_56
  let c1_i32_57 : BitVec 32 := 1#32
  let v85 : BitVec 32 := Scalar.andi v84 c1_i32_57
  let c1_i32_58 : BitVec 32 := 1#32
  let v86 : BitVec 1 := Scalar.cmpi .eq v85 c1_i32_58
  let c4_i32 : BitVec 32 := 4#32
  let c0_i32_60 : BitVec 32 := 0#32
  let v89 : BitVec 32 := Scalar.select v86 c4_i32 c0_i32_60
  let v90 : BitVec 32 := Scalar.addi v83 v89
  let c3_i32 : BitVec 32 := 3#32
  let v91 : BitVec 32 := Scalar.shrsi v69 c3_i32
  let c1_i32_61 : BitVec 32 := 1#32
  let v92 : BitVec 32 := Scalar.andi v91 c1_i32_61
  let c1_i32_62 : BitVec 32 := 1#32
  let v93 : BitVec 1 := Scalar.cmpi .eq v92 c1_i32_62
  let c8_i32_64 : BitVec 32 := 8#32
  let c0_i32_65 : BitVec 32 := 0#32
  let v96 : BitVec 32 := Scalar.select v93 c8_i32_64 c0_i32_65
  let v97 : BitVec 32 := Scalar.addi v90 v96
  let c4_i32_66 : BitVec 32 := 4#32
  let v98 : BitVec 32 := Scalar.shrsi v69 c4_i32_66
  let c1_i32_67 : BitVec 32 := 1#32
  let v99 : BitVec 32 := Scalar.andi v98 c1_i32_67
  let c1_i32_68 : BitVec 32 := 1#32
  let v100 : BitVec 1 := Scalar.cmpi .eq v99 c1_i32_68
  let c16_i32 : BitVec 32 := 16#32
  let c0_i32_70 : BitVec 32 := 0#32
  let v103 : BitVec 32 := Scalar.select v100 c16_i32 c0_i32_70
  let v104 : BitVec 32 := Scalar.addi v97 v103
  let c5_i32 : BitVec 32 := 5#32
  let v105 : BitVec 32 := Scalar.shrsi v69 c5_i32
  let c1_i32_71 : BitVec 32 := 1#32
  let v106 : BitVec 32 := Scalar.andi v105 c1_i32_71
  let c1_i32_72 : BitVec 32 := 1#32
  let v107 : BitVec 1 := Scalar.cmpi .eq v106 c1_i32_72
  let c32_i32_74 : BitVec 32 := 32#32
  let c0_i32_75 : BitVec 32 := 0#32
  let v110 : BitVec 32 := Scalar.select v107 c32_i32_74 c0_i32_75
  let v111 : BitVec 32 := Scalar.addi v104 v110
  let c6_i32 : BitVec 32 := 6#32
  let v112 : BitVec 32 := Scalar.shrsi v69 c6_i32
  let c1_i32_76 : BitVec 32 := 1#32
  let v113 : BitVec 32 := Scalar.andi v112 c1_i32_76
  let c1_i32_77 : BitVec 32 := 1#32
  let v114 : BitVec 1 := Scalar.cmpi .eq v113 c1_i32_77
  let c64_i32 : BitVec 32 := 64#32
  let c0_i32_79 : BitVec 32 := 0#32
  let v117 : BitVec 32 := Scalar.select v114 c64_i32 c0_i32_79
  let v118 : BitVec 32 := Scalar.addi v111 v117
  let c8_i32_83 : BitVec 32 := 8#32
  let v124 : BitVec 32 := Scalar.muli v118 c8_i32_83
  v124
def k0_cond17 (v69 : BitVec 32) : BitVec 1 :=
  let c7_i32 : BitVec 32 := 7#32
  let v119 : BitVec 32 := Scalar.shrsi v69 c7_i32
  let c1_i32_80 : BitVec 32 := 1#32
  let v120 : BitVec 32 := Scalar.andi v119 c1_i32_80
  let c1_i32_81 : BitVec 32 := 1#32
  let v121 : BitVec 1 := Scalar.cmpi .eq v120 c1_i32_81
  let v122 : BitVec 32 := Scalar.extui v121
  let c0_i32_82 : BitVec 32 := 0#32
  let v123 : BitVec 1 := Scalar.cmpi .ne v122 c0_i32_82
  v123

def k0_off46 (v67 : BitVec 32) (v69 : BitVec 32) : Fin 2 → Nat :=
  let c0_i32_45 : BitVec 32 := 0#32
  let v70 : BitVec 32 := Scalar.shrsi v69 c0_i32_45
  let c1_i32_46 : BitVec 32 := 1#32
  let v71 : BitVec 32 := Scalar.andi v70 c1_i32_46
  let c1_i32_47 : BitVec 32 := 1#32
  let v72 : BitVec 1 := Scalar.cmpi .eq v71 c1_i32_47
  let c1_i32_49 : BitVec 32 := 1#32
  let c0_i32_50 : BitVec 32 := 0#32
  let v75 : BitVec 32 := Scalar.select v72 c1_i32_49 c0_i32_50
  let v76 : BitVec 32 := Scalar.addi v67 v75
  let c1_i32_51 : BitVec 32 := 1#32
  let v77 : BitVec 32 := Scalar.shrsi v69 c1_i32_51
  let c1_i32_52 : BitVec 32 := 1#32
  let v78 : BitVec 32 := Scalar.andi v77 c1_i32_52
  let c1_i32_53 : BitVec 32 := 1#32
  let v79 : BitVec 1 := Scalar.cmpi .eq v78 c1_i32_53
  let c2_i32 : BitVec 32 := 2#32
  let c0_i32_55 : BitVec 32 := 0#32
  let v82 : BitVec 32 := Scalar.select v79 c2_i32 c0_i32_55
  let v83 : BitVec 32 := Scalar.addi v76 v82
  let c2_i32_56 : BitVec 32 := 2#32
  let v84 : BitVec 32 := Scalar.shrsi v69 c2_i32_56
  let c1_i32_57 : BitVec 32 := 1#32
  let v85 : BitVec 32 := Scalar.andi v84 c1_i32_57
  let c1_i32_58 : BitVec 32 := 1#32
  let v86 : BitVec 1 := Scalar.cmpi .eq v85 c1_i32_58
  let c4_i32 : BitVec 32 := 4#32
  let c0_i32_60 : BitVec 32 := 0#32
  let v89 : BitVec 32 := Scalar.select v86 c4_i32 c0_i32_60
  let v90 : BitVec 32 := Scalar.addi v83 v89
  let c3_i32 : BitVec 32 := 3#32
  let v91 : BitVec 32 := Scalar.shrsi v69 c3_i32
  let c1_i32_61 : BitVec 32 := 1#32
  let v92 : BitVec 32 := Scalar.andi v91 c1_i32_61
  let c1_i32_62 : BitVec 32 := 1#32
  let v93 : BitVec 1 := Scalar.cmpi .eq v92 c1_i32_62
  let c8_i32_64 : BitVec 32 := 8#32
  let c0_i32_65 : BitVec 32 := 0#32
  let v96 : BitVec 32 := Scalar.select v93 c8_i32_64 c0_i32_65
  let v97 : BitVec 32 := Scalar.addi v90 v96
  let c4_i32_66 : BitVec 32 := 4#32
  let v98 : BitVec 32 := Scalar.shrsi v69 c4_i32_66
  let c1_i32_67 : BitVec 32 := 1#32
  let v99 : BitVec 32 := Scalar.andi v98 c1_i32_67
  let c1_i32_68 : BitVec 32 := 1#32
  let v100 : BitVec 1 := Scalar.cmpi .eq v99 c1_i32_68
  let c16_i32 : BitVec 32 := 16#32
  let c0_i32_70 : BitVec 32 := 0#32
  let v103 : BitVec 32 := Scalar.select v100 c16_i32 c0_i32_70
  let v104 : BitVec 32 := Scalar.addi v97 v103
  let c5_i32 : BitVec 32 := 5#32
  let v105 : BitVec 32 := Scalar.shrsi v69 c5_i32
  let c1_i32_71 : BitVec 32 := 1#32
  let v106 : BitVec 32 := Scalar.andi v105 c1_i32_71
  let c1_i32_72 : BitVec 32 := 1#32
  let v107 : BitVec 1 := Scalar.cmpi .eq v106 c1_i32_72
  let c32_i32_74 : BitVec 32 := 32#32
  let c0_i32_75 : BitVec 32 := 0#32
  let v110 : BitVec 32 := Scalar.select v107 c32_i32_74 c0_i32_75
  let v111 : BitVec 32 := Scalar.addi v104 v110
  let c6_i32 : BitVec 32 := 6#32
  let v112 : BitVec 32 := Scalar.shrsi v69 c6_i32
  let c1_i32_76 : BitVec 32 := 1#32
  let v113 : BitVec 32 := Scalar.andi v112 c1_i32_76
  let c1_i32_77 : BitVec 32 := 1#32
  let v114 : BitVec 1 := Scalar.cmpi .eq v113 c1_i32_77
  let c64_i32 : BitVec 32 := 64#32
  let c0_i32_79 : BitVec 32 := 0#32
  let v117 : BitVec 32 := Scalar.select v114 c64_i32 c0_i32_79
  let v118 : BitVec 32 := Scalar.addi v111 v117
  let c8_i32_83 : BitVec 32 := 8#32
  let v124 : BitVec 32 := Scalar.muli v118 c8_i32_83
  let v125 : BitVec 32 := v124
  let c0_i32_84 : BitVec 32 := 0#32
  ![v125.toNat, 0]

def k0_chk13 (v67 : BitVec 32) (v69 : BitVec 32) : Prop :=
  (∀ (k0_h10 : k0_cond10 v69 = 1#1), 8 ∣ (k0_mult31 v67).toNat) ∧
  (∀ (k0_h10 : k0_cond10 v69 = 1#1), ∀ a, (k0_off39 v67) a + S8x128.size a ≤ S491520x128.size a) ∧
  (∀ (k0_h11 : k0_cond11 v69 = 1#1), 8 ∣ (k0_mult32 v67 v69).toNat) ∧
  (∀ (k0_h11 : k0_cond11 v69 = 1#1), ∀ a, (k0_off40 v67 v69) a + S16x128.size a ≤ S491520x128.size a) ∧
  (∀ (k0_h12 : k0_cond12 v69 = 1#1), 8 ∣ (k0_mult33 v67 v69).toNat) ∧
  (∀ (k0_h12 : k0_cond12 v69 = 1#1), ∀ a, (k0_off41 v67 v69) a + S32x128.size a ≤ S491520x128.size a) ∧
  (∀ (k0_h13 : k0_cond13 v69 = 1#1), 8 ∣ (k0_mult34 v67 v69).toNat) ∧
  (∀ (k0_h13 : k0_cond13 v69 = 1#1), ∀ a, (k0_off42 v67 v69) a + S64x128.size a ≤ S491520x128.size a) ∧
  (∀ (k0_h14 : k0_cond14 v69 = 1#1), 8 ∣ (k0_mult35 v67 v69).toNat) ∧
  (∀ (k0_h14 : k0_cond14 v69 = 1#1), ∀ a, (k0_off43 v67 v69) a + S128x128.size a ≤ S491520x128.size a) ∧
  (∀ (k0_h15 : k0_cond15 v69 = 1#1), 8 ∣ (k0_mult36 v67 v69).toNat) ∧
  (∀ (k0_h15 : k0_cond15 v69 = 1#1), ∀ a, (k0_off44 v67 v69) a + S256x128.size a ≤ S491520x128.size a) ∧
  (∀ (k0_h16 : k0_cond16 v69 = 1#1), 8 ∣ (k0_mult37 v67 v69).toNat) ∧
  (∀ (k0_h16 : k0_cond16 v69 = 1#1), ∀ a, (k0_off45 v67 v69) a + S512x128.size a ≤ S491520x128.size a) ∧
  (∀ (k0_h17 : k0_cond17 v69 = 1#1), 8 ∣ (k0_mult38 v67 v69).toNat) ∧
  (∀ (k0_h17 : k0_cond17 v69 = 1#1), ∀ a, (k0_off46 v67 v69) a + S1024x128.size a ≤ S491520x128.size a)
theorem k0_mult31_dvd : ∀ (v67 : BitVec 32) (v69 : BitVec 32) (k0_hw13 : k0_chk13 v67 v69), ∀ (k0_h10 : k0_cond10 v69 = 1#1), 8 ∣ (k0_mult31 v67).toNat := fun v67 v69 k0_hw13 k0_h10 => k0_hw13.1 k0_h10
theorem k0_off39_inb : ∀ (v67 : BitVec 32) (v69 : BitVec 32) (k0_hw13 : k0_chk13 v67 v69), ∀ (k0_h10 : k0_cond10 v69 = 1#1), ∀ a, (k0_off39 v67) a + S8x128.size a ≤ S491520x128.size a := fun v67 v69 k0_hw13 k0_h10 => k0_hw13.2.1 k0_h10
theorem k0_mult32_dvd : ∀ (v67 : BitVec 32) (v69 : BitVec 32) (k0_hw13 : k0_chk13 v67 v69), ∀ (k0_h11 : k0_cond11 v69 = 1#1), 8 ∣ (k0_mult32 v67 v69).toNat := fun v67 v69 k0_hw13 k0_h11 => k0_hw13.2.2.1 k0_h11
theorem k0_off40_inb : ∀ (v67 : BitVec 32) (v69 : BitVec 32) (k0_hw13 : k0_chk13 v67 v69), ∀ (k0_h11 : k0_cond11 v69 = 1#1), ∀ a, (k0_off40 v67 v69) a + S16x128.size a ≤ S491520x128.size a := fun v67 v69 k0_hw13 k0_h11 => k0_hw13.2.2.2.1 k0_h11
theorem k0_mult33_dvd : ∀ (v67 : BitVec 32) (v69 : BitVec 32) (k0_hw13 : k0_chk13 v67 v69), ∀ (k0_h12 : k0_cond12 v69 = 1#1), 8 ∣ (k0_mult33 v67 v69).toNat := fun v67 v69 k0_hw13 k0_h12 => k0_hw13.2.2.2.2.1 k0_h12
theorem k0_off41_inb : ∀ (v67 : BitVec 32) (v69 : BitVec 32) (k0_hw13 : k0_chk13 v67 v69), ∀ (k0_h12 : k0_cond12 v69 = 1#1), ∀ a, (k0_off41 v67 v69) a + S32x128.size a ≤ S491520x128.size a := fun v67 v69 k0_hw13 k0_h12 => k0_hw13.2.2.2.2.2.1 k0_h12
theorem k0_mult34_dvd : ∀ (v67 : BitVec 32) (v69 : BitVec 32) (k0_hw13 : k0_chk13 v67 v69), ∀ (k0_h13 : k0_cond13 v69 = 1#1), 8 ∣ (k0_mult34 v67 v69).toNat := fun v67 v69 k0_hw13 k0_h13 => k0_hw13.2.2.2.2.2.2.1 k0_h13
theorem k0_off42_inb : ∀ (v67 : BitVec 32) (v69 : BitVec 32) (k0_hw13 : k0_chk13 v67 v69), ∀ (k0_h13 : k0_cond13 v69 = 1#1), ∀ a, (k0_off42 v67 v69) a + S64x128.size a ≤ S491520x128.size a := fun v67 v69 k0_hw13 k0_h13 => k0_hw13.2.2.2.2.2.2.2.1 k0_h13
theorem k0_mult35_dvd : ∀ (v67 : BitVec 32) (v69 : BitVec 32) (k0_hw13 : k0_chk13 v67 v69), ∀ (k0_h14 : k0_cond14 v69 = 1#1), 8 ∣ (k0_mult35 v67 v69).toNat := fun v67 v69 k0_hw13 k0_h14 => k0_hw13.2.2.2.2.2.2.2.2.1 k0_h14
theorem k0_off43_inb : ∀ (v67 : BitVec 32) (v69 : BitVec 32) (k0_hw13 : k0_chk13 v67 v69), ∀ (k0_h14 : k0_cond14 v69 = 1#1), ∀ a, (k0_off43 v67 v69) a + S128x128.size a ≤ S491520x128.size a := fun v67 v69 k0_hw13 k0_h14 => k0_hw13.2.2.2.2.2.2.2.2.2.1 k0_h14
theorem k0_mult36_dvd : ∀ (v67 : BitVec 32) (v69 : BitVec 32) (k0_hw13 : k0_chk13 v67 v69), ∀ (k0_h15 : k0_cond15 v69 = 1#1), 8 ∣ (k0_mult36 v67 v69).toNat := fun v67 v69 k0_hw13 k0_h15 => k0_hw13.2.2.2.2.2.2.2.2.2.2.1 k0_h15
theorem k0_off44_inb : ∀ (v67 : BitVec 32) (v69 : BitVec 32) (k0_hw13 : k0_chk13 v67 v69), ∀ (k0_h15 : k0_cond15 v69 = 1#1), ∀ a, (k0_off44 v67 v69) a + S256x128.size a ≤ S491520x128.size a := fun v67 v69 k0_hw13 k0_h15 => k0_hw13.2.2.2.2.2.2.2.2.2.2.2.1 k0_h15
theorem k0_mult37_dvd : ∀ (v67 : BitVec 32) (v69 : BitVec 32) (k0_hw13 : k0_chk13 v67 v69), ∀ (k0_h16 : k0_cond16 v69 = 1#1), 8 ∣ (k0_mult37 v67 v69).toNat := fun v67 v69 k0_hw13 k0_h16 => k0_hw13.2.2.2.2.2.2.2.2.2.2.2.2.1 k0_h16
theorem k0_off45_inb : ∀ (v67 : BitVec 32) (v69 : BitVec 32) (k0_hw13 : k0_chk13 v67 v69), ∀ (k0_h16 : k0_cond16 v69 = 1#1), ∀ a, (k0_off45 v67 v69) a + S512x128.size a ≤ S491520x128.size a := fun v67 v69 k0_hw13 k0_h16 => k0_hw13.2.2.2.2.2.2.2.2.2.2.2.2.2.1 k0_h16
theorem k0_mult38_dvd : ∀ (v67 : BitVec 32) (v69 : BitVec 32) (k0_hw13 : k0_chk13 v67 v69), ∀ (k0_h17 : k0_cond17 v69 = 1#1), 8 ∣ (k0_mult38 v67 v69).toNat := fun v67 v69 k0_hw13 k0_h17 => k0_hw13.2.2.2.2.2.2.2.2.2.2.2.2.2.2.1 k0_h17
theorem k0_off46_inb : ∀ (v67 : BitVec 32) (v69 : BitVec 32) (k0_hw13 : k0_chk13 v67 v69), ∀ (k0_h17 : k0_cond17 v69 = 1#1), ∀ a, (k0_off46 v67 v69) a + S1024x128.size a ≤ S491520x128.size a := fun v67 v69 k0_hw13 k0_h17 => k0_hw13.2.2.2.2.2.2.2.2.2.2.2.2.2.2.2 k0_h17

@[reducible] def k0_t7_loop (i : grid0.Coords) (v36 : BitVec 32) : Scf.Loop 32 :=
  let c0_i32_40 : BitVec 32 := 0#32
  let c240_i32_28 : BitVec 32 := 240#32
  let v37 : BitVec 32 := Scalar.subi c240_i32_28 v36
  let arg0 : BitVec 32 := BitVec.ofNat 32 (i 0).val
  let v38 : BitVec 32 := Scalar.subi v37 arg0
  let c0_i32_29 : BitVec 32 := 0#32
  let v39 : BitVec 32 := Scalar.maxsi v38 c0_i32_29
  let c32_i32_30 : BitVec 32 := 32#32
  let v40 : BitVec 32 := Scalar.addi v39 c32_i32_30
  let c1_i32_31 : BitVec 32 := 1#32
  let v41 : BitVec 32 := Scalar.subi v40 c1_i32_31
  let c0_i32_33 : BitVec 32 := 0#32
  let v43 : BitVec 1 := Scalar.cmpi .sgt v41 c0_i32_33
  let v44 : BitVec 32 := Scalar.extui v43
  let c0_i32_34 : BitVec 32 := 0#32
  let v45 : BitVec 1 := Scalar.cmpi .slt v41 c0_i32_34
  let v46 : BitVec 32 := Scalar.extui v45
  let v47 : BitVec 32 := Scalar.subi v44 v46
  let c32_i32_32 : BitVec 32 := 32#32
  let c0_i32_35 : BitVec 32 := 0#32
  let v48 : BitVec 1 := Scalar.cmpi .sgt c32_i32_32 c0_i32_35
  let v49 : BitVec 32 := Scalar.extui v48
  let c0_i32_36 : BitVec 32 := 0#32
  let v50 : BitVec 1 := Scalar.cmpi .slt c32_i32_32 c0_i32_36
  let v51 : BitVec 32 := Scalar.extui v50
  let v52 : BitVec 32 := Scalar.subi v49 v51
  let v53 : BitVec 1 := Scalar.cmpi .ne v47 v52
  let v54 : BitVec 32 := Scalar.remsi v41 c32_i32_32
  let c0_i32_37 : BitVec 32 := 0#32
  let v55 : BitVec 1 := Scalar.cmpi .ne v54 c0_i32_37
  let v56 : BitVec 1 := Scalar.andi v53 v55
  let v42 : BitVec 32 := Scalar.divsi v41 c32_i32_32
  let c1_i32_38 : BitVec 32 := 1#32
  let v57 : BitVec 32 := Scalar.subi v42 c1_i32_38
  let v58 : BitVec 32 := Scalar.select v56 v57 v42
  let v59 : BitVec 32 := Scalar.subi v58 c0_i32_40
  let c1_i32_41 : BitVec 32 := 1#32
  let v61 : BitVec 32 := Scalar.divsi v59 c1_i32_41
  let v62 : BitVec 32 := Scalar.muli v61 c1_i32_41
  let v63 : BitVec 32 := Scalar.addi c0_i32_40 v62
  let c1_i32_42 : BitVec 32 := 1#32
  ⟨c0_i32_40, v63, c1_i32_42⟩

def k0_mult39 (i : grid0.Coords) (v36 : BitVec 32) (k0_t7 : Fin (k0_t7_loop i v36).trips) (v64 : BitVec 32) : BitVec 32 :=
  let arg0 : BitVec 32 := BitVec.ofNat 32 (i 0).val
  let v65 : BitVec 32 := Scalar.addi v64 arg0
  let c0_i32_40 : BitVec 32 := 0#32
  let c1_i32_42 : BitVec 32 := 1#32
  let arg10 : BitVec 32 := Scf.iv c0_i32_40 c1_i32_42 k0_t7
  let c32_i32_45 : BitVec 32 := 32#32
  let v66 : BitVec 32 := Scalar.muli arg10 c32_i32_45
  let v67 : BitVec 32 := Scalar.addi v65 v66
  let c2_i32 : BitVec 32 := 2#32
  let v68 : BitVec 32 := Scalar.muli v67 c2_i32
  let c128_i32_46 : BitVec 32 := 128#32
  let v69 : BitVec 32 := Scalar.muli v68 c128_i32_46
  let c8_i32_47 : BitVec 32 := 8#32
  let v70 : BitVec 32 := Scalar.muli v69 c8_i32_47
  v70

def k0_off47 (i : grid0.Coords) (v36 : BitVec 32) (k0_t7 : Fin (k0_t7_loop i v36).trips) (v64 : BitVec 32) : Fin 2 → Nat :=
  let arg0 : BitVec 32 := BitVec.ofNat 32 (i 0).val
  let v65 : BitVec 32 := Scalar.addi v64 arg0
  let c0_i32_40 : BitVec 32 := 0#32
  let c1_i32_42 : BitVec 32 := 1#32
  let arg10 : BitVec 32 := Scf.iv c0_i32_40 c1_i32_42 k0_t7
  let c32_i32_45 : BitVec 32 := 32#32
  let v66 : BitVec 32 := Scalar.muli arg10 c32_i32_45
  let v67 : BitVec 32 := Scalar.addi v65 v66
  let c2_i32 : BitVec 32 := 2#32
  let v68 : BitVec 32 := Scalar.muli v67 c2_i32
  let c128_i32_46 : BitVec 32 := 128#32
  let v69 : BitVec 32 := Scalar.muli v68 c128_i32_46
  let c8_i32_47 : BitVec 32 := 8#32
  let v70 : BitVec 32 := Scalar.muli v69 c8_i32_47
  let v71 : BitVec 32 := v70
  let c0_i32_48 : BitVec 32 := 0#32
  ![v71.toNat, 0]
def k0_mult40 (i : grid0.Coords) (v36 : BitVec 32) (k0_t7 : Fin (k0_t7_loop i v36).trips) (v64 : BitVec 32) : BitVec 32 :=
  let arg0 : BitVec 32 := BitVec.ofNat 32 (i 0).val
  let v65 : BitVec 32 := Scalar.addi v64 arg0
  let c0_i32_40 : BitVec 32 := 0#32
  let c1_i32_42 : BitVec 32 := 1#32
  let arg10 : BitVec 32 := Scf.iv c0_i32_40 c1_i32_42 k0_t7
  let c32_i32_45 : BitVec 32 := 32#32
  let v66 : BitVec 32 := Scalar.muli arg10 c32_i32_45
  let v67 : BitVec 32 := Scalar.addi v65 v66
  let c2_i32 : BitVec 32 := 2#32
  let v68 : BitVec 32 := Scalar.muli v67 c2_i32
  let c128_i32_46 : BitVec 32 := 128#32
  let v69 : BitVec 32 := Scalar.muli v68 c128_i32_46
  let c128_i32_51 : BitVec 32 := 128#32
  let v74 : BitVec 32 := Scalar.addi v69 c128_i32_51
  let c8_i32_52 : BitVec 32 := 8#32
  let v75 : BitVec 32 := Scalar.muli v74 c8_i32_52
  v75
def k0_off48 (i : grid0.Coords) (v36 : BitVec 32) (k0_t7 : Fin (k0_t7_loop i v36).trips) (v64 : BitVec 32) : Fin 2 → Nat :=
  let arg0 : BitVec 32 := BitVec.ofNat 32 (i 0).val
  let v65 : BitVec 32 := Scalar.addi v64 arg0
  let c0_i32_40 : BitVec 32 := 0#32
  let c1_i32_42 : BitVec 32 := 1#32
  let arg10 : BitVec 32 := Scf.iv c0_i32_40 c1_i32_42 k0_t7
  let c32_i32_45 : BitVec 32 := 32#32
  let v66 : BitVec 32 := Scalar.muli arg10 c32_i32_45
  let v67 : BitVec 32 := Scalar.addi v65 v66
  let c2_i32 : BitVec 32 := 2#32
  let v68 : BitVec 32 := Scalar.muli v67 c2_i32
  let c128_i32_46 : BitVec 32 := 128#32
  let v69 : BitVec 32 := Scalar.muli v68 c128_i32_46
  let c128_i32_51 : BitVec 32 := 128#32
  let v74 : BitVec 32 := Scalar.addi v69 c128_i32_51
  let c8_i32_52 : BitVec 32 := 8#32
  let v75 : BitVec 32 := Scalar.muli v74 c8_i32_52
  let v76 : BitVec 32 := v75
  let c0_i32_53 : BitVec 32 := 0#32
  ![v76.toNat, 0]

def k0_chk15 (i : grid0.Coords) (v36 : BitVec 32) (k0_t7 : Fin (k0_t7_loop i v36).trips) (v64 : BitVec 32) : Prop :=
  (8 ∣ (k0_mult39 i v36 k0_t7 v64).toNat) ∧
  (∀ a, (k0_off47 i v36 k0_t7 v64) a + S1024x128.size a ≤ S491520x128.size a) ∧
  (8 ∣ (k0_mult40 i v36 k0_t7 v64).toNat) ∧
  (∀ a, (k0_off48 i v36 k0_t7 v64) a + S1024x128.size a ≤ S491520x128.size a)
theorem k0_mult39_dvd : ∀ (i : grid0.Coords) (v36 : BitVec 32) (k0_t7 : Fin (k0_t7_loop i v36).trips) (v64 : BitVec 32) (k0_hw15 : k0_chk15 i v36 k0_t7 v64), 8 ∣ (k0_mult39 i v36 k0_t7 v64).toNat := fun i v36 k0_t7 v64 k0_hw15 => k0_hw15.1
theorem k0_off47_inb : ∀ (i : grid0.Coords) (v36 : BitVec 32) (k0_t7 : Fin (k0_t7_loop i v36).trips) (v64 : BitVec 32) (k0_hw15 : k0_chk15 i v36 k0_t7 v64), ∀ a, (k0_off47 i v36 k0_t7 v64) a + S1024x128.size a ≤ S491520x128.size a := fun i v36 k0_t7 v64 k0_hw15 => k0_hw15.2.1
theorem k0_mult40_dvd : ∀ (i : grid0.Coords) (v36 : BitVec 32) (k0_t7 : Fin (k0_t7_loop i v36).trips) (v64 : BitVec 32) (k0_hw15 : k0_chk15 i v36 k0_t7 v64), 8 ∣ (k0_mult40 i v36 k0_t7 v64).toNat := fun i v36 k0_t7 v64 k0_hw15 => k0_hw15.2.2.1
theorem k0_off48_inb : ∀ (i : grid0.Coords) (v36 : BitVec 32) (k0_t7 : Fin (k0_t7_loop i v36).trips) (v64 : BitVec 32) (k0_hw15 : k0_chk15 i v36 k0_t7 v64), ∀ a, (k0_off48 i v36 k0_t7 v64) a + S1024x128.size a ≤ S491520x128.size a := fun i v36 k0_t7 v64 k0_hw15 => k0_hw15.2.2.2

@[reducible] def k0_t8_loop (i : grid0.Coords) (v36 : BitVec 32) : Scf.Loop 32 :=
  let c0_i32_40 : BitVec 32 := 0#32
  let c240_i32_28 : BitVec 32 := 240#32
  let v37 : BitVec 32 := Scalar.subi c240_i32_28 v36
  let arg0 : BitVec 32 := BitVec.ofNat 32 (i 0).val
  let v38 : BitVec 32 := Scalar.subi v37 arg0
  let c0_i32_29 : BitVec 32 := 0#32
  let v39 : BitVec 32 := Scalar.maxsi v38 c0_i32_29
  let c32_i32_30 : BitVec 32 := 32#32
  let v40 : BitVec 32 := Scalar.addi v39 c32_i32_30
  let c1_i32_31 : BitVec 32 := 1#32
  let v41 : BitVec 32 := Scalar.subi v40 c1_i32_31
  let c0_i32_33 : BitVec 32 := 0#32
  let v43 : BitVec 1 := Scalar.cmpi .sgt v41 c0_i32_33
  let v44 : BitVec 32 := Scalar.extui v43
  let c0_i32_34 : BitVec 32 := 0#32
  let v45 : BitVec 1 := Scalar.cmpi .slt v41 c0_i32_34
  let v46 : BitVec 32 := Scalar.extui v45
  let v47 : BitVec 32 := Scalar.subi v44 v46
  let c32_i32_32 : BitVec 32 := 32#32
  let c0_i32_35 : BitVec 32 := 0#32
  let v48 : BitVec 1 := Scalar.cmpi .sgt c32_i32_32 c0_i32_35
  let v49 : BitVec 32 := Scalar.extui v48
  let c0_i32_36 : BitVec 32 := 0#32
  let v50 : BitVec 1 := Scalar.cmpi .slt c32_i32_32 c0_i32_36
  let v51 : BitVec 32 := Scalar.extui v50
  let v52 : BitVec 32 := Scalar.subi v49 v51
  let v53 : BitVec 1 := Scalar.cmpi .ne v47 v52
  let v54 : BitVec 32 := Scalar.remsi v41 c32_i32_32
  let c0_i32_37 : BitVec 32 := 0#32
  let v55 : BitVec 1 := Scalar.cmpi .ne v54 c0_i32_37
  let v56 : BitVec 1 := Scalar.andi v53 v55
  let v42 : BitVec 32 := Scalar.divsi v41 c32_i32_32
  let c1_i32_38 : BitVec 32 := 1#32
  let v57 : BitVec 32 := Scalar.subi v42 c1_i32_38
  let v58 : BitVec 32 := Scalar.select v56 v57 v42
  let v59 : BitVec 32 := Scalar.subi v58 c0_i32_40
  let c1_i32_41 : BitVec 32 := 1#32
  let v61 : BitVec 32 := Scalar.divsi v59 c1_i32_41
  let v62 : BitVec 32 := Scalar.muli v61 c1_i32_41
  let v63 : BitVec 32 := Scalar.addi c0_i32_40 v62
  let v60 : BitVec 32 := Scalar.addi c0_i32_40 v59
  let c1_i32_43 : BitVec 32 := 1#32
  ⟨v63, v60, c1_i32_43⟩

def k0_chk14 (i : grid0.Coords) (v36 : BitVec 32) : Prop :=
  ((k0_t7_loop i v36).OK) ∧
  ((k0_t8_loop i v36).OK)
theorem k0_t7_ok : ∀ (i : grid0.Coords) (v36 : BitVec 32) (k0_hw14 : k0_chk14 i v36), (k0_t7_loop i v36).OK := fun i v36 k0_hw14 => k0_hw14.1
theorem k0_t8_ok : ∀ (i : grid0.Coords) (v36 : BitVec 32) (k0_hw14 : k0_chk14 i v36), (k0_t8_loop i v36).OK := fun i v36 k0_hw14 => k0_hw14.2

def k0_mult41 (i : grid0.Coords) (v36 : BitVec 32) (k0_t8 : Fin (k0_t8_loop i v36).trips) (v64 : BitVec 32) : BitVec 32 :=
  let arg0 : BitVec 32 := BitVec.ofNat 32 (i 0).val
  let v65 : BitVec 32 := Scalar.addi v64 arg0
  let c0_i32_40 : BitVec 32 := 0#32
  let c240_i32_28 : BitVec 32 := 240#32
  let v37 : BitVec 32 := Scalar.subi c240_i32_28 v36
  let v38 : BitVec 32 := Scalar.subi v37 arg0
  let c0_i32_29 : BitVec 32 := 0#32
  let v39 : BitVec 32 := Scalar.maxsi v38 c0_i32_29
  let c32_i32_30 : BitVec 32 := 32#32
  let v40 : BitVec 32 := Scalar.addi v39 c32_i32_30
  let c1_i32_31 : BitVec 32 := 1#32
  let v41 : BitVec 32 := Scalar.subi v40 c1_i32_31
  let c0_i32_33 : BitVec 32 := 0#32
  let v43 : BitVec 1 := Scalar.cmpi .sgt v41 c0_i32_33
  let v44 : BitVec 32 := Scalar.extui v43
  let c0_i32_34 : BitVec 32 := 0#32
  let v45 : BitVec 1 := Scalar.cmpi .slt v41 c0_i32_34
  let v46 : BitVec 32 := Scalar.extui v45
  let v47 : BitVec 32 := Scalar.subi v44 v46
  let c32_i32_32 : BitVec 32 := 32#32
  let c0_i32_35 : BitVec 32 := 0#32
  let v48 : BitVec 1 := Scalar.cmpi .sgt c32_i32_32 c0_i32_35
  let v49 : BitVec 32 := Scalar.extui v48
  let c0_i32_36 : BitVec 32 := 0#32
  let v50 : BitVec 1 := Scalar.cmpi .slt c32_i32_32 c0_i32_36
  let v51 : BitVec 32 := Scalar.extui v50
  let v52 : BitVec 32 := Scalar.subi v49 v51
  let v53 : BitVec 1 := Scalar.cmpi .ne v47 v52
  let v54 : BitVec 32 := Scalar.remsi v41 c32_i32_32
  let c0_i32_37 : BitVec 32 := 0#32
  let v55 : BitVec 1 := Scalar.cmpi .ne v54 c0_i32_37
  let v56 : BitVec 1 := Scalar.andi v53 v55
  let v42 : BitVec 32 := Scalar.divsi v41 c32_i32_32
  let c1_i32_38 : BitVec 32 := 1#32
  let v57 : BitVec 32 := Scalar.subi v42 c1_i32_38
  let v58 : BitVec 32 := Scalar.select v56 v57 v42
  let v59 : BitVec 32 := Scalar.subi v58 c0_i32_40
  let c1_i32_41 : BitVec 32 := 1#32
  let v61 : BitVec 32 := Scalar.divsi v59 c1_i32_41
  let v62 : BitVec 32 := Scalar.muli v61 c1_i32_41
  let v63 : BitVec 32 := Scalar.addi c0_i32_40 v62
  let c1_i32_43 : BitVec 32 := 1#32
  let arg10 : BitVec 32 := Scf.iv v63 c1_i32_43 k0_t8
  let c32_i32_45 : BitVec 32 := 32#32
  let v66 : BitVec 32 := Scalar.muli arg10 c32_i32_45
  let v67 : BitVec 32 := Scalar.addi v65 v66
  let c2_i32 : BitVec 32 := 2#32
  let v68 : BitVec 32 := Scalar.muli v67 c2_i32
  let c128_i32_46 : BitVec 32 := 128#32
  let v69 : BitVec 32 := Scalar.muli v68 c128_i32_46
  let c8_i32_47 : BitVec 32 := 8#32
  let v70 : BitVec 32 := Scalar.muli v69 c8_i32_47
  v70

def k0_off49 (i : grid0.Coords) (v36 : BitVec 32) (k0_t8 : Fin (k0_t8_loop i v36).trips) (v64 : BitVec 32) : Fin 2 → Nat :=
  let arg0 : BitVec 32 := BitVec.ofNat 32 (i 0).val
  let v65 : BitVec 32 := Scalar.addi v64 arg0
  let c0_i32_40 : BitVec 32 := 0#32
  let c240_i32_28 : BitVec 32 := 240#32
  let v37 : BitVec 32 := Scalar.subi c240_i32_28 v36
  let v38 : BitVec 32 := Scalar.subi v37 arg0
  let c0_i32_29 : BitVec 32 := 0#32
  let v39 : BitVec 32 := Scalar.maxsi v38 c0_i32_29
  let c32_i32_30 : BitVec 32 := 32#32
  let v40 : BitVec 32 := Scalar.addi v39 c32_i32_30
  let c1_i32_31 : BitVec 32 := 1#32
  let v41 : BitVec 32 := Scalar.subi v40 c1_i32_31
  let c0_i32_33 : BitVec 32 := 0#32
  let v43 : BitVec 1 := Scalar.cmpi .sgt v41 c0_i32_33
  let v44 : BitVec 32 := Scalar.extui v43
  let c0_i32_34 : BitVec 32 := 0#32
  let v45 : BitVec 1 := Scalar.cmpi .slt v41 c0_i32_34
  let v46 : BitVec 32 := Scalar.extui v45
  let v47 : BitVec 32 := Scalar.subi v44 v46
  let c32_i32_32 : BitVec 32 := 32#32
  let c0_i32_35 : BitVec 32 := 0#32
  let v48 : BitVec 1 := Scalar.cmpi .sgt c32_i32_32 c0_i32_35
  let v49 : BitVec 32 := Scalar.extui v48
  let c0_i32_36 : BitVec 32 := 0#32
  let v50 : BitVec 1 := Scalar.cmpi .slt c32_i32_32 c0_i32_36
  let v51 : BitVec 32 := Scalar.extui v50
  let v52 : BitVec 32 := Scalar.subi v49 v51
  let v53 : BitVec 1 := Scalar.cmpi .ne v47 v52
  let v54 : BitVec 32 := Scalar.remsi v41 c32_i32_32
  let c0_i32_37 : BitVec 32 := 0#32
  let v55 : BitVec 1 := Scalar.cmpi .ne v54 c0_i32_37
  let v56 : BitVec 1 := Scalar.andi v53 v55
  let v42 : BitVec 32 := Scalar.divsi v41 c32_i32_32
  let c1_i32_38 : BitVec 32 := 1#32
  let v57 : BitVec 32 := Scalar.subi v42 c1_i32_38
  let v58 : BitVec 32 := Scalar.select v56 v57 v42
  let v59 : BitVec 32 := Scalar.subi v58 c0_i32_40
  let c1_i32_41 : BitVec 32 := 1#32
  let v61 : BitVec 32 := Scalar.divsi v59 c1_i32_41
  let v62 : BitVec 32 := Scalar.muli v61 c1_i32_41
  let v63 : BitVec 32 := Scalar.addi c0_i32_40 v62
  let c1_i32_43 : BitVec 32 := 1#32
  let arg10 : BitVec 32 := Scf.iv v63 c1_i32_43 k0_t8
  let c32_i32_45 : BitVec 32 := 32#32
  let v66 : BitVec 32 := Scalar.muli arg10 c32_i32_45
  let v67 : BitVec 32 := Scalar.addi v65 v66
  let c2_i32 : BitVec 32 := 2#32
  let v68 : BitVec 32 := Scalar.muli v67 c2_i32
  let c128_i32_46 : BitVec 32 := 128#32
  let v69 : BitVec 32 := Scalar.muli v68 c128_i32_46
  let c8_i32_47 : BitVec 32 := 8#32
  let v70 : BitVec 32 := Scalar.muli v69 c8_i32_47
  let v71 : BitVec 32 := v70
  let c0_i32_48 : BitVec 32 := 0#32
  ![v71.toNat, 0]
def k0_mult42 (i : grid0.Coords) (v36 : BitVec 32) (k0_t8 : Fin (k0_t8_loop i v36).trips) (v64 : BitVec 32) : BitVec 32 :=
  let arg0 : BitVec 32 := BitVec.ofNat 32 (i 0).val
  let v65 : BitVec 32 := Scalar.addi v64 arg0
  let c0_i32_40 : BitVec 32 := 0#32
  let c240_i32_28 : BitVec 32 := 240#32
  let v37 : BitVec 32 := Scalar.subi c240_i32_28 v36
  let v38 : BitVec 32 := Scalar.subi v37 arg0
  let c0_i32_29 : BitVec 32 := 0#32
  let v39 : BitVec 32 := Scalar.maxsi v38 c0_i32_29
  let c32_i32_30 : BitVec 32 := 32#32
  let v40 : BitVec 32 := Scalar.addi v39 c32_i32_30
  let c1_i32_31 : BitVec 32 := 1#32
  let v41 : BitVec 32 := Scalar.subi v40 c1_i32_31
  let c0_i32_33 : BitVec 32 := 0#32
  let v43 : BitVec 1 := Scalar.cmpi .sgt v41 c0_i32_33
  let v44 : BitVec 32 := Scalar.extui v43
  let c0_i32_34 : BitVec 32 := 0#32
  let v45 : BitVec 1 := Scalar.cmpi .slt v41 c0_i32_34
  let v46 : BitVec 32 := Scalar.extui v45
  let v47 : BitVec 32 := Scalar.subi v44 v46
  let c32_i32_32 : BitVec 32 := 32#32
  let c0_i32_35 : BitVec 32 := 0#32
  let v48 : BitVec 1 := Scalar.cmpi .sgt c32_i32_32 c0_i32_35
  let v49 : BitVec 32 := Scalar.extui v48
  let c0_i32_36 : BitVec 32 := 0#32
  let v50 : BitVec 1 := Scalar.cmpi .slt c32_i32_32 c0_i32_36
  let v51 : BitVec 32 := Scalar.extui v50
  let v52 : BitVec 32 := Scalar.subi v49 v51
  let v53 : BitVec 1 := Scalar.cmpi .ne v47 v52
  let v54 : BitVec 32 := Scalar.remsi v41 c32_i32_32
  let c0_i32_37 : BitVec 32 := 0#32
  let v55 : BitVec 1 := Scalar.cmpi .ne v54 c0_i32_37
  let v56 : BitVec 1 := Scalar.andi v53 v55
  let v42 : BitVec 32 := Scalar.divsi v41 c32_i32_32
  let c1_i32_38 : BitVec 32 := 1#32
  let v57 : BitVec 32 := Scalar.subi v42 c1_i32_38
  let v58 : BitVec 32 := Scalar.select v56 v57 v42
  let v59 : BitVec 32 := Scalar.subi v58 c0_i32_40
  let c1_i32_41 : BitVec 32 := 1#32
  let v61 : BitVec 32 := Scalar.divsi v59 c1_i32_41
  let v62 : BitVec 32 := Scalar.muli v61 c1_i32_41
  let v63 : BitVec 32 := Scalar.addi c0_i32_40 v62
  let c1_i32_43 : BitVec 32 := 1#32
  let arg10 : BitVec 32 := Scf.iv v63 c1_i32_43 k0_t8
  let c32_i32_45 : BitVec 32 := 32#32
  let v66 : BitVec 32 := Scalar.muli arg10 c32_i32_45
  let v67 : BitVec 32 := Scalar.addi v65 v66
  let c2_i32 : BitVec 32 := 2#32
  let v68 : BitVec 32 := Scalar.muli v67 c2_i32
  let c128_i32_46 : BitVec 32 := 128#32
  let v69 : BitVec 32 := Scalar.muli v68 c128_i32_46
  let c128_i32_51 : BitVec 32 := 128#32
  let v74 : BitVec 32 := Scalar.addi v69 c128_i32_51
  let c8_i32_52 : BitVec 32 := 8#32
  let v75 : BitVec 32 := Scalar.muli v74 c8_i32_52
  v75
def k0_off50 (i : grid0.Coords) (v36 : BitVec 32) (k0_t8 : Fin (k0_t8_loop i v36).trips) (v64 : BitVec 32) : Fin 2 → Nat :=
  let arg0 : BitVec 32 := BitVec.ofNat 32 (i 0).val
  let v65 : BitVec 32 := Scalar.addi v64 arg0
  let c0_i32_40 : BitVec 32 := 0#32
  let c240_i32_28 : BitVec 32 := 240#32
  let v37 : BitVec 32 := Scalar.subi c240_i32_28 v36
  let v38 : BitVec 32 := Scalar.subi v37 arg0
  let c0_i32_29 : BitVec 32 := 0#32
  let v39 : BitVec 32 := Scalar.maxsi v38 c0_i32_29
  let c32_i32_30 : BitVec 32 := 32#32
  let v40 : BitVec 32 := Scalar.addi v39 c32_i32_30
  let c1_i32_31 : BitVec 32 := 1#32
  let v41 : BitVec 32 := Scalar.subi v40 c1_i32_31
  let c0_i32_33 : BitVec 32 := 0#32
  let v43 : BitVec 1 := Scalar.cmpi .sgt v41 c0_i32_33
  let v44 : BitVec 32 := Scalar.extui v43
  let c0_i32_34 : BitVec 32 := 0#32
  let v45 : BitVec 1 := Scalar.cmpi .slt v41 c0_i32_34
  let v46 : BitVec 32 := Scalar.extui v45
  let v47 : BitVec 32 := Scalar.subi v44 v46
  let c32_i32_32 : BitVec 32 := 32#32
  let c0_i32_35 : BitVec 32 := 0#32
  let v48 : BitVec 1 := Scalar.cmpi .sgt c32_i32_32 c0_i32_35
  let v49 : BitVec 32 := Scalar.extui v48
  let c0_i32_36 : BitVec 32 := 0#32
  let v50 : BitVec 1 := Scalar.cmpi .slt c32_i32_32 c0_i32_36
  let v51 : BitVec 32 := Scalar.extui v50
  let v52 : BitVec 32 := Scalar.subi v49 v51
  let v53 : BitVec 1 := Scalar.cmpi .ne v47 v52
  let v54 : BitVec 32 := Scalar.remsi v41 c32_i32_32
  let c0_i32_37 : BitVec 32 := 0#32
  let v55 : BitVec 1 := Scalar.cmpi .ne v54 c0_i32_37
  let v56 : BitVec 1 := Scalar.andi v53 v55
  let v42 : BitVec 32 := Scalar.divsi v41 c32_i32_32
  let c1_i32_38 : BitVec 32 := 1#32
  let v57 : BitVec 32 := Scalar.subi v42 c1_i32_38
  let v58 : BitVec 32 := Scalar.select v56 v57 v42
  let v59 : BitVec 32 := Scalar.subi v58 c0_i32_40
  let c1_i32_41 : BitVec 32 := 1#32
  let v61 : BitVec 32 := Scalar.divsi v59 c1_i32_41
  let v62 : BitVec 32 := Scalar.muli v61 c1_i32_41
  let v63 : BitVec 32 := Scalar.addi c0_i32_40 v62
  let c1_i32_43 : BitVec 32 := 1#32
  let arg10 : BitVec 32 := Scf.iv v63 c1_i32_43 k0_t8
  let c32_i32_45 : BitVec 32 := 32#32
  let v66 : BitVec 32 := Scalar.muli arg10 c32_i32_45
  let v67 : BitVec 32 := Scalar.addi v65 v66
  let c2_i32 : BitVec 32 := 2#32
  let v68 : BitVec 32 := Scalar.muli v67 c2_i32
  let c128_i32_46 : BitVec 32 := 128#32
  let v69 : BitVec 32 := Scalar.muli v68 c128_i32_46
  let c128_i32_51 : BitVec 32 := 128#32
  let v74 : BitVec 32 := Scalar.addi v69 c128_i32_51
  let c8_i32_52 : BitVec 32 := 8#32
  let v75 : BitVec 32 := Scalar.muli v74 c8_i32_52
  let v76 : BitVec 32 := v75
  let c0_i32_53 : BitVec 32 := 0#32
  ![v76.toNat, 0]

def k0_chk16 (i : grid0.Coords) (v36 : BitVec 32) (k0_t8 : Fin (k0_t8_loop i v36).trips) (v64 : BitVec 32) : Prop :=
  (8 ∣ (k0_mult41 i v36 k0_t8 v64).toNat) ∧
  (∀ a, (k0_off49 i v36 k0_t8 v64) a + S1024x128.size a ≤ S491520x128.size a) ∧
  (8 ∣ (k0_mult42 i v36 k0_t8 v64).toNat) ∧
  (∀ a, (k0_off50 i v36 k0_t8 v64) a + S1024x128.size a ≤ S491520x128.size a)
theorem k0_mult41_dvd : ∀ (i : grid0.Coords) (v36 : BitVec 32) (k0_t8 : Fin (k0_t8_loop i v36).trips) (v64 : BitVec 32) (k0_hw16 : k0_chk16 i v36 k0_t8 v64), 8 ∣ (k0_mult41 i v36 k0_t8 v64).toNat := fun i v36 k0_t8 v64 k0_hw16 => k0_hw16.1
theorem k0_off49_inb : ∀ (i : grid0.Coords) (v36 : BitVec 32) (k0_t8 : Fin (k0_t8_loop i v36).trips) (v64 : BitVec 32) (k0_hw16 : k0_chk16 i v36 k0_t8 v64), ∀ a, (k0_off49 i v36 k0_t8 v64) a + S1024x128.size a ≤ S491520x128.size a := fun i v36 k0_t8 v64 k0_hw16 => k0_hw16.2.1
theorem k0_mult42_dvd : ∀ (i : grid0.Coords) (v36 : BitVec 32) (k0_t8 : Fin (k0_t8_loop i v36).trips) (v64 : BitVec 32) (k0_hw16 : k0_chk16 i v36 k0_t8 v64), 8 ∣ (k0_mult42 i v36 k0_t8 v64).toNat := fun i v36 k0_t8 v64 k0_hw16 => k0_hw16.2.2.1
theorem k0_off50_inb : ∀ (i : grid0.Coords) (v36 : BitVec 32) (k0_t8 : Fin (k0_t8_loop i v36).trips) (v64 : BitVec 32) (k0_hw16 : k0_chk16 i v36 k0_t8 v64), ∀ a, (k0_off50 i v36 k0_t8 v64) a + S1024x128.size a ≤ S491520x128.size a := fun i v36 k0_t8 v64 k0_hw16 => k0_hw16.2.2.2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]
-- ==== Reference.lean ====
abbrev S32768 : Shape := ⟨1, ![32768]⟩
abbrev S256 : Shape := ⟨1, ![256]⟩
abbrev S262144x128 : Shape := ⟨2, ![262144, 128]⟩
abbrev S32768x8x128 : Shape := ⟨3, ![32768, 8, 128]⟩
abbrev S_ : Shape := ⟨0, ![]⟩
abbrev S61440x8x128 : Shape := ⟨3, ![61440, 8, 128]⟩
abbrev S32768x1 : Shape := ⟨2, ![32768, 1]⟩
abbrev S491520x128 : Shape := ⟨2, ![491520, 128]⟩

abbrev nBuf : Space → Nat
  | .hbm => 16
  | .vmem => 0
  | .smem => 0
  | _ => 0

abbrev bufTy : (tb : Table) → Fin (tcTables nBuf tb) → BufTy
  | .hbm, ⟨0, _⟩ => ⟨S32768, .i32⟩
  | .hbm, ⟨1, _⟩ => ⟨S256, .i32⟩
  | .hbm, ⟨2, _⟩ => ⟨S262144x128, .f32⟩
  | .hbm, ⟨3, _⟩ => ⟨S32768x8x128, .f32⟩
  | .hbm, ⟨4, _⟩ => ⟨S_, .f32⟩
  | .hbm, ⟨5, _⟩ => ⟨S61440x8x128, .f32⟩
  | .hbm, ⟨6, _⟩ => ⟨S_, .i32⟩
  | .hbm, ⟨7, _⟩ => ⟨S32768, .i32⟩
  | .hbm, ⟨8, _⟩ => ⟨S32768, .i1⟩
  | .hbm, ⟨9, _⟩ => ⟨S_, .i32⟩
  | .hbm, ⟨10, _⟩ => ⟨S32768, .i32⟩
  | .hbm, ⟨11, _⟩ => ⟨S32768, .i32⟩
  | .hbm, ⟨12, _⟩ => ⟨S32768, .i32⟩
  | .hbm, ⟨13, _⟩ => ⟨S32768x1, .i32⟩
  | .hbm, ⟨14, _⟩ => ⟨S61440x8x128, .f32⟩
  | .hbm, ⟨15, _⟩ => ⟨S491520x128, .f32⟩
  | _, _ => ⟨S32768, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Experts.lean ====
abbrev S256 : Shape := ⟨1, ![256]⟩
abbrev S491520x128 : Shape := ⟨2, ![491520, 128]⟩
abbrev S1024 : Shape := ⟨1, ![1024]⟩
abbrev S1024x4 : Shape := ⟨2, ![1024, 4]⟩
abbrev S4 : Shape := ⟨1, ![4]⟩
abbrev S4x1024x8 : Shape := ⟨3, ![4, 1024, 8]⟩
abbrev S4x8 : Shape := ⟨2, ![4, 8]⟩
abbrev S32x1024x256 : Shape := ⟨3, ![32, 1024, 256]⟩
abbrev S32x256x1024 : Shape := ⟨3, ![32, 256, 1024]⟩
abbrev S_ : Shape := ⟨0, ![]⟩
abbrev S1024x4x8 : Shape := ⟨3, ![1024, 4, 8]⟩
abbrev S1024x32 : Shape := ⟨2, ![1024, 32]⟩
abbrev S1024x88 : Shape := ⟨2, ![1024, 88]⟩
abbrev S1024x128 : Shape := ⟨2, ![1024, 128]⟩
abbrev S32 : Shape := ⟨1, ![32]⟩
abbrev S88 : Shape := ⟨1, ![88]⟩
abbrev S128 : Shape := ⟨1, ![128]⟩
abbrev S1x128 : Shape := ⟨2, ![1, 128]⟩
abbrev S1 : Shape := ⟨1, ![1]⟩
abbrev S240 : Shape := ⟨1, ![240]⟩
abbrev S240x1 : Shape := ⟨2, ![240, 1]⟩
abbrev S1x256 : Shape := ⟨2, ![1, 256]⟩
abbrev S240x256 : Shape := ⟨2, ![240, 256]⟩
abbrev S1x1024 : Shape := ⟨2, ![1, 1024]⟩
abbrev S2048x128 : Shape := ⟨2, ![2048, 128]⟩
abbrev S1x1024x256 : Shape := ⟨3, ![1, 1024, 256]⟩
abbrev S1x256x1024 : Shape := ⟨3, ![1, 256, 1024]⟩
abbrev S256x1 : Shape := ⟨2, ![256, 1]⟩
abbrev S256x128 : Shape := ⟨2, ![256, 128]⟩
abbrev S256x1024 : Shape := ⟨2, ![256, 1024]⟩
abbrev S1024x256 : Shape := ⟨2, ![1024, 256]⟩
abbrev S256x256 : Shape := ⟨2, ![256, 256]⟩

abbrev nBuf : Space → Nat
  | .hbm => 213
  | .vmem => 19
  | .smem => 6
  | _ => 0

abbrev hbmTy0_0 (i : Nat) : BufTy := match i % 128 with
  | 0 => ⟨S256, .i32⟩
  | 1 => ⟨S491520x128, .f32⟩
  | 2 => ⟨S1024, .f32⟩
  | 3 => ⟨S1024x4, .f32⟩
  | 4 => ⟨S4, .f32⟩
  | 5 => ⟨S4x1024x8, .f32⟩
  | 6 => ⟨S4x8, .f32⟩
  | 7 => ⟨S32x1024x256, .f32⟩
  | 8 => ⟨S32x1024x256, .f32⟩
  | 9 => ⟨S32x256x1024, .f32⟩
  | 10 => ⟨S_, .f32⟩
  | 11 => ⟨S1024x4, .f32⟩
  | 12 => ⟨S1024x4x8, .f32⟩
  | 13 => ⟨S1024x32, .f32⟩
  | 14 => ⟨S_, .f32⟩
  | 15 => ⟨S1024x88, .f32⟩
  | 16 => ⟨S1024x128, .f32⟩
  | 17 => ⟨S1024x128, .bf16⟩
  | 18 => ⟨S_, .f32⟩
  | 19 => ⟨S4, .f32⟩
  | 20 => ⟨S32, .f32⟩
  | 21 => ⟨S_, .f32⟩
  | 22 => ⟨S88, .f32⟩
  | 23 => ⟨S128, .f32⟩
  | 24 => ⟨S1x128, .f32⟩
  | 25 => ⟨S_, .i32⟩
  | 26 => ⟨S256, .i32⟩
  | 27 => ⟨S256, .i32⟩
  | 28 => ⟨S_, .i32⟩
  | 29 => ⟨S256, .i32⟩
  | 30 => ⟨S256, .i32⟩
  | 31 => ⟨S_, .i32⟩
  | 32 => ⟨S_, .i32⟩
  | 33 => ⟨S256, .i32⟩
  | 34 => ⟨S256, .i32⟩
  | 35 => ⟨S256, .i32⟩
  | 36 => ⟨S_, .i32⟩
  | 37 => ⟨S256, .i32⟩
  | 38 => ⟨S256, .i1⟩
  | 39 => ⟨S256, .i32⟩
  | 40 => ⟨S256, .i32⟩
  | 41 => ⟨S_, .i32⟩
  | 42 => ⟨S256, .i32⟩
  | 43 => ⟨S256, .i1⟩
  | 44 => ⟨S256, .i1⟩
  | 45 => ⟨S_, .i32⟩
  | 46 => ⟨S256, .i32⟩
  | 47 => ⟨S256, .i32⟩
  | 48 => ⟨S256, .i32⟩
  | 49 => ⟨S_, .i32⟩
  | 50 => ⟨S_, .i32⟩
  | 51 => ⟨S256, .i32⟩
  | 52 => ⟨S256, .i32⟩
  | 53 => ⟨S_, .i32⟩
  | 54 => ⟨S256, .i32⟩
  | 55 => ⟨S256, .i32⟩
  | 56 => ⟨S1, .i32⟩
  | 57 => ⟨S_, .i32⟩
  | 58 => ⟨S240, .i32⟩
  | 59 => ⟨S_, .i32⟩
  | 60 => ⟨S_, .i32⟩
  | 61 => ⟨S240, .i32⟩
  | 62 => ⟨S240x1, .i32⟩
  | 63 => ⟨S1x256, .i32⟩
  | 64 => ⟨S240x256, .i32⟩
  | 65 => ⟨S240x256, .i32⟩
  | 66 => ⟨S240x256, .i1⟩
  | 67 => ⟨S240x1, .i32⟩
  | 68 => ⟨S1x256, .i32⟩
  | 69 => ⟨S240x256, .i32⟩
  | 70 => ⟨S240x256, .i32⟩
  | 71 => ⟨S240x256, .i1⟩
  | 72 => ⟨S240x256, .i1⟩
  | 73 => ⟨S256, .i32⟩
  | 74 => ⟨S1x256, .i32⟩
  | 75 => ⟨S_, .i32⟩
  | 76 => ⟨S_, .i32⟩
  | 77 => ⟨S240x256, .i32⟩
  | 78 => ⟨S240x256, .i32⟩
  | 79 => ⟨S240x256, .i32⟩
  | 80 => ⟨S_, .i32⟩
  | 81 => ⟨S240, .i32⟩
  | 82 => ⟨S1x256, .i32⟩
  | 83 => ⟨S_, .i32⟩
  | 84 => ⟨S_, .i32⟩
  | 85 => ⟨S240x256, .i32⟩
  | 86 => ⟨S240x256, .i32⟩
  | 87 => ⟨S240x256, .i32⟩
  | 88 => ⟨S_, .i32⟩
  | 89 => ⟨S240, .i32⟩
  | 90 => ⟨S240, .i32⟩
  | 91 => ⟨S_, .i32⟩
  | 92 => ⟨S240, .i32⟩
  | 93 => ⟨S240, .i32⟩
  | 94 => ⟨S240, .i32⟩
  | 95 => ⟨S_, .i32⟩
  | 96 => ⟨S_, .i32⟩
  | 97 => ⟨S_, .i32⟩
  | 98 => ⟨S240, .i32⟩
  | 99 => ⟨S240, .i32⟩
  | 100 => ⟨S_, .i32⟩
  | 101 => ⟨S240, .i32⟩
  | 102 => ⟨S_, .i32⟩
  | 103 => ⟨S_, .i32⟩
  | 104 => ⟨S256, .i32⟩
  | 105 => ⟨S256, .i32⟩
  | 106 => ⟨S256, .i32⟩
  | 107 => ⟨S_, .i32⟩
  | 108 => ⟨S256, .i32⟩
  | 109 => ⟨S256, .i1⟩
  | 110 => ⟨S256, .i32⟩
  | 111 => ⟨S256, .i32⟩
  | 112 => ⟨S_, .i32⟩
  | 113 => ⟨S256, .i32⟩
  | 114 => ⟨S256, .i1⟩
  | 115 => ⟨S256, .i1⟩
  | 116 => ⟨S_, .i32⟩
  | 117 => ⟨S256, .i32⟩
  | 118 => ⟨S256, .i32⟩
  | 119 => ⟨S256, .i32⟩
  | 120 => ⟨S1x256, .i32⟩
  | 121 => ⟨S_, .i32⟩
  | 122 => ⟨S_, .i32⟩
  | 123 => ⟨S240x256, .i32⟩
  | 124 => ⟨S240x256, .i32⟩
  | 125 => ⟨S240x256, .i32⟩
  | 126 => ⟨S_, .i32⟩
  | 127 => ⟨S_, .i32⟩
  | _ => ⟨S256, .i32⟩

abbrev hbmTy0_1 (i : Nat) : BufTy := match i % 128 with
  | 0 => ⟨S_, .i32⟩
  | 1 => ⟨S_, .i32⟩
  | 2 => ⟨S_, .i1⟩
  | 3 => ⟨S_, .i32⟩
  | 4 => ⟨S_, .i32⟩
  | 5 => ⟨S256, .i32⟩
  | 6 => ⟨S256, .i32⟩
  | 7 => ⟨S_, .i32⟩
  | 8 => ⟨S256, .i32⟩
  | 9 => ⟨S256, .i1⟩
  | 10 => ⟨S_, .i32⟩
  | 11 => ⟨S256, .i32⟩
  | 12 => ⟨S256, .i1⟩
  | 13 => ⟨S_, .i32⟩
  | 14 => ⟨S_, .i1⟩
  | 15 => ⟨S256, .i1⟩
  | 16 => ⟨S256, .i1⟩
  | 17 => ⟨S256, .i1⟩
  | 18 => ⟨S256, .i32⟩
  | 19 => ⟨S256, .i32⟩
  | 20 => ⟨S256, .i32⟩
  | 21 => ⟨S_, .i32⟩
  | 22 => ⟨S_, .i32⟩
  | 23 => ⟨S256, .i32⟩
  | 24 => ⟨S256, .i32⟩
  | 25 => ⟨S256, .i32⟩
  | 26 => ⟨S_, .i32⟩
  | 27 => ⟨S256, .i32⟩
  | 28 => ⟨S256, .i1⟩
  | 29 => ⟨S256, .i32⟩
  | 30 => ⟨S256, .i32⟩
  | 31 => ⟨S_, .i32⟩
  | 32 => ⟨S256, .i32⟩
  | 33 => ⟨S256, .i1⟩
  | 34 => ⟨S256, .i1⟩
  | 35 => ⟨S_, .i32⟩
  | 36 => ⟨S256, .i32⟩
  | 37 => ⟨S256, .i32⟩
  | 38 => ⟨S256, .i32⟩
  | 39 => ⟨S1x256, .i32⟩
  | 40 => ⟨S_, .i32⟩
  | 41 => ⟨S_, .i32⟩
  | 42 => ⟨S240x256, .i32⟩
  | 43 => ⟨S240x256, .i32⟩
  | 44 => ⟨S240x256, .i32⟩
  | 45 => ⟨S_, .i32⟩
  | 46 => ⟨S_, .i32⟩
  | 47 => ⟨S_, .i32⟩
  | 48 => ⟨S_, .i32⟩
  | 49 => ⟨S_, .i1⟩
  | 50 => ⟨S_, .i32⟩
  | 51 => ⟨S_, .i32⟩
  | 52 => ⟨S256, .i32⟩
  | 53 => ⟨S256, .i32⟩
  | 54 => ⟨S_, .i32⟩
  | 55 => ⟨S256, .i32⟩
  | 56 => ⟨S256, .i1⟩
  | 57 => ⟨S_, .i32⟩
  | 58 => ⟨S256, .i32⟩
  | 59 => ⟨S256, .i1⟩
  | 60 => ⟨S_, .i32⟩
  | 61 => ⟨S_, .i1⟩
  | 62 => ⟨S256, .i1⟩
  | 63 => ⟨S256, .i1⟩
  | 64 => ⟨S256, .i1⟩
  | 65 => ⟨S256, .i32⟩
  | 66 => ⟨S256, .i32⟩
  | 67 => ⟨S256, .i32⟩
  | 68 => ⟨S1x256, .i32⟩
  | 69 => ⟨S_, .i32⟩
  | 70 => ⟨S_, .i32⟩
  | 71 => ⟨S240x256, .i32⟩
  | 72 => ⟨S240x256, .i32⟩
  | 73 => ⟨S240x256, .i32⟩
  | 74 => ⟨S_, .i32⟩
  | 75 => ⟨S256, .i32⟩
  | 76 => ⟨S_, .i32⟩
  | 77 => ⟨S256, .i32⟩
  | 78 => ⟨S256, .i32⟩
  | 79 => ⟨S256, .i32⟩
  | 80 => ⟨S32x1024x256, .bf16⟩
  | 81 => ⟨S32x1024x256, .bf16⟩
  | 82 => ⟨S32x256x1024, .bf16⟩
  | 83 => ⟨S1x1024, .f32⟩
  | 84 => ⟨S491520x128, .f32⟩
  | _ => ⟨S256, .i32⟩

abbrev hbmTy (i : Nat) : BufTy := match i / 128 with
  | 0 => hbmTy0_0 i
  | 1 => hbmTy0_1 i
  | _ => ⟨S256, .i32⟩

abbrev bufTy : (tb : Table) → Fin (tcTables nBuf tb) → BufTy
  | .hbm, ⟨i, _⟩ => hbmTy i
  | .local _ .vmem, ⟨0, _⟩ => ⟨S2048x128, .f32⟩
  | .local _ .vmem, ⟨1, _⟩ => ⟨S2048x128, .f32⟩
  | .local _ .vmem, ⟨2, _⟩ => ⟨S1x1024, .f32⟩
  | .local _ .vmem, ⟨3, _⟩ => ⟨S1024x128, .bf16⟩
  | .local _ .vmem, ⟨4, _⟩ => ⟨S1x128, .f32⟩
  | .local _ .vmem, ⟨5, _⟩ => ⟨S1x1024x256, .bf16⟩
  | .local _ .vmem, ⟨6, _⟩ => ⟨S1x1024x256, .bf16⟩
  | .local _ .vmem, ⟨7, _⟩ => ⟨S1x1024x256, .bf16⟩
  | .local _ .vmem, ⟨8, _⟩ => ⟨S1x1024x256, .bf16⟩
  | .local _ .vmem, ⟨9, _⟩ => ⟨S1x256x1024, .bf16⟩
  | .local _ .vmem, ⟨10, _⟩ => ⟨S1x256x1024, .bf16⟩
  | .local _ .vmem, ⟨11, _⟩ => ⟨S1x1024x256, .bf16⟩
  | .local _ .vmem, ⟨12, _⟩ => ⟨S1x1024x256, .bf16⟩
  | .local _ .vmem, ⟨13, _⟩ => ⟨S1x1024x256, .bf16⟩
  | .local _ .vmem, ⟨14, _⟩ => ⟨S1x1024x256, .bf16⟩
  | .local _ .vmem, ⟨15, _⟩ => ⟨S1x256x1024, .bf16⟩
  | .local _ .vmem, ⟨16, _⟩ => ⟨S1x256x1024, .bf16⟩
  | .local _ .vmem, ⟨17, _⟩ => ⟨S2048x128, .f32⟩
  | .local _ .vmem, ⟨18, _⟩ => ⟨S2048x128, .f32⟩
  | .local _ .smem, ⟨0, _⟩ => ⟨S240, .i32⟩
  | .local _ .smem, ⟨1, _⟩ => ⟨S240, .i32⟩
  | .local _ .smem, ⟨2, _⟩ => ⟨S240, .i32⟩
  | .local _ .smem, ⟨3, _⟩ => ⟨S240, .i32⟩
  | .local _ .smem, ⟨4, _⟩ => ⟨S240, .i32⟩
  | .local _ .smem, ⟨5, _⟩ => ⟨S1, .i32⟩
  | _, _ => ⟨S256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_cst_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_v11 : Ref sig .tc := ⟨.hbm, 26, rfl⟩
abbrev main_v12 : Ref sig .tc := ⟨.hbm, 27, rfl⟩
abbrev main_c_3 : Ref sig .tc := ⟨.hbm, 28, rfl⟩
abbrev main_v13 : Ref sig .tc := ⟨.hbm, 29, rfl⟩
abbrev main_v14 : Ref sig .tc := ⟨.hbm, 30, rfl⟩
abbrev main_c_4 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_c : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_call0_c_0 : Ref sig .tc := ⟨.hbm, 45, rfl⟩
abbrev main_call0_v12 : Ref sig .tc := ⟨.hbm, 46, rfl⟩
abbrev main_call0_v13 : Ref sig .tc := ⟨.hbm, 47, rfl⟩
abbrev main_v15 : Ref sig .tc := ⟨.hbm, 48, rfl⟩
abbrev main_call1_call0_c : Ref sig .tc := ⟨.hbm, 49, rfl⟩
abbrev main_call1_call0_v0 : Ref sig .tc := ⟨.hbm, 50, rfl⟩
abbrev main_v16 : Ref sig .tc := ⟨.hbm, 51, rfl⟩
abbrev main_v17 : Ref sig .tc := ⟨.hbm, 52, rfl⟩
abbrev main_c_5 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_c_6 : Ref sig .tc := ⟨.hbm, 59, rfl⟩
abbrev main_v23 : Ref sig .tc := ⟨.hbm, 60, rfl⟩
abbrev main_v24 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_c_7 : Ref sig .tc := ⟨.hbm, 75, rfl⟩
abbrev main_call2_v0 : Ref sig .tc := ⟨.hbm, 76, rfl⟩
abbrev main_call2_v1 : Ref sig .tc := ⟨.hbm, 77, rfl⟩
abbrev main_call2_v2 : Ref sig .tc := ⟨.hbm, 78, rfl⟩
abbrev main_v39 : Ref sig .tc := ⟨.hbm, 79, rfl⟩
abbrev main_c_8 : Ref sig .tc := ⟨.hbm, 80, rfl⟩
abbrev main_v40 : Ref sig .tc := ⟨.hbm, 81, rfl⟩
abbrev main_v41 : Ref sig .tc := ⟨.hbm, 82, rfl⟩
abbrev main_c_9 : Ref sig .tc := ⟨.hbm, 83, rfl⟩
abbrev main_call3_v0 : Ref sig .tc := ⟨.hbm, 84, rfl⟩
abbrev main_call3_v1 : Ref sig .tc := ⟨.hbm, 85, rfl⟩
abbrev main_call3_v2 : Ref sig .tc := ⟨.hbm, 86, rfl⟩
abbrev main_v42 : Ref sig .tc := ⟨.hbm, 87, rfl⟩
abbrev main_c_10 : Ref sig .tc := ⟨.hbm, 88, rfl⟩
abbrev main_v43 : Ref sig .tc := ⟨.hbm, 89, rfl⟩
abbrev main_v44 : Ref sig .tc := ⟨.hbm, 90, rfl⟩
abbrev main_c_11 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_c_12 : Ref sig .tc := ⟨.hbm, 95, rfl⟩
abbrev main_c_13 : Ref sig .tc := ⟨.hbm, 96, rfl⟩
abbrev main_call4_v0 : Ref sig .tc := ⟨.hbm, 97, rfl⟩
abbrev main_call4_v1 : Ref sig .tc := ⟨.hbm, 98, rfl⟩
abbrev main_call4_v2 : Ref sig .tc := ⟨.hbm, 99, rfl⟩
abbrev main_call4_v3 : Ref sig .tc := ⟨.hbm, 100, rfl⟩
abbrev main_call4_v4 : Ref sig .tc := ⟨.hbm, 101, rfl⟩
abbrev main_c_14 : Ref sig .tc := ⟨.hbm, 102, rfl⟩
abbrev main_call5_v0 : Ref sig .tc := ⟨.hbm, 103, rfl⟩
abbrev main_call5_v1 : Ref sig .tc := ⟨.hbm, 104, rfl⟩
abbrev main_call5_v2 : Ref sig .tc := ⟨.hbm, 105, rfl⟩
abbrev main_call5_v3 : Ref sig .tc := ⟨.hbm, 106, rfl⟩
abbrev main_call5_v4 : Ref sig .tc := ⟨.hbm, 107, rfl⟩
abbrev main_call5_v5 : Ref sig .tc := ⟨.hbm, 108, rfl⟩
abbrev main_call5_v6 : Ref sig .tc := ⟨.hbm, 109, rfl⟩
abbrev main_call5_v7 : Ref sig .tc := ⟨.hbm, 110, rfl⟩
abbrev main_call5_v8 : Ref sig .tc := ⟨.hbm, 111, rfl⟩
abbrev main_call5_c : Ref sig .tc := ⟨.hbm, 112, rfl⟩
abbrev main_call5_v9 : Ref sig .tc := ⟨.hbm, 113, rfl⟩
abbrev main_call5_v10 : Ref sig .tc := ⟨.hbm, 114, rfl⟩
abbrev main_call5_v11 : Ref sig .tc := ⟨.hbm, 115, rfl⟩
abbrev main_call5_c_0 : Ref sig .tc := ⟨.hbm, 116, rfl⟩
abbrev main_call5_v12 : Ref sig .tc := ⟨.hbm, 117, rfl⟩
abbrev main_call5_v13 : Ref sig .tc := ⟨.hbm, 118, rfl⟩
abbrev main_v49 : Ref sig .tc := ⟨.hbm, 119, rfl⟩
abbrev main_v50 : Ref sig .tc := ⟨.hbm, 120, rfl⟩
abbrev main_c_15 : Ref sig .tc := ⟨.hbm, 121, rfl⟩
abbrev main_call6_v0 : Ref sig .tc := ⟨.hbm, 122, rfl⟩
abbrev main_call6_v1 : Ref sig .tc := ⟨.hbm, 123, rfl⟩
abbrev main_call6_v2 : Ref sig .tc := ⟨.hbm, 124, rfl⟩
abbrev main_v51 : Ref sig .tc := ⟨.hbm, 125, rfl⟩
abbrev main_c_16 : Ref sig .tc := ⟨.hbm, 126, rfl⟩
abbrev main_c_17 : Ref sig .tc := ⟨.hbm, 127, rfl⟩
abbrev main_call7_v0 : Ref sig .tc := ⟨.hbm, 128, rfl⟩
abbrev main_call7_c : Ref sig .tc := ⟨.hbm, 129, rfl⟩
abbrev main_call7_v1 : Ref sig .tc := ⟨.hbm, 130, rfl⟩
abbrev main_call7_c_0 : Ref sig .tc := ⟨.hbm, 131, rfl⟩
abbrev main_call7_v2 : Ref sig .tc := ⟨.hbm, 132, rfl⟩
abbrev main_call7_v3 : Ref sig .tc := ⟨.hbm, 133, rfl⟩
abbrev main_call7_v4 : Ref sig .tc := ⟨.hbm, 134, rfl⟩
abbrev main_call7_c_1 : Ref sig .tc := ⟨.hbm, 135, rfl⟩
abbrev main_call7_v5 : Ref sig .tc := ⟨.hbm, 136, rfl⟩
abbrev main_call7_v6 : Ref sig .tc := ⟨.hbm, 137, rfl⟩
abbrev main_call7_c_2 : Ref sig .tc := ⟨.hbm, 138, rfl⟩
abbrev main_call7_v7 : Ref sig .tc := ⟨.hbm, 139, rfl⟩
abbrev main_call7_v8 : Ref sig .tc := ⟨.hbm, 140, rfl⟩
abbrev main_call7_c_3 : Ref sig .tc := ⟨.hbm, 141, rfl⟩
abbrev main_call7_v9 : Ref sig .tc := ⟨.hbm, 142, rfl⟩
abbrev main_call7_v10 : Ref sig .tc := ⟨.hbm, 143, rfl⟩
abbrev main_call7_v11 : Ref sig .tc := ⟨.hbm, 144, rfl⟩
abbrev main_call7_v12 : Ref sig .tc := ⟨.hbm, 145, rfl⟩
abbrev main_call7_v13 : Ref sig .tc := ⟨.hbm, 146, rfl⟩
abbrev main_call7_v14 : Ref sig .tc := ⟨.hbm, 147, rfl⟩
abbrev main_v53 : Ref sig .tc := ⟨.hbm, 148, rfl⟩
abbrev main_c_18 : Ref sig .tc := ⟨.hbm, 149, rfl⟩
abbrev main_call8_v0 : Ref sig .tc := ⟨.hbm, 150, rfl⟩
abbrev main_call8_v1 : Ref sig .tc := ⟨.hbm, 151, rfl⟩
abbrev main_call8_v2 : Ref sig .tc := ⟨.hbm, 152, rfl⟩
abbrev main_call8_v3 : Ref sig .tc := ⟨.hbm, 153, rfl⟩
abbrev main_call8_v4 : Ref sig .tc := ⟨.hbm, 154, rfl⟩
abbrev main_call8_v5 : Ref sig .tc := ⟨.hbm, 155, rfl⟩
abbrev main_call8_v6 : Ref sig .tc := ⟨.hbm, 156, rfl⟩
abbrev main_call8_v7 : Ref sig .tc := ⟨.hbm, 157, rfl⟩
abbrev main_call8_v8 : Ref sig .tc := ⟨.hbm, 158, rfl⟩
abbrev main_call8_c : Ref sig .tc := ⟨.hbm, 159, rfl⟩
abbrev main_call8_v9 : Ref sig .tc := ⟨.hbm, 160, rfl⟩
abbrev main_call8_v10 : Ref sig .tc := ⟨.hbm, 161, rfl⟩
abbrev main_call8_v11 : Ref sig .tc := ⟨.hbm, 162, rfl⟩
abbrev main_call8_c_0 : Ref sig .tc := ⟨.hbm, 163, rfl⟩
abbrev main_call8_v12 : Ref sig .tc := ⟨.hbm, 164, rfl⟩
abbrev main_call8_v13 : Ref sig .tc := ⟨.hbm, 165, rfl⟩
abbrev main_v54 : Ref sig .tc := ⟨.hbm, 166, rfl⟩
abbrev main_v55 : Ref sig .tc := ⟨.hbm, 167, rfl⟩
abbrev main_c_19 : Ref sig .tc := ⟨.hbm, 168, rfl⟩
abbrev main_call9_v0 : Ref sig .tc := ⟨.hbm, 169, rfl⟩
abbrev main_call9_v1 : Ref sig .tc := ⟨.hbm, 170, rfl⟩
abbrev main_call9_v2 : Ref sig .tc := ⟨.hbm, 171, rfl⟩
abbrev main_v56 : Ref sig .tc := ⟨.hbm, 172, rfl⟩
abbrev main_c_20 : Ref sig .tc := ⟨.hbm, 173, rfl⟩
abbrev main_c_21 : Ref sig .tc := ⟨.hbm, 174, rfl⟩
abbrev main_call10_v0 : Ref sig .tc := ⟨.hbm, 175, rfl⟩
abbrev main_call10_c : Ref sig .tc := ⟨.hbm, 176, rfl⟩
abbrev main_call10_v1 : Ref sig .tc := ⟨.hbm, 177, rfl⟩
abbrev main_call10_c_0 : Ref sig .tc := ⟨.hbm, 178, rfl⟩
abbrev main_call10_v2 : Ref sig .tc := ⟨.hbm, 179, rfl⟩
abbrev main_call10_v3 : Ref sig .tc := ⟨.hbm, 180, rfl⟩
abbrev main_call10_v4 : Ref sig .tc := ⟨.hbm, 181, rfl⟩
abbrev main_call10_c_1 : Ref sig .tc := ⟨.hbm, 182, rfl⟩
abbrev main_call10_v5 : Ref sig .tc := ⟨.hbm, 183, rfl⟩
abbrev main_call10_v6 : Ref sig .tc := ⟨.hbm, 184, rfl⟩
abbrev main_call10_c_2 : Ref sig .tc := ⟨.hbm, 185, rfl⟩
abbrev main_call10_v7 : Ref sig .tc := ⟨.hbm, 186, rfl⟩
abbrev main_call10_v8 : Ref sig .tc := ⟨.hbm, 187, rfl⟩
abbrev main_call10_c_3 : Ref sig .tc := ⟨.hbm, 188, rfl⟩
abbrev main_call10_v9 : Ref sig .tc := ⟨.hbm, 189, rfl⟩
abbrev main_call10_v10 : Ref sig .tc := ⟨.hbm, 190, rfl⟩
abbrev main_call10_v11 : Ref sig .tc := ⟨.hbm, 191, rfl⟩
abbrev main_call10_v12 : Ref sig .tc := ⟨.hbm, 192, rfl⟩
abbrev main_call10_v13 : Ref sig .tc := ⟨.hbm, 193, rfl⟩
abbrev main_call10_v14 : Ref sig .tc := ⟨.hbm, 194, rfl⟩
abbrev main_v58 : Ref sig .tc := ⟨.hbm, 195, rfl⟩
abbrev main_v59 : Ref sig .tc := ⟨.hbm, 196, rfl⟩
abbrev main_c_22 : Ref sig .tc := ⟨.hbm, 197, rfl⟩
abbrev main_call11_v0 : Ref sig .tc := ⟨.hbm, 198, rfl⟩
abbrev main_call11_v1 : Ref sig .tc := ⟨.hbm, 199, rfl⟩
abbrev main_call11_v2 : Ref sig .tc := ⟨.hbm, 200, rfl⟩
abbrev main_v60 : Ref sig .tc := ⟨.hbm, 201, rfl⟩
abbrev main_c_23 : Ref sig .tc := ⟨.hbm, 202, rfl⟩
abbrev main_v63 : Ref sig .tc := ⟨.hbm, 203, rfl⟩
abbrev main_c_24 : Ref sig .tc := ⟨.hbm, 204, rfl⟩
abbrev main_v64 : Ref sig .tc := ⟨.hbm, 205, rfl⟩
abbrev main_v65 : Ref sig .tc := ⟨.hbm, 206, rfl⟩
abbrev main_v66 : Ref sig .tc := ⟨.hbm, 207, rfl⟩
abbrev main_v67 : Ref sig .tc := ⟨.hbm, 208, rfl⟩
abbrev main_v68 : Ref sig .tc := ⟨.hbm, 209, rfl⟩
abbrev main_v69 : Ref sig .tc := ⟨.hbm, 210, rfl⟩
abbrev main_v70 : Ref sig .tc := ⟨.hbm, 211, rfl⟩
abbrev main_v71 : Ref sig .tc := ⟨.hbm, 212, rfl⟩
abbrev main_v25 : Ref sig .tc := ⟨.smem, 0, rfl⟩
abbrev main_v52 : Ref sig .tc := ⟨.smem, 1, rfl⟩
abbrev main_v57 : Ref sig .tc := ⟨.smem, 2, rfl⟩
abbrev main_v61 : Ref sig .tc := ⟨.smem, 3, rfl⟩
abbrev main_v48 : Ref sig .tc := ⟨.smem, 4, rfl⟩
abbrev main_v62 : Ref sig .tc := ⟨.smem, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![240], ![false]⟩

abbrev pre0 : Pipeline.Prefetch sig := ⟨6, ![main_v25.idx, main_v52.idx, main_v57.idx, main_v61.idx, main_v48.idx, main_v62.idx], fun | 0 => main_v25.names | 1 => main_v52.names | 2 => main_v57.names | 3 => main_v61.names | 4 => main_v48.names | 5 => main_v62.names | ⟨_ + 6, h⟩ => absurd h (Nat.not_lt.2 (Nat.le_add_left _ _)), fun | 0 => rfl | 1 => rfl | 2 => rfl | 3 => rfl | 4 => rfl | 5 => rfl | ⟨_ + 6, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v9 : Index := Scalar.indexCast arg0
  ![v9.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (k0_off1_inb : ∀ i : grid0.Coords, ∀ a, (k0_off1 i) a + S1.size a ≤ S240.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S240) ![v0.toNat] S1.size (k0_off1_inb i)) numel1_S1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (k0_off1_inb : ∀ i : grid0.Coords, ∀ a, (k0_off1 i) a + S1.size a ≤ S240.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S240) ![v0.toNat] S1.size (k0_off1_inb i)) numel1_S1
  let c8_i32 : BitVec 32 := 8#32
  let v2 : BitVec 32 := Scalar.muli v1 c8_i32
  let v3 : Index := Scalar.indexCast arg0
  let v4 : BitVec 32 := pf.at 2 (Rect.unit (s := S240) ![v3.toNat] S1.size (k0_off1_inb i)) numel1_S1
  let v5 : BitVec 32 := Scalar.addi v2 v4
  let c0_i32 : BitVec 32 := 0#32
  let c0_i32_0 : BitVec 32 := 0#32
  let c0_i32_1 : BitVec 32 := 0#32
  ![v5.toNat, c0_i32.toNat, c0_i32_0.toNat]

def cc0_transform_5 (k0_off1_inb : ∀ i : grid0.Coords, ∀ a, (k0_off1 i) a + S1.size a ≤ S240.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S240) ![v0.toNat] S1.size (k0_off1_inb i)) numel1_S1
  let c8_i32 : BitVec 32 := 8#32
  let v2 : BitVec 32 := Scalar.muli v1 c8_i32
  let v3 : Index := Scalar.indexCast arg0
  let v4 : BitVec 32 := pf.at 2 (Rect.unit (s := S240) ![v3.toNat] S1.size (k0_off1_inb i)) numel1_S1
  let v5 : BitVec 32 := Scalar.addi v2 v4
  let c0_i32 : BitVec 32 := 0#32
  let c0_i32_0 : BitVec 32 := 0#32
  let c0_i32_1 : BitVec 32 := 0#32
  ![v5.toNat, c0_i32.toNat, c0_i32_0.toNat]

def cc0_transform_6 (k0_off1_inb : ∀ i : grid0.Coords, ∀ a, (k0_off1 i) a + S1.size a ≤ S240.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S240) ![v0.toNat] S1.size (k0_off1_inb i)) numel1_S1
  let c8_i32 : BitVec 32 := 8#32
  let v2 : BitVec 32 := Scalar.muli v1 c8_i32
  let v3 : Index := Scalar.indexCast arg0
  let v4 : BitVec 32 := pf.at 2 (Rect.unit (s := S240) ![v3.toNat] S1.size (k0_off1_inb i)) numel1_S1
  let v5 : BitVec 32 := Scalar.addi v2 v4
  let c0_i32 : BitVec 32 := 0#32
  let c0_i32_0 : BitVec 32 := 0#32
  let c0_i32_1 : BitVec 32 := 0#32
  ![v5.toNat, c0_i32.toNat, c0_i32_0.toNat]

def cc0_transform_7 (k0_off1_inb : ∀ i : grid0.Coords, ∀ a, (k0_off1 i) a + S1.size a ≤ S240.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S240) ![v0.toNat] S1.size (k0_off1_inb i)) numel1_S1
  let c8_i32 : BitVec 32 := 8#32
  let v2 : BitVec 32 := Scalar.muli v1 c8_i32
  let v3 : Index := Scalar.indexCast arg0
  let v4 : BitVec 32 := pf.at 3 (Rect.unit (s := S240) ![v3.toNat] S1.size (k0_off1_inb i)) numel1_S1
  let v5 : BitVec 32 := Scalar.addi v2 v4
  let c0_i32 : BitVec 32 := 0#32
  let c0_i32_0 : BitVec 32 := 0#32
  let c0_i32_1 : BitVec 32 := 0#32
  ![v5.toNat, c0_i32.toNat, c0_i32_0.toNat]

def cc0_transform_8 (k0_off1_inb : ∀ i : grid0.Coords, ∀ a, (k0_off1 i) a + S1.size a ≤ S240.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S240) ![v0.toNat] S1.size (k0_off1_inb i)) numel1_S1
  let c8_i32 : BitVec 32 := 8#32
  let v2 : BitVec 32 := Scalar.muli v1 c8_i32
  let v3 : Index := Scalar.indexCast arg0
  let v4 : BitVec 32 := pf.at 3 (Rect.unit (s := S240) ![v3.toNat] S1.size (k0_off1_inb i)) numel1_S1
  let v5 : BitVec 32 := Scalar.addi v2 v4
  let c0_i32 : BitVec 32 := 0#32
  let c0_i32_0 : BitVec 32 := 0#32
  let c0_i32_1 : BitVec 32 := 0#32
  ![v5.toNat, c0_i32.toNat, c0_i32_0.toNat]

def cc0_transform_9 (k0_off1_inb : ∀ i : grid0.Coords, ∀ a, (k0_off1 i) a + S1.size a ≤ S240.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S240) ![v0.toNat] S1.size (k0_off1_inb i)) numel1_S1
  let c8_i32 : BitVec 32 := 8#32
  let v2 : BitVec 32 := Scalar.muli v1 c8_i32
  let v3 : Index := Scalar.indexCast arg0
  let v4 : BitVec 32 := pf.at 3 (Rect.unit (s := S240) ![v3.toNat] S1.size (k0_off1_inb i)) numel1_S1
  let v5 : BitVec 32 := Scalar.addi v2 v4
  let c0_i32 : BitVec 32 := 0#32
  let c0_i32_0 : BitVec 32 := 0#32
  let c0_i32_1 : BitVec 32 := 0#32
  ![v5.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== PlainIdeal.lean ====
abbrev S256 : Shape := ⟨1, ![256]⟩
abbrev S491520x128 : Shape := ⟨2, ![491520, 128]⟩
abbrev S1024 : Shape := ⟨1, ![1024]⟩
abbrev S1024x4 : Shape := ⟨2, ![1024, 4]⟩
abbrev S4 : Shape := ⟨1, ![4]⟩
abbrev S4x1024x8 : Shape := ⟨3, ![4, 1024, 8]⟩
abbrev S4x8 : Shape := ⟨2, ![4, 8]⟩
abbrev S32x1024x256 : Shape := ⟨3, ![32, 1024, 256]⟩
abbrev S32x256x1024 : Shape := ⟨3, ![32, 256, 1024]⟩
abbrev S61440x1024 : Shape := ⟨2, ![61440, 1024]⟩
abbrev S_ : Shape := ⟨0, ![]⟩
abbrev S61440 : Shape := ⟨1, ![61440]⟩
abbrev S61440x1 : Shape := ⟨2, ![61440, 1]⟩
abbrev S1x256 : Shape := ⟨2, ![1, 256]⟩
abbrev S61440x256 : Shape := ⟨2, ![61440, 256]⟩
abbrev S1x1024 : Shape := ⟨2, ![1, 1024]⟩
abbrev S61440x4 : Shape := ⟨2, ![61440, 4]⟩
abbrev S1x4 : Shape := ⟨2, ![1, 4]⟩
abbrev S61440x4x8 : Shape := ⟨3, ![61440, 4, 8]⟩
abbrev S1x4x8 : Shape := ⟨3, ![1, 4, 8]⟩
abbrev S61440x4x1 : Shape := ⟨3, ![61440, 4, 1]⟩
abbrev S61440x8 : Shape := ⟨2, ![61440, 8]⟩
abbrev S8 : Shape := ⟨1, ![8]⟩
abbrev S1x8 : Shape := ⟨2, ![1, 8]⟩
abbrev S61440x2 : Shape := ⟨2, ![61440, 2]⟩
abbrev S32 : Shape := ⟨1, ![32]⟩
abbrev S1x32 : Shape := ⟨2, ![1, 32]⟩
abbrev S61440x32 : Shape := ⟨2, ![61440, 32]⟩
abbrev S61440x32x256 : Shape := ⟨3, ![61440, 32, 256]⟩
abbrev S61440x32x1 : Shape := ⟨3, ![61440, 32, 1]⟩
abbrev S32x1024x61440 : Shape := ⟨3, ![32, 1024, 61440]⟩
abbrev S61440x32x1024 : Shape := ⟨3, ![61440, 32, 1024]⟩

abbrev nBuf : Space → Nat
  | .hbm => 293
  | .vmem => 0
  | .smem => 0
  | _ => 0

abbrev hbmTy0_0 (i : Nat) : BufTy := match i % 128 with
  | 0 => ⟨S256, .i32⟩
  | 1 => ⟨S491520x128, .f32⟩
  | 2 => ⟨S1024, .f32⟩
  | 3 => ⟨S1024x4, .f32⟩
  | 4 => ⟨S4, .f32⟩
  | 5 => ⟨S4x1024x8, .f32⟩
  | 6 => ⟨S4x8, .f32⟩
  | 7 => ⟨S32x1024x256, .f32⟩
  | 8 => ⟨S32x1024x256, .f32⟩
  | 9 => ⟨S32x256x1024, .f32⟩
  | 10 => ⟨S61440x1024, .f32⟩
  | 11 => ⟨S_, .i32⟩
  | 12 => ⟨S256, .i32⟩
  | 13 => ⟨S256, .i32⟩
  | 14 => ⟨S_, .i32⟩
  | 15 => ⟨S_, .i32⟩
  | 16 => ⟨S256, .i32⟩
  | 17 => ⟨S256, .i32⟩
  | 18 => ⟨S256, .i32⟩
  | 19 => ⟨S_, .i32⟩
  | 20 => ⟨S256, .i32⟩
  | 21 => ⟨S256, .i1⟩
  | 22 => ⟨S256, .i32⟩
  | 23 => ⟨S256, .i32⟩
  | 24 => ⟨S_, .i32⟩
  | 25 => ⟨S256, .i32⟩
  | 26 => ⟨S256, .i1⟩
  | 27 => ⟨S256, .i1⟩
  | 28 => ⟨S_, .i32⟩
  | 29 => ⟨S256, .i32⟩
  | 30 => ⟨S256, .i32⟩
  | 31 => ⟨S256, .i32⟩
  | 32 => ⟨S_, .i32⟩
  | 33 => ⟨S_, .i32⟩
  | 34 => ⟨S256, .i32⟩
  | 35 => ⟨S256, .i32⟩
  | 36 => ⟨S_, .i32⟩
  | 37 => ⟨S256, .i32⟩
  | 38 => ⟨S256, .i32⟩
  | 39 => ⟨S61440, .i32⟩
  | 40 => ⟨S61440x1, .i32⟩
  | 41 => ⟨S1x256, .i32⟩
  | 42 => ⟨S61440x256, .i32⟩
  | 43 => ⟨S61440x256, .i32⟩
  | 44 => ⟨S61440x256, .i1⟩
  | 45 => ⟨S256, .i32⟩
  | 46 => ⟨S1x256, .i32⟩
  | 47 => ⟨S61440x256, .i32⟩
  | 48 => ⟨S61440x256, .i32⟩
  | 49 => ⟨S61440x256, .i1⟩
  | 50 => ⟨S61440x256, .i1⟩
  | 51 => ⟨S_, .i1⟩
  | 52 => ⟨S61440, .i1⟩
  | 53 => ⟨S256, .i32⟩
  | 54 => ⟨S_, .i32⟩
  | 55 => ⟨S_, .i32⟩
  | 56 => ⟨S61440x256, .i32⟩
  | 57 => ⟨S61440x256, .i32⟩
  | 58 => ⟨S61440x256, .i32⟩
  | 59 => ⟨S_, .i32⟩
  | 60 => ⟨S61440, .i32⟩
  | 61 => ⟨S_, .i32⟩
  | 62 => ⟨S_, .i32⟩
  | 63 => ⟨S61440, .i32⟩
  | 64 => ⟨S61440, .i32⟩
  | 65 => ⟨S61440, .i32⟩
  | 66 => ⟨S_, .i32⟩
  | 67 => ⟨S61440, .i32⟩
  | 68 => ⟨S61440, .i1⟩
  | 69 => ⟨S61440, .i32⟩
  | 70 => ⟨S61440, .i32⟩
  | 71 => ⟨S_, .i32⟩
  | 72 => ⟨S61440, .i32⟩
  | 73 => ⟨S61440, .i1⟩
  | 74 => ⟨S61440, .i1⟩
  | 75 => ⟨S_, .i32⟩
  | 76 => ⟨S61440, .i32⟩
  | 77 => ⟨S61440, .i32⟩
  | 78 => ⟨S61440, .i32⟩
  | 79 => ⟨S_, .i32⟩
  | 80 => ⟨S_, .i32⟩
  | 81 => ⟨S61440, .i32⟩
  | 82 => ⟨S61440, .i32⟩
  | 83 => ⟨S61440, .i32⟩
  | 84 => ⟨S_, .i32⟩
  | 85 => ⟨S61440, .i32⟩
  | 86 => ⟨S61440, .i1⟩
  | 87 => ⟨S61440, .i32⟩
  | 88 => ⟨S61440, .i32⟩
  | 89 => ⟨S_, .i32⟩
  | 90 => ⟨S61440, .i32⟩
  | 91 => ⟨S61440, .i1⟩
  | 92 => ⟨S61440, .i1⟩
  | 93 => ⟨S_, .i32⟩
  | 94 => ⟨S61440, .i32⟩
  | 95 => ⟨S61440, .i32⟩
  | 96 => ⟨S61440, .i32⟩
  | 97 => ⟨S_, .i32⟩
  | 98 => ⟨S_, .i32⟩
  | 99 => ⟨S_, .i32⟩
  | 100 => ⟨S_, .i1⟩
  | 101 => ⟨S_, .i32⟩
  | 102 => ⟨S_, .i32⟩
  | 103 => ⟨S61440, .i32⟩
  | 104 => ⟨S61440, .i32⟩
  | 105 => ⟨S_, .i32⟩
  | 106 => ⟨S61440, .i32⟩
  | 107 => ⟨S61440, .i1⟩
  | 108 => ⟨S_, .i32⟩
  | 109 => ⟨S61440, .i32⟩
  | 110 => ⟨S61440, .i1⟩
  | 111 => ⟨S_, .i32⟩
  | 112 => ⟨S_, .i1⟩
  | 113 => ⟨S61440, .i1⟩
  | 114 => ⟨S61440, .i1⟩
  | 115 => ⟨S61440, .i1⟩
  | 116 => ⟨S61440, .i32⟩
  | 117 => ⟨S61440, .i32⟩
  | 118 => ⟨S61440, .i32⟩
  | 119 => ⟨S_, .i32⟩
  | 120 => ⟨S_, .i32⟩
  | 121 => ⟨S_, .i32⟩
  | 122 => ⟨S_, .i1⟩
  | 123 => ⟨S_, .i32⟩
  | 124 => ⟨S_, .i32⟩
  | 125 => ⟨S61440, .i32⟩
  | 126 => ⟨S61440, .i32⟩
  | 127 => ⟨S_, .i32⟩
  | _ => ⟨S256, .i32⟩

abbrev hbmTy0_1 (i : Nat) : BufTy := match i % 128 with
  | 0 => ⟨S61440, .i32⟩
  | 1 => ⟨S61440, .i1⟩
  | 2 => ⟨S_, .i32⟩
  | 3 => ⟨S61440, .i32⟩
  | 4 => ⟨S61440, .i1⟩
  | 5 => ⟨S_, .i32⟩
  | 6 => ⟨S_, .i1⟩
  | 7 => ⟨S61440, .i1⟩
  | 8 => ⟨S61440, .i1⟩
  | 9 => ⟨S61440, .i1⟩
  | 10 => ⟨S61440, .i32⟩
  | 11 => ⟨S61440, .i32⟩
  | 12 => ⟨S61440, .i32⟩
  | 13 => ⟨S61440x1024, .f32⟩
  | 14 => ⟨S_, .f32⟩
  | 15 => ⟨S61440, .f32⟩
  | 16 => ⟨S61440x1, .f32⟩
  | 17 => ⟨S_, .f32⟩
  | 18 => ⟨S61440x1, .f32⟩
  | 19 => ⟨S61440x1, .f32⟩
  | 20 => ⟨S_, .f32⟩
  | 21 => ⟨S61440x1, .f32⟩
  | 22 => ⟨S61440x1, .f32⟩
  | 23 => ⟨S61440x1, .f32⟩
  | 24 => ⟨S61440x1024, .f32⟩
  | 25 => ⟨S61440x1024, .f32⟩
  | 26 => ⟨S1x1024, .f32⟩
  | 27 => ⟨S61440x1024, .f32⟩
  | 28 => ⟨S61440x1024, .f32⟩
  | 29 => ⟨S61440x4, .f32⟩
  | 30 => ⟨S1x4, .f32⟩
  | 31 => ⟨S61440x4, .f32⟩
  | 32 => ⟨S61440x4, .f32⟩
  | 33 => ⟨S_, .f32⟩
  | 34 => ⟨S61440, .f32⟩
  | 35 => ⟨S_, .f32⟩
  | 36 => ⟨S61440, .f32⟩
  | 37 => ⟨S61440, .f32⟩
  | 38 => ⟨S61440x1, .f32⟩
  | 39 => ⟨S61440x4, .f32⟩
  | 40 => ⟨S61440x4, .f32⟩
  | 41 => ⟨S61440x4, .f32⟩
  | 42 => ⟨S_, .f32⟩
  | 43 => ⟨S61440, .f32⟩
  | 44 => ⟨S61440x1, .f32⟩
  | 45 => ⟨S61440x4, .f32⟩
  | 46 => ⟨S61440x4, .f32⟩
  | 47 => ⟨S_, .f32⟩
  | 48 => ⟨S61440, .f32⟩
  | 49 => ⟨S61440x1, .f32⟩
  | 50 => ⟨S61440x4x8, .f32⟩
  | 51 => ⟨S1x4x8, .f32⟩
  | 52 => ⟨S61440x4x8, .f32⟩
  | 53 => ⟨S61440x4x8, .f32⟩
  | 54 => ⟨S4, .i32⟩
  | 55 => ⟨S61440x1, .i32⟩
  | 56 => ⟨S1x4, .i32⟩
  | 57 => ⟨S61440x4, .i32⟩
  | 58 => ⟨S61440x4, .i32⟩
  | 59 => ⟨S61440x4, .i1⟩
  | 60 => ⟨S61440x4x1, .i1⟩
  | 61 => ⟨S_, .f32⟩
  | 62 => ⟨S_, .f32⟩
  | 63 => ⟨S61440x4x8, .i1⟩
  | 64 => ⟨S61440x4x8, .f32⟩
  | 65 => ⟨S61440x4x8, .f32⟩
  | 66 => ⟨S_, .f32⟩
  | 67 => ⟨S61440x8, .f32⟩
  | 68 => ⟨S8, .i32⟩
  | 69 => ⟨S61440x1, .i32⟩
  | 70 => ⟨S1x8, .i32⟩
  | 71 => ⟨S61440x8, .i32⟩
  | 72 => ⟨S61440x8, .i32⟩
  | 73 => ⟨S61440x8, .i1⟩
  | 74 => ⟨S_, .f32⟩
  | 75 => ⟨S_, .f32⟩
  | 76 => ⟨S61440x8, .f32⟩
  | 77 => ⟨S61440x8, .f32⟩
  | 78 => ⟨S_, .f32⟩
  | 79 => ⟨S61440, .f32⟩
  | 80 => ⟨S61440x1, .i32⟩
  | 81 => ⟨S1x8, .i32⟩
  | 82 => ⟨S61440x8, .i32⟩
  | 83 => ⟨S61440x8, .i32⟩
  | 84 => ⟨S61440x8, .i1⟩
  | 85 => ⟨S_, .f32⟩
  | 86 => ⟨S_, .f32⟩
  | 87 => ⟨S61440x8, .f32⟩
  | 88 => ⟨S61440x8, .f32⟩
  | 89 => ⟨S_, .f32⟩
  | 90 => ⟨S61440, .f32⟩
  | 91 => ⟨S61440x1, .f32⟩
  | 92 => ⟨S61440x1, .f32⟩
  | 93 => ⟨S61440x2, .f32⟩
  | 94 => ⟨S_, .f32⟩
  | 95 => ⟨S61440, .f32⟩
  | 96 => ⟨S_, .f32⟩
  | 97 => ⟨S61440, .f32⟩
  | 98 => ⟨S61440, .f32⟩
  | 99 => ⟨S61440x1, .f32⟩
  | 100 => ⟨S61440x2, .f32⟩
  | 101 => ⟨S61440x2, .f32⟩
  | 102 => ⟨S61440x2, .f32⟩
  | 103 => ⟨S_, .f32⟩
  | 104 => ⟨S61440, .f32⟩
  | 105 => ⟨S61440x1, .f32⟩
  | 106 => ⟨S61440x2, .f32⟩
  | 107 => ⟨S61440x2, .f32⟩
  | 108 => ⟨S61440x2, .f32⟩
  | 109 => ⟨S61440x2, .f32⟩
  | 110 => ⟨S32, .i32⟩
  | 111 => ⟨S_, .i32⟩
  | 112 => ⟨S61440, .i32⟩
  | 113 => ⟨S61440, .i32⟩
  | 114 => ⟨S61440, .i32⟩
  | 115 => ⟨S61440x1, .i32⟩
  | 116 => ⟨S1x32, .i32⟩
  | 117 => ⟨S61440x32, .i32⟩
  | 118 => ⟨S61440x32, .i32⟩
  | 119 => ⟨S61440x32, .i1⟩
  | 120 => ⟨S61440x1, .f32⟩
  | 121 => ⟨S_, .f32⟩
  | 122 => ⟨S_, .f32⟩
  | 123 => ⟨S61440x32, .f32⟩
  | 124 => ⟨S61440x32, .f32⟩
  | 125 => ⟨S61440x32, .f32⟩
  | 126 => ⟨S61440, .i32⟩
  | 127 => ⟨S61440x1, .i32⟩
  | _ => ⟨S256, .i32⟩

abbrev hbmTy0_2 (i : Nat) : BufTy := match i % 128 with
  | 0 => ⟨S1x32, .i32⟩
  | 1 => ⟨S61440x32, .i32⟩
  | 2 => ⟨S61440x32, .i32⟩
  | 3 => ⟨S61440x32, .i1⟩
  | 4 => ⟨S61440x1, .f32⟩
  | 5 => ⟨S_, .f32⟩
  | 6 => ⟨S_, .f32⟩
  | 7 => ⟨S61440x32, .f32⟩
  | 8 => ⟨S61440x32, .f32⟩
  | 9 => ⟨S61440x32, .f32⟩
  | 10 => ⟨S61440x32, .f32⟩
  | 11 => ⟨S61440x32x256, .f32⟩
  | 12 => ⟨S61440x32x256, .f32⟩
  | 13 => ⟨S61440x32x256, .f32⟩
  | 14 => ⟨S_, .f32⟩
  | 15 => ⟨S61440x32x256, .f32⟩
  | 16 => ⟨S61440x32x256, .f32⟩
  | 17 => ⟨S_, .f32⟩
  | 18 => ⟨S61440x32x256, .f32⟩
  | 19 => ⟨S61440x32x256, .f32⟩
  | 20 => ⟨S61440x32x256, .f32⟩
  | 21 => ⟨S61440x32x256, .f32⟩
  | 22 => ⟨S61440x32x256, .f32⟩
  | 23 => ⟨S61440x32x1, .f32⟩
  | 24 => ⟨S32x1024x61440, .f32⟩
  | 25 => ⟨S61440x32x1024, .f32⟩
  | 26 => ⟨S61440x32x1024, .f32⟩
  | 27 => ⟨S61440x32x1024, .f32⟩
  | 28 => ⟨S_, .f32⟩
  | 29 => ⟨S61440x1024, .f32⟩
  | 30 => ⟨S61440x1, .i1⟩
  | 31 => ⟨S_, .f32⟩
  | 32 => ⟨S_, .f32⟩
  | 33 => ⟨S61440x1024, .i1⟩
  | 34 => ⟨S61440x1024, .f32⟩
  | 35 => ⟨S61440x1024, .f32⟩
  | 36 => ⟨S491520x128, .f32⟩
  | _ => ⟨S256, .i32⟩

abbrev hbmTy (i : Nat) : BufTy := match i / 128 with
  | 0 => hbmTy0_0 i
  | 1 => hbmTy0_1 i
  | 2 => hbmTy0_2 i
  | _ => ⟨S256, .i32⟩

abbrev bufTy : (tb : Table) → Fin (tcTables nBuf tb) → BufTy
  | .hbm, ⟨i, _⟩ => hbmTy i
  | _, _ => ⟨S256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v3 : Ref sig .tc := ⟨.hbm, 31, rfl⟩
abbrev main_call1_call0_c : Ref sig .tc := ⟨.hbm, 32, rfl⟩
abbrev main_call1_call0_v0 : Ref sig .tc := ⟨.hbm, 33, rfl⟩
abbrev main_v4 : Ref sig .tc := ⟨.hbm, 34, rfl⟩
abbrev main_v5 : Ref sig .tc := ⟨.hbm, 35, rfl⟩
abbrev main_c_1 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_c_2 : Ref sig .tc := ⟨.hbm, 51, rfl⟩
abbrev main_v20 : Ref sig .tc := ⟨.hbm, 52, rfl⟩
abbrev main_v21 : Ref sig .tc := ⟨.hbm, 53, rfl⟩
abbrev main_c_3 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_v22 : Ref sig .tc := ⟨.hbm, 58, rfl⟩
abbrev main_c_4 : Ref sig .tc := ⟨.hbm, 59, rfl⟩
abbrev main_v23 : Ref sig .tc := ⟨.hbm, 60, rfl⟩
abbrev main_c_5 : Ref sig .tc := ⟨.hbm, 61, rfl⟩
abbrev main_call3_v0 : Ref sig .tc := ⟨.hbm, 62, rfl⟩
abbrev main_call3_v1 : Ref sig .tc := ⟨.hbm, 63, rfl⟩
abbrev main_call3_v2 : Ref sig .tc := ⟨.hbm, 64, rfl⟩
abbrev main_call3_v3 : Ref sig .tc := ⟨.hbm, 65, rfl⟩
abbrev main_call3_v4 : Ref sig .tc := ⟨.hbm, 66, rfl⟩
abbrev main_call3_v5 : Ref sig .tc := ⟨.hbm, 67, rfl⟩
abbrev main_call3_v6 : Ref sig .tc := ⟨.hbm, 68, rfl⟩
abbrev main_call3_v7 : Ref sig .tc := ⟨.hbm, 69, rfl⟩
abbrev main_call3_v8 : Ref sig .tc := ⟨.hbm, 70, rfl⟩
abbrev main_call3_c : Ref sig .tc := ⟨.hbm, 71, rfl⟩
abbrev main_call3_v9 : Ref sig .tc := ⟨.hbm, 72, rfl⟩
abbrev main_call3_v10 : Ref sig .tc := ⟨.hbm, 73, rfl⟩
abbrev main_call3_v11 : Ref sig .tc := ⟨.hbm, 74, rfl⟩
abbrev main_call3_c_0 : Ref sig .tc := ⟨.hbm, 75, rfl⟩
abbrev main_call3_v12 : Ref sig .tc := ⟨.hbm, 76, rfl⟩
abbrev main_call3_v13 : Ref sig .tc := ⟨.hbm, 77, rfl⟩
abbrev main_v24 : Ref sig .tc := ⟨.hbm, 78, rfl⟩
abbrev main_c_6 : Ref sig .tc := ⟨.hbm, 79, rfl⟩
abbrev main_call4_v0 : Ref sig .tc := ⟨.hbm, 80, rfl⟩
abbrev main_call4_v1 : Ref sig .tc := ⟨.hbm, 81, rfl⟩
abbrev main_call4_v2 : Ref sig .tc := ⟨.hbm, 82, rfl⟩
abbrev main_call4_v3 : Ref sig .tc := ⟨.hbm, 83, rfl⟩
abbrev main_call4_v4 : Ref sig .tc := ⟨.hbm, 84, rfl⟩
abbrev main_call4_v5 : Ref sig .tc := ⟨.hbm, 85, rfl⟩
abbrev main_call4_v6 : Ref sig .tc := ⟨.hbm, 86, rfl⟩
abbrev main_call4_v7 : Ref sig .tc := ⟨.hbm, 87, rfl⟩
abbrev main_call4_v8 : Ref sig .tc := ⟨.hbm, 88, rfl⟩
abbrev main_call4_c : Ref sig .tc := ⟨.hbm, 89, rfl⟩
abbrev main_call4_v9 : Ref sig .tc := ⟨.hbm, 90, rfl⟩
abbrev main_call4_v10 : Ref sig .tc := ⟨.hbm, 91, rfl⟩
abbrev main_call4_v11 : Ref sig .tc := ⟨.hbm, 92, rfl⟩
abbrev main_call4_c_0 : Ref sig .tc := ⟨.hbm, 93, rfl⟩
abbrev main_call4_v12 : Ref sig .tc := ⟨.hbm, 94, rfl⟩
abbrev main_call4_v13 : Ref sig .tc := ⟨.hbm, 95, rfl⟩
abbrev main_v25 : Ref sig .tc := ⟨.hbm, 96, rfl⟩
abbrev main_c_7 : Ref sig .tc := ⟨.hbm, 97, rfl⟩
abbrev main_call5_v0 : Ref sig .tc := ⟨.hbm, 98, rfl⟩
abbrev main_call5_c : Ref sig .tc := ⟨.hbm, 99, rfl⟩
abbrev main_call5_v1 : Ref sig .tc := ⟨.hbm, 100, rfl⟩
abbrev main_call5_c_0 : Ref sig .tc := ⟨.hbm, 101, rfl⟩
abbrev main_call5_v2 : Ref sig .tc := ⟨.hbm, 102, rfl⟩
abbrev main_call5_v3 : Ref sig .tc := ⟨.hbm, 103, rfl⟩
abbrev main_call5_v4 : Ref sig .tc := ⟨.hbm, 104, rfl⟩
abbrev main_call5_c_1 : Ref sig .tc := ⟨.hbm, 105, rfl⟩
abbrev main_call5_v5 : Ref sig .tc := ⟨.hbm, 106, rfl⟩
abbrev main_call5_v6 : Ref sig .tc := ⟨.hbm, 107, rfl⟩
abbrev main_call5_c_2 : Ref sig .tc := ⟨.hbm, 108, rfl⟩
abbrev main_call5_v7 : Ref sig .tc := ⟨.hbm, 109, rfl⟩
abbrev main_call5_v8 : Ref sig .tc := ⟨.hbm, 110, rfl⟩
abbrev main_call5_c_3 : Ref sig .tc := ⟨.hbm, 111, rfl⟩
abbrev main_call5_v9 : Ref sig .tc := ⟨.hbm, 112, rfl⟩
abbrev main_call5_v10 : Ref sig .tc := ⟨.hbm, 113, rfl⟩
abbrev main_call5_v11 : Ref sig .tc := ⟨.hbm, 114, rfl⟩
abbrev main_call5_v12 : Ref sig .tc := ⟨.hbm, 115, rfl⟩
abbrev main_call5_v13 : Ref sig .tc := ⟨.hbm, 116, rfl⟩
abbrev main_call5_v14 : Ref sig .tc := ⟨.hbm, 117, rfl⟩
abbrev main_v26 : Ref sig .tc := ⟨.hbm, 118, rfl⟩
abbrev main_c_8 : Ref sig .tc := ⟨.hbm, 119, rfl⟩
abbrev main_call6_v0 : Ref sig .tc := ⟨.hbm, 120, rfl⟩
abbrev main_call6_c : Ref sig .tc := ⟨.hbm, 121, rfl⟩
abbrev main_call6_v1 : Ref sig .tc := ⟨.hbm, 122, rfl⟩
abbrev main_call6_c_0 : Ref sig .tc := ⟨.hbm, 123, rfl⟩
abbrev main_call6_v2 : Ref sig .tc := ⟨.hbm, 124, rfl⟩
abbrev main_call6_v3 : Ref sig .tc := ⟨.hbm, 125, rfl⟩
abbrev main_call6_v4 : Ref sig .tc := ⟨.hbm, 126, rfl⟩
abbrev main_call6_c_1 : Ref sig .tc := ⟨.hbm, 127, rfl⟩
abbrev main_call6_v5 : Ref sig .tc := ⟨.hbm, 128, rfl⟩
abbrev main_call6_v6 : Ref sig .tc := ⟨.hbm, 129, rfl⟩
abbrev main_call6_c_2 : Ref sig .tc := ⟨.hbm, 130, rfl⟩
abbrev main_call6_v7 : Ref sig .tc := ⟨.hbm, 131, rfl⟩
abbrev main_call6_v8 : Ref sig .tc := ⟨.hbm, 132, rfl⟩
abbrev main_call6_c_3 : Ref sig .tc := ⟨.hbm, 133, rfl⟩
abbrev main_call6_v9 : Ref sig .tc := ⟨.hbm, 134, rfl⟩
abbrev main_call6_v10 : Ref sig .tc := ⟨.hbm, 135, rfl⟩
abbrev main_call6_v11 : Ref sig .tc := ⟨.hbm, 136, rfl⟩
abbrev main_call6_v12 : Ref sig .tc := ⟨.hbm, 137, rfl⟩
abbrev main_call6_v13 : Ref sig .tc := ⟨.hbm, 138, rfl⟩
abbrev main_call6_v14 : Ref sig .tc := ⟨.hbm, 139, rfl⟩
abbrev main_v27 : Ref sig .tc := ⟨.hbm, 140, rfl⟩
abbrev main_v28 : Ref sig .tc := ⟨.hbm, 141, rfl⟩
abbrev main_cst : Ref sig .tc := ⟨.hbm, 142, rfl⟩
abbrev main_v29 : Ref sig .tc := ⟨.hbm, 143, rfl⟩
abbrev main_v30 : Ref sig .tc := ⟨.hbm, 144, rfl⟩
abbrev main_cst_9 : Ref sig .tc := ⟨.hbm, 145, rfl⟩
abbrev main_v31 : Ref sig .tc := ⟨.hbm, 146, rfl⟩
abbrev main_v32 : Ref sig .tc := ⟨.hbm, 147, rfl⟩
abbrev main_cst_10 : Ref sig .tc := ⟨.hbm, 148, rfl⟩
abbrev main_v33 : Ref sig .tc := ⟨.hbm, 149, rfl⟩
abbrev main_v34 : Ref sig .tc := ⟨.hbm, 150, rfl⟩
abbrev main_v35 : Ref sig .tc := ⟨.hbm, 151, rfl⟩
abbrev main_v36 : Ref sig .tc := ⟨.hbm, 152, rfl⟩
abbrev main_v37 : Ref sig .tc := ⟨.hbm, 153, rfl⟩
abbrev main_v38 : Ref sig .tc := ⟨.hbm, 154, rfl⟩
abbrev main_v39 : Ref sig .tc := ⟨.hbm, 155, rfl⟩
abbrev main_v40 : Ref sig .tc := ⟨.hbm, 156, rfl⟩
abbrev main_v41 : Ref sig .tc := ⟨.hbm, 157, rfl⟩
abbrev main_v42 : Ref sig .tc := ⟨.hbm, 158, rfl⟩
abbrev main_v43 : Ref sig .tc := ⟨.hbm, 159, rfl⟩
abbrev main_v44 : Ref sig .tc := ⟨.hbm, 160, rfl⟩
abbrev main_cst_11 : Ref sig .tc := ⟨.hbm, 161, rfl⟩
abbrev main_v45 : Ref sig .tc := ⟨.hbm, 162, rfl⟩
abbrev main_cst_12 : Ref sig .tc := ⟨.hbm, 163, rfl⟩
abbrev main_v46 : Ref sig .tc := ⟨.hbm, 164, rfl⟩
abbrev main_v47 : Ref sig .tc := ⟨.hbm, 165, rfl⟩
abbrev main_v48 : Ref sig .tc := ⟨.hbm, 166, rfl⟩
abbrev main_v49 : Ref sig .tc := ⟨.hbm, 167, rfl⟩
abbrev main_v50 : Ref sig .tc := ⟨.hbm, 168, rfl⟩
abbrev main_v51 : Ref sig .tc := ⟨.hbm, 169, rfl⟩
abbrev main_cst_13 : Ref sig .tc := ⟨.hbm, 170, rfl⟩
abbrev main_v52 : Ref sig .tc := ⟨.hbm, 171, rfl⟩
abbrev main_v53 : Ref sig .tc := ⟨.hbm, 172, rfl⟩
abbrev main_v54 : Ref sig .tc := ⟨.hbm, 173, rfl⟩
abbrev main_v55 : Ref sig .tc := ⟨.hbm, 174, rfl⟩
abbrev main_cst_14 : Ref sig .tc := ⟨.hbm, 175, rfl⟩
abbrev main_v56 : Ref sig .tc := ⟨.hbm, 176, rfl⟩
abbrev main_v57 : Ref sig .tc := ⟨.hbm, 177, rfl⟩
abbrev main_v58 : Ref sig .tc := ⟨.hbm, 178, rfl⟩
abbrev main_v59 : Ref sig .tc := ⟨.hbm, 179, rfl⟩
abbrev main_v60 : Ref sig .tc := ⟨.hbm, 180, rfl⟩
abbrev main_v61 : Ref sig .tc := ⟨.hbm, 181, rfl⟩
abbrev main_v62 : Ref sig .tc := ⟨.hbm, 182, rfl⟩
abbrev main_v63 : Ref sig .tc := ⟨.hbm, 183, rfl⟩
abbrev main_v64 : Ref sig .tc := ⟨.hbm, 184, rfl⟩
abbrev main_v65 : Ref sig .tc := ⟨.hbm, 185, rfl⟩
abbrev main_v66 : Ref sig .tc := ⟨.hbm, 186, rfl⟩
abbrev main_v67 : Ref sig .tc := ⟨.hbm, 187, rfl⟩
abbrev main_v68 : Ref sig .tc := ⟨.hbm, 188, rfl⟩
abbrev main_cst_15 : Ref sig .tc := ⟨.hbm, 189, rfl⟩
abbrev main_call7_v0 : Ref sig .tc := ⟨.hbm, 190, rfl⟩
abbrev main_call7_v1 : Ref sig .tc := ⟨.hbm, 191, rfl⟩
abbrev main_call7_v2 : Ref sig .tc := ⟨.hbm, 192, rfl⟩
abbrev main_v69 : Ref sig .tc := ⟨.hbm, 193, rfl⟩
abbrev main_cst_16 : Ref sig .tc := ⟨.hbm, 194, rfl⟩
abbrev main_v70 : Ref sig .tc := ⟨.hbm, 195, rfl⟩
abbrev main_v71 : Ref sig .tc := ⟨.hbm, 196, rfl⟩
abbrev main_v72 : Ref sig .tc := ⟨.hbm, 197, rfl⟩
abbrev main_v73 : Ref sig .tc := ⟨.hbm, 198, rfl⟩
abbrev main_v74 : Ref sig .tc := ⟨.hbm, 199, rfl⟩
abbrev main_v75 : Ref sig .tc := ⟨.hbm, 200, rfl⟩
abbrev main_v76 : Ref sig .tc := ⟨.hbm, 201, rfl⟩
abbrev main_cst_17 : Ref sig .tc := ⟨.hbm, 202, rfl⟩
abbrev main_call8_v0 : Ref sig .tc := ⟨.hbm, 203, rfl⟩
abbrev main_call8_v1 : Ref sig .tc := ⟨.hbm, 204, rfl⟩
abbrev main_v77 : Ref sig .tc := ⟨.hbm, 205, rfl⟩
abbrev main_cst_18 : Ref sig .tc := ⟨.hbm, 206, rfl⟩
abbrev main_v78 : Ref sig .tc := ⟨.hbm, 207, rfl⟩
abbrev main_v79 : Ref sig .tc := ⟨.hbm, 208, rfl⟩
abbrev main_v80 : Ref sig .tc := ⟨.hbm, 209, rfl⟩
abbrev main_v81 : Ref sig .tc := ⟨.hbm, 210, rfl⟩
abbrev main_v82 : Ref sig .tc := ⟨.hbm, 211, rfl⟩
abbrev main_v83 : Ref sig .tc := ⟨.hbm, 212, rfl⟩
abbrev main_cst_19 : Ref sig .tc := ⟨.hbm, 213, rfl⟩
abbrev main_call9_v0 : Ref sig .tc := ⟨.hbm, 214, rfl⟩
abbrev main_call9_v1 : Ref sig .tc := ⟨.hbm, 215, rfl⟩
abbrev main_v84 : Ref sig .tc := ⟨.hbm, 216, rfl⟩
abbrev main_cst_20 : Ref sig .tc := ⟨.hbm, 217, rfl⟩
abbrev main_v85 : Ref sig .tc := ⟨.hbm, 218, rfl⟩
abbrev main_v86 : Ref sig .tc := ⟨.hbm, 219, rfl⟩
abbrev main_v87 : Ref sig .tc := ⟨.hbm, 220, rfl⟩
abbrev main_v88 : Ref sig .tc := ⟨.hbm, 221, rfl⟩
abbrev main_cst_21 : Ref sig .tc := ⟨.hbm, 222, rfl⟩
abbrev main_v89 : Ref sig .tc := ⟨.hbm, 223, rfl⟩
abbrev main_cst_22 : Ref sig .tc := ⟨.hbm, 224, rfl⟩
abbrev main_v90 : Ref sig .tc := ⟨.hbm, 225, rfl⟩
abbrev main_v91 : Ref sig .tc := ⟨.hbm, 226, rfl⟩
abbrev main_v92 : Ref sig .tc := ⟨.hbm, 227, rfl⟩
abbrev main_v93 : Ref sig .tc := ⟨.hbm, 228, rfl⟩
abbrev main_v94 : Ref sig .tc := ⟨.hbm, 229, rfl⟩
abbrev main_v95 : Ref sig .tc := ⟨.hbm, 230, rfl⟩
abbrev main_cst_23 : Ref sig .tc := ⟨.hbm, 231, rfl⟩
abbrev main_v96 : Ref sig .tc := ⟨.hbm, 232, rfl⟩
abbrev main_v97 : Ref sig .tc := ⟨.hbm, 233, rfl⟩
abbrev main_v98 : Ref sig .tc := ⟨.hbm, 234, rfl⟩
abbrev main_v99 : Ref sig .tc := ⟨.hbm, 235, rfl⟩
abbrev main_v100 : Ref sig .tc := ⟨.hbm, 236, rfl⟩
abbrev main_v101 : Ref sig .tc := ⟨.hbm, 237, rfl⟩
abbrev main_v102 : Ref sig .tc := ⟨.hbm, 238, rfl⟩
abbrev main_c_24 : Ref sig .tc := ⟨.hbm, 239, rfl⟩
abbrev main_v103 : Ref sig .tc := ⟨.hbm, 240, rfl⟩
abbrev main_v104 : Ref sig .tc := ⟨.hbm, 241, rfl⟩
abbrev main_v105 : Ref sig .tc := ⟨.hbm, 242, rfl⟩
abbrev main_v106 : Ref sig .tc := ⟨.hbm, 243, rfl⟩
abbrev main_v107 : Ref sig .tc := ⟨.hbm, 244, rfl⟩
abbrev main_v108 : Ref sig .tc := ⟨.hbm, 245, rfl⟩
abbrev main_v109 : Ref sig .tc := ⟨.hbm, 246, rfl⟩
abbrev main_v110 : Ref sig .tc := ⟨.hbm, 247, rfl⟩
abbrev main_v111 : Ref sig .tc := ⟨.hbm, 248, rfl⟩
abbrev main_cst_25 : Ref sig .tc := ⟨.hbm, 249, rfl⟩
abbrev main_call10_v0 : Ref sig .tc := ⟨.hbm, 250, rfl⟩
abbrev main_call10_v1 : Ref sig .tc := ⟨.hbm, 251, rfl⟩
abbrev main_call10_v2 : Ref sig .tc := ⟨.hbm, 252, rfl⟩
abbrev main_v112 : Ref sig .tc := ⟨.hbm, 253, rfl⟩
abbrev main_v113 : Ref sig .tc := ⟨.hbm, 254, rfl⟩
abbrev main_v114 : Ref sig .tc := ⟨.hbm, 255, rfl⟩
abbrev main_v115 : Ref sig .tc := ⟨.hbm, 256, rfl⟩
abbrev main_v116 : Ref sig .tc := ⟨.hbm, 257, rfl⟩
abbrev main_v117 : Ref sig .tc := ⟨.hbm, 258, rfl⟩
abbrev main_v118 : Ref sig .tc := ⟨.hbm, 259, rfl⟩
abbrev main_v119 : Ref sig .tc := ⟨.hbm, 260, rfl⟩
abbrev main_cst_26 : Ref sig .tc := ⟨.hbm, 261, rfl⟩
abbrev main_call11_v0 : Ref sig .tc := ⟨.hbm, 262, rfl⟩
abbrev main_call11_v1 : Ref sig .tc := ⟨.hbm, 263, rfl⟩
abbrev main_call11_v2 : Ref sig .tc := ⟨.hbm, 264, rfl⟩
abbrev main_v120 : Ref sig .tc := ⟨.hbm, 265, rfl⟩
abbrev main_v121 : Ref sig .tc := ⟨.hbm, 266, rfl⟩
abbrev main_v122 : Ref sig .tc := ⟨.hbm, 267, rfl⟩
abbrev main_call12_v0 : Ref sig .tc := ⟨.hbm, 268, rfl⟩
abbrev main_call12_v1 : Ref sig .tc := ⟨.hbm, 269, rfl⟩
abbrev main_call12_cst : Ref sig .tc := ⟨.hbm, 270, rfl⟩
abbrev main_call12_v2 : Ref sig .tc := ⟨.hbm, 271, rfl⟩
abbrev main_call12_v3 : Ref sig .tc := ⟨.hbm, 272, rfl⟩
abbrev main_call12_cst_0 : Ref sig .tc := ⟨.hbm, 273, rfl⟩
abbrev main_call12_v4 : Ref sig .tc := ⟨.hbm, 274, rfl⟩
abbrev main_call12_v5 : Ref sig .tc := ⟨.hbm, 275, rfl⟩
abbrev main_v123 : Ref sig .tc := ⟨.hbm, 276, rfl⟩
abbrev main_v124 : Ref sig .tc := ⟨.hbm, 277, rfl⟩
abbrev main_v125 : Ref sig .tc := ⟨.hbm, 278, rfl⟩
abbrev main_v126 : Ref sig .tc := ⟨.hbm, 279, rfl⟩
abbrev main_v127 : Ref sig .tc := ⟨.hbm, 280, rfl⟩
abbrev main_v128 : Ref sig .tc := ⟨.hbm, 281, rfl⟩
abbrev main_v129 : Ref sig .tc := ⟨.hbm, 282, rfl⟩
abbrev main_v130 : Ref sig .tc := ⟨.hbm, 283, rfl⟩
abbrev main_cst_27 : Ref sig .tc := ⟨.hbm, 284, rfl⟩
abbrev main_v131 : Ref sig .tc := ⟨.hbm, 285, rfl⟩
abbrev main_v132 : Ref sig .tc := ⟨.hbm, 286, rfl⟩
abbrev main_cst_28 : Ref sig .tc := ⟨.hbm, 287, rfl⟩
abbrev main_call13_v0 : Ref sig .tc := ⟨.hbm, 288, rfl⟩
abbrev main_call13_v1 : Ref sig .tc := ⟨.hbm, 289, rfl⟩
abbrev main_call13_v2 : Ref sig .tc := ⟨.hbm, 290, rfl⟩
abbrev main_v133 : Ref sig .tc := ⟨.hbm, 291, rfl⟩
abbrev main_v134 : Ref sig .tc := ⟨.hbm, 292, rfl⟩

abbrev nD : Nat := 1
abbrev τ : Topo := Topo.v7x

variable {F : FTy → Type} [FloatOps F]
-- ==== Proof.Plan.lean ====
/- What one step of the dispatch copies where, in whole rows of eight vector rows: the list of its copies, and that over
   the thirty-two steps the copies are to different places and cover the whole result. -/
module

public import proofs.«01_k».proof.KernelIdeal
public import Mathlib.Data.Nat.Bitwise
public import Mathlib.Data.List.Range

@[expose] public section

noncomputable section

namespace Cert.Plan

/-- A run of rows: its first row and its length. -/
abbrev Piece := ℕ × ℕ

/-- Two runs have no row in common: one ends before the other starts. -/
def Sep (p q : Piece) : Prop := p.1 + p.2 ≤ q.1 ∨ q.1 + q.2 ≤ p.1

theorem Sep.symm {p q : Piece} (h : Sep p q) : Sep q p := Or.symm h

/-- Row `r` lies in the run `p`. -/
def Has (p : Piece) (r : ℕ) : Prop := p.1 ≤ r ∧ r < p.1 + p.2

theorem Sep.not_both {p q : Piece} (h : Sep p q) {r : ℕ} (hp : Has p r) (hq : Has q r) : False := by
  rcases hp with ⟨a, b⟩; rcases hq with ⟨c, d⟩; rcases h with h | h <;> omega

/-- The `n` rows from `s` on, cut along the binary digits of `n` from digit `b` on, `f` digits. -/
def bits (s n : ℕ) : ℕ → ℕ → List Piece
  | 0, _ => []
  | f + 1, b => (if n.testBit b then [(s + n % 2 ^ b, 2 ^ b)] else []) ++ bits s n f (b + 1)

theorem mod_step (n b : ℕ) : n % 2 ^ (b + 1) = n % 2 ^ b + if n.testBit b then 2 ^ b else 0 := by
  rw [Nat.mod_pow_succ, Nat.testBit_eq_decide_div_mod_eq]
  rcases Nat.mod_two_eq_zero_or_one (n / 2 ^ b) with h | h <;> simp [h]

theorem bits_within (s n : ℕ) : ∀ (f b : ℕ), ∀ p ∈ bits s n f b,
    s + n % 2 ^ b ≤ p.1 ∧ p.1 + p.2 ≤ s + n % 2 ^ (b + f) ∧ 0 < p.2
  | 0, _, _, hp => by simp [bits] at hp
  | f + 1, b, p, hp => by
    have hm := mod_step n b
    have mono : ∀ f b, n % 2 ^ b ≤ n % 2 ^ (b + f) := by
      intro f
      induction f with
      | zero => intro b; exact le_rfl
      | succ f ih => intro b; have := mod_step n (b + f); have := ih b; rw [← Nat.add_assoc]; omega
    have e : b + (f + 1) = (b + 1) + f := by omega
    rw [e]
    rcases List.mem_append.1 hp with h | h
    · by_cases ht : n.testBit b = true
      · simp only [ht, if_true, List.mem_singleton] at h hm
        subst h
        have := mono f (b + 1)
        refine ⟨le_rfl, ?_, Nat.two_pow_pos b⟩
        show s + n % 2 ^ b + 2 ^ b ≤ _
        omega
      · simp [ht] at h
    · have := bits_within s n f (b + 1) p h
      refine ⟨?_, this.2.1, this.2.2⟩
      have h2 := this.1
      omega

theorem bits_sep (s n : ℕ) : ∀ (f b : ℕ), (bits s n f b).Pairwise Sep
  | 0, _ => List.Pairwise.nil
  | f + 1, b => by
    refine List.pairwise_append.2 ⟨?_, bits_sep s n f (b + 1), ?_⟩
    · split <;> simp
    · intro p hp q hq
      have hm := mod_step n b
      have h2 := (bits_within s n f (b + 1) q hq).1
      by_cases ht : n.testBit b = true
      · simp only [ht, if_true, List.mem_singleton] at hp hm
        subst hp
        left
        show s + n % 2 ^ b + 2 ^ b ≤ _
        omega
      · simp [ht] at hp

theorem bits_cover (s n : ℕ) : ∀ (f b r : ℕ), s + n % 2 ^ b ≤ r → r < s + n % 2 ^ (b + f) → ∃ p ∈ bits s n f b, Has p r
  | 0, b, r, h, h' => by simp only [Nat.add_zero] at h'; omega
  | f + 1, b, r, h, h' => by
    have hm := mod_step n b
    have e : b + (f + 1) = (b + 1) + f := by omega
    rw [e] at h'
    by_cases hr : s + n % 2 ^ (b + 1) ≤ r
    · obtain ⟨p, hp, hh⟩ := bits_cover s n f (b + 1) r hr h'
      exact ⟨p, List.mem_append_right _ hp, hh⟩
    · by_cases ht : n.testBit b = true
      · simp only [ht, if_true] at hm
        refine ⟨(s + n % 2 ^ b, 2 ^ b), List.mem_append_left _ (by simp [ht]), h, ?_⟩
        show r < s + n % 2 ^ b + 2 ^ b
        omega
      · simp only [ht, if_false] at hm
        exfalso; simp at hm; omega

/-- The copies of step `i`'s share of the rows left over at the ends of the buckets' last tiles. -/
def padList (ps pl : ℕ → ℕ) (i k n : ℕ) : List Piece :=
  (List.range' k n).flatMap fun k => bits (ps (32 * k + i)) (pl (32 * k + i)) 8 0

/-- How many of the unused tiles step `i` fills. -/
def tailTrips (tot i : ℕ) : ℕ := (240 - tot - i + 31) / 32

/-- The copies of step `i`'s share of the unused tiles, each tile in two halves. -/
def tailList (tot i k n : ℕ) : List Piece :=
  (List.range' k n).flatMap fun t => [(256 * (tot + i + 32 * t), 128), (256 * (tot + i + 32 * t) + 128, 128)]

/-- The copies of step `i`'s tokens. -/
def rowList (pos : ℕ → ℕ) (i k n : ℕ) : List Piece :=
  (List.range' k n).map fun j => (pos (1024 * i + j), 1)

/-- The zero copies of step `i`. -/
def zeroPlan (ps pl : ℕ → ℕ) (tot i : ℕ) : List Piece :=
  padList ps pl i 0 8 ++ tailList tot i 0 (tailTrips tot i)

/-- All copies of step `i`. -/
def plan (pos ps pl : ℕ → ℕ) (tot i : ℕ) : List Piece :=
  zeroPlan ps pl tot i ++ rowList pos i 0 1024

/-- The copies of the `n` steps from step `t` on. -/
def plans (pos ps pl : ℕ → ℕ) (tot t n : ℕ) : List Piece :=
  (List.range' t n).flatMap (plan pos ps pl tot)

/-- What the routing tables say: see the test file's `routed`. -/
structure Good (pos ps pl : ℕ → ℕ) (tot : ℕ) : Prop where
  tot_le : tot ≤ 240
  pl_lt : ∀ b < 256, pl b < 256
  pad_le : ∀ b < 256, ps b + pl b ≤ 256 * tot
  pos_lt : ∀ t < 32768, pos t < 256 * tot
  pos_inj : ∀ t < 32768, ∀ t' < 32768, pos t = pos t' → t = t'
  pad_sep : ∀ b < 256, ∀ b' < 256, b < b' → ps b + pl b ≤ ps b'
  pos_pad : ∀ t < 32768, ∀ b < 256, pos t < ps b ∨ ps b + pl b ≤ pos t
  cover : ∀ r < 256 * tot, (∃ t < 32768, pos t = r) ∨ ∃ b < 256, ps b ≤ r ∧ r < ps b + pl b

variable {pos ps pl : ℕ → ℕ} {tot : ℕ}

theorem mem_padList {i k n : ℕ} {p : Piece} (h : p ∈ padList ps pl i k n) :
    ∃ j, k ≤ j ∧ j < k + n ∧ p ∈ bits (ps (32 * j + i)) (pl (32 * j + i)) 8 0 := by
  obtain ⟨j, hj, hp⟩ := List.mem_flatMap.1 h
  obtain ⟨h1, h2⟩ := List.mem_range'_1.1 hj
  exact ⟨j, h1, h2, hp⟩

theorem mem_tailList {i k n : ℕ} {p : Piece} (h : p ∈ tailList tot i k n) :
    ∃ t, k ≤ t ∧ t < k + n ∧ (p = (256 * (tot + i + 32 * t), 128) ∨ p = (256 * (tot + i + 32 * t) + 128, 128)) := by
  obtain ⟨j, hj, hp⟩ := List.mem_flatMap.1 h
  obtain ⟨h1, h2⟩ := List.mem_range'_1.1 hj
  refine ⟨j, h1, h2, ?_⟩
  simpa using hp

theorem mem_rowList {i k n : ℕ} {p : Piece} (h : p ∈ rowList pos i k n) :
    ∃ j, k ≤ j ∧ j < k + n ∧ p = (pos (1024 * i + j), 1) := by
  obtain ⟨j, hj, hp⟩ := List.mem_map.1 h
  obtain ⟨h1, h2⟩ := List.mem_range'_1.1 hj
  exact ⟨j, h1, h2, hp.symm⟩

namespace Good

variable (hg : Good pos ps pl tot)
include hg

/-- A pad copy stays inside its bucket's pad. -/
theorem bits_in {b : ℕ} (hb : b < 256) {p : Piece} (h : p ∈ bits (ps b) (pl b) 8 0) :
    ps b ≤ p.1 ∧ p.1 + p.2 ≤ ps b + pl b ∧ 0 < p.2 := by
  have := bits_within _ _ _ _ p h
  have e : pl b % 2 ^ (0 + 8) = pl b := Nat.mod_eq_of_lt (hg.pl_lt b hb)
  rw [e] at this
  refine ⟨?_, this.2⟩
  have := this.1
  omega

/-- Each copy of a step is of one of the three kinds. -/
theorem kind {i : ℕ} (hi : i < 32) {p : Piece} (h : p ∈ plan pos ps pl tot i) :
    (∃ k < 8, p ∈ bits (ps (32 * k + i)) (pl (32 * k + i)) 8 0)
    ∨ (∃ t < tailTrips tot i, p = (256 * (tot + i + 32 * t), 128) ∨ p = (256 * (tot + i + 32 * t) + 128, 128))
    ∨ (∃ j < 1024, p = (pos (1024 * i + j), 1)) := by
  rcases List.mem_append.1 h with h | h
  · rcases List.mem_append.1 h with h | h
    · obtain ⟨j, -, h1, h2⟩ := mem_padList h; exact Or.inl ⟨j, by omega, h2⟩
    · obtain ⟨j, -, h1, h2⟩ := mem_tailList h; exact Or.inr (Or.inl ⟨j, by omega, h2⟩)
  · obtain ⟨j, -, h1, h2⟩ := mem_rowList h; exact Or.inr (Or.inr ⟨j, by omega, h2⟩)

theorem plan_bound {i : ℕ} (hi : i < 32) {p : Piece} (h : p ∈ plan pos ps pl tot i) : p.1 + p.2 ≤ 61440 ∧ 0 < p.2 := by
  have ht := hg.tot_le
  rcases hg.kind hi h with ⟨k, hk, hp⟩ | ⟨t, htt, hp⟩ | ⟨j, hj, rfl⟩
  · have hb : 32 * k + i < 256 := by omega
    have h1 := hg.bits_in hb hp
    have h2 := hg.pad_le _ hb
    omega
  · unfold tailTrips at htt
    rcases hp with rfl | rfl <;> simp only <;> omega
  · have := hg.pos_lt (1024 * i + j) (by omega)
    simp only; omega

/-- Copies of different steps are apart. -/
theorem plan_apart {i i' : ℕ} (hi : i < 32) (hi' : i' < 32) (hne : i ≠ i') {p q : Piece}
    (hp : p ∈ plan pos ps pl tot i) (hq : q ∈ plan pos ps pl tot i') : Sep p q := by
  rcases hg.kind hi hp with ⟨k, hk, hp⟩ | ⟨t, ht, hp⟩ | ⟨j, hj, rfl⟩
  · have hb : 32 * k + i < 256 := by omega
    have h1 := hg.bits_in hb hp
    have h2 := hg.pad_le _ hb
    rcases hg.kind hi' hq with ⟨k', hk', hq⟩ | ⟨t, ht, hq⟩ | ⟨j, hj, rfl⟩
    · have hb' : 32 * k' + i' < 256 := by omega
      have h1' := hg.bits_in hb' hq
      rcases Nat.lt_or_ge (32 * k + i) (32 * k' + i') with h | h
      · have := hg.pad_sep _ hb _ hb' h; left; omega
      · have := hg.pad_sep _ hb' _ hb (by omega); right; omega
    · left; rcases hq with rfl | rfl <;> simp only <;> omega
    · rcases hg.pos_pad (1024 * i' + j) (by omega) _ hb with h | h
      · right; simp only; omega
      · left; simp only; omega
  · rcases hg.kind hi' hq with ⟨k', hk', hq⟩ | ⟨t', ht', hq⟩ | ⟨j, hj, rfl⟩
    · have hb' : 32 * k' + i' < 256 := by omega
      have h1' := hg.bits_in hb' hq
      have h2 := hg.pad_le _ hb'
      right; rcases hp with rfl | rfl <;> simp only <;> omega
    · unfold Sep
      rcases hp with rfl | rfl <;> rcases hq with rfl | rfl <;> simp only <;> omega
    · have := hg.pos_lt (1024 * i' + j) (by omega)
      right; rcases hp with rfl | rfl <;> simp only <;> omega
  · have hpp := hg.pos_lt (1024 * i + j) (by omega)
    rcases hg.kind hi' hq with ⟨k', hk', hq⟩ | ⟨t', ht', hq⟩ | ⟨j', hj', rfl⟩
    · have hb' : 32 * k' + i' < 256 := by omega
      have h1' := hg.bits_in hb' hq
      rcases hg.pos_pad (1024 * i + j) (by omega) _ hb' with h | h
      · left; simp only; omega
      · right; simp only; omega
    · left; rcases hq with rfl | rfl <;> simp only <;> omega
    · have : pos (1024 * i + j) ≠ pos (1024 * i' + j') := fun e => by
        have := hg.pos_inj _ (by omega) _ (by omega) e; omega
      unfold Sep; simp only; omega

/-- The copies of one step are apart. -/
theorem plan_sep {i : ℕ} (hi : i < 32) : (plan pos ps pl tot i).Pairwise Sep := by
  have ht := hg.tot_le
  refine List.pairwise_append.2 ⟨List.pairwise_append.2 ⟨?_, ?_, ?_⟩, ?_, ?_⟩
  · refine List.pairwise_flatMap.2 ⟨fun k _ => bits_sep _ _ _ _, ?_⟩
    refine List.Pairwise.imp_of_mem ?_ (List.pairwise_lt_range' (s := 0) (n := 8))
    intro a b ha hb hlt p hp q hq
    have ha' := (List.mem_range'_1.1 ha).2
    have hb' := (List.mem_range'_1.1 hb).2
    have h1 := hg.bits_in (by omega) hp
    have h2 := hg.bits_in (by omega) hq
    have := hg.pad_sep (32 * a + i) (by omega) (32 * b + i) (by omega) (by omega)
    left; omega
  · refine List.pairwise_flatMap.2 ⟨fun k _ => ?_, ?_⟩
    · simp [Sep]
    · refine List.Pairwise.imp_of_mem ?_ (List.pairwise_lt_range' (s := 0) (n := tailTrips tot i))
      intro a b ha hb hlt p hp q hq
      simp only [List.mem_cons, List.not_mem_nil, or_false] at hp hq
      left
      rcases hp with rfl | rfl <;> rcases hq with rfl | rfl <;> simp only <;> omega
  · intro p hp q hq
    obtain ⟨k, -, hk, hp⟩ := mem_padList hp
    obtain ⟨t, -, -, hq⟩ := mem_tailList hq
    have h1 := hg.bits_in (by omega) hp
    have h2 := hg.pad_le (32 * k + i) (by omega)
    left; rcases hq with rfl | rfl <;> simp only <;> omega
  · refine List.pairwise_map.2 ?_
    refine List.Pairwise.imp_of_mem ?_ (List.pairwise_lt_range' (s := 0) (n := 1024))
    intro a b ha hb hlt
    have ha' := (List.mem_range'_1.1 ha).2
    have hb' := (List.mem_range'_1.1 hb).2
    have : pos (1024 * i + a) ≠ pos (1024 * i + b) := fun e => by
      have := hg.pos_inj _ (by omega) _ (by omega) e; omega
    unfold Sep; simp only; omega
  · intro p hp q hq
    obtain ⟨j, -, hj, rfl⟩ := mem_rowList hq
    rcases List.mem_append.1 hp with h | h
    · obtain ⟨k, -, hk, h⟩ := mem_padList h
      have h1 := hg.bits_in (by omega) h
      rcases hg.pos_pad (1024 * i + j) (by omega) (32 * k + i) (by omega) with h | h
      · right; simp only; omega
      · left; simp only; omega
    · obtain ⟨t, -, -, h⟩ := mem_tailList h
      have := hg.pos_lt (1024 * i + j) (by omega)
      right; rcases h with rfl | rfl <;> simp only <;> omega

/-- The copies of all steps are apart. -/
theorem plans_sep : (plans pos ps pl tot 0 32).Pairwise Sep := by
  refine List.pairwise_flatMap.2 ⟨fun i hi => hg.plan_sep (by have := (List.mem_range'_1.1 hi).2; omega), ?_⟩
  refine List.Pairwise.imp_of_mem ?_ (List.pairwise_lt_range' (s := 0) (n := 32))
  intro a b ha hb hlt p hp q hq
  have ha' := (List.mem_range'_1.1 ha).2
  have hb' := (List.mem_range'_1.1 hb).2
  exact hg.plan_apart (by omega) (by omega) (by omega) hp hq

/-- They cover the result. -/
theorem plans_cover {r : ℕ} (hr : r < 61440) : ∃ p ∈ plans pos ps pl tot 0 32, Has p r := by
  have mem : ∀ i < 32, ∀ p ∈ plan pos ps pl tot i, p ∈ plans pos ps pl tot 0 32 := fun i hi p hp =>
    List.mem_flatMap.2 ⟨i, List.mem_range'_1.2 ⟨by omega, by omega⟩, hp⟩
  rcases Nat.lt_or_ge r (256 * tot) with h | h
  · rcases hg.cover r h with ⟨t, ht, rfl⟩ | ⟨b, hb, h1, h2⟩
    · refine ⟨(pos t, 1), mem (t / 1024) (by omega) _ (List.mem_append_right _ (List.mem_map.2 ⟨t % 1024, List.mem_range'_1.2 ⟨by omega, by omega⟩, ?_⟩)),
        le_rfl, Nat.lt_succ_self _⟩
      rw [show 1024 * (t / 1024) + t % 1024 = t by omega]
    · have e : pl b % 2 ^ (0 + 8) = pl b := Nat.mod_eq_of_lt (hg.pl_lt b hb)
      obtain ⟨p, hp, hh⟩ := bits_cover (ps b) (pl b) 8 0 r (by simp only [Nat.pow_zero, Nat.mod_one]; omega) (by rw [e]; omega)
      refine ⟨p, mem (b % 32) (by omega) _ (List.mem_append_left _ (List.mem_append_left _ (List.mem_flatMap.2
        ⟨b / 32, List.mem_range'_1.2 ⟨by omega, by omega⟩, ?_⟩))), hh⟩
      rw [show 32 * (b / 32) + b % 32 = b by omega]
      exact hp
  · have ht := hg.tot_le
    have key : ∀ i < 32, ∀ t < tailTrips tot i, ∀ p, (p = (256 * (tot + i + 32 * t), 128) ∨ p = (256 * (tot + i + 32 * t) + 128, 128))
        → p ∈ plans pos ps pl tot 0 32 := fun i hi t htt p hp =>
      mem i hi _ (List.mem_append_left _ (List.mem_append_right _ (List.mem_flatMap.2
        ⟨t, List.mem_range'_1.2 ⟨by omega, by omega⟩, by simpa using hp⟩)))
    have hq : r / 256 - tot < 240 - tot := by omega
    have hlt : (r / 256 - tot) / 32 < tailTrips tot ((r / 256 - tot) % 32) := by unfold tailTrips; omega
    have he : tot + (r / 256 - tot) % 32 + 32 * ((r / 256 - tot) / 32) = r / 256 := by omega
    rcases Nat.lt_or_ge (r % 256) 128 with hh | hh
    · exact ⟨_, key ((r / 256 - tot) % 32) (by omega) ((r / 256 - tot) / 32) hlt _ (Or.inl rfl), by unfold Has; simp only [he]; omega⟩
    · exact ⟨_, key ((r / 256 - tot) % 32) (by omega) ((r / 256 - tot) / 32) hlt _ (Or.inr rfl), by unfold Has; simp only [he]; omega⟩

end Good

end Cert.Plan
-- ==== Proof.Step.lean ====
/- A list of copies into the result, all on one semaphore: the state after some of them are started, after some of them are
   waited for, and the two steps between such states. -/
module

public import proofs.«01_k».proof.Proof.Gen.KernelIdeal.Skeleton
public import proofs.«01_k».proof.Proof.Gen.KernelIdeal.Launch
public import proofs.«01_k».proof.Proof.Plan
public import Idealize.ShloMosaic.Lib.Pipeline.FrameBody
public import Idealize.ShloMosaic.Lib.MixedBatch
public import Idealize.ShloMosaic.Lib.Tactic

@[expose] public section

noncomputable section

namespace Cert.KernelIdeal.Hand

open Cert.KernelIdeal Cert.KernelIdeal.Gen Cert.Plan
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (MixedBatch sumTo pending pending_succ pending_zero not_mem_pending_succ)

variable {F : FTy → Type} [FloatOps F]

local notation "𝕄" => MT nD τ sig Unit (Elt F) ℕ (Pipeline.UD sig nD τ) ℕ

/-- The counters of the batches. -/
abbrev EC : UEmb Counters 𝕄 := countersEmb (U := Pipeline.UD sig nD τ)

/-- The result's buffer on a core. -/
abbrev outLoc (c : Dev nD) : Loc nD τ sig := (c : Thread nD τ).loc main_v16

/-- The vector rows `a ≤ r < b` of an array of `n` rows of 128. -/
def rows (n a b : ℕ) : Finset (⟨2, ![n, 128]⟩ : Shape).Idx :=
  Finset.univ.filter fun x => a ≤ (x 0).val ∧ (x 0).val < b

theorem mem_rows {n a b : ℕ} {x : (⟨2, ![n, 128]⟩ : Shape).Idx} : x ∈ rows n a b ↔ a ≤ (x 0).val ∧ (x 0).val < b := by
  simp [rows]

/-- The elements of the result a copy writes. -/
abbrev K (p : Piece) : Finset S491520x128.Idx := rows 491520 (8 * p.1) (8 * (p.1 + p.2))

theorem K_disjoint {p q : Piece} (h : Sep p q) : Disjoint (K p) (K q) := by
  refine Finset.disjoint_left.2 fun x hp hq => ?_
  rw [mem_rows] at hp hq
  rcases h with h | h <;> omega

/-- The elements of the result a list of copies writes. -/
def Wset (l : List Piece) : Finset S491520x128.Idx :=
  Finset.univ.filter fun x => ∃ p ∈ l, 8 * p.1 ≤ (x 0).val ∧ (x 0).val < 8 * (p.1 + p.2)

theorem mem_Wset {l : List Piece} {x : S491520x128.Idx} : x ∈ Wset l ↔ ∃ p ∈ l, x ∈ K p := by
  simp [Wset, mem_rows]

theorem Wset_nil : Wset [] = ∅ := by ext x; simp [mem_Wset]

theorem Wset_append (l l' : List Piece) : Wset (l ++ l') = Wset l ∪ Wset l' := by
  ext x; simp only [mem_Wset, Finset.mem_union, List.mem_append]
  constructor
  · rintro ⟨p, h | h, hx⟩
    · exact Or.inl ⟨p, h, hx⟩
    · exact Or.inr ⟨p, h, hx⟩
  · rintro (⟨p, h, hx⟩ | ⟨p, h, hx⟩)
    · exact ⟨p, Or.inl h, hx⟩
    · exact ⟨p, Or.inr h, hx⟩

theorem Wset_cons (p : Piece) (l : List Piece) : Wset (p :: l) = K p ∪ Wset l := by
  ext x; simp only [mem_Wset, Finset.mem_union, List.mem_cons]
  constructor
  · rintro ⟨q, rfl | h, hx⟩
    · exact Or.inl hx
    · exact Or.inr ⟨q, h, hx⟩
  · rintro (hx | ⟨q, h, hx⟩)
    · exact ⟨p, Or.inl rfl, hx⟩
    · exact ⟨q, Or.inr h, hx⟩

theorem Wset_disjoint {l l' : List Piece} (h : ∀ p ∈ l, ∀ q ∈ l', Sep p q) : Disjoint (Wset l) (Wset l') := by
  refine Finset.disjoint_left.2 fun x hp hq => ?_
  rw [mem_Wset] at hp hq
  obtain ⟨p, hp, hx⟩ := hp
  obtain ⟨q, hq, hy⟩ := hq
  exact Finset.disjoint_left.1 (K_disjoint (h p hp q hq)) hx hy

theorem Wset_eq_biUnion (l : List Piece) : Wset l = Finset.univ.biUnion fun j : Fin l.length => K l[j] := by
  ext x
  simp only [mem_Wset, Finset.mem_biUnion, Finset.mem_univ, true_and]
  constructor
  · rintro ⟨p, hp, hx⟩
    obtain ⟨i, hi, rfl⟩ := List.getElem_of_mem hp
    exact ⟨⟨i, hi⟩, hx⟩
  · rintro ⟨j, hx⟩
    exact ⟨l[j], List.getElem_mem _, hx⟩

/-- The elements of a whole-width slice: a range of rows. -/
theorem set_unit_rows {n h a : ℕ} {off : Fin 2 → ℕ} (hoff : off = ![a, 0])
    (inb : ∀ d, off d + (![h, 128] : Fin 2 → ℕ) d ≤ (⟨2, ![n, 128]⟩ : Shape).size d) :
    (Rect.unit (s := ⟨2, ![n, 128]⟩) off ![h, 128] inb).set = rows n a (a + h) := by
  subst hoff
  ext x
  rw [Rect.mem_set_unit, mem_rows]
  have h1 : (x 1).val < 128 := (x 1).isLt
  constructor
  · intro hx; exact ⟨(hx 0).1, (hx 0).2⟩
  · intro hx d
    match d with
    | ⟨0, _⟩ => exact ⟨hx.1, hx.2⟩
    | ⟨1, _⟩ => exact ⟨Nat.zero_le _, by show (x 1).val < 0 + 128; omega⟩

/-! ## The copies of one semaphore -/

/-- The credit of a copy of `h` vector rows. -/
def amt (h : ℕ) : ℕ := Ref.dmaCredit main_v16 ⟨2, ![h, 128]⟩ .f32

theorem amt_pos {h : ℕ} (hh : 0 < h) : 0 < amt h := by
  unfold amt
  refine sig.dmaCredit_pos _ _ _ _ _ ?_
  simp [Shape.numel, Fin.prod_univ_two]; omega

section

/-- `h` vector rows of the result, as a copy's target. -/
abbrev outSlice (off : Fin 2 → ℕ) (h : ℕ) (inb : ∀ d, off d + (![h, 128] : Fin 2 → ℕ) d ≤ S491520x128.size d)
    (hr : ∀ d, (Rect.unit (s := S491520x128) off ![h, 128] inb).stride d = 1) : Memref sig .tc .hbm ⟨2, ![h, 128]⟩ .f32 :=
  (Memref.whole main_v16 : Memref sig .tc .hbm S491520x128 .f32).slice (Rect.unit off ![h, 128] inb) hr

/-- Copy `j`'s credit. -/
def A (l : List Piece) (j : Fin l.length) : ℕ := amt (8 * l[j].2)

/-- What copy `j` hands over once it has landed: its rows of the result, at their final contents, and its source. -/
def Dl (c : Dev nD) (l : List Piece) (G : Buf (Elt F) (outLoc c)) (Src : Fin l.length → sProp 𝕄) (j : Fin l.length) : sProp 𝕄 :=
  iprop((outLoc c ↦[K l[j]]{fullShare} G) ∗ Src j)

/-- The copies but `todo`, the list's end, are started; none is waited for. -/
def Iss (c : Dev nD) (sem : DmaSem sig) (l : List Piece) (V G : Buf (Elt F) (outLoc c)) (Src : Fin l.length → sProp 𝕄)
    (todo : List Piece) : sProp 𝕄 :=
  iprop(⌜todo <:+ l⌝ ∗ MixedBatch EC (c : Thread nD τ) (.dma sem) () (A l) (Dl c l G Src) (l.length - todo.length) 0
    ∗ (outLoc c ↦[Wset todo]{fullShare} V) ∗ bigSep (pending (l.length - todo.length)) Src)

/-- All copies are started, and all but `todo`, the list's end, waited for. -/
def Wt (c : Dev nD) (sem : DmaSem sig) (l : List Piece) (G : Buf (Elt F) (outLoc c)) (Src : Fin l.length → sProp 𝕄)
    (todo : List Piece) : sProp 𝕄 :=
  iprop(⌜todo <:+ l⌝ ∗ MixedBatch EC (c : Thread nD τ) (.dma sem) () (A l) (Dl c l G Src) l.length (sumTo (A l) (l.length - todo.length)))

theorem suffix_at {l : List Piece} {p : Piece} {todo : List Piece} (h : (p :: todo) <:+ l) :
    ∃ hj : l.length - (todo.length + 1) < l.length,
      l[l.length - (todo.length + 1)] = p ∧ l.length - (todo.length + 1) + 1 = l.length - todo.length ∧ todo <:+ l
      ∧ l.length - (todo.length + 1) + todo.length + 1 = l.length := by
  obtain ⟨pre, rfl⟩ := h
  have e : (pre ++ p :: todo).length - (todo.length + 1) = pre.length := by simp
  refine ⟨by simp, ?_, by simp; omega, ⟨pre ++ [p], by simp⟩, by simp; omega⟩
  simp [e]

theorem issue {c : Dev nD} {sem : DmaSem sig} {l : List Piece} {V G : Buf (Elt F) (outLoc c)} {Src : Fin l.length → sProp 𝕄} {p : Piece} {todo : List Piece} (hsep : l.Pairwise Sep)
    {Λ : Labels} {defs : Defs nD τ sig (Elt F) Λ} {𝒱 : Variants} {bd : Option 𝒱.V} {α : Type} {Q : α → sProp 𝕄}
    {h : ℕ} (hh : h = 8 * p.2) {off : Fin 2 → ℕ} (hoff : off = ![8 * p.1, 0])
    {inb : ∀ d, off d + (![h, 128] : Fin 2 → ℕ) d ≤ S491520x128.size d}
    {hr : ∀ d, (Rect.unit (s := S491520x128) off ![h, 128] inb).stride d = 1}
    {src : Memref sig .tc .vmem ⟨2, ![h, 128]⟩ .f32} {hsrc : src.view.WordExact}
    {hdst : (outSlice off h inb hr).view.WordExact}
    {hsem : DmaTarget.Typed (nD := nD) (p := Proc.tc) .vmem (.dma sem) (.here (outSlice off h inb hr))}
    {k : PUnit → Prog (TpuEff nD τ sig (Elt F) Λ .tc) α}
    {fs : Buf (Elt F) (src.view.loc (c : Thread nD τ))} (q : Fin l.length → PosShare TreeShare)
    (hSrc : ∀ j : Fin l.length, j.val + todo.length + 1 = l.length → l[j] = p →
      Src j = (src.view.loc (c : Thread nD τ) ↦[src.view.set]{q j} fs))
    (hval : p ∈ l → ∀ y, src.view.read (Elt F) fs y = G ((Rect.unit (s := S491520x128) off ![h, 128] inb).emb y)) :
    Iss c sem l V G Src (p :: todo)
      ⊢ iprop((Iss c sem l V G Src todo -∗ wp frame (wpE defs 𝒱 (c : Thread nD τ) bd) Set.univ (k ⟨⟩) Q)
        -∗ wp frame (wpE defs 𝒱 (c : Thread nD τ) bd) Set.univ (.op (.enqueueDma src
            (.here (outSlice off h inb hr))
            (.dma sem) hsrc hdst hsem) k) Q) := by
  unfold Iss
  iintro ⟨%hsuf, HB, Ho, Hs⟩ Hk
  obtain ⟨hj, hp, hsucc, hsuf', hlen⟩ := suffix_at hsuf
  have hset : (outSlice off h inb hr).view.set = K p := by
    have e : K p = rows 491520 (8 * p.1) (8 * p.1 + h) := by rw [hh, K, Nat.mul_add]
    rw [e, ← set_unit_rows hoff inb]
    exact View.set_slice_whole main_v16 _
  have hdis : Disjoint (K p) (Wset todo) := by
    refine Finset.disjoint_left.2 fun x hx hy => ?_
    obtain ⟨q, hq, hy⟩ := mem_Wset.1 hy
    have := (List.pairwise_cons.1 (hsep.sublist hsuf.sublist)).1 q hq
    exact Finset.disjoint_left.1 (K_disjoint this) hx hy
  rw [Wset_cons]
  ihave Ho := (pointsTo_union (ℓ := outLoc c) (q := fullShare) (f := V) hdis).1 $$ Ho
  icases Ho with ⟨Hp, Ho⟩
  rw [List.length_cons]
  ihave Hs := (show bigSep (pending (l.length - (todo.length + 1))) Src
      ⊢ iprop(Src ⟨_, hj⟩ ∗ bigSep (pending (l.length - (todo.length + 1) + 1)) Src)
    from Entails.of_eq (by rw [pending_succ hj, bigSep_insert (not_mem_pending_succ hj)]; rfl)) $$ Hs
  icases Hs with ⟨Hj, Hs⟩
  have hS := hSrc ⟨_, hj⟩ hlen hp
  ihave Hj := (Entails.of_eq hS) $$ Hj
  have hw := (Transfers.wp_dmaMixedBatch EC 𝒱 (c : Thread nD τ) bd (k := k) (Q := Q) (defs := defs) (hsrc := hsrc) (hdst := hdst) (hsem := hsem) (src := src) (via := .same)
    (dst := outSlice off h inb hr)
    (sm := .dma sem) (Sd := K p) (fd := V) (fs := fs) (q := q ⟨_, hj⟩) (D := Dl c l G Src) (u := 0) () (A l) (hset ▸ Finset.Subset.refl _) hj
    (by
      show amt h = amt (8 * l[l.length - (todo.length + 1)].2)
      rw [hp, hh])
    (Nat.zero_le _)
    (by
      unfold Dl
      rw [hS]
      refine sep_mono_left (Entails.of_eq ?_)
      show _ = (outLoc c ↦[K l[l.length - (todo.length + 1)]]{fullShare} G)
      rw [hp]
      refine pointsTo_congr fun i hi => ?_
      rw [← hset] at hi
      obtain ⟨y, -, rfl⟩ := Finset.mem_map.1 hi
      rw [View.write_emb_of_mem _ _ (Finset.mem_univ _)]
      exact hval (hsuf.subset List.mem_cons_self) y))
  iapply hw $$ [Hj Hp HB]
  · isplitl [Hj]; · iexact Hj
    isplitl [Hp]; · iexact Hp
    iexact HB
  iintro HB
  iapply Hk
  rw [hsucc]
  isplitr; · ipureintro; exact hsuf'
  isplitl [HB]; · iexact HB
  isplitl [Ho]; · iexact Ho
  iexact Hs

theorem await {c : Dev nD} {sem : DmaSem sig} {l : List Piece} {G : Buf (Elt F) (outLoc c)} {Src : Fin l.length → sProp 𝕄} {p : Piece} {todo : List Piece}
    {Λ : Labels} {defs : Defs nD τ sig (Elt F) Λ} {𝒱 : Variants} {bd : Option 𝒱.V} {α : Type} {Q : α → sProp 𝕄}
    {h : ℕ} (hh : h = 8 * p.2) {off : Fin 2 → ℕ}
    {inb : ∀ d, off d + (![h, 128] : Fin 2 → ℕ) d ≤ S491520x128.size d}
    {hr : ∀ d, (Rect.unit (s := S491520x128) off ![h, 128] inb).stride d = 1}
    {src : Memref sig .tc .vmem ⟨2, ![h, 128]⟩ .f32} {hsrc : src.view.WordExact}
    {hdst : (outSlice off h inb hr).view.WordExact}
    {k : PUnit → Prog (TpuEff nD τ sig (Elt F) Λ .tc) α} :
    iprop(Wt c sem l G Src (p :: todo) ∗ (∃ W, owes (c : Thread nD τ) 0 W))
      ⊢ iprop((iprop(Wt c sem l G Src todo ∗ (∃ W, owes (c : Thread nD τ) 0 W))
          -∗ wp frame (wpE defs 𝒱 (c : Thread nD τ) bd) Set.univ (k ⟨⟩) Q)
        -∗ wp frame (wpE defs 𝒱 (c : Thread nD τ) bd) Set.univ (.op (.waitDma2 sem src
            (outSlice off h inb hr) hsrc hdst) k) Q) := by
  unfold Wt
  iintro ⟨⟨%hsuf, HB⟩, ⟨%W, HW⟩⟩ Hk
  obtain ⟨hj, hp, hsucc, hsuf', hlen⟩ := suffix_at hsuf
  rw [List.length_cons]
  have hA : A l ⟨_, hj⟩ = amt h := by
    show amt (8 * l[l.length - (todo.length + 1)].2) = amt h
    rw [hp, hh]
  have hs := Transfers.sumTo_succ (A l) hj
  rw [hA, hsucc] at hs
  have hle : sumTo (A l) (l.length - todo.length) ≤ sumTo (A l) l.length := by
    have : ∀ a b, sumTo (A l) a ≤ sumTo (A l) (a + b) := by
      intro a b
      induction b with
      | zero => exact le_rfl
      | succ b ih => exact ih.trans (Nat.le_add_right _ _)
    have h2 := this (l.length - todo.length) todo.length
    rwa [Nat.sub_add_cancel hsuf'.length_le] at h2
  iapply (Transfers.wp_waitMixedBatch EC 𝒱 (c : Thread nD τ) bd () (srcw := src)
    (dstw := outSlice off h inb hr)
    (sem := sem) (A := A l) (D := Dl c l G Src) (J := amt h) (W := W) rfl (j := l.length)
    (u := sumTo (A l) (l.length - (todo.length + 1))) (hs ▸ hle)) $$ [HB HW]
  · isplitl [HB]; · iexact HB
    iexact HW
  iintro ⟨HB, HW⟩
  iapply Hk
  rw [hs]
  isplitl [HB]
  · isplitr; · ipureintro; exact hsuf'
    iexact HB
  iexists _
  iexact HW

theorem Dl_storable {c : Dev nD} {l : List Piece} {G : Buf (Elt F) (outLoc c)} {Src : Fin l.length → sProp 𝕄} (hs : ∀ j : Fin l.length, BI.Storable (upEmb : UEmb _ 𝕄) (Src j)) (j : Fin l.length) :
    BI.Storable (upEmb : UEmb _ 𝕄) (Dl c l G Src j) := by
  haveI := hs j
  unfold Dl; infer_instance

/-- Before the first copy. -/
theorem begin_batch {c : Dev nD} {sem : DmaSem sig} {l : List Piece} {V G : Buf (Elt F) (outLoc c)} {Src : Fin l.length → sProp 𝕄} (hs : ∀ j : Fin l.length, BI.Storable (upEmb : UEmb _ 𝕄) (Src j)) :
    iprop(semVal ((c : Thread nD τ), SemLoc.dma sem) 0 ∗ (outLoc c ↦[Wset l]{fullShare} V) ∗ bigSep Finset.univ Src)
      ⊢ (|={Set.univ}=> Iss c sem l V G Src l : sProp 𝕄) := by
  iintro ⟨Hv, Ho, Hs⟩
  haveI : ∀ j, BI.Storable (upEmb : UEmb _ 𝕄) (Dl c l G Src j) := fun j => Dl_storable hs j
  imod (Transfers.mixedBatch_alloc' EC (c : Thread nD τ) (sm := .dma sem) () (A l) (Dl c l G Src)) $$ Hv with HB
  imodintro
  unfold Iss
  rw [Nat.sub_self, pending_zero]
  isplitr; · ipureintro; exact List.suffix_refl _
  isplitl [HB]; · iexact HB
  isplitl [Ho]; · iexact Ho
  iexact Hs

/-- Between the last start and the first wait. -/
theorem iss_wt {c : Dev nD} {sem : DmaSem sig} {l : List Piece} {V G : Buf (Elt F) (outLoc c)} {Src : Fin l.length → sProp 𝕄} : Iss c sem l V G Src [] ⊢ Wt c sem l G Src l := by
  unfold Iss Wt
  iintro ⟨-, HB, -, -⟩
  isplitr; · ipureintro; exact List.suffix_refl _
  rw [Nat.sub_self]
  iexact HB

/-- After the last wait: the rows at their final contents, the sources back, the semaphore at zero. -/
theorem end_batch {c : Dev nD} {sem : DmaSem sig} {l : List Piece} {G : Buf (Elt F) (outLoc c)} {Src : Fin l.length → sProp 𝕄} (hsep : l.Pairwise Sep) (hpos : ∀ p ∈ l, 0 < p.2) :
    Wt c sem l G Src [] ⊢ (|={Set.univ}=> iprop((outLoc c ↦[Wset l]{fullShare} G) ∗ bigSep Finset.univ Src
      ∗ semVal ((c : Thread nD τ), SemLoc.dma sem) 0) : sProp 𝕄) := by
  unfold Wt
  iintro ⟨-, HB⟩
  imod (Transfers.mixedBatch_collect' EC (c : Thread nD τ) (sm := .dma sem) (ι := ()) (A := A l) (D := Dl c l G Src)
    (fun j => amt_pos (by have := hpos l[j] (List.getElem_mem _); omega))) $$ HB with ⟨HD, Hv⟩
  imodintro
  have hd : ∀ t ∈ (Finset.univ : Finset (Fin l.length)), ∀ t' ∈ (Finset.univ : Finset (Fin l.length)), t ≠ t' → Disjoint (K l[t]) (K l[t']) := by
    intro t _ t' _ hne
    rcases Nat.lt_or_ge t.val t'.val with h | h
    · exact K_disjoint (List.pairwise_iff_getElem.1 hsep t.val t'.val t.isLt t'.isLt h)
    · exact (K_disjoint (List.pairwise_iff_getElem.1 hsep t'.val t.val t'.isLt t.isLt (lt_of_le_of_ne h fun e => hne (Fin.ext e.symm)))).symm
  have e := pointsTo_biUnion (Ix := Unit) (Name := ℕ) (U := Pipeline.UD sig nD τ) (Lvl := ℕ) (ℓ := outLoc c) (q := fullShare) (f := G) (Finset.univ : Finset (Fin l.length)) (fun j => K l[j]) hd

  ihave H := (show bigSep Finset.univ (Dl c l G Src) ⊢ iprop(bigSep Finset.univ (fun j : Fin l.length => outLoc c ↦[K l[j]]{fullShare} G) ∗ bigSep Finset.univ Src)
    from Entails.of_eq (BI.bigSep_sep Finset.univ _ Src)) $$ HD
  icases H with ⟨HG, Hs⟩
  isplitl [HG]
  · rw [Wset_eq_biUnion]
    iapply (Entails.of_eq e.symm)
    iexact HG
  isplitl [Hs]; · iexact Hs
  iexact Hv

end

end Cert.KernelIdeal.Hand
-- ==== Proof.Loads.lean ====
/- The program steps of the dispatch body, one lemma each. -/
module

public import proofs.«01_k».proof.Proof.Step

@[expose] public section

noncomputable section

namespace Cert.KernelIdeal.Hand

open Cert.KernelIdeal Cert.KernelIdeal.Gen Cert.Plan
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

theorem unit_emb_val {s : Shape} {off size : Fin s.rank → ℕ} {inb : ∀ d, off d + size d ≤ s.size d}
    (x : (Rect.unit (s := s) off size inb).shape.Idx) (a : Fin s.rank) :
    ((Rect.unit (s := s) off size inb).emb x a).val = off a + (x a).val := by
  show off a + 1 * _ = _
  rw [Nat.one_mul]

/-- A word of a table, as a number; zero past its end. -/
def wordAt {n : ℕ} (f : (⟨1, ![n]⟩ : Shape).Idx → BitVec 32) (t : ℕ) : ℕ :=
  if h : t < n then (f (fun _ => ⟨t, by simpa using h⟩)).toNat else 0

theorem wordAt_unit {n : ℕ} (f : (⟨1, ![n]⟩ : Shape).Idx → BitVec 32) {off : Fin 1 → ℕ} {t : ℕ} (ho : off = ![t])
    (inb : ∀ d, off d + S1.size d ≤ (⟨1, ![n]⟩ : Shape).size d) (x : S1.Idx) :
    (f ((Rect.unit (s := ⟨1, ![n]⟩) off S1.size inb).emb x)).toNat = wordAt f t := by
  subst ho
  have h0 : t + 1 ≤ n := inb 0
  rw [wordAt, dif_pos (by omega)]
  congr 2
  funext a
  apply Fin.ext
  rw [unit_emb_val]
  match a with
  | ⟨0, _⟩ =>
    have : (x 0).val < 1 := (x 0).isLt
    show t + (x 0).val = t
    omega

section

variable (c : Dev nD) {Λ : Labels} {defs : Defs nD τ sig (Elt F) Λ} {𝒱 : Variants} {bd : Option 𝒱.V}

theorem wp_assume_bind {α : Type} {P : Prop} {d : Decidable P} (h : P) {k : PLift P → Prog (TpuEff nD τ sig (Elt F) Λ .tc) α} {Q : α → sProp 𝕄} :
    wp frame (wpE defs 𝒱 (c : Thread nD τ) bd) Set.univ (k ⟨h⟩) Q
      ⊢ wp frame (wpE defs 𝒱 (c : Thread nD τ) bd) Set.univ (Prog.lift (TpuEff.assume P d) >>= k) Q :=
  wp_assume (defs := defs) 𝒱 (c : Thread nD τ) bd Set.univ (d := d) (k := k) (Q := Q) h

theorem wp_pure_intro {α : Type} {a : α} {Q : α → sProp 𝕄} :
    Q a ⊢ wp frame (wpE defs 𝒱 (c : Thread nD τ) bd) Set.univ (pure a) Q := fupd_intro

theorem wp_load_pos {off : Fin 1 → ℕ} {t : ℕ} (ho : off = ![t]) {inb : ∀ d, off d + S1.size d ≤ S32768.size d}
    {h1 : (Rect.unit (s := S32768) off S1.size inb).shape.numel = 1} {hp : EltTy.i32.packing = 1} {q : PosShare TreeShare}
    {f : Buf (Elt F) ((c : Thread nD τ).loc main_arg0)} {α : Type} {k : Elt F .i32 → Prog (TpuEff nD τ sig (Elt F) Λ .tc) α} {Q : α → sProp 𝕄} :
    ((c : Thread nD τ).loc main_arg0 ↦[Finset.univ]{q} f)
      ⊢ iprop((∀ w : Elt F .i32, ⌜BitVec.toNat w = wordAt (n := 32768) f t⌝ -∗ ((c : Thread nD τ).loc main_arg0 ↦[Finset.univ]{q} f)
          -∗ wp frame (wpE defs 𝒱 (c : Thread nD τ) bd) Set.univ (k w) Q)
        -∗ wp frame (wpE defs 𝒱 (c : Thread nD τ) bd) Set.univ
            (smemLoad (Memref.whole main_arg0 : Memref sig .tc .smem S32768 .i32) (Rect.unit (s := S32768) off S1.size inb) h1 hp >>= k) Q) := by
  rw [wp_bind]
  unfold smemLoad
  iintro HT Hk
  iapply (wp_smemLoadElt (defs := defs) 𝒱 (c : Thread nD τ) bd Set.univ (Q := fun w => wp frame (wpE defs 𝒱 (c : Thread nD τ) bd) Set.univ (k w) Q) (k := .ret) (q := q) (f := f) (hw := View.loads_smem_one hp h1)
    (x := Shape.Idx.first (h1.symm ▸ Nat.one_pos))
    (m := (Memref.whole main_arg0 : Memref sig .tc .smem S32768 .i32)) (r := Rect.unit (s := S32768) off S1.size inb)
    (S := Finset.univ) (Finset.subset_univ _)) $$ HT
  iintro HT
  rw [wp_ret]
  imodintro
  ispecialize Hk $$ %(((Memref.whole main_arg0 : Memref sig .tc .smem S32768 .i32).access (Rect.unit (s := S32768) off S1.size inb)).read (Elt F) f
    (Shape.Idx.first (h1.symm ▸ Nat.one_pos)))
  iapply Hk $$ [] HT
  ipureintro
  exact wordAt_unit (n := 32768) f ho inb _

theorem wp_load_start {off : Fin 1 → ℕ} {t : ℕ} (ho : off = ![t]) {inb : ∀ d, off d + S1.size d ≤ S256.size d}
    {h1 : (Rect.unit (s := S256) off S1.size inb).shape.numel = 1} {hp : EltTy.i32.packing = 1} {q : PosShare TreeShare}
    {f : Buf (Elt F) ((c : Thread nD τ).loc main_v11)} {α : Type} {k : Elt F .i32 → Prog (TpuEff nD τ sig (Elt F) Λ .tc) α} {Q : α → sProp 𝕄} :
    ((c : Thread nD τ).loc main_v11 ↦[Finset.univ]{q} f)
      ⊢ iprop((∀ w : Elt F .i32, ⌜BitVec.toNat w = wordAt (n := 256) f t⌝ -∗ ((c : Thread nD τ).loc main_v11 ↦[Finset.univ]{q} f)
          -∗ wp frame (wpE defs 𝒱 (c : Thread nD τ) bd) Set.univ (k w) Q)
        -∗ wp frame (wpE defs 𝒱 (c : Thread nD τ) bd) Set.univ
            (smemLoad (Memref.whole main_v11 : Memref sig .tc .smem S256 .i32) (Rect.unit (s := S256) off S1.size inb) h1 hp >>= k) Q) := by
  rw [wp_bind]
  unfold smemLoad
  iintro HT Hk
  iapply (wp_smemLoadElt (defs := defs) 𝒱 (c : Thread nD τ) bd Set.univ (Q := fun w => wp frame (wpE defs 𝒱 (c : Thread nD τ) bd) Set.univ (k w) Q) (k := .ret) (q := q) (f := f) (hw := View.loads_smem_one hp h1)
    (x := Shape.Idx.first (h1.symm ▸ Nat.one_pos))
    (m := (Memref.whole main_v11 : Memref sig .tc .smem S256 .i32)) (r := Rect.unit (s := S256) off S1.size inb)
    (S := Finset.univ) (Finset.subset_univ _)) $$ HT
  iintro HT
  rw [wp_ret]
  imodintro
  ispecialize Hk $$ %(((Memref.whole main_v11 : Memref sig .tc .smem S256 .i32).access (Rect.unit (s := S256) off S1.size inb)).read (Elt F) f
    (Shape.Idx.first (h1.symm ▸ Nat.one_pos)))
  iapply Hk $$ [] HT
  ipureintro
  exact wordAt_unit (n := 256) f ho inb _

theorem wp_load_len {off : Fin 1 → ℕ} {t : ℕ} (ho : off = ![t]) {inb : ∀ d, off d + S1.size d ≤ S256.size d}
    {h1 : (Rect.unit (s := S256) off S1.size inb).shape.numel = 1} {hp : EltTy.i32.packing = 1} {q : PosShare TreeShare}
    {f : Buf (Elt F) ((c : Thread nD τ).loc main_v14)} {α : Type} {k : Elt F .i32 → Prog (TpuEff nD τ sig (Elt F) Λ .tc) α} {Q : α → sProp 𝕄} :
    ((c : Thread nD τ).loc main_v14 ↦[Finset.univ]{q} f)
      ⊢ iprop((∀ w : Elt F .i32, ⌜BitVec.toNat w = wordAt (n := 256) f t⌝ -∗ ((c : Thread nD τ).loc main_v14 ↦[Finset.univ]{q} f)
          -∗ wp frame (wpE defs 𝒱 (c : Thread nD τ) bd) Set.univ (k w) Q)
        -∗ wp frame (wpE defs 𝒱 (c : Thread nD τ) bd) Set.univ
            (smemLoad (Memref.whole main_v14 : Memref sig .tc .smem S256 .i32) (Rect.unit (s := S256) off S1.size inb) h1 hp >>= k) Q) := by
  rw [wp_bind]
  unfold smemLoad
  iintro HT Hk
  iapply (wp_smemLoadElt (defs := defs) 𝒱 (c : Thread nD τ) bd Set.univ (Q := fun w => wp frame (wpE defs 𝒱 (c : Thread nD τ) bd) Set.univ (k w) Q) (k := .ret) (q := q) (f := f) (hw := View.loads_smem_one hp h1)
    (x := Shape.Idx.first (h1.symm ▸ Nat.one_pos))
    (m := (Memref.whole main_v14 : Memref sig .tc .smem S256 .i32)) (r := Rect.unit (s := S256) off S1.size inb)
    (S := Finset.univ) (Finset.subset_univ _)) $$ HT
  iintro HT
  rw [wp_ret]
  imodintro
  ispecialize Hk $$ %(((Memref.whole main_v14 : Memref sig .tc .smem S256 .i32).access (Rect.unit (s := S256) off S1.size inb)).read (Elt F) f
    (Shape.Idx.first (h1.symm ▸ Nat.one_pos)))
  iapply Hk $$ [] HT
  ipureintro
  exact wordAt_unit (n := 256) f ho inb _

theorem wp_load_total {off : Fin 1 → ℕ} {t : ℕ} (ho : off = ![t]) {inb : ∀ d, off d + S1.size d ≤ S1.size d}
    {h1 : (Rect.unit (s := S1) off S1.size inb).shape.numel = 1} {hp : EltTy.i32.packing = 1} {q : PosShare TreeShare}
    {f : Buf (Elt F) ((c : Thread nD τ).loc main_v15)} {α : Type} {k : Elt F .i32 → Prog (TpuEff nD τ sig (Elt F) Λ .tc) α} {Q : α → sProp 𝕄} :
    ((c : Thread nD τ).loc main_v15 ↦[Finset.univ]{q} f)
      ⊢ iprop((∀ w : Elt F .i32, ⌜BitVec.toNat w = wordAt (n := 1) f t⌝ -∗ ((c : Thread nD τ).loc main_v15 ↦[Finset.univ]{q} f)
          -∗ wp frame (wpE defs 𝒱 (c : Thread nD τ) bd) Set.univ (k w) Q)
        -∗ wp frame (wpE defs 𝒱 (c : Thread nD τ) bd) Set.univ
            (smemLoad (Memref.whole main_v15 : Memref sig .tc .smem S1 .i32) (Rect.unit (s := S1) off S1.size inb) h1 hp >>= k) Q) := by
  rw [wp_bind]
  unfold smemLoad
  iintro HT Hk
  iapply (wp_smemLoadElt (defs := defs) 𝒱 (c : Thread nD τ) bd Set.univ (Q := fun w => wp frame (wpE defs 𝒱 (c : Thread nD τ) bd) Set.univ (k w) Q) (k := .ret) (q := q) (f := f) (hw := View.loads_smem_one hp h1)
    (x := Shape.Idx.first (h1.symm ▸ Nat.one_pos))
    (m := (Memref.whole main_v15 : Memref sig .tc .smem S1 .i32)) (r := Rect.unit (s := S1) off S1.size inb)
    (S := Finset.univ) (Finset.subset_univ _)) $$ HT
  iintro HT
  rw [wp_ret]
  imodintro
  ispecialize Hk $$ %(((Memref.whole main_v15 : Memref sig .tc .smem S1 .i32).access (Rect.unit (s := S1) off S1.size inb)).read (Elt F) f
    (Shape.Idx.first (h1.symm ▸ Nat.one_pos)))
  iapply Hk $$ [] HT
  ipureintro
  exact wordAt_unit (n := 1) f ho inb _

end

end Cert.KernelIdeal.Hand
-- ==== Proof.Copies.lean ====
/- The two kinds of copies of the dispatch body — zeros from the scratch block, rows from the staged block of rows — and what
   each hands back. -/
module

public import proofs.«01_k».proof.Proof.Loads

@[expose] public section

noncomputable section

namespace Cert.KernelIdeal.Hand

open Cert.KernelIdeal Cert.KernelIdeal.Gen Cert.Plan
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The scratch block on a core. -/
abbrev scrLoc (c : Dev nD) : Loc nD τ sig := (c : Thread nD τ).loc cc0_scratch0

/-- The zero every padding row holds. -/
abbrev z0 : Elt F .f32 := (Scalar.ofBits .f32 0x00000000#32 : F .f32)

/-- The scratch block full of zeros. -/
def Zb (c : Dev nD) : Buf (Elt F) (scrLoc c) := fun _ => z0 (F := F)

/-- The share of the scratch block's first rows that copy `j` reads by. -/
def SrcZ (c : Dev nD) (l : List Piece) (j : Fin l.length) : sProp 𝕄 :=
  scrLoc c ↦[rows 1024 0 (8 * l[j].2)]{Transfers.shareTok fullShare l.length j} Zb (F := F) c

/-- What no copy reads by. -/
def LeftZ (c : Dev nD) (l : List Piece) : sProp 𝕄 :=
  iprop((scrLoc c ↦[Finset.univ]{Transfers.shareDrop fullShare l.length} Zb (F := F) c)
    ∗ bigSep Finset.univ fun j : Fin l.length =>
      scrLoc c ↦[Finset.univ \ rows 1024 0 (8 * l[j].2)]{Transfers.shareTok fullShare l.length j} Zb (F := F) c)

theorem split_zeros (c : Dev nD) (l : List Piece) :
    (scrLoc c ↦[Finset.univ]{fullShare} Zb (F := F) c : sProp 𝕄) ⊣⊢ iprop(bigSep Finset.univ (SrcZ (F := F) c l) ∗ LeftZ (F := F) c l) := by
  have h1 : (scrLoc c ↦[Finset.univ]{fullShare} Zb (F := F) c : sProp 𝕄)
      ⊣⊢ iprop((scrLoc c ↦[Finset.univ]{Transfers.shareDrop fullShare l.length} Zb (F := F) c)
        ∗ bigSep Finset.univ (fun j : Fin l.length => scrLoc c ↦[Finset.univ]{Transfers.shareTok fullShare l.length j} Zb (F := F) c)) :=
    Transfers.pointsTo_toks fullShare l.length
  have h2 : (bigSep Finset.univ (fun j : Fin l.length => scrLoc c ↦[Finset.univ]{Transfers.shareTok fullShare l.length j} Zb (F := F) c) : sProp 𝕄)
      = iprop(bigSep Finset.univ (SrcZ (F := F) c l) ∗ bigSep Finset.univ fun j : Fin l.length =>
      scrLoc c ↦[Finset.univ \ rows 1024 0 (8 * l[j].2)]{Transfers.shareTok fullShare l.length j} Zb (F := F) c) := by
    refine Eq.trans ?_ (BI.bigSep_sep Finset.univ (SrcZ (F := F) c l) (fun j : Fin l.length =>
      scrLoc c ↦[Finset.univ \ rows 1024 0 (8 * l[j].2)]{Transfers.shareTok fullShare l.length j} Zb (F := F) c))
    refine congrArg (bigSep Finset.univ) (funext fun j => ?_)
    exact BI.Entails.antisymm (pointsTo_split_subset (Finset.subset_univ _)).1 (pointsTo_split_subset (Finset.subset_univ _)).2
  rw [h2] at h1
  unfold LeftZ
  constructor
  · refine h1.1.trans ?_
    iintro ⟨Ha, Hb, Hc⟩
    isplitl [Hb]; · iexact Hb
    isplitl [Ha]; · iexact Ha
    iexact Hc
  · refine BIBase.Entails.trans ?_ h1.2
    iintro ⟨Hb, Ha, Hc⟩
    isplitl [Ha]; · iexact Ha
    isplitl [Hb]; · iexact Hb
    iexact Hc

/-- Rows `8 j ≤ r < 8 (j + 1)` of the staged block, which copy `j` reads. -/
def SrcR (c : Dev nD) (m : Memref sig .tc .vmem S8192x128 .f32) (fx : Buf (Elt F) (m.view.loc (c : Thread nD τ))) (n : ℕ) (j : Fin n) : sProp 𝕄 :=
  m.view.loc (c : Thread nD τ) ↦[(rows 8192 (8 * j.val) (8 * j.val + 8)).map m.view.emb]{fullShare} fx

theorem split_rows (c : Dev nD) (m : Memref sig .tc .vmem S8192x128 .f32) (fx : Buf (Elt F) (m.view.loc (c : Thread nD τ))) :
    (m.view.loc (c : Thread nD τ) ↦[m.view.set]{fullShare} fx : sProp 𝕄) = bigSep Finset.univ (SrcR (F := F) c m fx 1024) := by
  have e : m.view.set = Finset.univ.biUnion fun j : Fin 1024 => (rows 8192 (8 * j.val) (8 * j.val + 8)).map m.view.emb := by
    ext x
    simp only [View.set, Finset.mem_biUnion, Finset.mem_map, Finset.mem_univ, true_and]
    constructor
    · rintro ⟨y, rfl⟩
      have hy : (y 0).val < 8192 := (y 0).isLt
      exact ⟨⟨(y 0).val / 8, by omega⟩, y, mem_rows.2 ⟨by show 8 * ((y 0).val / 8) ≤ _; omega, by show _ < 8 * ((y 0).val / 8) + 8; omega⟩, rfl⟩
    · rintro ⟨j, y, -, rfl⟩; exact ⟨y, rfl⟩
  rw [e, pointsTo_biUnion]
  · rfl
  · intro t _ t' _ hne
    refine Finset.disjoint_left.2 fun x hx hx' => ?_
    obtain ⟨y, hy, rfl⟩ := Finset.mem_map.1 hx
    obtain ⟨y', hy', he⟩ := Finset.mem_map.1 hx'
    obtain rfl := m.view.emb.injective he
    rw [mem_rows] at hy hy'
    exact hne (Fin.ext (by omega))

instance SrcZ_storable (c : Dev nD) (l : List Piece) (j : Fin l.length) : BI.Storable (upEmb : UEmb _ 𝕄) (SrcZ (F := F) c l j) := by
  unfold SrcZ; infer_instance

instance SrcR_storable (c : Dev nD) (m : Memref sig .tc .vmem S8192x128 .f32) (fx : Buf (Elt F) (m.view.loc (c : Thread nD τ))) (n : ℕ) (j : Fin n) :
    BI.Storable (upEmb : UEmb _ 𝕄) (SrcR (F := F) c m fx n j) := by
  unfold SrcR; infer_instance

/-- The scratch block's first `h` rows, as a copy's source. -/
abbrev scrSlice (h : ℕ) (inb : ∀ d, (![0, 0] : Fin 2 → ℕ) d + (![h, 128] : Fin 2 → ℕ) d ≤ S1024x128.size d)
    (hr : ∀ d, (Rect.unit (s := S1024x128) ![0, 0] ![h, 128] inb).stride d = 1) : Memref sig .tc .vmem ⟨2, ![h, 128]⟩ .f32 :=
  (Memref.whole cc0_scratch0 : Memref sig .tc .vmem S1024x128 .f32).slice (Rect.unit ![0, 0] ![h, 128] inb) hr

theorem issue_zero (c : Dev nD) (sem : DmaSem sig) {l : List Piece} {V G : Buf (Elt F) (outLoc c)} {p : Piece} {todo : List Piece} (hsep : l.Pairwise Sep)
    (hG : ∀ p ∈ l, ∀ x ∈ K p, G x = z0 (F := F))
    {Λ : Labels} {defs : Defs nD τ sig (Elt F) Λ} {𝒱 : Variants} {bd : Option 𝒱.V} {α : Type} {Q : α → sProp 𝕄}
    (h : ℕ) (hh : h = 8 * p.2) {off : Fin 2 → ℕ} (hoff : off = ![8 * p.1, 0])
    {inb : ∀ d, off d + (![h, 128] : Fin 2 → ℕ) d ≤ S491520x128.size d}
    {hr : ∀ d, (Rect.unit (s := S491520x128) off ![h, 128] inb).stride d = 1}
    {inb' : ∀ d, (![0, 0] : Fin 2 → ℕ) d + (![h, 128] : Fin 2 → ℕ) d ≤ S1024x128.size d}
    {hr' : ∀ d, (Rect.unit (s := S1024x128) ![0, 0] ![h, 128] inb').stride d = 1}
    {hsrc : (scrSlice h inb' hr').view.WordExact} {hdst : (outSlice off h inb hr).view.WordExact}
    {hsem : DmaTarget.Typed (nD := nD) (p := Proc.tc) .vmem (.dma sem) (.here (outSlice off h inb hr))}
    {k : PUnit → Prog (TpuEff nD τ sig (Elt F) Λ .tc) α} :
    Iss c sem l V G (SrcZ (F := F) c l) (p :: todo)
      ⊢ iprop((Iss c sem l V G (SrcZ (F := F) c l) todo -∗ wp frame (wpE defs 𝒱 (c : Thread nD τ) bd) Set.univ (k ⟨⟩) Q)
        -∗ wp frame (wpE defs 𝒱 (c : Thread nD τ) bd) Set.univ (Prog.lift (.enqueueDma (scrSlice h inb' hr')
            (.here (outSlice off h inb hr)) (.dma sem) hsrc hdst hsem) >>= k) Q) := by
  have hset : (scrSlice h inb' hr').view.set = rows 1024 0 h := by
    have := set_unit_rows (n := 1024) (h := h) (a := 0) rfl inb'
    rw [Nat.zero_add] at this
    rw [← this]
    exact View.set_slice_whole cc0_scratch0 _
  refine issue hsep (src := scrSlice h inb' hr') (fs := Zb (F := F) c) hh hoff (fun j => Transfers.shareTok fullShare l.length j) ?_ ?_
  · intro j hj hp
    unfold SrcZ
    rw [hset, hp]
    subst hh
    rfl
  · intro hp y
    have hmem : (Rect.unit (s := S491520x128) off ![h, 128] inb).emb y ∈ K p := by
      have e : K p = rows 491520 (8 * p.1) (8 * p.1 + h) := by rw [hh, K, Nat.mul_add]
      have hy : (y 0).val < h := (y 0).isLt
      rw [e, mem_rows, unit_emb_val, show off 0 = 8 * p.1 from congrFun hoff 0]
      omega
    rw [hG p hp _ hmem]
    rfl

theorem issue_row (c : Dev nD) (sem : DmaSem sig) {l : List Piece} {V G : Buf (Elt F) (outLoc c)} {s : ℕ} {todo : List Piece} (hsep : l.Pairwise Sep)
    {m : Memref sig .tc .vmem S8192x128 .f32} {fx : Buf (Elt F) (m.view.loc (c : Thread nD τ))} (j : ℕ)
    (hG : ∀ (u : S8192x128.Idx) (v : S491520x128.Idx) (r : ℕ), (u 0).val = 8 * j + r → (v 0).val = 8 * s + r → r < 8 → (u 1).val = (v 1).val →
      m.view.read (Elt F) fx u = G v)
    (hlen : j + todo.length + 1 = l.length)
    {Λ : Labels} {defs : Defs nD τ sig (Elt F) Λ} {𝒱 : Variants} {bd : Option 𝒱.V} {α : Type} {Q : α → sProp 𝕄}
    {off : Fin 2 → ℕ} (hoff : off = ![8 * s, 0]) {off' : Fin 2 → ℕ} (hoff' : off' = ![8 * j, 0])
    {inb : ∀ d, off d + (![8, 128] : Fin 2 → ℕ) d ≤ S491520x128.size d}
    {hr : ∀ d, (Rect.unit (s := S491520x128) off ![8, 128] inb).stride d = 1}
    {inb' : ∀ d, off' d + (![8, 128] : Fin 2 → ℕ) d ≤ S8192x128.size d}
    {hr' : ∀ d, (Rect.unit (s := S8192x128) off' ![8, 128] inb').stride d = 1}
    {hsrc : (m.slice (Rect.unit (s := S8192x128) off' ![8, 128] inb') hr').view.WordExact} {hdst : (outSlice off 8 inb hr).view.WordExact}
    {hsem : DmaTarget.Typed (nD := nD) (p := Proc.tc) .vmem (.dma sem) (.here (outSlice off 8 inb hr))}
    {k : PUnit → Prog (TpuEff nD τ sig (Elt F) Λ .tc) α} :
    Iss c sem l V G (SrcR (F := F) c m fx l.length) ((s, 1) :: todo)
      ⊢ iprop((Iss c sem l V G (SrcR (F := F) c m fx l.length) todo -∗ wp frame (wpE defs 𝒱 (c : Thread nD τ) bd) Set.univ (k ⟨⟩) Q)
        -∗ wp frame (wpE defs 𝒱 (c : Thread nD τ) bd) Set.univ (Prog.lift (.enqueueDma (m.slice (Rect.unit (s := S8192x128) off' ![8, 128] inb') hr')
            (.here (outSlice off 8 inb hr)) (.dma sem) hsrc hdst hsem) >>= k) Q) := by
  have hset : (m.slice (Rect.unit (s := S8192x128) off' ![8, 128] inb') hr').view.set = (rows 8192 (8 * j) (8 * j + 8)).map m.view.emb := by
    rw [← set_unit_rows hoff' inb']
    exact View.set_slice m.view _
  refine issue hsep (src := m.slice (Rect.unit (s := S8192x128) off' ![8, 128] inb') hr') (fs := fx) (h := 8) (p := (s, 1)) rfl hoff
    (fun j => fullShare) ?_ ?_
  · intro j' hj hp
    obtain rfl : j'.val = j := by omega
    unfold SrcR
    rw [hset]
  · intro hp y
    have hy : (y 0).val < 8 := (y 0).isLt
    refine hG ((Rect.unit (s := S8192x128) off' ![8, 128] inb').emb y) _ (y 0).val ?_ ?_ hy ?_
    · rw [unit_emb_val, show off' 0 = 8 * j from congrFun hoff' 0]
    · rw [unit_emb_val, show off 0 = 8 * s from congrFun hoff 0]
    · rw [unit_emb_val, unit_emb_val, show off 1 = 0 from congrFun hoff 1, show off' 1 = 0 from congrFun hoff' 1]

/-- One of the binary digits of a gap's length: a copy where the digit is one, nothing where it is zero. -/
theorem bit_issue (c : Dev nD) (sem : DmaSem sig) {l : List Piece} {V G : Buf (Elt F) (outLoc c)}
    {Λ : Labels} {defs : Defs nD τ sig (Elt F) Λ} {𝒱 : Variants} {bd : Option 𝒱.V} {α : Type} {Q : α → sProp 𝕄}
    (hsep : l.Pairwise Sep) (hG : ∀ p ∈ l, ∀ x ∈ K p, G x = z0 (F := F))
    (s n b f h : ℕ) (rest : List Piece) {C : Prop} [Decidable C] (hC : C ↔ n.testBit b = true) (hh : h = 8 * 2 ^ b)
    {off : Fin 2 → ℕ} (hoff : off = ![8 * (s + n % 2 ^ b), 0])
    {inb : C → ∀ d, off d + (![h, 128] : Fin 2 → ℕ) d ≤ S491520x128.size d}
    {hr : ∀ hc : C, ∀ d, (Rect.unit (s := S491520x128) off ![h, 128] (inb hc)).stride d = 1}
    {inb' : ∀ d, (![0, 0] : Fin 2 → ℕ) d + (![h, 128] : Fin 2 → ℕ) d ≤ S1024x128.size d}
    {hr' : ∀ d, (Rect.unit (s := S1024x128) ![0, 0] ![h, 128] inb').stride d = 1}
    {hsrc : (scrSlice h inb' hr').view.WordExact} {hdst : ∀ hc : C, (outSlice off h (inb hc) (hr hc)).view.WordExact}
    {hsem : ∀ hc : C, DmaTarget.Typed (nD := nD) (p := Proc.tc) .vmem (.dma sem) (.here (outSlice off h (inb hc) (hr hc)))}
    {k : Prog (TpuEff nD τ sig (Elt F) Λ .tc) α} :
    Iss c sem l V G (SrcZ (F := F) c l) (bits s n (f + 1) b ++ rest)
      ⊢ iprop((Iss c sem l V G (SrcZ (F := F) c l) (bits s n f (b + 1) ++ rest) -∗ wp frame (wpE defs 𝒱 (c : Thread nD τ) bd) Set.univ k Q)
        -∗ wp frame (wpE defs 𝒱 (c : Thread nD τ) bd) Set.univ
          (if hc : C then (Prog.lift (.enqueueDma (scrSlice h inb' hr') (.here (outSlice off h (inb hc) (hr hc))) (.dma sem) hsrc (hdst hc) (hsem hc))
            >>= fun _ => k) else k) Q) := by
  rw [bits]
  by_cases hc : C
  · rw [if_pos (hC.1 hc), dif_pos hc, List.append_assoc, List.singleton_append]
    exact issue_zero c sem (p := (s + n % 2 ^ b, 2 ^ b)) (k := fun _ => k) hsep hG h hh hoff
  · rw [if_neg (fun h => hc (hC.2 h)), dif_neg hc, List.nil_append]
    iintro H Hk
    iapply Hk $$ H

theorem await_bind (c : Dev nD) (sem : DmaSem sig) {l : List Piece} {G : Buf (Elt F) (outLoc c)} {Src : Fin l.length → sProp 𝕄}
    {Λ : Labels} {defs : Defs nD τ sig (Elt F) Λ} {𝒱 : Variants} {bd : Option 𝒱.V} {α : Type} {Q : α → sProp 𝕄}
    {p : Piece} {todo : List Piece} (h : ℕ) (hh : h = 8 * p.2) {off : Fin 2 → ℕ}
    {inb : ∀ d, off d + (![h, 128] : Fin 2 → ℕ) d ≤ S491520x128.size d}
    {hr : ∀ d, (Rect.unit (s := S491520x128) off ![h, 128] inb).stride d = 1}
    {src : Memref sig .tc .vmem ⟨2, ![h, 128]⟩ .f32} {hsrc : src.view.WordExact} {hdst : (outSlice off h inb hr).view.WordExact}
    {k : PUnit → Prog (TpuEff nD τ sig (Elt F) Λ .tc) α} :
    iprop(Wt c sem l G Src (p :: todo) ∗ (∃ W, owes (c : Thread nD τ) 0 W))
      ⊢ iprop((iprop(Wt c sem l G Src todo ∗ (∃ W, owes (c : Thread nD τ) 0 W))
          -∗ wp frame (wpE defs 𝒱 (c : Thread nD τ) bd) Set.univ (k ⟨⟩) Q)
        -∗ wp frame (wpE defs 𝒱 (c : Thread nD τ) bd) Set.univ (Prog.lift (.waitDma2 sem src (outSlice off h inb hr) hsrc hdst) >>= k) Q) :=
  await hh

theorem bit_await (c : Dev nD) (sem : DmaSem sig) {l : List Piece} {G : Buf (Elt F) (outLoc c)} {Src : Fin l.length → sProp 𝕄}
    {Λ : Labels} {defs : Defs nD τ sig (Elt F) Λ} {𝒱 : Variants} {bd : Option 𝒱.V} {α : Type} {Q : α → sProp 𝕄}
    (s n b f h : ℕ) (rest : List Piece) {C : Prop} [Decidable C] (hC : C ↔ n.testBit b = true) (hh : h = 8 * 2 ^ b)
    {off : Fin 2 → ℕ}
    {inb : C → ∀ d, off d + (![h, 128] : Fin 2 → ℕ) d ≤ S491520x128.size d}
    {hr : ∀ hc : C, ∀ d, (Rect.unit (s := S491520x128) off ![h, 128] (inb hc)).stride d = 1}
    {src : Memref sig .tc .vmem ⟨2, ![h, 128]⟩ .f32} {hsrc : src.view.WordExact}
    {hdst : ∀ hc : C, (outSlice off h (inb hc) (hr hc)).view.WordExact}
    {k : Prog (TpuEff nD τ sig (Elt F) Λ .tc) α} :
    iprop(Wt c sem l G Src (bits s n (f + 1) b ++ rest) ∗ (∃ W, owes (c : Thread nD τ) 0 W))
      ⊢ iprop((iprop(Wt c sem l G Src (bits s n f (b + 1) ++ rest) ∗ (∃ W, owes (c : Thread nD τ) 0 W))
          -∗ wp frame (wpE defs 𝒱 (c : Thread nD τ) bd) Set.univ k Q)
        -∗ wp frame (wpE defs 𝒱 (c : Thread nD τ) bd) Set.univ
          (if hc : C then (Prog.lift (.waitDma2 sem src (outSlice off h (inb hc) (hr hc)) hsrc (hdst hc)) >>= fun _ => k) else k) Q) := by
  rw [bits]
  by_cases hc : C
  · rw [if_pos (hC.1 hc), dif_pos hc, List.append_assoc, List.singleton_append]
    exact await_bind (F := F) c sem (p := (s + n % 2 ^ b, 2 ^ b)) (k := fun _ => k) h hh
  · rw [if_neg (fun h => hc (hC.2 h)), dif_neg hc, List.nil_append]
    iintro H Hk
    iapply Hk $$ H

end Cert.KernelIdeal.Hand
-- ==== Proof.Words.lean ====
/- What the kernel's index words are as numbers. -/
module

public import proofs.«01_k».proof.Proof.Gen.KernelIdeal.Skeleton
public import proofs.«01_k».proof.Proof.Plan

@[expose] public section

namespace Cert.KernelIdeal.Hand

open Cert.KernelIdeal Cert.KernelIdeal.Gen Cert.Plan
open Idealize.ShloMosaic

/-- Whether bit `b` of a word is set, as the kernel asks it. -/
def bitW (b v : BitVec 32) : BitVec 1 := Scalar.cmpi .eq (Scalar.andi (Scalar.shrsi v b) 1#32) 1#32

/-- The same as a branch's condition. -/
def cnd (b v : BitVec 32) : BitVec 1 := Scalar.cmpi .ne (Scalar.extui (bitW b v)) 0#32

/-- A start, moved on by each of the lowest `k` bits set. -/
def accW : ℕ → BitVec 32 → BitVec 32 → BitVec 32
  | 0, a, _ => a
  | k + 1, a, v => Scalar.addi (accW k a v) (Scalar.select (bitW (BitVec.ofNat 32 k) v) (BitVec.ofNat 32 (2 ^ k)) 0#32)

theorem cnd_fin : ∀ n : Fin 256, ∀ b : Fin 8,
    cnd (BitVec.ofNat 32 b.val) (BitVec.ofNat 32 n.val) = if n.val.testBit b.val then 1#1 else 0#1 := by decide +kernel

theorem sel_fin : ∀ n : Fin 256, ∀ b : Fin 8,
    (Scalar.select (bitW (BitVec.ofNat 32 b.val) (BitVec.ofNat 32 n.val)) (BitVec.ofNat 32 (2 ^ b.val)) 0#32).toNat
      = if n.val.testBit b.val then 2 ^ b.val else 0 := by decide +kernel

theorem word_of_toNat {v : BitVec 32} {n : ℕ} (h : v.toNat = n) : v = BitVec.ofNat 32 n := by
  rw [← h, BitVec.ofNat_toNat, BitVec.setWidth_eq]

theorem cnd_iff {v : BitVec 32} {n : ℕ} (h : v.toNat = n) (hn : n < 256) {b : ℕ} (hb : b < 8) :
    cnd (BitVec.ofNat 32 b) v = 1#1 ↔ n.testBit b = true := by
  rw [word_of_toNat h]
  have := cnd_fin ⟨n, hn⟩ ⟨b, hb⟩
  simp only at this
  rw [this]
  by_cases hc : n.testBit b = true <;> simp [hc]

theorem toNat_accW {a v : BitVec 32} {s n : ℕ} (ha : a.toNat = s) (hv : v.toNat = n) (hn : n < 256) (hs : s < 2 ^ 24) :
    ∀ {k : ℕ}, k ≤ 8 → (accW k a v).toNat = s + n % 2 ^ k
  | 0, _ => by rw [accW, ha]; omega
  | k + 1, hk => by
    have ih := toNat_accW ha hv hn hs (k := k) (by omega)
    have hsel := sel_fin ⟨n, hn⟩ ⟨k, by omega⟩
    simp only at hsel
    have hle : n % 2 ^ (k + 1) ≤ n := Nat.mod_le _ _
    rw [mod_step n k] at hle
    show (accW k a v + Scalar.select (bitW (BitVec.ofNat 32 k) v) (BitVec.ofNat 32 (2 ^ k)) 0#32).toNat = _
    rw [BitVec.toNat_add, ih, word_of_toNat hv, hsel, mod_step n k]
    omega

/-- A row number times eight, as an offset. -/
theorem off_rows {w : BitVec 32} {r : ℕ} (h : w.toNat = r) (hr : r < 2 ^ 28) :
    (![(Scalar.muli w 8#32).toNat, 0] : Fin 2 → ℕ) = ![8 * r, 0] := by
  have : (Scalar.muli w 8#32).toNat = 8 * r := by
    show (w * 8#32).toNat = _
    rw [BitVec.toNat_mul, h]
    show r * 8 % 2 ^ 32 = _
    omega
  rw [this]

theorem mult_rows {w : BitVec 32} {r : ℕ} (h : w.toNat = r) (hr : r < 2 ^ 28) : 8 ∣ (Scalar.muli w 8#32).toNat := by
  have := congrFun (off_rows h hr) 0
  exact ⟨r, this⟩

theorem inb_rows {off : Fin 2 → ℕ} {r h : ℕ} (ho : off = ![8 * r, 0]) (hle : 8 * r + h ≤ 491520) :
    ∀ a, off a + (⟨2, ![h, 128]⟩ : Shape).size a ≤ S491520x128.size a := by
  subst ho
  intro a
  match a with
  | ⟨0, _⟩ => exact hle
  | ⟨1, _⟩ => exact le_refl 128

theorem cond2_iff {v : BitVec 32} {n : ℕ} (h : v.toNat = n) (hn : n < 256) : k0_cond2 v = 1#1 ↔ n.testBit 0 = true :=
  cnd_iff h hn (b := 0) (by decide)

theorem cond3_iff {v : BitVec 32} {n : ℕ} (h : v.toNat = n) (hn : n < 256) : k0_cond3 v = 1#1 ↔ n.testBit 1 = true :=
  cnd_iff h hn (b := 1) (by decide)

theorem cond4_iff {v : BitVec 32} {n : ℕ} (h : v.toNat = n) (hn : n < 256) : k0_cond4 v = 1#1 ↔ n.testBit 2 = true :=
  cnd_iff h hn (b := 2) (by decide)

theorem cond5_iff {v : BitVec 32} {n : ℕ} (h : v.toNat = n) (hn : n < 256) : k0_cond5 v = 1#1 ↔ n.testBit 3 = true :=
  cnd_iff h hn (b := 3) (by decide)

theorem cond6_iff {v : BitVec 32} {n : ℕ} (h : v.toNat = n) (hn : n < 256) : k0_cond6 v = 1#1 ↔ n.testBit 4 = true :=
  cnd_iff h hn (b := 4) (by decide)

theorem cond7_iff {v : BitVec 32} {n : ℕ} (h : v.toNat = n) (hn : n < 256) : k0_cond7 v = 1#1 ↔ n.testBit 5 = true :=
  cnd_iff h hn (b := 5) (by decide)

theorem cond8_iff {v : BitVec 32} {n : ℕ} (h : v.toNat = n) (hn : n < 256) : k0_cond8 v = 1#1 ↔ n.testBit 6 = true :=
  cnd_iff h hn (b := 6) (by decide)

theorem cond9_iff {v : BitVec 32} {n : ℕ} (h : v.toNat = n) (hn : n < 256) : k0_cond9 v = 1#1 ↔ n.testBit 7 = true :=
  cnd_iff h hn (b := 7) (by decide)

theorem cond10_iff {v : BitVec 32} {n : ℕ} (h : v.toNat = n) (hn : n < 256) : k0_cond10 v = 1#1 ↔ n.testBit 0 = true :=
  cnd_iff h hn (b := 0) (by decide)

theorem cond11_iff {v : BitVec 32} {n : ℕ} (h : v.toNat = n) (hn : n < 256) : k0_cond11 v = 1#1 ↔ n.testBit 1 = true :=
  cnd_iff h hn (b := 1) (by decide)

theorem cond12_iff {v : BitVec 32} {n : ℕ} (h : v.toNat = n) (hn : n < 256) : k0_cond12 v = 1#1 ↔ n.testBit 2 = true :=
  cnd_iff h hn (b := 2) (by decide)

theorem cond13_iff {v : BitVec 32} {n : ℕ} (h : v.toNat = n) (hn : n < 256) : k0_cond13 v = 1#1 ↔ n.testBit 3 = true :=
  cnd_iff h hn (b := 3) (by decide)

theorem cond14_iff {v : BitVec 32} {n : ℕ} (h : v.toNat = n) (hn : n < 256) : k0_cond14 v = 1#1 ↔ n.testBit 4 = true :=
  cnd_iff h hn (b := 4) (by decide)

theorem cond15_iff {v : BitVec 32} {n : ℕ} (h : v.toNat = n) (hn : n < 256) : k0_cond15 v = 1#1 ↔ n.testBit 5 = true :=
  cnd_iff h hn (b := 5) (by decide)

theorem cond16_iff {v : BitVec 32} {n : ℕ} (h : v.toNat = n) (hn : n < 256) : k0_cond16 v = 1#1 ↔ n.testBit 6 = true :=
  cnd_iff h hn (b := 6) (by decide)

theorem cond17_iff {v : BitVec 32} {n : ℕ} (h : v.toNat = n) (hn : n < 256) : k0_cond17 v = 1#1 ↔ n.testBit 7 = true :=
  cnd_iff h hn (b := 7) (by decide)

theorem off2_eq {a v : BitVec 32} {s n : ℕ} (ha : a.toNat = s) (hv : v.toNat = n) (hn : n < 256) (hs : s < 2 ^ 24) :
    k0_off2 a = ![8 * (s + n % 2 ^ 0), 0] :=
  off_rows (w := accW 0 a v) (toNat_accW ha hv hn hs (by decide)) (by have := Nat.mod_le n (2 ^ 0); omega)

theorem off3_eq {a v : BitVec 32} {s n : ℕ} (ha : a.toNat = s) (hv : v.toNat = n) (hn : n < 256) (hs : s < 2 ^ 24) :
    k0_off3 a v = ![8 * (s + n % 2 ^ 1), 0] :=
  off_rows (w := accW 1 a v) (toNat_accW ha hv hn hs (by decide)) (by have := Nat.mod_le n (2 ^ 1); omega)

theorem off4_eq {a v : BitVec 32} {s n : ℕ} (ha : a.toNat = s) (hv : v.toNat = n) (hn : n < 256) (hs : s < 2 ^ 24) :
    k0_off4 a v = ![8 * (s + n % 2 ^ 2), 0] :=
  off_rows (w := accW 2 a v) (toNat_accW ha hv hn hs (by decide)) (by have := Nat.mod_le n (2 ^ 2); omega)

theorem off5_eq {a v : BitVec 32} {s n : ℕ} (ha : a.toNat = s) (hv : v.toNat = n) (hn : n < 256) (hs : s < 2 ^ 24) :
    k0_off5 a v = ![8 * (s + n % 2 ^ 3), 0] :=
  off_rows (w := accW 3 a v) (toNat_accW ha hv hn hs (by decide)) (by have := Nat.mod_le n (2 ^ 3); omega)

theorem off6_eq {a v : BitVec 32} {s n : ℕ} (ha : a.toNat = s) (hv : v.toNat = n) (hn : n < 256) (hs : s < 2 ^ 24) :
    k0_off6 a v = ![8 * (s + n % 2 ^ 4), 0] :=
  off_rows (w := accW 4 a v) (toNat_accW ha hv hn hs (by decide)) (by have := Nat.mod_le n (2 ^ 4); omega)

theorem off7_eq {a v : BitVec 32} {s n : ℕ} (ha : a.toNat = s) (hv : v.toNat = n) (hn : n < 256) (hs : s < 2 ^ 24) :
    k0_off7 a v = ![8 * (s + n % 2 ^ 5), 0] :=
  off_rows (w := accW 5 a v) (toNat_accW ha hv hn hs (by decide)) (by have := Nat.mod_le n (2 ^ 5); omega)

theorem off8_eq {a v : BitVec 32} {s n : ℕ} (ha : a.toNat = s) (hv : v.toNat = n) (hn : n < 256) (hs : s < 2 ^ 24) :
    k0_off8 a v = ![8 * (s + n % 2 ^ 6), 0] :=
  off_rows (w := accW 6 a v) (toNat_accW ha hv hn hs (by decide)) (by have := Nat.mod_le n (2 ^ 6); omega)

theorem off9_eq {a v : BitVec 32} {s n : ℕ} (ha : a.toNat = s) (hv : v.toNat = n) (hn : n < 256) (hs : s < 2 ^ 24) :
    k0_off9 a v = ![8 * (s + n % 2 ^ 7), 0] :=
  off_rows (w := accW 7 a v) (toNat_accW ha hv hn hs (by decide)) (by have := Nat.mod_le n (2 ^ 7); omega)

theorem off39_eq {a v : BitVec 32} {s n : ℕ} (ha : a.toNat = s) (hv : v.toNat = n) (hn : n < 256) (hs : s < 2 ^ 24) :
    k0_off39 a = ![8 * (s + n % 2 ^ 0), 0] :=
  off_rows (w := accW 0 a v) (toNat_accW ha hv hn hs (by decide)) (by have := Nat.mod_le n (2 ^ 0); omega)

theorem off40_eq {a v : BitVec 32} {s n : ℕ} (ha : a.toNat = s) (hv : v.toNat = n) (hn : n < 256) (hs : s < 2 ^ 24) :
    k0_off40 a v = ![8 * (s + n % 2 ^ 1), 0] :=
  off_rows (w := accW 1 a v) (toNat_accW ha hv hn hs (by decide)) (by have := Nat.mod_le n (2 ^ 1); omega)

theorem off41_eq {a v : BitVec 32} {s n : ℕ} (ha : a.toNat = s) (hv : v.toNat = n) (hn : n < 256) (hs : s < 2 ^ 24) :
    k0_off41 a v = ![8 * (s + n % 2 ^ 2), 0] :=
  off_rows (w := accW 2 a v) (toNat_accW ha hv hn hs (by decide)) (by have := Nat.mod_le n (2 ^ 2); omega)

theorem off42_eq {a v : BitVec 32} {s n : ℕ} (ha : a.toNat = s) (hv : v.toNat = n) (hn : n < 256) (hs : s < 2 ^ 24) :
    k0_off42 a v = ![8 * (s + n % 2 ^ 3), 0] :=
  off_rows (w := accW 3 a v) (toNat_accW ha hv hn hs (by decide)) (by have := Nat.mod_le n (2 ^ 3); omega)

theorem off43_eq {a v : BitVec 32} {s n : ℕ} (ha : a.toNat = s) (hv : v.toNat = n) (hn : n < 256) (hs : s < 2 ^ 24) :
    k0_off43 a v = ![8 * (s + n % 2 ^ 4), 0] :=
  off_rows (w := accW 4 a v) (toNat_accW ha hv hn hs (by decide)) (by have := Nat.mod_le n (2 ^ 4); omega)

theorem off44_eq {a v : BitVec 32} {s n : ℕ} (ha : a.toNat = s) (hv : v.toNat = n) (hn : n < 256) (hs : s < 2 ^ 24) :
    k0_off44 a v = ![8 * (s + n % 2 ^ 5), 0] :=
  off_rows (w := accW 5 a v) (toNat_accW ha hv hn hs (by decide)) (by have := Nat.mod_le n (2 ^ 5); omega)

theorem off45_eq {a v : BitVec 32} {s n : ℕ} (ha : a.toNat = s) (hv : v.toNat = n) (hn : n < 256) (hs : s < 2 ^ 24) :
    k0_off45 a v = ![8 * (s + n % 2 ^ 6), 0] :=
  off_rows (w := accW 6 a v) (toNat_accW ha hv hn hs (by decide)) (by have := Nat.mod_le n (2 ^ 6); omega)

theorem off46_eq {a v : BitVec 32} {s n : ℕ} (ha : a.toNat = s) (hv : v.toNat = n) (hn : n < 256) (hs : s < 2 ^ 24) :
    k0_off46 a v = ![8 * (s + n % 2 ^ 7), 0] :=
  off_rows (w := accW 7 a v) (toNat_accW ha hv hn hs (by decide)) (by have := Nat.mod_le n (2 ^ 7); omega)

theorem bit_fits {s n : ℕ} (hn : n < 256) (hsn : s + n ≤ 61440) (b : ℕ) (h : n.testBit b = true) : 8 * (s + n % 2 ^ b) + 8 * 2 ^ b ≤ 491520 := by
  have h1 := mod_step n b
  rw [if_pos h] at h1
  have h2 := Nat.mod_le n (2 ^ (b + 1))
  omega

theorem chk1_holds {a v : BitVec 32} {s n : ℕ} (ha : a.toNat = s) (hv : v.toNat = n) (hn : n < 256) (hsn : s + n ≤ 61440) : k0_chk1 a v := by
  have hs : s < 2 ^ 24 := by omega
  have fits := bit_fits (s := s) hn hsn
  exact ⟨fun _ => mult_rows (w := accW 0 a v) (toNat_accW ha hv hn hs (by decide)) (by have := Nat.mod_le n (2 ^ 0); omega),
    fun h => inb_rows (r := s + n % 2 ^ 0) (h := 8) (off2_eq ha hv hn hs) (fits 0 ((cond2_iff hv hn).1 h)),
    fun _ => mult_rows (w := accW 1 a v) (toNat_accW ha hv hn hs (by decide)) (by have := Nat.mod_le n (2 ^ 1); omega),
    fun h => inb_rows (r := s + n % 2 ^ 1) (h := 16) (off3_eq ha hv hn hs) (fits 1 ((cond3_iff hv hn).1 h)),
    fun _ => mult_rows (w := accW 2 a v) (toNat_accW ha hv hn hs (by decide)) (by have := Nat.mod_le n (2 ^ 2); omega),
    fun h => inb_rows (r := s + n % 2 ^ 2) (h := 32) (off4_eq ha hv hn hs) (fits 2 ((cond4_iff hv hn).1 h)),
    fun _ => mult_rows (w := accW 3 a v) (toNat_accW ha hv hn hs (by decide)) (by have := Nat.mod_le n (2 ^ 3); omega),
    fun h => inb_rows (r := s + n % 2 ^ 3) (h := 64) (off5_eq ha hv hn hs) (fits 3 ((cond5_iff hv hn).1 h)),
    fun _ => mult_rows (w := accW 4 a v) (toNat_accW ha hv hn hs (by decide)) (by have := Nat.mod_le n (2 ^ 4); omega),
    fun h => inb_rows (r := s + n % 2 ^ 4) (h := 128) (off6_eq ha hv hn hs) (fits 4 ((cond6_iff hv hn).1 h)),
    fun _ => mult_rows (w := accW 5 a v) (toNat_accW ha hv hn hs (by decide)) (by have := Nat.mod_le n (2 ^ 5); omega),
    fun h => inb_rows (r := s + n % 2 ^ 5) (h := 256) (off7_eq ha hv hn hs) (fits 5 ((cond7_iff hv hn).1 h)),
    fun _ => mult_rows (w := accW 6 a v) (toNat_accW ha hv hn hs (by decide)) (by have := Nat.mod_le n (2 ^ 6); omega),
    fun h => inb_rows (r := s + n % 2 ^ 6) (h := 512) (off8_eq ha hv hn hs) (fits 6 ((cond8_iff hv hn).1 h)),
    fun _ => mult_rows (w := accW 7 a v) (toNat_accW ha hv hn hs (by decide)) (by have := Nat.mod_le n (2 ^ 7); omega),
    fun h => inb_rows (r := s + n % 2 ^ 7) (h := 1024) (off9_eq ha hv hn hs) (fits 7 ((cond9_iff hv hn).1 h))⟩

theorem chk13_holds {a v : BitVec 32} {s n : ℕ} (ha : a.toNat = s) (hv : v.toNat = n) (hn : n < 256) (hsn : s + n ≤ 61440) : k0_chk13 a v := by
  have hs : s < 2 ^ 24 := by omega
  have fits := bit_fits (s := s) hn hsn
  exact ⟨fun _ => mult_rows (w := accW 0 a v) (toNat_accW ha hv hn hs (by decide)) (by have := Nat.mod_le n (2 ^ 0); omega),
    fun h => inb_rows (r := s + n % 2 ^ 0) (h := 8) (off39_eq ha hv hn hs) (fits 0 ((cond10_iff hv hn).1 h)),
    fun _ => mult_rows (w := accW 1 a v) (toNat_accW ha hv hn hs (by decide)) (by have := Nat.mod_le n (2 ^ 1); omega),
    fun h => inb_rows (r := s + n % 2 ^ 1) (h := 16) (off40_eq ha hv hn hs) (fits 1 ((cond11_iff hv hn).1 h)),
    fun _ => mult_rows (w := accW 2 a v) (toNat_accW ha hv hn hs (by decide)) (by have := Nat.mod_le n (2 ^ 2); omega),
    fun h => inb_rows (r := s + n % 2 ^ 2) (h := 32) (off41_eq ha hv hn hs) (fits 2 ((cond12_iff hv hn).1 h)),
    fun _ => mult_rows (w := accW 3 a v) (toNat_accW ha hv hn hs (by decide)) (by have := Nat.mod_le n (2 ^ 3); omega),
    fun h => inb_rows (r := s + n % 2 ^ 3) (h := 64) (off42_eq ha hv hn hs) (fits 3 ((cond13_iff hv hn).1 h)),
    fun _ => mult_rows (w := accW 4 a v) (toNat_accW ha hv hn hs (by decide)) (by have := Nat.mod_le n (2 ^ 4); omega),
    fun h => inb_rows (r := s + n % 2 ^ 4) (h := 128) (off43_eq ha hv hn hs) (fits 4 ((cond14_iff hv hn).1 h)),
    fun _ => mult_rows (w := accW 5 a v) (toNat_accW ha hv hn hs (by decide)) (by have := Nat.mod_le n (2 ^ 5); omega),
    fun h => inb_rows (r := s + n % 2 ^ 5) (h := 256) (off44_eq ha hv hn hs) (fits 5 ((cond15_iff hv hn).1 h)),
    fun _ => mult_rows (w := accW 6 a v) (toNat_accW ha hv hn hs (by decide)) (by have := Nat.mod_le n (2 ^ 6); omega),
    fun h => inb_rows (r := s + n % 2 ^ 6) (h := 512) (off45_eq ha hv hn hs) (fits 6 ((cond16_iff hv hn).1 h)),
    fun _ => mult_rows (w := accW 7 a v) (toNat_accW ha hv hn hs (by decide)) (by have := Nat.mod_le n (2 ^ 7); omega),
    fun h => inb_rows (r := s + n % 2 ^ 7) (h := 1024) (off46_eq ha hv hn hs) (fits 7 ((cond17_iff hv hn).1 h))⟩

theorem off15_eq {a : BitVec 32} {s : ℕ} (ha : a.toNat = s) (hs : s < 61440) : k0_off15 a = ![8 * s, 0] :=
  off_rows (w := a) ha (by omega)

theorem chk5_holds {a : BitVec 32} {s : ℕ} (ha : a.toNat = s) (hs : s < 61440) : k0_chk5 a :=
  ⟨mult_rows (w := a) ha (by omega), inb_rows (r := s) (h := 8) (off15_eq ha hs) (by omega)⟩

theorem off18_eq {a : BitVec 32} {s : ℕ} (ha : a.toNat = s) (hs : s < 61440) : k0_off18 a = ![8 * s, 0] :=
  off_rows (w := a) ha (by omega)

theorem chk6_holds {a : BitVec 32} {s : ℕ} (ha : a.toNat = s) (hs : s < 61440) : k0_chk6 a :=
  ⟨mult_rows (w := a) ha (by omega), inb_rows (r := s) (h := 8) (off18_eq ha hs) (by omega)⟩

theorem off21_eq {a : BitVec 32} {s : ℕ} (ha : a.toNat = s) (hs : s < 61440) : k0_off21 a = ![8 * s, 0] :=
  off_rows (w := a) ha (by omega)

theorem chk7_holds {a : BitVec 32} {s : ℕ} (ha : a.toNat = s) (hs : s < 61440) : k0_chk7 a :=
  ⟨mult_rows (w := a) ha (by omega), inb_rows (r := s) (h := 8) (off21_eq ha hs) (by omega)⟩

theorem off24_eq {a : BitVec 32} {s : ℕ} (ha : a.toNat = s) (hs : s < 61440) : k0_off24 a = ![8 * s, 0] :=
  off_rows (w := a) ha (by omega)

theorem chk8_holds {a : BitVec 32} {s : ℕ} (ha : a.toNat = s) (hs : s < 61440) : k0_chk8 a :=
  ⟨mult_rows (w := a) ha (by omega), inb_rows (r := s) (h := 8) (off24_eq ha hs) (by omega)⟩

theorem off27_eq {a : BitVec 32} {s : ℕ} (ha : a.toNat = s) (hs : s < 61440) : k0_off27 a = ![8 * s, 0] :=
  off_rows (w := a) ha (by omega)

theorem chk9_holds {a : BitVec 32} {s : ℕ} (ha : a.toNat = s) (hs : s < 61440) : k0_chk9 a :=
  ⟨mult_rows (w := a) ha (by omega), inb_rows (r := s) (h := 8) (off27_eq ha hs) (by omega)⟩

theorem off30_eq {a : BitVec 32} {s : ℕ} (ha : a.toNat = s) (hs : s < 61440) : k0_off30 a = ![8 * s, 0] :=
  off_rows (w := a) ha (by omega)

theorem chk10_holds {a : BitVec 32} {s : ℕ} (ha : a.toNat = s) (hs : s < 61440) : k0_chk10 a :=
  ⟨mult_rows (w := a) ha (by omega), inb_rows (r := s) (h := 8) (off30_eq ha hs) (by omega)⟩

theorem off33_eq {a : BitVec 32} {s : ℕ} (ha : a.toNat = s) (hs : s < 61440) : k0_off33 a = ![8 * s, 0] :=
  off_rows (w := a) ha (by omega)

theorem chk11_holds {a : BitVec 32} {s : ℕ} (ha : a.toNat = s) (hs : s < 61440) : k0_chk11 a :=
  ⟨mult_rows (w := a) ha (by omega), inb_rows (r := s) (h := 8) (off33_eq ha hs) (by omega)⟩

theorem off36_eq {a : BitVec 32} {s : ℕ} (ha : a.toNat = s) (hs : s < 61440) : k0_off36 a = ![8 * s, 0] :=
  off_rows (w := a) ha (by omega)

theorem chk12_holds {a : BitVec 32} {s : ℕ} (ha : a.toNat = s) (hs : s < 61440) : k0_chk12 a :=
  ⟨mult_rows (w := a) ha (by omega), inb_rows (r := s) (h := 8) (off36_eq ha hs) (by omega)⟩

/-- How many of the last tiles a step zeroes, as the kernel computes it. -/
def tailW (n : ℕ) (v : BitVec 32) : BitVec 32 :=
  let v10 : BitVec 32 := Scalar.subi (Scalar.addi (Scalar.maxsi (Scalar.subi (Scalar.subi 240#32 v) (BitVec.ofNat 32 n)) 0#32) 32#32) 1#32
  let v16 : BitVec 32 := Scalar.subi (Scalar.extui (Scalar.cmpi .sgt v10 0#32)) (Scalar.extui (Scalar.cmpi .slt v10 0#32))
  let v21 : BitVec 32 := Scalar.subi (Scalar.extui (Scalar.cmpi .sgt 32#32 0#32)) (Scalar.extui (Scalar.cmpi .slt 32#32 0#32))
  let v25 : BitVec 1 := Scalar.andi (Scalar.cmpi .ne v16 v21) (Scalar.cmpi .ne (Scalar.remsi v10 32#32) 0#32)
  let v11 : BitVec 32 := Scalar.divsi v10 32#32
  Scalar.subi (Scalar.select v25 (Scalar.subi v11 1#32) v11) 0#32

def tailLoop (n : ℕ) (v : BitVec 32) : Scf.Loop 32 := ⟨0#32, Scalar.addi 0#32 (Scalar.muli (Scalar.divsi (tailW n v) 1#32) 1#32), 1#32⟩

def restLoop (n : ℕ) (v : BitVec 32) : Scf.Loop 32 :=
  ⟨Scalar.addi 0#32 (Scalar.muli (Scalar.divsi (tailW n v) 1#32) 1#32), Scalar.addi 0#32 (tailW n v), 1#32⟩

theorem tail_fin : ∀ n : Fin 32, ∀ t : Fin 241, (tailLoop n.val (BitVec.ofNat 32 t.val)).OK
    ∧ (tailLoop n.val (BitVec.ofNat 32 t.val)).trips = (240 - t.val - n.val + 31) / 32
    ∧ (restLoop n.val (BitVec.ofNat 32 t.val)).OK ∧ (restLoop n.val (BitVec.ofNat 32 t.val)).trips = 0 := by decide +kernel

end Cert.KernelIdeal.Hand
-- ==== Proof.Tail.lean ====
/- The loops over the last tiles: how often they run, and the rows their copies go to. -/
module

public import proofs.«01_k».proof.Proof.Words

@[expose] public section

namespace Cert.KernelIdeal.Hand

open Cert.KernelIdeal Cert.KernelIdeal.Gen Cert.Plan
open Idealize.ShloMosaic

theorem t2_eq (i : grid0.Coords) (v : BitVec 32) : k0_t2_loop i v = tailLoop (i 0).val v := rfl
theorem t3_eq (i : grid0.Coords) (v : BitVec 32) : k0_t3_loop i v = restLoop (i 0).val v := rfl
theorem t7_eq (i : grid0.Coords) (v : BitVec 32) : k0_t7_loop i v = tailLoop (i 0).val v := rfl
theorem t8_eq (i : grid0.Coords) (v : BitVec 32) : k0_t8_loop i v = restLoop (i 0).val v := rfl

theorem step_lt (i : grid0.Coords) : (i 0).val < 32 := (i 0).isLt

section
variable (i : grid0.Coords) {v : BitVec 32} {t : ℕ} (hv : v.toNat = t) (ht : t ≤ 240)
include hv ht

theorem tail_word : (tailLoop (i 0).val v).OK ∧ (tailLoop (i 0).val v).trips = tailTrips t (i 0).val
    ∧ (restLoop (i 0).val v).OK ∧ (restLoop (i 0).val v).trips = 0 := by
  have := tail_fin ⟨(i 0).val, step_lt i⟩ ⟨t, by omega⟩
  rw [word_of_toNat hv]
  exact this

theorem chk2_holds : k0_chk2 i v := ⟨(tail_word i hv ht).1, (tail_word i hv ht).2.2.1⟩
theorem chk14_holds : k0_chk14 i v := ⟨(tail_word i hv ht).1, (tail_word i hv ht).2.2.1⟩
theorem t2_trips : (k0_t2_loop i v).trips = tailTrips t (i 0).val := (tail_word i hv ht).2.1
theorem t7_trips : (k0_t7_loop i v).trips = tailTrips t (i 0).val := (tail_word i hv ht).2.1
theorem t3_trips : (k0_t3_loop i v).trips = 0 := (tail_word i hv ht).2.2.2
theorem t8_trips : (k0_t8_loop i v).trips = 0 := (tail_word i hv ht).2.2.2

end

/-- The tile a trip zeroes. -/
def tileW (n k : ℕ) (v : BitVec 32) : BitVec 32 :=
  Scalar.muli (Scalar.addi (Scalar.addi v (BitVec.ofNat 32 n)) (Scalar.muli (Scf.iv 0#32 1#32 k) 32#32)) 2#32

theorem toNat_tileW {n k t : ℕ} {v : BitVec 32} (hv : v.toNat = t) (hle : t + n + 32 * k < 240) :
    (tileW n k v).toNat = 2 * (t + n + 32 * k) := by
  show (((v + BitVec.ofNat 32 n) + (0#32 + BitVec.ofNat 32 k * 1#32) * 32#32) * 2#32).toNat = _
  simp only [BitVec.toNat_mul, BitVec.toNat_add, BitVec.toNat_ofNat, hv]
  omega

theorem toNat_tile0 {n k t : ℕ} {v : BitVec 32} (hv : v.toNat = t) (hle : t + n + 32 * k < 240) :
    (Scalar.muli (tileW n k v) 128#32).toNat = 256 * (t + n + 32 * k) := by
  show (tileW n k v * 128#32).toNat = _
  rw [BitVec.toNat_mul, toNat_tileW hv hle]
  show _ * 128 % 2 ^ 32 = _
  omega

theorem toNat_tile1 {n k t : ℕ} {v : BitVec 32} (hv : v.toNat = t) (hle : t + n + 32 * k < 240) :
    (Scalar.addi (Scalar.muli (tileW n k v) 128#32) 128#32).toNat = 256 * (t + n + 32 * k) + 128 := by
  show (tileW n k v * 128#32 + 128#32).toNat = _
  rw [BitVec.toNat_add, BitVec.toNat_mul, toNat_tileW hv hle]
  show (_ * 128 % 2 ^ 32 + 128) % 2 ^ 32 = _
  omega

theorem tile_a {a : ℕ} (h : a < 240) : 256 * a < 2 ^ 28 := by omega
theorem tile_b {a : ℕ} (h : a < 240) : 256 * a + 128 < 2 ^ 28 := by omega
theorem tile_c {a : ℕ} (h : a < 240) : 8 * (256 * a) + 1024 ≤ 491520 := by omega
theorem tile_d {a : ℕ} (h : a < 240) : 8 * (256 * a + 128) + 1024 ≤ 491520 := by omega

section
variable (i : grid0.Coords) {v w : BitVec 32} {t : ℕ} (hw : w.toNat = t)
include hw

theorem off10_eq (k : Fin (k0_t2_loop i v).trips) (hle : t + (i 0).val + 32 * k.val < 240) :
    k0_off10 i v k w = ![8 * (256 * (t + (i 0).val + 32 * k.val)), 0] :=
  off_rows (w := Scalar.muli (tileW (i 0).val k.val w) 128#32) (toNat_tile0 hw hle) (tile_a hle)

theorem off11_eq (k : Fin (k0_t2_loop i v).trips) (hle : t + (i 0).val + 32 * k.val < 240) :
    k0_off11 i v k w = ![8 * (256 * (t + (i 0).val + 32 * k.val) + 128), 0] :=
  off_rows (w := Scalar.addi (Scalar.muli (tileW (i 0).val k.val w) 128#32) 128#32) (toNat_tile1 hw hle) (tile_b hle)

theorem off47_eq (k : Fin (k0_t7_loop i v).trips) (hle : t + (i 0).val + 32 * k.val < 240) :
    k0_off47 i v k w = ![8 * (256 * (t + (i 0).val + 32 * k.val)), 0] :=
  off_rows (w := Scalar.muli (tileW (i 0).val k.val w) 128#32) (toNat_tile0 hw hle) (tile_a hle)

theorem off48_eq (k : Fin (k0_t7_loop i v).trips) (hle : t + (i 0).val + 32 * k.val < 240) :
    k0_off48 i v k w = ![8 * (256 * (t + (i 0).val + 32 * k.val) + 128), 0] :=
  off_rows (w := Scalar.addi (Scalar.muli (tileW (i 0).val k.val w) 128#32) 128#32) (toNat_tile1 hw hle) (tile_b hle)

theorem chk3_holds (k : Fin (k0_t2_loop i v).trips) (hle : t + (i 0).val + 32 * k.val < 240) : k0_chk3 i v k w :=
  ⟨mult_rows (w := Scalar.muli (tileW (i 0).val k.val w) 128#32) (toNat_tile0 hw hle) (tile_a hle),
    inb_rows (h := 1024) (off10_eq i hw k hle) (tile_c hle),
    mult_rows (w := Scalar.addi (Scalar.muli (tileW (i 0).val k.val w) 128#32) 128#32) (toNat_tile1 hw hle) (tile_b hle),
    inb_rows (h := 1024) (off11_eq i hw k hle) (tile_d hle)⟩

theorem chk15_holds (k : Fin (k0_t7_loop i v).trips) (hle : t + (i 0).val + 32 * k.val < 240) : k0_chk15 i v k w :=
  ⟨mult_rows (w := Scalar.muli (tileW (i 0).val k.val w) 128#32) (toNat_tile0 hw hle) (tile_a hle),
    inb_rows (h := 1024) (off47_eq i hw k hle) (tile_c hle),
    mult_rows (w := Scalar.addi (Scalar.muli (tileW (i 0).val k.val w) 128#32) 128#32) (toNat_tile1 hw hle) (tile_b hle),
    inb_rows (h := 1024) (off48_eq i hw k hle) (tile_d hle)⟩

end

theorem tail_lt {t n k : ℕ} (hn : n < 32) (ht : t ≤ 240) (hk : k < tailTrips t n) : t + n + 32 * k < 240 := by
  unfold tailTrips at hk; omega

end Cert.KernelIdeal.Hand
-- ==== Proof.Gaps.lean ====
/- One trip of each of the body's loops over the gaps of the table. -/
module

public import proofs.«01_k».proof.Proof.Copies
public import proofs.«01_k».proof.Proof.Tail

@[expose] public section

set_option synthInstance.maxSize 4096

noncomputable section

namespace Cert.KernelIdeal.Hand

open Cert.KernelIdeal Cert.KernelIdeal.Gen Cert.Plan
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

theorem part1_step (c : Dev nD) (i : grid0.Coords) (m : Memref sig .tc .vmem S8192x128 .f32) (hm : m.IsWhole) {l : List Piece} {V G : Buf (Elt F) (outLoc c)}
    (hsep : l.Pairwise Sep) (hG : ∀ p ∈ l, ∀ x ∈ K p, G x = z0 (F := F))
    {q11 q14 : PosShare TreeShare} {f11 : Buf (Elt F) ((c : Thread nD τ).loc main_v11)} {f14 : Buf (Elt F) ((c : Thread nD τ).loc main_v14)}
    {defs : Defs nD τ sig (Elt F) Λ₀} {𝒱 : Variants} {bd : Option 𝒱.V}
    (k : Fin k0_t1_loop.trips) {s n : ℕ} (hs : wordAt (n := 256) f11 (32 * k.val + (i 0).val) = s) (hl : wordAt (n := 256) f14 (32 * k.val + (i 0).val) = n)
    (hn : n < 256) (hsn : s + n ≤ 61440) (rest : List Piece) (a0 : BitVec 32)
    {Q : (Σ' (v67 : Elt F .i32) (v69 : Elt F .i32) (k0_hw1 : k0_chk1 v67 v69) (v90 : BitVec 32), BitVec 1) → sProp 𝕄} :
    iprop(((c : Thread nD τ).loc main_v11 ↦[Finset.univ]{q11} f11) ∗ ((c : Thread nD τ).loc main_v14 ↦[Finset.univ]{q14} f14) ∗ Iss c cc0_scratch2.sem l V G (SrcZ (F := F) c l) (bits s n 8 0 ++ rest))
      ⊢ iprop((∀ x, ⌜x.1.toNat = s ∧ x.2.1.toNat = n⌝ -∗ (((c : Thread nD τ).loc main_v11 ↦[Finset.univ]{q11} f11) ∗ ((c : Thread nD τ).loc main_v14 ↦[Finset.univ]{q14} f14) ∗ Iss c cc0_scratch2.sem l V G (SrcZ (F := F) c l) (bits s n 5 3 ++ rest)) -∗ Q x)
        -∗ wp frame (wpE defs 𝒱 (c : Thread nD τ) bd) Set.univ (k0_part1 i (Memref.whole main_arg0) (Memref.isWhole_whole _) (Memref.whole main_v11) (Memref.isWhole_whole _) (Memref.whole main_v14) (Memref.isWhole_whole _) (Memref.whole main_v15) (Memref.isWhole_whole _) m hm (Memref.whole main_v16) (Memref.isWhole_whole _) (Memref.whole cc0_scratch0) (Memref.isWhole_whole _) cc0_scratch1 cc0_scratch2 a0 0#32 1#32 k) Q) := by
  rw [k0_part1_eq_skeleton]
  unfold k0_part1_skel
  iintro ⟨H11, H14, HI⟩ Hk
  iapply (wp_load_start (F := F) (defs := defs) (𝒱 := 𝒱) (bd := bd) c (k0_off1_eq i k)) $$ H11
  iintro %a %ha H11
  iapply (wp_load_len (F := F) (defs := defs) (𝒱 := 𝒱) (bd := bd) c (k0_off1_eq i k)) $$ H14
  iintro %b %hb H14
  rw [hs] at ha
  rw [hl] at hb
  have hs24 : s < 2 ^ 24 := by omega
  iapply (wp_assume_bind (F := F) (defs := defs) (𝒱 := 𝒱) (bd := bd) c (chk1_holds ha hb hn hsn))
  dsimp only
  iapply (bit_issue (F := F) (defs := defs) (𝒱 := 𝒱) (bd := bd) c cc0_scratch2.sem hsep hG s n 0 7 8 rest (cond2_iff hb hn) rfl (off2_eq ha hb hn hs24)) $$ HI
  iintro HI
  iapply (bit_issue (F := F) (defs := defs) (𝒱 := 𝒱) (bd := bd) c cc0_scratch2.sem hsep hG s n 1 6 16 rest (cond3_iff hb hn) rfl (off3_eq ha hb hn hs24)) $$ HI
  iintro HI
  iapply (bit_issue (F := F) (defs := defs) (𝒱 := 𝒱) (bd := bd) c cc0_scratch2.sem hsep hG s n 2 5 32 rest (cond4_iff hb hn) rfl (off4_eq ha hb hn hs24)) $$ HI
  iintro HI
  iapply (wp_pure_intro (F := F) (defs := defs) (𝒱 := 𝒱) (bd := bd) c)
  iapply Hk $$ [] [H11 H14 HI]
  · ipureintro; exact ⟨ha, hb⟩
  · isplitl [H11]; · iexact H11
    isplitl [H14]; · iexact H14
    iexact HI

theorem t1_step (c : Dev nD) (i : grid0.Coords) (m : Memref sig .tc .vmem S8192x128 .f32) (hm : m.IsWhole) {l : List Piece} {V G : Buf (Elt F) (outLoc c)}
    (hsep : l.Pairwise Sep) (hG : ∀ p ∈ l, ∀ x ∈ K p, G x = z0 (F := F))
    {q11 q14 : PosShare TreeShare} {f11 : Buf (Elt F) ((c : Thread nD τ).loc main_v11)} {f14 : Buf (Elt F) ((c : Thread nD τ).loc main_v14)}
    {defs : Defs nD τ sig (Elt F) Λ₀} {𝒱 : Variants} {bd : Option 𝒱.V}
    (k : Fin k0_t1_loop.trips) {s n : ℕ} (hs : wordAt (n := 256) f11 (32 * k.val + (i 0).val) = s) (hl : wordAt (n := 256) f14 (32 * k.val + (i 0).val) = n)
    (hn : n < 256) (hsn : s + n ≤ 61440) (rest : List Piece) (a0 : BitVec 32) :
    iprop(((c : Thread nD τ).loc main_v11 ↦[Finset.univ]{q11} f11) ∗ ((c : Thread nD τ).loc main_v14 ↦[Finset.univ]{q14} f14) ∗ Iss c cc0_scratch2.sem l V G (SrcZ (F := F) c l) (bits s n 8 0 ++ rest))
      ⊢ wp frame (wpE defs 𝒱 (c : Thread nD τ) bd) Set.univ (k0_t1_body i (Memref.whole main_arg0) (Memref.isWhole_whole _) (Memref.whole main_v11) (Memref.isWhole_whole _) (Memref.whole main_v14) (Memref.isWhole_whole _) (Memref.whole main_v15) (Memref.isWhole_whole _) m hm (Memref.whole main_v16) (Memref.isWhole_whole _) (Memref.whole cc0_scratch0) (Memref.isWhole_whole _) cc0_scratch1 cc0_scratch2 a0 k ()) (fun _ => iprop(((c : Thread nD τ).loc main_v11 ↦[Finset.univ]{q11} f11) ∗ ((c : Thread nD τ).loc main_v14 ↦[Finset.univ]{q14} f14) ∗ Iss c cc0_scratch2.sem l V G (SrcZ (F := F) c l) (bits s n 0 8 ++ rest))) := by
  unfold k0_t1_body
  have hs24 : s < 2 ^ 24 := by omega
  rw [wp_bind]
  iintro H
  iapply (part1_step (F := F) (defs := defs) (𝒱 := 𝒱) (bd := bd) c i m hm hsep hG k hs hl hn hsn rest a0) $$ H
  iintro %x %hx ⟨H11, H14, HI⟩
  obtain ⟨a, b, hw, w0, w1⟩ := x
  obtain ⟨ha, hb⟩ := hx
  dsimp only at ha hb ⊢
  iapply (bit_issue (F := F) (defs := defs) (𝒱 := 𝒱) (bd := bd) c cc0_scratch2.sem hsep hG s n 3 4 64 rest (cond5_iff hb hn) rfl (off5_eq ha hb hn hs24)) $$ HI
  iintro HI
  iapply (bit_issue (F := F) (defs := defs) (𝒱 := 𝒱) (bd := bd) c cc0_scratch2.sem hsep hG s n 4 3 128 rest (cond6_iff hb hn) rfl (off6_eq ha hb hn hs24)) $$ HI
  iintro HI
  iapply (bit_issue (F := F) (defs := defs) (𝒱 := 𝒱) (bd := bd) c cc0_scratch2.sem hsep hG s n 5 2 256 rest (cond7_iff hb hn) rfl (off7_eq ha hb hn hs24)) $$ HI
  iintro HI
  iapply (bit_issue (F := F) (defs := defs) (𝒱 := 𝒱) (bd := bd) c cc0_scratch2.sem hsep hG s n 6 1 512 rest (cond8_iff hb hn) rfl (off8_eq ha hb hn hs24)) $$ HI
  iintro HI
  iapply (bit_issue (F := F) (defs := defs) (𝒱 := 𝒱) (bd := bd) c cc0_scratch2.sem hsep hG s n 7 0 1024 rest (cond9_iff hb hn) rfl (off9_eq ha hb hn hs24)) $$ HI
  iintro HI
  iapply (wp_pure_intro (F := F) (defs := defs) (𝒱 := 𝒱) (bd := bd) c)
  isplitl [H11]; · iexact H11
  isplitl [H14]; · iexact H14
  iexact HI

theorem part4_step (c : Dev nD) (i : grid0.Coords) (m : Memref sig .tc .vmem S8192x128 .f32) (hm : m.IsWhole) {l : List Piece} {G : Buf (Elt F) (outLoc c)}
    {q11 q14 : PosShare TreeShare} {f11 : Buf (Elt F) ((c : Thread nD τ).loc main_v11)} {f14 : Buf (Elt F) ((c : Thread nD τ).loc main_v14)}
    {defs : Defs nD τ sig (Elt F) Λ₀} {𝒱 : Variants} {bd : Option 𝒱.V}
    (k : Fin k0_t6_loop.trips) {s n : ℕ} (hs : wordAt (n := 256) f11 (32 * k.val + (i 0).val) = s) (hl : wordAt (n := 256) f14 (32 * k.val + (i 0).val) = n)
    (hn : n < 256) (hsn : s + n ≤ 61440) (rest : List Piece) (a0 : BitVec 32)
    {Q : (Σ' (v67 : Elt F .i32) (v69 : Elt F .i32) (k0_hw1 : k0_chk13 v67 v69) (v90 : BitVec 32), BitVec 1) → sProp 𝕄} :
    iprop(((c : Thread nD τ).loc main_v11 ↦[Finset.univ]{q11} f11) ∗ ((c : Thread nD τ).loc main_v14 ↦[Finset.univ]{q14} f14) ∗ Wt c cc0_scratch2.sem l G (SrcZ (F := F) c l) (bits s n 8 0 ++ rest) ∗ (∃ W, owes (c : Thread nD τ) 0 W))
      ⊢ iprop((∀ x, ⌜x.1.toNat = s ∧ x.2.1.toNat = n⌝ -∗ (((c : Thread nD τ).loc main_v11 ↦[Finset.univ]{q11} f11) ∗ ((c : Thread nD τ).loc main_v14 ↦[Finset.univ]{q14} f14) ∗ Wt c cc0_scratch2.sem l G (SrcZ (F := F) c l) (bits s n 5 3 ++ rest) ∗ (∃ W, owes (c : Thread nD τ) 0 W)) -∗ Q x)
        -∗ wp frame (wpE defs 𝒱 (c : Thread nD τ) bd) Set.univ (k0_part4 i (Memref.whole main_arg0) (Memref.isWhole_whole _) (Memref.whole main_v11) (Memref.isWhole_whole _) (Memref.whole main_v14) (Memref.isWhole_whole _) (Memref.whole main_v15) (Memref.isWhole_whole _) m hm (Memref.whole main_v16) (Memref.isWhole_whole _) (Memref.whole cc0_scratch0) (Memref.isWhole_whole _) cc0_scratch1 cc0_scratch2 a0 0#32 1#32 k) Q) := by
  rw [k0_part4_eq_skeleton]
  unfold k0_part4_skel
  iintro ⟨H11, H14, HI⟩ Hk
  iapply (wp_load_start (F := F) (defs := defs) (𝒱 := 𝒱) (bd := bd) c (k0_off38_eq i k)) $$ H11
  iintro %a %ha H11
  iapply (wp_load_len (F := F) (defs := defs) (𝒱 := 𝒱) (bd := bd) c (k0_off38_eq i k)) $$ H14
  iintro %b %hb H14
  rw [hs] at ha
  rw [hl] at hb
  have hs24 : s < 2 ^ 24 := by omega
  iapply (wp_assume_bind (F := F) (defs := defs) (𝒱 := 𝒱) (bd := bd) c (chk13_holds ha hb hn hsn))
  dsimp only
  iapply (bit_await (F := F) (defs := defs) (𝒱 := 𝒱) (bd := bd) c cc0_scratch2.sem s n 0 7 8 rest (cond10_iff hb hn) rfl) $$ HI
  iintro HI
  iapply (bit_await (F := F) (defs := defs) (𝒱 := 𝒱) (bd := bd) c cc0_scratch2.sem s n 1 6 16 rest (cond11_iff hb hn) rfl) $$ HI
  iintro HI
  iapply (bit_await (F := F) (defs := defs) (𝒱 := 𝒱) (bd := bd) c cc0_scratch2.sem s n 2 5 32 rest (cond12_iff hb hn) rfl) $$ HI
  iintro HI
  iapply (wp_pure_intro (F := F) (defs := defs) (𝒱 := 𝒱) (bd := bd) c)
  iapply Hk $$ [] [H11 H14 HI]
  · ipureintro; exact ⟨ha, hb⟩
  · isplitl [H11]; · iexact H11
    isplitl [H14]; · iexact H14
    iexact HI

theorem t6_step (c : Dev nD) (i : grid0.Coords) (m : Memref sig .tc .vmem S8192x128 .f32) (hm : m.IsWhole) {l : List Piece} {G : Buf (Elt F) (outLoc c)}
    {q11 q14 : PosShare TreeShare} {f11 : Buf (Elt F) ((c : Thread nD τ).loc main_v11)} {f14 : Buf (Elt F) ((c : Thread nD τ).loc main_v14)}
    {defs : Defs nD τ sig (Elt F) Λ₀} {𝒱 : Variants} {bd : Option 𝒱.V}
    (k : Fin k0_t6_loop.trips) {s n : ℕ} (hs : wordAt (n := 256) f11 (32 * k.val + (i 0).val) = s) (hl : wordAt (n := 256) f14 (32 * k.val + (i 0).val) = n)
    (hn : n < 256) (hsn : s + n ≤ 61440) (rest : List Piece) (a0 : BitVec 32) (v0 : BitVec 32) (v5 : Elt F .i32) (hw2 : k0_chk2 i v5) (w1 w2 w3 : BitVec 32) :
    iprop(((c : Thread nD τ).loc main_v11 ↦[Finset.univ]{q11} f11) ∗ ((c : Thread nD τ).loc main_v14 ↦[Finset.univ]{q14} f14) ∗ Wt c cc0_scratch2.sem l G (SrcZ (F := F) c l) (bits s n 8 0 ++ rest) ∗ (∃ W, owes (c : Thread nD τ) 0 W))
      ⊢ wp frame (wpE defs 𝒱 (c : Thread nD τ) bd) Set.univ (k0_t6_body i (Memref.whole main_arg0) (Memref.isWhole_whole _) (Memref.whole main_v11) (Memref.isWhole_whole _) (Memref.whole main_v14) (Memref.isWhole_whole _) (Memref.whole main_v15) (Memref.isWhole_whole _) m hm (Memref.whole main_v16) (Memref.isWhole_whole _) (Memref.whole cc0_scratch0) (Memref.isWhole_whole _) cc0_scratch1 cc0_scratch2 a0 v0 v5 hw2 w1 w2 w3 k ()) (fun _ => iprop(((c : Thread nD τ).loc main_v11 ↦[Finset.univ]{q11} f11) ∗ ((c : Thread nD τ).loc main_v14 ↦[Finset.univ]{q14} f14) ∗ Wt c cc0_scratch2.sem l G (SrcZ (F := F) c l) (bits s n 0 8 ++ rest) ∗ (∃ W, owes (c : Thread nD τ) 0 W))) := by
  unfold k0_t6_body
  have hs24 : s < 2 ^ 24 := by omega
  rw [wp_bind]
  iintro H
  iapply (part4_step (F := F) (defs := defs) (𝒱 := 𝒱) (bd := bd) c i m hm k hs hl hn hsn rest a0) $$ H
  iintro %x %hx ⟨H11, H14, HI⟩
  obtain ⟨a, b, hw, w0, w1⟩ := x
  obtain ⟨ha, hb⟩ := hx
  dsimp only at ha hb ⊢
  iapply (bit_await (F := F) (defs := defs) (𝒱 := 𝒱) (bd := bd) c cc0_scratch2.sem s n 3 4 64 rest (cond13_iff hb hn) rfl) $$ HI
  iintro HI
  iapply (bit_await (F := F) (defs := defs) (𝒱 := 𝒱) (bd := bd) c cc0_scratch2.sem s n 4 3 128 rest (cond14_iff hb hn) rfl) $$ HI
  iintro HI
  iapply (bit_await (F := F) (defs := defs) (𝒱 := 𝒱) (bd := bd) c cc0_scratch2.sem s n 5 2 256 rest (cond15_iff hb hn) rfl) $$ HI
  iintro HI
  iapply (bit_await (F := F) (defs := defs) (𝒱 := 𝒱) (bd := bd) c cc0_scratch2.sem s n 6 1 512 rest (cond16_iff hb hn) rfl) $$ HI
  iintro HI
  iapply (bit_await (F := F) (defs := defs) (𝒱 := 𝒱) (bd := bd) c cc0_scratch2.sem s n 7 0 1024 rest (cond17_iff hb hn) rfl) $$ HI
  iintro HI
  iapply (wp_pure_intro (F := F) (defs := defs) (𝒱 := 𝒱) (bd := bd) c)
  isplitl [H11]; · iexact H11
  isplitl [H14]; · iexact H14
  iexact HI

end Cert.KernelIdeal.Hand
-- ==== Proof.Rows.lean ====
/- One trip of each of the body's loops over the rows of the staged block. -/
module

public import proofs.«01_k».proof.Proof.Copies
public import proofs.«01_k».proof.Proof.Tail

@[expose] public section

set_option synthInstance.maxSize 4096

noncomputable section

namespace Cert.KernelIdeal.Hand

open Cert.KernelIdeal Cert.KernelIdeal.Gen Cert.Plan
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

theorem two_eq {a b : ℕ} (h : a = b) : (![a, 0] : Fin 2 → ℕ) = ![b, 0] := by rw [h]

theorem part2_step (c : Dev nD) (i : grid0.Coords) (m : Memref sig .tc .vmem S8192x128 .f32) (hm : m.IsWhole) {l : List Piece} {V G : Buf (Elt F) (outLoc c)} {fx : Buf (Elt F) (m.view.loc (c : Thread nD τ))}
    {q0 : PosShare TreeShare} {f0 : Buf (Elt F) ((c : Thread nD τ).loc main_arg0)} (hsep : l.Pairwise Sep)
    (hG : ∀ j < 1024, ∀ (u : S8192x128.Idx) (v : S491520x128.Idx) (r : ℕ), (u 0).val = 8 * j + r → (v 0).val = 8 * wordAt (n := 32768) f0 (1024 * (i 0).val + j) + r
      → r < 8 → (u 1).val = (v 1).val → m.view.read (Elt F) fx u = G v)
    (hpos : ∀ t < 32768, wordAt (n := 32768) f0 t < 61440)
    {defs : Defs nD τ sig (Elt F) Λ₀} {𝒱 : Variants} {bd : Option 𝒱.V}
    (k : Fin k0_t4_loop.trips) (rest : List Piece) (hlen : 8 * k.val + 8 + rest.length = l.length) (v0 : BitVec 32)
    {Q : (Σ' (_ : BitVec 32), BitVec 32) → sProp 𝕄} :
    iprop(((c : Thread nD τ).loc main_arg0 ↦[Finset.univ]{q0} f0) ∗ Iss c cc0_scratch1.sem l V G (SrcR (F := F) c m fx l.length) ((wordAt (n := 32768) f0 (1024 * (i 0).val + 8 * k.val + 0), 1) :: (wordAt (n := 32768) f0 (1024 * (i 0).val + 8 * k.val + 1), 1) :: (wordAt (n := 32768) f0 (1024 * (i 0).val + 8 * k.val + 2), 1) :: (wordAt (n := 32768) f0 (1024 * (i 0).val + 8 * k.val + 3), 1) :: (wordAt (n := 32768) f0 (1024 * (i 0).val + 8 * k.val + 4), 1) :: (wordAt (n := 32768) f0 (1024 * (i 0).val + 8 * k.val + 5), 1) :: (wordAt (n := 32768) f0 (1024 * (i 0).val + 8 * k.val + 6), 1) :: (wordAt (n := 32768) f0 (1024 * (i 0).val + 8 * k.val + 7), 1) :: rest))
      ⊢ iprop((∀ x, (((c : Thread nD τ).loc main_arg0 ↦[Finset.univ]{q0} f0) ∗ Iss c cc0_scratch1.sem l V G (SrcR (F := F) c m fx l.length) ((wordAt (n := 32768) f0 (1024 * (i 0).val + 8 * k.val + 3), 1) :: (wordAt (n := 32768) f0 (1024 * (i 0).val + 8 * k.val + 4), 1) :: (wordAt (n := 32768) f0 (1024 * (i 0).val + 8 * k.val + 5), 1) :: (wordAt (n := 32768) f0 (1024 * (i 0).val + 8 * k.val + 6), 1) :: (wordAt (n := 32768) f0 (1024 * (i 0).val + 8 * k.val + 7), 1) :: rest)) -∗ Q x)
        -∗ wp frame (wpE defs 𝒱 (c : Thread nD τ) bd) Set.univ (k0_part2 i (Memref.whole main_arg0) (Memref.isWhole_whole _) (Memref.whole main_v11) (Memref.isWhole_whole _) (Memref.whole main_v14) (Memref.isWhole_whole _) (Memref.whole main_v15) (Memref.isWhole_whole _) m hm (Memref.whole main_v16) (Memref.isWhole_whole _) (Memref.whole cc0_scratch0) (Memref.isWhole_whole _) cc0_scratch1 cc0_scratch2 v0 0#32 1#32 k) Q) := by
  have hk : k.val < 128 := lt_of_lt_of_le k.isLt k0_t4_abs.2.1
  have hi : (i 0).val < 32 := (i 0).isLt
  have hGk : ∀ b < 8, ∀ (u : S8192x128.Idx) (v : S491520x128.Idx) (r : ℕ), (u 0).val = 8 * (8 * k.val + b) + r
      → (v 0).val = 8 * wordAt (n := 32768) f0 (1024 * (i 0).val + 8 * k.val + b) + r → r < 8 → (u 1).val = (v 1).val → m.view.read (Elt F) fx u = G v := by
    intro b hb u v r h1 h2
    exact hG (8 * k.val + b) (by omega) u v r h1 (by rw [← Nat.add_assoc]; exact h2)
  rw [k0_part2_eq_skeleton]
  unfold k0_part2_skel
  iintro ⟨H0, HI⟩ Hk
  try dsimp only
  iapply (wp_load_pos (F := F) (defs := defs) (𝒱 := 𝒱) (bd := bd) c (k0_off14_eq i k)) $$ H0
  iintro %w0 %hw0 H0
  have hl0 : BitVec.toNat w0 < 61440 := by rw [hw0]; exact hpos _ (by omega)
  iapply (wp_assume_bind (F := F) (defs := defs) (𝒱 := 𝒱) (bd := bd) c (chk5_holds rfl hl0))
  dsimp only
  iapply (issue_row (F := F) (defs := defs) (𝒱 := 𝒱) (bd := bd) c cc0_scratch1.sem hsep (8 * k.val + 0) (hGk 0 (by omega)) (by first | omega | (simp only [List.length_cons]; omega))
    ((off15_eq rfl hl0).trans (two_eq (by simp only [hw0, Nat.add_zero]))) ((k0_off16_eq k).trans (two_eq (by omega)))) $$ HI
  iintro HI
  iapply (wp_load_pos (F := F) (defs := defs) (𝒱 := 𝒱) (bd := bd) c (k0_off17_eq i k)) $$ H0
  iintro %w1 %hw1 H0
  have hl1 : BitVec.toNat w1 < 61440 := by rw [hw1]; exact hpos _ (by omega)
  iapply (wp_assume_bind (F := F) (defs := defs) (𝒱 := 𝒱) (bd := bd) c (chk6_holds rfl hl1))
  dsimp only
  iapply (issue_row (F := F) (defs := defs) (𝒱 := 𝒱) (bd := bd) c cc0_scratch1.sem hsep (8 * k.val + 1) (hGk 1 (by omega)) (by first | omega | (simp only [List.length_cons]; omega))
    ((off18_eq rfl hl1).trans (two_eq (by simp only [hw1, Nat.add_zero]))) ((k0_off19_eq k).trans (two_eq (by omega)))) $$ HI
  iintro HI
  iapply (wp_load_pos (F := F) (defs := defs) (𝒱 := 𝒱) (bd := bd) c (k0_off20_eq i k)) $$ H0
  iintro %w2 %hw2 H0
  have hl2 : BitVec.toNat w2 < 61440 := by rw [hw2]; exact hpos _ (by omega)
  iapply (wp_assume_bind (F := F) (defs := defs) (𝒱 := 𝒱) (bd := bd) c (chk7_holds rfl hl2))
  dsimp only
  iapply (issue_row (F := F) (defs := defs) (𝒱 := 𝒱) (bd := bd) c cc0_scratch1.sem hsep (8 * k.val + 2) (hGk 2 (by omega)) (by first | omega | (simp only [List.length_cons]; omega))
    ((off21_eq rfl hl2).trans (two_eq (by simp only [hw2, Nat.add_zero]))) ((k0_off22_eq k).trans (two_eq (by omega)))) $$ HI
  iintro HI
  iapply (wp_pure_intro (F := F) (defs := defs) (𝒱 := 𝒱) (bd := bd) c)
  iapply Hk
  isplitl [H0]; · iexact H0
  iexact HI

theorem part3_step (c : Dev nD) (i : grid0.Coords) (m : Memref sig .tc .vmem S8192x128 .f32) (hm : m.IsWhole) {l : List Piece} {V G : Buf (Elt F) (outLoc c)} {fx : Buf (Elt F) (m.view.loc (c : Thread nD τ))}
    {q0 : PosShare TreeShare} {f0 : Buf (Elt F) ((c : Thread nD τ).loc main_arg0)} (hsep : l.Pairwise Sep)
    (hG : ∀ j < 1024, ∀ (u : S8192x128.Idx) (v : S491520x128.Idx) (r : ℕ), (u 0).val = 8 * j + r → (v 0).val = 8 * wordAt (n := 32768) f0 (1024 * (i 0).val + j) + r
      → r < 8 → (u 1).val = (v 1).val → m.view.read (Elt F) fx u = G v)
    (hpos : ∀ t < 32768, wordAt (n := 32768) f0 t < 61440)
    {defs : Defs nD τ sig (Elt F) Λ₀} {𝒱 : Variants} {bd : Option 𝒱.V}
    (k : Fin k0_t4_loop.trips) (rest : List Piece) (hlen : 8 * k.val + 8 + rest.length = l.length) (v0 w0 w1 : BitVec 32)
    {Q : (Σ' (_ : BitVec 32), BitVec 32) → sProp 𝕄} :
    iprop(((c : Thread nD τ).loc main_arg0 ↦[Finset.univ]{q0} f0) ∗ Iss c cc0_scratch1.sem l V G (SrcR (F := F) c m fx l.length) ((wordAt (n := 32768) f0 (1024 * (i 0).val + 8 * k.val + 3), 1) :: (wordAt (n := 32768) f0 (1024 * (i 0).val + 8 * k.val + 4), 1) :: (wordAt (n := 32768) f0 (1024 * (i 0).val + 8 * k.val + 5), 1) :: (wordAt (n := 32768) f0 (1024 * (i 0).val + 8 * k.val + 6), 1) :: (wordAt (n := 32768) f0 (1024 * (i 0).val + 8 * k.val + 7), 1) :: rest))
      ⊢ iprop((∀ x, (((c : Thread nD τ).loc main_arg0 ↦[Finset.univ]{q0} f0) ∗ Iss c cc0_scratch1.sem l V G (SrcR (F := F) c m fx l.length) ((wordAt (n := 32768) f0 (1024 * (i 0).val + 8 * k.val + 6), 1) :: (wordAt (n := 32768) f0 (1024 * (i 0).val + 8 * k.val + 7), 1) :: rest)) -∗ Q x)
        -∗ wp frame (wpE defs 𝒱 (c : Thread nD τ) bd) Set.univ (k0_part3 i (Memref.whole main_arg0) (Memref.isWhole_whole _) (Memref.whole main_v11) (Memref.isWhole_whole _) (Memref.whole main_v14) (Memref.isWhole_whole _) (Memref.whole main_v15) (Memref.isWhole_whole _) m hm (Memref.whole main_v16) (Memref.isWhole_whole _) (Memref.whole cc0_scratch0) (Memref.isWhole_whole _) cc0_scratch1 cc0_scratch2 v0 k w0 w1) Q) := by
  have hk : k.val < 128 := lt_of_lt_of_le k.isLt k0_t4_abs.2.1
  have hi : (i 0).val < 32 := (i 0).isLt
  have hGk : ∀ b < 8, ∀ (u : S8192x128.Idx) (v : S491520x128.Idx) (r : ℕ), (u 0).val = 8 * (8 * k.val + b) + r
      → (v 0).val = 8 * wordAt (n := 32768) f0 (1024 * (i 0).val + 8 * k.val + b) + r → r < 8 → (u 1).val = (v 1).val → m.view.read (Elt F) fx u = G v := by
    intro b hb u v r h1 h2
    exact hG (8 * k.val + b) (by omega) u v r h1 (by rw [← Nat.add_assoc]; exact h2)
  rw [k0_part3_eq_skeleton]
  unfold k0_part3_skel
  iintro ⟨H0, HI⟩ Hk
  try dsimp only
  iapply (wp_load_pos (F := F) (defs := defs) (𝒱 := 𝒱) (bd := bd) c (k0_off23_eq i k)) $$ H0
  iintro %w3 %hw3 H0
  have hl3 : BitVec.toNat w3 < 61440 := by rw [hw3]; exact hpos _ (by omega)
  iapply (wp_assume_bind (F := F) (defs := defs) (𝒱 := 𝒱) (bd := bd) c (chk8_holds rfl hl3))
  dsimp only
  iapply (issue_row (F := F) (defs := defs) (𝒱 := 𝒱) (bd := bd) c cc0_scratch1.sem hsep (8 * k.val + 3) (hGk 3 (by omega)) (by first | omega | (simp only [List.length_cons]; omega))
    ((off24_eq rfl hl3).trans (two_eq (by simp only [hw3, Nat.add_zero]))) ((k0_off25_eq k).trans (two_eq (by omega)))) $$ HI
  iintro HI
  iapply (wp_load_pos (F := F) (defs := defs) (𝒱 := 𝒱) (bd := bd) c (k0_off26_eq i k)) $$ H0
  iintro %w4 %hw4 H0
  have hl4 : BitVec.toNat w4 < 61440 := by rw [hw4]; exact hpos _ (by omega)
  iapply (wp_assume_bind (F := F) (defs := defs) (𝒱 := 𝒱) (bd := bd) c (chk9_holds rfl hl4))
  dsimp only
  iapply (issue_row (F := F) (defs := defs) (𝒱 := 𝒱) (bd := bd) c cc0_scratch1.sem hsep (8 * k.val + 4) (hGk 4 (by omega)) (by first | omega | (simp only [List.length_cons]; omega))
    ((off27_eq rfl hl4).trans (two_eq (by simp only [hw4, Nat.add_zero]))) ((k0_off28_eq k).trans (two_eq (by omega)))) $$ HI
  iintro HI
  iapply (wp_load_pos (F := F) (defs := defs) (𝒱 := 𝒱) (bd := bd) c (k0_off29_eq i k)) $$ H0
  iintro %w5 %hw5 H0
  have hl5 : BitVec.toNat w5 < 61440 := by rw [hw5]; exact hpos _ (by omega)
  iapply (wp_assume_bind (F := F) (defs := defs) (𝒱 := 𝒱) (bd := bd) c (chk10_holds rfl hl5))
  dsimp only
  iapply (issue_row (F := F) (defs := defs) (𝒱 := 𝒱) (bd := bd) c cc0_scratch1.sem hsep (8 * k.val + 5) (hGk 5 (by omega)) (by first | omega | (simp only [List.length_cons]; omega))
    ((off30_eq rfl hl5).trans (two_eq (by simp only [hw5, Nat.add_zero]))) ((k0_off31_eq k).trans (two_eq (by omega)))) $$ HI
  iintro HI
  iapply (wp_pure_intro (F := F) (defs := defs) (𝒱 := 𝒱) (bd := bd) c)
  iapply Hk
  isplitl [H0]; · iexact H0
  iexact HI

theorem t4_step (c : Dev nD) (i : grid0.Coords) (m : Memref sig .tc .vmem S8192x128 .f32) (hm : m.IsWhole) {l : List Piece} {V G : Buf (Elt F) (outLoc c)} {fx : Buf (Elt F) (m.view.loc (c : Thread nD τ))}
    {q0 : PosShare TreeShare} {f0 : Buf (Elt F) ((c : Thread nD τ).loc main_arg0)} (hsep : l.Pairwise Sep)
    (hG : ∀ j < 1024, ∀ (u : S8192x128.Idx) (v : S491520x128.Idx) (r : ℕ), (u 0).val = 8 * j + r → (v 0).val = 8 * wordAt (n := 32768) f0 (1024 * (i 0).val + j) + r
      → r < 8 → (u 1).val = (v 1).val → m.view.read (Elt F) fx u = G v)
    (hpos : ∀ t < 32768, wordAt (n := 32768) f0 t < 61440)
    {defs : Defs nD τ sig (Elt F) Λ₀} {𝒱 : Variants} {bd : Option 𝒱.V}
    (k : Fin k0_t4_loop.trips) (rest : List Piece) (hlen : 8 * k.val + 8 + rest.length = l.length)
    (a0 v0 : BitVec 32) (v5 : Elt F .i32) (hw2 : k0_chk2 i v5) (u1 u2 u3 : BitVec 32) :
    iprop(((c : Thread nD τ).loc main_arg0 ↦[Finset.univ]{q0} f0) ∗ Iss c cc0_scratch1.sem l V G (SrcR (F := F) c m fx l.length) ((wordAt (n := 32768) f0 (1024 * (i 0).val + 8 * k.val + 0), 1) :: (wordAt (n := 32768) f0 (1024 * (i 0).val + 8 * k.val + 1), 1) :: (wordAt (n := 32768) f0 (1024 * (i 0).val + 8 * k.val + 2), 1) :: (wordAt (n := 32768) f0 (1024 * (i 0).val + 8 * k.val + 3), 1) :: (wordAt (n := 32768) f0 (1024 * (i 0).val + 8 * k.val + 4), 1) :: (wordAt (n := 32768) f0 (1024 * (i 0).val + 8 * k.val + 5), 1) :: (wordAt (n := 32768) f0 (1024 * (i 0).val + 8 * k.val + 6), 1) :: (wordAt (n := 32768) f0 (1024 * (i 0).val + 8 * k.val + 7), 1) :: rest))
      ⊢ wp frame (wpE defs 𝒱 (c : Thread nD τ) bd) Set.univ (k0_t4_body i (Memref.whole main_arg0) (Memref.isWhole_whole _) (Memref.whole main_v11) (Memref.isWhole_whole _) (Memref.whole main_v14) (Memref.isWhole_whole _) (Memref.whole main_v15) (Memref.isWhole_whole _) m hm (Memref.whole main_v16) (Memref.isWhole_whole _) (Memref.whole cc0_scratch0) (Memref.isWhole_whole _) cc0_scratch1 cc0_scratch2 a0 v0 v5 hw2 u1 u2 u3 k ()) (fun _ => iprop(((c : Thread nD τ).loc main_arg0 ↦[Finset.univ]{q0} f0) ∗ Iss c cc0_scratch1.sem l V G (SrcR (F := F) c m fx l.length) (rest))) := by
  have hk : k.val < 128 := lt_of_lt_of_le k.isLt k0_t4_abs.2.1
  have hi : (i 0).val < 32 := (i 0).isLt
  have hGk : ∀ b < 8, ∀ (u : S8192x128.Idx) (v : S491520x128.Idx) (r : ℕ), (u 0).val = 8 * (8 * k.val + b) + r
      → (v 0).val = 8 * wordAt (n := 32768) f0 (1024 * (i 0).val + 8 * k.val + b) + r → r < 8 → (u 1).val = (v 1).val → m.view.read (Elt F) fx u = G v := by
    intro b hb u v r h1 h2
    exact hG (8 * k.val + b) (by omega) u v r h1 (by rw [← Nat.add_assoc]; exact h2)
  unfold k0_t4_body
  rw [wp_bind]
  iintro H
  iapply (part2_step (F := F) (defs := defs) (𝒱 := 𝒱) (bd := bd) c i m hm hsep hG hpos k rest hlen v0) $$ H
  iintro %x H
  obtain ⟨x0, x1⟩ := x
  dsimp only
  rw [wp_bind]
  iapply (part3_step (F := F) (defs := defs) (𝒱 := 𝒱) (bd := bd) c i m hm hsep hG hpos k rest hlen v0 x0 x1) $$ H
  iintro %x ⟨H0, HI⟩
  obtain ⟨x2, x3⟩ := x
  dsimp only
  iapply (wp_load_pos (F := F) (defs := defs) (𝒱 := 𝒱) (bd := bd) c (k0_off32_eq i k)) $$ H0
  iintro %w6 %hw6 H0
  have hl6 : BitVec.toNat w6 < 61440 := by rw [hw6]; exact hpos _ (by omega)
  iapply (wp_assume_bind (F := F) (defs := defs) (𝒱 := 𝒱) (bd := bd) c (chk11_holds rfl hl6))
  dsimp only
  iapply (issue_row (F := F) (defs := defs) (𝒱 := 𝒱) (bd := bd) c cc0_scratch1.sem hsep (8 * k.val + 6) (hGk 6 (by omega)) (by first | omega | (simp only [List.length_cons]; omega))
    ((off33_eq rfl hl6).trans (two_eq (by simp only [hw6, Nat.add_zero]))) ((k0_off34_eq k).trans (two_eq (by omega)))) $$ HI
  iintro HI
  iapply (wp_load_pos (F := F) (defs := defs) (𝒱 := 𝒱) (bd := bd) c (k0_off35_eq i k)) $$ H0
  iintro %w7 %hw7 H0
  have hl7 : BitVec.toNat w7 < 61440 := by rw [hw7]; exact hpos _ (by omega)
  iapply (wp_assume_bind (F := F) (defs := defs) (𝒱 := 𝒱) (bd := bd) c (chk12_holds rfl hl7))
  dsimp only
  iapply (issue_row (F := F) (defs := defs) (𝒱 := 𝒱) (bd := bd) c cc0_scratch1.sem hsep (8 * k.val + 7) (hGk 7 (by omega)) (by first | omega | (simp only [List.length_cons]; omega))
    ((off36_eq rfl hl7).trans (two_eq (by simp only [hw7, Nat.add_zero]))) ((k0_off37_eq k).trans (two_eq (by omega)))) $$ HI
  iintro HI
  iapply (wp_pure_intro (F := F) (defs := defs) (𝒱 := 𝒱) (bd := bd) c)
  isplitl [H0]; · iexact H0
  iexact HI

theorem t5_step (c : Dev nD) (i : grid0.Coords) (m : Memref sig .tc .vmem S8192x128 .f32) (hm : m.IsWhole) {l : List Piece} {G : Buf (Elt F) (outLoc c)} {Src : Fin l.length → sProp 𝕄} {defs : Defs nD τ sig (Elt F) Λ₀} {𝒱 : Variants} {bd : Option 𝒱.V}
    (k : Fin k0_t5_loop.trips) (s : ℕ) (rest : List Piece)
    (a0 v0 : BitVec 32) (v5 : Elt F .i32) (hw2 : k0_chk2 i v5) (u1 u2 u3 : BitVec 32) :
    iprop(Wt c cc0_scratch1.sem l G Src ((s, 1) :: rest) ∗ (∃ W, owes (c : Thread nD τ) 0 W))
      ⊢ wp frame (wpE defs 𝒱 (c : Thread nD τ) bd) Set.univ (k0_t5_body i (Memref.whole main_arg0) (Memref.isWhole_whole _) (Memref.whole main_v11) (Memref.isWhole_whole _) (Memref.whole main_v14) (Memref.isWhole_whole _) (Memref.whole main_v15) (Memref.isWhole_whole _) m hm (Memref.whole main_v16) (Memref.isWhole_whole _) (Memref.whole cc0_scratch0) (Memref.isWhole_whole _) cc0_scratch1 cc0_scratch2 a0 v0 v5 hw2 u1 u2 u3 k ()) (fun _ => iprop(Wt c cc0_scratch1.sem l G Src rest ∗ (∃ W, owes (c : Thread nD τ) 0 W))) := by
  unfold k0_t5_body
  iintro H
  iapply (await_bind (F := F) (defs := defs) (𝒱 := 𝒱) (bd := bd) c cc0_scratch1.sem (p := (s, 1)) 8 rfl) $$ H
  iintro H
  iapply (wp_pure_intro (F := F) (defs := defs) (𝒱 := 𝒱) (bd := bd) c)
  iexact H

end Cert.KernelIdeal.Hand
-- ==== Proof.Tiles.lean ====
/- One trip of each of the body's loops over the unused tiles. -/
module

public import proofs.«01_k».proof.Proof.Copies
public import proofs.«01_k».proof.Proof.Tail

@[expose] public section

set_option synthInstance.maxSize 4096

noncomputable section

namespace Cert.KernelIdeal.Hand

open Cert.KernelIdeal Cert.KernelIdeal.Gen Cert.Plan
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

theorem t2_step (c : Dev nD) (i : grid0.Coords) (m : Memref sig .tc .vmem S8192x128 .f32) (hm : m.IsWhole) {l : List Piece} {V G : Buf (Elt F) (outLoc c)} (hsep : l.Pairwise Sep) (hG : ∀ p ∈ l, ∀ x ∈ K p, G x = z0 (F := F))
    {q15 : PosShare TreeShare} {f15 : Buf (Elt F) ((c : Thread nD τ).loc main_v15)} {defs : Defs nD τ sig (Elt F) Λ₀} {𝒱 : Variants} {bd : Option 𝒱.V} {tot : ℕ} (htot : wordAt (n := 1) f15 0 = tot)
    (a0 v0 : BitVec 32) (v5 : Elt F .i32) (hw2 : k0_chk2 i v5) (u1 u2 u3 : BitVec 32)
    (k : Fin (k0_t2_loop i v5).trips) (hle : tot + (i 0).val + 32 * k.val < 240) (rest : List Piece) :
    iprop(((c : Thread nD τ).loc main_v15 ↦[Finset.univ]{q15} f15) ∗ Iss c cc0_scratch2.sem l V G (SrcZ (F := F) c l) ((256 * (tot + (i 0).val + 32 * k.val), 128) :: (256 * (tot + (i 0).val + 32 * k.val) + 128, 128) :: rest))
      ⊢ wp frame (wpE defs 𝒱 (c : Thread nD τ) bd) Set.univ (k0_t2_body i (Memref.whole main_arg0) (Memref.isWhole_whole _) (Memref.whole main_v11) (Memref.isWhole_whole _) (Memref.whole main_v14) (Memref.isWhole_whole _) (Memref.whole main_v15) (Memref.isWhole_whole _) m hm (Memref.whole main_v16) (Memref.isWhole_whole _) (Memref.whole cc0_scratch0) (Memref.isWhole_whole _) cc0_scratch1 cc0_scratch2 a0 v0 v5 hw2 u1 u2 u3 k ()) (fun _ => iprop(((c : Thread nD τ).loc main_v15 ↦[Finset.univ]{q15} f15) ∗ Iss c cc0_scratch2.sem l V G (SrcZ (F := F) c l) rest)) := by
  unfold k0_t2_body
  iintro ⟨H15, HI⟩
  iapply (wp_load_total (F := F) (defs := defs) (𝒱 := 𝒱) (bd := bd) c rfl) $$ H15
  iintro %w %hw H15
  rw [htot] at hw
  iapply (wp_assume_bind (F := F) (defs := defs) (𝒱 := 𝒱) (bd := bd) c (chk3_holds i hw k hle))
  dsimp only
  iapply (issue_zero (F := F) (defs := defs) (𝒱 := 𝒱) (bd := bd) c cc0_scratch2.sem hsep hG 1024 rfl (off10_eq i hw k hle)) $$ HI
  iintro HI
  iapply (issue_zero (F := F) (defs := defs) (𝒱 := 𝒱) (bd := bd) c cc0_scratch2.sem hsep hG 1024 rfl (off11_eq i hw k hle)) $$ HI
  iintro HI
  iapply (wp_pure_intro (F := F) (defs := defs) (𝒱 := 𝒱) (bd := bd) c)
  isplitl [H15]; · iexact H15
  iexact HI

theorem t7_step (c : Dev nD) (i : grid0.Coords) (m : Memref sig .tc .vmem S8192x128 .f32) (hm : m.IsWhole) {l : List Piece} {G : Buf (Elt F) (outLoc c)} {Src : Fin l.length → sProp 𝕄}
    {q15 : PosShare TreeShare} {f15 : Buf (Elt F) ((c : Thread nD τ).loc main_v15)} {defs : Defs nD τ sig (Elt F) Λ₀} {𝒱 : Variants} {bd : Option 𝒱.V} {tot : ℕ} (htot : wordAt (n := 1) f15 0 = tot) (v36 : Elt F .i32) (hw14 : k0_chk14 i v36)
    (k : Fin (k0_t7_loop i v36).trips) (hle : tot + (i 0).val + 32 * k.val < 240) (rest : List Piece) :
    iprop(((c : Thread nD τ).loc main_v15 ↦[Finset.univ]{q15} f15) ∗ Wt c cc0_scratch2.sem l G Src ((256 * (tot + (i 0).val + 32 * k.val), 128) :: (256 * (tot + (i 0).val + 32 * k.val) + 128, 128) :: rest) ∗ (∃ W, owes (c : Thread nD τ) 0 W))
      ⊢ wp frame (wpE defs 𝒱 (c : Thread nD τ) bd) Set.univ (k0_t7_body i (Memref.whole main_arg0) (Memref.isWhole_whole _) (Memref.whole main_v11) (Memref.isWhole_whole _) (Memref.whole main_v14) (Memref.isWhole_whole _) (Memref.whole main_v15) (Memref.isWhole_whole _) m hm (Memref.whole main_v16) (Memref.isWhole_whole _) (Memref.whole cc0_scratch0) (Memref.isWhole_whole _) cc0_scratch1 cc0_scratch2 v36 hw14 k ()) (fun _ => iprop(((c : Thread nD τ).loc main_v15 ↦[Finset.univ]{q15} f15) ∗ Wt c cc0_scratch2.sem l G Src rest ∗ (∃ W, owes (c : Thread nD τ) 0 W))) := by
  unfold k0_t7_body
  iintro ⟨H15, HI⟩
  iapply (wp_load_total (F := F) (defs := defs) (𝒱 := 𝒱) (bd := bd) c rfl) $$ H15
  iintro %w %hw H15
  rw [htot] at hw
  iapply (wp_assume_bind (F := F) (defs := defs) (𝒱 := 𝒱) (bd := bd) c (chk15_holds i hw k hle))
  dsimp only
  iapply (await_bind (F := F) (defs := defs) (𝒱 := 𝒱) (bd := bd) c cc0_scratch2.sem (p := (256 * (tot + (i 0).val + 32 * k.val), 128)) 1024 rfl) $$ HI
  iintro HI
  iapply (await_bind (F := F) (defs := defs) (𝒱 := 𝒱) (bd := bd) c cc0_scratch2.sem (p := (256 * (tot + (i 0).val + 32 * k.val) + 128, 128)) 1024 rfl) $$ HI
  iintro HI
  iapply (wp_pure_intro (F := F) (defs := defs) (𝒱 := 𝒱) (bd := bd) c)
  isplitl [H15]; · iexact H15
  iexact HI

theorem padList_succ (ps pl : ℕ → ℕ) (i k n : ℕ) :
    padList ps pl i k (n + 1) = bits (ps (32 * k + i)) (pl (32 * k + i)) 8 0 ++ padList ps pl i (k + 1) n := by
  unfold padList; rw [List.range'_succ, List.flatMap_cons]

theorem tailList_succ (tot i k n : ℕ) :
    tailList tot i k (n + 1) = (256 * (tot + i + 32 * k), 128) :: (256 * (tot + i + 32 * k) + 128, 128) :: tailList tot i (k + 1) n := by
  unfold tailList; rw [List.range'_succ, List.flatMap_cons]; rfl

theorem rowList_succ (pos : ℕ → ℕ) (i k n : ℕ) : rowList pos i k (n + 1) = (pos (1024 * i + k), 1) :: rowList pos i (k + 1) n := by
  unfold rowList; rw [List.range'_succ, List.map_cons]

theorem length_rowList (pos : ℕ → ℕ) (i k n : ℕ) : (rowList pos i k n).length = n := by
  unfold rowList; rw [List.length_map, List.length_range']

end Cert.KernelIdeal.Hand
-- ==== Proof.Loops.lean ====
/- The loops of the dispatch body, whole. -/
module

public import proofs.«01_k».proof.Proof.Copies
public import proofs.«01_k».proof.Proof.Gaps
public import proofs.«01_k».proof.Proof.Rows
public import proofs.«01_k».proof.Proof.Tiles

@[expose] public section

set_option synthInstance.maxSize 4096

noncomputable section

namespace Cert.KernelIdeal.Hand

open Cert.KernelIdeal Cert.KernelIdeal.Gen Cert.Plan
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

theorem t1_trips : k0_t1_loop.trips = 8 := by decide +kernel
theorem t4_trips : k0_t4_loop.trips = 128 := by decide +kernel
theorem t5_trips : k0_t5_loop.trips = 1024 := by decide +kernel
theorem t6_trips : k0_t6_loop.trips = 8 := by decide +kernel

theorem step_sub {n k : ℕ} (h : k < n) : n - k = (n - (k + 1)) + 1 := by omega

theorem t1_loop (c : Dev nD) (i : grid0.Coords) (m : Memref sig .tc .vmem S8192x128 .f32) (hm : m.IsWhole) {l : List Piece} {V G : Buf (Elt F) (outLoc c)}
    (hsep : l.Pairwise Sep) (hG : ∀ p ∈ l, ∀ x ∈ K p, G x = z0 (F := F))
    {q11 q14 : PosShare TreeShare} {f11 : Buf (Elt F) ((c : Thread nD τ).loc main_v11)} {f14 : Buf (Elt F) ((c : Thread nD τ).loc main_v14)}
    (hpl : ∀ b < 256, wordAt (n := 256) f14 b < 256) (hps : ∀ b < 256, wordAt (n := 256) f11 b + wordAt (n := 256) f14 b ≤ 61440) (rest : List Piece) (a0 : BitVec 32) {defs : Defs nD τ sig (Elt F) Λ₀} {𝒱 : Variants} {bd : Option 𝒱.V}
    {β : Type} {kk : Unit → Prog (TpuEff nD τ sig (Elt F) Λ₀ .tc) β} {Q : β → sProp 𝕄} :
    iprop(((c : Thread nD τ).loc main_v11 ↦[Finset.univ]{q11} f11) ∗ ((c : Thread nD τ).loc main_v14 ↦[Finset.univ]{q14} f14) ∗ Iss c cc0_scratch2.sem l V G (SrcZ (F := F) c l) (padList (wordAt (n := 256) f11) (wordAt (n := 256) f14) (i 0).val 0 8 ++ rest))
      ⊢ iprop(((((c : Thread nD τ).loc main_v11 ↦[Finset.univ]{q11} f11) ∗ ((c : Thread nD τ).loc main_v14 ↦[Finset.univ]{q14} f14) ∗ Iss c cc0_scratch2.sem l V G (SrcZ (F := F) c l) (rest)) -∗ wp frame (wpE defs 𝒱 (c : Thread nD τ) bd) Set.univ (kk ()) Q)
        -∗ wp frame (wpE defs 𝒱 (c : Thread nD τ) bd) Set.univ (Scf.Loop.for k0_t1_loop k0_t1_ok () (k0_t1_body i (Memref.whole main_arg0) (Memref.isWhole_whole _) (Memref.whole main_v11) (Memref.isWhole_whole _) (Memref.whole main_v14) (Memref.isWhole_whole _) (Memref.whole main_v15) (Memref.isWhole_whole _) m hm (Memref.whole main_v16) (Memref.isWhole_whole _) (Memref.whole cc0_scratch0) (Memref.isWhole_whole _) cc0_scratch1 cc0_scratch2 a0) >>= kk) Q) := by
  iintro H Hk
  iapply (Scf.wp_for_bind frame (wpE defs 𝒱 (c : Thread nD τ) bd) Set.univ _ _ _ k0_t1_ok () (k0_t1_body i (Memref.whole main_arg0) (Memref.isWhole_whole _) (Memref.whole main_v11) (Memref.isWhole_whole _) (Memref.whole main_v14) (Memref.isWhole_whole _) (Memref.whole main_v15) (Memref.isWhole_whole _) m hm (Memref.whole main_v16) (Memref.isWhole_whole _) (Memref.whole cc0_scratch0) (Memref.isWhole_whole _) cc0_scratch1 cc0_scratch2 a0)
    (fun k _ => iprop(((c : Thread nD τ).loc main_v11 ↦[Finset.univ]{q11} f11) ∗ ((c : Thread nD τ).loc main_v14 ↦[Finset.univ]{q14} f14) ∗ Iss c cc0_scratch2.sem l V G (SrcZ (F := F) c l) (padList (wordAt (n := 256) f11) (wordAt (n := 256) f14) (i 0).val k (8 - k) ++ rest))) (by
    intro k acc
    have hk : k.val < 8 := lt_of_lt_of_le k.isLt k0_t1_abs.2.1
    have hi : (i 0).val < 32 := (i 0).isLt
    have e : 8 - k.val = (8 - (k.val + 1)) + 1 := by omega
    have hb : 32 * k.val + (i 0).val < 256 := by omega
    rw [e, padList_succ, List.append_assoc]
    exact t1_step (F := F) (defs := defs) (𝒱 := 𝒱) (bd := bd) c i m hm hsep hG k rfl rfl (hpl _ hb) (hps _ hb) _ a0)) $$ [H]
  · iexact H
  iintro %_ H
  iapply Hk
  rw [show Scf.trips k0_t1_loop.lb k0_t1_loop.ub k0_t1_loop.st = 8 from t1_trips]
  iexact H

theorem t6_loop (c : Dev nD) (i : grid0.Coords) (m : Memref sig .tc .vmem S8192x128 .f32) (hm : m.IsWhole) {l : List Piece} {G : Buf (Elt F) (outLoc c)}
    {q11 q14 : PosShare TreeShare} {f11 : Buf (Elt F) ((c : Thread nD τ).loc main_v11)} {f14 : Buf (Elt F) ((c : Thread nD τ).loc main_v14)}
    (hpl : ∀ b < 256, wordAt (n := 256) f14 b < 256) (hps : ∀ b < 256, wordAt (n := 256) f11 b + wordAt (n := 256) f14 b ≤ 61440) (rest : List Piece) (a0 v0 : BitVec 32) (v5 : Elt F .i32) (hw2 : k0_chk2 i v5) (u1 u2 u3 : BitVec 32) {defs : Defs nD τ sig (Elt F) Λ₀} {𝒱 : Variants} {bd : Option 𝒱.V}
    {β : Type} {kk : Unit → Prog (TpuEff nD τ sig (Elt F) Λ₀ .tc) β} {Q : β → sProp 𝕄} :
    iprop(((c : Thread nD τ).loc main_v11 ↦[Finset.univ]{q11} f11) ∗ ((c : Thread nD τ).loc main_v14 ↦[Finset.univ]{q14} f14) ∗ Wt c cc0_scratch2.sem l G (SrcZ (F := F) c l) (padList (wordAt (n := 256) f11) (wordAt (n := 256) f14) (i 0).val 0 8 ++ rest) ∗ (∃ W, owes (c : Thread nD τ) 0 W))
      ⊢ iprop(((((c : Thread nD τ).loc main_v11 ↦[Finset.univ]{q11} f11) ∗ ((c : Thread nD τ).loc main_v14 ↦[Finset.univ]{q14} f14) ∗ Wt c cc0_scratch2.sem l G (SrcZ (F := F) c l) (rest) ∗ (∃ W, owes (c : Thread nD τ) 0 W)) -∗ wp frame (wpE defs 𝒱 (c : Thread nD τ) bd) Set.univ (kk ()) Q)
        -∗ wp frame (wpE defs 𝒱 (c : Thread nD τ) bd) Set.univ (Scf.Loop.for k0_t6_loop k0_t6_ok () (k0_t6_body i (Memref.whole main_arg0) (Memref.isWhole_whole _) (Memref.whole main_v11) (Memref.isWhole_whole _) (Memref.whole main_v14) (Memref.isWhole_whole _) (Memref.whole main_v15) (Memref.isWhole_whole _) m hm (Memref.whole main_v16) (Memref.isWhole_whole _) (Memref.whole cc0_scratch0) (Memref.isWhole_whole _) cc0_scratch1 cc0_scratch2 a0 v0 v5 hw2 u1 u2 u3) >>= kk) Q) := by
  iintro H Hk
  iapply (Scf.wp_for_bind frame (wpE defs 𝒱 (c : Thread nD τ) bd) Set.univ _ _ _ k0_t6_ok () (k0_t6_body i (Memref.whole main_arg0) (Memref.isWhole_whole _) (Memref.whole main_v11) (Memref.isWhole_whole _) (Memref.whole main_v14) (Memref.isWhole_whole _) (Memref.whole main_v15) (Memref.isWhole_whole _) m hm (Memref.whole main_v16) (Memref.isWhole_whole _) (Memref.whole cc0_scratch0) (Memref.isWhole_whole _) cc0_scratch1 cc0_scratch2 a0 v0 v5 hw2 u1 u2 u3)
    (fun k _ => iprop(((c : Thread nD τ).loc main_v11 ↦[Finset.univ]{q11} f11) ∗ ((c : Thread nD τ).loc main_v14 ↦[Finset.univ]{q14} f14) ∗ Wt c cc0_scratch2.sem l G (SrcZ (F := F) c l) (padList (wordAt (n := 256) f11) (wordAt (n := 256) f14) (i 0).val k (8 - k) ++ rest) ∗ (∃ W, owes (c : Thread nD τ) 0 W))) (by
    intro k acc
    have hk : k.val < 8 := lt_of_lt_of_le k.isLt k0_t6_abs.2.1
    have hi : (i 0).val < 32 := (i 0).isLt
    have e : 8 - k.val = (8 - (k.val + 1)) + 1 := by omega
    have hb : 32 * k.val + (i 0).val < 256 := by omega
    rw [e, padList_succ, List.append_assoc]
    exact t6_step (F := F) (defs := defs) (𝒱 := 𝒱) (bd := bd) c i m hm k rfl rfl (hpl _ hb) (hps _ hb) _ a0 v0 v5 hw2 u1 u2 u3)) $$ [H]
  · iexact H
  iintro %_ H
  iapply Hk
  rw [show Scf.trips k0_t6_loop.lb k0_t6_loop.ub k0_t6_loop.st = 8 from t6_trips]
  iexact H

theorem t2_loop (c : Dev nD) (i : grid0.Coords) (m : Memref sig .tc .vmem S8192x128 .f32) (hm : m.IsWhole) {l : List Piece} {V G : Buf (Elt F) (outLoc c)}
    (hsep : l.Pairwise Sep) (hG : ∀ p ∈ l, ∀ x ∈ K p, G x = z0 (F := F))
    {q15 : PosShare TreeShare} {f15 : Buf (Elt F) ((c : Thread nD τ).loc main_v15)}
    {tot : ℕ} (htot : wordAt (n := 1) f15 0 = tot) (ht : tot ≤ 240) (a0 v0 : BitVec 32) (v5 : Elt F .i32) (hw2 : k0_chk2 i v5) (u1 u2 u3 : BitVec 32) (hv : BitVec.toNat v5 = tot) {defs : Defs nD τ sig (Elt F) Λ₀} {𝒱 : Variants} {bd : Option 𝒱.V}
    {β : Type} {kk : Unit → Prog (TpuEff nD τ sig (Elt F) Λ₀ .tc) β} {Q : β → sProp 𝕄} :
    iprop(((c : Thread nD τ).loc main_v15 ↦[Finset.univ]{q15} f15) ∗ Iss c cc0_scratch2.sem l V G (SrcZ (F := F) c l) (tailList tot (i 0).val 0 (tailTrips tot (i 0).val)))
      ⊢ iprop(((((c : Thread nD τ).loc main_v15 ↦[Finset.univ]{q15} f15) ∗ Iss c cc0_scratch2.sem l V G (SrcZ (F := F) c l) ([])) -∗ wp frame (wpE defs 𝒱 (c : Thread nD τ) bd) Set.univ (kk ()) Q)
        -∗ wp frame (wpE defs 𝒱 (c : Thread nD τ) bd) Set.univ (Scf.Loop.for (k0_t2_loop i v5) (k0_t2_ok i v5 hw2) () (k0_t2_body i (Memref.whole main_arg0) (Memref.isWhole_whole _) (Memref.whole main_v11) (Memref.isWhole_whole _) (Memref.whole main_v14) (Memref.isWhole_whole _) (Memref.whole main_v15) (Memref.isWhole_whole _) m hm (Memref.whole main_v16) (Memref.isWhole_whole _) (Memref.whole cc0_scratch0) (Memref.isWhole_whole _) cc0_scratch1 cc0_scratch2 a0 v0 v5 hw2 u1 u2 u3) >>= kk) Q) := by
  iintro H Hk
  iapply (Scf.wp_for_bind frame (wpE defs 𝒱 (c : Thread nD τ) bd) Set.univ _ _ _ (k0_t2_ok i v5 hw2) () (k0_t2_body i (Memref.whole main_arg0) (Memref.isWhole_whole _) (Memref.whole main_v11) (Memref.isWhole_whole _) (Memref.whole main_v14) (Memref.isWhole_whole _) (Memref.whole main_v15) (Memref.isWhole_whole _) m hm (Memref.whole main_v16) (Memref.isWhole_whole _) (Memref.whole cc0_scratch0) (Memref.isWhole_whole _) cc0_scratch1 cc0_scratch2 a0 v0 v5 hw2 u1 u2 u3)
    (fun k _ => iprop(((c : Thread nD τ).loc main_v15 ↦[Finset.univ]{q15} f15) ∗ Iss c cc0_scratch2.sem l V G (SrcZ (F := F) c l) (tailList tot (i 0).val k (tailTrips tot (i 0).val - k)))) (by
    intro k acc
    have hk : k.val < tailTrips tot (i 0).val := lt_of_lt_of_eq k.isLt (t2_trips i hv ht)
    have e : tailTrips tot (i 0).val - k.val = (tailTrips tot (i 0).val - (k.val + 1)) + 1 := step_sub hk
    rw [e, tailList_succ]
    exact t2_step (F := F) (defs := defs) (𝒱 := 𝒱) (bd := bd) c i m hm hsep hG htot a0 v0 v5 hw2 u1 u2 u3 k (tail_lt (step_lt i) ht hk) _)) $$ [H]
  · iexact H
  iintro %_ H
  iapply Hk
  rw [show Scf.trips (k0_t2_loop i v5).lb (k0_t2_loop i v5).ub (k0_t2_loop i v5).st = tailTrips tot (i 0).val from t2_trips i hv ht, Nat.sub_self]
  iexact H

theorem t7_loop (c : Dev nD) (i : grid0.Coords) (m : Memref sig .tc .vmem S8192x128 .f32) (hm : m.IsWhole) {l : List Piece} {G : Buf (Elt F) (outLoc c)}
    {q15 : PosShare TreeShare} {f15 : Buf (Elt F) ((c : Thread nD τ).loc main_v15)}
    {tot : ℕ} (htot : wordAt (n := 1) f15 0 = tot) (ht : tot ≤ 240) (v36 : Elt F .i32) (hw14 : k0_chk14 i v36) (hv : BitVec.toNat v36 = tot) {defs : Defs nD τ sig (Elt F) Λ₀} {𝒱 : Variants} {bd : Option 𝒱.V}
    {β : Type} {kk : Unit → Prog (TpuEff nD τ sig (Elt F) Λ₀ .tc) β} {Q : β → sProp 𝕄} :
    iprop(((c : Thread nD τ).loc main_v15 ↦[Finset.univ]{q15} f15) ∗ Wt c cc0_scratch2.sem l G (SrcZ (F := F) c l) (tailList tot (i 0).val 0 (tailTrips tot (i 0).val)) ∗ (∃ W, owes (c : Thread nD τ) 0 W))
      ⊢ iprop(((((c : Thread nD τ).loc main_v15 ↦[Finset.univ]{q15} f15) ∗ Wt c cc0_scratch2.sem l G (SrcZ (F := F) c l) ([]) ∗ (∃ W, owes (c : Thread nD τ) 0 W)) -∗ wp frame (wpE defs 𝒱 (c : Thread nD τ) bd) Set.univ (kk ()) Q)
        -∗ wp frame (wpE defs 𝒱 (c : Thread nD τ) bd) Set.univ (Scf.Loop.for (k0_t7_loop i v36) (k0_t7_ok i v36 hw14) () (k0_t7_body i (Memref.whole main_arg0) (Memref.isWhole_whole _) (Memref.whole main_v11) (Memref.isWhole_whole _) (Memref.whole main_v14) (Memref.isWhole_whole _) (Memref.whole main_v15) (Memref.isWhole_whole _) m hm (Memref.whole main_v16) (Memref.isWhole_whole _) (Memref.whole cc0_scratch0) (Memref.isWhole_whole _) cc0_scratch1 cc0_scratch2 v36 hw14) >>= kk) Q) := by
  iintro H Hk
  iapply (Scf.wp_for_bind frame (wpE defs 𝒱 (c : Thread nD τ) bd) Set.univ _ _ _ (k0_t7_ok i v36 hw14) () (k0_t7_body i (Memref.whole main_arg0) (Memref.isWhole_whole _) (Memref.whole main_v11) (Memref.isWhole_whole _) (Memref.whole main_v14) (Memref.isWhole_whole _) (Memref.whole main_v15) (Memref.isWhole_whole _) m hm (Memref.whole main_v16) (Memref.isWhole_whole _) (Memref.whole cc0_scratch0) (Memref.isWhole_whole _) cc0_scratch1 cc0_scratch2 v36 hw14)
    (fun k _ => iprop(((c : Thread nD τ).loc main_v15 ↦[Finset.univ]{q15} f15) ∗ Wt c cc0_scratch2.sem l G (SrcZ (F := F) c l) (tailList tot (i 0).val k (tailTrips tot (i 0).val - k)) ∗ (∃ W, owes (c : Thread nD τ) 0 W))) (by
    intro k acc
    have hk : k.val < tailTrips tot (i 0).val := lt_of_lt_of_eq k.isLt (t7_trips i hv ht)
    have e : tailTrips tot (i 0).val - k.val = (tailTrips tot (i 0).val - (k.val + 1)) + 1 := step_sub hk
    rw [e, tailList_succ]
    exact t7_step (F := F) (defs := defs) (𝒱 := 𝒱) (bd := bd) c i m hm htot v36 hw14 k (tail_lt (step_lt i) ht hk) _)) $$ [H]
  · iexact H
  iintro %_ H
  iapply Hk
  rw [show Scf.trips (k0_t7_loop i v36).lb (k0_t7_loop i v36).ub (k0_t7_loop i v36).st = tailTrips tot (i 0).val from t7_trips i hv ht, Nat.sub_self]
  iexact H

theorem t4_loop (c : Dev nD) (i : grid0.Coords) (m : Memref sig .tc .vmem S8192x128 .f32) (hm : m.IsWhole) {l : List Piece} {V G : Buf (Elt F) (outLoc c)} {fx : Buf (Elt F) (m.view.loc (c : Thread nD τ))}
    {q0 : PosShare TreeShare} {f0 : Buf (Elt F) ((c : Thread nD τ).loc main_arg0)}
    (hsep : l.Pairwise Sep)
    (hG : ∀ j < 1024, ∀ (u : S8192x128.Idx) (v : S491520x128.Idx) (r : ℕ), (u 0).val = 8 * j + r → (v 0).val = 8 * wordAt (n := 32768) f0 (1024 * (i 0).val + j) + r
      → r < 8 → (u 1).val = (v 1).val → m.view.read (Elt F) fx u = G v)
    (hpos : ∀ t < 32768, wordAt (n := 32768) f0 t < 61440)
    (hlen : l.length = 1024) (a0 v0 : BitVec 32) (v5 : Elt F .i32) (hw2 : k0_chk2 i v5) (u1 u2 u3 : BitVec 32) {defs : Defs nD τ sig (Elt F) Λ₀} {𝒱 : Variants} {bd : Option 𝒱.V}
    {β : Type} {kk : Unit → Prog (TpuEff nD τ sig (Elt F) Λ₀ .tc) β} {Q : β → sProp 𝕄} :
    iprop(((c : Thread nD τ).loc main_arg0 ↦[Finset.univ]{q0} f0) ∗ Iss c cc0_scratch1.sem l V G (SrcR (F := F) c m fx l.length) (rowList (wordAt (n := 32768) f0) (i 0).val 0 1024))
      ⊢ iprop(((((c : Thread nD τ).loc main_arg0 ↦[Finset.univ]{q0} f0) ∗ Iss c cc0_scratch1.sem l V G (SrcR (F := F) c m fx l.length) ([])) -∗ wp frame (wpE defs 𝒱 (c : Thread nD τ) bd) Set.univ (kk ()) Q)
        -∗ wp frame (wpE defs 𝒱 (c : Thread nD τ) bd) Set.univ (Scf.Loop.for k0_t4_loop k0_t4_ok () (k0_t4_body i (Memref.whole main_arg0) (Memref.isWhole_whole _) (Memref.whole main_v11) (Memref.isWhole_whole _) (Memref.whole main_v14) (Memref.isWhole_whole _) (Memref.whole main_v15) (Memref.isWhole_whole _) m hm (Memref.whole main_v16) (Memref.isWhole_whole _) (Memref.whole cc0_scratch0) (Memref.isWhole_whole _) cc0_scratch1 cc0_scratch2 a0 v0 v5 hw2 u1 u2 u3) >>= kk) Q) := by
  iintro H Hk
  iapply (Scf.wp_for_bind frame (wpE defs 𝒱 (c : Thread nD τ) bd) Set.univ _ _ _ k0_t4_ok () (k0_t4_body i (Memref.whole main_arg0) (Memref.isWhole_whole _) (Memref.whole main_v11) (Memref.isWhole_whole _) (Memref.whole main_v14) (Memref.isWhole_whole _) (Memref.whole main_v15) (Memref.isWhole_whole _) m hm (Memref.whole main_v16) (Memref.isWhole_whole _) (Memref.whole cc0_scratch0) (Memref.isWhole_whole _) cc0_scratch1 cc0_scratch2 a0 v0 v5 hw2 u1 u2 u3)
    (fun k _ => iprop(((c : Thread nD τ).loc main_arg0 ↦[Finset.univ]{q0} f0) ∗ Iss c cc0_scratch1.sem l V G (SrcR (F := F) c m fx l.length) (rowList (wordAt (n := 32768) f0) (i 0).val (8 * k) (1024 - 8 * k)))) (by
    intro k acc
    have hk : k.val < 128 := lt_of_lt_of_le k.isLt k0_t4_abs.2.1
    have e : 1024 - 8 * k.val = (1024 - 8 * (k.val + 1)) + 1 + 1 + 1 + 1 + 1 + 1 + 1 + 1 := by omega
    rw [e, rowList_succ, rowList_succ, rowList_succ, rowList_succ, rowList_succ, rowList_succ, rowList_succ, rowList_succ]
    exact t4_step (F := F) (defs := defs) (𝒱 := 𝒱) (bd := bd) c i m hm hsep hG hpos k (rowList (wordAt (n := 32768) f0) (i 0).val (8 * (k.val + 1)) (1024 - 8 * (k.val + 1)))
      (by rw [length_rowList, hlen]; omega) a0 v0 v5 hw2 u1 u2 u3)) $$ [H]
  · iexact H
  iintro %_ H
  iapply Hk
  rw [show Scf.trips k0_t4_loop.lb k0_t4_loop.ub k0_t4_loop.st = 128 from t4_trips]
  iexact H

theorem t5_loop (c : Dev nD) (i : grid0.Coords) (m : Memref sig .tc .vmem S8192x128 .f32) (hm : m.IsWhole) {l : List Piece} {G : Buf (Elt F) (outLoc c)} {fx : Buf (Elt F) (m.view.loc (c : Thread nD τ))}
    (pos : ℕ → ℕ) (a0 v0 : BitVec 32) (v5 : Elt F .i32) (hw2 : k0_chk2 i v5) (u1 u2 u3 : BitVec 32) {defs : Defs nD τ sig (Elt F) Λ₀} {𝒱 : Variants} {bd : Option 𝒱.V}
    {β : Type} {kk : Unit → Prog (TpuEff nD τ sig (Elt F) Λ₀ .tc) β} {Q : β → sProp 𝕄} :
    iprop(Wt c cc0_scratch1.sem l G (SrcR (F := F) c m fx l.length) (rowList pos (i 0).val 0 1024) ∗ (∃ W, owes (c : Thread nD τ) 0 W))
      ⊢ iprop(((Wt c cc0_scratch1.sem l G (SrcR (F := F) c m fx l.length) ([]) ∗ (∃ W, owes (c : Thread nD τ) 0 W)) -∗ wp frame (wpE defs 𝒱 (c : Thread nD τ) bd) Set.univ (kk ()) Q)
        -∗ wp frame (wpE defs 𝒱 (c : Thread nD τ) bd) Set.univ (Scf.Loop.for k0_t5_loop k0_t5_ok () (k0_t5_body i (Memref.whole main_arg0) (Memref.isWhole_whole _) (Memref.whole main_v11) (Memref.isWhole_whole _) (Memref.whole main_v14) (Memref.isWhole_whole _) (Memref.whole main_v15) (Memref.isWhole_whole _) m hm (Memref.whole main_v16) (Memref.isWhole_whole _) (Memref.whole cc0_scratch0) (Memref.isWhole_whole _) cc0_scratch1 cc0_scratch2 a0 v0 v5 hw2 u1 u2 u3) >>= kk) Q) := by
  iintro H Hk
  iapply (Scf.wp_for_bind frame (wpE defs 𝒱 (c : Thread nD τ) bd) Set.univ _ _ _ k0_t5_ok () (k0_t5_body i (Memref.whole main_arg0) (Memref.isWhole_whole _) (Memref.whole main_v11) (Memref.isWhole_whole _) (Memref.whole main_v14) (Memref.isWhole_whole _) (Memref.whole main_v15) (Memref.isWhole_whole _) m hm (Memref.whole main_v16) (Memref.isWhole_whole _) (Memref.whole cc0_scratch0) (Memref.isWhole_whole _) cc0_scratch1 cc0_scratch2 a0 v0 v5 hw2 u1 u2 u3)
    (fun k _ => iprop(Wt c cc0_scratch1.sem l G (SrcR (F := F) c m fx l.length) (rowList pos (i 0).val k (1024 - k)) ∗ (∃ W, owes (c : Thread nD τ) 0 W))) (by
    intro k acc
    have hk : k.val < 1024 := lt_of_lt_of_le k.isLt k0_t5_abs.2.1
    have e : 1024 - k.val = (1024 - (k.val + 1)) + 1 := by omega
    rw [e, rowList_succ]
    exact t5_step (F := F) (defs := defs) (𝒱 := 𝒱) (bd := bd) c i m hm k _ _ a0 v0 v5 hw2 u1 u2 u3)) $$ [H]
  · iexact H
  iintro %_ H
  iapply Hk
  rw [show Scf.trips k0_t5_loop.lb k0_t5_loop.ub k0_t5_loop.st = 1024 from t5_trips]
  iexact H

end Cert.KernelIdeal.Hand
-- ==== Proof.Body.lean ====
/- The dispatch body, whole: it leaves the rows and zeros of its step in the output. -/
module

public import proofs.«01_k».proof.Proof.Loops

@[expose] public section

set_option synthInstance.maxSize 4096

noncomputable section

namespace Cert.KernelIdeal.Hand

open Cert.KernelIdeal Cert.KernelIdeal.Gen Cert.Plan
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

theorem pay1_eq (x : S1024x128.Idx) : (k0_pay1 (F := F)) x = z0 (F := F) := rfl

theorem first_word : ∀ n : Fin 32, (Scalar.cmpi .ne (Scalar.extui (Scalar.cmpi .eq (BitVec.ofNat 32 n.val) 0#32 : BitVec 1) : BitVec 32) 0#32 = 1#1) ↔ n.val = 0 := by
  decide +kernel

theorem zero_scratch (c : Dev nD) {defs : Defs nD τ sig (Elt F) Λ₀} {𝒱 : Variants} {bd : Option 𝒱.V} {f : Buf (Elt F) (scrLoc c)} {C : Prop} [Decidable C] (hf : ¬ C → f = Zb (F := F) c)
    {inb : ∀ d, (![0, 0] : Fin 2 → ℕ) d + S1024x128.size d ≤ S1024x128.size d}
    {hl : (Memref.whole cc0_scratch0 : Memref sig .tc .vmem S1024x128 .f32).view.LoadsAt (Rect.unit (s := S1024x128) ![0, 0] S1024x128.size inb).toLoadRect}
    {hx : ((Memref.whole cc0_scratch0 : Memref sig .tc .vmem S1024x128 .f32).access (Rect.unit (s := S1024x128) ![0, 0] S1024x128.size inb)).Stores Finset.univ}
    {hmk : Finset.univ = Finset.univ ∨ ∀ a, (Rect.unit (s := S1024x128) ![0, 0] S1024x128.size inb).stride a = 1}
    {β : Type} {k : Prog (TpuEff nD τ sig (Elt F) Λ₀ .tc) β} {Q : β → sProp 𝕄} :
    (scrLoc c ↦[Finset.univ]{fullShare} f)
      ⊢ iprop(((scrLoc c ↦[Finset.univ]{fullShare} Zb (F := F) c) -∗ wp frame (wpE defs 𝒱 (c : Thread nD τ) bd) Set.univ k Q)
        -∗ wp frame (wpE defs 𝒱 (c : Thread nD τ) bd) Set.univ (if hc : C then (Prog.lift (.load (Memref.whole cc0_scratch0 : Memref sig .tc .vmem S1024x128 .f32) (Rect.unit (s := S1024x128) ![0, 0] S1024x128.size inb).toLoadRect hl)
          >>= fun _ => Prog.lift (.store (Memref.whole cc0_scratch0 : Memref sig .tc .vmem S1024x128 .f32) (Rect.unit (s := S1024x128) ![0, 0] S1024x128.size inb) (k0_pay1 (F := F)) Finset.univ hx hmk)
          >>= fun _ => k) else k) Q) := by
  by_cases hc : C
  · rw [dif_pos hc]
    have e : ((Memref.whole cc0_scratch0 : Memref sig .tc .vmem S1024x128 .f32).access (Rect.unit (s := S1024x128) ![0, 0] S1024x128.size inb)).write (Elt F) f (k0_pay1 (F := F)) Finset.univ
        = Zb (F := F) c := by
      funext x
      have hxe : x = ((Memref.whole cc0_scratch0 : Memref sig .tc .vmem S1024x128 .f32).access (Rect.unit (s := S1024x128) ![0, 0] S1024x128.size inb)).emb x := by
        funext a
        apply Fin.ext
        refine Eq.trans ?_ (unit_emb_val (s := S1024x128) (inb := inb) x a).symm
        match a with
        | ⟨0, _⟩ => exact (Nat.zero_add _).symm
        | ⟨1, _⟩ => exact (Nat.zero_add _).symm
      rw [hxe, View.write_emb_of_mem _ _ (Finset.mem_univ _)]
      rfl
    iintro H Hk
    iapply (wp_load_rect (defs := defs) 𝒱 (c : Thread nD τ) bd Set.univ (Q := Q) (hl := hl)
      (m := (Memref.whole cc0_scratch0 : Memref sig .tc .vmem S1024x128 .f32)) (r := Rect.unit (s := S1024x128) ![0, 0] S1024x128.size inb)
      (k := fun _ => Prog.lift (.store (Memref.whole cc0_scratch0 : Memref sig .tc .vmem S1024x128 .f32) (Rect.unit (s := S1024x128) ![0, 0] S1024x128.size inb) (k0_pay1 (F := F)) Finset.univ hx hmk)
          >>= fun _ => k) (S := Finset.univ) (q := fullShare) (f := f) (Finset.subset_univ _)) $$ H
    iintro H
    iapply (wp_store (defs := defs) 𝒱 (c : Thread nD τ) bd Set.univ (Q := Q) (hx := hx) (hm := hmk)
      (m := (Memref.whole cc0_scratch0 : Memref sig .tc .vmem S1024x128 .f32)) (r := Rect.unit (s := S1024x128) ![0, 0] S1024x128.size inb) (w := k0_pay1 (F := F)) (Mk := Finset.univ)
      (k := fun _ => k) (S := Finset.univ) (f := f) (Finset.subset_univ _)) $$ H
    iintro H
    rw [e]
    iapply Hk $$ H
  · rw [dif_neg hc, hf hc]
    iintro H Hk
    iapply Hk $$ H

theorem part5_step (c : Dev nD) (i : grid0.Coords) (m : Memref sig .tc .vmem S8192x128 .f32) (hm : m.IsWhole) {V G : Buf (Elt F) (outLoc c)}
    {q11 q14 q15 : PosShare TreeShare} {f11 : Buf (Elt F) ((c : Thread nD τ).loc main_v11)} {f14 : Buf (Elt F) ((c : Thread nD τ).loc main_v14)} {f15 : Buf (Elt F) ((c : Thread nD τ).loc main_v15)} {f0 : Buf (Elt F) ((c : Thread nD τ).loc main_arg0)} {tot : ℕ} (hg : Good (wordAt (n := 32768) f0) (wordAt (n := 256) f11) (wordAt (n := 256) f14) tot) (htot : wordAt (n := 1) f15 0 = tot)
    (hG : ∀ p ∈ (zeroPlan (wordAt (n := 256) f11) (wordAt (n := 256) f14) tot (i 0).val), ∀ x ∈ K p, G x = z0 (F := F)) {defs : Defs nD τ sig (Elt F) Λ₀} {𝒱 : Variants} {bd : Option 𝒱.V} {f : Buf (Elt F) (scrLoc c)} (hf : (i 0).val ≠ 0 → f = Zb (F := F) c)
    {Q : (Σ' (arg0 : BitVec 32) (v0 : BitVec 32) (v5 : Elt F .i32) (k0_hw2 : k0_chk2 i v5) (c0_i32_13 : BitVec 32) (v32 : BitVec 32), BitVec 32) → sProp 𝕄} :
    iprop((((c : Thread nD τ).loc main_v11 ↦[Finset.univ]{q11} f11) ∗ ((c : Thread nD τ).loc main_v14 ↦[Finset.univ]{q14} f14) ∗ ((c : Thread nD τ).loc main_v15 ↦[Finset.univ]{q15} f15)) ∗ (scrLoc c ↦[Finset.univ]{fullShare} f) ∗ semVal ((c : Thread nD τ), SemLoc.dma cc0_scratch2.sem) 0
        ∗ (outLoc c ↦[Wset (zeroPlan (wordAt (n := 256) f11) (wordAt (n := 256) f14) tot (i 0).val)]{fullShare} V))
      ⊢ iprop((∀ x, ⌜BitVec.toNat x.2.2.1 = tot⌝ -∗ ((((c : Thread nD τ).loc main_v11 ↦[Finset.univ]{q11} f11) ∗ ((c : Thread nD τ).loc main_v14 ↦[Finset.univ]{q14} f14) ∗ ((c : Thread nD τ).loc main_v15 ↦[Finset.univ]{q15} f15)) ∗ LeftZ (F := F) c (zeroPlan (wordAt (n := 256) f11) (wordAt (n := 256) f14) tot (i 0).val)
          ∗ Iss c cc0_scratch2.sem (zeroPlan (wordAt (n := 256) f11) (wordAt (n := 256) f14) tot (i 0).val) V G (SrcZ (F := F) c (zeroPlan (wordAt (n := 256) f11) (wordAt (n := 256) f14) tot (i 0).val)) (tailList tot (i 0).val 0 (tailTrips tot (i 0).val))) -∗ Q x)
        -∗ wp frame (wpE defs 𝒱 (c : Thread nD τ) bd) Set.univ (k0_part5 i (Memref.whole main_arg0) (Memref.isWhole_whole _) (Memref.whole main_v11) (Memref.isWhole_whole _) (Memref.whole main_v14) (Memref.isWhole_whole _) (Memref.whole main_v15) (Memref.isWhole_whole _) m hm (Memref.whole main_v16) (Memref.isWhole_whole _) (Memref.whole cc0_scratch0) (Memref.isWhole_whole _) cc0_scratch1 cc0_scratch2) Q) := by
  have hsep : List.Pairwise Sep (zeroPlan (wordAt (n := 256) f11) (wordAt (n := 256) f14) tot (i 0).val) := (List.pairwise_append.1 (hg.plan_sep (step_lt i))).1
  rw [k0_part5_eq_skeleton]
  unfold k0_part5_skel
  dsimp only
  iintro ⟨⟨H11, H14, H15⟩, Hs, Hv, Ho⟩ Hk
  iapply (zero_scratch (F := F) (defs := defs) (𝒱 := 𝒱) (bd := bd) c (fun h => hf fun h0 => h ((first_word (i 0)).2 h0))) $$ Hs
  iintro Hs
  ihave Hs := (split_zeros (F := F) c (zeroPlan (wordAt (n := 256) f11) (wordAt (n := 256) f14) tot (i 0).val)).1 $$ Hs
  icases Hs with ⟨Hs, Hleft⟩
  imod (begin_batch (V := V) (G := G) (sem := cc0_scratch2.sem) (Src := SrcZ (F := F) c (zeroPlan (wordAt (n := 256) f11) (wordAt (n := 256) f14) tot (i 0).val)) (fun j => SrcZ_storable (F := F) c (zeroPlan (wordAt (n := 256) f11) (wordAt (n := 256) f14) tot (i 0).val) j)) $$ [Hv Ho Hs] with HI
  · isplitl [Hv]; · iexact Hv
    isplitl [Ho]; · iexact Ho
    iexact Hs
  iapply (t1_loop (F := F) (defs := defs) (𝒱 := 𝒱) (bd := bd) c i m hm hsep hG hg.pl_lt (fun b hb => (hg.pad_le b hb).trans (by have := hg.tot_le; omega)) (tailList tot (i 0).val 0 (tailTrips tot (i 0).val)) _) $$ [H11 H14 HI]
  · isplitl [H11]; · iexact H11
    isplitl [H14]; · iexact H14
    iexact HI
  iintro ⟨H11, H14, HI⟩
  iapply (wp_load_total (F := F) (defs := defs) (𝒱 := 𝒱) (bd := bd) c rfl) $$ H15
  iintro %w %hw H15
  rw [htot] at hw
  iapply (wp_assume_bind (F := F) (defs := defs) (𝒱 := 𝒱) (bd := bd) c (chk2_holds i hw hg.tot_le))
  dsimp only
  iapply (wp_pure_intro (F := F) (defs := defs) (𝒱 := 𝒱) (bd := bd) c)
  iapply Hk $$ [] [H11 H14 H15 HI Hleft]
  · ipureintro; exact hw
  · isplitl [H11 H14 H15]
    · isplitl [H11]; · iexact H11
      isplitl [H14]; · iexact H14
      iexact H15
    isplitl [Hleft]; · iexact Hleft
    iexact HI

theorem part6_step (c : Dev nD) (i : grid0.Coords) (m : Memref sig .tc .vmem S8192x128 .f32) (hm : m.IsWhole) {V G : Buf (Elt F) (outLoc c)} {fx : Buf (Elt F) (m.view.loc (c : Thread nD τ))}
    {q0 q11 q14 q15 : PosShare TreeShare} {f0 : Buf (Elt F) ((c : Thread nD τ).loc main_arg0)} {f11 : Buf (Elt F) ((c : Thread nD τ).loc main_v11)} {f14 : Buf (Elt F) ((c : Thread nD τ).loc main_v14)} {f15 : Buf (Elt F) ((c : Thread nD τ).loc main_v15)} {tot : ℕ} (hg : Good (wordAt (n := 32768) f0) (wordAt (n := 256) f11) (wordAt (n := 256) f14) tot) (htot : wordAt (n := 1) f15 0 = tot)
    (hG : ∀ p ∈ (zeroPlan (wordAt (n := 256) f11) (wordAt (n := 256) f14) tot (i 0).val), ∀ x ∈ K p, G x = z0 (F := F))
    (hGR : ∀ j < 1024, ∀ (u : S8192x128.Idx) (v : S491520x128.Idx) (r : ℕ), (u 0).val = 8 * j + r → (v 0).val = 8 * wordAt (n := 32768) f0 (1024 * (i 0).val + j) + r
      → r < 8 → (u 1).val = (v 1).val → m.view.read (Elt F) fx u = G v) {defs : Defs nD τ sig (Elt F) Λ₀} {𝒱 : Variants} {bd : Option 𝒱.V}
    (a0 v0 : BitVec 32) (v5 : Elt F .i32) (hw2 : k0_chk2 i v5) (u1 u2 u3 : BitVec 32) (hv : BitVec.toNat v5 = tot)
    {Q : (Σ' (v36 : Elt F .i32) (k0_hw14 : k0_chk14 i v36) (c0_i32_40 : BitVec 32), BitVec 32) → sProp 𝕄} :
    iprop((((c : Thread nD τ).loc main_arg0 ↦[Finset.univ]{q0} f0) ∗ ((c : Thread nD τ).loc main_v11 ↦[Finset.univ]{q11} f11) ∗ ((c : Thread nD τ).loc main_v14 ↦[Finset.univ]{q14} f14) ∗ ((c : Thread nD τ).loc main_v15 ↦[Finset.univ]{q15} f15)) ∗ Iss c cc0_scratch2.sem (zeroPlan (wordAt (n := 256) f11) (wordAt (n := 256) f14) tot (i 0).val) V G (SrcZ (F := F) c (zeroPlan (wordAt (n := 256) f11) (wordAt (n := 256) f14) tot (i 0).val)) (tailList tot (i 0).val 0 (tailTrips tot (i 0).val))
        ∗ Iss c cc0_scratch1.sem (rowList (wordAt (n := 32768) f0) (i 0).val 0 1024) V G (SrcR (F := F) c m fx (rowList (wordAt (n := 32768) f0) (i 0).val 0 1024).length) (rowList (wordAt (n := 32768) f0) (i 0).val 0 1024) ∗ (∃ W, owes (c : Thread nD τ) 0 W))
      ⊢ iprop((∀ x, ⌜BitVec.toNat x.1 = tot⌝ -∗ ((((c : Thread nD τ).loc main_arg0 ↦[Finset.univ]{q0} f0) ∗ ((c : Thread nD τ).loc main_v11 ↦[Finset.univ]{q11} f11) ∗ ((c : Thread nD τ).loc main_v14 ↦[Finset.univ]{q14} f14) ∗ ((c : Thread nD τ).loc main_v15 ↦[Finset.univ]{q15} f15)) ∗ Wt c cc0_scratch1.sem (rowList (wordAt (n := 32768) f0) (i 0).val 0 1024) G (SrcR (F := F) c m fx (rowList (wordAt (n := 32768) f0) (i 0).val 0 1024).length) []
          ∗ Wt c cc0_scratch2.sem (zeroPlan (wordAt (n := 256) f11) (wordAt (n := 256) f14) tot (i 0).val) G (SrcZ (F := F) c (zeroPlan (wordAt (n := 256) f11) (wordAt (n := 256) f14) tot (i 0).val)) (tailList tot (i 0).val 0 (tailTrips tot (i 0).val)) ∗ (∃ W, owes (c : Thread nD τ) 0 W)) -∗ Q x)
        -∗ wp frame (wpE defs 𝒱 (c : Thread nD τ) bd) Set.univ (k0_part6 i (Memref.whole main_arg0) (Memref.isWhole_whole _) (Memref.whole main_v11) (Memref.isWhole_whole _) (Memref.whole main_v14) (Memref.isWhole_whole _) (Memref.whole main_v15) (Memref.isWhole_whole _) m hm (Memref.whole main_v16) (Memref.isWhole_whole _) (Memref.whole cc0_scratch0) (Memref.isWhole_whole _) cc0_scratch1 cc0_scratch2 a0 v0 v5 hw2 u1 u2 u3) Q) := by
  have hsepA := List.pairwise_append.1 (hg.plan_sep (step_lt i))
  have hsepZ : List.Pairwise Sep (zeroPlan (wordAt (n := 256) f11) (wordAt (n := 256) f14) tot (i 0).val) := hsepA.1
  have hsepR : List.Pairwise Sep (rowList (wordAt (n := 32768) f0) (i 0).val 0 1024) := hsepA.2.1
  rw [k0_part6_eq_skeleton]
  unfold k0_part6_skel
  dsimp only
  iintro ⟨⟨H0, H11, H14, H15⟩, HZ, HR, HO⟩ Hk
  iapply (t2_loop (F := F) (defs := defs) (𝒱 := 𝒱) (bd := bd) c i m hm hsepZ hG htot hg.tot_le a0 v0 v5 hw2 u1 u2 u3 hv) $$ [H15 HZ]
  · isplitl [H15]; · iexact H15
    iexact HZ
  iintro ⟨H15, HZ⟩
  have h3 := fun {β : Type} (kk : Unit → Prog (TpuEff nD τ sig (Elt F) Λ₀ .tc) β) (Q : β → sProp 𝕄) =>
    Scf.wp_for0_bind' frame (wpE defs 𝒱 (c : Thread nD τ) bd) Set.univ _ _ _ (k0_t3_ok i v5 hw2) () (k0_t3_body i (Memref.whole main_arg0) (Memref.isWhole_whole _) (Memref.whole main_v11) (Memref.isWhole_whole _) (Memref.whole main_v14) (Memref.isWhole_whole _) (Memref.whole main_v15) (Memref.isWhole_whole _) m hm (Memref.whole main_v16) (Memref.isWhole_whole _) (Memref.whole cc0_scratch0) (Memref.isWhole_whole _) cc0_scratch1 cc0_scratch2 a0 v0 v5 hw2 u1 u2 u3) (t3_trips i hv hg.tot_le) kk Q _ .rfl
  iapply (h3 _ _)
  iapply (t4_loop (F := F) (defs := defs) (𝒱 := 𝒱) (bd := bd) c i m hm hsepR hGR (fun t ht => lt_of_lt_of_le (hg.pos_lt t ht) (by have := hg.tot_le; omega)) (length_rowList _ _ _ _) a0 v0 v5 hw2 u1 u2 u3) $$ [H0 HR]
  · isplitl [H0]; · iexact H0
    iexact HR
  iintro ⟨H0, HR⟩
  ihave HR := iss_wt $$ HR
  iapply (t5_loop (F := F) (defs := defs) (𝒱 := 𝒱) (bd := bd) c i m hm (wordAt (n := 32768) f0) a0 v0 v5 hw2 u1 u2 u3) $$ [HR HO]
  · isplitl [HR]; · iexact HR
    iexact HO
  iintro ⟨HR, HO⟩
  ihave HZ := iss_wt $$ HZ
  iapply (t6_loop (F := F) (defs := defs) (𝒱 := 𝒱) (bd := bd) c i m hm hg.pl_lt (fun b hb => (hg.pad_le b hb).trans (by have := hg.tot_le; omega)) (tailList tot (i 0).val 0 (tailTrips tot (i 0).val)) a0 v0 v5 hw2 u1 u2 u3) $$ [H11 H14 HZ HO]
  · isplitl [H11]; · iexact H11
    isplitl [H14]; · iexact H14
    isplitl [HZ]; · iexact HZ
    iexact HO
  iintro ⟨H11, H14, HZ, HO⟩
  iapply (wp_load_total (F := F) (defs := defs) (𝒱 := 𝒱) (bd := bd) c rfl) $$ H15
  iintro %w %hw H15
  rw [htot] at hw
  iapply (wp_assume_bind (F := F) (defs := defs) (𝒱 := 𝒱) (bd := bd) c (chk14_holds i hw hg.tot_le))
  dsimp only
  iapply (wp_pure_intro (F := F) (defs := defs) (𝒱 := 𝒱) (bd := bd) c)
  iapply Hk $$ [] [H0 H11 H14 H15 HR HZ HO]
  · ipureintro; exact hw
  · isplitl [H0 H11 H14 H15]
    · isplitl [H0]; · iexact H0
      isplitl [H11]; · iexact H11
      isplitl [H14]; · iexact H14
      iexact H15
    isplitl [HR]; · iexact HR
    isplitl [HZ]; · iexact HZ
    iexact HO

theorem wset_disjoint (c : Dev nD) (i : grid0.Coords) (m : Memref sig .tc .vmem S8192x128 .f32) (hm : m.IsWhole) {f0 : Buf (Elt F) ((c : Thread nD τ).loc main_arg0)} {f11 : Buf (Elt F) ((c : Thread nD τ).loc main_v11)} {f14 : Buf (Elt F) ((c : Thread nD τ).loc main_v14)} {tot : ℕ} (hg : Good (wordAt (n := 32768) f0) (wordAt (n := 256) f11) (wordAt (n := 256) f14) tot) :
    Disjoint (Wset (zeroPlan (wordAt (n := 256) f11) (wordAt (n := 256) f14) tot (i 0).val)) (Wset (rowList (wordAt (n := 32768) f0) (i 0).val 0 1024)) :=
  Wset_disjoint (List.pairwise_append.1 (hg.plan_sep (step_lt i))).2.2

theorem body_triple (c : Dev nD) (i : grid0.Coords) (m : Memref sig .tc .vmem S8192x128 .f32) (hm : m.IsWhole) {V G : Buf (Elt F) (outLoc c)} {fx : Buf (Elt F) (m.view.loc (c : Thread nD τ))}
    {q0 q11 q14 q15 : PosShare TreeShare} {f0 : Buf (Elt F) ((c : Thread nD τ).loc main_arg0)} {f11 : Buf (Elt F) ((c : Thread nD τ).loc main_v11)} {f14 : Buf (Elt F) ((c : Thread nD τ).loc main_v14)} {f15 : Buf (Elt F) ((c : Thread nD τ).loc main_v15)} {tot : ℕ} (hg : Good (wordAt (n := 32768) f0) (wordAt (n := 256) f11) (wordAt (n := 256) f14) tot) (htot : wordAt (n := 1) f15 0 = tot)
    (hG : ∀ p ∈ (zeroPlan (wordAt (n := 256) f11) (wordAt (n := 256) f14) tot (i 0).val), ∀ x ∈ K p, G x = z0 (F := F))
    (hGR : ∀ j < 1024, ∀ (u : S8192x128.Idx) (v : S491520x128.Idx) (r : ℕ), (u 0).val = 8 * j + r → (v 0).val = 8 * wordAt (n := 32768) f0 (1024 * (i 0).val + j) + r
      → r < 8 → (u 1).val = (v 1).val → m.view.read (Elt F) fx u = G v) {defs : Defs nD τ sig (Elt F) Λ₀} {𝒱 : Variants} {bd : Option 𝒱.V} {f : Buf (Elt F) (scrLoc c)} (hf : (i 0).val ≠ 0 → f = Zb (F := F) c) :
    iprop((((c : Thread nD τ).loc main_arg0 ↦[Finset.univ]{q0} f0) ∗ ((c : Thread nD τ).loc main_v11 ↦[Finset.univ]{q11} f11) ∗ ((c : Thread nD τ).loc main_v14 ↦[Finset.univ]{q14} f14) ∗ ((c : Thread nD τ).loc main_v15 ↦[Finset.univ]{q15} f15)) ∗ (scrLoc c ↦[Finset.univ]{fullShare} f) ∗ semVal ((c : Thread nD τ), SemLoc.dma cc0_scratch1.sem) 0 ∗ semVal ((c : Thread nD τ), SemLoc.dma cc0_scratch2.sem) 0
        ∗ (outLoc c ↦[Wset (plan (wordAt (n := 32768) f0) (wordAt (n := 256) f11) (wordAt (n := 256) f14) tot (i 0).val)]{fullShare} V) ∗ (m.view.loc (c : Thread nD τ) ↦[m.view.set]{fullShare} fx) ∗ (∃ W, owes (c : Thread nD τ) 0 W))
      ⊢ wp frame (wpE defs 𝒱 (c : Thread nD τ) bd) Set.univ (cc0_moe_dispatch (F := F) i (Memref.whole main_arg0) (Memref.isWhole_whole _) (Memref.whole main_v11) (Memref.isWhole_whole _) (Memref.whole main_v14) (Memref.isWhole_whole _) (Memref.whole main_v15) (Memref.isWhole_whole _) m hm (Memref.whole main_v16) (Memref.isWhole_whole _) (Memref.whole cc0_scratch0) (Memref.isWhole_whole _) cc0_scratch1 cc0_scratch2) (fun _ => (iprop((((c : Thread nD τ).loc main_arg0 ↦[Finset.univ]{q0} f0) ∗ ((c : Thread nD τ).loc main_v11 ↦[Finset.univ]{q11} f11) ∗ ((c : Thread nD τ).loc main_v14 ↦[Finset.univ]{q14} f14) ∗ ((c : Thread nD τ).loc main_v15 ↦[Finset.univ]{q15} f15)) ∗ (scrLoc c ↦[Finset.univ]{fullShare} Zb (F := F) c)
        ∗ semVal ((c : Thread nD τ), SemLoc.dma cc0_scratch1.sem) 0 ∗ semVal ((c : Thread nD τ), SemLoc.dma cc0_scratch2.sem) 0
        ∗ (outLoc c ↦[Wset (plan (wordAt (n := 32768) f0) (wordAt (n := 256) f11) (wordAt (n := 256) f14) tot (i 0).val)]{fullShare} G) ∗ (m.view.loc (c : Thread nD τ) ↦[m.view.set]{fullShare} fx) ∗ (∃ W, owes (c : Thread nD τ) 0 W)) : sProp 𝕄)) := by
  have hsepA := List.pairwise_append.1 (hg.plan_sep (step_lt i))
  have hsepZ : List.Pairwise Sep (zeroPlan (wordAt (n := 256) f11) (wordAt (n := 256) f14) tot (i 0).val) := hsepA.1
  have hsepR : List.Pairwise Sep (rowList (wordAt (n := 32768) f0) (i 0).val 0 1024) := hsepA.2.1
  have hdis := wset_disjoint c i m hm (tot := tot) hg
  have hW : Wset (plan (wordAt (n := 32768) f0) (wordAt (n := 256) f11) (wordAt (n := 256) f14) tot (i 0).val) = Wset (zeroPlan (wordAt (n := 256) f11) (wordAt (n := 256) f14) tot (i 0).val) ∪ Wset (rowList (wordAt (n := 32768) f0) (i 0).val 0 1024) := Wset_append _ _
  have hpos : ∀ p ∈ (plan (wordAt (n := 32768) f0) (wordAt (n := 256) f11) (wordAt (n := 256) f14) tot (i 0).val), 0 < p.2 := fun p hp => (hg.plan_bound (step_lt i) hp).2
  have hlen : (rowList (wordAt (n := 32768) f0) (i 0).val 0 1024).length = 1024 := length_rowList _ _ _ _
  have hrows : (m.view.loc (c : Thread nD τ) ↦[m.view.set]{fullShare} fx : sProp 𝕄) = bigSep Finset.univ (SrcR (F := F) c m fx (rowList (wordAt (n := 32768) f0) (i 0).val 0 1024).length) := by
    rw [hlen]; exact split_rows c m fx
  rw [cc0_moe_dispatch_eq_skeleton, hW, hrows]
  unfold cc0_moe_dispatch_skel
  iintro ⟨⟨H0, H11, H14, H15⟩, Hs, HvR, HvZ, Ho, Hx, HO⟩
  ihave Ho := (pointsTo_union (ℓ := outLoc c) (q := fullShare) (f := V) hdis).1 $$ Ho
  icases Ho with ⟨HoZ, HoR⟩
  rw [wp_bind]
  iapply (part5_step (F := F) (defs := defs) (𝒱 := 𝒱) (bd := bd) c i m hm hg htot hG hf) $$ [H11 H14 H15 Hs HvZ HoZ]
  · isplitl [H11 H14 H15]
    · isplitl [H11]; · iexact H11
      isplitl [H14]; · iexact H14
      iexact H15
    isplitl [Hs]; · iexact Hs
    isplitl [HvZ]; · iexact HvZ
    iexact HoZ
  iintro %x %hx ⟨⟨H11, H14, H15⟩, Hleft, HZ⟩
  obtain ⟨a0, v0, v5, hw2, u1, u2, u3⟩ := x
  dsimp only at hx ⊢
  imod (begin_batch (V := V) (G := G) (sem := cc0_scratch1.sem) (Src := (SrcR (F := F) c m fx (rowList (wordAt (n := 32768) f0) (i 0).val 0 1024).length)) (fun j => SrcR_storable (F := F) c m fx _ j)) $$ [HvR HoR Hx] with HR
  · isplitl [HvR]; · iexact HvR
    isplitl [HoR]; · iexact HoR
    iexact Hx
  rw [wp_bind]
  iapply (part6_step (F := F) (defs := defs) (𝒱 := 𝒱) (bd := bd) c i m hm hg htot hG hGR a0 v0 v5 hw2 u1 u2 u3 hx) $$ [H0 H11 H14 H15 HZ HR HO]
  · isplitl [H0 H11 H14 H15]
    · isplitl [H0]; · iexact H0
      isplitl [H11]; · iexact H11
      isplitl [H14]; · iexact H14
      iexact H15
    isplitl [HZ]; · iexact HZ
    isplitl [HR]; · iexact HR
    iexact HO
  iintro %y %hy ⟨⟨H0, H11, H14, H15⟩, HR, HZ, HO⟩
  obtain ⟨v36, hw14, y1, y2⟩ := y
  dsimp only at hy ⊢
  iapply (t7_loop (F := F) (defs := defs) (𝒱 := 𝒱) (bd := bd) c i m hm htot hg.tot_le v36 hw14 hy) $$ [H15 HZ HO]
  · isplitl [H15]; · iexact H15
    isplitl [HZ]; · iexact HZ
    iexact HO
  iintro ⟨H15, HZ, HO⟩
  have h8 := fun {β : Type} (kk : Unit → Prog (TpuEff nD τ sig (Elt F) Λ₀ .tc) β) (Q : β → sProp 𝕄) =>
    Scf.wp_for0_bind' frame (wpE defs 𝒱 (c : Thread nD τ) bd) Set.univ _ _ _ (k0_t8_ok i v36 hw14) () (k0_t8_body i (Memref.whole main_arg0) (Memref.isWhole_whole _) (Memref.whole main_v11) (Memref.isWhole_whole _) (Memref.whole main_v14) (Memref.isWhole_whole _) (Memref.whole main_v15) (Memref.isWhole_whole _) m hm (Memref.whole main_v16) (Memref.isWhole_whole _) (Memref.whole cc0_scratch0) (Memref.isWhole_whole _) cc0_scratch1 cc0_scratch2 v36 hw14) (t8_trips i hy hg.tot_le) kk Q _ .rfl
  iapply (h8 _ _)
  imod (end_batch hsepR (fun p hp => hpos p (List.mem_append_right _ hp))) $$ HR with ⟨HoR, Hx, HvR⟩
  imod (end_batch hsepZ (fun p hp => hpos p (List.mem_append_left _ hp))) $$ HZ with ⟨HoZ, Hs, HvZ⟩
  iapply (wp_pure_intro (F := F) (defs := defs) (𝒱 := 𝒱) (bd := bd) c)
  isplitl [H0 H11 H14 H15]
  · isplitl [H0]; · iexact H0
    isplitl [H11]; · iexact H11
    isplitl [H14]; · iexact H14
    iexact H15
  isplitl [Hs Hleft]
  · iapply (split_zeros (F := F) c (zeroPlan (wordAt (n := 256) f11) (wordAt (n := 256) f14) tot (i 0).val)).2
    isplitl [Hs]; · iexact Hs
    iexact Hleft
  isplitl [HvR]; · iexact HvR
  isplitl [HvZ]; · iexact HvZ
  isplitl [HoZ HoR]
  · iapply (pointsTo_union (ℓ := outLoc c) (q := fullShare) (f := G) hdis).2
    isplitl [HoZ]; · iexact HoZ
    iexact HoR
  isplitl [Hx]; · iexact Hx
  iexact HO

end Cert.KernelIdeal.Hand
-- ==== Proof.Tables.lean ====
/- The tables that the host prepares for the dispatch, as numbers, and what `routed` says of them. -/
module

public import proofs.«01_k».proof.Proof.Loads
public import proofs.«01_k».proof.Pre_routed
public import proofs.«01_k».proof.Proof.Gen.Pre_routed
public import Idealize.ShloMosaic.Lib.Routing.Words
public import Idealize.ShloMosaic.Lib.ReduceAll
public import Idealize.ShloMosaic.Lib.StableHlo.Predicate

@[expose] public section

namespace Cert.Tables

open Idealize.ShloMosaic Idealize.ShloMosaic.ValueIdx Idealize.ShloMosaic.Routing
open Cert.Plan
open Cert.KernelIdeal.Hand (wordAt)

/-! ## Numbers -/

/-- How many tiles of 256 rows expert `b` takes. -/
def tiles (cnt : ℕ → ℕ) (b : ℕ) : ℕ := (cnt b + 255) / 256

/-- How many tiles the experts up to and including `b` take. -/
def ends (cnt : ℕ → ℕ) (b : ℕ) : ℕ := ((List.range (b + 1)).map (tiles cnt)).sum

/-- Where the padding of expert `b` begins. -/
def start (cnt : ℕ → ℕ) (b : ℕ) : ℕ := 256 * (ends cnt b - tiles cnt b) + cnt b

/-- How many rows of padding expert `b` has. -/
def len (cnt : ℕ → ℕ) (b : ℕ) : ℕ := 256 * tiles cnt b - cnt b

theorem ends_succ (cnt : ℕ → ℕ) (b : ℕ) : ends cnt (b + 1) = ends cnt b + tiles cnt (b + 1) := by
  unfold ends
  rw [List.range_succ, List.map_append, List.sum_append, List.map_singleton, List.sum_singleton]

theorem ends_zero (cnt : ℕ → ℕ) : ends cnt 0 = tiles cnt 0 := by
  simp [ends]

theorem tiles_le_ends (cnt : ℕ → ℕ) (b : ℕ) : tiles cnt b ≤ ends cnt b := by
  cases b with
  | zero => rw [ends_zero]
  | succ b => rw [ends_succ]; omega

theorem ends_mono (cnt : ℕ → ℕ) {a b : ℕ} (h : a ≤ b) : ends cnt a ≤ ends cnt b := by
  induction b, h using Nat.le_induction with
  | base => exact le_rfl
  | succ b _ ih => rw [ends_succ]; omega

theorem ends_step (cnt : ℕ → ℕ) {a b : ℕ} (h : a < b) : ends cnt a + tiles cnt b ≤ ends cnt b := by
  obtain ⟨b, rfl⟩ : ∃ b', b = b' + 1 := ⟨b - 1, by omega⟩
  rw [ends_succ]
  have := ends_mono cnt (show a ≤ b by omega)
  omega

theorem cnt_le (cnt : ℕ → ℕ) (b : ℕ) : cnt b ≤ 256 * tiles cnt b := by
  unfold tiles; omega

theorem start_len (cnt : ℕ → ℕ) (b : ℕ) : start cnt b + len cnt b = 256 * ends cnt b := by
  have h1 := tiles_le_ends cnt b
  have h2 := cnt_le cnt b
  unfold start len
  omega

theorem tiles_le {cnt : ℕ → ℕ} {b : ℕ} (h : cnt b ≤ 32768) : tiles cnt b ≤ 128 := by
  unfold tiles; omega

theorem ends_le {cnt : ℕ → ℕ} (h : ∀ b < 256, cnt b ≤ 32768) {b : ℕ} (hb : b < 256) : ends cnt b ≤ 128 * (b + 1) := by
  induction b with
  | zero => rw [ends_zero]; exact tiles_le (h 0 hb)
  | succ b ih =>
    rw [ends_succ]
    have := ih (by omega)
    have := tiles_le (h (b + 1) hb)
    omega

theorem sum_len (cnt : ℕ → ℕ) (n : ℕ) :
    ∑ b ∈ Finset.range (n + 1), len cnt b + ((List.range (n + 1)).map cnt).sum = 256 * ends cnt n := by
  induction n with
  | zero =>
    have := cnt_le cnt 0
    rw [ends_zero]
    simp [len]
    omega
  | succ n ih =>
    have := cnt_le cnt (n + 1)
    rw [Finset.sum_range_succ, List.range_succ, List.map_append, List.sum_append, List.map_singleton, List.sum_singleton, ends_succ,
      Nat.mul_add, ← ih]
    unfold len
    omega

/-- The rows of the tokens and the padding make up all rows of the tiles: the tokens stand apart from one another and from the
    padding, and together they are as many as the rows. -/
theorem cover_of (pos cnt : ℕ → ℕ) (hsum : ((List.range 256).map cnt).sum = 32768)
    (hlt : ∀ t < 32768, pos t < 256 * ends cnt 255) (hinj : ∀ t < 32768, ∀ t' < 32768, pos t = pos t' → t = t')
    (hpad : ∀ t < 32768, ∀ b < 256, pos t < start cnt b ∨ start cnt b + len cnt b ≤ pos t)
    (hsep : ∀ b < 256, ∀ b' < 256, b < b' → start cnt b + len cnt b ≤ start cnt b') :
    ∀ r < 256 * ends cnt 255, (∃ t < 32768, pos t = r) ∨ ∃ b < 256, start cnt b ≤ r ∧ r < start cnt b + len cnt b := by
  classical
  let A : Finset ℕ := (Finset.range 32768).image pos
  let B : Finset ℕ := (Finset.range 256).biUnion fun b => Finset.Ico (start cnt b) (start cnt b + len cnt b)
  have hA : A.card = 32768 := by
    rw [Finset.card_image_of_injOn, Finset.card_range]
    intro t ht t' ht' e
    exact hinj t (by simpa using ht) t' (by simpa using ht') e
  have hB : B.card = ∑ b ∈ Finset.range 256, len cnt b := by
    rw [Finset.card_biUnion]
    · refine Finset.sum_congr rfl fun b _ => ?_
      rw [Nat.card_Ico]; omega
    · intro b hb b' hb' ne
      have hb := Finset.mem_range.1 hb
      have hb' := Finset.mem_range.1 hb'
      refine Finset.disjoint_left.2 fun x hx hx' => ?_
      rw [Finset.mem_Ico] at hx hx'
      rcases Nat.lt_or_gt_of_ne ne with h | h
      · have := hsep b hb b' hb' h; omega
      · have := hsep b' hb' b hb h; omega
  have hAB : Disjoint A B := by
    rw [Finset.disjoint_left]
    intro x hx hx'
    obtain ⟨t, ht, rfl⟩ := Finset.mem_image.1 hx
    obtain ⟨b, hb, hxb⟩ := Finset.mem_biUnion.1 hx'
    rw [Finset.mem_Ico] at hxb
    rcases hpad t (Finset.mem_range.1 ht) b (Finset.mem_range.1 hb) with h | h <;> omega
  have hsub : A ∪ B ⊆ Finset.range (256 * ends cnt 255) := by
    intro x hx
    rw [Finset.mem_range]
    rcases Finset.mem_union.1 hx with hx | hx
    · obtain ⟨t, ht, rfl⟩ := Finset.mem_image.1 hx
      exact hlt t (Finset.mem_range.1 ht)
    · obtain ⟨b, hb, hxb⟩ := Finset.mem_biUnion.1 hx
      rw [Finset.mem_Ico] at hxb
      have h1 := start_len cnt b
      have h2 := ends_mono cnt (show b ≤ 255 by have := Finset.mem_range.1 hb; omega)
      omega
  have hcard : (Finset.range (256 * ends cnt 255)).card ≤ (A ∪ B).card := by
    rw [Finset.card_union_of_disjoint hAB, hA, hB, Finset.card_range]
    have : ∑ b ∈ Finset.range 256, len cnt b + ((List.range 256).map cnt).sum = 256 * ends cnt 255 := sum_len cnt 255
    rw [hsum] at this
    omega
  have heq := Finset.eq_of_subset_of_card_le hsub hcard
  intro r hr
  have hr' : r ∈ A ∪ B := by rw [heq]; exact Finset.mem_range.2 hr
  rcases Finset.mem_union.1 hr' with h | h
  · obtain ⟨t, ht, rfl⟩ := Finset.mem_image.1 h
    exact Or.inl ⟨t, Finset.mem_range.1 ht, rfl⟩
  · obtain ⟨b, hb, hxb⟩ := Finset.mem_biUnion.1 h
    rw [Finset.mem_Ico] at hxb
    exact Or.inr ⟨b, Finset.mem_range.1 hb, hxb.1, hxb.2⟩

/-! ## Words -/

theorem wordAt_ix1 {n : ℕ} (f : (shape1 n).Idx → BitVec 32) (j : Fin n) : wordAt (n := n) f j.val = (f (ix1 j)).toNat := by
  unfold wordAt
  rw [dif_pos j.isLt]
  refine congrArg (fun i => (f i).toNat) (funext fun a => ?_)
  match a with
  | ⟨0, _⟩ => rfl

theorem word_of {n : ℕ} (f : (shape1 n).Idx → BitVec 32) (j : Fin n) : f (ix1 j) = BitVec.ofNat 32 (wordAt (n := n) f j.val) := by
  rw [wordAt_ix1, BitVec.ofNat_toNat, BitVec.setWidth_eq]

/-- The tables' words, from a vector `T` that holds the numbers of tiles. -/
theorem ends_word (cnt : ℕ → ℕ) (T : IVec (shape1 256) 32) (hT : ∀ b : Fin 256, T (ix1 b) = BitVec.ofNat 32 (tiles cnt b.val))
    (init : IVec shape0 32) (hi : init ix0 = 0#32) (h : (shape1 256).ReduceWindows (![256] : Fin 1 → Nat) ![1] ![255] ![0] (shape1 256))
    (hu : 0 < shape0.numel) (b : Fin 256) :
    Host.reduceWindow IntOp.addi ![256] ![1] ![255] ![0] T init h hu (ix1 b) = BitVec.ofNat 32 (ends cnt b.val) :=
  cumsum1 (by decide) T (tiles cnt) hT init hi h hu b

theorem start_word (cnt : ℕ → ℕ) (b : ℕ) (e t c : BitVec 32) (he : e = BitVec.ofNat 32 (ends cnt b)) (ht : t = BitVec.ofNat 32 (tiles cnt b))
    (hc : c = BitVec.ofNat 32 (cnt b)) : (e - t) * 256#32 + c = BitVec.ofNat 32 (start cnt b) := by
  rw [he, ht, hc, ofNat32_sub (tiles_le_ends cnt b), show (256#32 : BitVec 32) = BitVec.ofNat 32 256 from rfl, ← BitVec.ofNat_mul,
    BitVec.ofNat_add_ofNat, Nat.mul_comm]
  rfl

theorem len_word (cnt : ℕ → ℕ) (b : ℕ) (t c : BitVec 32) (ht : t = BitVec.ofNat 32 (tiles cnt b))
    (hc : c = BitVec.ofNat 32 (cnt b)) : t * 256#32 - c = BitVec.ofNat 32 (len cnt b) := by
  rw [ht, hc, show (256#32 : BitVec 32) = BitVec.ofNat 32 256 from rfl, ← BitVec.ofNat_mul, Nat.mul_comm, ofNat32_sub (cnt_le cnt b)]
  rfl

/-- The number of tiles as the dispatch's host lines print it. -/
theorem tiles_wordK (hb : shape0.BroadcastsInDim (shape1 256) (![] : Fin 0 → Fin (shape1 256).rank)) (counts : IVec (shape1 256) 32)
    (x : IVec (shape1 256) 32) (b : Fin 256) (hx : x (ix1 b) = counts (ix1 b) + 256#32 - 1#32) (h : wordAt (n := 256) counts b.val ≤ 32768) :
    pyDiv hb x (constantI shape0 32 256#32) (ix1 b) = BitVec.ofNat 32 (tiles (wordAt (n := 256) counts) b.val) := by
  refine pyDiv_ap hb x _ (ix1 b) (a := wordAt (n := 256) counts b.val + 255) (b := 256) ?_ rfl (by omega) (by omega) (by omega)
  rw [hx, word_of counts b, show (256#32 : BitVec 32) = BitVec.ofNat 32 256 from rfl, BitVec.ofNat_add_ofNat,
    show (1#32 : BitVec 32) = BitVec.ofNat 32 1 from rfl, ofNat32_sub (by omega)]
  rfl

/-- The number of tiles as the precondition prints it. -/
theorem tiles_wordP (hb : shape0.BroadcastsInDim (shape1 256) (![] : Fin 0 → Fin (shape1 256).rank)) (counts : IVec (shape1 256) 32)
    (x : IVec (shape1 256) 32) (b : Fin 256) (hx : x (ix1 b) = counts (ix1 b) + 255#32) (h : wordAt (n := 256) counts b.val ≤ 32768) :
    pyDiv hb x (constantI shape0 32 256#32) (ix1 b) = BitVec.ofNat 32 (tiles (wordAt (n := 256) counts) b.val) := by
  refine pyDiv_ap hb x _ (ix1 b) (a := wordAt (n := 256) counts b.val + 255) (b := 256) ?_ rfl (by omega) (by omega) (by omega)
  rw [hx, word_of counts b, show (255#32 : BitVec 32) = BitVec.ofNat 32 255 from rfl, BitVec.ofNat_add_ofNat]

theorem toNat_lt_of_sge {a : BitVec 32} (h0 : IntOp.cmpi .sge a 0#32 = 1#1) : a.toNat < 2 ^ 31 := by
  unfold IntOp.cmpi at h0
  rw [StableHlo.Predicate.ofBool_eq_one_iff] at h0
  have h0' : (0 : ℤ) ≤ a.toInt := by
    have := BitVec.sle_iff_toInt_le.1 h0
    simpa using this
  rw [BitVec.toInt_eq_toNat_cond] at h0'
  split at h0' <;> omega

/-- A word at least zero and at most a small number, both signed. -/
theorem toNat_le_of {a w : BitVec 32} (hw : w.toNat < 2 ^ 31) (h0 : IntOp.cmpi .sge a 0#32 = 1#1) (h1 : IntOp.cmpi .sle a w = 1#1) :
    a.toNat ≤ w.toNat :=
  (StableHlo.Predicate.sle_iff_toNat (toNat_lt_of_sge h0) hw).1 h1

theorem toNat_lt_of {a w : BitVec 32} (hw : w.toNat < 2 ^ 31) (h0 : IntOp.cmpi .sge a 0#32 = 1#1) (h1 : IntOp.cmpi .slt a w = 1#1) :
    a.toNat < w.toNat :=
  (StableHlo.Predicate.slt_iff_toNat (toNat_lt_of_sge h0) hw).1 h1

/-! ## What `routed` says -/

/-- From the comparisons that `routed` makes, one word at a time. -/
theorem good_core (pos : IVec (shape1 32768) 32) (counts T E S : IVec (shape1 256) 32) (tot : BitVec 32)
    (hcnt : ∀ b : Fin 256, IntOp.cmpi .sge (counts (ix1 b)) 0#32 = 1#1 ∧ IntOp.cmpi .sle (counts (ix1 b)) 32768#32 = 1#1)
    (hT : (∀ b : Fin 256, wordAt (n := 256) counts b.val ≤ 32768) → ∀ b : Fin 256, T (ix1 b) = BitVec.ofNat 32 (tiles (wordAt (n := 256) counts) b.val))
    (hE : (∀ b : Fin 256, T (ix1 b) = BitVec.ofNat 32 (tiles (wordAt (n := 256) counts) b.val)) →
      ∀ b : Fin 256, E (ix1 b) = BitVec.ofNat 32 (ends (wordAt (n := 256) counts) b.val))
    (hS : ∀ b : Fin 256, S (ix1 b) = (E (ix1 b) - T (ix1 b)) * 256#32 + counts (ix1 b))
    (hsum : IntOp.cmpi .eq (BitVec.ofNat 32 ((List.range 256).map (wordAt (n := 256) counts)).sum) 32768#32 = 1#1)
    (ht : tot = E (ix1 (255 : Fin 256)))
    (htot : IntOp.cmpi .sle tot 240#32 = 1#1)
    (hpos : ∀ t : Fin 32768, IntOp.cmpi .sge (pos (ix1 t)) 0#32 = 1#1 ∧ IntOp.cmpi .slt (pos (ix1 t)) (tot * 256#32) = 1#1)
    (hgap : ∀ (t : Fin 32768) (b : Fin 256), IntOp.cmpi .slt (pos (ix1 t)) (S (ix1 b)) = 1#1 ∨
      IntOp.cmpi .sge (pos (ix1 t)) (E (ix1 b) * 256#32) = 1#1)
    (hne : ∀ t t' : Fin 32768, IntOp.cmpi .ne (pos (ix1 t)) (pos (ix1 t')) = 1#1 ∨
      IntOp.cmpi .eq (BitVec.ofNat 32 t.val) (BitVec.ofNat 32 t'.val) = 1#1) :
    (∀ b < 256, wordAt (n := 256) counts b ≤ 32768) ∧
    Good (wordAt (n := 32768) pos) (start (wordAt (n := 256) counts)) (len (wordAt (n := 256) counts)) (ends (wordAt (n := 256) counts) 255) := by
  have hc' : ∀ b : Fin 256, wordAt (n := 256) counts b.val ≤ 32768 := fun b => by
    rw [wordAt_ix1]; exact toNat_le_of (w := 32768#32) (by decide) (hcnt b).1 (hcnt b).2
  have hc : ∀ b < 256, wordAt (n := 256) counts b ≤ 32768 := fun b hb => hc' ⟨b, hb⟩
  refine ⟨hc, ?_⟩
  have hT := hT hc'
  have hE := hE hT
  have hS : ∀ b : Fin 256, S (ix1 b) = BitVec.ofNat 32 (start (wordAt (n := 256) counts) b.val) := fun b =>
    (hS b).trans (start_word _ b.val _ _ _ (hE b) (hT b) (word_of counts b))
  generalize hC : wordAt (n := 256) counts = cnt at hT hE hS hc hsum ⊢
  have hEl : ∀ b < 256, ends cnt b ≤ 32768 := fun b hb => by
    have := ends_le hc hb
    omega
  have hSE : ∀ b, start cnt b ≤ 256 * ends cnt b := fun b => by
    have := start_len cnt b
    omega
  have ht' : tot.toNat = ends cnt 255 := by
    have h1 := hE (255 : Fin 256)
    have h2 := hEl 255 (by omega)
    rw [ht, h1, BitVec.toNat_ofNat]
    exact Nat.mod_eq_of_lt (by show ends cnt 255 < _; omega)
  have htot' : ends cnt 255 ≤ 240 := by
    rw [← ht']
    exact (StableHlo.Predicate.sle_iff_toNat (by have := hEl 255 (by omega); omega) (b := 240#32) (by decide)).1 htot
  have htw : (tot * 256#32).toNat = 256 * ends cnt 255 := by
    rw [BitVec.toNat_mul, ht']
    show ends cnt 255 * 256 % 2 ^ 32 = _
    omega
  have hp31 : ∀ t : Fin 32768, (pos (ix1 t)).toNat < 2 ^ 31 := fun t => toNat_lt_of_sge (hpos t).1
  have hlt : ∀ t < 32768, wordAt (n := 32768) pos t < 256 * ends cnt 255 := fun t h => by
    rw [wordAt_ix1 pos ⟨t, h⟩, ← htw]
    exact toNat_lt_of (by omega) (hpos ⟨t, h⟩).1 (hpos ⟨t, h⟩).2
  have hinj : ∀ t < 32768, ∀ t' < 32768, wordAt (n := 32768) pos t = wordAt (n := 32768) pos t' → t = t' := fun t h t' h' e => by
    rw [wordAt_ix1 pos ⟨t, h⟩, wordAt_ix1 pos ⟨t', h'⟩] at e
    have e' := BitVec.eq_of_toNat_eq e
    rcases hne ⟨t, h⟩ ⟨t', h'⟩ with hn | hn
    · rw [e'] at hn
      unfold IntOp.cmpi at hn
      rw [StableHlo.Predicate.ofBool_eq_one_iff] at hn
      simp at hn
    · have := congrArg BitVec.toNat (StableHlo.Predicate.cmpi_eq_iff.1 hn)
      rw [BitVec.toNat_ofNat, BitVec.toNat_ofNat] at this
      simp only at this
      omega
  have hpad : ∀ t < 32768, ∀ b < 256, wordAt (n := 32768) pos t < start cnt b ∨ start cnt b + len cnt b ≤ wordAt (n := 32768) pos t := fun t h b hb => by
    rw [start_len, wordAt_ix1 pos ⟨t, h⟩]
    have h1 := hEl b hb
    have h2 := hSE b
    rcases hgap ⟨t, h⟩ ⟨b, hb⟩ with hn | hn
    · left
      have e : (S (ix1 (⟨b, hb⟩ : Fin 256))).toNat = start cnt b := by
        rw [hS ⟨b, hb⟩, BitVec.toNat_ofNat]; exact Nat.mod_eq_of_lt (by show start cnt b < _; omega)
      have := (StableHlo.Predicate.slt_iff_toNat (hp31 ⟨t, h⟩) (by omega)).1 hn
      omega
    · right
      have e : (E (ix1 (⟨b, hb⟩ : Fin 256)) * 256#32).toNat = 256 * ends cnt b := by
        rw [hE ⟨b, hb⟩, BitVec.toNat_mul, BitVec.toNat_ofNat]
        show ends cnt b % 2 ^ 32 * 256 % 2 ^ 32 = _
        omega
      have := (StableHlo.Predicate.sge_iff_toNat (hp31 ⟨t, h⟩) (by omega)).1 hn
      omega
  have hsep : ∀ b < 256, ∀ b' < 256, b < b' → start cnt b + len cnt b ≤ start cnt b' := fun b hb b' hb' h => by
    rw [start_len]
    have := ends_step cnt h
    unfold start
    omega
  have hsum' : ((List.range 256).map cnt).sum = 32768 := by
    have e := congrArg BitVec.toNat (StableHlo.Predicate.cmpi_eq_iff.1 hsum)
    have b : ((List.range 256).map cnt).sum ≤ 256 * 32768 := by
      have := List.sum_le_card_nsmul ((List.range 256).map cnt) 32768 (fun x hx => by
        obtain ⟨b, hb, rfl⟩ := List.mem_map.1 hx
        exact hc b (List.mem_range.1 hb))
      simpa using this
    rw [BitVec.toNat_ofNat, Nat.mod_eq_of_lt (by omega)] at e
    exact e
  exact
    { tot_le := htot'
      pl_lt := fun b hb => by unfold len tiles; omega
      pad_le := fun b hb => by
        rw [start_len]
        exact Nat.mul_le_mul_left _ (ends_mono cnt (by omega))
      pos_lt := hlt
      pos_inj := hinj
      pad_sep := hsep
      pos_pad := hpad
      cover := cover_of _ cnt hsum' hlt hinj hpad hsep }

/-- A vector of one entry as a scalar. -/
theorem cast_one_zero {α : Type} (x : (shape1 1).Idx → α) (h : (shape1 1).ShapeCasts shape0) : shapeCast shape0 x h ix0 = x (ix1 (0 : Fin 1)) := by
  refine shapeCast_apply x h _ _ ?_
  rw [Shape.rowMajor_val_one]
  exact (Nat.lt_one_iff.1 (Fin.isLt (shape0.rowMajor ix0))).symm

section Named
open Cert.Pre_routed (S_ S1 S256 S32768)
variable {F : FTy → Type} [FloatOps F]

/-- The number of tiles of every expert, as `routed` prints it. -/
def tilesP (counts : IVec S256 32) : IVec S256 32 :=
  Cert.Pre_routed.fn_floor_divide (F := F) (addi counts (broadcastInDim S256 ![] Cert.Pre_routed.Facts.bcast_S_S256 (constantI S_ 32 255#32))) (constantI S_ 32 256#32)

/-- Their running sum. -/
def endsP (counts : IVec S256 32) : IVec S256 32 := Cert.Pre_routed.fn_cumsum (F := F) (tilesP (F := F) counts)

/-- Where the padding begins. -/
def startP (counts : IVec S256 32) : IVec S256 32 :=
  addi (muli (subi (endsP (F := F) counts) (tilesP (F := F) counts)) (broadcastInDim S256 ![] Cert.Pre_routed.Facts.bcast_S_S256 (constantI S_ 32 256#32))) counts

theorem cmpi_bc (p : CmpIPredicate) (v : IVec (shape1 256) 32) (w : BitVec 32) (hb : shape0.BroadcastsInDim (shape1 256) (![] : Fin 0 → Fin (shape1 256).rank))
    (b : Fin 256) (h : cmpi p v (broadcastInDim (shape1 256) ![] hb (constantI shape0 32 w)) (ix1 b) = 1#1) : IntOp.cmpi p (v (ix1 b)) w = 1#1 := by
  have h' : IntOp.cmpi p _ _ = 1#1 := h
  rw [bc0] at h'
  exact h'

instance : Subsingleton S_.Idx := ⟨fun a b => (eq_ix0 a).trans (eq_ix0 b).symm⟩

/-- The last entry of the running sum, as the scalar that `routed` makes of it. -/
def lastP (E : IVec S256 32) : IVec S_ 32 :=
  shapeCast S_ (extractStridedSlice S1 ![255] E Cert.Pre_routed.Facts.slices_S256_S1_255) Cert.Pre_routed.Facts.shapeCasts_S1_S_

theorem lastP_eq (E : IVec S256 32) : lastP E ix0 = E (ix1 (255 : Fin 256)) := by
  unfold lastP
  refine (cast_one_zero _ _).trans ?_
  exact slice1 255 E Cert.Pre_routed.Facts.slices_S256_S1_255 (0 : Fin 1) (by decide)

/-- The comparisons of the second half of `routed`. -/
theorem part_of (pos : IVec S32768 32) (E S : IVec S256 32) (b0 b1 : IVec S_ 1) (h : Cert.Pre_routed.fn_part1 (F := F) pos E S b0 b1 ix0 = 1#1) :
    b0 ix0 = 1#1 ∧ b1 ix0 = 1#1 ∧ IntOp.cmpi .sle (lastP E ix0) 240#32 = 1#1
    ∧ (∀ t : Fin 32768, IntOp.cmpi .sge (pos (ix1 t)) 0#32 = 1#1 ∧ IntOp.cmpi .slt (pos (ix1 t)) (lastP E ix0 * 256#32) = 1#1)
    ∧ (∀ (t : Fin 32768) (b : Fin 256), IntOp.cmpi .slt (pos (ix1 t)) (S (ix1 b)) = 1#1 ∨ IntOp.cmpi .sge (pos (ix1 t)) (E (ix1 b) * 256#32) = 1#1)
    ∧ (∀ t t' : Fin 32768, IntOp.cmpi .ne (pos (ix1 t)) (pos (ix1 t')) = 1#1 ∨ IntOp.cmpi .eq (BitVec.ofNat 32 t.val) (BitVec.ofNat 32 t'.val) = 1#1) := by
  unfold Cert.Pre_routed.fn_part1 Cert.Pre_routed.fn_part2 Cert.Pre_routed.fn_part3 at h
  obtain ⟨h, hne⟩ := IntOp.andi_eq_one.1 h
  obtain ⟨h, hgap⟩ := IntOp.andi_eq_one.1 h
  obtain ⟨h, hpos⟩ := IntOp.andi_eq_one.1 h
  obtain ⟨h, htot⟩ := IntOp.andi_eq_one.1 h
  obtain ⟨hcnt, hsum⟩ := IntOp.andi_eq_one.1 h
  refine ⟨hcnt, hsum, htot, ?_, ?_, ?_⟩
  · intro t
    have e := IntOp.andi_eq_one.1 (Host.reduce_andi_all _ _ _ _ _ hpos (ix1 t))
    refine ⟨e.1, ?_⟩
    have e' : IntOp.cmpi .slt (pos (ix1 t)) (broadcastInDim (shape1 32768) ![] Cert.Pre_routed.Facts.bcast_S_S32768 (muli (lastP E) (constantI S_ 32 256#32)) (ix1 t)) = 1#1 := e.2
    rw [bc0] at e'
    exact e'
  · intro t b
    have e := IntOp.ori_eq_one.1 (Host.reduce_andi_all _ _ _ _ _ hgap (ix2 t b))
    have e1 : ∀ v : IVec (shape1 32768) 32, broadcastInDim (shape2 32768 256) ![0, 1] Cert.Pre_routed.Facts.bcast_S32768x1_S32768x256_0_1
        (broadcastInDim (shape2 32768 1) ![0] Cert.Pre_routed.Facts.bcast_S32768_S32768x1_0 v) (ix2 t b) = v (ix1 t) := fun v => bcRows _ _ v t b
    have e2 : ∀ v : IVec (shape1 256) 32, broadcastInDim (shape2 32768 256) ![0, 1] Cert.Pre_routed.Facts.bcast_S1x256_S32768x256_0_1
        (broadcastInDim (shape2 1 256) ![1] Cert.Pre_routed.Facts.bcast_S256_S1x256_1 v) (ix2 t b) = v (ix1 b) := fun v => bcCols _ _ v t b
    have key : ∀ (p : CmpIPredicate) (v : IVec (shape1 256) 32), cmpi p (broadcastInDim (shape2 32768 256) ![0, 1] Cert.Pre_routed.Facts.bcast_S32768x1_S32768x256_0_1
        (broadcastInDim (shape2 32768 1) ![0] Cert.Pre_routed.Facts.bcast_S32768_S32768x1_0 pos))
        (broadcastInDim (shape2 32768 256) ![0, 1] Cert.Pre_routed.Facts.bcast_S1x256_S32768x256_0_1
        (broadcastInDim (shape2 1 256) ![1] Cert.Pre_routed.Facts.bcast_S256_S1x256_1 v)) (ix2 t b) = 1#1 → IntOp.cmpi p (pos (ix1 t)) (v (ix1 b)) = 1#1 := by
      intro p v hv
      have hv' : IntOp.cmpi p _ _ = 1#1 := hv
      rw [e1, e2] at hv'
      exact hv'
    exact e.imp (fun e => key .slt S e) (fun e => key .sge (muli E (broadcastInDim S256 ![] Cert.Pre_routed.Facts.bcast_S_S256 (constantI S_ 32 256#32))) e)
  · intro t t'
    have e := IntOp.ori_eq_one.1 (Host.reduce_andi_all _ _ _ _ _ hne (ix2 t t'))
    have e1 : ∀ v : IVec (shape1 32768) 32, broadcastInDim (shape2 32768 32768) ![0, 1] Cert.Pre_routed.Facts.bcast_S32768x1_S32768x32768_0_1
        (broadcastInDim (shape2 32768 1) ![0] Cert.Pre_routed.Facts.bcast_S32768_S32768x1_0 v) (ix2 t t') = v (ix1 t) := fun v => bcRows _ _ v t t'
    have e2 : ∀ v : IVec (shape1 32768) 32, broadcastInDim (shape2 32768 32768) ![0, 1] Cert.Pre_routed.Facts.bcast_S1x32768_S32768x32768_0_1
        (broadcastInDim (shape2 1 32768) ![1] Cert.Pre_routed.Facts.bcast_S32768_S1x32768_1 v) (ix2 t t') = v (ix1 t') := fun v => bcCols _ _ v t t'
    have key : ∀ (p : CmpIPredicate) (v : IVec (shape1 32768) 32), cmpi p (broadcastInDim (shape2 32768 32768) ![0, 1] Cert.Pre_routed.Facts.bcast_S32768x1_S32768x32768_0_1
        (broadcastInDim (shape2 32768 1) ![0] Cert.Pre_routed.Facts.bcast_S32768_S32768x1_0 v))
        (broadcastInDim (shape2 32768 32768) ![0, 1] Cert.Pre_routed.Facts.bcast_S1x32768_S32768x32768_0_1
        (broadcastInDim (shape2 1 32768) ![1] Cert.Pre_routed.Facts.bcast_S32768_S1x32768_1 v)) (ix2 t t') = 1#1 → IntOp.cmpi p (v (ix1 t)) (v (ix1 t')) = 1#1 := by
      intro p v hv
      have hv' : IntOp.cmpi p _ _ = 1#1 := hv
      rw [e1, e2] at hv'
      exact hv'
    exact e.imp (fun e => key .ne pos e) (fun e => key .eq (iotaInDim S32768 32 0) e)

theorem ends_of (cnt : ℕ → ℕ) (T : IVec S256 32) (hT : ∀ b : Fin 256, T (ix1 b) = BitVec.ofNat 32 (tiles cnt b.val)) (b : Fin 256) :
    Cert.Pre_routed.fn_cumsum (F := F) T (ix1 b) = BitVec.ofNat 32 (ends cnt b.val) := by
  unfold Cert.Pre_routed.fn_cumsum Cert.Pre_routed.fn_cumsum_0
  exact ends_word cnt T hT (broadcastInDim S_ ![] Cert.Pre_routed.Facts.bcast_S_S_ (constantI S_ 32 0#32)) rfl
    Cert.Pre_routed.Facts.reduceWindows_S256_S256_w256s1p255_0 Cert.Pre_routed.Facts.h_S_ b

theorem good_of (pos : IVec S32768 32) (counts : IVec S256 32) (x : FVec F Cert.Pre_routed.S262144x128 .f32)
    (h : Cert.Pre_routed.fn (F := F) pos counts x = fun _ => 1#1) :
    (∀ b < 256, wordAt (n := 256) counts b ≤ 32768) ∧
    Good (wordAt (n := 32768) pos) (start (wordAt (n := 256) counts)) (len (wordAt (n := 256) counts)) (ends (wordAt (n := 256) counts) 255) := by
  obtain ⟨hcnt, hsum, htot, hpos, hgap, hne⟩ := part_of (F := F) pos (endsP (F := F) counts) (startP (F := F) counts) _ _ (congrFun h ix0)
  refine good_core pos counts (tilesP (F := F) counts) (endsP (F := F) counts) (startP (F := F) counts) (lastP (endsP (F := F) counts) ix0)
    ?_ ?_ ?_ (fun _ => rfl) ?_ (lastP_eq _) htot hpos hgap hne
  · intro b
    have e := Host.reduce_andi_all (s := shape1 256) (andi (cmpi .sge counts (broadcastInDim S256 ![] Cert.Pre_routed.Facts.bcast_S_S256 (constantI S_ 32 0#32)))
      (cmpi .sle counts (broadcastInDim S256 ![] Cert.Pre_routed.Facts.bcast_S_S256 (constantI S_ 32 32768#32)))) _ _ _ ix0 hcnt (ix1 b)
    obtain ⟨e0, e1⟩ := IntOp.andi_eq_one.1 e
    exact ⟨cmpi_bc .sge counts _ _ b e0, cmpi_bc .sle counts _ _ b e1⟩
  · intro hc b
    exact tiles_wordP Cert.Pre_routed.Facts.bcast_S_S256 counts _ b rfl (hc b)
  · intro hT b
    exact ends_of _ _ hT b
  · have e := reduce_sum counts (wordAt (n := 256) counts) (fun i => word_of counts i) Cert.Pre_routed.Facts.reducesTo_S256_S_d0 Cert.Pre_routed.Facts.h_S_
    rw [← e]
    exact hsum

end Named

end Cert.Tables

end
-- ==== Proof.Host.lean ====
/- What the buffers hold when the dispatch begins: the host's lines, and the tables that they make. -/
module

public import proofs.«01_k».proof.Proof.Body
public import proofs.«01_k».proof.Proof.Tables
public import Idealize.ShloMosaic.Lib.Pipeline.FrameValue
public import Idealize.ShloMosaic.Lib.StableHlo.RunRead
public import Idealize.ShloMosaic.Lib.Claim

@[expose] public section

noncomputable section

namespace Cert.KernelIdeal.Hand

open Cert.KernelIdeal Cert.KernelIdeal.Gen Cert.Plan Cert.Tables
open Idealize.ShloMosaic Idealize.ShloMosaic.TcCoe Idealize.ShloMosaic.Tactic
open Idealize.ShloMosaic.StableHlo Idealize.ShloMosaic.Routing Idealize.ShloMosaic.ValueIdx

variable {F : FTy → Type} [FloatOps F]

/-- What a buffer holds after the host's lines. -/
def V (m : (ℓ : Loc nD τ sig) → Buf (Elt F) ℓ) (c : Dev nD) (b : Ref sig .tc) : Buf (Elt F) ((c.tc : Thread nD τ).loc b) :=
  StableHlo.after (List.flatten [hostOps0 (F := F), hostOps0_1, hostOps0_2, hostOps0_3]) (fun b => m (c, b)) b

/-- The number of tiles of every expert. -/
def tilesH (counts : IVec S256 32) : IVec S256 32 :=
  pyDiv bcast_S_S256 (subi (addi counts (broadcastInDim S256 ![] bcast_S_S256 (constantI S_ 32 256#32))) (broadcastInDim S256 ![] bcast_S_S256 (constantI S_ 32 1#32)))
    (constantI S_ 32 256#32)

/-- Their running sum. -/
def endsH (T : IVec S256 32) : IVec S256 32 :=
  Host.reduceWindow IntOp.addi ![256] ![1] ![255] ![0] T (broadcastInDim S_ ![] bcast_S_S_ (constantI S_ 32 0#32)) reduceWindows_S256_S256_w256s1p255_0 h_S_

def startH (counts E T : IVec S256 32) : IVec S256 32 :=
  addi (muli (subi E T) (broadcastInDim S256 ![] bcast_S_S256 (constantI S_ 32 256#32))) counts

def lenH (counts T : IVec S256 32) : IVec S256 32 :=
  subi (muli T (broadcastInDim S256 ![] bcast_S_S256 (constantI S_ 32 256#32))) counts

def lastH (E : IVec S256 32) : IVec S1 32 :=
  shapeCast S1 (shapeCast S_ (extractStridedSlice S1 ![255] E slices_S256_S1_255) shapeCasts_S1_S_) shapeCasts_S_S1

variable (m : (ℓ : Loc nD τ sig) → Buf (Elt F) ℓ) (c : Dev nD)

theorem V_arg0 : V m c main_arg0 = m ((c.tc : Thread nD τ).loc main_arg0) := by
  unfold V
  after_reads_simp

theorem V_arg1 : V m c main_arg1 = m ((c.tc : Thread nD τ).loc main_arg1) := by
  unfold V
  after_reads_simp

theorem V_arg2 : V m c main_arg2 = m ((c.tc : Thread nD τ).loc main_arg2) := by
  unfold V
  after_reads_simp

theorem V_v11 : V m c main_v11 = startH (m ((c.tc : Thread nD τ).loc main_arg1)) (endsH (tilesH (m ((c.tc : Thread nD τ).loc main_arg1))))
    (tilesH (m ((c.tc : Thread nD τ).loc main_arg1))) := by
  unfold V
  after_reads_simp
  simp -implicitDefEqProofs only [StableHlo.TRef.toBuf, StableHlo.TRef.ofBuf, cast_cast, cast_eq, id]
  simp only [startH, lenH, lastH, endsH, tilesH, pyDiv]
  first | done | rfl

theorem V_v14 : V m c main_v14 = lenH (m ((c.tc : Thread nD τ).loc main_arg1)) (tilesH (m ((c.tc : Thread nD τ).loc main_arg1))) := by
  unfold V
  after_reads_simp
  simp -implicitDefEqProofs only [StableHlo.TRef.toBuf, StableHlo.TRef.ofBuf, cast_cast, cast_eq, id]
  simp only [startH, lenH, lastH, endsH, tilesH, pyDiv]
  first | done | rfl

theorem V_v15 : V m c main_v15 = lastH (endsH (tilesH (m ((c.tc : Thread nD τ).loc main_arg1)))) := by
  unfold V
  after_reads_simp
  simp -implicitDefEqProofs only [StableHlo.TRef.toBuf, StableHlo.TRef.ofBuf, cast_cast, cast_eq, id]
  simp only [startH, lenH, lastH, endsH, tilesH, pyDiv]
  first | done | rfl

/-! ## The tables as numbers -/

/-- `Good` speaks of the experts below 256 only. -/
theorem good_congr {pos ps pl ps' pl' : ℕ → ℕ} {tot : ℕ} (h : Good pos ps pl tot) (hs : ∀ b < 256, ps' b = ps b) (hl : ∀ b < 256, pl' b = pl b) :
    Good pos ps' pl' tot where
  tot_le := h.tot_le
  pl_lt b hb := by rw [hl b hb]; exact h.pl_lt b hb
  pad_le b hb := by rw [hs b hb, hl b hb]; exact h.pad_le b hb
  pos_lt := h.pos_lt
  pos_inj := h.pos_inj
  pad_sep b hb b' hb' e := by rw [hs b hb, hl b hb, hs b' hb']; exact h.pad_sep b hb b' hb' e
  pos_pad t ht b hb := by rw [hs b hb, hl b hb]; exact h.pos_pad t ht b hb
  cover r hr := by
    rcases h.cover r hr with e | ⟨b, hb, e⟩
    · exact Or.inl e
    · exact Or.inr ⟨b, hb, by rw [hs b hb, hl b hb]; exact e⟩

section Words

variable (counts : IVec S256 32) (hc : ∀ b < 256, wordAt (n := 256) counts b ≤ 32768)

include hc

theorem tilesH_word (b : Fin 256) : tilesH counts (ix1 b) = BitVec.ofNat 32 (tiles (wordAt (n := 256) counts) b.val) :=
  tiles_wordK bcast_S_S256 counts _ b rfl (hc b.val b.isLt)

theorem endsH_word (b : Fin 256) : endsH (tilesH counts) (ix1 b) = BitVec.ofNat 32 (ends (wordAt (n := 256) counts) b.val) := by
  have h := fun b => tilesH_word counts hc b
  generalize tilesH counts = T at h ⊢
  unfold endsH
  exact ends_word _ T h (broadcastInDim S_ ![] bcast_S_S_ (constantI S_ 32 0#32)) rfl reduceWindows_S256_S256_w256s1p255_0 h_S_ b

theorem ends_small {b : ℕ} (hb : b < 256) : ends (wordAt (n := 256) counts) b ≤ 32768 := by
  have := ends_le hc hb
  omega

theorem startH_at (b : ℕ) (hb : b < 256) : wordAt (n := 256) (startH counts (endsH (tilesH counts)) (tilesH counts)) b = start (wordAt (n := 256) counts) b := by
  have e := start_word (wordAt (n := 256) counts) b _ _ _ (endsH_word counts hc ⟨b, hb⟩) (tilesH_word counts hc ⟨b, hb⟩) (word_of counts ⟨b, hb⟩)
  have h1 := ends_small counts hc hb
  have h2 := start_len (wordAt (n := 256) counts) b
  rw [wordAt_ix1 _ ⟨b, hb⟩]
  refine (congrArg BitVec.toNat e).trans ?_
  rw [BitVec.toNat_ofNat]
  exact Nat.mod_eq_of_lt (by omega)

theorem lenH_at (b : ℕ) (hb : b < 256) : wordAt (n := 256) (lenH counts (tilesH counts)) b = len (wordAt (n := 256) counts) b := by
  have e := len_word (wordAt (n := 256) counts) b _ _ (tilesH_word counts hc ⟨b, hb⟩) (word_of counts ⟨b, hb⟩)
  have h1 := ends_small counts hc hb
  have h2 := start_len (wordAt (n := 256) counts) b
  rw [wordAt_ix1 _ ⟨b, hb⟩]
  refine (congrArg BitVec.toNat e).trans ?_
  rw [BitVec.toNat_ofNat]
  exact Nat.mod_eq_of_lt (by omega)

theorem lastH_at : wordAt (n := 1) (lastH (endsH (tilesH counts))) 0 = ends (wordAt (n := 256) counts) 255 := by
  have e := endsH_word counts hc (255 : Fin 256)
  have h1 := ends_small counts hc (b := 255) (by omega)
  generalize endsH (tilesH counts) = E at e ⊢
  have e0 : lastH E (ix1 (0 : Fin 1)) = E (ix1 (255 : Fin 256)) := by
    have e1 : ∀ (x : (shape0).Idx → BitVec 32) (h : shape0.ShapeCasts (shape1 1)), shapeCast (shape1 1) x h (ix1 (0 : Fin 1)) = x ValueIdx.ix0 := fun x h => by
      refine shapeCast_apply x h _ _ ?_
      rw [Shape.rowMajor_val_one]
      exact Nat.lt_one_iff.1 (Fin.isLt (shape0.rowMajor ValueIdx.ix0))
    unfold lastH
    refine (e1 _ _).trans ((cast_one_zero _ _).trans ?_)
    exact slice1 255 E slices_S256_S1_255 (0 : Fin 1) (by decide)
  refine (wordAt_ix1 (n := 1) (lastH E) (0 : Fin 1)).trans ?_
  rw [e0, e, BitVec.toNat_ofNat]
  exact Nat.mod_eq_of_lt (by show ends _ 255 < _; omega)

end Words

theorem good_tables (hc : ∀ b < 256, wordAt (n := 256) (m ((c.tc : Thread nD τ).loc main_arg1)) b ≤ 32768)
    (h : Good (wordAt (n := 32768) (m ((c.tc : Thread nD τ).loc main_arg0))) (start (wordAt (n := 256) (m ((c.tc : Thread nD τ).loc main_arg1))))
      (len (wordAt (n := 256) (m ((c.tc : Thread nD τ).loc main_arg1)))) (ends (wordAt (n := 256) (m ((c.tc : Thread nD τ).loc main_arg1))) 255)) :
    Good (wordAt (n := 32768) (V m c main_arg0)) (wordAt (n := 256) (V m c main_v11)) (wordAt (n := 256) (V m c main_v14))
      (wordAt (n := 1) (V m c main_v15) 0) := by
  rw [V_arg0, V_v11, V_v14, V_v15, lastH_at _ hc]
  exact good_congr h (startH_at _ hc) (lenH_at _ hc)

end Cert.KernelIdeal.Hand

end
-- ==== Proof.Value.lean ====
/- What the dispatch leaves in its result: every token's eight vector rows at the token's slot, zero elsewhere. -/
module

public import proofs.«01_k».proof.Proof.Host

@[expose] public section

noncomputable section

namespace Cert.KernelIdeal.Hand

open Cert.KernelIdeal Cert.KernelIdeal.Gen Cert.Plan Cert.Tables
open Idealize.ShloMosaic Idealize.ShloMosaic.TcCoe Idealize.ShloMosaic.Tactic
open Idealize.ShloMosaic.ValueIdx

variable {α : Type}

open Classical in
/-- Vector row `8 r + k` of the result is vector row `8 t + k` of the tokens if token `t` has slot `r`, and `z` if no token has. -/
def gathered (pos : IVec S32768 32) (x : S262144x128.Idx → α) (z : α) : S491520x128.Idx → α := fun v =>
  if h : ∃ t : Fin 32768, wordAt (n := 32768) pos t.val = (v 0).val / 8 then
    x (ix2 ⟨8 * h.choose.val + (v 0).val % 8, by have := h.choose.isLt; omega⟩ ⟨(v 1).val, (v 1).isLt⟩)
  else z

theorem gathered_hit {pos : IVec S32768 32} (x : S262144x128.Idx → α) (z : α)
    (hinj : ∀ t < 32768, ∀ t' < 32768, wordAt (n := 32768) pos t = wordAt (n := 32768) pos t' → t = t') {t r : ℕ} (ht : t < 32768) (hr : r < 8)
    {v : S491520x128.Idx} (hv : (v 0).val = 8 * wordAt (n := 32768) pos t + r) {u : S262144x128.Idx} (hu : (u 0).val = 8 * t + r) (h1 : (u 1).val = (v 1).val) :
    gathered pos x z v = x u := by
  have e : wordAt (n := 32768) pos t = (v 0).val / 8 := by omega
  have h : ∃ t : Fin 32768, wordAt (n := 32768) pos t.val = (v 0).val / 8 := ⟨⟨t, ht⟩, e⟩
  have ec : h.choose.val = t := hinj _ h.choose.isLt _ ht (h.choose_spec.trans e.symm)
  unfold gathered
  rw [dif_pos h]
  refine congrArg x ?_
  funext d
  match d with
  | ⟨0, _⟩ =>
    refine Fin.ext ?_
    show 8 * h.choose.val + (v 0).val % 8 = (u 0).val
    omega
  | ⟨1, _⟩ =>
    refine Fin.ext ?_
    show (v 1).val = (u 1).val
    exact h1.symm

theorem gathered_miss {pos : IVec S32768 32} (x : S262144x128.Idx → α) (z : α) {v : S491520x128.Idx}
    (h : ∀ t < 32768, wordAt (n := 32768) pos t ≠ (v 0).val / 8) : gathered pos x z v = z := by
  unfold gathered
  exact dif_neg fun ⟨t, e⟩ => h t.val t.isLt e

/-- A row of a zero copy is no token's row. -/
theorem gathered_zero {pos : IVec S32768 32} {ps pl : ℕ → ℕ} {tot : ℕ} (hg : Good (wordAt (n := 32768) pos) ps pl tot) (x : S262144x128.Idx → α) (z : α)
    {i : ℕ} (hi : i < 32) {p : Piece} (hp : p ∈ zeroPlan ps pl tot i) {v : S491520x128.Idx} (hv : v ∈ K p) : gathered pos x z v = z := by
  refine gathered_miss x z fun t ht e => ?_
  rw [mem_rows] at hv
  have hin : (wordAt (n := 32768) pos t, 1) ∈ rowList (wordAt (n := 32768) pos) (t / 1024) 0 1024 := by
    refine List.mem_map.2 ⟨t % 1024, List.mem_range'_1.2 ⟨by omega, by omega⟩, ?_⟩
    rw [show 1024 * (t / 1024) + t % 1024 = t by omega]
  have hs : Sep p (wordAt (n := 32768) pos t, 1) := by
    by_cases hne : i = t / 1024
    · rw [← hne] at hin
      exact (List.pairwise_append.1 (hg.plan_sep hi)).2.2 _ hp _ hin
    · exact hg.plan_apart hi (by omega) hne (List.mem_append_left _ hp) (List.mem_append_right _ hin)
  exact hs.not_both (r := (v 0).val / 8) ⟨by omega, by omega⟩ ⟨by show wordAt (n := 32768) pos t ≤ _; omega, by show _ < wordAt (n := 32768) pos t + 1; omega⟩

theorem Wset_all {pos ps pl : ℕ → ℕ} {tot : ℕ} (hg : Good pos ps pl tot) : Wset (plans pos ps pl tot 0 32) = Finset.univ := by
  refine Finset.eq_univ_iff_forall.2 fun v => mem_Wset.2 ?_
  have hv : (v 0).val < 491520 := (v 0).isLt
  obtain ⟨p, hp, h1, h2⟩ := hg.plans_cover (r := (v 0).val / 8) (by omega)
  exact ⟨p, hp, mem_rows.2 ⟨by omega, by omega⟩⟩

theorem plans_head (pos ps pl : ℕ → ℕ) (tot t n : ℕ) : plans pos ps pl tot t (n + 1) = plan pos ps pl tot t ++ plans pos ps pl tot (t + 1) n := by
  unfold plans
  rw [List.range'_succ, List.flatMap_cons]

theorem plans_last (pos ps pl : ℕ → ℕ) (tot t : ℕ) : plans pos ps pl tot 0 (t + 1) = plans pos ps pl tot 0 t ++ plan pos ps pl tot t := by
  unfold plans
  rw [List.range'_concat]
  simp

theorem plans_done_disjoint {pos ps pl : ℕ → ℕ} {tot : ℕ} (hg : Good pos ps pl tot) {t : ℕ} (ht : t < 32) :
    Disjoint (Wset (plans pos ps pl tot 0 t)) (Wset (plan pos ps pl tot t)) := by
  refine Wset_disjoint fun p hp q hq => ?_
  obtain ⟨a, ha, hp⟩ := List.mem_flatMap.1 hp
  have := List.mem_range'_1.1 ha
  exact hg.plan_apart (by omega) ht (by omega) hp hq

theorem plans_todo_disjoint {pos ps pl : ℕ → ℕ} {tot : ℕ} (hg : Good pos ps pl tot) {t n : ℕ} (ht : t + n < 32) :
    Disjoint (Wset (plan pos ps pl tot t)) (Wset (plans pos ps pl tot (t + 1) n)) := by
  refine Wset_disjoint fun p hp q hq => ?_
  obtain ⟨a, ha, hq⟩ := List.mem_flatMap.1 hq
  have := List.mem_range'_1.1 ha
  exact hg.plan_apart (by omega) (by omega) (by omega) hp hq

end Cert.KernelIdeal.Hand

end
-- ==== Proof.Run.lean ====
/- The run of the whole program: the host's lines, the dispatch at the 32 points of the grid, what is left at the end. -/
module

public import proofs.«01_k».proof.Proof.Value

@[expose] public section

set_option synthInstance.maxSize 4096

noncomputable section

namespace Cert.KernelIdeal.Hand

open Cert.KernelIdeal Cert.KernelIdeal.Gen Cert.Plan Cert.Tables
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (Pipeline.UD sig nD τ) ℕ

/-- The dispatch's own semaphores: the rows' and the zeros'. -/
abbrev osem0 : Fin 2 → SemLoc sig := fun j => (![SemLoc.dma cc0_scratch1.sem, SemLoc.dma cc0_scratch2.sem] : Fin 2 → SemLoc sig) j

theorem ownSemFacts0 : Pipeline.OwnSemFacts spec0 osem0 := by decide

theorem ownSems0_pair (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma cc0_scratch1.sem) 0 ∗ semVal ((c : Thread nD τ), SemLoc.dma cc0_scratch2.sem) 0) := by
  rw [Pipeline.ownSems0_eq_of_list c osem0 [0, 1] (by decide) (by decide)]; rfl

variable (m : (ℓ : Loc nD τ sig) → Buf (Elt F) ℓ) (ρ : Dev nD → PrngReg)

theorem hmain (𝒱₀ : Variants) :
    Pipeline.HMainP (Ix := Unit) (Name := ℕ) (U := Pipeline.UD sig nD τ) (Lvl := ℕ) (pcfgs (F := F)) 0 defs₀ 𝒱₀ m (main (F := F)) (V m) :=
  Pipeline.hmainP_prefixes (pcfgs (F := F)) 0 defs₀ 𝒱₀ m main [hostOps0, hostOps0_1, hostOps0_2, hostOps0_3]
    ⟨hostOps0_sub, hostOps0_1_sub, hostOps0_2_sub, hostOps0_3_sub⟩
    (by simp only [List.Forall]; repeat' first | exact rfl | refine And.intro ?_ ?_) fun c => (main_chain c).trans rfl

/-- The routing tables as the dispatch finds them. -/
abbrev tables (c : Dev nD) : pre0.Contents (Elt F) := fun k => V m c (pre0.ref k)

abbrev adm (_ : Fin 1) : (pcfg0 (F := F)).Adm := ⟨tables m 0, trivial⟩

theorem tables_held (c : Dev nD) :
    (Pipeline.ΦT pre0 (tables m c) c : sProp 𝕄)
      = iprop((((c : Thread nD τ).loc main_arg0) ↦{fullShare.right} V m c main_arg0) ∗ (((c : Thread nD τ).loc main_v11) ↦{fullShare.right} V m c main_v11)
          ∗ (((c : Thread nD τ).loc main_v14) ↦{fullShare.right} V m c main_v14) ∗ (((c : Thread nD τ).loc main_v15) ↦{fullShare.right} V m c main_v15)) := by
  unfold Pipeline.ΦT Pipeline.prefHeld
  rw [BI.bigSep_eq_bigSepL_of_eq [(0 : Fin 4), 1, 2, 3] (by decide) (by decide)]; rfl

abbrev kPos (c : Dev nD) : ℕ → ℕ := wordAt (n := 32768) (V m c main_arg0)
abbrev kStart (c : Dev nD) : ℕ → ℕ := wordAt (n := 256) (V m c main_v11)
abbrev kLen (c : Dev nD) : ℕ → ℕ := wordAt (n := 256) (V m c main_v14)
abbrev kTot (c : Dev nD) : ℕ := wordAt (n := 1) (V m c main_v15) 0

abbrev todo (c : Dev nD) (t n : ℕ) : List Piece := plans (kPos m c) (kStart m c) (kLen m c) (kTot m c) t n

/-- What the result holds at the end. -/
def result (c : Dev nD) : Buf (Elt F) (outLoc c) := gathered (α := Elt F .f32) (V m c main_arg0) (V m c main_arg2) (z0 (F := F))

/-- Before point `n`: the rows of the first `n` points are final, the others as at the start; the scratch holds zeros from the first
    point on; the semaphores are at zero. -/
def Inv (c : Dev nD) (n : ℕ) : sProp 𝕄 :=
  iprop((outLoc c ↦[Wset (todo m c 0 n)]{fullShare} result m c) ∗ (outLoc c ↦[Wset (todo m c n (32 - n))]{fullShare} V m c main_v16)
    ∗ (∃ f : Buf (Elt F) (scrLoc c), ⌜n ≠ 0 → f = Zb (F := F) c⌝ ∗ (scrLoc c ↦[Finset.univ]{fullShare} f))
    ∗ (∃ r, prngReg c r)
    ∗ semVal ((c : Thread nD τ), SemLoc.dma cc0_scratch1.sem) 0 ∗ semVal ((c : Thread nD τ), SemLoc.dma cc0_scratch2.sem) 0
    ∗ (((c : Thread nD τ).loc main_arg0) ↦[Finset.univ]{fullShare.right} V m c main_arg0) ∗ (((c : Thread nD τ).loc main_v11) ↦[Finset.univ]{fullShare.right} V m c main_v11)
          ∗ (((c : Thread nD τ).loc main_v14) ↦[Finset.univ]{fullShare.right} V m c main_v14) ∗ (((c : Thread nD τ).loc main_v15) ↦[Finset.univ]{fullShare.right} V m c main_v15))

/-- The block of the tokens at a point. -/
abbrev xblk (c : Dev nD) (t : Fin (cfg0 (adm m 0)).N) : S8192x128.Idx → Elt F .f32 :=
  ((win0 (adm m 0) 0).blk t).view.read (Elt F) (V m c main_arg2)

def dats (p : Fin 1) (c : Dev nD) : Dat τ (Elt F) Unit ℕ (Pipeline.UD sig nD τ) ℕ (cfg0 (adm m p)) c where
  A w := V m c (Pipeline.arrRef spec0 w)
  after w t := match w with
    | ⟨0, _⟩ => xblk m c t
  Φ t := Inv m c t.val
  q _ := fullShare
  owed _ := 0

theorem coords_val : ∀ t : Fin grid0.N, (grid0.coords t 0).val = t.val := by decide +kernel

theorem xblk_at (c : Dev nD) (t : Fin (cfg0 (adm m 0)).N) (u : S8192x128.Idx) (w : S262144x128.Idx) (h0 : (w 0).val = 8192 * t.val + (u 0).val) (h1 : (w 1).val = (u 1).val) :
    xblk m c t u = (V m c main_arg2 : S262144x128.Idx → Elt F .f32) w := by
  show (V m c main_arg2 : S262144x128.Idx → Elt F .f32) _ = _
  refine congrArg (V m c main_arg2 : S262144x128.Idx → Elt F .f32) ?_
  funext d
  refine Fin.ext ?_
  match d with
  | ⟨0, _⟩ =>
    show cc0_transform_0 (grid0.coords t) 0 * 8192 + 1 * (u 0).val = (w 0).val
    have e : cc0_transform_0 (grid0.coords t) 0 = t.val := by
      show (BitVec.ofNat 32 (grid0.coords t 0).val).toNat = t.val
      have h2 : t.val < 32 := t.isLt
      rw [coords_val, BitVec.toNat_ofNat]
      exact Nat.mod_eq_of_lt (by omega)
    omega
  | ⟨1, _⟩ =>
    show cc0_transform_0 (grid0.coords t) 1 * 128 + 1 * (u 1).val = (w 1).val
    have e : cc0_transform_0 (grid0.coords t) 1 = 0 := rfl
    omega

theorem before_eq (c : Dev nD) (t : Fin (cfg0 (adm m 0)).N) (d : S8192x128.Idx → Elt F .f32) : (dats m 0 c).before 0 t d = xblk m c t :=
  Dat.before_in_eq_fetched (dat := dats m 0 c) 0 rfl (fun _ => rfl) (fun _ _ _ => rfl) (fun _ => rfl) t d

/-- The staging buffer at a point. -/
abbrev stg (t : Fin (cfg0 (adm m 0)).N) : Memref sig .tc .vmem S8192x128 .f32 := (win0 (adm m 0) 0).stage ((cfg0 (adm m 0)).slots t 0)

abbrev bodyAt (t : Fin (cfg0 (adm m 0)).N) : Prog (TpuEff nD τ sig (Elt F) Λ₀ .tc) PUnit :=
  cc0_moe_dispatch (grid0.coords t) (Memref.whole main_arg0) (Memref.isWhole_whole _) (Memref.whole main_v11) (Memref.isWhole_whole _) (Memref.whole main_v14) (Memref.isWhole_whole _)
    (Memref.whole main_v15) (Memref.isWhole_whole _) (stg m t) (hstage0_0 ((((cfg0 (adm m 0)).slots t) 0).cast nbuf0_0)) (Memref.whole main_v16) (Memref.isWhole_whole _)
    (Memref.whole cc0_scratch0) (Memref.isWhole_whole _) cc0_scratch1 cc0_scratch2

/-- What is needed of the tables. -/
def Fine (c : Dev nD) : Prop := Good (kPos m c) (kStart m c) (kLen m c) (kTot m c)

theorem first_split (c : Dev nD) (hg : Fine m c) (t : ℕ) (ht : t < 32) (V' : Buf (Elt F) (outLoc c)) :
    (outLoc c ↦[Wset (todo m c t (32 - t))]{fullShare} V' : sProp 𝕄)
      ⊢ iprop((outLoc c ↦[Wset (plan (kPos m c) (kStart m c) (kLen m c) (kTot m c) t)]{fullShare} V') ∗ (outLoc c ↦[Wset (todo m c (t + 1) (32 - (t + 1)))]{fullShare} V')) := by
  rw [show 32 - t = (32 - (t + 1)) + 1 by omega]
  unfold todo
  rw [plans_head, Wset_append]
  exact (pointsTo_union (plans_todo_disjoint hg (by omega))).1

theorem last_join (c : Dev nD) (hg : Fine m c) (t : ℕ) (ht : t < 32) (V' : Buf (Elt F) (outLoc c)) :
    (iprop((outLoc c ↦[Wset (todo m c 0 t)]{fullShare} V') ∗ (outLoc c ↦[Wset (plan (kPos m c) (kStart m c) (kLen m c) (kTot m c) t)]{fullShare} V')) : sProp 𝕄)
      ⊢ (outLoc c ↦[Wset (todo m c 0 (t + 1))]{fullShare} V') := by
  unfold todo
  rw [plans_last, Wset_append]
  exact (pointsTo_union (plans_done_disjoint hg ht)).2

def bodyPre (c : Dev nD) (t : Fin (cfg0 (adm m 0)).N) : sProp 𝕄 :=
  iprop((dats m 0 c).Φ t.castSucc ∗ (dats m 0 c).owesAt () t.castSucc ∗ (∃ d, owns (c : Thread nD τ) (stg m t) fullShare ((dats m 0 c).before 0 t d)))
def bodyPost (c : Dev nD) (t : Fin (cfg0 (adm m 0)).N) : sProp 𝕄 :=
  iprop((dats m 0 c).Φ t.succ ∗ (dats m 0 c).owesAt () t.succ ∗ owns (c : Thread nD τ) (stg m t) fullShare ((dats m 0 c).after 0 t))

theorem rows_right (c : Dev nD) (hg : Fine m c) (t : Fin (cfg0 (adm m 0)).N) {fx : Buf (Elt F) ((stg m t).view.loc (c : Thread nD τ))}
    (hfx : (stg m t).view.read (Elt F) fx = xblk m c t) :
    ∀ j < 1024, ∀ (u : S8192x128.Idx) (v : S491520x128.Idx) (r : ℕ), (u 0).val = 8 * j + r → (v 0).val = 8 * kPos m c (1024 * (grid0.coords t 0).val + j) + r → r < 8 →
      (u 1).val = (v 1).val → (stg m t).view.read (Elt F) fx u = result m c v := by
  intro j hj u v r hu hv hr h1
  have h2 : t.val < 32 := t.isLt
  rw [coords_val] at hv
  have hu1 : (u 1).val < 128 := (u 1).isLt
  rw [hfx, xblk_at m c t u (ValueIdx.ix2 ⟨8192 * t.val + (u 0).val, by omega⟩ ⟨(u 1).val, hu1⟩) rfl rfl]
  exact (gathered_hit (α := Elt F .f32) _ _ hg.pos_inj (t := 1024 * t.val + j) (r := r) (by omega) hr hv (by show 8192 * t.val + (u 0).val = _; omega) h1).symm

theorem sound_body (c : Dev nD) (hg : Fine m c) (t : Fin (cfg0 (adm m 0)).N) :
    bodyPre m c t ⊢ wp frame (wpE (defs₀ (F := F)) Variants.none c none) Set.univ (bodyAt m t) (fun _ => bodyPost m c t) := by
  have h2 : t.val < 32 := t.isLt
  have hi : (grid0.coords t 0).val = t.val := coords_val t
  unfold bodyPre bodyPost
  rw [show (dats m 0 c).Φ t.castSucc = Inv m c t.val from rfl, show (dats m 0 c).Φ t.succ = Inv m c (t.val + 1) from rfl, show (dats m 0 c).after 0 t = xblk m c t from rfl]
  unfold Dat.owesAt Pipeline.owesWithin
  rw [show (dats m 0 c).owed t.castSucc = 0 from rfl, show (dats m 0 c).owed t.succ = 0 from rfl]
  unfold Inv
  iintro ⟨⟨Hd, Ht, ⟨%f, %hf, Hs⟩, Hr, HR, HZ, H0, H11, H14, H15⟩, ⟨%W, -, HW⟩, ⟨%d, Hx⟩⟩
  unfold owns
  icases Hx with ⟨%fx, %hfx, Hx⟩
  have hfx := hfx.trans (before_eq m c t d)
  ihave Ht := first_split m c hg t.val h2 _ $$ Ht
  icases Ht with ⟨Hp, Ht⟩
  have body := body_triple (F := F) c (grid0.coords t) (stg m t) (hstage0_0 ((((cfg0 (adm m 0)).slots t) 0).cast nbuf0_0)) (V := V m c main_v16) (G := result m c) (fx := fx)
    (q0 := fullShare.right) (q11 := fullShare.right) (q14 := fullShare.right) (q15 := fullShare.right) (f0 := V m c main_arg0) (f11 := V m c main_v11) (f14 := V m c main_v14) (f15 := V m c main_v15)
    (tot := kTot m c) hg rfl (fun p hp x hx => gathered_zero (α := Elt F .f32) hg _ _ (by omega) hp hx) (rows_right m c hg t hfx)
    (defs := defs₀ (F := F)) (𝒱 := Variants.none) (bd := none) (f := f) (fun h => hf (by omega))
  rw [hi] at body
  iapply (wp_wand_r frame (wpE (defs₀ (F := F)) Variants.none (c : Thread nD τ) none) Set.univ)
  isplitl [Hs HR HZ H0 H11 H14 H15 HW Hx Hp]
  · iapply body
    isplitl [H0 H11 H14 H15]
    · isplitl [H0]; · iexact H0
      isplitl [H11]; · iexact H11
      isplitl [H14]; · iexact H14
      iexact H15
    isplitl [Hs]; · iexact Hs
    isplitl [HR]; · iexact HR
    isplitl [HZ]; · iexact HZ
    isplitl [Hp]; · iexact Hp
    isplitl [Hx]; · iexact Hx
    iexists W; iexact HW
  iintro %_ ⟨⟨H0, H11, H14, H15⟩, Hs, HR, HZ, Hp, Hx, ⟨%W', HW⟩⟩
  isplitr [HW Hx]
  · isplitl [Hd Hp]
    · iapply (last_join m c hg t.val h2 _)
      isplitl [Hd]; · iexact Hd
      iexact Hp
    isplitl [Ht]; · iexact Ht
    isplitl [Hs]
    · iexists _; isplitr; swap; · iexact Hs
      ipureintro; exact fun _ => rfl
    isplitl [Hr]; · iexact Hr
    isplitl [HR]; · iexact HR
    isplitl [HZ]; · iexact HZ
    isplitl [H0]; · iexact H0
    isplitl [H11]; · iexact H11
    isplitl [H14]; · iexact H14
    iexact H15
  isplitl [HW]
  · iexists W'; isplitr
    · ipureintro; exact fun _ _ => Or.inl trivial
    iexact HW
  iexists fx; isplitr
  · ipureintro; exact hfx
  iexact Hx

theorem defs₀_row (t : Fin (cfg0 (adm m 0)).N) : defs₀ (F := F) .tc (cfg0 (adm m 0)).body ((cfg0 (adm m 0)).bodyArgs t ((cfg0 (adm m 0)).slots t)) = bodyAt m t := by
  unfold defs₀; rw [Defs.onTc_tc]

theorem body_obligation (c : Dev nD) (hg : Fine m c) : BodyObligation (dats m 0 c) (defs₀ (F := F)) Variants.none () Set.univ := fun t => by
  rw [bigSep_W0, bigSep_W0, defs₀_row]; exact triple_restated (sound_body m c hg t) rfl .rfl fun _ => .rfl

/-- The result at the end, the other buffers as the host left them. -/
def G (c : Dev nD) (b : Ref sig .tc) : Buf (Elt F) ((c.tc : Thread nD τ).loc b) :=
  if h : b = main_v16 then h ▸ result m c else V m c b

theorem G_out (c : Dev nD) : G m c main_v16 = result m c := by
  unfold G; rw [dif_pos rfl]

theorem out_sub : ({main_v16} : Finset (Ref sig .tc)) ⊆ Pipeline.restRefsP sig pre0 spec0 \ ∅ := by decide

theorem hin (c : Dev nD) (hg : Fine m c) :
    (iprop(Pipeline.ΦDRG osem0 spec0 ∅ {main_v16} (V m) (V m) c ∗ Pipeline.ΦT pre0 (tables m c) c) : sProp 𝕄) ⊢ Inv m c 0 := by
  rw [Pipeline.ΦDRG_eq, scopedRest0_eq, ownSems0_pair, BI.bigSep_empty, Pipeline.routed_singleton, tables_held]
  unfold Inv
  have e : Wset (todo m c 0 (32 - 0)) = Finset.univ := Wset_all hg
  have e0 : Wset (todo m c 0 0) = ∅ := Wset_nil
  rw [e, e0, pointsTo_empty]
  iintro ⟨⟨⟨%f, Hs⟩, Hr, ⟨HR, HZ⟩, -, Ho⟩, H0, H11, H14, H15⟩
  isplitr; · iempintro
  isplitl [Ho]; · iexact Ho
  isplitl [Hs]
  · iexists f; isplitr; swap; · iexact Hs
    ipureintro; exact fun h => absurd rfl h
  isplitl [Hr]; · iexact Hr
  isplitl [HR]; · iexact HR
  isplitl [HZ]; · iexact HZ
  isplitl [H0]; · iexact H0
  isplitl [H11]; · iexact H11
  isplitl [H14]; · iexact H14
  iexact H15

theorem hout (c : Dev nD) (hg : Fine m c) :
    Inv m c 32 ⊢ (Pipeline.ΦDRG osem0 spec0 ∅ {main_v16} (V m) (G m) c : sProp 𝕄) := by
  rw [Pipeline.ΦDRG_eq, scopedRest0_eq, ownSems0_pair, BI.bigSep_empty, Pipeline.routed_singleton, G_out]
  unfold Inv
  have e : Wset (todo m c 0 32) = Finset.univ := Wset_all hg
  rw [e]
  iintro ⟨Ho, -, ⟨%f, -, Hs⟩, Hr, HR, HZ, -, -, -, -⟩
  isplitl [Hs]; · iexists f; iexact Hs
  isplitl [Hr]; · iexact Hr
  isplitl [HR HZ]
  · isplitl [HR]; · iexact HR
    iexact HZ
  isplitr; · iempintro
  iexact Ho

set_option backward.isDefEq.respectTransparency.types false in
theorem run_main (hg : ∀ c, Fine m c) : θ_run defs (onTc (τ := τ) (main (F := F))) ⟨m, fun _ => 0, ρ⟩
    (fun r => Pipeline.FramePostRG (Pipeline.pin (pcfgs (F := F)) (adm m)) (dats m) 0 {main_v16} (V m) (G m) r ∧ r.2.sem = fun _ => 0) :=
  Pipeline.θ_run_frameP_dmaRG (Q' := _) (pcfgs (F := F)) (adm m) (dats m) (0 : Fin 1) launch0 osem0 defs₀ Variants.none ownSemFacts0 ∅ {main_v16}
    (Finset.empty_subset _) out_sub m ρ main
    (hbody := fun c => (body_obligation m c (hg c)).loose) (hshare := fun c => (dats m 0 c).share_full fun _ => rfl)
    (howed := fun _ _ => rfl) (V := V m) (hmain := hmain m Variants.none) (hA := fun _ _ => rfl)
    (hpf := fun c k => by rw [Subsingleton.elim c 0])
    (G := G m) (hin := fun c => by rw [Subsingleton.elim c 0]; exact hin m 0 (hg 0)) (hout := fun c => hout m c (hg c))

end Cert.KernelIdeal.Hand

end
-- ==== Proof.Ref.lean ====
/- What the reference computes: the same placing of the tokens' rows. -/
module

public import proofs.«01_k».proof.Proof.Value
public import proofs.«01_k».proof.Proof.Gen.ReferenceIdeal.Run
public import Idealize.ShloMosaic.Lib.Routing.OpsSet
public import Idealize.ShloMosaic.Lib.Routing.OpsPair
public import Idealize.ShloMosaic.Lib.Pipeline.Value

@[expose] public section

noncomputable section

namespace Cert.ReferenceIdeal.Hand

open Cert.ReferenceIdeal Cert.ReferenceIdeal.Gen Cert.KernelIdeal.Hand
open Idealize.ShloMosaic Idealize.ShloMosaic.TcCoe Idealize.ShloMosaic.Routing
open Idealize.ShloMosaic.ValueIdx

variable {F : FTy → Type} [FloatOps F]

/-- How the reference's scatter reads its operands. -/
abbrev scat : ScatterDims S61440x8x128 S32768x1 S32768x8x128 := scatter_S61440x8x128_S32768x1_S32768x8x128_12_0_0_1

section Landing
variable (k : S32768x8x128.Idx) (idx : IVec S32768x1 32)

theorem start_row : ScatterDims.start scat k idx 0 = (idx (ix2 (k 0) (0 : Fin 1))).toInt := by
  unfold ScatterDims.start
  rw [dif_pos (by decide)]
  refine congrArg (fun j => (idx j).toInt) ?_
  funext d
  match d with
  | ⟨0, _⟩ => rfl
  | ⟨1, _⟩ => rfl

theorem start_chunk : ScatterDims.start scat k idx 1 = 0 := by
  unfold ScatterDims.start
  rw [dif_neg (by decide)]

theorem start_lane : ScatterDims.start scat k idx 2 = 0 := by
  unfold ScatterDims.start
  rw [dif_neg (by decide)]

theorem window_row : ScatterDims.window scat k 0 = 0 := by
  unfold ScatterDims.window
  rw [dif_neg (by decide)]

theorem window_chunk : ScatterDims.window scat k 1 = (k 1).val := by
  unfold ScatterDims.window
  rw [dif_pos (by decide)]
  rfl

theorem window_lane : ScatterDims.window scat k 2 = (k 2).val := by
  unfold ScatterDims.window
  rw [dif_pos (by decide)]
  rfl

theorem lands (ι : S61440x8x128.Idx) : ScatterDims.resultIdx? scat k idx = some ι
    ↔ (idx (ix2 (k 0) (0 : Fin 1))).toInt = ((ι 0).val : ℤ) ∧ (k 1).val = (ι 1).val ∧ (k 2).val = (ι 2).val := by
  rw [resultIdx?_eq_some]
  constructor
  · intro h
    have h0 := h 0
    have h1 := h 1
    have h2 := h 2
    rw [start_row, window_row] at h0
    rw [start_chunk, window_chunk] at h1
    rw [start_lane, window_lane] at h2
    exact ⟨by omega, by omega, by omega⟩
  · intro ⟨h0, h1, h2⟩ a
    match a with
    | ⟨0, _⟩ => exact (congrArg₂ (fun (x : ℤ) (y : ℕ) => x + (y : ℤ)) (start_row k idx) (window_row k)).trans (by dsimp only; rw [h0]; simp)
    | ⟨1, _⟩ => exact (congrArg₂ (fun (x : ℤ) (y : ℕ) => x + (y : ℤ)) (start_chunk k idx) (window_chunk k)).trans (by dsimp only; rw [h1]; simp)
    | ⟨2, _⟩ => exact (congrArg₂ (fun (x : ℤ) (y : ℕ) => x + (y : ℤ)) (start_lane k idx) (window_lane k)).trans (by dsimp only; rw [h2]; simp)

end Landing

/-- The slots as the scatter reads them. -/
def slots (pos : IVec S32768 32) : IVec S32768x1 32 :=
  broadcastInDim S32768x1 ![0] bcast_S32768_S32768x1_0
    (select (cmpi .slt pos (broadcastInDim S32768 ![] bcast_S_S32768 (constantI S_ 32 0#32)))
      (addi pos (broadcastInDim S32768 ![] bcast_S_S32768 (constantI S_ 32 61440#32))) pos)

theorem slots_at (pos : IVec S32768 32) (t : Fin 32768) (h : wordAt (n := 32768) pos t.val < 61440) :
    (slots pos (ix2 t (0 : Fin 1))).toInt = (wordAt (n := 32768) pos t.val : ℤ) := by
  have e : wordAt (n := 32768) pos t.val = (pos (ix1 t)).toNat := Cert.Tables.wordAt_ix1 pos t
  have e1 : slots pos (ix2 t (0 : Fin 1)) = Scalar.select (IntOp.cmpi .slt (pos (ix1 t)) 0#32) (pos (ix1 t) + 61440#32) (pos (ix1 t)) := by
    have ej : ∀ g : IVec S32768 32, broadcastInDim S32768x1 ![0] bcast_S32768_S32768x1_0 g (ix2 t (0 : Fin 1)) = g (ix1 t) := fun g => by
      refine congrArg g ?_
      funext d
      match d with
      | ⟨0, _⟩ => rfl
    exact (ej _).trans rfl
  rw [e1, wrap_of_lt _ _ (by rw [← e]; exact Nat.lt_of_lt_of_le h (by decide)), e, BitVec.toInt_eq_toNat_of_lt (by rw [← e]; omega)]

theorem placed (pos : IVec S32768 32) (x : S262144x128.Idx → Elt F .f32)
    (hlt : ∀ t < 32768, wordAt (n := 32768) pos t < 61440)
    (hinj : ∀ t < 32768, ∀ t' < 32768, wordAt (n := 32768) pos t = wordAt (n := 32768) pos t' → t = t') :
    shapeCast S491520x128 (Host.scatter scat (fun _ b => b)
      (broadcastInDim S61440x8x128 ![] bcast_S_S61440x8x128 (constant (F := F) S_ .f32 0x00000000#32)) (slots pos)
      (shapeCast S32768x8x128 x shapeCasts_S262144x128_S32768x8x128)) shapeCasts_S61440x8x128_S491520x128
      = gathered pos x (z0 (F := F)) := by
  funext v
  have hv0 : (v 0).val < 491520 := (v 0).isLt
  have hv1 : (v 1).val < 128 := (v 1).isLt
  let ι : S61440x8x128.Idx := ix3 ⟨(v 0).val / 8, by omega⟩ ⟨(v 0).val % 8, by omega⟩ ⟨(v 1).val, hv1⟩
  rw [shapeCast_apply _ shapeCasts_S61440x8x128_S491520x128 v ι (by
    rw [Shape.rowMajor_val_three, Shape.rowMajor_val_two]
    show ((v 0).val / 8 * 8 + (v 0).val % 8) * 128 + (v 1).val = (v 0).val * 128 + (v 1).val
    omega)]
  have key : ∀ k : S32768x8x128.Idx, ScatterDims.resultIdx? scat k (slots pos) = some ι ↔
      wordAt (n := 32768) pos (k 0).val = (v 0).val / 8 ∧ (k 1).val = (v 0).val % 8 ∧ (k 2).val = (v 1).val := fun k => by
    rw [lands, slots_at pos (k 0) (hlt _ (k 0).isLt)]
    exact and_congr_left fun _ => Int.ofNat_inj
  by_cases h : ∃ t : Fin 32768, wordAt (n := 32768) pos t.val = (v 0).val / 8
  · obtain ⟨t, ht⟩ := h
    have e : gathered pos x (z0 (F := F)) v = x (ix2 ⟨8 * t.val + (v 0).val % 8, by have := t.isLt; omega⟩ ⟨(v 1).val, hv1⟩) :=
      gathered_hit x _ hinj t.isLt (r := (v 0).val % 8) (by omega) (by omega) rfl rfl
    rw [e]
    refine scatter_set_hit _ _ _ _ _ _ ?_ (ix3 t ⟨(v 0).val % 8, by omega⟩ ⟨(v 1).val, hv1⟩) ((key _).2 ⟨ht, rfl, rfl⟩)
    intro k hk
    obtain ⟨h0, h1, h2⟩ := (key k).1 hk
    have ek : (k 0).val = t.val := hinj _ (k 0).isLt _ t.isLt (h0.trans ht.symm)
    refine shapeCast_apply _ _ _ _ ?_
    rw [Shape.rowMajor_val_three, Shape.rowMajor_val_two]
    show (8 * t.val + (v 0).val % 8) * 128 + (v 1).val = ((k 0).val * 8 + (k 1).val) * 128 + (k 2).val
    omega
  · rw [gathered_miss x _ fun t ht e => h ⟨⟨t, ht⟩, e⟩]
    exact scatter_set_miss _ _ _ _ _ fun k hk => h ⟨k 0, ((key k).1 hk).1⟩

end Cert.ReferenceIdeal.Hand

end
-- ==== Proof.End.lean ====
/- The run of the kernel and of the reference, each with what its buffers hold at the end. -/
module

public import proofs.«01_k».proof.Proof.Run
public import proofs.«01_k».proof.Proof.Ref

@[expose] public section

noncomputable section

namespace Cert.KernelIdeal.Hand

open Cert.KernelIdeal Cert.KernelIdeal.Gen Cert.Plan Cert.Tables
open Idealize.ShloMosaic Idealize.ShloMosaic.TcCoe Idealize.SL.Sem

variable {F : FTy → Type} [FloatOps F]

/-- The tables that the host makes of admitted arguments are fine. -/
theorem fine_of (m : (ℓ : Loc nD τ sig) → Buf (Elt F) ℓ) (c : Dev nD)
    (h : Cert.Pre_routed.fn (F := F) (m ((c.tc : Thread nD τ).loc main_arg0)) (m ((c.tc : Thread nD τ).loc main_arg1)) (m ((c.tc : Thread nD τ).loc main_arg2)) = fun _ => 1#1) :
    Fine m c :=
  have g := good_of (F := F) (m ((c.tc : Thread nD τ).loc main_arg0)) (m ((c.tc : Thread nD τ).loc main_arg1)) (m ((c.tc : Thread nD τ).loc main_arg2)) h
  good_tables m c g.1 g.2

theorem arg0_rest : main_arg0 ∈ Pipeline.restRefs sig spec0 \ {main_v16} := by decide

theorem arg1_rest : main_arg1 ∈ Pipeline.restRefs sig spec0 \ {main_v16} := by decide

/-- The kernel ends with the tokens' rows placed, its arguments unchanged and every semaphore at zero. -/
theorem kernel_run (m : (ℓ : Loc nD τ sig) → Buf (Elt F) ℓ) (ρ : Dev nD → PrngReg)
    (h : ∀ c : Dev nD, Cert.Pre_routed.fn (F := F) (m ((c.tc : Thread nD τ).loc main_arg0)) (m ((c.tc : Thread nD τ).loc main_arg1)) (m ((c.tc : Thread nD τ).loc main_arg2)) = fun _ => 1#1) :
    θ_run defs (onTc (τ := τ) (main (F := F))) ⟨m, fun _ => 0, ρ⟩ (fun r => (∀ c : Dev nD,
      r.2.mem ((c.tc : Thread nD τ).loc main_v16)
          = gathered (α := Elt F .f32) (m ((c.tc : Thread nD τ).loc main_arg0)) (m ((c.tc : Thread nD τ).loc main_arg2)) (z0 (F := F))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  refine (θ_run defs _ _).mono (fun r hr => ⟨fun c => ⟨?_, ?_, ?_, ?_⟩, hr.2⟩) (run_main m ρ fun c => fine_of m c (h c))
  · refine (hr.1.written c (Finset.mem_singleton_self _)).trans ((G_out m c).trans ?_)
    unfold result
    rw [V_arg0, V_arg2]
  · refine ((hr.1.toR c).2 main_arg0 arg0_rest).trans (V_arg0 m c)
  · refine ((hr.1.toR c).2 main_arg1 arg1_rest).trans (V_arg1 m c)
  · exact ((hr.1.toR c).1 0).trans ((Pipeline.Dat.arrAt_in (dat := dats m 0 c) 0 rfl _).trans (V_arg2 m c))

end Cert.KernelIdeal.Hand

namespace Cert.ReferenceIdeal.Hand

open Cert.ReferenceIdeal Cert.ReferenceIdeal.Gen Cert.KernelIdeal.Hand Cert.Tables
open Idealize.ShloMosaic Idealize.ShloMosaic.TcCoe Idealize.SL.Sem

variable {F : FTy → Type} [FloatOps F]

/-- The reference's result on admitted arguments. -/
theorem reference_value (pos : IVec S32768 32) (counts : IVec Cert.Pre_routed.S256 32) (x : S262144x128.Idx → Elt F .f32)
    (h : Cert.Pre_routed.fn (F := F) pos counts x = fun _ => 1#1) :
    shapeCast S491520x128 (Host.scatter scat (fun _ b => b)
      (broadcastInDim S61440x8x128 ![] bcast_S_S61440x8x128 (constant (F := F) S_ .f32 0x00000000#32)) (slots pos)
      (shapeCast S32768x8x128 x shapeCasts_S262144x128_S32768x8x128)) shapeCasts_S61440x8x128_S491520x128
      = gathered (α := Elt F .f32) pos x (z0 (F := F)) := by
  have g := (good_of (F := F) pos counts x h).2
  refine placed pos x (fun t ht => ?_) g.pos_inj
  have h1 := g.pos_lt t ht
  have h2 := g.tot_le
  omega

/-- The reference ends with the tokens' rows placed and its arguments unchanged. -/
theorem reference_run (m : (ℓ : Loc nD τ sig) → Buf (Elt F) ℓ) (ρ : Dev nD → PrngReg)
    (h : ∀ c : Dev nD, Cert.Pre_routed.fn (F := F) (m ((c.tc : Thread nD τ).loc main_arg0)) (m ((c.tc : Thread nD τ).loc main_arg1)) (m ((c.tc : Thread nD τ).loc main_arg2)) = fun _ => 1#1) :
    θ_run defs (onTc (τ := τ) (main (F := F))) ⟨m, fun _ => 0, ρ⟩ (fun r => ∀ c : Dev nD,
      r.2.mem ((c.tc : Thread nD τ).loc main_v9)
          = gathered (α := Elt F .f32) (m ((c.tc : Thread nD τ).loc main_arg0)) (m ((c.tc : Thread nD τ).loc main_arg2)) (z0 (F := F))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ hr c => ⟨(hr c).1.trans (reference_value _ _ _ (h c)), (hr c).2⟩) (Cert.ReferenceIdeal.Value.run m ρ)

end Cert.ReferenceIdeal.Hand

namespace Cert.Texts

open Idealize.ShloMosaic Idealize.ShloMosaic.TcCoe Idealize.SL.Sem Cert.KernelIdeal.Hand

variable (F : FTy → Type) [FloatOps F]

/-- The kernel's frame over any float values. -/
def KernelFrame : Prop :=
  ∀ (m : (ℓ : Loc Cert.KernelIdeal.nD Cert.KernelIdeal.τ Cert.KernelIdeal.sig) → Buf (Elt F) ℓ) (g : Dev Cert.KernelIdeal.nD → PrngReg), (∀ c : Dev Cert.KernelIdeal.nD, Cert.Pre_routed.fn (F := F) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) = (fun _ => 1#1)) →
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

/-- The reference's frame over any float values. -/
def ReferenceFrame : Prop :=
  ∀ (m : (ℓ : Loc Cert.ReferenceIdeal.nD Cert.ReferenceIdeal.τ Cert.ReferenceIdeal.sig) → Buf (Elt F) ℓ) (g : Dev Cert.ReferenceIdeal.nD → PrngReg), (∀ c : Dev Cert.ReferenceIdeal.nD, Cert.Pre_routed.fn (F := F) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) = (fun _ => 1#1)) →
    θ_run (Cert.ReferenceIdeal.defs (F := F)) (onTc (τ := Cert.ReferenceIdeal.τ) (Cert.ReferenceIdeal.main (F := F))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

/-- The equality of the two results over any float values. -/
def SameResult : Prop :=
  ∀ (m : (ℓ : Loc Cert.KernelIdeal.nD Cert.KernelIdeal.τ Cert.KernelIdeal.sig) → Buf (Elt F) ℓ) (g : Dev Cert.KernelIdeal.nD → PrngReg)
    (m' : (ℓ : Loc Cert.ReferenceIdeal.nD Cert.ReferenceIdeal.τ Cert.ReferenceIdeal.sig) → Buf (Elt F) ℓ) (g' : Dev Cert.ReferenceIdeal.nD → PrngReg), (∀ c : Dev Cert.KernelIdeal.nD, Cert.Pre_routed.fn (F := F) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) = (fun _ => 1#1)) →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt F) ((c.tc : Thread Cert.KernelIdeal.nD Cert.KernelIdeal.τ).loc Cert.KernelIdeal.main_v16)),
      θ_run (Cert.KernelIdeal.defs (F := F)) (onTc (τ := Cert.KernelIdeal.τ) (Cert.KernelIdeal.main (F := F))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := F)) (onTc (τ := Cert.ReferenceIdeal.τ) (Cert.ReferenceIdeal.main (F := F))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

theorem kernelFrame : KernelFrame F := fun m ρ h =>
  (θ_run Cert.KernelIdeal.defs _ _).mono (fun _ hr => ⟨fun c => (hr.1 c).2, hr.2⟩) (Cert.KernelIdeal.Hand.kernel_run (F := F) m ρ h)

theorem referenceFrame : ReferenceFrame F := fun m ρ _ =>
  (θ_run Cert.ReferenceIdeal.defs _ _).mono (fun r hr => ⟨fun c => (hr c).2, sem_eq_zero_of_no_sems (by decide) r.2⟩)
    (Cert.ReferenceIdeal.Value.run (F := F) m ρ)

theorem sameResult : SameResult F := by
  intro m ρ m' ρ' h hm
  refine ⟨fun c => gathered (α := Elt F .f32) (m ((c.tc : Thread Cert.KernelIdeal.nD Cert.KernelIdeal.τ).loc Cert.KernelIdeal.main_arg0))
      (m ((c.tc : Thread Cert.KernelIdeal.nD Cert.KernelIdeal.τ).loc Cert.KernelIdeal.main_arg2)) (z0 (F := F)), ?_, ?_⟩
  · exact (θ_run Cert.KernelIdeal.defs _ _).mono (fun _ hr c => hr.1 c) (Cert.KernelIdeal.Hand.kernel_run (F := F) m ρ h)
  · refine (θ_run Cert.ReferenceIdeal.defs _ _).mono (fun _ hr c => ⟨(hr c).1.trans ?_, (hr c).2⟩)
      (Cert.ReferenceIdeal.Hand.reference_run (F := F) m' ρ' fun c => ?_)
    · obtain ⟨h0, h1, h2⟩ := hm c
      have e := h c
      rw [← h0, ← h1, ← h2] at e
      exact e
    · exact congrArg₂ (fun a b => gathered (α := Elt F .f32) a b (z0 (F := F))) (hm c).1 (hm c).2.2

end Cert.Texts

end
-- ==== Proof.MoeRuns.lean ====
/- The experts' call up to its body: what the host leaves, the tables, the blocks the windows stage. -/
module

public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.StableHlo.RunRead

@[expose] public section

-- membership in a rectangle of production extents (`View.cover_of_tiled`): the elaborator's structural look
-- recurses once per coordinate of the long axes
set_option maxRecDepth 16384

noncomputable section

namespace Cert.ExpertsIdeal.Hand

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
def V (c : Dev nD) (b : Ref sig .tc) : Buf (Elt F) ((c : Thread nD τ).loc b) :=
  StableHlo.after (List.flatten [hostOps0 (F := F), hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23]) (fun b => m (c, b)) b

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes (pcfgs (F := F)) 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23]
    ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub⟩
    (by simp only [List.Forall]; repeat' constructor) main_chain

theorem V_main_arg0 (c : Dev nD) : V m c main_arg0 = m ((c : Thread nD τ).loc main_arg0) := by
  unfold V
  after_reads_simp
theorem V_main_arg1 (c : Dev nD) : V m c main_arg1 = m ((c : Thread nD τ).loc main_arg1) := by
  unfold V
  after_reads_simp
theorem V_main_arg2 (c : Dev nD) : V m c main_arg2 = m ((c : Thread nD τ).loc main_arg2) := by
  unfold V
  after_reads_simp
theorem V_main_arg3 (c : Dev nD) : V m c main_arg3 = m ((c : Thread nD τ).loc main_arg3) := by
  unfold V
  after_reads_simp
theorem V_main_arg4 (c : Dev nD) : V m c main_arg4 = m ((c : Thread nD τ).loc main_arg4) := by
  unfold V
  after_reads_simp
theorem V_main_arg5 (c : Dev nD) : V m c main_arg5 = m ((c : Thread nD τ).loc main_arg5) := by
  unfold V
  after_reads_simp
theorem V_main_arg6 (c : Dev nD) : V m c main_arg6 = m ((c : Thread nD τ).loc main_arg6) := by
  unfold V
  after_reads_simp
theorem V_main_arg7 (c : Dev nD) : V m c main_arg7 = m ((c : Thread nD τ).loc main_arg7) := by
  unfold V
  after_reads_simp
theorem V_main_arg8 (c : Dev nD) : V m c main_arg8 = m ((c : Thread nD τ).loc main_arg8) := by
  unfold V
  after_reads_simp
theorem V_main_arg9 (c : Dev nD) : V m c main_arg9 = m ((c : Thread nD τ).loc main_arg9) := by
  unfold V
  after_reads_simp
/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 6) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S240 .i32 := Memref.whole main_v25
abbrev htbM0_0 : tbM0_0.IsWhole := Memref.isWhole_whole _
abbrev tbM0_1 : Memref sig .tc .smem S240 .i32 := Memref.whole main_v52
abbrev htbM0_1 : tbM0_1.IsWhole := Memref.isWhole_whole _
abbrev tbM0_2 : Memref sig .tc .smem S240 .i32 := Memref.whole main_v57
abbrev htbM0_2 : tbM0_2.IsWhole := Memref.isWhole_whole _
abbrev tbM0_3 : Memref sig .tc .smem S240 .i32 := Memref.whole main_v61
abbrev htbM0_3 : tbM0_3.IsWhole := Memref.isWhole_whole _
abbrev tbM0_4 : Memref sig .tc .smem S240 .i32 := Memref.whole main_v48
abbrev htbM0_4 : tbM0_4.IsWhole := Memref.isWhole_whole _
abbrev tbM0_5 : Memref sig .tc .smem S1 .i32 := Memref.whole main_v62
abbrev htbM0_5 : tbM0_5.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2) ∗ tbPt0 c tbM0_3 (tbl m 3) ∗ tbPt0 c tbM0_4 (tbl m 4) ∗ tbPt0 c tbM0_5 (tbl m 5)) := by
  unfold Pipeline.ΦT Pipeline.prefHeld
  rw [show (Finset.univ : Finset (Fin 6)) = {(0 : Fin 6), 1, 2, 3, 4, 5} from by decide,
    bigSep_insert (by decide), bigSep_insert (by decide), bigSep_insert (by decide), bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of (hO : Ok m) {c : Dev nD} (dat : Dat τ (Elt F) Unit ℕ (UR sig nD τ) ℕ (cfgM m hO) c) (hA : dat.A 8 = V m c (Pipeline.arrRef spec0 8))
    (hafter : ∀ t, dat.after 8 t = iblk m hO c 8 t) (t : Fin (cfgM m hO).N) (d) : dat.before 8 t d = iblk m hO c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of (hO : Ok m) {c : Dev nD} (dat : Dat τ (Elt F) Unit ℕ (UR sig nD τ) ℕ (cfgM m hO) c) (hA : dat.A 9 = V m c (Pipeline.arrRef spec0 9))
    (hafter : ∀ t, dat.after 9 t = iblk m hO c 9 t) (t : Fin (cfgM m hO).N) (d) : dat.before 9 t d = iblk m hO c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_ExpertsIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (by decide : main_arg0 ∈ Pipeline.restRefs sig spec0)).trans (V_main_arg0 m c),
      ((h c).1 0).trans (((dats 0 c).arrAt_in 0 rfl _).trans ((hA c 0).trans (V_main_arg1 m c))),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).2 main_arg7 (by decide : main_arg7 ∈ Pipeline.restRefs sig spec0)).trans (V_main_arg7 m c),
      ((h c).2 main_arg8 (by decide : main_arg8 ∈ Pipeline.restRefs sig spec0)).trans (V_main_arg8 m c),
      ((h c).2 main_arg9 (by decide : main_arg9 ∈ Pipeline.restRefs sig spec0)).trans (V_main_arg9 m c)⟩) h

/-! ## The kernel body on any staging memrefs: a subtype the run finds -/

/-- One staging buffer of output window 10, through which its contents are stated (`View.read_writes_of_cover`: the
    choice does not matter). -/
abbrev VO0_10 : View sig .tc .vmem S2048x128 .f32 := (Memref.whole cc0_stg10_0 : Memref sig .tc .vmem S2048x128 .f32).view
/-- Each window's current staging memref at point `t`, spelled as the pipeline passes it (`bodyAt0`), and its wholeness. -/
abbrev ms0_0 (hO : Ok m) (t : Fin (cfgM m hO).N) : Memref sig .tc .vmem S2048x128 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1024x128 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x128 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1024x256 .bf16 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1024x256 .bf16 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x256x1024 .bf16 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x1024x256 .bf16 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x1024x256 .bf16 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1x256x1024 .bf16 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S2048x128 .f32 := spec0_10.stage ((cfgM m hO).slots t 10)
abbrev hs0_10 (hO : Ok m) (t : Fin (cfgM m hO).N) : (ms0_10 m hO t).IsWhole := hstage0_10 (((cfgM m hO).slots t 10).cast nbuf0_10)

/-- The body as the pipeline calls it at point `t`. -/
abbrev bodyAt0 (a : (pcfg0 (F := F)).Adm) (t : Fin (cfg0 a).N) : Prog (TpuEff nD τ sig (Elt F) Λ₀ .tc) PUnit :=
  cc0_hier_moe (grid0.coords t) (Memref.whole main_v25) (Memref.isWhole_whole _) (Memref.whole main_v52) (Memref.isWhole_whole _) (Memref.whole main_v57) (Memref.isWhole_whole _) (Memref.whole main_v61) (Memref.isWhole_whole _) (Memref.whole main_v48) (Memref.isWhole_whole _) (Memref.whole main_v62) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10))

end Cert.ExpertsIdeal.Hand

end
-- ==== Proof.MoeBody.lean ====
/- The experts' call: the body at one tile. -/
module

public import proofs.«01_k».proof.Proof.MoeRuns
public import Idealize.ShloMosaic.Lib.WholeRead
public import Idealize.ShloMosaic.Lib.Pointwise.Index

@[expose] public section

-- membership in a rectangle of production extents (`View.cover_of_tiled`): the elaborator's structural look
-- recurses once per coordinate of the long axes
set_option maxRecDepth 16384

noncomputable section

namespace Cert.ExpertsIdeal.Hand

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What a load of the entries `B` of an array gives. -/
def ld1 {s : Shape} {e : EltTy} (X : s.Idx → Elt F e) (B : LoadRect s) : B.shape.Idx → Elt F e := fun x => X (B.idx x)

theorem readAt_ld1 {sp : Space} {s : Shape} {e : EltTy} {M : Memref sig .tc sp s e} (h : M.IsWhole) (X : s.Idx → Elt F e) (B : LoadRect s) :
    View.readAt (Elt F) M.view B (h.unread X) = ld1 X B := funext fun x => h.readAt_unread X B x

/-- The word of each table a tile reads. -/
abbrev w240 (c : Dev nD) (i : grid0.Coords) (xt : TbBuf0 (F := F) c tbM0_4) : BitVec 32 :=
  View.readAt (Elt F) tbM0_4.view (Rect.unit (s := S240) (k0_off2 i) S1.size (k0_off2_inb i)).toLoadRect xt (Shape.Idx.first (by change 0 < S1.numel; decide))
abbrev w240b (c : Dev nD) (i : grid0.Coords) (xt : TbBuf0 (F := F) c tbM0_1) : BitVec 32 :=
  View.readAt (Elt F) tbM0_1.view (Rect.unit (s := S240) (k0_off2 i) S1.size (k0_off2_inb i)).toLoadRect xt (Shape.Idx.first (by change 0 < S1.numel; decide))
abbrev w240c (c : Dev nD) (i : grid0.Coords) (xt : TbBuf0 (F := F) c tbM0_2) : BitVec 32 :=
  View.readAt (Elt F) tbM0_2.view (Rect.unit (s := S240) (k0_off2 i) S1.size (k0_off2_inb i)).toLoadRect xt (Shape.Idx.first (by change 0 < S1.numel; decide))
abbrev w240d (c : Dev nD) (i : grid0.Coords) (xt : TbBuf0 (F := F) c tbM0_3) : BitVec 32 :=
  View.readAt (Elt F) tbM0_3.view (Rect.unit (s := S240) (k0_off2 i) S1.size (k0_off2_inb i)).toLoadRect xt (Shape.Idx.first (by change 0 < S1.numel; decide))
abbrev w1 (c : Dev nD) (xt : TbBuf0 (F := F) c tbM0_5) : BitVec 32 :=
  View.readAt (Elt F) tbM0_5.view (Rect.unit (s := S1) ![0] S1.size inb_S1_S1_0).toLoadRect xt (Shape.Idx.first (by change 0 < S1.numel; decide))

/-- The two experts' shares from what the loads give. -/
def yloL (a0 a1 a2 a3 a4 a5 a6 a7 : Vec F S256x128 .f32) (b1 : Vec F S1x1024 .f32) (b2 : Vec F S1024x128 .bf16) (b3 : Vec F S1x128 .f32) (b4 b5 : Vec F S1x1024x256 .bf16) (b6 : Vec F S1x256x1024 .bf16)
    (wv wg wl wh : BitVec 32) : FVec F S256x1024 .f32 :=
  k0_pay24 (k0_pay13 a0 a1 a2 a3 a4 a5 a6 a7 b1) (k0_pay14 a0 a1 a2 a3 a4 a5 a6 a7) (k0_pay21 (k0_pay15 a0 a1 a2 a3 a4 a5 a6 a7 b1 b2) (k0_pay16 b3) wg wl wh)
    (k0_pay23 (k0_pay11 (F := F) wv) (k0_pay14 a0 a1 a2 a3 a4 a5 a6 a7) (k0_pay15 a0 a1 a2 a3 a4 a5 a6 a7 b1 b2) (k0_pay16 b3) wg wl wh) b4 b5 b6

def yhiL (a0 a1 a2 a3 a4 a5 a6 a7 : Vec F S256x128 .f32) (b1 : Vec F S1x1024 .f32) (b2 : Vec F S1024x128 .bf16) (b3 : Vec F S1x128 .f32) (b4 b5 : Vec F S1x1024x256 .bf16) (b6 : Vec F S1x256x1024 .bf16)
    (wv wg wl wh : BitVec 32) : FVec F S256x1024 .f32 :=
  k0_pay25 (k0_pay13 a0 a1 a2 a3 a4 a5 a6 a7 b1) (k0_pay14 a0 a1 a2 a3 a4 a5 a6 a7) (k0_pay22 (k0_pay15 a0 a1 a2 a3 a4 a5 a6 a7 b1 b2) (k0_pay16 b3) wg wl wh)
    (k0_pay23 (k0_pay11 (F := F) wv) (k0_pay14 a0 a1 a2 a3 a4 a5 a6 a7) (k0_pay15 a0 a1 a2 a3 a4 a5 a6 a7 b1 b2) (k0_pay16 b3) wg wl wh) b4 b5 b6

/-- The first expert's share. -/
def yloE (x0 : Vec F S2048x128 .f32) (x1 : Vec F S1x1024 .f32) (x2 : Vec F S1024x128 .bf16) (x3 : Vec F S1x128 .f32) (x4 x5 : Vec F S1x1024x256 .bf16) (x6 : Vec F S1x256x1024 .bf16)
    (wv wg wl wh : BitVec 32) : FVec F S256x1024 .f32 :=
  yloL  (ld1 x0 ⟨![0, 0], S256x128.size, ![8, 1], inb_S2048x128_S256x128_0_0_s_8_1⟩) (ld1 x0 ⟨![1, 0], S256x128.size, ![8, 1], inb_S2048x128_S256x128_1_0_s_8_1⟩) (ld1 x0 ⟨![2, 0], S256x128.size, ![8, 1], inb_S2048x128_S256x128_2_0_s_8_1⟩) (ld1 x0 ⟨![3, 0], S256x128.size, ![8, 1], inb_S2048x128_S256x128_3_0_s_8_1⟩) (ld1 x0 ⟨![4, 0], S256x128.size, ![8, 1], inb_S2048x128_S256x128_4_0_s_8_1⟩) (ld1 x0 ⟨![5, 0], S256x128.size, ![8, 1], inb_S2048x128_S256x128_5_0_s_8_1⟩) (ld1 x0 ⟨![6, 0], S256x128.size, ![8, 1], inb_S2048x128_S256x128_6_0_s_8_1⟩) (ld1 x0 ⟨![7, 0], S256x128.size, ![8, 1], inb_S2048x128_S256x128_7_0_s_8_1⟩)
    (ld1 x1 (Rect.unit (s := S1x1024) ![0,0] S1x1024.size inb_S1x1024_S1x1024_0_0).toLoadRect)
    (ld1 x2 (Rect.unit (s := S1024x128) ![0,0] S1024x128.size inb_S1024x128_S1024x128_0_0).toLoadRect)
    (ld1 x3 (Rect.unit (s := S1x128) ![0,0] S1x128.size inb_S1x128_S1x128_0_0).toLoadRect)
    (ld1 x4 (Rect.unit (s := S1x1024x256) ![0,0,0] S1x1024x256.size inb_S1x1024x256_S1x1024x256_0_0_0).toLoadRect)
    (ld1 x5 (Rect.unit (s := S1x1024x256) ![0,0,0] S1x1024x256.size inb_S1x1024x256_S1x1024x256_0_0_0).toLoadRect)
    (ld1 x6 (Rect.unit (s := S1x256x1024) ![0,0,0] S1x256x1024.size inb_S1x256x1024_S1x256x1024_0_0_0).toLoadRect) wv wg wl wh

/-- The second expert's share. -/
def yhiE (x0 : Vec F S2048x128 .f32) (x1 : Vec F S1x1024 .f32) (x2 : Vec F S1024x128 .bf16) (x3 : Vec F S1x128 .f32) (x4 x5 : Vec F S1x1024x256 .bf16) (x6 : Vec F S1x256x1024 .bf16)
    (wv wg wl wh : BitVec 32) : FVec F S256x1024 .f32 :=
  yhiL  (ld1 x0 ⟨![0, 0], S256x128.size, ![8, 1], inb_S2048x128_S256x128_0_0_s_8_1⟩) (ld1 x0 ⟨![1, 0], S256x128.size, ![8, 1], inb_S2048x128_S256x128_1_0_s_8_1⟩) (ld1 x0 ⟨![2, 0], S256x128.size, ![8, 1], inb_S2048x128_S256x128_2_0_s_8_1⟩) (ld1 x0 ⟨![3, 0], S256x128.size, ![8, 1], inb_S2048x128_S256x128_3_0_s_8_1⟩) (ld1 x0 ⟨![4, 0], S256x128.size, ![8, 1], inb_S2048x128_S256x128_4_0_s_8_1⟩) (ld1 x0 ⟨![5, 0], S256x128.size, ![8, 1], inb_S2048x128_S256x128_5_0_s_8_1⟩) (ld1 x0 ⟨![6, 0], S256x128.size, ![8, 1], inb_S2048x128_S256x128_6_0_s_8_1⟩) (ld1 x0 ⟨![7, 0], S256x128.size, ![8, 1], inb_S2048x128_S256x128_7_0_s_8_1⟩)
    (ld1 x1 (Rect.unit (s := S1x1024) ![0,0] S1x1024.size inb_S1x1024_S1x1024_0_0).toLoadRect)
    (ld1 x2 (Rect.unit (s := S1024x128) ![0,0] S1024x128.size inb_S1024x128_S1024x128_0_0).toLoadRect)
    (ld1 x3 (Rect.unit (s := S1x128) ![0,0] S1x128.size inb_S1x128_S1x128_0_0).toLoadRect)
    (ld1 x4 (Rect.unit (s := S1x1024x256) ![0,0,0] S1x1024x256.size inb_S1x1024x256_S1x1024x256_0_0_0).toLoadRect)
    (ld1 x5 (Rect.unit (s := S1x1024x256) ![0,0,0] S1x1024x256.size inb_S1x1024x256_S1x1024x256_0_0_0).toLoadRect)
    (ld1 x6 (Rect.unit (s := S1x256x1024) ![0,0,0] S1x256x1024.size inb_S1x256x1024_S1x256x1024_0_0_0).toLoadRect) wv wg wl wh

theorem row_lt (y : S2048x128.Idx) : (y 0).val / 8 < 256 := by
  have h : (y 0).val < 2048 := (y 0).isLt
  omega

theorem col_lt (y : S2048x128.Idx) : (y 0).val % 8 * 128 + (y 1).val < 1024 := by
  have h : (y 1).val < 128 := (y 1).isLt
  omega

/-- The eight stripes of a tile's rows, as the block keeps them. -/
def stripe (v w : FVec F S256x1024 .f32) : Vec F S2048x128 .f32 := fun y =>
  k0_pay1 v w (ix2 ⟨(y 0).val / 8, row_lt y⟩ ⟨(y 0).val % 8 * 128 + (y 1).val, col_lt y⟩)

/-- What the body leaves in the output's block. -/
def bodyOut (i : grid0.Coords) (x0 : Vec F S2048x128 .f32) (x1 : Vec F S1x1024 .f32) (x2 : Vec F S1024x128 .bf16) (x3 : Vec F S1x128 .f32) (x4 : Vec F S1x1024x256 .bf16) (x5 : Vec F S1x1024x256 .bf16) (x6 : Vec F S1x256x1024 .bf16) (x7 : Vec F S1x1024x256 .bf16) (x8 : Vec F S1x1024x256 .bf16) (x9 : Vec F S1x256x1024 .bf16)
    (wv wg wl wh w : BitVec 32) : Vec F S2048x128 .f32 :=
  if k0_cond1 i w = 1#1 then stripe (yloE x0 x1 x2 x3 x4 x5 x6 wv wg wl wh) (yhiE x0 x1 x2 x3 x7 x8 x9 wv wg wl wh) else k0_pay10

theorem cond_or (i : grid0.Coords) (w : BitVec 32) : k0_cond2 i w = 1#1 ↔ ¬ k0_cond1 i w = 1#1 := by
  unfold k0_cond1 k0_cond2
  simp only [Scalar.cmpi, Scalar.extui, WordCmp.cmpi_slt_eq, WordCmp.cmpi_sge_eq]
  by_cases h : (BitVec.ofNat 32 (i 0).val).toInt < w.toInt
  · rw [decide_eq_true h, decide_eq_false (not_le.mpr h)]; decide
  · rw [decide_eq_false h, decide_eq_true (not_lt.mp h)]; decide

/-- Where the eight stripes are stored. -/
theorem stripe_mem (y : S2048x128.Idx) (k : ℕ) (hk : (y 0).val % 8 = k) (inb) :
    y ∈ (⟨![k, 0], S256x128.size, ![8, 1], inb⟩ : LoadRect S2048x128).set := by
  rw [LoadRect.mem_set]
  intro a
  fin_cases a
  · exact ⟨(y 0).val / 8, row_lt y, by change (y 0).val = k + 8 * _; omega⟩
  · exact ⟨(y 1).val, (y 1).isLt, by change (y 1).val = 0 + 1 * _; omega⟩

/-- One stripe is the block's rows of its remainder. -/
theorem stripe_piece (v w : FVec F S256x1024 .f32) (k : ℕ) (hk : k < 8) (inb sp) (h : S256x1024.Slices ![0, 128 * k] S256x128) (x : S256x128.Idx) :
    extractStridedSlice S256x128 ![0, 128 * k] (k0_pay1 v w) h x = stripe v w ((⟨⟨![k, 0], S256x128.size, ![8, 1], inb⟩, sp⟩ : Rect S2048x128).emb x) := by
  have h0 : (x 0).val < 256 := (x 0).isLt
  have h1 : (x 1).val < 128 := (x 1).isLt
  refine congrArg (k0_pay1 v w) (funext fun a => Fin.ext ?_)
  fin_cases a
  · change 0 + (x 0).val = (k + 8 * (x 0).val) / 8
    omega
  · change 128 * k + (x 1).val = (k + 8 * (x 0).val) % 8 * 128 + (0 + 1 * (x 1).val)
    omega

/-- The eight stripes read back. -/
theorem read_stripes (M : View sig .tc .vmem S2048x128 .f32) (f : M.ty.Contents (Elt F)) (v w : FVec F S256x1024 .f32) :
    View.read (Elt F) M (M.writes (Elt F) f [⟨⟨⟨![7, 0], S256x128.size, ![8, 1], inb_S2048x128_S256x128_7_0_s_8_1⟩, spos_8_1⟩, k0_pay9 v w⟩,
      ⟨⟨⟨![6, 0], S256x128.size, ![8, 1], inb_S2048x128_S256x128_6_0_s_8_1⟩, spos_8_1⟩, k0_pay8 v w⟩,
      ⟨⟨⟨![5, 0], S256x128.size, ![8, 1], inb_S2048x128_S256x128_5_0_s_8_1⟩, spos_8_1⟩, k0_pay7 v w⟩,
      ⟨⟨⟨![4, 0], S256x128.size, ![8, 1], inb_S2048x128_S256x128_4_0_s_8_1⟩, spos_8_1⟩, k0_pay6 v w⟩,
      ⟨⟨⟨![3, 0], S256x128.size, ![8, 1], inb_S2048x128_S256x128_3_0_s_8_1⟩, spos_8_1⟩, k0_pay5 v w⟩,
      ⟨⟨⟨![2, 0], S256x128.size, ![8, 1], inb_S2048x128_S256x128_2_0_s_8_1⟩, spos_8_1⟩, k0_pay4 v w⟩,
      ⟨⟨⟨![1, 0], S256x128.size, ![8, 1], inb_S2048x128_S256x128_1_0_s_8_1⟩, spos_8_1⟩, k0_pay3 v w⟩,
      ⟨⟨⟨![0, 0], S256x128.size, ![8, 1], inb_S2048x128_S256x128_0_0_s_8_1⟩, spos_8_1⟩, k0_pay2 v w⟩]) = stripe v w := by
  funext y
  refine View.read_writes_apply_of_pieces _ _ _ _ ?_ y ?_
  · simp only [List.forall_mem_cons]
    exact ⟨fun x => stripe_piece v w 7 (by decide) _ _ slices_S256x1024_o0_896_S256x128 x, fun x => stripe_piece v w 6 (by decide) _ _ slices_S256x1024_o0_768_S256x128 x, fun x => stripe_piece v w 5 (by decide) _ _ slices_S256x1024_o0_640_S256x128 x, fun x => stripe_piece v w 4 (by decide) _ _ slices_S256x1024_o0_512_S256x128 x, fun x => stripe_piece v w 3 (by decide) _ _ slices_S256x1024_o0_384_S256x128 x, fun x => stripe_piece v w 2 (by decide) _ _ slices_S256x1024_o0_256_S256x128 x, fun x => stripe_piece v w 1 (by decide) _ _ slices_S256x1024_o0_128_S256x128 x, fun x => stripe_piece v w 0 (by decide) _ _ slices_S256x1024_o0_0_S256x128 x, fun p hp => absurd hp List.not_mem_nil⟩
  · have h : (y 0).val % 8 < 8 := Nat.mod_lt _ (by decide)
    have h' : (y 0).val % 8 = 7 ∨ (y 0).val % 8 = 6 ∨ (y 0).val % 8 = 5 ∨ (y 0).val % 8 = 4 ∨ (y 0).val % 8 = 3 ∨ (y 0).val % 8 = 2
        ∨ (y 0).val % 8 = 1 ∨ (y 0).val % 8 = 0 := by omega
    rcases h' with h | h | h | h | h | h | h | h
    · exact ⟨_, List.mem_cons_self, stripe_mem y 7 h _⟩
    · exact ⟨_, List.mem_cons_of_mem _ (List.mem_cons_self), stripe_mem y 6 h _⟩
    · exact ⟨_, List.mem_cons_of_mem _ (List.mem_cons_of_mem _ (List.mem_cons_self)), stripe_mem y 5 h _⟩
    · exact ⟨_, List.mem_cons_of_mem _ (List.mem_cons_of_mem _ (List.mem_cons_of_mem _ (List.mem_cons_self))), stripe_mem y 4 h _⟩
    · exact ⟨_, List.mem_cons_of_mem _ (List.mem_cons_of_mem _ (List.mem_cons_of_mem _ (List.mem_cons_of_mem _ (List.mem_cons_self)))), stripe_mem y 3 h _⟩
    · exact ⟨_, List.mem_cons_of_mem _ (List.mem_cons_of_mem _ (List.mem_cons_of_mem _ (List.mem_cons_of_mem _ (List.mem_cons_of_mem _ (List.mem_cons_self))))), stripe_mem y 2 h _⟩
    · exact ⟨_, List.mem_cons_of_mem _ (List.mem_cons_of_mem _ (List.mem_cons_of_mem _ (List.mem_cons_of_mem _ (List.mem_cons_of_mem _ (List.mem_cons_of_mem _ (List.mem_cons_self)))))), stripe_mem y 1 h _⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), stripe_mem y 0 h _⟩

/-- The whole block of zeros reads back. -/
theorem read_zeros (M : View sig .tc .vmem S2048x128 .f32) (f : M.ty.Contents (Elt F)) (v : Vec F S2048x128 .f32) :
    View.read (Elt F) M (M.writes (Elt F) f [⟨Rect.unit (s := S2048x128) ![0, 0] S2048x128.size inb_S2048x128_S2048x128_0_0, v⟩]) = v := by
  funext y
  refine View.read_writes_apply_of_pieces _ _ _ _ ?_ y ?_
  · intro p hp
    obtain rfl := List.mem_singleton.mp hp
    intro x
    refine congrArg v (funext fun a => Fin.ext ?_)
    fin_cases a
    · change (x 0).val = 0 + 1 * (x 0).val; omega
    · change (x 1).val = 0 + 1 * (x 1).val; omega
  · refine ⟨_, List.mem_singleton_self _, ?_⟩
    refine (LoadRect.mem_set _).mpr fun a => ?_
    fin_cases a
    · exact ⟨(y 0).val, (y 0).isLt, by change (y 0).val = 0 + 1 * _; omega⟩
    · exact ⟨(y 1).val, (y 1).isLt, by change (y 1).val = 0 + 1 * _; omega⟩

set_option maxHeartbeats 2000000 in
/-- The body at a tile: it leaves the inputs and the tables, and the output's block holds `bodyOut`. -/
theorem body_run (c : Dev nD) (i : grid0.Coords) (arg7 : Memref sig .tc .vmem S2048x128 .f32) (harg7 : arg7.IsWhole) (arg8 : Memref sig .tc .vmem S1x1024 .f32) (harg8 : arg8.IsWhole) (arg9 : Memref sig .tc .vmem S1024x128 .bf16) (harg9 : arg9.IsWhole) (arg10 : Memref sig .tc .vmem S1x128 .f32) (harg10 : arg10.IsWhole) (arg11 : Memref sig .tc .vmem S1x1024x256 .bf16) (harg11 : arg11.IsWhole) (arg12 : Memref sig .tc .vmem S1x1024x256 .bf16) (harg12 : arg12.IsWhole) (arg13 : Memref sig .tc .vmem S1x256x1024 .bf16) (harg13 : arg13.IsWhole) (arg14 : Memref sig .tc .vmem S1x1024x256 .bf16) (harg14 : arg14.IsWhole) (arg15 : Memref sig .tc .vmem S1x1024x256 .bf16) (harg15 : arg15.IsWhole) (arg16 : Memref sig .tc .vmem S1x256x1024 .bf16) (harg16 : arg16.IsWhole) (arg17 : Memref sig .tc .vmem S2048x128 .f32) (harg17 : arg17.IsWhole)
    (x0 : Vec F S2048x128 .f32) (x1 : Vec F S1x1024 .f32) (x2 : Vec F S1024x128 .bf16) (x3 : Vec F S1x128 .f32) (x4 : Vec F S1x1024x256 .bf16) (x5 : Vec F S1x1024x256 .bf16) (x6 : Vec F S1x256x1024 .bf16) (x7 : Vec F S1x1024x256 .bf16) (x8 : Vec F S1x1024x256 .bf16) (x9 : Vec F S1x256x1024 .bf16) (xt0 : TbBuf0 (F := F) c tbM0_0) (xt1 : TbBuf0 (F := F) c tbM0_1) (xt2 : TbBuf0 (F := F) c tbM0_2) (xt3 : TbBuf0 (F := F) c tbM0_3) (xt4 : TbBuf0 (F := F) c tbM0_4) (xt5 : TbBuf0 (F := F) c tbM0_5) (E : Set ℕ) (K : PUnit → sProp 𝕄) :
        iprop(owns (c : Thread nD τ) arg7 fullShare x0 ∗ owns (c : Thread nD τ) arg8 fullShare x1 ∗ owns (c : Thread nD τ) arg9 fullShare x2 ∗ owns (c : Thread nD τ) arg10 fullShare x3 ∗ owns (c : Thread nD τ) arg11 fullShare x4 ∗ owns (c : Thread nD τ) arg12 fullShare x5 ∗ owns (c : Thread nD τ) arg13 fullShare x6 ∗ owns (c : Thread nD τ) arg14 fullShare x7 ∗ owns (c : Thread nD τ) arg15 fullShare x8 ∗ owns (c : Thread nD τ) arg16 fullShare x9 ∗ (∃ d, owns (c : Thread nD τ) arg17 fullShare d) ∗ tbPt0 c tbM0_0 xt0 ∗ tbPt0 c tbM0_1 xt1 ∗ tbPt0 c tbM0_2 xt2 ∗ tbPt0 c tbM0_3 xt3 ∗ tbPt0 c tbM0_4 xt4 ∗ tbPt0 c tbM0_5 xt5
            ∗ (iprop(owns (c : Thread nD τ) arg7 fullShare x0 ∗ owns (c : Thread nD τ) arg8 fullShare x1 ∗ owns (c : Thread nD τ) arg9 fullShare x2 ∗ owns (c : Thread nD τ) arg10 fullShare x3 ∗ owns (c : Thread nD τ) arg11 fullShare x4 ∗ owns (c : Thread nD τ) arg12 fullShare x5 ∗ owns (c : Thread nD τ) arg13 fullShare x6 ∗ owns (c : Thread nD τ) arg14 fullShare x7 ∗ owns (c : Thread nD τ) arg15 fullShare x8 ∗ owns (c : Thread nD τ) arg16 fullShare x9 ∗ owns (c : Thread nD τ) arg17 fullShare (bodyOut i x0 x1 x2 x3 x4 x5 x6 x7 x8 x9 (w240 c i xt4) (w240b c i xt1) (w240c c i xt2) (w240d c i xt3) (w1 c xt5)) ∗ tbPt0 c tbM0_0 xt0 ∗ tbPt0 c tbM0_1 xt1 ∗ tbPt0 c tbM0_2 xt2 ∗ tbPt0 c tbM0_3 xt3 ∗ tbPt0 c tbM0_4 xt4 ∗ tbPt0 c tbM0_5 xt5) -∗ K ⟨⟩))
          ⊢ wp frame (wpE (defs₀ (F := F)) Variants.none c none) E (cc0_hier_moe i tbM0_0 htbM0_0 tbM0_1 htbM0_1 tbM0_2 htbM0_2 tbM0_3 htbM0_3 tbM0_4 htbM0_4 tbM0_5 htbM0_5 arg7 harg7 arg8 harg8 arg9 harg9 arg10 harg10 arg11 harg11 arg12 harg12 arg13 harg13 arg14 harg14 arg15 harg15 arg16 harg16 arg17 harg17) K := by
  simp only [cc0_hier_moe_eq_skeleton]; unfold cc0_hier_moe_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, HT0, HT1, HT2, HT3, HT4, HT5, Hk⟩
  obtain rfl := harg7.eq_unread hf0; obtain rfl := harg8.eq_unread hf1; obtain rfl := harg9.eq_unread hf2; obtain rfl := harg10.eq_unread hf3; obtain rfl := harg11.eq_unread hf4; obtain rfl := harg12.eq_unread hf5; obtain rfl := harg13.eq_unread hf6; obtain rfl := harg14.eq_unread hf7; obtain rfl := harg15.eq_unread hf8; obtain rfl := harg16.eq_unread hf9
  sl_exec
  sl_step
  iapply Hk
  isplitl [H0]
  · iexists _; isplitr; · ipureintro; exact harg7.read_unread _
    iexact H0
  isplitl [H1]
  · iexists _; isplitr; · ipureintro; exact harg8.read_unread _
    iexact H1
  isplitl [H2]
  · iexists _; isplitr; · ipureintro; exact harg9.read_unread _
    iexact H2
  isplitl [H3]
  · iexists _; isplitr; · ipureintro; exact harg10.read_unread _
    iexact H3
  isplitl [H4]
  · iexists _; isplitr; · ipureintro; exact harg11.read_unread _
    iexact H4
  isplitl [H5]
  · iexists _; isplitr; · ipureintro; exact harg12.read_unread _
    iexact H5
  isplitl [H6]
  · iexists _; isplitr; · ipureintro; exact harg13.read_unread _
    iexact H6
  isplitl [H7]
  · iexists _; isplitr; · ipureintro; exact harg14.read_unread _
    iexact H7
  isplitl [H8]
  · iexists _; isplitr; · ipureintro; exact harg15.read_unread _
    iexact H8
  isplitl [H9]
  · iexists _; isplitr; · ipureintro; exact harg16.read_unread _
    iexact H9
  isplitl [H10]
  · iexists _; isplitr
    rotate_left
    · iexact H10
    · ipureintro
      have e13 : body_run.sl.r_13 c i arg7 harg7 arg8 harg8 arg9 harg9 arg10 harg10 arg11 harg11 arg12 harg12 arg13 harg13 x0 x1 x2 x3 x4 x5 x6 xt1 xt2 xt3 xt4
          = yloE x0 x1 x2 x3 x4 x5 x6 (w240 c i xt4) (w240b c i xt1) (w240c c i xt2) (w240d c i xt3) := by
        refine (rfl : _ = yloL (View.readAt (Elt F) arg7.view (⟨![0, 0], S256x128.size, ![8, 1], inb_S2048x128_S256x128_0_0_s_8_1⟩ : LoadRect S2048x128) (harg7.unread x0)) (View.readAt (Elt F) arg7.view (⟨![1, 0], S256x128.size, ![8, 1], inb_S2048x128_S256x128_1_0_s_8_1⟩ : LoadRect S2048x128) (harg7.unread x0)) (View.readAt (Elt F) arg7.view (⟨![2, 0], S256x128.size, ![8, 1], inb_S2048x128_S256x128_2_0_s_8_1⟩ : LoadRect S2048x128) (harg7.unread x0)) (View.readAt (Elt F) arg7.view (⟨![3, 0], S256x128.size, ![8, 1], inb_S2048x128_S256x128_3_0_s_8_1⟩ : LoadRect S2048x128) (harg7.unread x0)) (View.readAt (Elt F) arg7.view (⟨![4, 0], S256x128.size, ![8, 1], inb_S2048x128_S256x128_4_0_s_8_1⟩ : LoadRect S2048x128) (harg7.unread x0)) (View.readAt (Elt F) arg7.view (⟨![5, 0], S256x128.size, ![8, 1], inb_S2048x128_S256x128_5_0_s_8_1⟩ : LoadRect S2048x128) (harg7.unread x0)) (View.readAt (Elt F) arg7.view (⟨![6, 0], S256x128.size, ![8, 1], inb_S2048x128_S256x128_6_0_s_8_1⟩ : LoadRect S2048x128) (harg7.unread x0)) (View.readAt (Elt F) arg7.view (⟨![7, 0], S256x128.size, ![8, 1], inb_S2048x128_S256x128_7_0_s_8_1⟩ : LoadRect S2048x128) (harg7.unread x0))
            (View.readAt (Elt F) arg8.view (Rect.unit (s := S1x1024) ![0,0] S1x1024.size inb_S1x1024_S1x1024_0_0).toLoadRect (harg8.unread x1))
            (View.readAt (Elt F) arg9.view (Rect.unit (s := S1024x128) ![0,0] S1024x128.size inb_S1024x128_S1024x128_0_0).toLoadRect (harg9.unread x2))
            (View.readAt (Elt F) arg10.view (Rect.unit (s := S1x128) ![0,0] S1x128.size inb_S1x128_S1x128_0_0).toLoadRect (harg10.unread x3))
            (View.readAt (Elt F) arg11.view (Rect.unit (s := S1x1024x256) ![0,0,0] S1x1024x256.size inb_S1x1024x256_S1x1024x256_0_0_0).toLoadRect (harg11.unread x4))
            (View.readAt (Elt F) arg12.view (Rect.unit (s := S1x1024x256) ![0,0,0] S1x1024x256.size inb_S1x1024x256_S1x1024x256_0_0_0).toLoadRect (harg12.unread x5))
            (View.readAt (Elt F) arg13.view (Rect.unit (s := S1x256x1024) ![0,0,0] S1x256x1024.size inb_S1x256x1024_S1x256x1024_0_0_0).toLoadRect (harg13.unread x6)) (w240 c i xt4) (w240b c i xt1) (w240c c i xt2) (w240d c i xt3)).trans ?_
        simp only [readAt_ld1]
        rfl
      have e14 : body_run.sl.r_14 c i arg7 harg7 arg8 harg8 arg9 harg9 arg10 harg10 arg14 harg14 arg15 harg15 arg16 harg16 x0 x1 x2 x3 x7 x8 x9 xt1 xt2 xt3 xt4
          = yhiE x0 x1 x2 x3 x7 x8 x9 (w240 c i xt4) (w240b c i xt1) (w240c c i xt2) (w240d c i xt3) := by
        refine (rfl : _ = yhiL (View.readAt (Elt F) arg7.view (⟨![0, 0], S256x128.size, ![8, 1], inb_S2048x128_S256x128_0_0_s_8_1⟩ : LoadRect S2048x128) (harg7.unread x0)) (View.readAt (Elt F) arg7.view (⟨![1, 0], S256x128.size, ![8, 1], inb_S2048x128_S256x128_1_0_s_8_1⟩ : LoadRect S2048x128) (harg7.unread x0)) (View.readAt (Elt F) arg7.view (⟨![2, 0], S256x128.size, ![8, 1], inb_S2048x128_S256x128_2_0_s_8_1⟩ : LoadRect S2048x128) (harg7.unread x0)) (View.readAt (Elt F) arg7.view (⟨![3, 0], S256x128.size, ![8, 1], inb_S2048x128_S256x128_3_0_s_8_1⟩ : LoadRect S2048x128) (harg7.unread x0)) (View.readAt (Elt F) arg7.view (⟨![4, 0], S256x128.size, ![8, 1], inb_S2048x128_S256x128_4_0_s_8_1⟩ : LoadRect S2048x128) (harg7.unread x0)) (View.readAt (Elt F) arg7.view (⟨![5, 0], S256x128.size, ![8, 1], inb_S2048x128_S256x128_5_0_s_8_1⟩ : LoadRect S2048x128) (harg7.unread x0)) (View.readAt (Elt F) arg7.view (⟨![6, 0], S256x128.size, ![8, 1], inb_S2048x128_S256x128_6_0_s_8_1⟩ : LoadRect S2048x128) (harg7.unread x0)) (View.readAt (Elt F) arg7.view (⟨![7, 0], S256x128.size, ![8, 1], inb_S2048x128_S256x128_7_0_s_8_1⟩ : LoadRect S2048x128) (harg7.unread x0))
            (View.readAt (Elt F) arg8.view (Rect.unit (s := S1x1024) ![0,0] S1x1024.size inb_S1x1024_S1x1024_0_0).toLoadRect (harg8.unread x1))
            (View.readAt (Elt F) arg9.view (Rect.unit (s := S1024x128) ![0,0] S1024x128.size inb_S1024x128_S1024x128_0_0).toLoadRect (harg9.unread x2))
            (View.readAt (Elt F) arg10.view (Rect.unit (s := S1x128) ![0,0] S1x128.size inb_S1x128_S1x128_0_0).toLoadRect (harg10.unread x3))
            (View.readAt (Elt F) arg14.view (Rect.unit (s := S1x1024x256) ![0,0,0] S1x1024x256.size inb_S1x1024x256_S1x1024x256_0_0_0).toLoadRect (harg14.unread x7))
            (View.readAt (Elt F) arg15.view (Rect.unit (s := S1x1024x256) ![0,0,0] S1x1024x256.size inb_S1x1024x256_S1x1024x256_0_0_0).toLoadRect (harg15.unread x8))
            (View.readAt (Elt F) arg16.view (Rect.unit (s := S1x256x1024) ![0,0,0] S1x256x1024.size inb_S1x256x1024_S1x256x1024_0_0_0).toLoadRect (harg16.unread x9)) (w240 c i xt4) (w240b c i xt1) (w240c c i xt2) (w240d c i xt3)).trans ?_
        simp only [readAt_ld1]
        rfl
      by_cases h : k0_cond1 i (w1 c xt5) = 1#1
      · rw [dif_neg (show ¬ k0_cond2 i (body_run.sl.r c xt5) = 1#1 from fun h' => (cond_or i (w1 c xt5)).mp h' h), dif_pos (show k0_cond1 i (body_run.sl.r c xt5) = 1#1 from h)]
        refine (read_stripes arg17.view f10
          (body_run.sl.r_13 c i arg7 harg7 arg8 harg8 arg9 harg9 arg10 harg10 arg11 harg11 arg12 harg12 arg13 harg13 x0 x1 x2 x3 x4 x5 x6 xt1 xt2 xt3 xt4)
          (body_run.sl.r_14 c i arg7 harg7 arg8 harg8 arg9 harg9 arg10 harg10 arg14 harg14 arg15 harg15 arg16 harg16 x0 x1 x2 x3 x7 x8 x9 xt1 xt2 xt3 xt4)).trans ?_
        exact (congrArg₂ stripe e13 e14).trans (if_pos h).symm
      · rw [dif_pos (show k0_cond2 i (body_run.sl.r c xt5) = 1#1 from (cond_or i (w1 c xt5)).mpr h)]
        refine (read_zeros arg17.view _ _).trans ?_
        exact (if_neg h).symm
  isplitl [HT0]; · iexact HT0
  isplitl [HT1]; · iexact HT1
  isplitl [HT2]; · iexact HT2
  isplitl [HT3]; · iexact HT3
  isplitl [HT4]; · iexact HT4
  iexact HT5

end Cert.ExpertsIdeal.Hand

end
-- ==== Proof.MoeFrame.lean ====
/- The experts' call: the run of the whole grid. -/
module

public import proofs.«01_k».proof.Proof.MoeBody
public import Idealize.ShloMosaic.Lib.Claim
public import Idealize.ShloMosaic.Lib.WholeRead
public import Idealize.ShloMosaic.Lib.Pointwise.Index

@[expose] public section

-- membership in a rectangle of production extents (`View.cover_of_tiled`): the elaborator's structural look
-- recurses once per coordinate of the long axes
set_option maxRecDepth 16384

noncomputable section

namespace Cert.ExpertsIdeal.Hand

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the outputs hold after each point -/

/-- What the output's block holds after the body at point `t`. -/
def outsAt0 (hO : Ok m) (c : Dev nD) (t : Fin (cfgM m hO).N) : Vec F S2048x128 .f32 :=
  bodyOut (grid0.coords t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t)
    (w240 c (grid0.coords t) (tbl m 4)) (w240b c (grid0.coords t) (tbl m 1)) (w240c c (grid0.coords t) (tbl m 2)) (w240d c (grid0.coords t) (tbl m 3)) (w1 c (tbl m 5))

/-! ## The pipeline's proof data -/

/-- The arrays as the region finds them; after the body each input's block as it was, the output's what the body leaves. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => (outsAt0 m hO c t)
  Φ _ := iprop(Pipeline.ΦA spec0 c ∗ Pipeline.ΦT pre0 (tbl m) c)
  q w := Pipeline.shareOf spec0 w
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = iblk m hO c 8 t := by dsimp only [dats]; try rfl
theorem after0_9 (hO : Ok m) (c : Dev nD) (t : Fin (cfgM m hO).N) : (dats m hO 0 c).after 9 t = iblk m hO c 9 t := by dsimp only [dats]; try rfl
theorem after0_10 (hO : Ok m) (c : Dev nD) (t : Fin (cfgM m hO).N) : (dats m hO 0 c).after 10 t = (outsAt0 m hO c t) := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d
theorem before0_9 (hO : Ok m) (c : Dev nD) (t : Fin (cfgM m hO).N) (d) : (dats m hO 0 c).before 9 t d = iblk m hO c 9 t :=
  before0_9_of m hO (dats m hO 0 c) (A_eq m hO c 9) (after0_9 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t)
    ∗ owns (c : Thread nD τ) (ms0_9 m hO t) fullShare ((dats m hO 0 c).after 9 t)
    ∗ owns (c : Thread nD τ) (ms0_10 m hO t) fullShare ((dats m hO 0 c).after 10 t))

set_option maxHeartbeats 800000 in
/-- The body at any point: the inputs' memrefs hold their blocks (`before0_W`); so the
    run applies; the invariant passes through unread; the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8, before0_9]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7, after0_8, after0_9, after0_10]
  rw [show (dats m hO 0 c).Φ t.castSucc = iprop(Pipeline.ΦA spec0 c ∗ Pipeline.ΦT pre0 (tbl m) c) from rfl, PhiT0_eq]
  unfold outsAt0
  iintro ⟨⟨HΦ, ⟨HT0, HT1, HT2, HT3, HT4, HT5⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (body_run c (grid0.coords t) _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (tbl m 0) (tbl m 1) (tbl m 2) (tbl m 3) (tbl m 4) (tbl m 5) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [HT0]; · iexact HT0
  isplitl [HT1]; · iexact HT1
  isplitl [HT2]; · iexact HT2
  isplitl [HT3]; · iexact HT3
  isplitl [HT4]; · iexact HT4
  isplitl [HT5]; · iexact HT5
  iintro ⟨H0, H1, H2, H3, H4, H5, H6, H7, H8, H9, H10, HT0, HT1, HT2, HT3, HT4, HT5⟩
  isplitl [HΦ HT0 HT1 HT2 HT3 HT4 HT5]
  · isplitl [HΦ]
    · iexact HΦ
    isplitl [HT0]; · iexact HT0
    isplitl [HT1]; · iexact HT1
    isplitl [HT2]; · iexact HT2
    isplitl [HT3]; · iexact HT3
    isplitl [HT4]; · iexact HT4
    iexact HT5
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem one_runs (i : grid0.Coords) (w : BitVec 32) : (!(k0_cond1 i w == 1#1) && !(k0_cond2 i w == 1#1)) = false := by
  rw [Bool.and_eq_false_iff]
  by_cases h : k0_cond1 i w = 1#1
  · left; rw [h]; rfl
  · right; rw [(cond_or i w).mpr h]; rfl

theorem busy0 (pf : pre0.Contents (Elt F)) (i : grid0.Coords) : idle0 pf (10 : Fin 11) i = false :=
  one_runs i _

theorem idle_eq (hO : Ok m) : (cfgM m hO).idle = idle0 (tbl m) := rfl

/-- The body writes the output's block at every point: one of its two branches runs. -/
theorem busy (hO : Ok m) (t : Fin (cfgM m hO).N) : (cfgM m hO).idle (10 : Fin 11) ((cfgM m hO).grid.coords t) = false :=
  (congrFun (congrFun (idle_eq m hO) 10) _).trans (busy0 (tbl m) ((cfgM m hO).grid.coords t))

/-- The library's body obligation, at every point. -/
theorem body_obligation (hO : Ok m) (c : Dev nD) : BodyObligation (dats (F := F) m hO 0 c) (defs₀ (F := F)) Variants.none () Set.univ := fun t => by
  rw [bigSep_W0, bigSep_W0, defs₀_row m hO]
  rw [busy m hO t]
  exact triple_restated (sound_body m hO c t) rfl .rfl fun _ => .rfl

/-! ## The run and the frame -/

-- `θ_run_frameP_shared`'s implicit arguments are found by unifying its conclusion with this one, which takes unfolding plain
-- definitions in a metavariable's type
set_option backward.isDefEq.respectTransparency.types false in
/-- The run of the program: what every array ends at, and every counter at zero. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hΦ := fun _ _ => rfl)

/-- The run without the counters. -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ hO (dats m hO) (A_eq m hO) (run_main m ρ hO)

/-- The argument arrays end unchanged and every counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ hO) ((θ_run defs _ _).mono (fun _ h => h.2) (run_main_quiescent m ρ hO))

end Cert.ExpertsIdeal.Hand

end
-- ==== Proof.MoeTables.lean ====
/- The tables that the host makes of the buckets' counts for the experts' call. -/
module

public import proofs.«01_k».proof.Proof.MoeRuns
public import proofs.«01_k».proof.Proof.Host

@[expose] public section

set_option maxRecDepth 16384

noncomputable section

namespace Cert.ExpertsIdeal.Hand

open Cert.ExpertsIdeal Cert.ExpertsIdeal.Gen Cert.Tables
open Idealize.ShloMosaic Idealize.ShloMosaic.TcCoe Idealize.ShloMosaic.Tactic
open Idealize.ShloMosaic.StableHlo Idealize.ShloMosaic.Routing Idealize.ShloMosaic.ValueIdx
open Cert.KernelIdeal.Hand (wordAt tilesH endsH lastH)

variable {F : FTy → Type} [FloatOps F]

/-- The tile that every point reads. -/
def stepE (E : IVec S256 32) : IVec S240 32 :=
  minsi (iotaInDim S240 32 0) (broadcastInDim S240 ![] bcast_S_S240
    (subi (shapeCast S_ (extractStridedSlice S1 ![255] E slices_S256_S1_255) shapeCasts_S1_S_) (constantI S_ 32 1#32)))

/-- Whether a tile is a bucket's. -/
def mineE (s : IVec S240 32) (B E : IVec S256 32) : IVec S240x256 1 :=
  andi (cmpi .sge (broadcastInDim S240x256 ![0, 1] bcast_S240x1_S240x256_0_1 (broadcastInDim S240x1 ![0] bcast_S240_S240x1_0 s))
      (broadcastInDim S240x256 ![0, 1] bcast_S1x256_S240x256_0_1 (broadcastInDim S1x256 ![1] bcast_S256_S1x256_1 B)))
    (cmpi .slt (broadcastInDim S240x256 ![0, 1] bcast_S240x1_S240x256_0_1 (broadcastInDim S240x1 ![0] bcast_S240_S240x1_0 s))
      (broadcastInDim S240x256 ![0, 1] bcast_S1x256_S240x256_0_1 (broadcastInDim S1x256 ![1] bcast_S256_S1x256_1 E)))

/-- A bucket's word for every tile. -/
def pickE (M : IVec S240x256 1) (v : IVec S256 32) : IVec S240 32 :=
  Host.reduce IntOp.addi (select M (broadcastInDim S240x256 ![0, 1] bcast_S1x256_S240x256_0_1 (broadcastInDim S1x256 ![1] bcast_S256_S1x256_1 v))
    (broadcastInDim S240x256 ![] bcast_S_S240x256 (constantI S_ 32 0#32))) (constantI S_ 32 0#32) reducesTo_S240x256_S240_d1 h_S_

/-- How many rows of every tile are tokens'. -/
def validE (p s B : IVec S240 32) : IVec S240 32 :=
  minsi (broadcastInDim S240 ![] bcast_S_S240 (constantI S_ 32 256#32)) (maxsi (broadcastInDim S240 ![] bcast_S_S240 (constantI S_ 32 0#32))
    (subi p (muli (subi s B) (broadcastInDim S240 ![] bcast_S_S240 (constantI S_ 32 256#32)))))

/-- The buckets' groups and their two experts. -/
def grpE : IVec S256 32 := pyDiv bcast_S_S256 (iotaInDim S256 32 0) (constantI S_ 32 64#32)
def loE : IVec S256 32 := pyDiv bcast_S_S256 (pyRem bcast_S_S256 (iotaInDim S256 32 0) (constantI S_ 32 64#32)) (constantI S_ 32 8#32)
def hiE : IVec S256 32 := pyRem bcast_S_S256 (iotaInDim S256 32 0) (constantI S_ 32 8#32)

/-- Whose tile every tile is, from the counts. -/
def whoE (n : IVec S256 32) : IVec S240x256 1 := mineE (stepE (endsH (tilesH n))) (subi (endsH (tilesH n)) (tilesH n)) (endsH (tilesH n))

variable (m : (ℓ : Loc nD τ sig) → Buf (Elt F) ℓ) (c : Dev nD)

theorem V_main_v25 : V m c main_v25 = stepE (endsH (tilesH (m ((c.tc : Thread nD τ).loc main_arg0)))) := by
  unfold V
  after_reads_simp
  simp -implicitDefEqProofs only [StableHlo.TRef.toBuf, StableHlo.TRef.ofBuf, cast_cast, cast_eq, id]
  simp only [stepE, endsH, tilesH, pyDiv]
  first | done | rfl

theorem V_main_v62 : V m c main_v62 = lastH (endsH (tilesH (m ((c.tc : Thread nD τ).loc main_arg0)))) := by
  unfold V
  after_reads_simp
  simp -implicitDefEqProofs only [StableHlo.TRef.toBuf, StableHlo.TRef.ofBuf, cast_cast, cast_eq, id]
  simp only [lastH, endsH, tilesH, pyDiv]
  first | done | rfl

theorem V_main_v52 : V m c main_v52 = pickE (whoE (m ((c.tc : Thread nD τ).loc main_arg0))) grpE := by
  unfold V
  after_reads_simp
  simp -implicitDefEqProofs only [StableHlo.TRef.toBuf, StableHlo.TRef.ofBuf, cast_cast, cast_eq, id]
  simp only [pickE, whoE, mineE, stepE, grpE, endsH, tilesH, pyDiv]
  first | done | rfl

theorem V_main_v57 : V m c main_v57 = pickE (whoE (m ((c.tc : Thread nD τ).loc main_arg0))) loE := by
  unfold V
  after_reads_simp
  simp -implicitDefEqProofs only [StableHlo.TRef.toBuf, StableHlo.TRef.ofBuf, cast_cast, cast_eq, id]
  simp only [pickE, whoE, mineE, stepE, loE, endsH, tilesH, pyDiv, pyRem, divGuard]
  first | done | rfl

theorem V_main_v61 : V m c main_v61 = pickE (whoE (m ((c.tc : Thread nD τ).loc main_arg0))) hiE := by
  unfold V
  after_reads_simp
  simp -implicitDefEqProofs only [StableHlo.TRef.toBuf, StableHlo.TRef.ofBuf, cast_cast, cast_eq, id]
  simp only [pickE, whoE, mineE, stepE, hiE, endsH, tilesH, pyDiv, pyRem, divGuard]
  first | done | rfl

theorem V_main_v48 : V m c main_v48 = validE (pickE (whoE (m ((c.tc : Thread nD τ).loc main_arg0))) (m ((c.tc : Thread nD τ).loc main_arg0)))
    (stepE (endsH (tilesH (m ((c.tc : Thread nD τ).loc main_arg0)))))
    (pickE (whoE (m ((c.tc : Thread nD τ).loc main_arg0))) (subi (endsH (tilesH (m ((c.tc : Thread nD τ).loc main_arg0)))) (tilesH (m ((c.tc : Thread nD τ).loc main_arg0))))) := by
  unfold V
  after_reads_simp
  simp -implicitDefEqProofs only [StableHlo.TRef.toBuf, StableHlo.TRef.ofBuf, cast_cast, cast_eq, id]
  simp only [validE, pickE, whoE, mineE, stepE, endsH, tilesH, pyDiv]
  first | done | rfl

end Cert.ExpertsIdeal.Hand

end
-- ==== Proof.MoeSlots.lean ====
/- Which bucket has a tile and a row, and the words of the tables that the host makes of it. -/
module

public import proofs.«01_k».proof.Proof.MoeTables
public import Idealize.ShloMosaic.Lib.Pointwise.Reduce
public import Idealize.ShloMosaic.Lib.WordCmp

@[expose] public section

noncomputable section

namespace Cert.Slots

open Idealize.ShloMosaic Idealize.ShloMosaic.Routing
open Idealize.ShloMosaic.ValueIdx (ix0)
open Cert.Tables

/-! ## Numbers -/

/-- The first tile of a bucket. -/
def from' (cnt : ℕ → ℕ) (b : ℕ) : ℕ := ends cnt b - tiles cnt b

theorem from_tiles (cnt : ℕ → ℕ) (b : ℕ) : from' cnt b + tiles cnt b = ends cnt b := by
  have := tiles_le_ends cnt b
  unfold from'
  omega

theorem from_step (cnt : ℕ → ℕ) {a b : ℕ} (h : a < b) : ends cnt a ≤ from' cnt b := by
  have h1 := ends_step cnt h
  have h2 := from_tiles cnt b
  omega

theorem own_exists (cnt : ℕ → ℕ) {s n : ℕ} (h : s < ends cnt n) : ∃ b, b ≤ n ∧ from' cnt b ≤ s ∧ s < ends cnt b := by
  induction n with
  | zero => exact ⟨0, le_rfl, by unfold from'; rw [ends_zero]; omega, h⟩
  | succ n ih =>
    by_cases hs : s < ends cnt n
    · obtain ⟨b, hb, h1, h2⟩ := ih hs
      exact ⟨b, by omega, h1, h2⟩
    · refine ⟨n + 1, le_rfl, ?_, h⟩
      have h1 := ends_succ cnt n
      have h2 := from_tiles cnt (n + 1)
      omega

theorem own_unique (cnt : ℕ → ℕ) {s a b : ℕ} (ha : from' cnt a ≤ s) (ha' : s < ends cnt a) (hb : from' cnt b ≤ s) (hb' : s < ends cnt b) : a = b := by
  rcases Nat.lt_trichotomy a b with h | h | h
  · have := from_step cnt h; omega
  · exact h
  · have := from_step cnt h; omega

/-- How many rows of a bucket's tile are tokens'. -/
def valid' (cnt : ℕ → ℕ) (b s : ℕ) : ℕ := min 256 (cnt b - (s - from' cnt b) * 256)

/-- A row is a bucket's where its tile is the bucket's and it is one of the tile's tokens. -/
theorem row_iff (cnt : ℕ → ℕ) {r s b b' : ℕ} (hs : s = min (r / 256) (ends cnt 255 - 1)) (hb : from' cnt b ≤ s) (hb2 : s < ends cnt b) (h1 : 1 ≤ ends cnt 255) (hb255 : b' ≤ 255) :
    (from' cnt b' * 256 ≤ r ∧ r < from' cnt b' * 256 + cnt b') ↔ (b' = b ∧ r % 256 < valid' cnt b s ∧ r / 256 < ends cnt 255) := by
  unfold valid'
  constructor
  · rintro ⟨h2, h3⟩
    have h4 := cnt_le cnt b'
    have h5 := from_tiles cnt b'
    have h6 := ends_mono cnt hb255
    have h7 : r / 256 < ends cnt b' := by omega
    have h8 : s = r / 256 := by omega
    have e : b' = b := own_unique cnt (s := s) (by omega) (by omega) hb hb2
    subst e
    refine ⟨rfl, ?_, by omega⟩
    omega
  · rintro ⟨rfl, h2, h3⟩
    omega

theorem cnt_low (cnt : ℕ → ℕ) {b s : ℕ} (hb : from' cnt b ≤ s) (hs : s < ends cnt b) : (s - from' cnt b) * 256 < cnt b := by
  have h := from_tiles cnt b
  have e : tiles cnt b = (cnt b + 255) / 256 := rfl
  omega

theorem one_ix {n : ℕ} (a : Fin n) : (ix1 a : (shape1 n).Idx) = ValueIdx.ix1 a := funext fun d => match d with
  | ⟨0, _⟩ => rfl

theorem two_ix {n m : ℕ} (a : Fin n) (b : Fin m) : (ix2 a b : (shape2 n m).Idx) = ValueIdx.ix2 a b := funext fun d => match d with
  | ⟨0, _⟩ => rfl
  | ⟨1, _⟩ => rfl

/-! ## Sums of one term -/

theorem fold_one {α ι : Type} [Fintype ι] [DecidableEq ι] (op : α → α → α) [Std.Commutative op] [Std.Associative op] (z : α) (hz : ∀ x, op x z = x)
    (f : ι → α) (k : ι) (h : ∀ i, i ≠ k → f i = z) : (Finset.univ : Finset ι).fold op z f = f k := by
  have h0 : ∀ s : Finset ι, k ∉ s → s.fold op z f = z := by
    intro s
    induction s using Finset.induction_on with
    | empty => intro _; rfl
    | insert a s ha ih =>
      intro hk
      rw [Finset.fold_insert ha, ih (fun h => hk (Finset.mem_insert_of_mem h)), h a (fun e => hk (e ▸ Finset.mem_insert_self a s)), hz]
  rw [← Finset.insert_erase (Finset.mem_univ k), Finset.fold_insert (Finset.notMem_erase k _), h0 _ (Finset.notMem_erase k _), hz]

theorem row_one {α : Type} {n m : ℕ} {u : Shape} (op : α → α → α) [Std.Commutative op] [Std.Associative op] (z : α) (hz : ∀ x, op x z = x)
    (x : (shape2 n m).Idx → α) (init : u.Idx → α) (hi : ∀ i, init i = z) (h : (shape2 n m).ReducesTo [1] (shape1 n)) (hu : 0 < u.numel) (r : Fin n) (k : Fin m)
    (hk : ∀ i, i ≠ k → x (ValueIdx.ix2 r i) = z) : Host.reduce op x init h hu (ValueIdx.ix1 r) = x (ValueIdx.ix2 r k) := by
  rw [Host.reduce_eq_fold, hi, Shape.ReducesTo.fold_fiber_r2_a1]
  refine (fold_one op z hz _ k fun i hi => ?_).trans ?_
  · rw [two_ix]
    exact hk i hi
  · rw [two_ix]

/-- Of a row of words, chosen where a bit is one and zero elsewhere, the one that is chosen. -/
theorem pick_one {n m : ℕ} {u : Shape} (M : IVec (shape2 n m) 1) (w : IVec (shape2 n m) 32) (Z : IVec (shape2 n m) 32) (hZ : ∀ i, Z i = 0#32) (h : (shape2 n m).ReducesTo [1] (shape1 n)) (hu : 0 < u.numel)
    (r : Fin n) (k : Fin m) (hk : ∀ i : Fin m, M (ValueIdx.ix2 r i) = 1#1 → i = k) (h1 : M (ValueIdx.ix2 r k) = 1#1 ∨ w (ValueIdx.ix2 r k) = 0#32) :
    Host.reduce IntOp.addi (select M w Z) (constantI u 32 0#32) h hu (ValueIdx.ix1 r) = w (ValueIdx.ix2 r k) := by
  refine (row_one IntOp.addi 0#32 (fun x => by show x + 0#32 = x; simp) (select M w Z) (constantI u 32 0#32) (fun _ => rfl) h hu r k ?_).trans ?_
  rotate_left
  · rw [show ∀ i, select M w Z i = Scalar.select (M i) (w i) (Z i) from fun _ => rfl]
    unfold Scalar.select
    by_cases h2 : M (ValueIdx.ix2 r k) = 1#1
    · exact if_pos h2
    · rw [if_neg (show ¬ M (ValueIdx.ix2 r k) = 1 from h2), hZ]
      rcases h1 with h1 | h1
      · exact absurd h1 h2
      · exact h1.symm
  · intro i hi
    rw [show ∀ i, select M w Z i = Scalar.select (M i) (w i) (Z i) from fun _ => rfl]
    unfold Scalar.select
    rw [if_neg (show ¬ M (ValueIdx.ix2 r i) = 1 from fun e => hi (hk i e)), hZ]

theorem any_one {n m : ℕ} {u : Shape} (M : IVec (shape2 n m) 1) (h : (shape2 n m).ReducesTo [1] (shape1 n)) (hu : 0 < u.numel)
    (r : Fin n) (k : Fin m) (hk : ∀ i : Fin m, M (ValueIdx.ix2 r i) = 1#1 → i = k) :
    Host.reduce IntOp.ori M (constantI u 1 0#1) h hu (ValueIdx.ix1 r) = M (ValueIdx.ix2 r k) := by
  refine row_one IntOp.ori 0#1 (fun x => by revert x; decide) M _ (fun _ => rfl) h hu r k fun i hi => ?_
  have h2 : ∀ b : BitVec 1, b ≠ 1#1 → b = 0#1 := by decide
  exact h2 _ fun e => hi (hk i e)

/-- Whether a number is from one to another, by two comparisons of words. -/
theorem between {a b c : ℕ} (ha : a < 2 ^ 31) (hb : b < 2 ^ 31) (hc : c < 2 ^ 31) :
    IntOp.andi (IntOp.cmpi .sge (BitVec.ofNat 32 a) (BitVec.ofNat 32 b)) (IntOp.cmpi .slt (BitVec.ofNat 32 a) (BitVec.ofNat 32 c)) = 1#1 ↔ b ≤ a ∧ a < c := by
  have e : ∀ {x : ℕ}, x < 2 ^ 31 → (BitVec.ofNat 32 x).toNat = x := fun h => by rw [BitVec.toNat_ofNat]; exact Nat.mod_eq_of_lt (by omega)
  rw [IntOp.andi_eq_one, StableHlo.Predicate.sge_iff_toNat (by rw [e ha]; exact ha) (by rw [e hb]; exact hb),
    StableHlo.Predicate.slt_iff_toNat (by rw [e ha]; exact ha) (by rw [e hc]; exact hc), e ha, e hb, e hc]

theorem min_word {a b : ℕ} (ha : a < 2 ^ 31) (hb : b < 2 ^ 31) : IntOp.minsi (BitVec.ofNat 32 a) (BitVec.ofNat 32 b) = BitVec.ofNat 32 (min a b) := by
  have e : ∀ {x : ℕ}, x < 2 ^ 31 → (BitVec.ofNat 32 x).toInt = x := fun h => StableHlo.Predicate.toInt_ofNat_small _ h
  unfold IntOp.minsi
  simp only [BitVec.slt, e ha, e hb]
  split <;> rename_i hh <;> simp at hh <;> congr 1 <;> omega

end Cert.Slots

namespace Cert.ExpertsIdeal.Hand

open Cert.ExpertsIdeal Cert.ExpertsIdeal.Gen Cert.Tables Cert.Slots
open Idealize.ShloMosaic Idealize.ShloMosaic.Routing
open Idealize.ShloMosaic.ValueIdx (ix0)
open Cert.KernelIdeal.Hand (wordAt tilesH endsH lastH tilesH_word endsH_word)

/-! ## The words of the tables -/

/-- The counts are the tokens' or fewer, and their tiles at least one and at most 240. -/
structure Sched (n : IVec S256 32) : Prop where
  cnt : ∀ b < 256, wordAt (n := 256) n b ≤ 32768
  pos : 1 ≤ ends (wordAt (n := 256) n) 255
  le : ends (wordAt (n := 256) n) 255 ≤ 240

variable (n : IVec S256 32) (h : Sched n)
include h

/-- The tile that point `t` reads. -/
abbrev slot (t : ℕ) : ℕ := min t (ends (wordAt (n := 256) n) 255 - 1)

omit h in
theorem slot_def (t : ℕ) : slot n t = min t (ends (wordAt (n := 256) n) 255 - 1) := rfl

theorem ends_240 {b : ℕ} (hb : b < 256) : ends (wordAt (n := 256) n) b ≤ 240 :=
  (ends_mono _ (show b ≤ 255 by omega)).trans h.le

omit h in
theorem stepE_at (E : IVec S256 32) (t : Fin 240) : stepE E (ValueIdx.ix1 t) = IntOp.minsi (BitVec.ofNat 32 t.val) (E (ValueIdx.ix1 (255 : Fin 256)) - 1#32) := by
  have e1 : shapeCast S_ (extractStridedSlice S1 ![255] E slices_S256_S1_255) shapeCasts_S1_S_ ValueIdx.ix0 = E (ValueIdx.ix1 (255 : Fin 256)) :=
    (cast_one_zero _ _).trans (slice1 255 E slices_S256_S1_255 (0 : Fin 1) (by decide))
  have e2 : ∀ v : IVec S_ 32, broadcastInDim S240 ![] bcast_S_S240 v (ValueIdx.ix1 t) = v ValueIdx.ix0 := fun v => bc0 _ _ _
  refine congrArg (IntOp.minsi (BitVec.ofNat 32 t.val)) ((e2 _).trans ?_)
  exact congrArg (fun w : BitVec 32 => w - 1#32) e1

theorem step_word (t : Fin 240) : stepE (endsH (tilesH n)) (ValueIdx.ix1 t) = BitVec.ofNat 32 (slot n t.val) := by
  rw [stepE_at, endsH_word n h.cnt (255 : Fin 256)]
  have hp := h.pos
  have hl := h.le
  have ht := t.isLt
  unfold slot
  have e : ((255 : Fin 256).val) = 255 := rfl
  rw [e]
  generalize ends (wordAt (n := 256) n) 255 = x at hp hl ⊢
  rw [StableHlo.Predicate.sub_one_ofNat _ hp (by omega), min_word (by omega) (by omega)]

theorem first_word (b : Fin 256) : subi (endsH (tilesH n)) (tilesH n) (ValueIdx.ix1 b) = BitVec.ofNat 32 (from' (wordAt (n := 256) n) b.val) := by
  rw [subi_ap, endsH_word n h.cnt b, tilesH_word n h.cnt b, ofNat32_sub (tiles_le_ends _ _)]
  rfl

omit h in
theorem mineE_at (x : IVec S240 32) (B E : IVec S256 32) (t : Fin 240) (b : Fin 256) : mineE x B E (ValueIdx.ix2 t b)
    = IntOp.andi (IntOp.cmpi .sge (x (ValueIdx.ix1 t)) (B (ValueIdx.ix1 b))) (IntOp.cmpi .slt (x (ValueIdx.ix1 t)) (E (ValueIdx.ix1 b))) := by
  have e1 : ∀ v : IVec S240 32, broadcastInDim S240x256 ![0, 1] bcast_S240x1_S240x256_0_1 (broadcastInDim S240x1 ![0] bcast_S240_S240x1_0 v) (ValueIdx.ix2 t b) = v (ValueIdx.ix1 t) :=
    fun v => bcRows _ _ v t b
  have e2 : ∀ v : IVec S256 32, broadcastInDim S240x256 ![0, 1] bcast_S1x256_S240x256_0_1 (broadcastInDim S1x256 ![1] bcast_S256_S1x256_1 v) (ValueIdx.ix2 t b) = v (ValueIdx.ix1 b) :=
    fun v => bcCols _ _ v t b
  exact congrArg₂ IntOp.andi (congrArg₂ (IntOp.cmpi .sge) (e1 x) (e2 B)) (congrArg₂ (IntOp.cmpi .slt) (e1 x) (e2 E))

theorem who_iff (t : Fin 240) (b : Fin 256) : whoE n (ValueIdx.ix2 t b) = 1#1 ↔
    from' (wordAt (n := 256) n) b.val ≤ slot n t.val ∧ slot n t.val < ends (wordAt (n := 256) n) b.val := by
  have hb := ends_240 n h b.isLt
  have hf := from_tiles (wordAt (n := 256) n) b.val
  have hl : slot n t.val ≤ t.val := Nat.min_le_left _ _
  have ht := t.isLt
  unfold whoE
  rw [mineE_at, step_word n h t, first_word n h b, endsH_word n h.cnt b]
  generalize slot n t.val = x at hl ⊢
  generalize from' (wordAt (n := 256) n) b.val = y at hf ⊢
  generalize ends (wordAt (n := 256) n) b.val = z at hf hb ⊢
  exact between (by omega) (by omega) (by omega)

/-- Point `t`'s bucket. -/
theorem own_of (t : Fin 240) : ∃ b : Fin 256, from' (wordAt (n := 256) n) b.val ≤ slot n t.val ∧ slot n t.val < ends (wordAt (n := 256) n) b.val := by
  have hp := h.pos
  obtain ⟨b, hb, h1, h2⟩ := own_exists (wordAt (n := 256) n) (s := slot n t.val) (n := 255) (by rw [slot_def]; omega)
  exact ⟨⟨b, by omega⟩, h1, h2⟩

variable {t : Fin 240} {b : Fin 256} (hb : from' (wordAt (n := 256) n) b.val ≤ slot n t.val ∧ slot n t.val < ends (wordAt (n := 256) n) b.val)
include hb

theorem pick_word (v : IVec S256 32) : pickE (whoE n) v (ValueIdx.ix1 t) = v (ValueIdx.ix1 b) := by
  unfold pickE
  refine (pick_one (n := 240) (m := 256) (whoE n) _ _ (fun i => ?_) reducesTo_S240x256_S240_d1 h_S_ t b (fun i hi => ?_) (Or.inl ((who_iff n h t b).2 hb))).trans ?_
  · rw [bc0]; rfl
  · have e := (who_iff n h t i).1 hi
    exact Fin.ext (own_unique _ e.1 e.2 hb.1 hb.2)
  · exact bcCols _ _ v t b

theorem grp_word : pickE (whoE n) grpE (ValueIdx.ix1 t) = BitVec.ofNat 32 (b.val / 64) := by
  rw [pick_word n h hb]
  exact pyDiv_ap _ _ _ (ValueIdx.ix1 b) (a := b.val) (b := 64) rfl rfl (by omega) (by omega) (by omega)

theorem lo_word : pickE (whoE n) loE (ValueIdx.ix1 t) = BitVec.ofNat 32 (b.val % 64 / 8) := by
  rw [pick_word n h hb]
  exact pyDiv_ap _ _ _ (ValueIdx.ix1 b) (a := b.val % 64) (b := 8) (pyRem_ap _ _ _ (ValueIdx.ix1 b) (a := b.val) (b := 64) rfl rfl (by omega) (by omega) (by omega)) rfl (by omega) (by omega) (by omega)

theorem hi_word : pickE (whoE n) hiE (ValueIdx.ix1 t) = BitVec.ofNat 32 (b.val % 8) := by
  rw [pick_word n h hb]
  exact pyRem_ap _ _ _ (ValueIdx.ix1 b) (a := b.val) (b := 8) rfl rfl (by omega) (by omega) (by omega)

omit h hb in
theorem validE_at (p x B : IVec S240 32) (t : Fin 240) : validE p x B (ValueIdx.ix1 t)
    = IntOp.minsi 256#32 (IntOp.maxsi 0#32 (p (ValueIdx.ix1 t) - (x (ValueIdx.ix1 t) - B (ValueIdx.ix1 t)) * 256#32)) := by
  have e2 : ∀ v : IVec S_ 32, broadcastInDim S240 ![] bcast_S_S240 v (ValueIdx.ix1 t) = v ValueIdx.ix0 := fun v => bc0 _ _ _
  refine congrArg₂ IntOp.minsi (e2 _) (congrArg₂ IntOp.maxsi (e2 _) ?_)
  exact congrArg (fun w : BitVec 32 => p (ValueIdx.ix1 t) - (x (ValueIdx.ix1 t) - B (ValueIdx.ix1 t)) * w) (e2 _)

theorem valid_word : validE (pickE (whoE n) n) (stepE (endsH (tilesH n))) (pickE (whoE n) (subi (endsH (tilesH n)) (tilesH n))) (ValueIdx.ix1 t)
    = BitVec.ofNat 32 (valid' (wordAt (n := 256) n) b.val (slot n t.val)) := by
  have hc := h.cnt b.val b.isLt
  have hl := cnt_low _ hb.1 hb.2
  rw [validE_at, pick_word n h hb n, word_of n b, pick_word n h hb (subi (endsH (tilesH n)) (tilesH n)), first_word n h b, step_word n h t]
  unfold valid'
  have h1 := hb.1
  generalize slot n t.val = x at h1 hl ⊢
  generalize from' (wordAt (n := 256) n) b.val = y at h1 hl ⊢
  generalize wordAt (n := 256) n b.val = z at hc hl ⊢
  rw [ofNat32_sub h1, show (256#32 : BitVec 32) = BitVec.ofNat 32 256 from rfl, ← BitVec.ofNat_mul, ofNat32_sub (by omega), maxsi_zero_left (by omega), min_word (by omega) (by omega)]

end Cert.ExpertsIdeal.Hand

end
-- ==== Proof.MoeOk.lean ====
module

public import proofs.«01_k».proof.Proof.MoeFrame
public import proofs.«01_k».proof.Proof.MoeSlots
public import proofs.«01_k».proof.Pre_tiled
public import proofs.«01_k».proof.Proof.Gen.Pre_tiled
public import Idealize.ShloMosaic.Lib.ReduceAll
public import Idealize.ShloMosaic.Lib.WordCmp

@[expose] public section

set_option maxRecDepth 4000

noncomputable section

namespace Cert.Moe

open Idealize.ShloMosaic Idealize.ShloMosaic.Routing Cert.Tables
open Cert.KernelIdeal.Hand (wordAt)

/-- What the comparisons of the counts say. -/
theorem sched_core (hb : shape0.BroadcastsInDim (shape1 256) (![] : Fin 0 → Fin (shape1 256).rank)) (n x : IVec (shape1 256) 32)
    (hx : ∀ b : Fin 256, x (ValueIdx.ix1 b) = n (ValueIdx.ix1 b) + 255#32)
    (hc : ∀ b : Fin 256, IntOp.cmpi .sge (n (ValueIdx.ix1 b)) 0#32 = 1#1 ∧ IntOp.cmpi .sle (n (ValueIdx.ix1 b)) 32768#32 = 1#1)
    (h : (shape1 256).ReducesTo [0] shape0) (hu : 0 < shape0.numel)
    (p : IntOp.cmpi .sge (Host.reduce IntOp.addi (pyDiv hb x (constantI shape0 32 256#32)) (constantI shape0 32 0#32) h hu ValueIdx.ix0) 1#32 = 1#1)
    (q : IntOp.cmpi .sle (Host.reduce IntOp.addi (pyDiv hb x (constantI shape0 32 256#32)) (constantI shape0 32 0#32) h hu ValueIdx.ix0) 240#32 = 1#1) :
    Cert.ExpertsIdeal.Hand.Sched n := by
  have hcnt : ∀ b < 256, wordAt (n := 256) n b ≤ 32768 := fun b hb' => by
    rw [wordAt_ix1 n ⟨b, hb'⟩]
    exact toNat_le_of (w := 32768#32) (by decide) (hc ⟨b, hb'⟩).1 (hc ⟨b, hb'⟩).2
  have e := reduce_sum (pyDiv hb x (constantI shape0 32 256#32)) (tiles (wordAt (n := 256) n)) (fun b => tiles_wordP hb n x b (hx b) (hcnt b.val b.isLt)) h hu
  have e' : Host.reduce IntOp.addi (pyDiv hb x (constantI shape0 32 256#32)) (constantI shape0 32 0#32) h hu ValueIdx.ix0 = BitVec.ofNat 32 (ends (wordAt (n := 256) n) 255) := e
  rw [e'] at p q
  have hl : ends (wordAt (n := 256) n) 255 ≤ 128 * (255 + 1) := ends_le hcnt (by omega)
  have hN : (BitVec.ofNat 32 (ends (wordAt (n := 256) n) 255)).toNat = ends (wordAt (n := 256) n) 255 := by
    rw [BitVec.toNat_ofNat]
    exact Nat.mod_eq_of_lt (by omega)
  have p' := (StableHlo.Predicate.sge_iff_toNat (by omega) (by decide)).1 p
  have q' := (StableHlo.Predicate.sle_iff_toNat (by omega) (by decide)).1 q
  rw [hN] at p' q'
  exact ⟨hcnt, p', q'⟩

variable {F : FTy → Type} [FloatOps F]

theorem sched_of (a0 : IVec Cert.Pre_tiled.S256 32) (a1 a2 a3 a4 a5 a6 a7 a8 a9)
    (h : Cert.Pre_tiled.fn (F := F) a0 a1 a2 a3 a4 a5 a6 a7 a8 a9 = fun _ => 1#1) : Cert.ExpertsIdeal.Hand.Sched a0 := by
  have h := congrFun h ValueIdx.ix0
  unfold Cert.Pre_tiled.fn at h
  obtain ⟨h, h2⟩ := IntOp.andi_eq_one.1 h
  obtain ⟨h0, h1⟩ := IntOp.andi_eq_one.1 h
  refine sched_core Cert.Pre_tiled.Facts.bcast_S_S256 a0 _ (fun b => rfl) (fun b => ?_) Cert.Pre_tiled.Facts.reducesTo_S256_S_d0 Cert.Pre_tiled.Facts.h_S_ h1 h2
  obtain ⟨e0, e1⟩ := IntOp.andi_eq_one.1 (Host.reduce_andi_all _ _ _ _ ValueIdx.ix0 h0 (ValueIdx.ix1 b))
  exact ⟨cmpi_bc .sge a0 _ _ b e0, cmpi_bc .sle a0 _ _ b e1⟩

end Cert.Moe

namespace Cert.ExpertsIdeal.Hand

open Cert.ExpertsIdeal Cert.ExpertsIdeal.Gen Cert.Moe
open Idealize.ShloMosaic Idealize.ShloMosaic.TcCoe Idealize.SL.Sem

variable {F : FTy → Type} [FloatOps F] (m : (ℓ : Loc nD τ sig) → Buf (Elt F) ℓ)

/-- An index of a list, from its one coordinate. -/
theorem ix1_of {k : ℕ} (x : (⟨1, ![k]⟩ : Shape).Idx) : x = ValueIdx.ix1 (⟨(x 0).val, (x 0).isLt⟩ : Fin k) :=
  funext fun a => Fin.ext (by obtain rfl : a = 0 := Subsingleton.elim _ _; rfl)

/-- The counts of the launch memory, and that they are in range. -/
abbrev cntM (c : Dev nD) : IVec S256 32 := m ((c : Thread nD τ).loc main_arg0)
abbrev SchedM : Prop := ∀ c : Dev nD, Sched (cntM m c)

variable (hS : SchedM m)
include hS

/-- The number of tiles. -/
abbrev tot : ℕ := Cert.Tables.ends (Cert.KernelIdeal.Hand.wordAt (n := 256) (cntM m 0)) 255

omit hS in
theorem ofNat_small {a : ℕ} (h : a < 2 ^ 32) : (BitVec.ofNat 32 a).toNat = a := by
  rw [BitVec.toNat_ofNat]
  exact Nat.mod_eq_of_lt h

theorem tbl0 (x : S240.Idx) : BitVec.toNat (tbl m 0 x) = min (x 0).val (tot m - 1) := by
  have e : tbl m 0 = V m 0 main_v25 := rfl
  have hx : (x 0).val < 240 := (x 0).isLt
  rw [e, V_main_v25, ix1_of x]
  refine (congrArg BitVec.toNat (step_word (cntM m 0) (hS 0) ⟨(x 0).val, hx⟩)).trans (ofNat_small ?_)
  exact lt_of_le_of_lt (Nat.min_le_left _ _) (by show (x 0).val < _; omega)

theorem tbl1 (x : S240.Idx) : BitVec.toNat (tbl m 1 x) < 4 := by
  have e : tbl m 1 = V m 0 main_v52 := rfl
  have hx : (x 0).val < 240 := (x 0).isLt
  obtain ⟨b, hb⟩ := own_of (cntM m 0) (hS 0) ⟨(x 0).val, hx⟩
  have hb' := b.isLt
  rw [e, V_main_v52, ix1_of x]
  refine lt_of_eq_of_lt ((congrArg BitVec.toNat (grp_word (cntM m 0) (hS 0) hb)).trans (ofNat_small (by omega))) (by omega)
theorem tbl2 (x : S240.Idx) : BitVec.toNat (tbl m 2 x) < 8 := by
  have e : tbl m 2 = V m 0 main_v57 := rfl
  have hx : (x 0).val < 240 := (x 0).isLt
  obtain ⟨b, hb⟩ := own_of (cntM m 0) (hS 0) ⟨(x 0).val, hx⟩
  have hb' := b.isLt
  rw [e, V_main_v57, ix1_of x]
  refine lt_of_eq_of_lt ((congrArg BitVec.toNat (lo_word (cntM m 0) (hS 0) hb)).trans (ofNat_small (by omega))) (by omega)
theorem tbl3 (x : S240.Idx) : BitVec.toNat (tbl m 3 x) < 8 := by
  have e : tbl m 3 = V m 0 main_v61 := rfl
  have hx : (x 0).val < 240 := (x 0).isLt
  obtain ⟨b, hb⟩ := own_of (cntM m 0) (hS 0) ⟨(x 0).val, hx⟩
  have hb' := b.isLt
  rw [e, V_main_v61, ix1_of x]
  refine lt_of_eq_of_lt ((congrArg BitVec.toNat (hi_word (cntM m 0) (hS 0) hb)).trans (ofNat_small (by omega))) (by omega)

omit hS in
theorem mul8 {a b : BitVec 32} (ha : a.toNat < 4) (hb : b.toNat < 8) : (a * 8#32 + b).toNat = a.toNat * 8 + b.toNat := by
  rw [BitVec.toNat_add, BitVec.toNat_mul]
  have : (8#32).toNat = 8 := rfl
  rw [this]
  omega

omit hS in
theorem fits_x {n : ℕ} (hn : n < 240) : ∀ a, ((![n, 0] : Fin 2 → ℕ) a + 1) * S2048x128.size a ≤ S491520x128.size a := by
  intro a
  fin_cases a
  · show (n + 1) * 2048 ≤ 491520
    omega
  · show (0 + 1) * 128 ≤ 128
    omega

omit hS in
theorem fits_g {n : ℕ} (hn : n < 32) : ∀ a, ((![n, 0, 0] : Fin 3 → ℕ) a + 1) * S1x1024x256.size a ≤ S32x1024x256.size a := by
  intro a
  fin_cases a
  · show (n + 1) * 1 ≤ 32
    omega
  · show (0 + 1) * 1024 ≤ 1024
    omega
  · show (0 + 1) * 256 ≤ 256
    omega

omit hS in
theorem fits_d {n : ℕ} (hn : n < 32) : ∀ a, ((![n, 0, 0] : Fin 3 → ℕ) a + 1) * S1x256x1024.size a ≤ S32x256x1024.size a := by
  intro a
  fin_cases a
  · show (n + 1) * 1 ≤ 32
    omega
  · show (0 + 1) * 256 ≤ 256
    omega
  · show (0 + 1) * 1024 ≤ 1024
    omega

omit hS in
theorem ok_g {n : ℕ} (hn : n < 32) {ix : Fin 3 → ℕ} (e : ix = ![n, 0, 0]) : ∃ h : (∀ a, (ix a + 1) * S1x1024x256.size a ≤ S32x1024x256.size a),
    EltTy.bits .bf16 = 32 ∨ (Rect.block (s := S32x1024x256) S1x1024x256.size ix h).WholeWords (EltTy.packing .bf16) := by
  subst e
  exact ⟨fits_g hn, .inr (.inr ⟨by decide, rfl, rfl, rfl⟩)⟩

omit hS in
theorem ok_d {n : ℕ} (hn : n < 32) {ix : Fin 3 → ℕ} (e : ix = ![n, 0, 0]) : ∃ h : (∀ a, (ix a + 1) * S1x256x1024.size a ≤ S32x256x1024.size a),
    EltTy.bits .bf16 = 32 ∨ (Rect.block (s := S32x256x1024) S1x256x1024.size ix h).WholeWords (EltTy.packing .bf16) := by
  subst e
  exact ⟨fits_d hn, .inr (.inr ⟨by decide, rfl, rfl, rfl⟩)⟩

/-- The point's index in a table. -/
abbrev pt (i : grid0.Coords) : S240.Idx := ix1 (⟨(i 0).val, (i 0).isLt⟩ : Fin 240)

omit hS in
theorem pt_eq (i : grid0.Coords) {o : Fin 1 → ℕ} (ho : o = ![(i 0).val]) (h : ∀ a, o a + S1.size a ≤ S240.size a) (x) :
    (Rect.unit (s := S240) o S1.size h).emb x = pt i := by
  subst ho
  refine funext fun a => Fin.ext ?_
  obtain rfl : a = 0 := Subsingleton.elim _ _
  have hx : (x 0).val < 1 := (x 0).isLt
  show (i 0).val + 1 * (x 0).val = (i 0).val
  omega

omit hS in
/-- The blocks the index maps name. -/
theorem tr0_pf (pf : pre0.Contents (Elt F)) (i : grid0.Coords) : cc0_transform_0 k0_off1_inb numel1_S1 pf i = ![BitVec.toNat (pf 0 (pt i)), 0] :=
  congrArg (fun x : S240.Idx => (![BitVec.toNat (pf 0 x), 0] : Fin 2 → ℕ)) (pt_eq i (k0_off1_eq i) (k0_off1_inb i) _)
omit hS in
theorem tr4_pf (pf : pre0.Contents (Elt F)) (i : grid0.Coords) : cc0_transform_4 k0_off1_inb numel1_S1 pf i
    = ![BitVec.toNat (id (α := BitVec 32) (pf 1 (pt i)) * 8#32 + id (α := BitVec 32) (pf 2 (pt i))), 0, 0] :=
  congrArg (fun x : S240.Idx => (![BitVec.toNat (id (α := BitVec 32) (pf 1 x) * 8#32 + id (α := BitVec 32) (pf 2 x)), 0, 0] : Fin 3 → ℕ)) (pt_eq i (k0_off1_eq i) (k0_off1_inb i) _)
omit hS in
theorem tr7_pf (pf : pre0.Contents (Elt F)) (i : grid0.Coords) : cc0_transform_7 k0_off1_inb numel1_S1 pf i
    = ![BitVec.toNat (id (α := BitVec 32) (pf 1 (pt i)) * 8#32 + id (α := BitVec 32) (pf 3 (pt i))), 0, 0] :=
  congrArg (fun x : S240.Idx => (![BitVec.toNat (id (α := BitVec 32) (pf 1 x) * 8#32 + id (α := BitVec 32) (pf 3 x)), 0, 0] : Fin 3 → ℕ)) (pt_eq i (k0_off1_eq i) (k0_off1_inb i) _)

omit hS in
theorem tr0 (i : grid0.Coords) : cc0_transform_0 k0_off1_inb numel1_S1 (tbl m) i = ![BitVec.toNat (tbl m 0 (pt i)), 0] := tr0_pf (tbl m) i

/-- The two experts' numbers at a point. -/
abbrev nlo (i : grid0.Coords) : ℕ := BitVec.toNat (tbl m 1 (pt i)) * 8 + BitVec.toNat (tbl m 2 (pt i))
abbrev nhi (i : grid0.Coords) : ℕ := BitVec.toNat (tbl m 1 (pt i)) * 8 + BitVec.toNat (tbl m 3 (pt i))

theorem nlo_lt (i : grid0.Coords) : nlo m i < 32 := by
  have := tbl1 m hS (pt i); have := tbl2 m hS (pt i)
  show BitVec.toNat (tbl m 1 (pt i)) * 8 + BitVec.toNat (tbl m 2 (pt i)) < 32
  omega
theorem nhi_lt (i : grid0.Coords) : nhi m i < 32 := by
  have := tbl1 m hS (pt i); have := tbl3 m hS (pt i)
  show BitVec.toNat (tbl m 1 (pt i)) * 8 + BitVec.toNat (tbl m 3 (pt i)) < 32
  omega

theorem tr4 (i : grid0.Coords) : cc0_transform_4 k0_off1_inb numel1_S1 (tbl m) i = ![nlo m i, 0, 0] := by
  rw [tr4_pf]; dsimp only [id]; rw [mul8 (tbl1 m hS (pt i)) (tbl2 m hS (pt i))]
theorem tr5 (i : grid0.Coords) : cc0_transform_5 k0_off1_inb numel1_S1 (tbl m) i = ![nlo m i, 0, 0] := tr4 m hS i
theorem tr6 (i : grid0.Coords) : cc0_transform_6 k0_off1_inb numel1_S1 (tbl m) i = ![nlo m i, 0, 0] := tr4 m hS i
theorem tr7 (i : grid0.Coords) : cc0_transform_7 k0_off1_inb numel1_S1 (tbl m) i = ![nhi m i, 0, 0] := by
  rw [tr7_pf]; dsimp only [id]; rw [mul8 (tbl1 m hS (pt i)) (tbl3 m hS (pt i))]
theorem tr8 (i : grid0.Coords) : cc0_transform_8 k0_off1_inb numel1_S1 (tbl m) i = ![nhi m i, 0, 0] := tr7 m hS i
theorem tr9 (i : grid0.Coords) : cc0_transform_9 k0_off1_inb numel1_S1 (tbl m) i = ![nhi m i, 0, 0] := tr7 m hS i

theorem tbl0_lt (x : S240.Idx) : BitVec.toNat (tbl m 0 x) < 240 := by
  rw [tbl0 m hS]
  have : (x 0).val < 240 := (x 0).isLt
  omega

/-- Every block is inside its array. -/
theorem ok_of : Ok m := by
  refine ⟨fun i => ⟨?_, .inl rfl⟩, fun i => ok_g (nlo_lt m hS i) (tr4 m hS i), fun i => ok_g (nlo_lt m hS i) (tr5 m hS i), fun i => ok_d (nlo_lt m hS i) (tr6 m hS i),
    fun i => ok_g (nhi_lt m hS i) (tr7 m hS i), fun i => ok_g (nhi_lt m hS i) (tr8 m hS i), fun i => ok_d (nhi_lt m hS i) (tr9 m hS i)⟩
  rw [tr0 m]
  exact fits_x (tbl0_lt m hS _)

end Cert.ExpertsIdeal.Hand

end
-- ==== Proof.MoeReal.lean ====
/- One row of the experts' layer over the real numbers, and the extended reals' operations at real numbers. -/
module

public import Idealize.ShloMosaic.PureOps.Ideal.Laws
public import Idealize.ShloMosaic.Lib.IdealHost
public import Idealize.ShloMosaic.Lib.WordCmp

@[expose] public section

noncomputable section

namespace Cert.Moe

open Idealize.ShloMosaic

theorem coe_sum {ι : Type} [Fintype ι] (f : ι → ℝ) : ∑ x, ((f x : ℝ) : EReal) = ((∑ x, f x : ℝ) : EReal) := by
  classical
  have h : ∀ s : Finset ι, ∑ x ∈ s, ((f x : ℝ) : EReal) = ((∑ x ∈ s, f x : ℝ) : EReal) := by
    intro s
    induction s using Finset.induction_on with
    | empty => simp
    | insert a s ha ih => rw [Finset.sum_insert ha, Finset.sum_insert ha, ih, EReal.coe_add]
  exact h _

theorem div_coe (a b : ℝ) (hb : b ≠ 0) : Ideal.div (a : EReal) (b : EReal) = ((a / b : ℝ) : EReal) := by
  unfold Ideal.div
  rw [if_neg (by exact_mod_cast hb), div_eq_mul_inv, EReal.coe_mul, EReal.coe_inv]

theorem rsqrt_coe (a : ℝ) (h : 0 < a) : Ideal.rsqrt (a : EReal) = (((√a)⁻¹ : ℝ) : EReal) := by
  show (if a < 0 then (⊥ : EReal) else if a = 0 then ⊤ else (((√a)⁻¹ : ℝ) : EReal)) = _
  rw [if_neg (not_lt.mpr h.le), if_neg h.ne']

theorem exp_coe (a : ℝ) : Ideal.exp (a : EReal) = ((Real.exp a : ℝ) : EReal) := rfl

theorem exp_bot : Ideal.exp ⊥ = 0 := rfl

/-- The logistic function. -/
def lgs (a : ℝ) : ℝ := 1 / (1 + Real.exp (-a))

theorem one_add_exp_ne (a : ℝ) : 1 + Real.exp a ≠ 0 := by
  have := Real.exp_pos a
  positivity

theorem div_one_add_exp (a : ℝ) : Ideal.div 1 (1 + Ideal.exp (-(a : EReal))) = ((lgs a : ℝ) : EReal) := by
  have e : (1 : EReal) + Ideal.exp (-(a : EReal)) = ((1 + Real.exp (-a) : ℝ) : EReal) := by
    rw [← EReal.coe_neg, exp_coe, EReal.coe_add, EReal.coe_one]
  rw [e, ← EReal.coe_one, div_coe _ _ (one_add_exp_ne _)]
  rfl

theorem logistic_coe (a : ℝ) : Ideal.logistic (a : EReal) = ((lgs a : ℝ) : EReal) := div_one_add_exp a

theorem coe_max (a b : ℝ) : max (a : EReal) (b : EReal) = ((max a b : ℝ) : EReal) :=
  (EReal.coe_strictMono.monotone.map_max).symm

theorem ninf : Ideal.ofBits .f32 0xFF800000#32 = ⊥ := by
  simp [Ideal.ofBits, Ideal.ieee]

theorem kilo : Ideal.ofBits .f32 0x44800000#32 = ((1024 : ℝ) : EReal) := by
  simp [Ideal.ofBits, Ideal.ieee, -EReal.coe_mul]; norm_num

/-- The number added to the mean square. -/
def eps : ℝ := 8796093 / 8796093022208

theorem eps_eq : Ideal.ofBits .f32 0x358637BD#32 = ((eps : ℝ) : EReal) := by
  unfold eps
  simp [Ideal.ofBits, Ideal.ieee, -EReal.coe_mul]; norm_num

theorem eps_pos : 0 < eps := by unfold eps; norm_num

/-- A greatest value of finitely many. -/
def mx {n : ℕ} [NeZero n] (f : Fin n → ℝ) : ℝ := f (Classical.choose (Finite.exists_max f))

theorem le_mx {n : ℕ} [NeZero n] (f : Fin n → ℝ) (k : Fin n) : f k ≤ mx f := Classical.choose_spec (Finite.exists_max f) k

theorem mx_mem {n : ℕ} [NeZero n] (f : Fin n → ℝ) : ∃ k, f k = mx f := ⟨_, rfl⟩

theorem fold_max {ι : Type} [Fintype ι] (f : ι → EReal) (M : EReal) (h : ∀ x, f x ≤ M) (h' : ∃ x, f x = M) :
    Finset.fold max ⊥ f Finset.univ = M := by
  apply le_antisymm
  · rw [Finset.fold_max_le]
    exact ⟨bot_le, fun x _ => h x⟩
  · rw [Finset.le_fold_max]
    obtain ⟨x, hx⟩ := h'
    exact Or.inr ⟨x, Finset.mem_univ _, hx.ge⟩

/-- A word's equality with a small number. -/
theorem eq_word {n k : ℕ} (hn : n < 2 ^ 32) {w : BitVec 32} (hw : w.toNat = k) :
    IntOp.cmpi .eq (BitVec.ofNat 32 n) w = 1 ↔ n = k := by
  rw [WordCmp.cmpi_eq_eq_toNat, WordCmp.toNat_ofNat_of_lt hn, hw]
  exact WordCmp.ofBool_decide_eq_one_iff _

/-- A sum over lanes that keeps one lane. -/
theorem sum_lane {n : ℕ} (hn : n ≤ 2 ^ 32) (f : Fin n → ℝ) {w : BitVec 32} (k : Fin n) (hw : w.toNat = k.val) :
    ∑ x : Fin n, Scalar.select (IntOp.cmpi .eq (BitVec.ofNat 32 x.val) w) ((f x : ℝ) : EReal) 0 = ((f k : ℝ) : EReal) := by
  rw [Finset.sum_eq_single k]
  · unfold Scalar.select
    rw [if_pos ((eq_word (by have := k.isLt; omega) hw).2 rfl)]
  · intro b _ hb
    unfold Scalar.select
    rw [if_neg (fun h => hb (Fin.ext ((eq_word (by have := b.isLt; omega) hw).1 h)))]
  · intro h; exact absurd (Finset.mem_univ _) h

/-! ## A row of the layer -/

/-- The weights of the layer. -/
structure Weights where
  G : Fin 1024 → ℝ
  WG : Fin 1024 → Fin 4 → ℝ
  bg : Fin 4 → ℝ
  WE : Fin 4 → Fin 1024 → Fin 8 → ℝ
  be : Fin 4 → Fin 8 → ℝ
  Wg : Fin 32 → Fin 1024 → Fin 256 → ℝ
  Wu : Fin 32 → Fin 1024 → Fin 256 → ℝ
  Wd : Fin 32 → Fin 256 → Fin 1024 → ℝ

variable (P : Weights) (X : Fin 1024 → ℝ) (q : Fin 4)

/-- The reciprocal of the row's root mean square. -/
def sc : ℝ := (√((∑ d, X d * X d) / 1024 + eps))⁻¹

theorem ms_pos : 0 < (∑ d, X d * X d) / 1024 + eps := by
  have h : 0 ≤ ∑ d, X d * X d := Finset.sum_nonneg fun d _ => mul_self_nonneg _
  have := eps_pos
  positivity

/-- The normalised row. -/
def nm (d : Fin 1024) : ℝ := X d * sc X * P.G d

/-- The groups' logits. -/
def gl (k : Fin 4) : ℝ := (∑ d, nm P X d * P.WG d k) + P.bg k

/-- The logits of a group's experts. -/
def el (e : Fin 8) : ℝ := (∑ d, nm P X d * P.WE q d e) + P.be q e

/-- The greatest of the groups' probabilities. -/
def gw : ℝ := 1 / ∑ k, Real.exp (gl P X k - mx (gl P X))

/-- The first of two logits' probability. -/
def pr (a b : ℝ) : ℝ := Real.exp (a - max a b) / (Real.exp (a - max a b) + Real.exp (b - max a b))

/-- An expert's hidden row. -/
def hid (n : Fin 32) (h : Fin 256) : ℝ :=
  (∑ d, nm P X d * P.Wg n d h) * lgs (∑ d, nm P X d * P.Wg n d h) * (∑ d, nm P X d * P.Wu n d h)

/-- An expert's row. -/
def dn (n : Fin 32) (d : Fin 1024) : ℝ := ∑ h, hid P X n h * P.Wd n h d

/-- The number of an expert of a group. -/
def ex (e : Fin 8) : Fin 32 := ⟨q.val * 8 + e.val, by omega⟩

/-- The row of the layer. -/
def out (e f : Fin 8) (d : Fin 1024) : ℝ :=
  gw P X * pr (el P X q e) (el P X q f) * dn P X (ex q e) d + gw P X * pr (el P X q f) (el P X q e) * dn P X (ex q f) d

theorem sum_nm (W : Fin 1024 → ℝ) : sc X * ∑ d, X d * P.G d * W d = ∑ d, nm P X d * W d := by
  rw [Finset.mul_sum]
  refine Finset.sum_congr rfl fun d _ => ?_
  unfold nm; ring

theorem sumexp_pos {n : ℕ} [NeZero n] (f : Fin n → ℝ) (c : ℝ) : 0 < ∑ k, Real.exp (f k - c) :=
  Finset.sum_pos (fun k _ => Real.exp_pos _) ⟨0, Finset.mem_univ _⟩

theorem two_exp_ne (a b : ℝ) : Real.exp a + Real.exp b ≠ 0 := by
  have := Real.exp_pos a
  have := Real.exp_pos b
  positivity

end Cert.Moe
-- ==== Proof.MoeRow.lean ====
/- A tile's row as the body computes it, over the real numbers. -/
module

public import proofs.«01_k».proof.Proof.MoeOk
public import proofs.«01_k».proof.Proof.MoeReal
public import Idealize.ShloMosaic.Lib.Pointwise

@[expose] public section

set_option maxRecDepth 16384

noncomputable section

namespace Cert.ExpertsIdeal.Hand

open Cert.ExpertsIdeal Cert.ExpertsIdeal.Gen Cert.Moe
open Idealize.ShloMosaic Idealize.ShloMosaic.TcCoe Idealize.SL.Sem

/-- The router's lane of an expert of a group. -/
def lane (q : Fin 4) (e : Fin 8) : Fin 128 := ⟨8 + q.val * 8 + e.val, by omega⟩

/-- A group's lane of the router. -/
def glane (k : Fin 4) : Fin 128 := ⟨k.val, by omega⟩

/-- What the router's columns are. -/
structure Router (P : Weights) (W : Fin 1024 → Fin 128 → ℝ) (B : Fin 128 → ℝ) : Prop where
  wg : ∀ d k, W d (glane k) = P.WG d k
  bg : ∀ k, B (glane k) = P.bg k
  we : ∀ d q e, W d (lane q e) = P.WE q d e
  be : ∀ q e, B (lane q e) = P.be q e

section
variable {a0 a1 a2 a3 a4 a5 a6 a7 : Vec Ideal S256x128 .f32} {b1 : Vec Ideal S1x1024 .f32} {b2 : Vec Ideal S1024x128 .bf16} {b3 : Vec Ideal S1x128 .f32} {b4 b5 : Vec Ideal S1x1024x256 .bf16} {b6 : Vec Ideal S1x256x1024 .bf16}
    {wv wg wl wh : BitVec 32} {r : Fin 256} {P : Weights} {X : Fin 1024 → ℝ} {W : Fin 1024 → Fin 128 → ℝ} {B : Fin 128 → ℝ} {q : Fin 4} {e f : Fin 8}
    (hX : ∀ d, k0_pay12 a0 a1 a2 a3 a4 a5 a6 a7 (ix2 r d) = ((X d : ℝ) : EReal))
    (h1 : ∀ d, b1 (ix2 0 d) = ((P.G d : ℝ) : EReal))
    (h2 : ∀ d c, b2 (ix2 d c) = ((W d c : ℝ) : EReal))
    (h3 : ∀ c, b3 (ix2 0 c) = ((B c : ℝ) : EReal))

include hX in
theorem row14 : k0_pay14 a0 a1 a2 a3 a4 a5 a6 a7 (ix2 r 0) = ((sc X : ℝ) : EReal) := by
  pointwise [k0_pay14]
  simp only [hX, ← EReal.coe_mul, coe_sum]
  refine Eq.trans (b := Ideal.rsqrt (Ideal.div ((∑ d, X d * X d : ℝ) : EReal) ((1024 : ℝ) : EReal) + ((eps : ℝ) : EReal))) ?_ ?_
  · rw [← kilo, ← eps_eq]
  · rw [div_coe _ _ (by norm_num), ← EReal.coe_add, rsqrt_coe _ (ms_pos X)]
    rfl

include hX h1 in
theorem row13 (d : Fin 1024) : k0_pay13 a0 a1 a2 a3 a4 a5 a6 a7 b1 (ix2 r d) = ((X d * P.G d : ℝ) : EReal) := by
  pointwise [k0_pay13]
  rw [hX, h1, EReal.coe_mul]

include hX h1 h2 in
theorem row15 (c : Fin 128) : k0_pay15 a0 a1 a2 a3 a4 a5 a6 a7 b1 b2 (ix2 r c) = ((∑ d, nm P X d * W d c : ℝ) : EReal) := by
  pointwise [k0_pay15]
  simp only [row14 hX, row13 hX h1, h2, ← EReal.coe_mul, coe_sum, sum_nm P X (fun d => W d c)]

include hX h1 h2 h3 in
theorem row17 (c : Fin 128) : k0_pay17 (k0_pay15 a0 a1 a2 a3 a4 a5 a6 a7 b1 b2) (k0_pay16 b3) (ix2 r c) = (((∑ d, nm P X d * W d c) + B c : ℝ) : EReal) := by
  pointwise [k0_pay17, k0_pay16]
  rw [row15 hX h1 h2, h3, EReal.coe_add]

theorem lane_word (hg : wg.toNat = q.val) (he : wl.toNat = e.val) :
    (Scalar.addi (Scalar.addi (8#32) (Scalar.muli wg 8#32)) wl).toNat = (lane q e).val := by
  show ((8#32 + wg * 8#32) + wl).toNat = 8 + q.val * 8 + e.val
  rw [BitVec.toNat_add, BitVec.toNat_add, BitVec.toNat_mul, hg, he]
  have : (8#32).toNat = 8 := rfl
  rw [this]
  omega

variable {v : FVec Ideal S256x128 .f32} {w : FVec Ideal S1x128 .f32} {L : Fin 128 → ℝ}
    (hL : ∀ c, k0_pay17 v w (ix2 r c) = ((L c : ℝ) : EReal))
    (hg : wg.toNat = q.val) (he : wl.toNat = e.val) (hf : wh.toNat = f.val)

include hL hg he in
theorem row18 : k0_pay18 v w wg wl (ix2 r 0) = ((L (lane q e) : ℝ) : EReal) := by
  pointwise [k0_pay18]
  simp only [hL]
  exact sum_lane (by norm_num) L (lane q e) (lane_word hg he)

include hL hg hf in
theorem row19 : k0_pay19 v w wg wh (ix2 r 0) = ((L (lane q f) : ℝ) : EReal) := by
  pointwise [k0_pay19]
  simp only [hL]
  exact sum_lane (by norm_num) L (lane q f) (lane_word hg hf)

include hL hg he hf in
theorem row21 : k0_pay21 v w wg wl wh (ix2 r 0) = ((Real.exp (L (lane q e) - max (L (lane q e)) (L (lane q f))) : ℝ) : EReal) := by
  pointwise [k0_pay21, k0_pay20]
  rw [row18 hL hg he, row19 hL hg hf, coe_max, ← EReal.coe_sub, exp_coe]

include hL hg he hf in
theorem row22 : k0_pay22 v w wg wl wh (ix2 r 0) = ((Real.exp (L (lane q f) - max (L (lane q e)) (L (lane q f))) : ℝ) : EReal) := by
  pointwise [k0_pay22, k0_pay20]
  rw [row18 hL hg he, row19 hL hg hf, coe_max, ← EReal.coe_sub, exp_coe]

/-- The masked logits of the groups. -/
theorem masked (x : Fin 128) : Scalar.select (IntOp.cmpi CmpIPredicate.slt (BitVec.ofNat 32 x.val) 4#32) ((L x : ℝ) : EReal) ⊥
    = if x.val < 4 then ((L x : ℝ) : EReal) else ⊥ := by
  have hx := x.isLt
  unfold Scalar.select
  rw [WordCmp.cmpi_slt_of_lt (by rw [WordCmp.toNat_ofNat_of_lt (by omega)]; omega) (by decide), WordCmp.toNat_ofNat_of_lt (by omega)]
  exact if_congr (WordCmp.ofBool_decide_eq_one_iff _) rfl rfl

theorem sum_masked (M : ℝ) : ∑ x : Fin 128, Ideal.exp ((if x.val < 4 then ((L x : ℝ) : EReal) else ⊥) - ((M : ℝ) : EReal))
    = ((∑ k : Fin 4, Real.exp (L (glane k) - M) : ℝ) : EReal) := by
  have e : ∀ x : Fin 128, Ideal.exp ((if x.val < 4 then ((L x : ℝ) : EReal) else ⊥) - ((M : ℝ) : EReal))
      = ((if x.val < 4 then Real.exp (L x - M) else 0 : ℝ) : EReal) := by
    intro x
    split
    · rw [← EReal.coe_sub, exp_coe]
    · rw [EReal.bot_sub, exp_bot, EReal.coe_zero]
  simp only [e, coe_sum]
  congr 1
  rw [Finset.sum_ite, Finset.sum_const_zero, add_zero]
  refine (Finset.sum_nbij (fun k : Fin 4 => glane k) (fun k _ => ?_) (fun a _ b _ h => ?_) (fun x hx => ?_) (fun k _ => rfl)).symm
  · simp [glane]
  · have h' : (glane a).val = (glane b).val := congrArg Fin.val h
    exact Fin.ext h'
  · simp only [Finset.coe_filter, Finset.mem_univ, true_and, Set.mem_setOf_eq] at hx
    exact ⟨⟨x.val, hx⟩, by simp, rfl⟩

theorem max_masked : Finset.fold max ⊥ (fun x : Fin 128 => if x.val < 4 then ((L x : ℝ) : EReal) else ⊥) Finset.univ
    = ((mx (fun k => L (glane k)) : ℝ) : EReal) := by
  refine fold_max _ _ (fun x => ?_) ?_
  · split
    · rename_i h
      exact EReal.coe_le_coe_iff.2 (le_mx (fun k => L (glane k)) ⟨x.val, h⟩)
    · exact bot_le
  · obtain ⟨k, hk⟩ := mx_mem (fun k => L (glane k))
    refine ⟨glane k, ?_⟩
    rw [if_pos (show (glane k).val < 4 from k.isLt), hk]

include hL hg he hf in
theorem row23 {s : ℝ} {i : FVec Ideal S256x1 .f32} (hi : i (ix2 r 0) = ((s : ℝ) : EReal)) :
    k0_pay23 (k0_pay11 (F := Ideal) wv) i v w wg wl wh (ix2 r 0)
      = Scalar.select (IntOp.cmpi CmpIPredicate.slt (BitVec.ofNat 32 r.val) wv)
        ((s * (1 / ∑ k, Real.exp (L (glane k) - mx (fun k => L (glane k))))
          / (Real.exp (L (lane q e) - max (L (lane q e)) (L (lane q f))) + Real.exp (L (lane q f) - max (L (lane q e)) (L (lane q f)))) : ℝ) : EReal) 0 := by
  pointwise [k0_pay23, k0_pay11]
  congr 1
  simp only [hL, row21 hL hg he hf, row22 hL hg he hf, hi]
  rw [show Ideal.ofBits FTy.f32 4286578688#32 = ⊥ from ninf]
  simp only [masked, max_masked, sum_masked]
  rw [← EReal.coe_one, div_coe _ _ (sumexp_pos _ _).ne', ← EReal.coe_mul, ← EReal.coe_add, div_coe _ _ (two_exp_ne _ _)]

end

section
variable {v : FVec Ideal S256x1024 .bf16} {i p s : FVec Ideal S256x1 .f32} {b4 b5 : Vec Ideal S1x1024x256 .bf16} {b6 : Vec Ideal S1x256x1024 .bf16}
  {r : Fin 256} {P : Weights} {X : Fin 1024 → ℝ} {n : Fin 32} {p' s' : ℝ}
  (hv : ∀ d, v (ix2 r d) = ((X d * P.G d : ℝ) : EReal))
  (hi : i (ix2 r 0) = ((sc X : ℝ) : EReal))
  (hp : p (ix2 r 0) = ((p' : ℝ) : EReal)) (hs : s (ix2 r 0) = ((sc X * s' : ℝ) : EReal))
  (h4 : ∀ d h, b4 (ix3 0 d h) = ((P.Wg n d h : ℝ) : EReal))
  (h5 : ∀ d h, b5 (ix3 0 d h) = ((P.Wu n d h : ℝ) : EReal))
  (h6 : ∀ h d, b6 (ix3 0 h d) = ((P.Wd n h d : ℝ) : EReal))
include hv hi hp hs h4 h5 h6

theorem share (d : Fin 1024) :
    ∑ x : Fin 256, (((sc X * ∑ y, X y * P.G y * P.Wg n y x) * lgs (sc X * ∑ y, X y * P.G y * P.Wg n y x) * ∑ y, X y * P.G y * P.Wu n y x) * (p' * (sc X * s')) * P.Wd n x d)
      = p' * s' * dn P X n d := by
  unfold dn
  rw [Finset.mul_sum]
  refine Finset.sum_congr rfl fun x _ => ?_
  unfold hid
  rw [sum_nm P X (fun y => P.Wg n y x), ← sum_nm P X (fun y => P.Wu n y x)]
  ring

theorem row24 (d : Fin 1024) : k0_pay24 v i p s b4 b5 b6 (ix2 r d) = ((p' * s' * dn P X n d : ℝ) : EReal) := by
  pointwise [k0_pay24]
  simp only [hv, hi, hp, hs, h4, h5, h6, ← EReal.coe_mul, coe_sum, logistic_coe]
  exact congrArg _ (share hv hi hp hs h4 h5 h6 d)

theorem row25 (d : Fin 1024) : k0_pay25 v i p s b4 b5 b6 (ix2 r d) = ((p' * s' * dn P X n d : ℝ) : EReal) := by
  pointwise [k0_pay25]
  simp only [hv, hi, hp, hs, h4, h5, h6, ← EReal.coe_mul, coe_sum, logistic_coe]
  exact congrArg _ (share hv hi hp hs h4 h5 h6 d)

omit hs in
theorem row24z (hs : s (ix2 r 0) = 0) (d : Fin 1024) : k0_pay24 v i p s b4 b5 b6 (ix2 r d) = 0 := by
  pointwise [k0_pay24]
  simp only [hs, mul_zero, zero_mul, Finset.sum_const_zero]

omit hs in
theorem row25z (hs : s (ix2 r 0) = 0) (d : Fin 1024) : k0_pay25 v i p s b4 b5 b6 (ix2 r d) = 0 := by
  pointwise [k0_pay25]
  simp only [hs, mul_zero, zero_mul, Finset.sum_const_zero]

end

section
variable {a0 a1 a2 a3 a4 a5 a6 a7 : Vec Ideal S256x128 .f32} {b1 : Vec Ideal S1x1024 .f32} {b2 : Vec Ideal S1024x128 .bf16} {b3 : Vec Ideal S1x128 .f32} {b4 b5 : Vec Ideal S1x1024x256 .bf16} {b6 : Vec Ideal S1x256x1024 .bf16}
    {b7 b8 : Vec Ideal S1x1024x256 .bf16} {b9 : Vec Ideal S1x256x1024 .bf16}
    {wv wg wl wh : BitVec 32} {r : Fin 256} {P : Weights} {X : Fin 1024 → ℝ} {W : Fin 1024 → Fin 128 → ℝ} {B : Fin 128 → ℝ} {q : Fin 4} {e f : Fin 8}

/-- The body's row is the layer's row where the tile's row is held, and zero elsewhere. -/
theorem row_out (hR : Router P W B)
    (hX : ∀ d, k0_pay12 a0 a1 a2 a3 a4 a5 a6 a7 (ix2 r d) = ((X d : ℝ) : EReal))
    (h1 : ∀ d, b1 (ix2 0 d) = ((P.G d : ℝ) : EReal))
    (h2 : ∀ d c, b2 (ix2 d c) = ((W d c : ℝ) : EReal))
    (h3 : ∀ c, b3 (ix2 0 c) = ((B c : ℝ) : EReal))
    (h4 : ∀ d h, b4 (ix3 0 d h) = ((P.Wg (ex q e) d h : ℝ) : EReal))
    (h5 : ∀ d h, b5 (ix3 0 d h) = ((P.Wu (ex q e) d h : ℝ) : EReal))
    (h6 : ∀ h d, b6 (ix3 0 h d) = ((P.Wd (ex q e) h d : ℝ) : EReal))
    (h7 : ∀ d h, b7 (ix3 0 d h) = ((P.Wg (ex q f) d h : ℝ) : EReal))
    (h8 : ∀ d h, b8 (ix3 0 d h) = ((P.Wu (ex q f) d h : ℝ) : EReal))
    (h9 : ∀ h d, b9 (ix3 0 h d) = ((P.Wd (ex q f) h d : ℝ) : EReal))
    (hg : wg.toNat = q.val) (he : wl.toNat = e.val) (hf : wh.toNat = f.val) (d : Fin 1024) :
    k0_pay1 (yloL a0 a1 a2 a3 a4 a5 a6 a7 b1 b2 b3 b4 b5 b6 wv wg wl wh) (yhiL a0 a1 a2 a3 a4 a5 a6 a7 b1 b2 b3 b7 b8 b9 wv wg wl wh) (ix2 r d)
      = Scalar.select (IntOp.cmpi CmpIPredicate.slt (BitVec.ofNat 32 r.val) wv) ((out P X q e f d : ℝ) : EReal) 0 := by
  have hL := row17 hX h1 h2 h3
  have hs := row23 (wv := wv) hL hg he hf (row14 hX)
  have eg : (fun k => (∑ d, nm P X d * W d (glane k)) + B (glane k)) = gl P X := by
    funext k
    unfold gl
    rw [hR.bg]
    simp only [hR.wg]
  have ee : ∀ e, (∑ d, nm P X d * W d (lane q e)) + B (lane q e) = el P X q e := by
    intro e
    unfold el
    rw [hR.be]
    simp only [hR.we]
  have p1 := row21 hL hg he hf
  have p2 := row22 hL hg he hf
  rw [ee, ee] at p1 p2
  rw [ee, ee, eg] at hs
  have eg' : ∀ k, (∑ d, nm P X d * W d (glane k)) + B (glane k) = gl P X k := fun k => congrFun eg k
  simp only [eg'] at hs
  change yloL a0 a1 a2 a3 a4 a5 a6 a7 b1 b2 b3 b4 b5 b6 wv wg wl wh (ix2 r d) + yhiL a0 a1 a2 a3 a4 a5 a6 a7 b1 b2 b3 b7 b8 b9 wv wg wl wh (ix2 r d) = _
  unfold yloL yhiL
  by_cases hw : IntOp.cmpi CmpIPredicate.slt (BitVec.ofNat 32 r.val) wv = 1
  · unfold Scalar.select at hs ⊢
    rw [if_pos hw] at hs ⊢
    have hs' := hs.trans (congrArg (fun x : ℝ => (x : EReal)) (mul_div_assoc (sc X) _ _))
    rw [row24 (n := ex q e) (row13 hX h1) (row14 hX) p1 hs' h4 h5 h6, row25 (n := ex q f) (row13 hX h1) (row14 hX) p2 hs' h7 h8 h9, ← EReal.coe_add]
    congr 1
    unfold out gw pr
    rw [max_comm (el P X q f) (el P X q e), add_comm (Real.exp (el P X q f - max (el P X q e) (el P X q f)))]
    ring
  · unfold Scalar.select at hs ⊢
    rw [if_neg hw] at hs ⊢
    rw [row24z (n := ex q e) (row13 hX h1) (row14 hX) p1 h4 h5 h6 hs, row25z (n := ex q f) (row13 hX h1) (row14 hX) p2 h7 h8 h9 hs, add_zero]

end

/-- The row of 1024 that the eight strided loads of a block make. -/
theorem row12 (x0 : Vec Ideal S2048x128 .f32) (r : Fin 256) (d : Fin 1024) :
    k0_pay12 (ld1 x0 ⟨![0, 0], S256x128.size, ![8, 1], inb_S2048x128_S256x128_0_0_s_8_1⟩) (ld1 x0 ⟨![1, 0], S256x128.size, ![8, 1], inb_S2048x128_S256x128_1_0_s_8_1⟩) (ld1 x0 ⟨![2, 0], S256x128.size, ![8, 1], inb_S2048x128_S256x128_2_0_s_8_1⟩) (ld1 x0 ⟨![3, 0], S256x128.size, ![8, 1], inb_S2048x128_S256x128_3_0_s_8_1⟩) (ld1 x0 ⟨![4, 0], S256x128.size, ![8, 1], inb_S2048x128_S256x128_4_0_s_8_1⟩) (ld1 x0 ⟨![5, 0], S256x128.size, ![8, 1], inb_S2048x128_S256x128_5_0_s_8_1⟩) (ld1 x0 ⟨![6, 0], S256x128.size, ![8, 1], inb_S2048x128_S256x128_6_0_s_8_1⟩) (ld1 x0 ⟨![7, 0], S256x128.size, ![8, 1], inb_S2048x128_S256x128_7_0_s_8_1⟩)
      (ix2 r d) = x0 (ix2 ⟨r.val * 8 + d.val / 128, by omega⟩ ⟨d.val % 128, by omega⟩) := by
  have hr := r.isLt
  have hd := d.isLt
  have key : ∀ (k j : ℕ) (inb) (hk : k < 8) (hj : j < 128) (hkd : d.val = k * 128 + j),
      ld1 x0 (⟨![k, 0], S256x128.size, ![8, 1], inb⟩ : LoadRect S2048x128) (ix2 r ⟨j, hj⟩)
        = x0 (ix2 ⟨r.val * 8 + d.val / 128, by omega⟩ ⟨d.val % 128, by omega⟩) := by
    intro k j inb hk hj hkd
    refine congrArg x0 (funext fun a => Fin.ext ?_)
    fin_cases a
    · show k + 8 * r.val = r.val * 8 + d.val / 128
      omega
    · show 0 + 1 * j = d.val % 128
      omega
  pointwise [k0_pay12]
  split
  · exact key 0 _ _ (by omega) (by omega) (by omega)
  split
  · exact key 1 _ _ (by omega) (by omega) (by omega)
  split
  · exact key 2 _ _ (by omega) (by omega) (by omega)
  split
  · exact key 3 _ _ (by omega) (by omega) (by omega)
  split
  · exact key 4 _ _ (by omega) (by omega) (by omega)
  split
  · exact key 5 _ _ (by omega) (by omega) (by omega)
  split
  · exact key 6 _ _ (by omega) (by omega) (by omega)
  · exact key 7 _ _ (by omega) (by omega) (by omega)

end Cert.ExpertsIdeal.Hand
-- ==== Proof.MoeHost.lean ====
/- What the host leaves in the arrays the experts' call reads, at an index. -/
module

public import proofs.«01_k».proof.Proof.MoeRow
public import Idealize.ShloMosaic.Lib.StableHlo.ReadAt

@[expose] public section

set_option maxRecDepth 16384

noncomputable section

namespace Cert.ExpertsIdeal.Hand

open Cert.ExpertsIdeal Cert.ExpertsIdeal.Gen Cert.Moe
open Idealize.ShloMosaic Idealize.ShloMosaic.TcCoe Idealize.SL.Sem

variable (m : (ℓ : Loc nD τ sig) → Buf (Elt Ideal) ℓ) (c : Dev nD)

theorem V_main_v67 : V m c main_v67 = (m ((c : Thread nD τ).loc main_arg7) : S32x1024x256.Idx → EReal) := by
  unfold V
  after_reads_simp
  first | done | rfl | (simp -implicitDefEqProofs only [StableHlo.TRef.toBuf, StableHlo.TRef.ofBuf, cast_cast, cast_eq, id]; first | done | rfl)
theorem V_main_v68 : V m c main_v68 = (m ((c : Thread nD τ).loc main_arg8) : S32x1024x256.Idx → EReal) := by
  unfold V
  after_reads_simp
  first | done | rfl | (simp -implicitDefEqProofs only [StableHlo.TRef.toBuf, StableHlo.TRef.ofBuf, cast_cast, cast_eq, id]; first | done | rfl)
theorem V_main_v69 : V m c main_v69 = (m ((c : Thread nD τ).loc main_arg9) : S32x256x1024.Idx → EReal) := by
  unfold V
  after_reads_simp
  first | done | rfl | (simp -implicitDefEqProofs only [StableHlo.TRef.toBuf, StableHlo.TRef.ofBuf, cast_cast, cast_eq, id]; first | done | rfl)

theorem V_main_v70 (d : Fin 1024) : (V m c main_v70 : S1x1024.Idx → EReal) (ix2 0 d) = (m ((c : Thread nD τ).loc main_arg2) : S1024.Idx → EReal) (ix1 d) := by
  unfold V
  after_reads_at

theorem v5_g (d : Fin 1024) (k : Fin 4) : (V m c main_v5 : S1024x128.Idx → EReal) (ix2 d (glane k)) = (m ((c : Thread nD τ).loc main_arg3) : S1024x4.Idx → EReal) (ix2 d k) := by
  unfold V
  after_reads_at
  rw [dif_pos (show (glane k).val < 4 from k.isLt)]
  after_reads_at
  rfl

theorem v5_e (d : Fin 1024) (q : Fin 4) (e : Fin 8) : (V m c main_v5 : S1024x128.Idx → EReal) (ix2 d (lane q e)) = (m ((c : Thread nD τ).loc main_arg5) : S4x1024x8.Idx → EReal) (ix3 q d e) := by
  unfold V
  after_reads_at
  have hk : (lane q e).val = 8 + q.val * 8 + e.val := rfl
  rw [dif_neg (by omega), dif_neg (by omega), dif_pos (by omega)]
  after_reads_at
  exact congrArg (m ((c : Thread nD τ).loc main_arg5) : S4x1024x8.Idx → EReal) (congrArg₂ (fun x y => ix3 x d y) (Fin.ext (by show ((lane q e).val - 4 - 4) / 8 = q.val; omega)) (Fin.ext (by show ((lane q e).val - 4 - 4) % 8 = e.val; omega)))

theorem v5_z (d : Fin 1024) (k : Fin 128) (h : (4 ≤ k.val ∧ k.val < 8) ∨ 40 ≤ k.val) : (V m c main_v5 : S1024x128.Idx → EReal) (ix2 d k) = (0 : EReal) := by
  unfold V
  after_reads_at
  rw [dif_neg (by omega)]
  by_cases h4 : k.val - 4 < 4
  · rw [dif_pos h4]
    after_reads_at
  · rw [dif_neg h4, dif_neg (by omega)]
    after_reads_at

theorem v10_g (k : Fin 4) : (V m c main_v10 : S1x128.Idx → EReal) (ix2 0 (glane k)) = (m ((c : Thread nD τ).loc main_arg4) : S4.Idx → EReal) (ix1 k) := by
  unfold V
  after_reads_at
  rw [dif_pos (show (glane k).val < 4 from k.isLt)]
  after_reads_at
  rfl

theorem v10_e (q : Fin 4) (e : Fin 8) : (V m c main_v10 : S1x128.Idx → EReal) (ix2 0 (lane q e)) = (m ((c : Thread nD τ).loc main_arg6) : S4x8.Idx → EReal) (ix2 q e) := by
  unfold V
  after_reads_at
  have hk : (lane q e).val = 8 + q.val * 8 + e.val := rfl
  rw [dif_neg (by omega), dif_neg (by omega), dif_pos (by omega)]
  after_reads_at
  exact congrArg (m ((c : Thread nD τ).loc main_arg6) : S4x8.Idx → EReal) (congrArg₂ (fun x y => ix2 x y) (Fin.ext (by show ((lane q e).val - 4 - 4) / 8 = q.val; omega)) (Fin.ext (by show ((lane q e).val - 4 - 4) % 8 = e.val; omega)))

theorem v10_z (k : Fin 128) (h : (4 ≤ k.val ∧ k.val < 8) ∨ 40 ≤ k.val) : (V m c main_v10 : S1x128.Idx → EReal) (ix2 0 k) = (0 : EReal) := by
  unfold V
  after_reads_at
  rw [dif_neg (by omega)]
  by_cases h4 : k.val - 4 < 4
  · rw [dif_pos h4]
    after_reads_at
  · rw [dif_neg h4, dif_neg (by omega)]
    after_reads_at

end Cert.ExpertsIdeal.Hand
-- ==== Proof.MoeBlk.lean ====
/- The blocks that the windows stage at a point, read off the launch memory. -/
module

public import proofs.«01_k».proof.Proof.MoeHost
public import Idealize.ShloMosaic.Lib.Pipeline.ValueKit.Geometry

@[expose] public section

set_option maxRecDepth 16384

noncomputable section

namespace Cert.ExpertsIdeal.Hand

open Cert.ExpertsIdeal Cert.ExpertsIdeal.Gen Cert.Moe
open Idealize.ShloMosaic Idealize.ShloMosaic.TcCoe Idealize.SL.Sem

variable (m : (ℓ : Loc nD τ sig) → Buf (Elt Ideal) ℓ) (hO : Ok m) (c : Dev nD) (t : Fin (cfgM m hO).N)

/-- A window's block index is its map's. -/
theorem idx0 (a : (pcfg0 (F := Ideal)).Adm) (t : Fin (cfg0 a).N) : ((cfg0 a).win 0).index t = cc0_transform_0 k0_off1_inb numel1_S1 a.val (grid0.coords t) := rfl
theorem idx4 (a : (pcfg0 (F := Ideal)).Adm) (t : Fin (cfg0 a).N) : ((cfg0 a).win 4).index t = cc0_transform_4 k0_off1_inb numel1_S1 a.val (grid0.coords t) := rfl
theorem idx5 (a : (pcfg0 (F := Ideal)).Adm) (t : Fin (cfg0 a).N) : ((cfg0 a).win 5).index t = cc0_transform_5 k0_off1_inb numel1_S1 a.val (grid0.coords t) := rfl
theorem idx6 (a : (pcfg0 (F := Ideal)).Adm) (t : Fin (cfg0 a).N) : ((cfg0 a).win 6).index t = cc0_transform_6 k0_off1_inb numel1_S1 a.val (grid0.coords t) := rfl
theorem idx7 (a : (pcfg0 (F := Ideal)).Adm) (t : Fin (cfg0 a).N) : ((cfg0 a).win 7).index t = cc0_transform_7 k0_off1_inb numel1_S1 a.val (grid0.coords t) := rfl
theorem idx8 (a : (pcfg0 (F := Ideal)).Adm) (t : Fin (cfg0 a).N) : ((cfg0 a).win 8).index t = cc0_transform_8 k0_off1_inb numel1_S1 a.val (grid0.coords t) := rfl
theorem idx9 (a : (pcfg0 (F := Ideal)).Adm) (t : Fin (cfg0 a).N) : ((cfg0 a).win 9).index t = cc0_transform_9 k0_off1_inb numel1_S1 a.val (grid0.coords t) := rfl

/-- Where an element of window 0's block lies. -/
theorem emb0 (k : Fin 2048) (l : Fin 128) (n : ℕ) (hn : cc0_transform_0 k0_off1_inb numel1_S1 (tbl m) (grid0.coords t) = ![n, 0]) (h : n * 2048 + k.val < 491520) :
    ((((cfgM m hO).win 0).rect t).emb (ix2 k l) : S491520x128.Idx) = ix2 ⟨n * 2048 + k.val, h⟩ l := by
  refine funext fun a => Fin.ext ?_
  refine (Pipeline.Window.rect_emb_val ((cfgM m hO).win 0) t (ix2 k l) a).trans ?_
  have e : ((cfgM m hO).win 0).index t = ![n, 0] := (idx0 (adm m hO) t).trans hn
  rw [e]
  fin_cases a
  · rfl
  · show 0 * 128 + l.val = l.val
    omega

theorem blk0 (k : Fin 2048) (l : Fin 128) (n : ℕ) (hn : cc0_transform_0 k0_off1_inb numel1_S1 (tbl m) (grid0.coords t) = ![n, 0]) (h : n * 2048 + k.val < 491520) :
    (iblk m hO c 0 t : S2048x128.Idx → EReal) (ix2 k l) = (m ((c : Thread nD τ).loc main_arg1) : S491520x128.Idx → EReal) (ix2 ⟨n * 2048 + k.val, h⟩ l) := by
  refine Eq.trans (b := (V m c main_arg1 : S491520x128.Idx → EReal) ((((cfgM m hO).win 0).rect t).emb (ix2 k l))) rfl ?_
  rw [V_main_arg1]
  exact congrArg (m ((c : Thread nD τ).loc main_arg1) : S491520x128.Idx → EReal) (emb0 m hO t k l n hn h)

theorem emb1 (y : S1x1024.Idx) : ((((cfgM m hO).win 1).rect t).emb y : S1x1024.Idx) = y :=
  funext fun a => Fin.ext (Pipeline.Window.rect_emb_val_of_index_zero ((cfgM m hO).win 1) t a (by fin_cases a <;> rfl) y)
theorem emb2 (y : S1024x128.Idx) : ((((cfgM m hO).win 2).rect t).emb y : S1024x128.Idx) = y :=
  funext fun a => Fin.ext (Pipeline.Window.rect_emb_val_of_index_zero ((cfgM m hO).win 2) t a (by fin_cases a <;> rfl) y)
theorem emb3 (y : S1x128.Idx) : ((((cfgM m hO).win 3).rect t).emb y : S1x128.Idx) = y :=
  funext fun a => Fin.ext (Pipeline.Window.rect_emb_val_of_index_zero ((cfgM m hO).win 3) t a (by fin_cases a <;> rfl) y)

theorem blk1 (y : S1x1024.Idx) : (iblk m hO c 1 t : S1x1024.Idx → EReal) y = (V m c main_v70 : S1x1024.Idx → EReal) y :=
  Eq.trans (b := (V m c main_v70 : S1x1024.Idx → EReal) ((((cfgM m hO).win 1).rect t).emb y)) rfl (congrArg (V m c main_v70 : S1x1024.Idx → EReal) (emb1 m hO t y))
theorem blk2 (y : S1024x128.Idx) : (iblk m hO c 2 t : S1024x128.Idx → EReal) y = (V m c main_v5 : S1024x128.Idx → EReal) y :=
  Eq.trans (b := (V m c main_v5 : S1024x128.Idx → EReal) ((((cfgM m hO).win 2).rect t).emb y)) rfl (congrArg (V m c main_v5 : S1024x128.Idx → EReal) (emb2 m hO t y))
theorem blk3 (y : S1x128.Idx) : (iblk m hO c 3 t : S1x128.Idx → EReal) y = (V m c main_v10 : S1x128.Idx → EReal) y :=
  Eq.trans (b := (V m c main_v10 : S1x128.Idx → EReal) ((((cfgM m hO).win 3).rect t).emb y)) rfl (congrArg (V m c main_v10 : S1x128.Idx → EReal) (emb3 m hO t y))

theorem emb4 (n : Fin 32) (hn : cc0_transform_4 k0_off1_inb numel1_S1 (tbl m) (grid0.coords t) = ![n.val, 0, 0]) (k : Fin 1024) (l : Fin 256) :
    ((((cfgM m hO).win 4).rect t).emb (ix3 0 k l) : S32x1024x256.Idx) = ix3 n k l := by
  refine funext fun a => Fin.ext ?_
  refine (Pipeline.Window.rect_emb_val ((cfgM m hO).win 4) t (ix3 0 k l) a).trans ?_
  have e : ((cfgM m hO).win 4).index t = ![n.val, 0, 0] := (idx4 (adm m hO) t).trans hn
  rw [e]
  fin_cases a
  · show n.val * 1 + 0 = n.val
    omega
  · show 0 * 1024 + k.val = k.val
    omega
  · show 0 * 256 + l.val = l.val
    omega

theorem blk4 (n : Fin 32) (hn : cc0_transform_4 k0_off1_inb numel1_S1 (tbl m) (grid0.coords t) = ![n.val, 0, 0]) (k : Fin 1024) (l : Fin 256) :
    (iblk m hO c 4 t : S1x1024x256.Idx → EReal) (ix3 0 k l) = (m ((c : Thread nD τ).loc main_arg7) : S32x1024x256.Idx → EReal) (ix3 n k l) := by
  refine Eq.trans (b := (V m c main_v67 : S32x1024x256.Idx → EReal) ((((cfgM m hO).win 4).rect t).emb (ix3 0 k l))) rfl ?_
  rw [V_main_v67]
  exact congrArg (m ((c : Thread nD τ).loc main_arg7) : S32x1024x256.Idx → EReal) (emb4 m hO t n hn k l)

theorem emb5 (n : Fin 32) (hn : cc0_transform_5 k0_off1_inb numel1_S1 (tbl m) (grid0.coords t) = ![n.val, 0, 0]) (k : Fin 1024) (l : Fin 256) :
    ((((cfgM m hO).win 5).rect t).emb (ix3 0 k l) : S32x1024x256.Idx) = ix3 n k l := by
  refine funext fun a => Fin.ext ?_
  refine (Pipeline.Window.rect_emb_val ((cfgM m hO).win 5) t (ix3 0 k l) a).trans ?_
  have e : ((cfgM m hO).win 5).index t = ![n.val, 0, 0] := (idx5 (adm m hO) t).trans hn
  rw [e]
  fin_cases a
  · show n.val * 1 + 0 = n.val
    omega
  · show 0 * 1024 + k.val = k.val
    omega
  · show 0 * 256 + l.val = l.val
    omega

theorem blk5 (n : Fin 32) (hn : cc0_transform_5 k0_off1_inb numel1_S1 (tbl m) (grid0.coords t) = ![n.val, 0, 0]) (k : Fin 1024) (l : Fin 256) :
    (iblk m hO c 5 t : S1x1024x256.Idx → EReal) (ix3 0 k l) = (m ((c : Thread nD τ).loc main_arg8) : S32x1024x256.Idx → EReal) (ix3 n k l) := by
  refine Eq.trans (b := (V m c main_v68 : S32x1024x256.Idx → EReal) ((((cfgM m hO).win 5).rect t).emb (ix3 0 k l))) rfl ?_
  rw [V_main_v68]
  exact congrArg (m ((c : Thread nD τ).loc main_arg8) : S32x1024x256.Idx → EReal) (emb5 m hO t n hn k l)

theorem emb6 (n : Fin 32) (hn : cc0_transform_6 k0_off1_inb numel1_S1 (tbl m) (grid0.coords t) = ![n.val, 0, 0]) (k : Fin 256) (l : Fin 1024) :
    ((((cfgM m hO).win 6).rect t).emb (ix3 0 k l) : S32x256x1024.Idx) = ix3 n k l := by
  refine funext fun a => Fin.ext ?_
  refine (Pipeline.Window.rect_emb_val ((cfgM m hO).win 6) t (ix3 0 k l) a).trans ?_
  have e : ((cfgM m hO).win 6).index t = ![n.val, 0, 0] := (idx6 (adm m hO) t).trans hn
  rw [e]
  fin_cases a
  · show n.val * 1 + 0 = n.val
    omega
  · show 0 * 256 + k.val = k.val
    omega
  · show 0 * 1024 + l.val = l.val
    omega

theorem blk6 (n : Fin 32) (hn : cc0_transform_6 k0_off1_inb numel1_S1 (tbl m) (grid0.coords t) = ![n.val, 0, 0]) (k : Fin 256) (l : Fin 1024) :
    (iblk m hO c 6 t : S1x256x1024.Idx → EReal) (ix3 0 k l) = (m ((c : Thread nD τ).loc main_arg9) : S32x256x1024.Idx → EReal) (ix3 n k l) := by
  refine Eq.trans (b := (V m c main_v69 : S32x256x1024.Idx → EReal) ((((cfgM m hO).win 6).rect t).emb (ix3 0 k l))) rfl ?_
  rw [V_main_v69]
  exact congrArg (m ((c : Thread nD τ).loc main_arg9) : S32x256x1024.Idx → EReal) (emb6 m hO t n hn k l)

theorem emb7 (n : Fin 32) (hn : cc0_transform_7 k0_off1_inb numel1_S1 (tbl m) (grid0.coords t) = ![n.val, 0, 0]) (k : Fin 1024) (l : Fin 256) :
    ((((cfgM m hO).win 7).rect t).emb (ix3 0 k l) : S32x1024x256.Idx) = ix3 n k l := by
  refine funext fun a => Fin.ext ?_
  refine (Pipeline.Window.rect_emb_val ((cfgM m hO).win 7) t (ix3 0 k l) a).trans ?_
  have e : ((cfgM m hO).win 7).index t = ![n.val, 0, 0] := (idx7 (adm m hO) t).trans hn
  rw [e]
  fin_cases a
  · show n.val * 1 + 0 = n.val
    omega
  · show 0 * 1024 + k.val = k.val
    omega
  · show 0 * 256 + l.val = l.val
    omega

theorem blk7 (n : Fin 32) (hn : cc0_transform_7 k0_off1_inb numel1_S1 (tbl m) (grid0.coords t) = ![n.val, 0, 0]) (k : Fin 1024) (l : Fin 256) :
    (iblk m hO c 7 t : S1x1024x256.Idx → EReal) (ix3 0 k l) = (m ((c : Thread nD τ).loc main_arg7) : S32x1024x256.Idx → EReal) (ix3 n k l) := by
  refine Eq.trans (b := (V m c main_v67 : S32x1024x256.Idx → EReal) ((((cfgM m hO).win 7).rect t).emb (ix3 0 k l))) rfl ?_
  rw [V_main_v67]
  exact congrArg (m ((c : Thread nD τ).loc main_arg7) : S32x1024x256.Idx → EReal) (emb7 m hO t n hn k l)

theorem emb8 (n : Fin 32) (hn : cc0_transform_8 k0_off1_inb numel1_S1 (tbl m) (grid0.coords t) = ![n.val, 0, 0]) (k : Fin 1024) (l : Fin 256) :
    ((((cfgM m hO).win 8).rect t).emb (ix3 0 k l) : S32x1024x256.Idx) = ix3 n k l := by
  refine funext fun a => Fin.ext ?_
  refine (Pipeline.Window.rect_emb_val ((cfgM m hO).win 8) t (ix3 0 k l) a).trans ?_
  have e : ((cfgM m hO).win 8).index t = ![n.val, 0, 0] := (idx8 (adm m hO) t).trans hn
  rw [e]
  fin_cases a
  · show n.val * 1 + 0 = n.val
    omega
  · show 0 * 1024 + k.val = k.val
    omega
  · show 0 * 256 + l.val = l.val
    omega

theorem blk8 (n : Fin 32) (hn : cc0_transform_8 k0_off1_inb numel1_S1 (tbl m) (grid0.coords t) = ![n.val, 0, 0]) (k : Fin 1024) (l : Fin 256) :
    (iblk m hO c 8 t : S1x1024x256.Idx → EReal) (ix3 0 k l) = (m ((c : Thread nD τ).loc main_arg8) : S32x1024x256.Idx → EReal) (ix3 n k l) := by
  refine Eq.trans (b := (V m c main_v68 : S32x1024x256.Idx → EReal) ((((cfgM m hO).win 8).rect t).emb (ix3 0 k l))) rfl ?_
  rw [V_main_v68]
  exact congrArg (m ((c : Thread nD τ).loc main_arg8) : S32x1024x256.Idx → EReal) (emb8 m hO t n hn k l)

theorem emb9 (n : Fin 32) (hn : cc0_transform_9 k0_off1_inb numel1_S1 (tbl m) (grid0.coords t) = ![n.val, 0, 0]) (k : Fin 256) (l : Fin 1024) :
    ((((cfgM m hO).win 9).rect t).emb (ix3 0 k l) : S32x256x1024.Idx) = ix3 n k l := by
  refine funext fun a => Fin.ext ?_
  refine (Pipeline.Window.rect_emb_val ((cfgM m hO).win 9) t (ix3 0 k l) a).trans ?_
  have e : ((cfgM m hO).win 9).index t = ![n.val, 0, 0] := (idx9 (adm m hO) t).trans hn
  rw [e]
  fin_cases a
  · show n.val * 1 + 0 = n.val
    omega
  · show 0 * 256 + k.val = k.val
    omega
  · show 0 * 1024 + l.val = l.val
    omega

theorem blk9 (n : Fin 32) (hn : cc0_transform_9 k0_off1_inb numel1_S1 (tbl m) (grid0.coords t) = ![n.val, 0, 0]) (k : Fin 256) (l : Fin 1024) :
    (iblk m hO c 9 t : S1x256x1024.Idx → EReal) (ix3 0 k l) = (m ((c : Thread nD τ).loc main_arg9) : S32x256x1024.Idx → EReal) (ix3 n k l) := by
  refine Eq.trans (b := (V m c main_v69 : S32x256x1024.Idx → EReal) ((((cfgM m hO).win 9).rect t).emb (ix3 0 k l))) rfl ?_
  rw [V_main_v69]
  exact congrArg (m ((c : Thread nD τ).loc main_arg9) : S32x256x1024.Idx → EReal) (emb9 m hO t n hn k l)

/-! ## The tables' words -/

instance : Subsingleton S1.Idx := ⟨fun a b => funext fun i => by
  obtain rfl : i = 0 := Subsingleton.elim _ _
  exact Fin.ext (by have h1 : (a 0).val < 1 := (a 0).isLt; have h2 : (b 0).val < 1 := (b 0).isLt; omega)⟩

variable (i : grid0.Coords)

theorem word4 : w240 c i (tbl m 4) = (tbl m 4 : S240.Idx → BitVec 32) (pt i) := by
  obtain rfl : c = 0 := Subsingleton.elim _ _
  refine Eq.trans (b := (tbl m 4 : S240.Idx → BitVec 32) ((Rect.unit (s := S240) (k0_off2 i) S1.size (k0_off2_inb i)).emb (Shape.Idx.first (by change 0 < S1.numel; decide)))) rfl ?_
  rw [pt_eq i (k0_off2_eq i)]

theorem word1 : w240b c i (tbl m 1) = (tbl m 1 : S240.Idx → BitVec 32) (pt i) := by
  obtain rfl : c = 0 := Subsingleton.elim _ _
  refine Eq.trans (b := (tbl m 1 : S240.Idx → BitVec 32) ((Rect.unit (s := S240) (k0_off2 i) S1.size (k0_off2_inb i)).emb (Shape.Idx.first (by change 0 < S1.numel; decide)))) rfl ?_
  rw [pt_eq i (k0_off2_eq i)]

theorem word2 : w240c c i (tbl m 2) = (tbl m 2 : S240.Idx → BitVec 32) (pt i) := by
  obtain rfl : c = 0 := Subsingleton.elim _ _
  refine Eq.trans (b := (tbl m 2 : S240.Idx → BitVec 32) ((Rect.unit (s := S240) (k0_off2 i) S1.size (k0_off2_inb i)).emb (Shape.Idx.first (by change 0 < S1.numel; decide)))) rfl ?_
  rw [pt_eq i (k0_off2_eq i)]

theorem word3 : w240d c i (tbl m 3) = (tbl m 3 : S240.Idx → BitVec 32) (pt i) := by
  obtain rfl : c = 0 := Subsingleton.elim _ _
  refine Eq.trans (b := (tbl m 3 : S240.Idx → BitVec 32) ((Rect.unit (s := S240) (k0_off2 i) S1.size (k0_off2_inb i)).emb (Shape.Idx.first (by change 0 < S1.numel; decide)))) rfl ?_
  rw [pt_eq i (k0_off2_eq i)]

theorem word5 : w1 c (tbl m 5) = (tbl m 5 : S1.Idx → BitVec 32) (ValueIdx.ix1 (0 : Fin 1)) := by
  obtain rfl : c = 0 := Subsingleton.elim _ _
  exact congrArg (tbl m 5 : S1.Idx → BitVec 32) (Subsingleton.elim (α := S1.Idx) _ _)

/-! ## The output's blocks -/

theorem coords_val : ∀ t : Fin grid0.N, (grid0.coords t 0).val = t.val := by decide +kernel

theorem index10 : ∀ t : Fin grid0.N, cc0_transform_10 (grid0.coords t) = ![t.val, 0] := by decide +kernel

theorem flush10_all : ∀ t : Fin grid0.N, Pipeline.Window.flushOf grid0 true cc0_transform_10 t = true := by decide +kernel

theorem flush10 : ((cfgM m hO).win 10).flush t = true := flush10_all t

theorem emb10 (k : Fin 2048) (l : Fin 128) (h : t.val * 2048 + k.val < 491520) :
    ((((cfgM m hO).win 10).rect t).emb (ix2 k l) : S491520x128.Idx) = ix2 ⟨t.val * 2048 + k.val, h⟩ l := by
  refine funext fun a => Fin.ext ?_
  refine (Pipeline.Window.rect_emb_val ((cfgM m hO).win 10) t (ix2 k l) a).trans ?_
  have e : ((cfgM m hO).win 10).index t = ![t.val, 0] := index10 t
  rw [e]
  fin_cases a
  · rfl
  · show 0 * 128 + l.val = l.val
    omega

theorem cover10 (j : S491520x128.Idx) : ∃ t : Fin (cfgM m hO).N, ((cfgM m hO).win 10).flush t = true ∧ (j : (((cfgM m hO).win 10).arr.view.loc (c.tc : Thread nD τ)).2.ty.Idx) ∈ (((cfgM m hO).win 10).blk t).view.set := by
  have hj : (j 0).val < 491520 := (j 0).isLt
  have hN : grid0.N = 240 := by decide +kernel
  have ht : (j 0).val / 2048 < grid0.N := by rw [hN]; omega
  refine ⟨⟨(j 0).val / 2048, ht⟩, flush10 m hO _, (Pipeline.Window.emb_mem_blk_iff ((cfgM m hO).win 10) _ j).mpr fun a => ?_⟩
  have e : ((cfgM m hO).win 10).index ⟨(j 0).val / 2048, ht⟩ = ![(j 0).val / 2048, 0] := index10 _
  rw [e]
  fin_cases a
  · show (j 0).val / 2048 * 2048 ≤ (j 0).val ∧ (j 0).val < (j 0).val / 2048 * 2048 + 2048
    omega
  · have := (j 1).isLt
    show 0 * 128 ≤ (j 1).val ∧ (j 1).val < 0 * 128 + 128
    have h1 : (j 1).val < 128 := (j 1).isLt
    omega

end Cert.ExpertsIdeal.Hand
-- ==== Proof.MoeRef.lean ====
/- The reference of the experts' layer, stage by stage. -/
module

public import proofs.«01_k».proof.Proof.Gen.PlainIdeal.Run
public import proofs.«01_k».proof.Proof.MoeReal
public import proofs.«01_k».proof.Proof.MoeSlots
public import Idealize.ShloMosaic.Lib.Pointwise

@[expose] public section

set_option maxRecDepth 16384

noncomputable section

namespace Cert.PlainIdeal.Hand

open Cert.PlainIdeal Cert.PlainIdeal.Gen Cert.PlainIdeal.Value Cert.Moe
open Idealize.ShloMosaic Idealize.ShloMosaic.TcCoe Idealize.ShloMosaic.StableHlo Idealize.SL.Sem
open Idealize.ShloMosaic.Routing (pyDiv pyRem)

/-- The rows. -/
def sX (a5 : FVec Ideal S491520x128 .f32) : FVec Ideal S61440x1024 .f32 :=
  shapeCast _ a5 shapeCasts_S491520x128_S61440x1024

/-- The number of tiles of every bucket. -/
def sTiles (n : IVec S256 32) : IVec S256 32 :=
  pyDiv bcast_S_S256 (addi n (broadcastInDim S256 ![] bcast_S_S256 (constantI S_ 32 255#32))) (constantI S_ 32 256#32)

/-- The first row of every bucket. -/
def sFirst (n : IVec S256 32) : IVec S256 32 :=
  muli (subi (Host.reduceWindow IntOp.addi ![256] ![1] ![255] ![0] (sTiles n) (broadcastInDim S_ ![] bcast_S_S_ (constantI S_ 32 0#32)) reduceWindows_S256_S256_w256s1p255_0 h_S_) (sTiles n)) (broadcastInDim S256 ![] bcast_S_S256 (constantI S_ 32 256#32))

/-- Whether a row is a bucket's. -/
def sMine (n : IVec S256 32) : IVec S61440x256 1 :=
  andi (cmpi .sge (broadcastInDim S61440x256 ![0, 1] bcast_S61440x1_S61440x256_0_1 (broadcastInDim S61440x1 ![0] bcast_S61440_S61440x1_0 (iotaInDim S61440 32 0))) (broadcastInDim S61440x256 ![0, 1] bcast_S1x256_S61440x256_0_1 (broadcastInDim S1x256 ![1] bcast_S256_S1x256_1 (sFirst n)))) (cmpi .slt (broadcastInDim S61440x256 ![0, 1] bcast_S61440x1_S61440x256_0_1 (broadcastInDim S61440x1 ![0] bcast_S61440_S61440x1_0 (iotaInDim S61440 32 0))) (broadcastInDim S61440x256 ![0, 1] bcast_S1x256_S61440x256_0_1 (broadcastInDim S1x256 ![1] bcast_S256_S1x256_1 (addi (sFirst n) n))))

/-- Whether a row is held. -/
def sHeld (n : IVec S256 32) : IVec S61440 1 :=
  Host.reduce IntOp.ori (sMine n) (constantI S_ 1 0#1) reducesTo_S61440x256_S61440_d1 h_S_

/-- A row's bucket. -/
def sBk (n : IVec S256 32) : IVec S61440 32 :=
  Host.reduce IntOp.addi (select (sMine n) (broadcastInDim S61440x256 ![1] bcast_S256_S61440x256_1 (iotaInDim S256 32 0)) (broadcastInDim S61440x256 ![] bcast_S_S61440x256 (id (constantI S_ 32 0#32)))) (constantI S_ 32 0#32) reducesTo_S61440x256_S61440_d1 h_S_

/-- A bucket's group and its two experts, row by row. -/
def sG (b : IVec S61440 32) : IVec S61440 32 := pyDiv bcast_S_S61440 b (constantI S_ 32 64#32)
def sE1 (b : IVec S61440 32) : IVec S61440 32 := pyRem bcast_S_S61440 (pyDiv bcast_S_S61440 b (constantI S_ 32 8#32)) (constantI S_ 32 8#32)
def sE2 (b : IVec S61440 32) : IVec S61440 32 := pyRem bcast_S_S61440 b (constantI S_ 32 8#32)

/-- The normalised rows. -/
def sH (x : FVec Ideal S61440x1024 .f32) (a6 : FVec Ideal S1024 .f32) : FVec Ideal S61440x1024 .f32 :=
  mulf (mulf x (broadcastInDim S61440x1024 ![0, 1] bcast_S61440x1_S61440x1024_0_1 (Host.rsqrt (addf (Host.divf (broadcastInDim S61440x1 ![0] bcast_S61440_S61440x1_0 (Host.reduceAdd (mulf x x) (constant S_ .f32 0x00000000#32) reducesTo_S61440x1024_S61440_d1 h_S_)) (broadcastInDim S61440x1 ![] bcast_S_S61440x1 (constant S_ .f32 0x44800000#32))) (broadcastInDim S61440x1 ![] bcast_S_S61440x1 (constant S_ .f32 0x358637BD#32)))))) (broadcastInDim S61440x1024 ![0, 1] bcast_S1x1024_S61440x1024_0_1 (broadcastInDim S1x1024 ![1] bcast_S1024_S1x1024_1 a6))

/-- The groups' logits. -/
def sGl (h : FVec Ideal S61440x1024 .f32) (a7 : FVec Ideal S1024x4 .f32) (a8 : FVec Ideal S4 .f32) : FVec Ideal S61440x4 .f32 :=
  addf (Host.dotGeneral dot_S61440x1024_S1024x4_S61440x4_1_0_0_1_n_n none h a7) (broadcastInDim S61440x4 ![0, 1] bcast_S1x4_S61440x4_0_1 (broadcastInDim S1x4 ![1] bcast_S4_S1x4_1 a8))

/-- The greatest of the groups' probabilities. -/
def sGw (v : FVec Ideal S61440x4 .f32) : FVec Ideal S61440x1 .f32 :=
  broadcastInDim S61440x1 ![0] bcast_S61440_S61440x1_0 (Host.reduce FloatOps.maximumf (Host.divf (Host.exp (subf v (broadcastInDim S61440x4 ![0, 1] bcast_S61440x1_S61440x4_0_1 (broadcastInDim S61440x1 ![0] bcast_S61440_S61440x1_0 (maximumf (broadcastInDim S61440 ![] bcast_S_S61440 (constant S_ .f32 0xFF800000#32)) (Host.reduce FloatOps.maximumf v (constant S_ .f32 0xFF800000#32) reducesTo_S61440x4_S61440_d1 h_S_)))))) (broadcastInDim S61440x4 ![0, 1] bcast_S61440x1_S61440x4_0_1 (broadcastInDim S61440x1 ![0] bcast_S61440_S61440x1_0 (Host.reduceAdd (Host.exp (subf v (broadcastInDim S61440x4 ![0, 1] bcast_S61440x1_S61440x4_0_1 (broadcastInDim S61440x1 ![0] bcast_S61440_S61440x1_0 (maximumf (broadcastInDim S61440 ![] bcast_S_S61440 (constant S_ .f32 0xFF800000#32)) (Host.reduce FloatOps.maximumf v (constant S_ .f32 0xFF800000#32) reducesTo_S61440x4_S61440_d1 h_S_)))))) (constant S_ .f32 0x00000000#32) reducesTo_S61440x4_S61440_d1 h_S_)))) (constant S_ .f32 0xFF800000#32) reducesTo_S61440x4_S61440_d1 h_S_)

/-- Every expert's logits. -/
def sEa (h : FVec Ideal S61440x1024 .f32) (a9 : FVec Ideal S4x1024x8 .f32) (a10 : FVec Ideal S4x8 .f32) : FVec Ideal S61440x4x8 .f32 :=
  addf (Host.dotGeneral dot_S61440x1024_S4x1024x8_S61440x4x8_1_1_0_02_n_n none h a9) (broadcastInDim S61440x4x8 ![0, 1, 2] bcast_S1x4x8_S61440x4x8_0_1_2 (broadcastInDim S1x4x8 ![1, 2] bcast_S4x8_S1x4x8_1_2 a10))

/-- The logits of the row's group. -/
def sEl (v : FVec Ideal S61440x4x8 .f32) (t1 : IVec S61440 32) : FVec Ideal S61440x8 .f32 :=
  Host.reduceAdd (select (broadcastInDim S61440x4x8 ![0, 1, 2] bcast_S61440x4x1_S61440x4x8_0_1_2 (broadcastInDim S61440x4x1 ![0, 1] bcast_S61440x4_S61440x4x1_0_1 (cmpi .eq (broadcastInDim S61440x4 ![0, 1] bcast_S1x4_S61440x4_0_1 (broadcastInDim S1x4 ![1] bcast_S4_S1x4_1 (iotaInDim S4 32 0))) (broadcastInDim S61440x4 ![0, 1] bcast_S61440x1_S61440x4_0_1 (broadcastInDim S61440x1 ![0] bcast_S61440_S61440x1_0 t1))))) v (broadcastInDim S61440x4x8 ![] bcast_S_S61440x4x8 (constant S_ .f32 0x00000000#32))) (constant S_ .f32 0x00000000#32) reducesTo_S61440x4x8_S61440x8_d1 h_S_

/-- A chosen expert's logit. -/
def sPick (v : FVec Ideal S61440x8 .f32) (t2 : IVec S61440 32) : FVec Ideal S61440 .f32 :=
  Host.reduceAdd (select (cmpi .eq (broadcastInDim S61440x8 ![0, 1] bcast_S1x8_S61440x8_0_1 (broadcastInDim S1x8 ![1] bcast_S8_S1x8_1 (iotaInDim S8 32 0))) (broadcastInDim S61440x8 ![0, 1] bcast_S61440x1_S61440x8_0_1 (broadcastInDim S61440x1 ![0] bcast_S61440_S61440x1_0 t2))) v (broadcastInDim S61440x8 ![] bcast_S_S61440x8 (constant S_ .f32 0x00000000#32))) (constant S_ .f32 0x00000000#32) reducesTo_S61440x8_S61440_d1 h_S_

/-- The two experts' weights. -/
def sTw (v : FVec Ideal S61440 .f32) (w : FVec Ideal S61440 .f32) (gwt : FVec Ideal S61440x1 .f32) : FVec Ideal S61440x2 .f32 :=
  mulf (Host.divf (Host.exp (subf (concatenate S61440x2 1 [⟨S61440x1, (broadcastInDim S61440x1 ![0] bcast_S61440_S61440x1_0 v)⟩, ⟨S61440x1, (broadcastInDim S61440x1 ![0] bcast_S61440_S61440x1_0 w)⟩] concatenates_S61440x1_S61440x1_S61440x2_d1) (broadcastInDim S61440x2 ![0, 1] bcast_S61440x1_S61440x2_0_1 (broadcastInDim S61440x1 ![0] bcast_S61440_S61440x1_0 (maximumf (broadcastInDim S61440 ![] bcast_S_S61440 (constant S_ .f32 0xFF800000#32)) (Host.reduce FloatOps.maximumf (concatenate S61440x2 1 [⟨S61440x1, (broadcastInDim S61440x1 ![0] bcast_S61440_S61440x1_0 v)⟩, ⟨S61440x1, (broadcastInDim S61440x1 ![0] bcast_S61440_S61440x1_0 w)⟩] concatenates_S61440x1_S61440x1_S61440x2_d1) (constant S_ .f32 0xFF800000#32) reducesTo_S61440x2_S61440_d1 h_S_)))))) (broadcastInDim S61440x2 ![0, 1] bcast_S61440x1_S61440x2_0_1 (broadcastInDim S61440x1 ![0] bcast_S61440_S61440x1_0 (Host.reduceAdd (Host.exp (subf (concatenate S61440x2 1 [⟨S61440x1, (broadcastInDim S61440x1 ![0] bcast_S61440_S61440x1_0 v)⟩, ⟨S61440x1, (broadcastInDim S61440x1 ![0] bcast_S61440_S61440x1_0 w)⟩] concatenates_S61440x1_S61440x1_S61440x2_d1) (broadcastInDim S61440x2 ![0, 1] bcast_S61440x1_S61440x2_0_1 (broadcastInDim S61440x1 ![0] bcast_S61440_S61440x1_0 (maximumf (broadcastInDim S61440 ![] bcast_S_S61440 (constant S_ .f32 0xFF800000#32)) (Host.reduce FloatOps.maximumf (concatenate S61440x2 1 [⟨S61440x1, (broadcastInDim S61440x1 ![0] bcast_S61440_S61440x1_0 v)⟩, ⟨S61440x1, (broadcastInDim S61440x1 ![0] bcast_S61440_S61440x1_0 w)⟩] concatenates_S61440x1_S61440x1_S61440x2_d1) (constant S_ .f32 0xFF800000#32) reducesTo_S61440x2_S61440_d1 h_S_)))))) (constant S_ .f32 0x00000000#32) reducesTo_S61440x2_S61440_d1 h_S_)))) (broadcastInDim S61440x2 ![0, 1] bcast_S61440x1_S61440x2_0_1 gwt)

/-- The weights spread over all experts. -/
def sGates (t1 : IVec S61440 32) (t2 : IVec S61440 32) (t3 : IVec S61440 32) (w : FVec Ideal S61440x2 .f32) : FVec Ideal S61440x32 .f32 :=
  addf (select (cmpi .eq (broadcastInDim S61440x32 ![0, 1] bcast_S1x32_S61440x32_0_1 (broadcastInDim S1x32 ![1] bcast_S32_S1x32_1 (iotaInDim S32 32 0))) (broadcastInDim S61440x32 ![0, 1] bcast_S61440x1_S61440x32_0_1 (broadcastInDim S61440x1 ![0] bcast_S61440_S61440x1_0 (addi (muli t1 (broadcastInDim S61440 ![] bcast_S_S61440 (constantI S_ 32 8#32))) t2)))) (broadcastInDim S61440x32 ![0, 1] bcast_S61440x1_S61440x32_0_1 (extractStridedSlice S61440x1 ![0, 0] w slices_S61440x2_S61440x1_0_0)) (broadcastInDim S61440x32 ![] bcast_S_S61440x32 (constant S_ .f32 0x00000000#32))) (select (cmpi .eq (broadcastInDim S61440x32 ![0, 1] bcast_S1x32_S61440x32_0_1 (broadcastInDim S1x32 ![1] bcast_S32_S1x32_1 (iotaInDim S32 32 0))) (broadcastInDim S61440x32 ![0, 1] bcast_S61440x1_S61440x32_0_1 (broadcastInDim S61440x1 ![0] bcast_S61440_S61440x1_0 (addi (muli t1 (broadcastInDim S61440 ![] bcast_S_S61440 (constantI S_ 32 8#32))) t3)))) (broadcastInDim S61440x32 ![0, 1] bcast_S61440x1_S61440x32_0_1 (extractStridedSlice S61440x1 ![0, 1] w slices_S61440x2_S61440x1_0_1)) (broadcastInDim S61440x32 ![] bcast_S_S61440x32 (constant S_ .f32 0x00000000#32)))

/-- Every expert's hidden row. -/
def sHid (h : FVec Ideal S61440x1024 .f32) (a11 : FVec Ideal S32x1024x256 .f32) (a12 : FVec Ideal S32x1024x256 .f32) : FVec Ideal S61440x32x256 .f32 :=
  mulf (mulf (Host.dotGeneral dot_S61440x1024_S32x1024x256_S61440x32x256_1_1_0_02_n_n none h a11) (Host.divf (broadcastInDim S61440x32x256 ![] bcast_S_S61440x32x256 (constant S_ .f32 0x3F800000#32)) (addf (broadcastInDim S61440x32x256 ![] bcast_S_S61440x32x256 (constant S_ .f32 0x3F800000#32)) (Host.exp (Host.negf (Host.dotGeneral dot_S61440x1024_S32x1024x256_S61440x32x256_1_1_0_02_n_n none h a11)))))) (Host.dotGeneral dot_S61440x1024_S32x1024x256_S61440x32x256_1_1_0_02_n_n none h a12)

/-- The weighted rows of all experts, where a row is held. -/
def sOut (gt : FVec Ideal S61440x32 .f32) (hd : FVec Ideal S61440x32x256 .f32) (a13 : FVec Ideal S32x256x1024 .f32) (held : IVec S61440 1) : FVec Ideal S61440x1024 .f32 :=
  select (broadcastInDim S61440x1024 ![0, 1] bcast_S61440x1_S61440x1024_0_1 (broadcastInDim S61440x1 ![0] bcast_S61440_S61440x1_0 held)) (Host.reduceAdd (mulf (broadcastInDim S61440x32x1024 ![0, 1, 2] bcast_S61440x32x1_S61440x32x1024_0_1_2 (broadcastInDim S61440x32x1 ![0, 1] bcast_S61440x32_S61440x32x1_0_1 gt)) (transpose S61440x32x1024 [2, 0, 1] (Host.dotGeneral dot_S32x256x1024_S61440x32x256_S32x1024x61440_1_2_2_0_0_1 none a13 hd) transposes_S32x1024x61440_S61440x32x1024_2_0_1)) (constant S_ .f32 0x00000000#32) reducesTo_S61440x32x1024_S61440x1024_d1 h_S_) (broadcastInDim S61440x1024 ![] bcast_S_S61440x1024 (constant S_ .f32 0x00000000#32))

/-- The reference's result by its stages. -/
def sAll (n : IVec S256 32) (a5 : FVec Ideal S491520x128 .f32) (a6 : FVec Ideal S1024 .f32) (a7 : FVec Ideal S1024x4 .f32) (a8 : FVec Ideal S4 .f32)
    (a9 : FVec Ideal S4x1024x8 .f32) (a10 : FVec Ideal S4x8 .f32) (a11 a12 : FVec Ideal S32x1024x256 .f32) (a13 : FVec Ideal S32x256x1024 .f32) : FVec Ideal S61440x1024 .f32 :=
  sOut (sGates (sG (sBk n)) (sE1 (sBk n)) (sE2 (sBk n))
      (sTw (sPick (sEl (sEa (sH (sX a5) a6) a9 a10) (sG (sBk n))) (sE1 (sBk n))) (sPick (sEl (sEa (sH (sX a5) a6) a9 a10) (sG (sBk n))) (sE2 (sBk n)))
        (sGw (sGl (sH (sX a5) a6) a7 a8))))
    (sHid (sH (sX a5) a6) a11 a12) a13 (sHeld n)

section
variable (V0 : Valuation τ sig (Elt Ideal))

theorem s23 : res_main_v23 V0 = sBk (V0 (Proc.devRef .tc main_arg0)) := rfl
theorem s24 : res_main_v24 V0 = sG (res_main_v23 V0) := rfl
theorem s26 : res_main_v26 V0 = sE1 (res_main_v23 V0) := rfl
theorem s27 : res_main_v27 V0 = sE2 (res_main_v23 V0) := rfl

theorem res_stages : val3 V0 (Proc.devRef .tc main_v134) = shapeCast S491520x128 (sAll (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9))) shapeCasts_S61440x1024_S491520x128 := by
  refine (val3_main_v134 V0).trans ?_
  unfold sAll
  rw [← s23 V0, ← s24 V0, ← s26 V0, ← s27 V0]
  rfl

end

end Cert.PlainIdeal.Hand
-- ==== Proof.MoeRefRow.lean ====
/- A row of the reference over the real numbers. -/
module

public import proofs.«01_k».proof.Proof.MoeRef

@[expose] public section

set_option maxRecDepth 16384

noncomputable section

namespace Cert.PlainIdeal.Hand

open Cert.PlainIdeal Cert.PlainIdeal.Gen Cert.PlainIdeal.Value Cert.Moe
open Idealize.ShloMosaic Idealize.ShloMosaic.TcCoe Idealize.SL.Sem

variable {r : Fin 61440} {P : Weights} {X : Fin 1024 → ℝ} {q : Fin 4} {e f : Fin 8}

theorem rX (a5 : FVec Ideal S491520x128 .f32) (d : Fin 1024) : sX a5 (ix2 r d) = a5 (ix2 ⟨r.val * 8 + d.val / 128, by omega⟩ ⟨d.val % 128, by omega⟩) := by
  pointwise [sX]
  first | done | (congr 1)

theorem rH {x : FVec Ideal S61440x1024 .f32} {a6 : FVec Ideal S1024 .f32} (hX : ∀ d, x (ix2 r d) = ((X d : ℝ) : EReal))
    (h6 : ∀ d, a6 (ix1 d) = ((P.G d : ℝ) : EReal)) (d : Fin 1024) : sH x a6 (ix2 r d) = ((nm P X d : ℝ) : EReal) := by
  pointwise [sH]
  simp only [hX, h6, ← EReal.coe_mul, coe_sum]
  refine Eq.trans (b := ((X d : ℝ) : EReal) * Ideal.rsqrt (Ideal.div ((∑ d, X d * X d : ℝ) : EReal) ((1024 : ℝ) : EReal) + ((eps : ℝ) : EReal)) * ((P.G d : ℝ) : EReal)) ?_ ?_
  · rw [← kilo, ← eps_eq]
  · rw [div_coe _ _ (by norm_num), ← EReal.coe_add, rsqrt_coe _ (ms_pos X), ← EReal.coe_mul, ← EReal.coe_mul]
    rfl

section
variable {h : FVec Ideal S61440x1024 .f32} (hh : ∀ d, h (ix2 r d) = ((nm P X d : ℝ) : EReal))
include hh

theorem rGl {a7 : FVec Ideal S1024x4 .f32} {a8 : FVec Ideal S4 .f32} (h7 : ∀ d k, a7 (ix2 d k) = ((P.WG d k : ℝ) : EReal))
    (h8 : ∀ k, a8 (ix1 k) = ((P.bg k : ℝ) : EReal)) (k : Fin 4) : sGl h a7 a8 (ix2 r k) = ((gl P X k : ℝ) : EReal) := by
  pointwise [sGl]
  simp only [hh, h7, h8, ← EReal.coe_mul, coe_sum, ← EReal.coe_add]
  rfl

theorem rEa {a9 : FVec Ideal S4x1024x8 .f32} {a10 : FVec Ideal S4x8 .f32} (h9 : ∀ q d e, a9 (ix3 q d e) = ((P.WE q d e : ℝ) : EReal))
    (h10 : ∀ q e, a10 (ix2 q e) = ((P.be q e : ℝ) : EReal)) (q : Fin 4) (e : Fin 8) : sEa h a9 a10 (ix3 r q e) = ((el P X q e : ℝ) : EReal) := by
  pointwise [sEa]
  simp only [hh, h9, h10, ← EReal.coe_mul, coe_sum, ← EReal.coe_add]
  rfl

theorem rHid {a11 a12 : FVec Ideal S32x1024x256 .f32} (h11 : ∀ n d h, a11 (ix3 n d h) = ((P.Wg n d h : ℝ) : EReal))
    (h12 : ∀ n d h, a12 (ix3 n d h) = ((P.Wu n d h : ℝ) : EReal)) (n : Fin 32) (k : Fin 256) : sHid h a11 a12 (ix3 r n k) = ((hid P X n k : ℝ) : EReal) := by
  pointwise [sHid]
  simp only [hh, h11, h12, ← EReal.coe_mul, coe_sum, div_one_add_exp]
  rfl

end

theorem top_mx : Finset.fold max ⊥ (fun x : Fin 4 => ((gl P X x : ℝ) : EReal)) Finset.univ = ((mx (gl P X) : ℝ) : EReal) := by
  refine fold_max _ _ (fun x => EReal.coe_le_coe_iff.2 (le_mx _ x)) ?_
  obtain ⟨k, hk⟩ := mx_mem (gl P X)
  exact ⟨k, by rw [hk]⟩

theorem rGw {v : FVec Ideal S61440x4 .f32} (hv : ∀ k, v (ix2 r k) = ((gl P X k : ℝ) : EReal)) : sGw v (ix2 r 0) = ((gw P X : ℝ) : EReal) := by
  pointwise [sGw]
  simp only [hv]
  rw [show Ideal.ofBits FTy.f32 4286578688#32 = ⊥ from ninf]
  simp only [top_mx, bot_le, max_eq_right, ← EReal.coe_sub, exp_coe, coe_sum]
  have hp := sumexp_pos (gl P X) (mx (gl P X))
  simp only [div_coe _ _ hp.ne']
  refine fold_max _ _ (fun x => EReal.coe_le_coe_iff.2 ?_) ?_
  · unfold gw
    refine div_le_div_of_nonneg_right ?_ hp.le
    rw [← Real.exp_zero]
    exact Real.exp_le_exp.2 (sub_nonpos.2 (le_mx _ x))
  · obtain ⟨k, hk⟩ := mx_mem (gl P X)
    refine ⟨k, ?_⟩
    rw [hk, sub_self, Real.exp_zero]
    rfl

theorem rEl {v : FVec Ideal S61440x4x8 .f32} {t1 : IVec S61440 32} (hv : ∀ q e, v (ix3 r q e) = ((el P X q e : ℝ) : EReal)) (h1 : (t1 (ix1 r)).toNat = q.val)
    (e : Fin 8) : sEl v t1 (ix2 r e) = ((el P X q e : ℝ) : EReal) := by
  pointwise [sEl]
  simp only [hv]
  exact sum_lane (by norm_num) (fun q => el P X q e) q h1

theorem rPick {v : FVec Ideal S61440x8 .f32} {t2 : IVec S61440 32} (hv : ∀ e, v (ix2 r e) = ((el P X q e : ℝ) : EReal)) (h2 : (t2 (ix1 r)).toNat = e.val) :
    sPick v t2 (ix1 r) = ((el P X q e : ℝ) : EReal) := by
  pointwise [sPick]
  simp only [hv]
  exact sum_lane (by norm_num) (fun e => el P X q e) e h2

theorem two_mx (a b : ℝ) : Finset.fold max ⊥ (fun x : Fin 2 => if h : x.val < 1 then ((a : ℝ) : EReal) else ((b : ℝ) : EReal)) Finset.univ = ((max a b : ℝ) : EReal) := by
  refine fold_max _ _ (fun x => ?_) ?_
  · split
    · exact EReal.coe_le_coe_iff.2 (le_max_left _ _)
    · exact EReal.coe_le_coe_iff.2 (le_max_right _ _)
  · rcases le_total a b with h | h
    · exact ⟨1, by rw [max_eq_right h]; rfl⟩
    · exact ⟨0, by rw [max_eq_left h]; rfl⟩

section
variable {v w : FVec Ideal S61440 .f32} {g : FVec Ideal S61440x1 .f32} {a b c : ℝ} (hv : v (ix1 r) = ((a : ℝ) : EReal)) (hw : w (ix1 r) = ((b : ℝ) : EReal))
    (hg : g (ix2 r 0) = ((c : ℝ) : EReal))
include hv hw hg

theorem rTw0 : sTw v w g (ix2 r 0) = ((pr a b * c : ℝ) : EReal) := by
  pointwise [sTw]
  simp only [hv, hw, hg]
  rw [show Ideal.ofBits FTy.f32 4286578688#32 = ⊥ from ninf]
  simp only [two_mx, bot_le, max_eq_right, ← EReal.coe_sub, exp_coe, coe_sum, ← EReal.coe_add, Finset.univ_unique, Finset.sum_singleton]
  rw [div_coe _ _ (two_exp_ne _ _), ← EReal.coe_mul]
  rfl

theorem rTw1 : sTw v w g (ix2 r 1) = ((pr b a * c : ℝ) : EReal) := by
  pointwise [sTw]
  simp only [hv, hw, hg]
  rw [show Ideal.ofBits FTy.f32 4286578688#32 = ⊥ from ninf]
  simp only [two_mx, bot_le, max_eq_right, ← EReal.coe_sub, exp_coe, coe_sum, ← EReal.coe_add, Finset.univ_unique, Finset.sum_singleton]
  rw [div_coe _ _ (two_exp_ne _ _), ← EReal.coe_mul]
  unfold pr
  rw [max_comm b a, add_comm (Real.exp (b - max a b))]

end

theorem expert_word {a b : BitVec 32} (ha : a.toNat = q.val) (hb : b.toNat = e.val) : (IntOp.addi (IntOp.muli a 8#32) b).toNat = (ex q e).val := by
  show (a * 8#32 + b).toNat = q.val * 8 + e.val
  rw [BitVec.toNat_add, BitVec.toNat_mul, ha, hb]
  have : (8#32).toNat = 8 := rfl
  rw [this]
  omega

theorem one_gate (n : Fin 32) {w : BitVec 32} (hw : w.toNat = (ex q e).val) (x : ℝ) :
    Scalar.select (IntOp.cmpi CmpIPredicate.eq (BitVec.ofNat 32 n.val) w) ((x : ℝ) : EReal) 0 = ((if n = ex q e then x else 0 : ℝ) : EReal) := by
  have hn := n.isLt
  unfold Scalar.select
  by_cases h : n = ex q e
  · rw [if_pos ((eq_word (by omega) hw).2 (congrArg Fin.val h)), if_pos h]
  · rw [if_neg (fun h' => h (Fin.ext ((eq_word (by omega) hw).1 h'))), if_neg h, EReal.coe_zero]

theorem rGates {t1 t2 t3 : IVec S61440 32} {w : FVec Ideal S61440x2 .f32} {a b : ℝ} (h1 : (t1 (ix1 r)).toNat = q.val) (h2 : (t2 (ix1 r)).toNat = e.val) (h3 : (t3 (ix1 r)).toNat = f.val)
    (h0 : w (ix2 r 0) = ((a : ℝ) : EReal)) (h0' : w (ix2 r 1) = ((b : ℝ) : EReal)) (n : Fin 32) :
    sGates t1 t2 t3 w (ix2 r n) = (((if n = ex q e then a else 0) + (if n = ex q f then b else 0) : ℝ) : EReal) := by
  pointwise [sGates]
  rw [h0, h0', one_gate n (expert_word h1 h2), one_gate n (expert_word h1 h3), EReal.coe_add]

theorem rOut {gt : FVec Ideal S61440x32 .f32} {hd : FVec Ideal S61440x32x256 .f32} {a13 : FVec Ideal S32x256x1024 .f32} {held : IVec S61440 1} {a b : ℝ}
    (hg : ∀ n, gt (ix2 r n) = (((if n = ex q e then a else 0) + (if n = ex q f then b else 0) : ℝ) : EReal))
    (hh : ∀ n k, hd (ix3 r n k) = ((hid P X n k : ℝ) : EReal)) (h13 : ∀ n k d, a13 (ix3 n k d) = ((P.Wd n k d : ℝ) : EReal)) (d : Fin 1024) :
    sOut gt hd a13 held (ix2 r d) = Scalar.select (held (ix1 r)) ((a * dn P X (ex q e) d + b * dn P X (ex q f) d : ℝ) : EReal) 0 := by
  pointwise [sOut]
  congr 1
  simp only [hg, hh, h13, ← EReal.coe_mul, coe_sum]
  congr 1
  have e1 : ∀ n, ∑ k, P.Wd n k d * hid P X n k = dn P X n d := fun n => Finset.sum_congr rfl fun k _ => mul_comm _ _
  simp only [e1, add_mul, Finset.sum_add_distrib, ite_mul, zero_mul, Finset.sum_ite_eq', Finset.mem_univ, if_true]

/-- The reference's row. -/
theorem rAll {n : IVec S256 32} {a5 : FVec Ideal S491520x128 .f32} {a6 : FVec Ideal S1024 .f32} {a7 : FVec Ideal S1024x4 .f32} {a8 : FVec Ideal S4 .f32}
    {a9 : FVec Ideal S4x1024x8 .f32} {a10 : FVec Ideal S4x8 .f32} {a11 a12 : FVec Ideal S32x1024x256 .f32} {a13 : FVec Ideal S32x256x1024 .f32}
    (t1 : (sG (sBk n) (ix1 r)).toNat = q.val) (t2 : (sE1 (sBk n) (ix1 r)).toNat = e.val) (t3 : (sE2 (sBk n) (ix1 r)).toNat = f.val)
    (h5 : ∀ d : Fin 1024, a5 (ix2 ⟨r.val * 8 + d.val / 128, by omega⟩ ⟨d.val % 128, by omega⟩) = ((X d : ℝ) : EReal))
    (h6 : ∀ d, a6 (ix1 d) = ((P.G d : ℝ) : EReal)) (h7 : ∀ d k, a7 (ix2 d k) = ((P.WG d k : ℝ) : EReal)) (h8 : ∀ k, a8 (ix1 k) = ((P.bg k : ℝ) : EReal))
    (h9 : ∀ q d e, a9 (ix3 q d e) = ((P.WE q d e : ℝ) : EReal)) (h10 : ∀ q e, a10 (ix2 q e) = ((P.be q e : ℝ) : EReal))
    (h11 : ∀ n d h, a11 (ix3 n d h) = ((P.Wg n d h : ℝ) : EReal)) (h12 : ∀ n d h, a12 (ix3 n d h) = ((P.Wu n d h : ℝ) : EReal))
    (h13 : ∀ n k d, a13 (ix3 n k d) = ((P.Wd n k d : ℝ) : EReal)) (d : Fin 1024) :
    sAll n a5 a6 a7 a8 a9 a10 a11 a12 a13 (ix2 r d) = Scalar.select (sHeld n (ix1 r)) ((out P X q e f d : ℝ) : EReal) 0 := by
  have hh := rH (fun d => (rX a5 d).trans (h5 d)) h6
  have hEl := rEl (rEa hh h9 h10) t1
  have p2 := rPick hEl t2
  have p3 := rPick hEl t3
  have hgw := rGw (rGl hh h7 h8)
  unfold sAll
  rw [rOut (rGates t1 t2 t3 (rTw0 p2 p3 hgw) (rTw1 p2 p3 hgw)) (rHid hh h11 h12) h13]
  have e0 : pr (el P X q e) (el P X q f) * gw P X * dn P X (ex q e) d + pr (el P X q f) (el P X q e) * gw P X * dn P X (ex q f) d = out P X q e f d := by
    unfold out
    ring
  rw [e0]

end Cert.PlainIdeal.Hand
-- ==== Proof.MoeMine.lean ====
/- Which rows of the reference a bucket has, and the words the reference makes of them. -/
module

public import proofs.«01_k».proof.Proof.MoeRef

@[expose] public section

set_option maxRecDepth 16384

noncomputable section

namespace Cert.PlainIdeal.Hand

open Cert.PlainIdeal Cert.PlainIdeal.Gen Cert.Tables Cert.Slots
open Idealize.ShloMosaic Idealize.ShloMosaic.Routing
open Cert.ExpertsIdeal.Hand (Sched slot slot_def)
open Cert.KernelIdeal.Hand (wordAt)

variable (n : IVec S256 32) (h : Sched n)
include h

theorem tiles_at (b : Fin 256) : sTiles n (ValueIdx.ix1 b) = BitVec.ofNat 32 (tiles (wordAt (n := 256) n) b.val) :=
  tiles_wordP bcast_S_S256 n _ b rfl (h.cnt b.val b.isLt)

theorem first_at (b : Fin 256) : sFirst n (ValueIdx.ix1 b) = BitVec.ofNat 32 (from' (wordAt (n := 256) n) b.val * 256) := by
  have hT := fun b => tiles_at n h b
  unfold sFirst
  generalize sTiles n = T at hT ⊢
  have e := ends_word (wordAt (n := 256) n) T hT (broadcastInDim S_ ![] bcast_S_S_ (constantI S_ 32 0#32)) rfl reduceWindows_S256_S256_w256s1p255_0 h_S_ b
  have e2 : ∀ v : IVec S_ 32, broadcastInDim S256 ![] bcast_S_S256 v (ValueIdx.ix1 b) = v ValueIdx.ix0 := fun v => bc0 _ _ _
  refine (congrArg₂ IntOp.muli (congrArg₂ IntOp.subi e (hT b)) (e2 _)).trans ?_
  show (BitVec.ofNat 32 (ends (wordAt (n := 256) n) b.val) - BitVec.ofNat 32 (tiles (wordAt (n := 256) n) b.val)) * 256#32 = _
  rw [ofNat32_sub (tiles_le_ends _ _), show (256#32 : BitVec 32) = BitVec.ofNat 32 256 from rfl, ← BitVec.ofNat_mul]
  rfl

omit h in
theorem sMine_at (r : Fin 61440) (b : Fin 256) : sMine n (ValueIdx.ix2 r b)
    = IntOp.andi (IntOp.cmpi .sge (BitVec.ofNat 32 r.val) (sFirst n (ValueIdx.ix1 b))) (IntOp.cmpi .slt (BitVec.ofNat 32 r.val) (sFirst n (ValueIdx.ix1 b) + n (ValueIdx.ix1 b))) := by
  have e1 : ∀ v : IVec S61440 32, broadcastInDim S61440x256 ![0, 1] bcast_S61440x1_S61440x256_0_1 (broadcastInDim S61440x1 ![0] bcast_S61440_S61440x1_0 v) (ValueIdx.ix2 r b) = v (ValueIdx.ix1 r) :=
    fun v => bcRows _ _ v r b
  have e2 : ∀ v : IVec S256 32, broadcastInDim S61440x256 ![0, 1] bcast_S1x256_S61440x256_0_1 (broadcastInDim S1x256 ![1] bcast_S256_S1x256_1 v) (ValueIdx.ix2 r b) = v (ValueIdx.ix1 b) :=
    fun v => bcCols _ _ v r b
  exact congrArg₂ IntOp.andi (congrArg₂ (IntOp.cmpi .sge) (e1 _) (e2 _)) (congrArg₂ (IntOp.cmpi .slt) (e1 _) (e2 _))

theorem mine_iff (r : Fin 61440) (b : Fin 256) : sMine n (ValueIdx.ix2 r b) = 1#1 ↔
    from' (wordAt (n := 256) n) b.val * 256 ≤ r.val ∧ r.val < from' (wordAt (n := 256) n) b.val * 256 + wordAt (n := 256) n b.val := by
  have hc := h.cnt b.val b.isLt
  have hf : from' (wordAt (n := 256) n) b.val ≤ 240 := (Nat.sub_le _ _).trans (Cert.ExpertsIdeal.Hand.ends_240 n h b.isLt)
  have hr := r.isLt
  rw [sMine_at, first_at n h b, word_of n b]
  generalize from' (wordAt (n := 256) n) b.val = x at hf ⊢
  generalize wordAt (n := 256) n b.val = y at hc ⊢
  rw [BitVec.ofNat_add_ofNat]
  exact between (by omega) (by omega) (by omega)

variable {r : Fin 61440} {b : Fin 256}
  (hb : from' (wordAt (n := 256) n) b.val ≤ slot n (r.val / 256) ∧ slot n (r.val / 256) < ends (wordAt (n := 256) n) b.val)
include hb

/-- A row's bucket, where it has one, is its tile's. -/
theorem mine_own (b' : Fin 256) : sMine n (ValueIdx.ix2 r b') = 1#1 ↔
    b' = b ∧ r.val % 256 < valid' (wordAt (n := 256) n) b.val (slot n (r.val / 256)) ∧ r.val / 256 < ends (wordAt (n := 256) n) 255 := by
  rw [mine_iff n h r b', row_iff (wordAt (n := 256) n) (slot_def n _) hb.1 hb.2 h.pos (by omega)]
  constructor
  · rintro ⟨h1, h2⟩
    exact ⟨Fin.ext h1, h2⟩
  · rintro ⟨h1, h2⟩
    exact ⟨congrArg Fin.val h1, h2⟩

theorem held_at : sHeld n (ValueIdx.ix1 r) = sMine n (ValueIdx.ix2 r b) :=
  any_one (n := 61440) (m := 256) (sMine n) reducesTo_S61440x256_S61440_d1 h_S_ r b fun i hi => ((mine_own n h hb i).1 hi).1

theorem bk_at (hh : sMine n (ValueIdx.ix2 r b) = 1#1) : sBk n (ValueIdx.ix1 r) = BitVec.ofNat 32 b.val := by
  unfold sBk
  refine (pick_one (n := 61440) (m := 256) (sMine n) _ _ (fun i => ?_) reducesTo_S61440x256_S61440_d1 h_S_ r b (fun i hi => ((mine_own n h hb i).1 hi).1) (Or.inl hh)).trans ?_
  · rw [bc0]; rfl
  · refine (broadcastInDim_apply _ bcast_S256_S61440x256_1 _ _ (ValueIdx.ix1 b) fun a => ?_).trans rfl
    match a with
    | ⟨0, _⟩ => rfl

theorem bk_none (hh : ¬ sMine n (ValueIdx.ix2 r b) = 1#1) : sBk n (ValueIdx.ix1 r) = 0#32 := by
  have hn : ∀ i : Fin 256, ¬ sMine n (ValueIdx.ix2 r i) = 1#1 := fun i hi => hh ((mine_own n h hb b).2 ⟨rfl, ((mine_own n h hb i).1 hi).2⟩)
  have e : (broadcastInDim S61440x256 ![1] bcast_S256_S61440x256_1 (iotaInDim S256 32 0)) (ValueIdx.ix2 r (0 : Fin 256)) = 0#32 := by
    refine (broadcastInDim_apply _ bcast_S256_S61440x256_1 _ _ (ValueIdx.ix1 (0 : Fin 256)) fun a => ?_).trans rfl
    match a with
    | ⟨0, _⟩ => rfl
  unfold sBk
  refine (pick_one (n := 61440) (m := 256) (sMine n) _ _ (fun i => ?_) reducesTo_S61440x256_S61440_d1 h_S_ r (0 : Fin 256) (fun i hi => absurd hi (hn i)) (Or.inr e)).trans e
  rw [bc0]; rfl

omit h hb in
/-- A bucket's group and experts, from its word. -/
theorem words_at {B : IVec S61440 32} {k : ℕ} (hk : k < 256) (hB : B (ValueIdx.ix1 r) = BitVec.ofNat 32 k) :
    (sG B (ValueIdx.ix1 r)).toNat = k / 64 ∧ (sE1 B (ValueIdx.ix1 r)).toNat = k % 64 / 8 ∧ (sE2 B (ValueIdx.ix1 r)).toNat = k % 8 := by
  have e1 : sG B (ValueIdx.ix1 r) = BitVec.ofNat 32 (k / 64) := pyDiv_ap _ _ _ _ (a := k) (b := 64) hB rfl (by omega) (by omega) (by omega)
  have e2 : sE1 B (ValueIdx.ix1 r) = BitVec.ofNat 32 (k / 8 % 8) :=
    pyRem_ap _ _ _ _ (a := k / 8) (b := 8) (pyDiv_ap _ _ _ _ (a := k) (b := 8) hB rfl (by omega) (by omega) (by omega)) rfl (by omega) (by omega) (by omega)
  have e3 : sE2 B (ValueIdx.ix1 r) = BitVec.ofNat 32 (k % 8) := pyRem_ap _ _ _ _ (a := k) (b := 8) hB rfl (by omega) (by omega) (by omega)
  refine ⟨?_, ?_, ?_⟩
  · rw [e1, BitVec.toNat_ofNat]; omega
  · rw [e2, BitVec.toNat_ofNat]; omega
  · rw [e3, BitVec.toNat_ofNat]; omega

end Cert.PlainIdeal.Hand
-- ==== Proof.MoeVal.lean ====
/- The array the experts' call leaves is the reference's. -/
module

public import proofs.«01_k».proof.Proof.MoeBlk
public import proofs.«01_k».proof.Proof.MoeRefRow
public import proofs.«01_k».proof.Proof.MoeMine

@[expose] public section

set_option maxRecDepth 16384

noncomputable section

namespace Cert.ExpertsIdeal.Hand

open Cert.ExpertsIdeal Cert.ExpertsIdeal.Gen Cert.Moe
open Idealize.ShloMosaic Idealize.ShloMosaic.TcCoe Idealize.SL.Sem

/-- The load of a whole block. -/
theorem ld1_whole {s : Shape} {e : EltTy} (X : s.Idx → Elt Ideal e) (off : Fin s.rank → ℕ) (inb : ∀ a, off a + s.size a ≤ s.size a) (h0 : ∀ a, off a = 0) (y : s.Idx) :
    ld1 X (Rect.unit (s := s) off s.size inb).toLoadRect y = X y :=
  congrArg X (funext fun a => Fin.ext (by show off a + 1 * (y a).val = (y a).val; rw [h0]; omega))

section
variable {x0 : Vec Ideal S2048x128 .f32} {x1 : Vec Ideal S1x1024 .f32} {x2 : Vec Ideal S1024x128 .bf16} {x3 : Vec Ideal S1x128 .f32} {x4 x5 : Vec Ideal S1x1024x256 .bf16} {x6 : Vec Ideal S1x256x1024 .bf16}
    {x7 x8 : Vec Ideal S1x1024x256 .bf16} {x9 : Vec Ideal S1x256x1024 .bf16}
    {wv wg wl wh : BitVec 32} {r : Fin 256} {P : Weights} {X : Fin 1024 → ℝ} {W : Fin 1024 → Fin 128 → ℝ} {B : Fin 128 → ℝ} {q : Fin 4} {e f : Fin 8}

/-- A row of a tile from the blocks. -/
theorem body_row (hR : Router P W B)
    (hX : ∀ d : Fin 1024, x0 (ix2 ⟨r.val * 8 + d.val / 128, by omega⟩ ⟨d.val % 128, by omega⟩) = ((X d : ℝ) : EReal))
    (h1 : ∀ d, x1 (ix2 0 d) = ((P.G d : ℝ) : EReal))
    (h2 : ∀ d c, x2 (ix2 d c) = ((W d c : ℝ) : EReal))
    (h3 : ∀ c, x3 (ix2 0 c) = ((B c : ℝ) : EReal))
    (h4 : ∀ d h, x4 (ix3 0 d h) = ((P.Wg (ex q e) d h : ℝ) : EReal))
    (h5 : ∀ d h, x5 (ix3 0 d h) = ((P.Wu (ex q e) d h : ℝ) : EReal))
    (h6 : ∀ h d, x6 (ix3 0 h d) = ((P.Wd (ex q e) h d : ℝ) : EReal))
    (h7 : ∀ d h, x7 (ix3 0 d h) = ((P.Wg (ex q f) d h : ℝ) : EReal))
    (h8 : ∀ d h, x8 (ix3 0 d h) = ((P.Wu (ex q f) d h : ℝ) : EReal))
    (h9 : ∀ h d, x9 (ix3 0 h d) = ((P.Wd (ex q f) h d : ℝ) : EReal))
    (hg : wg.toNat = q.val) (he : wl.toNat = e.val) (hf : wh.toNat = f.val) (d : Fin 1024) :
    k0_pay1 (yloE x0 x1 x2 x3 x4 x5 x6 wv wg wl wh) (yhiE x0 x1 x2 x3 x7 x8 x9 wv wg wl wh) (ix2 r d)
      = Scalar.select (IntOp.cmpi CmpIPredicate.slt (BitVec.ofNat 32 r.val) wv) ((out P X q e f d : ℝ) : EReal) 0 := by
  unfold yloE yhiE
  refine row_out hR (fun d => (row12 x0 r d).trans (hX d)) (fun d => (ld1_whole x1 _ _ (by decide) _).trans (h1 d)) (fun d c => (ld1_whole x2 _ _ (by decide) _).trans (h2 d c))
    (fun c => (ld1_whole x3 _ _ (by decide) _).trans (h3 c)) (fun d h => (ld1_whole x4 _ _ (by decide) _).trans (h4 d h)) (fun d h => (ld1_whole x5 _ _ (by decide) _).trans (h5 d h))
    (fun h d => (ld1_whole x6 _ _ (by decide) _).trans (h6 h d)) (fun d h => (ld1_whole x7 _ _ (by decide) _).trans (h7 d h)) (fun d h => (ld1_whole x8 _ _ (by decide) _).trans (h8 d h))
    (fun h d => (ld1_whole x9 _ _ (by decide) _).trans (h9 h d)) hg he hf d

end

variable (m : (ℓ : Loc nD τ sig) → Buf (Elt Ideal) ℓ) (c : Dev nD)

abbrev arr1 : S491520x128.Idx → EReal := m ((c : Thread nD τ).loc main_arg1)
abbrev arr2 : S1024.Idx → EReal := m ((c : Thread nD τ).loc main_arg2)
abbrev arr3 : S1024x4.Idx → EReal := m ((c : Thread nD τ).loc main_arg3)
abbrev arr4 : S4.Idx → EReal := m ((c : Thread nD τ).loc main_arg4)
abbrev arr5 : S4x1024x8.Idx → EReal := m ((c : Thread nD τ).loc main_arg5)
abbrev arr6 : S4x8.Idx → EReal := m ((c : Thread nD τ).loc main_arg6)
abbrev arr7 : S32x1024x256.Idx → EReal := m ((c : Thread nD τ).loc main_arg7)
abbrev arr8 : S32x1024x256.Idx → EReal := m ((c : Thread nD τ).loc main_arg8)
abbrev arr9 : S32x256x1024.Idx → EReal := m ((c : Thread nD τ).loc main_arg9)

/-- The rows and the weights are real numbers. -/
structure Reals : Prop where
  a1 : ∀ x, arr1 m c x = ((EReal.toReal (arr1 m c x) : ℝ) : EReal)
  a2 : ∀ x, arr2 m c x = ((EReal.toReal (arr2 m c x) : ℝ) : EReal)
  a3 : ∀ x, arr3 m c x = ((EReal.toReal (arr3 m c x) : ℝ) : EReal)
  a4 : ∀ x, arr4 m c x = ((EReal.toReal (arr4 m c x) : ℝ) : EReal)
  a5 : ∀ x, arr5 m c x = ((EReal.toReal (arr5 m c x) : ℝ) : EReal)
  a6 : ∀ x, arr6 m c x = ((EReal.toReal (arr6 m c x) : ℝ) : EReal)
  a7 : ∀ x, arr7 m c x = ((EReal.toReal (arr7 m c x) : ℝ) : EReal)
  a8 : ∀ x, arr8 m c x = ((EReal.toReal (arr8 m c x) : ℝ) : EReal)
  a9 : ∀ x, arr9 m c x = ((EReal.toReal (arr9 m c x) : ℝ) : EReal)

/-- The weights as real numbers. -/
def wts : Weights where
  G d := (arr2 m c (ix1 d)).toReal
  WG d k := (arr3 m c (ix2 d k)).toReal
  bg k := (arr4 m c (ix1 k)).toReal
  WE q d e := (arr5 m c (ix3 q d e)).toReal
  be q e := (arr6 m c (ix2 q e)).toReal
  Wg n d h := (arr7 m c (ix3 n d h)).toReal
  Wu n d h := (arr8 m c (ix3 n d h)).toReal
  Wd n h d := (arr9 m c (ix3 n h d)).toReal

/-- The router's columns and biases as real numbers. -/
def rw5 (d : Fin 1024) (k : Fin 128) : ℝ := ((V m c main_v5 : S1024x128.Idx → EReal) (ix2 d k)).toReal
def rb10 (k : Fin 128) : ℝ := ((V m c main_v10 : S1x128.Idx → EReal) (ix2 0 k)).toReal

theorem router : Router (wts m c) (rw5 m c) (rb10 m c) where
  wg d k := congrArg EReal.toReal (v5_g m c d k)
  bg k := congrArg EReal.toReal (v10_g m c k)
  we d q e := congrArg EReal.toReal (v5_e m c d q e)
  be q e := congrArg EReal.toReal (v10_e m c q e)

/-- Every lane is a group's, an expert's or an empty one. -/
theorem lanes (k : Fin 128) : (∃ a, k = glane a) ∨ (∃ q e, k = lane q e) ∨ ((4 ≤ k.val ∧ k.val < 8) ∨ 40 ≤ k.val) := by
  by_cases h : k.val < 4
  · exact .inl ⟨⟨k.val, h⟩, rfl⟩
  · by_cases h' : 8 ≤ k.val ∧ k.val < 40
    · refine .inr (.inl ⟨⟨(k.val - 8) / 8, by omega⟩, ⟨(k.val - 8) % 8, by omega⟩, Fin.ext ?_⟩)
      show k.val = 8 + (k.val - 8) / 8 * 8 + (k.val - 8) % 8
      omega
    · exact .inr (.inr (by omega))

variable {m c}

theorem rw5_eq (hF : Reals m c) (d : Fin 1024) (k : Fin 128) : (V m c main_v5 : S1024x128.Idx → EReal) (ix2 d k) = ((rw5 m c d k : ℝ) : EReal) := by
  unfold rw5
  rcases lanes k with ⟨a, rfl⟩ | ⟨q, e, rfl⟩ | h
  · rw [v5_g]; exact hF.a3 _
  · rw [v5_e]; exact hF.a5 _
  · rw [v5_z m c d k h]; rfl

theorem rb10_eq (hF : Reals m c) (k : Fin 128) : (V m c main_v10 : S1x128.Idx → EReal) (ix2 0 k) = ((rb10 m c k : ℝ) : EReal) := by
  unfold rb10
  rcases lanes k with ⟨a, rfl⟩ | ⟨q, e, rfl⟩ | h
  · rw [v10_g]; exact hF.a4 _
  · rw [v10_e]; exact hF.a6 _
  · rw [v10_z m c k h]; rfl

variable (m c) in
/-- The reference's rows of the launch memory's arrays. -/
def refRows : FVec Ideal Cert.PlainIdeal.S61440x1024 .f32 :=
  Cert.PlainIdeal.Hand.sAll (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))

theorem cond1_eq (i : grid0.Coords) (w : BitVec 32) : k0_cond1 i w = 1#1 ↔ IntOp.cmpi .slt (BitVec.ofNat 32 (i 0).val) w = 1#1 := by
  unfold k0_cond1
  show IntOp.cmpi .ne (BitVec.setWidth 32 (IntOp.cmpi .slt (BitVec.ofNat 32 (i 0).val) w)) 0#32 = 1#1 ↔ _
  generalize IntOp.cmpi .slt (BitVec.ofNat 32 (i 0).val) w = b
  revert b
  decide

theorem slt_iff {a b : ℕ} (ha : a < 2 ^ 31) (hb : b < 2 ^ 31) : IntOp.cmpi .slt (BitVec.ofNat 32 a) (BitVec.ofNat 32 b) = 1#1 ↔ a < b := by
  have ea : (BitVec.ofNat 32 a).toNat = a := ofNat_small (by omega)
  have eb : (BitVec.ofNat 32 b).toNat = b := ofNat_small (by omega)
  rw [WordCmp.cmpi_slt_of_lt (by rw [ea]; omega) (by rw [eb]; omega), ea, eb]
  by_cases h : a < b
  · simp [h]
  · simp [h]

theorem bit_zero {b : BitVec 1} (h : ¬ b = 1#1) : b = 0#1 := by revert b; decide

/-! ## The reference's rows of a tile -/

variable (m) in
/-- A row's numbers. -/
def rowX (r : Fin 61440) (d : Fin 1024) : ℝ := (arr1 m 0 (ix2 ⟨r.val * 8 + d.val / 128, by omega⟩ ⟨d.val % 128, by omega⟩)).toReal

abbrev qB (b : Fin 256) : Fin 4 := ⟨b.val / 64, by omega⟩
abbrev eB (b : Fin 256) : Fin 8 := ⟨b.val % 64 / 8, by omega⟩
abbrev fB (b : Fin 256) : Fin 8 := ⟨b.val % 8, by omega⟩

theorem ref_row (hF : Reals m 0) (r : Fin 61440) (d : Fin 1024) (b : Fin 256)
    (hB : Cert.PlainIdeal.Hand.sBk (cntM m 0) (ValueIdx.ix1 r) = BitVec.ofNat 32 b.val) :
    refRows m 0 (ix2 r d) = Scalar.select (Cert.PlainIdeal.Hand.sHeld (cntM m 0) (ValueIdx.ix1 r)) ((out (wts m 0) (rowX m r) (qB b) (eB b) (fB b) d : ℝ) : EReal) 0 := by
  obtain ⟨w1, w2, w3⟩ := Cert.PlainIdeal.Hand.words_at (r := r) b.isLt hB
  rw [← Cert.Slots.one_ix] at w1 w2 w3 ⊢
  exact Cert.PlainIdeal.Hand.rAll (r := r) (n := cntM m 0) (P := wts m 0) (X := rowX m r) (q := qB b) (e := eB b) (f := fB b) w1 w2 w3 (fun d => hF.a1 _) (fun d => hF.a2 _) (fun d k => hF.a3 _) (fun k => hF.a4 _)
      (fun q d e => hF.a5 _) (fun q e => hF.a6 _) (fun n d h => hF.a7 _) (fun n d h => hF.a8 _) (fun n k d => hF.a9 _) d

/-! ## The tables' words at a point -/

section
open Cert.Tables Cert.Slots
open Cert.KernelIdeal.Hand (wordAt lastH_at)

variable (hS : SchedM m) {x : S240.Idx} {t : Fin 240} (hx : (x 0).val = t.val) {b : Fin 256}
  (hb : from' (wordAt (n := 256) (cntM m 0)) b.val ≤ slot (cntM m 0) t.val ∧ slot (cntM m 0) t.val < ends (wordAt (n := 256) (cntM m 0)) b.val)

include hx in
theorem at_of : x = ValueIdx.ix1 t := (ix1_of x).trans (congrArg ValueIdx.ix1 (Fin.ext hx))

include hS hx hb in
theorem wd1 : (tbl m 1 : S240.Idx → BitVec 32) x = BitVec.ofNat 32 (b.val / 64) := by
  rw [show tbl m 1 = V m 0 main_v52 from rfl, V_main_v52, at_of hx]
  exact grp_word (cntM m 0) (hS 0) hb
include hS hx hb in
theorem wd2 : (tbl m 2 : S240.Idx → BitVec 32) x = BitVec.ofNat 32 (b.val % 64 / 8) := by
  rw [show tbl m 2 = V m 0 main_v57 from rfl, V_main_v57, at_of hx]
  exact lo_word (cntM m 0) (hS 0) hb
include hS hx hb in
theorem wd3 : (tbl m 3 : S240.Idx → BitVec 32) x = BitVec.ofNat 32 (b.val % 8) := by
  rw [show tbl m 3 = V m 0 main_v61 from rfl, V_main_v61, at_of hx]
  exact hi_word (cntM m 0) (hS 0) hb
include hS hx hb in
theorem wd4 : (tbl m 4 : S240.Idx → BitVec 32) x = BitVec.ofNat 32 (valid' (wordAt (n := 256) (cntM m 0)) b.val (slot (cntM m 0) t.val)) := by
  rw [show tbl m 4 = V m 0 main_v48 from rfl, V_main_v48, at_of hx]
  exact valid_word (cntM m 0) (hS 0) hb
include hS in
theorem wd5 : (tbl m 5 : S1.Idx → BitVec 32) (ValueIdx.ix1 (0 : Fin 1)) = BitVec.ofNat 32 (tot m) := by
  rw [show tbl m 5 = V m 0 main_v62 from rfl, V_main_v62]
  exact (word_of _ (0 : Fin 1)).trans (congrArg (BitVec.ofNat 32) (lastH_at (cntM m 0) (hS 0).cnt))

variable {r : Fin 61440} (hb' : from' (wordAt (n := 256) (cntM m 0)) b.val ≤ slot (cntM m 0) (r.val / 256) ∧ slot (cntM m 0) (r.val / 256) < ends (wordAt (n := 256) (cntM m 0)) b.val)

include hS hb' in
theorem ref_on (hF : Reals m 0) (d : Fin 1024) (hv : r.val % 256 < valid' (wordAt (n := 256) (cntM m 0)) b.val (slot (cntM m 0) (r.val / 256))) (ht : r.val / 256 < tot m) :
    refRows m 0 (ix2 r d) = ((out (wts m 0) (rowX m r) (qB b) (eB b) (fB b) d : ℝ) : EReal) := by
  have hm := (Cert.PlainIdeal.Hand.mine_own (cntM m 0) (hS 0) hb' b).2 ⟨rfl, hv, ht⟩
  rw [ref_row hF r d b (Cert.PlainIdeal.Hand.bk_at (cntM m 0) (hS 0) hb' hm), Cert.PlainIdeal.Hand.held_at (cntM m 0) (hS 0) hb', hm]
  rfl

include hS hb' in
theorem ref_off (hF : Reals m 0) (d : Fin 1024) (hv : ¬ (r.val % 256 < valid' (wordAt (n := 256) (cntM m 0)) b.val (slot (cntM m 0) (r.val / 256)) ∧ r.val / 256 < tot m)) :
    refRows m 0 (ix2 r d) = 0 := by
  have hm : ¬ Cert.PlainIdeal.Hand.sMine (cntM m 0) (ValueIdx.ix2 r b) = 1#1 := fun h => hv ((Cert.PlainIdeal.Hand.mine_own (cntM m 0) (hS 0) hb' b).1 h).2
  rw [ref_row hF r d 0 (Cert.PlainIdeal.Hand.bk_none (cntM m 0) (hS 0) hb' hm), Cert.PlainIdeal.Hand.held_at (cntM m 0) (hS 0) hb', bit_zero hm]
  rfl

theorem valid_small (cnt : ℕ → ℕ) (b s : ℕ) : valid' cnt b s < 2 ^ 31 := lt_of_le_of_lt (Nat.min_le_left _ _) (by decide)

end

/-- What the body leaves at a point is the reference's rows of that tile. -/
theorem outs_at (hS : SchedM m) (hF : Reals m c) (t : Fin (cfgM m (ok_of m hS)).N) (k : Fin 2048) (l : Fin 128) (ht : t.val < 240) :
    (outsAt0 m (ok_of m hS) c t : S2048x128.Idx → EReal) (ix2 k l)
      = refRows m c (ix2 ⟨t.val * 256 + k.val / 8, by omega⟩ ⟨k.val % 8 * 128 + l.val, by omega⟩) := by
  obtain rfl : c = 0 := Subsingleton.elim _ _
  set i := grid0.coords t with hi
  have hiv : (i 0).val = t.val := coords_val t
  have hr : (t.val * 256 + k.val / 8) / 256 = t.val := by omega
  have hr' : (t.val * 256 + k.val / 8) % 256 = k.val / 8 := by omega
  have hpx : ((pt i) 0).val = (⟨t.val, ht⟩ : Fin 240).val := hiv
  obtain ⟨b, hb⟩ := own_of (cntM m 0) (hS 0) ⟨t.val, ht⟩
  have w1 := wd1 hS hpx hb
  have w2 := wd2 hS hpx hb
  have w3 := wd3 hS hpx hb
  have w4 := wd4 hS hpx hb
  have w5 := wd5 hS
  have hb' := hb
  rw [show (⟨t.val, ht⟩ : Fin 240).val = (⟨t.val * 256 + k.val / 8, by omega⟩ : Fin 61440).val / 256 from hr.symm] at hb'
  have on := ref_on hS hb' hF ⟨k.val % 8 * 128 + l.val, by omega⟩
  have off := ref_off hS hb' hF ⟨k.val % 8 * 128 + l.val, by omega⟩
  have hvs := valid_small (Cert.KernelIdeal.Hand.wordAt (n := 256) (cntM m 0)) b.val (slot (cntM m 0) t.val)
  have htot : tot m ≤ 240 := (hS 0).le
  dsimp only at on off w4
  rw [hr, hr'] at on off
  generalize Cert.Slots.valid' (Cert.KernelIdeal.Hand.wordAt (n := 256) (cntM m 0)) b.val (slot (cntM m 0) t.val) = v at on off w4 hvs
  unfold outsAt0 bodyOut
  rw [word1, word2, word3, word4, word5]
  have hcond : k0_cond1 i ((tbl m 5 : S1.Idx → BitVec 32) (ValueIdx.ix1 (0 : Fin 1))) = 1#1 ↔ t.val < tot m := by
    rw [w5, cond1_eq, hiv]
    exact slt_iff (by omega) (by omega)
  by_cases hc : k0_cond1 i ((tbl m 5 : S1.Idx → BitVec 32) (ValueIdx.ix1 (0 : Fin 1))) = 1#1
  · rw [if_pos hc]
    have hlt := hcond.1 hc
    have hrow : refRows m 0 (ix2 ⟨t.val * 256 + k.val / 8, by omega⟩ ⟨k.val % 8 * 128 + l.val, by omega⟩)
        = Scalar.select (IntOp.cmpi CmpIPredicate.slt (BitVec.ofNat 32 (k.val / 8)) ((tbl m 4 : S240.Idx → BitVec 32) (pt i)))
          ((out (wts m 0) (rowX m ⟨t.val * 256 + k.val / 8, by omega⟩) (qB b) (eB b) (fB b) ⟨k.val % 8 * 128 + l.val, by omega⟩ : ℝ) : EReal) 0 := by
      rw [w4]
      by_cases hv : k.val / 8 < v
      · rw [on hv hlt, (slt_iff (by omega) hvs).2 hv]
        rfl
      · rw [off (fun h => hv h.1), bit_zero (fun h => hv ((slt_iff (by omega) hvs).1 h))]
        rfl
    rw [hrow]
    have h0 : cc0_transform_0 k0_off1_inb numel1_S1 (tbl m) i = ![t.val, 0] := by
      rw [tr0 m i, tbl0 m hS]
      have e1 : ((pt i) 0).val = t.val := hiv
      rw [e1, min_eq_left (by omega)]
    have hq : BitVec.toNat ((tbl m 1 : S240.Idx → BitVec 32) (pt i)) = (qB b).val := by
      rw [w1]
      exact ofNat_small (by omega)
    have he : BitVec.toNat ((tbl m 2 : S240.Idx → BitVec 32) (pt i)) = (eB b).val := by
      rw [w2]
      exact ofNat_small (by omega)
    have hf : BitVec.toNat ((tbl m 3 : S240.Idx → BitVec 32) (pt i)) = (fB b).val := by
      rw [w3]
      exact ofNat_small (by omega)
    have hlo : nlo m i = (ex (qB b) (eB b)).val := congrArg₂ (fun a b => a * 8 + b) hq he
    have hhi : nhi m i = (ex (qB b) (fB b)).val := congrArg₂ (fun a b => a * 8 + b) hq hf
    have t4 := tr4 m hS i
    have t5 := tr5 m hS i
    have t6 := tr6 m hS i
    have t7 := tr7 m hS i
    have t8 := tr8 m hS i
    have t9 := tr9 m hS i
    rw [hlo] at t4 t5 t6
    rw [hhi] at t7 t8 t9
    refine body_row (P := wts m 0) (X := rowX m ⟨t.val * 256 + k.val / 8, by omega⟩) (W := rw5 m 0) (B := rb10 m 0) (q := qB b) (e := eB b) (f := fB b) (r := ⟨k.val / 8, by omega⟩) (router m 0) (fun d => ?_) (fun d => ?_) (fun d k => ?_) (fun k => ?_)
      (fun d h => ?_) (fun d h => ?_) (fun h d => ?_) (fun d h => ?_) (fun d h => ?_) (fun h d => ?_) hq he hf ⟨k.val % 8 * 128 + l.val, by omega⟩
    · refine (blk0 m _ 0 t _ _ t.val h0 (by dsimp only; omega)).trans ?_
      refine Eq.trans ?_ (hF.a1 _)
      exact congrArg (arr1 m 0) (congrArg₂ ix2 (Fin.ext (by show t.val * 2048 + (k.val / 8 * 8 + d.val / 128) = (t.val * 256 + k.val / 8) * 8 + d.val / 128; omega)) rfl)
    · exact (blk1 m _ 0 t _).trans ((V_main_v70 m 0 d).trans (hF.a2 _))
    · exact (blk2 m _ 0 t _).trans (rw5_eq hF d k)
    · exact (blk3 m _ 0 t _).trans (rb10_eq hF k)
    · exact (blk4 m _ 0 t _ t4 d h).trans (hF.a7 _)
    · exact (blk5 m _ 0 t _ t5 d h).trans (hF.a8 _)
    · exact (blk6 m _ 0 t _ t6 h d).trans (hF.a9 _)
    · exact (blk7 m _ 0 t _ t7 d h).trans (hF.a7 _)
    · exact (blk8 m _ 0 t _ t8 d h).trans (hF.a8 _)
    · exact (blk9 m _ 0 t _ t9 h d).trans (hF.a9 _)
  · rw [if_neg hc, off (fun h => hc (hcond.2 h.2))]
    show (Ideal.ofBits .f32 0x00000000#32 : EReal) = 0
    simp [Ideal.ofBits, Ideal.ieee]

theorem cast_rows (v : FVec Ideal Cert.PlainIdeal.S61440x1024 .f32) (t : ℕ) (ht : t < 240) (k : Fin 2048) (l : Fin 128) :
    shapeCast Cert.PlainIdeal.S491520x128 v Cert.PlainIdeal.Gen.shapeCasts_S61440x1024_S491520x128 (ix2 ⟨t * 2048 + k.val, by omega⟩ l)
      = v (ix2 ⟨t * 256 + k.val / 8, by omega⟩ ⟨k.val % 8 * 128 + l.val, by omega⟩) := by
  pointwise
  refine congrArg v (congrArg₂ ix2 (Fin.ext ?_) (Fin.ext ?_)) <;> dsimp only <;> omega

theorem split_ix (y : S2048x128.Idx) : ∃ (k : Fin 2048) (l : Fin 128), y = ix2 k l :=
  ⟨⟨(y 0).val, (y 0).isLt⟩, ⟨(y 1).val, (y 1).isLt⟩, funext fun a => by fin_cases a <;> rfl⟩

/-- The array after the run. -/
theorem final10 (hS : SchedM m) (hF : Reals m c) :
    ((dats m (ok_of m hS) 0 c).arrAt 10 (cfgM m (ok_of m hS)).N : S491520x128.Idx → EReal)
      = shapeCast Cert.PlainIdeal.S491520x128 (refRows m c) Cert.PlainIdeal.Gen.shapeCasts_S61440x1024_S491520x128 := by
  refine (dats m (ok_of m hS) 0 c).arrAt_eq_of_emb 10 _ (fun t hf y => ?_) (cover10 m (ok_of m hS))
  have ht : t.val < 240 := lt_of_lt_of_eq t.isLt (show grid0.N = 240 by decide +kernel)
  obtain ⟨k, l, rfl⟩ : ∃ (k : Fin 2048) (l : Fin 128), y = (ix2 k l : S2048x128.Idx) := split_ix y
  refine Eq.trans (b := (outsAt0 m (ok_of m hS) c t : S2048x128.Idx → EReal) (ix2 k l)) ?_ ?_
  · exact congrFun (after0_10 m (ok_of m hS) c t) (ix2 k l)
  · rw [outs_at hS hF t k l ht, ← cast_rows (refRows m c) t.val ht k l]
    exact congrArg (shapeCast Cert.PlainIdeal.S491520x128 (refRows m c) Cert.PlainIdeal.Gen.shapeCasts_S61440x1024_S491520x128) (emb10 m (ok_of m hS) t k l (by omega)).symm

end Cert.ExpertsIdeal.Hand
-- ==== Proof.MoeFin.lean ====
/- Finite arguments are real numbers. -/
module

public import proofs.«01_k».proof.Proof.MoeOk
public import proofs.«01_k».proof.Proof.MoeReal
public import proofs.«01_k».proof.Pre_tiled_finite
public import proofs.«01_k».proof.Proof.Gen.Pre_tiled_finite

@[expose] public section

set_option maxRecDepth 16384

noncomputable section

namespace Cert.Moe

open Idealize.ShloMosaic

instance : Subsingleton Cert.Pre_tiled_finite.S_.Idx := ⟨fun a b => funext fun i => i.elim0⟩

/-- A number whose absolute value is below infinity is a real number. -/
theorem real_of {x y : EReal} (hy : y = ⊤) (h : FloatOps.cmpf (F := Ideal) (φ := .f32) .olt (FloatOps.absf (F := Ideal) (φ := .f32) x) y = 1#1) : x = ((x.toReal : ℝ) : EReal) := by
  subst hy
  rw [Ideal.cmpf_def, Ideal.absf_def] at h
  induction x with
  | bot => exact absurd h (by simp [Ideal.cmp])
  | top => exact absurd h (by simp [Ideal.cmp])
  | coe r => rfl

theorem fin_of (a0 : IVec Cert.Pre_tiled_finite.S256 32) (a1 a2 a3 a4 a5 a6 a7 a8 a9)
    (h : Cert.Pre_tiled_finite.fn (F := Ideal) a0 a1 a2 a3 a4 a5 a6 a7 a8 a9 = fun _ => 1#1) : Cert.ExpertsIdeal.Hand.Sched a0 ∧
    (∀ x, a1 x = ((EReal.toReal (a1 x) : ℝ) : EReal)) ∧ (∀ x, a2 x = ((EReal.toReal (a2 x) : ℝ) : EReal)) ∧ (∀ x, a3 x = ((EReal.toReal (a3 x) : ℝ) : EReal)) ∧ (∀ x, a4 x = ((EReal.toReal (a4 x) : ℝ) : EReal)) ∧ (∀ x, a5 x = ((EReal.toReal (a5 x) : ℝ) : EReal)) ∧ (∀ x, a6 x = ((EReal.toReal (a6 x) : ℝ) : EReal)) ∧ (∀ x, a7 x = ((EReal.toReal (a7 x) : ℝ) : EReal)) ∧ (∀ x, a8 x = ((EReal.toReal (a8 x) : ℝ) : EReal)) ∧ (∀ x, a9 x = ((EReal.toReal (a9 x) : ℝ) : EReal)) := by
  have hT : Ideal.ofBits .f32 0x7F800000#32 = ⊤ := by simp [Ideal.ofBits, Ideal.ieee]
  have h := congrFun h ValueIdx.ix0
  unfold Cert.Pre_tiled_finite.fn Cert.Pre_tiled_finite.fn_part1 Cert.Pre_tiled_finite.fn_part2 Cert.Pre_tiled_finite.fn_part3 at h
  obtain ⟨h, h9⟩ := IntOp.andi_eq_one.1 h
  obtain ⟨h, h8⟩ := IntOp.andi_eq_one.1 h
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h, h1⟩ := IntOp.andi_eq_one.1 h
  obtain ⟨h, hq⟩ := IntOp.andi_eq_one.1 h
  obtain ⟨h, hp⟩ := IntOp.andi_eq_one.1 h
  refine ⟨?_, fun x => ?_, fun x => ?_, fun x => ?_, fun x => ?_, fun x => ?_, fun x => ?_, fun x => ?_, fun x => ?_, fun x => ?_⟩
  · refine sched_core Cert.Pre_tiled_finite.Facts.bcast_S_S256 a0 _ (fun b => rfl) (fun b => ?_) Cert.Pre_tiled_finite.Facts.reducesTo_S256_S_d0 Cert.Pre_tiled_finite.Facts.h_S_ hp hq
    obtain ⟨e0, e1⟩ := IntOp.andi_eq_one.1 (Host.reduce_andi_all _ _ _ _ ValueIdx.ix0 h (ValueIdx.ix1 b))
    exact ⟨Cert.Tables.cmpi_bc .sge a0 _ _ b e0, Cert.Tables.cmpi_bc .sle a0 _ _ b e1⟩
  · exact real_of hT (Host.reduce_andi_all _ _ _ _ _ h1 x)
  · exact real_of hT (Host.reduce_andi_all _ _ _ _ _ h2 x)
  · exact real_of hT (Host.reduce_andi_all _ _ _ _ _ h3 x)
  · exact real_of hT (Host.reduce_andi_all _ _ _ _ _ h4 x)
  · exact real_of hT (Host.reduce_andi_all _ _ _ _ _ h5 x)
  · exact real_of hT (Host.reduce_andi_all _ _ _ _ _ h6 x)
  · exact real_of hT (Host.reduce_andi_all _ _ _ _ _ h7 x)
  · exact real_of hT (Host.reduce_andi_all _ _ _ _ _ h8 x)
  · exact real_of hT (Host.reduce_andi_all _ _ _ _ _ h9 x)

end Cert.Moe
-- ==== Proof.MoeEnd.lean ====
/- The experts' call and its reference, each with what its buffers hold at the end. -/
module

public import proofs.«01_k».proof.Proof.MoeVal
public import proofs.«01_k».proof.Proof.MoeFin

@[expose] public section

set_option maxRecDepth 16384

noncomputable section

namespace Cert.Texts

open Idealize.ShloMosaic Idealize.ShloMosaic.TcCoe Idealize.SL.Sem Cert.Moe

section
variable (F : FTy → Type) [FloatOps F]

/-- The experts' frame over any float values. -/
def ExpertsFrame : Prop :=
  ∀ (m : (ℓ : Loc Cert.ExpertsIdeal.nD Cert.ExpertsIdeal.τ Cert.ExpertsIdeal.sig) → Buf (Elt F) ℓ) (g : Dev Cert.ExpertsIdeal.nD → PrngReg), (∀ c : Dev Cert.ExpertsIdeal.nD, (Cert.Pre_tiled.fn (F := F) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8)) (m ((c.tc : Thread Cert.ExpertsIdeal.nD Cert.ExpertsIdeal.τ).loc Cert.ExpertsIdeal.main_arg9))) = (fun _ => 1#1)) →
    θ_run (Cert.ExpertsIdeal.defs (F := F)) (onTc (τ := Cert.ExpertsIdeal.τ) (Cert.ExpertsIdeal.main (F := F))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
      ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
      ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8)
      ∧ r.2.mem ((c.tc : Thread Cert.ExpertsIdeal.nD Cert.ExpertsIdeal.τ).loc Cert.ExpertsIdeal.main_arg9) = m ((c.tc : Thread Cert.ExpertsIdeal.nD Cert.ExpertsIdeal.τ).loc Cert.ExpertsIdeal.main_arg9))
      ∧ r.2.sem = fun _ => 0)

theorem expertsFrame : ExpertsFrame F := fun m g h =>
  Cert.ExpertsIdeal.Hand.frame (F := F) m g (Cert.ExpertsIdeal.Hand.ok_of m fun c => sched_of (F := F) _ _ _ _ _ _ _ _ _ _ (h c))

theorem plainFrame (m : (ℓ : Loc Cert.PlainIdeal.nD Cert.PlainIdeal.τ Cert.PlainIdeal.sig) → Buf (Elt F) ℓ) (g : Dev Cert.PlainIdeal.nD → PrngReg) :
    θ_run (Cert.PlainIdeal.defs (F := F)) (onTc (τ := Cert.PlainIdeal.τ) (Cert.PlainIdeal.main (F := F))) ⟨m, fun _ => 0, g⟩ (fun r => (∀ c : Dev Cert.PlainIdeal.nD,
      r.2.mem ((c.tc : Thread Cert.PlainIdeal.nD Cert.PlainIdeal.τ).loc Cert.PlainIdeal.main_arg0) = m ((c.tc : Thread Cert.PlainIdeal.nD Cert.PlainIdeal.τ).loc Cert.PlainIdeal.main_arg0)
      ∧ r.2.mem ((c.tc : Thread Cert.PlainIdeal.nD Cert.PlainIdeal.τ).loc Cert.PlainIdeal.main_arg1) = m ((c.tc : Thread Cert.PlainIdeal.nD Cert.PlainIdeal.τ).loc Cert.PlainIdeal.main_arg1)
      ∧ r.2.mem ((c.tc : Thread Cert.PlainIdeal.nD Cert.PlainIdeal.τ).loc Cert.PlainIdeal.main_arg2) = m ((c.tc : Thread Cert.PlainIdeal.nD Cert.PlainIdeal.τ).loc Cert.PlainIdeal.main_arg2)
      ∧ r.2.mem ((c.tc : Thread Cert.PlainIdeal.nD Cert.PlainIdeal.τ).loc Cert.PlainIdeal.main_arg3) = m ((c.tc : Thread Cert.PlainIdeal.nD Cert.PlainIdeal.τ).loc Cert.PlainIdeal.main_arg3)
      ∧ r.2.mem ((c.tc : Thread Cert.PlainIdeal.nD Cert.PlainIdeal.τ).loc Cert.PlainIdeal.main_arg4) = m ((c.tc : Thread Cert.PlainIdeal.nD Cert.PlainIdeal.τ).loc Cert.PlainIdeal.main_arg4)
      ∧ r.2.mem ((c.tc : Thread Cert.PlainIdeal.nD Cert.PlainIdeal.τ).loc Cert.PlainIdeal.main_arg5) = m ((c.tc : Thread Cert.PlainIdeal.nD Cert.PlainIdeal.τ).loc Cert.PlainIdeal.main_arg5)
      ∧ r.2.mem ((c.tc : Thread Cert.PlainIdeal.nD Cert.PlainIdeal.τ).loc Cert.PlainIdeal.main_arg6) = m ((c.tc : Thread Cert.PlainIdeal.nD Cert.PlainIdeal.τ).loc Cert.PlainIdeal.main_arg6)
      ∧ r.2.mem ((c.tc : Thread Cert.PlainIdeal.nD Cert.PlainIdeal.τ).loc Cert.PlainIdeal.main_arg7) = m ((c.tc : Thread Cert.PlainIdeal.nD Cert.PlainIdeal.τ).loc Cert.PlainIdeal.main_arg7)
      ∧ r.2.mem ((c.tc : Thread Cert.PlainIdeal.nD Cert.PlainIdeal.τ).loc Cert.PlainIdeal.main_arg8) = m ((c.tc : Thread Cert.PlainIdeal.nD Cert.PlainIdeal.τ).loc Cert.PlainIdeal.main_arg8)
      ∧ r.2.mem ((c.tc : Thread Cert.PlainIdeal.nD Cert.PlainIdeal.τ).loc Cert.PlainIdeal.main_arg9) = m ((c.tc : Thread Cert.PlainIdeal.nD Cert.PlainIdeal.τ).loc Cert.PlainIdeal.main_arg9))
      ∧ r.2.sem = fun _ => 0) :=
  (θ_run Cert.PlainIdeal.defs _ _).mono (fun r hr => ⟨fun c => (hr c).2, sem_eq_zero_of_no_sems (by decide) r.2⟩)
    (Cert.PlainIdeal.Value.run (F := F) m g)

end

/-- The schedule and the real numbers of admitted arguments. -/
theorem tiles_of (m : (ℓ : Loc Cert.ExpertsIdeal.nD Cert.ExpertsIdeal.τ Cert.ExpertsIdeal.sig) → Buf (Elt Ideal) ℓ)
    (h : ∀ c : Dev Cert.ExpertsIdeal.nD, (Cert.Pre_tiled_finite.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8)) (m ((c.tc : Thread Cert.ExpertsIdeal.nD Cert.ExpertsIdeal.τ).loc Cert.ExpertsIdeal.main_arg9))) = (fun _ => 1#1)) :
    Cert.ExpertsIdeal.Hand.SchedM m ∧ ∀ c, Cert.ExpertsIdeal.Hand.Reals m c := by
  have k := fun c => fin_of _ _ _ _ _ _ _ _ _ _ (h c)
  exact ⟨fun c => (k c).1, fun c => ⟨(k c).2.1, (k c).2.2.1, (k c).2.2.2.1, (k c).2.2.2.2.1, (k c).2.2.2.2.2.1, (k c).2.2.2.2.2.2.1, (k c).2.2.2.2.2.2.2.1, (k c).2.2.2.2.2.2.2.2.1, (k c).2.2.2.2.2.2.2.2.2⟩⟩

theorem expertsFrame_finite (m : (ℓ : Loc Cert.ExpertsIdeal.nD Cert.ExpertsIdeal.τ Cert.ExpertsIdeal.sig) → Buf (Elt Ideal) ℓ) (g : Dev Cert.ExpertsIdeal.nD → PrngReg)
    (h : ∀ c : Dev Cert.ExpertsIdeal.nD, (Cert.Pre_tiled_finite.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8)) (m ((c.tc : Thread Cert.ExpertsIdeal.nD Cert.ExpertsIdeal.τ).loc Cert.ExpertsIdeal.main_arg9))) = (fun _ => 1#1)) :
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
      ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
      ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8)
      ∧ r.2.mem ((c.tc : Thread Cert.ExpertsIdeal.nD Cert.ExpertsIdeal.τ).loc Cert.ExpertsIdeal.main_arg9) = m ((c.tc : Thread Cert.ExpertsIdeal.nD Cert.ExpertsIdeal.τ).loc Cert.ExpertsIdeal.main_arg9))
      ∧ r.2.sem = fun _ => 0) :=
  Cert.ExpertsIdeal.Hand.frame (F := Ideal) m g (Cert.ExpertsIdeal.Hand.ok_of m (tiles_of m h).1)

/-- The rows that both leave. -/
def rows (m : (ℓ : Loc Cert.ExpertsIdeal.nD Cert.ExpertsIdeal.τ Cert.ExpertsIdeal.sig) → Buf (Elt Ideal) ℓ) (c : Dev Cert.ExpertsIdeal.nD) : Buf (Elt Ideal) ((c.tc : Thread Cert.ExpertsIdeal.nD Cert.ExpertsIdeal.τ).loc Cert.ExpertsIdeal.main_v71) :=
  shapeCast Cert.PlainIdeal.S491520x128 (Cert.ExpertsIdeal.Hand.refRows m c) Cert.PlainIdeal.Gen.shapeCasts_S61440x1024_S491520x128

/-- The experts' result. -/
theorem experts_run (m : (ℓ : Loc Cert.ExpertsIdeal.nD Cert.ExpertsIdeal.τ Cert.ExpertsIdeal.sig) → Buf (Elt Ideal) ℓ) (g : Dev Cert.ExpertsIdeal.nD → PrngReg)
    (hS : Cert.ExpertsIdeal.Hand.SchedM m) (hF : ∀ c, Cert.ExpertsIdeal.Hand.Reals m c) :
    θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
      r.2.mem ((c.tc : Thread Cert.ExpertsIdeal.nD Cert.ExpertsIdeal.τ).loc Cert.ExpertsIdeal.main_v71) = rows m c
      ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
      ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
      ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8)
      ∧ r.2.mem ((c.tc : Thread Cert.ExpertsIdeal.nD Cert.ExpertsIdeal.τ).loc Cert.ExpertsIdeal.main_arg9) = m ((c.tc : Thread Cert.ExpertsIdeal.nD Cert.ExpertsIdeal.τ).loc Cert.ExpertsIdeal.main_arg9)) :=
  (θ_run Cert.ExpertsIdeal.defs _ _).mono
    (fun _ h c => ⟨((h.1 c).1 10).trans (Cert.ExpertsIdeal.Hand.final10 hS (hF c)), h.2 c⟩)
    (θ_run_and (Cert.ExpertsIdeal.Hand.run_main m g (Cert.ExpertsIdeal.Hand.ok_of m hS)) (Cert.ExpertsIdeal.Hand.unchanged m g (Cert.ExpertsIdeal.Hand.ok_of m hS)))

theorem rows_eq (m : (ℓ : Loc Cert.ExpertsIdeal.nD Cert.ExpertsIdeal.τ Cert.ExpertsIdeal.sig) → Buf (Elt Ideal) ℓ) (m' : (ℓ : Loc Cert.PlainIdeal.nD Cert.PlainIdeal.τ Cert.PlainIdeal.sig) → Buf (Elt Ideal) ℓ) (c : Dev Cert.ExpertsIdeal.nD)
    (h : m' ((c.tc : Thread Cert.PlainIdeal.nD Cert.PlainIdeal.τ).loc Cert.PlainIdeal.main_arg0) = m ((c.tc : Thread Cert.ExpertsIdeal.nD Cert.ExpertsIdeal.τ).loc Cert.ExpertsIdeal.main_arg0)
      ∧ m' ((c.tc : Thread Cert.PlainIdeal.nD Cert.PlainIdeal.τ).loc Cert.PlainIdeal.main_arg1) = m ((c.tc : Thread Cert.ExpertsIdeal.nD Cert.ExpertsIdeal.τ).loc Cert.ExpertsIdeal.main_arg1)
      ∧ m' ((c.tc : Thread Cert.PlainIdeal.nD Cert.PlainIdeal.τ).loc Cert.PlainIdeal.main_arg2) = m ((c.tc : Thread Cert.ExpertsIdeal.nD Cert.ExpertsIdeal.τ).loc Cert.ExpertsIdeal.main_arg2)
      ∧ m' ((c.tc : Thread Cert.PlainIdeal.nD Cert.PlainIdeal.τ).loc Cert.PlainIdeal.main_arg3) = m ((c.tc : Thread Cert.ExpertsIdeal.nD Cert.ExpertsIdeal.τ).loc Cert.ExpertsIdeal.main_arg3)
      ∧ m' ((c.tc : Thread Cert.PlainIdeal.nD Cert.PlainIdeal.τ).loc Cert.PlainIdeal.main_arg4) = m ((c.tc : Thread Cert.ExpertsIdeal.nD Cert.ExpertsIdeal.τ).loc Cert.ExpertsIdeal.main_arg4)
      ∧ m' ((c.tc : Thread Cert.PlainIdeal.nD Cert.PlainIdeal.τ).loc Cert.PlainIdeal.main_arg5) = m ((c.tc : Thread Cert.ExpertsIdeal.nD Cert.ExpertsIdeal.τ).loc Cert.ExpertsIdeal.main_arg5)
      ∧ m' ((c.tc : Thread Cert.PlainIdeal.nD Cert.PlainIdeal.τ).loc Cert.PlainIdeal.main_arg6) = m ((c.tc : Thread Cert.ExpertsIdeal.nD Cert.ExpertsIdeal.τ).loc Cert.ExpertsIdeal.main_arg6)
      ∧ m' ((c.tc : Thread Cert.PlainIdeal.nD Cert.PlainIdeal.τ).loc Cert.PlainIdeal.main_arg7) = m ((c.tc : Thread Cert.ExpertsIdeal.nD Cert.ExpertsIdeal.τ).loc Cert.ExpertsIdeal.main_arg7)
      ∧ m' ((c.tc : Thread Cert.PlainIdeal.nD Cert.PlainIdeal.τ).loc Cert.PlainIdeal.main_arg8) = m ((c.tc : Thread Cert.ExpertsIdeal.nD Cert.ExpertsIdeal.τ).loc Cert.ExpertsIdeal.main_arg8)
      ∧ m' ((c.tc : Thread Cert.PlainIdeal.nD Cert.PlainIdeal.τ).loc Cert.PlainIdeal.main_arg9) = m ((c.tc : Thread Cert.ExpertsIdeal.nD Cert.ExpertsIdeal.τ).loc Cert.ExpertsIdeal.main_arg9)) :
    Cert.PlainIdeal.Value.val3 (StableHlo.launchContents m' c) (Proc.devRef .tc Cert.PlainIdeal.main_v134) = rows m c := by
  obtain ⟨h0, h1, h2, h3, h4, h5, h6, h7, h8, h9⟩ := h
  refine (Cert.PlainIdeal.Hand.res_stages (StableHlo.launchContents m' c)).trans ?_
  unfold rows Cert.ExpertsIdeal.Hand.refRows
  rw [← h0, ← h1, ← h2, ← h3, ← h4, ← h5, ← h6, ← h7, ← h8, ← h9]

end Cert.Texts
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Launch
public import proofs.«01_k».proof.Proof.Gen.Reference
public import proofs.«01_k».proof.Proof.Gen.Reference.Run
public import proofs.«01_k».proof.Proof.Gen.ReferenceIdeal
public import proofs.«01_k».proof.Proof.Gen.ReferenceIdeal.Run
public import proofs.«01_k».proof.Proof.Gen.Experts
public import proofs.«01_k».proof.Proof.Gen.Experts.Skeleton
public import proofs.«01_k».proof.Proof.Gen.Experts.Launch
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.PlainIdeal
public import proofs.«01_k».proof.Proof.Gen.PlainIdeal.Run
public import proofs.«01_k».proof.Proof.Gen.Pre_routed
public import proofs.«01_k».proof.Proof.Gen.Pre_tiled
public import proofs.«01_k».proof.Proof.Gen.Pre_tiled_finite
public import proofs.«01_k».proof.Proof.End
public import proofs.«01_k».proof.Proof.MoeEnd
public import Idealize.ShloMosaic.Adequacy
public import Idealize.ShloMosaic.Init

@[expose] public section

noncomputable section

namespace Cert.Proof

open Idealize.ShloMosaic Idealize.ShloMosaic.TcCoe Idealize.SL.Sem

theorem kernel_text : Cert.Texts.KernelFrame Bits = Cert.quiescent_Kernel := by sl_kernel_rfl

theorem frame_kernel : Cert.quiescent_Kernel := kernel_text.mp (Cert.Texts.kernelFrame Bits)

theorem frame_ideal : Cert.quiescent_KernelIdeal := Cert.Texts.kernelFrame Ideal

theorem reference_text : Cert.Texts.ReferenceFrame Bits = Cert.quiescent_Reference := by sl_kernel_rfl

theorem frame_reference : Cert.quiescent_Reference := reference_text.mp (Cert.Texts.referenceFrame Bits)

theorem frame_reference_ideal : Cert.quiescent_ReferenceIdeal := Cert.Texts.referenceFrame Ideal

theorem same_ideal : Cert.algebraic_KernelIdeal_ReferenceIdeal := Cert.Texts.sameResult Ideal

theorem same_text : Cert.Texts.SameResult Bits = Cert.bitexact_Kernel_Reference := by sl_kernel_rfl

theorem same_bits : Cert.bitexact_Kernel_Reference := same_text.mp (Cert.Texts.sameResult Bits)

theorem experts_text : Cert.Texts.ExpertsFrame Bits = Cert.quiescent_Experts := by sl_kernel_rfl

theorem frame_experts : Cert.quiescent_Experts := experts_text.mp (Cert.Texts.expertsFrame Bits)

theorem frame_experts_ideal : Cert.quiescent_ExpertsIdeal := Cert.Texts.expertsFrame Ideal

theorem frame_experts_finite : Cert.quiescent_ExpertsIdeal_pre_tiled_finite := fun m g h => Cert.Texts.expertsFrame_finite m g h

theorem frame_plain : Cert.quiescent_PlainIdeal := fun m g _ => Cert.Texts.plainFrame Ideal m g

theorem frame_plain_finite : Cert.quiescent_PlainIdeal_pre_tiled_finite := fun m g _ => Cert.Texts.plainFrame Ideal m g

theorem same_experts : Cert.algebraic_ExpertsIdeal_PlainIdeal_pre_tiled_finite := fun m g m' g' h hm =>
  have k := Cert.Texts.tiles_of m h
  ⟨Cert.Texts.rows m, Cert.Texts.experts_run m g k.1 k.2,
    (θ_run Cert.PlainIdeal.defs _ _).mono (fun _ hr c => ⟨((hr c).1.trans (Cert.PlainIdeal.Value.val3_main_v134 _).symm).trans (Cert.Texts.rows_eq m m' c (hm c)), (hr c).2⟩) (Cert.PlainIdeal.Value.run (F := Ideal) m' g')⟩

theorem claim : Cert.Claim :=
  ⟨inferInstance, inferInstance, inferInstance, inferInstance, inferInstance, inferInstance, inferInstance, inferInstance, inferInstance, inferInstance,
    frame_kernel, frame_ideal, frame_reference_ideal, frame_reference,
    frame_experts, frame_experts_ideal, frame_experts_finite, frame_plain, frame_plain_finite,
    trivial, same_ideal, same_bits, trivial, same_experts⟩

end Cert.Proof
